-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SwigluKernel (m : (ℓ : Loc Cert.SwigluKernel.nD Cert.SwigluKernel.τ Cert.SwigluKernel.sig) → Buf (Elt Bits) ℓ) : Prop :=
  True

def Pre_SwigluKernelIdeal (m : (ℓ : Loc Cert.SwigluKernelIdeal.nD Cert.SwigluKernelIdeal.τ Cert.SwigluKernelIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_SampKernel (m : (ℓ : Loc Cert.SampKernel.nD Cert.SampKernel.τ Cert.SampKernel.sig) → Buf (Elt Bits) ℓ) : Prop :=
  True

def Pre_SampKernelIdeal (m : (ℓ : Loc Cert.SampKernelIdeal.nD Cert.SampKernelIdeal.τ Cert.SampKernelIdeal.sig) → Buf (Elt Ideal) ℓ) : Prop :=
  True

def Pre_SampReferenceIdeal (m : (ℓ : Loc Cert.SampReferenceIdeal.nD Cert.SampReferenceIdeal.τ Cert.SampReferenceIdeal.sig) → Buf (Elt Ideal) ℓ) : Prop :=
  True

def Pre_ForgetKernel (m : (ℓ : Loc Cert.ForgetKernel.nD Cert.ForgetKernel.τ Cert.ForgetKernel.sig) → Buf (Elt Bits) ℓ) : Prop :=
  True

def Pre_ForgetKernelIdeal (m : (ℓ : Loc Cert.ForgetKernelIdeal.nD Cert.ForgetKernelIdeal.τ Cert.ForgetKernelIdeal.sig) → Buf (Elt Ideal) ℓ) : Prop :=
  True

def Pre_ForgetReferenceIdeal (m : (ℓ : Loc Cert.ForgetReferenceIdeal.nD Cert.ForgetReferenceIdeal.τ Cert.ForgetReferenceIdeal.sig) → Buf (Elt Ideal) ℓ) : Prop :=
  True

def Pre_SampForgetKernel (m : (ℓ : Loc Cert.SampForgetKernel.nD Cert.SampForgetKernel.τ Cert.SampForgetKernel.sig) → Buf (Elt Bits) ℓ) : Prop :=
  True

def Pre_SampForgetKernelIdeal (m : (ℓ : Loc Cert.SampForgetKernelIdeal.nD Cert.SampForgetKernelIdeal.τ Cert.SampForgetKernelIdeal.sig) → Buf (Elt Ideal) ℓ) : Prop :=
  True

def Pre_SampForgetReferenceIdeal (m : (ℓ : Loc Cert.SampForgetReferenceIdeal.nD Cert.SampForgetReferenceIdeal.τ Cert.SampForgetReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_SwigluKernel [hSwigluKernel : Cert.SwigluKernel.Facts] : Prop :=
  ∀ (m : (ℓ : Loc Cert.SwigluKernel.nD Cert.SwigluKernel.τ Cert.SwigluKernel.sig) → Buf (Elt Bits) ℓ) (g : Dev Cert.SwigluKernel.nD → PrngReg), Pre_SwigluKernel m →
    θ_run (Cert.SwigluKernel.defs (F := Bits)) (onTc (τ := Cert.SwigluKernel.τ) (Cert.SwigluKernel.main (F := Bits))) ⟨m, fun _ => 0, g⟩ (fun r => (∀ c : Dev Cert.SwigluKernel.nD,
      r.2.mem ((c.tc : Thread Cert.SwigluKernel.nD Cert.SwigluKernel.τ).loc Cert.SwigluKernel.main_arg0) = m ((c.tc : Thread Cert.SwigluKernel.nD Cert.SwigluKernel.τ).loc Cert.SwigluKernel.main_arg0)
      ∧ r.2.mem ((c.tc : Thread Cert.SwigluKernel.nD Cert.SwigluKernel.τ).loc Cert.SwigluKernel.main_arg1) = m ((c.tc : Thread Cert.SwigluKernel.nD Cert.SwigluKernel.τ).loc Cert.SwigluKernel.main_arg1)
      ∧ r.2.mem ((c.tc : Thread Cert.SwigluKernel.nD Cert.SwigluKernel.τ).loc Cert.SwigluKernel.main_arg2) = m ((c.tc : Thread Cert.SwigluKernel.nD Cert.SwigluKernel.τ).loc Cert.SwigluKernel.main_arg2))
      ∧ r.2.sem = fun _ => 0)

def quiescent_SwigluKernelIdeal [hSwigluKernelIdeal : Cert.SwigluKernelIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
      ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_SampKernel [hSampKernel : Cert.SampKernel.Facts] : Prop :=
  ∀ (m : (ℓ : Loc Cert.SampKernel.nD Cert.SampKernel.τ Cert.SampKernel.sig) → Buf (Elt Bits) ℓ) (g : Dev Cert.SampKernel.nD → PrngReg), Pre_SampKernel m →
    θ_run (Cert.SampKernel.defs (F := Bits)) (onTc (τ := Cert.SampKernel.τ) (Cert.SampKernel.main (F := Bits))) ⟨m, fun _ => 0, g⟩ (fun r => (∀ c : Dev Cert.SampKernel.nD,
      r.2.mem ((c.tc : Thread Cert.SampKernel.nD Cert.SampKernel.τ).loc Cert.SampKernel.main_arg0) = m ((c.tc : Thread Cert.SampKernel.nD Cert.SampKernel.τ).loc Cert.SampKernel.main_arg0)
      ∧ r.2.mem ((c.tc : Thread Cert.SampKernel.nD Cert.SampKernel.τ).loc Cert.SampKernel.main_arg1) = m ((c.tc : Thread Cert.SampKernel.nD Cert.SampKernel.τ).loc Cert.SampKernel.main_arg1)
      ∧ r.2.mem ((c.tc : Thread Cert.SampKernel.nD Cert.SampKernel.τ).loc Cert.SampKernel.main_arg2) = m ((c.tc : Thread Cert.SampKernel.nD Cert.SampKernel.τ).loc Cert.SampKernel.main_arg2)
      ∧ r.2.mem ((c.tc : Thread Cert.SampKernel.nD Cert.SampKernel.τ).loc Cert.SampKernel.main_arg3) = m ((c.tc : Thread Cert.SampKernel.nD Cert.SampKernel.τ).loc Cert.SampKernel.main_arg3)
      ∧ r.2.mem ((c.tc : Thread Cert.SampKernel.nD Cert.SampKernel.τ).loc Cert.SampKernel.main_arg4) = m ((c.tc : Thread Cert.SampKernel.nD Cert.SampKernel.τ).loc Cert.SampKernel.main_arg4))
      ∧ r.2.sem = fun _ => 0)

def quiescent_SampKernelIdeal [hSampKernelIdeal : Cert.SampKernelIdeal.Facts] : Prop :=
  ∀ (m : (ℓ : Loc Cert.SampKernelIdeal.nD Cert.SampKernelIdeal.τ Cert.SampKernelIdeal.sig) → Buf (Elt Ideal) ℓ) (g : Dev Cert.SampKernelIdeal.nD → PrngReg), Pre_SampKernelIdeal m →
    θ_run (Cert.SampKernelIdeal.defs (F := Ideal)) (onTc (τ := Cert.SampKernelIdeal.τ) (Cert.SampKernelIdeal.main (F := Ideal))) ⟨m, fun _ => 0, g⟩ (fun r => (∀ c : Dev Cert.SampKernelIdeal.nD,
      r.2.mem ((c.tc : Thread Cert.SampKernelIdeal.nD Cert.SampKernelIdeal.τ).loc Cert.SampKernelIdeal.main_arg0) = m ((c.tc : Thread Cert.SampKernelIdeal.nD Cert.SampKernelIdeal.τ).loc Cert.SampKernelIdeal.main_arg0)
      ∧ r.2.mem ((c.tc : Thread Cert.SampKernelIdeal.nD Cert.SampKernelIdeal.τ).loc Cert.SampKernelIdeal.main_arg1) = m ((c.tc : Thread Cert.SampKernelIdeal.nD Cert.SampKernelIdeal.τ).loc Cert.SampKernelIdeal.main_arg1)
      ∧ r.2.mem ((c.tc : Thread Cert.SampKernelIdeal.nD Cert.SampKernelIdeal.τ).loc Cert.SampKernelIdeal.main_arg2) = m ((c.tc : Thread Cert.SampKernelIdeal.nD Cert.SampKernelIdeal.τ).loc Cert.SampKernelIdeal.main_arg2)
      ∧ r.2.mem ((c.tc : Thread Cert.SampKernelIdeal.nD Cert.SampKernelIdeal.τ).loc Cert.SampKernelIdeal.main_arg3) = m ((c.tc : Thread Cert.SampKernelIdeal.nD Cert.SampKernelIdeal.τ).loc Cert.SampKernelIdeal.main_arg3)
      ∧ r.2.mem ((c.tc : Thread Cert.SampKernelIdeal.nD Cert.SampKernelIdeal.τ).loc Cert.SampKernelIdeal.main_arg4) = m ((c.tc : Thread Cert.SampKernelIdeal.nD Cert.SampKernelIdeal.τ).loc Cert.SampKernelIdeal.main_arg4))
      ∧ r.2.sem = fun _ => 0)

def quiescent_SampReferenceIdeal [hSampReferenceIdeal : Cert.SampReferenceIdeal.Facts] : Prop :=
  ∀ (m : (ℓ : Loc Cert.SampReferenceIdeal.nD Cert.SampReferenceIdeal.τ Cert.SampReferenceIdeal.sig) → Buf (Elt Ideal) ℓ) (g : Dev Cert.SampReferenceIdeal.nD → PrngReg), Pre_SampReferenceIdeal m →
    θ_run (Cert.SampReferenceIdeal.defs (F := Ideal)) (onTc (τ := Cert.SampReferenceIdeal.τ) (Cert.SampReferenceIdeal.main (F := Ideal))) ⟨m, fun _ => 0, g⟩ (fun r => (∀ c : Dev Cert.SampReferenceIdeal.nD,
      r.2.mem ((c.tc : Thread Cert.SampReferenceIdeal.nD Cert.SampReferenceIdeal.τ).loc Cert.SampReferenceIdeal.main_arg0) = m ((c.tc : Thread Cert.SampReferenceIdeal.nD Cert.SampReferenceIdeal.τ).loc Cert.SampReferenceIdeal.main_arg0)
      ∧ r.2.mem ((c.tc : Thread Cert.SampReferenceIdeal.nD Cert.SampReferenceIdeal.τ).loc Cert.SampReferenceIdeal.main_arg1) = m ((c.tc : Thread Cert.SampReferenceIdeal.nD Cert.SampReferenceIdeal.τ).loc Cert.SampReferenceIdeal.main_arg1)
      ∧ r.2.mem ((c.tc : Thread Cert.SampReferenceIdeal.nD Cert.SampReferenceIdeal.τ).loc Cert.SampReferenceIdeal.main_arg2) = m ((c.tc : Thread Cert.SampReferenceIdeal.nD Cert.SampReferenceIdeal.τ).loc Cert.SampReferenceIdeal.main_arg2)
      ∧ r.2.mem ((c.tc : Thread Cert.SampReferenceIdeal.nD Cert.SampReferenceIdeal.τ).loc Cert.SampReferenceIdeal.main_arg3) = m ((c.tc : Thread Cert.SampReferenceIdeal.nD Cert.SampReferenceIdeal.τ).loc Cert.SampReferenceIdeal.main_arg3)
      ∧ r.2.mem ((c.tc : Thread Cert.SampReferenceIdeal.nD Cert.SampReferenceIdeal.τ).loc Cert.SampReferenceIdeal.main_arg4) = m ((c.tc : Thread Cert.SampReferenceIdeal.nD Cert.SampReferenceIdeal.τ).loc Cert.SampReferenceIdeal.main_arg4))
      ∧ r.2.sem = fun _ => 0)

def quiescent_ForgetKernel [hForgetKernel : Cert.ForgetKernel.Facts] : Prop :=
  ∀ (m : (ℓ : Loc Cert.ForgetKernel.nD Cert.ForgetKernel.τ Cert.ForgetKernel.sig) → Buf (Elt Bits) ℓ) (g : Dev Cert.ForgetKernel.nD → PrngReg), Pre_ForgetKernel m →
    θ_run (Cert.ForgetKernel.defs (F := Bits)) (onTc (τ := Cert.ForgetKernel.τ) (Cert.ForgetKernel.main (F := Bits))) ⟨m, fun _ => 0, g⟩ (fun r => (∀ c : Dev Cert.ForgetKernel.nD,
      r.2.mem ((c.tc : Thread Cert.ForgetKernel.nD Cert.ForgetKernel.τ).loc Cert.ForgetKernel.main_arg0) = m ((c.tc : Thread Cert.ForgetKernel.nD Cert.ForgetKernel.τ).loc Cert.ForgetKernel.main_arg0)
      ∧ r.2.mem ((c.tc : Thread Cert.ForgetKernel.nD Cert.ForgetKernel.τ).loc Cert.ForgetKernel.main_arg1) = m ((c.tc : Thread Cert.ForgetKernel.nD Cert.ForgetKernel.τ).loc Cert.ForgetKernel.main_arg1)
      ∧ r.2.mem ((c.tc : Thread Cert.ForgetKernel.nD Cert.ForgetKernel.τ).loc Cert.ForgetKernel.main_arg2) = m ((c.tc : Thread Cert.ForgetKernel.nD Cert.ForgetKernel.τ).loc Cert.ForgetKernel.main_arg2)
      ∧ r.2.mem ((c.tc : Thread Cert.ForgetKernel.nD Cert.ForgetKernel.τ).loc Cert.ForgetKernel.main_arg3) = m ((c.tc : Thread Cert.ForgetKernel.nD Cert.ForgetKernel.τ).loc Cert.ForgetKernel.main_arg3)
      ∧ r.2.mem ((c.tc : Thread Cert.ForgetKernel.nD Cert.ForgetKernel.τ).loc Cert.ForgetKernel.main_arg4) = m ((c.tc : Thread Cert.ForgetKernel.nD Cert.ForgetKernel.τ).loc Cert.ForgetKernel.main_arg4))
      ∧ r.2.sem = fun _ => 0)

def quiescent_ForgetKernelIdeal [hForgetKernelIdeal : Cert.ForgetKernelIdeal.Facts] : Prop :=
  ∀ (m : (ℓ : Loc Cert.ForgetKernelIdeal.nD Cert.ForgetKernelIdeal.τ Cert.ForgetKernelIdeal.sig) → Buf (Elt Ideal) ℓ) (g : Dev Cert.ForgetKernelIdeal.nD → PrngReg), Pre_ForgetKernelIdeal m →
    θ_run (Cert.ForgetKernelIdeal.defs (F := Ideal)) (onTc (τ := Cert.ForgetKernelIdeal.τ) (Cert.ForgetKernelIdeal.main (F := Ideal))) ⟨m, fun _ => 0, g⟩ (fun r => (∀ c : Dev Cert.ForgetKernelIdeal.nD,
      r.2.mem ((c.tc : Thread Cert.ForgetKernelIdeal.nD Cert.ForgetKernelIdeal.τ).loc Cert.ForgetKernelIdeal.main_arg0) = m ((c.tc : Thread Cert.ForgetKernelIdeal.nD Cert.ForgetKernelIdeal.τ).loc Cert.ForgetKernelIdeal.main_arg0)
      ∧ r.2.mem ((c.tc : Thread Cert.ForgetKernelIdeal.nD Cert.ForgetKernelIdeal.τ).loc Cert.ForgetKernelIdeal.main_arg1) = m ((c.tc : Thread Cert.ForgetKernelIdeal.nD Cert.ForgetKernelIdeal.τ).loc Cert.ForgetKernelIdeal.main_arg1)
      ∧ r.2.mem ((c.tc : Thread Cert.ForgetKernelIdeal.nD Cert.ForgetKernelIdeal.τ).loc Cert.ForgetKernelIdeal.main_arg2) = m ((c.tc : Thread Cert.ForgetKernelIdeal.nD Cert.ForgetKernelIdeal.τ).loc Cert.ForgetKernelIdeal.main_arg2)
      ∧ r.2.mem ((c.tc : Thread Cert.ForgetKernelIdeal.nD Cert.ForgetKernelIdeal.τ).loc Cert.ForgetKernelIdeal.main_arg3) = m ((c.tc : Thread Cert.ForgetKernelIdeal.nD Cert.ForgetKernelIdeal.τ).loc Cert.ForgetKernelIdeal.main_arg3)
      ∧ r.2.mem ((c.tc : Thread Cert.ForgetKernelIdeal.nD Cert.ForgetKernelIdeal.τ).loc Cert.ForgetKernelIdeal.main_arg4) = m ((c.tc : Thread Cert.ForgetKernelIdeal.nD Cert.ForgetKernelIdeal.τ).loc Cert.ForgetKernelIdeal.main_arg4))
      ∧ r.2.sem = fun _ => 0)

def quiescent_ForgetReferenceIdeal [hForgetReferenceIdeal : Cert.ForgetReferenceIdeal.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1)
      ∧ r.2.mem ((c.tc : Thread Cert.ForgetReferenceIdeal.nD Cert.ForgetReferenceIdeal.τ).loc Cert.ForgetReferenceIdeal.main_arg2) = m ((c.tc : Thread Cert.ForgetReferenceIdeal.nD Cert.ForgetReferenceIdeal.τ).loc Cert.ForgetReferenceIdeal.main_arg2)
      ∧ r.2.mem ((c.tc : Thread Cert.ForgetReferenceIdeal.nD Cert.ForgetReferenceIdeal.τ).loc Cert.ForgetReferenceIdeal.main_arg3) = m ((c.tc : Thread Cert.ForgetReferenceIdeal.nD Cert.ForgetReferenceIdeal.τ).loc Cert.ForgetReferenceIdeal.main_arg3)
      ∧ r.2.mem ((c.tc : Thread Cert.ForgetReferenceIdeal.nD Cert.ForgetReferenceIdeal.τ).loc Cert.ForgetReferenceIdeal.main_arg4) = m ((c.tc : Thread Cert.ForgetReferenceIdeal.nD Cert.ForgetReferenceIdeal.τ).loc Cert.ForgetReferenceIdeal.main_arg4))
      ∧ r.2.sem = fun _ => 0)

def quiescent_SampForgetKernel [hSampForgetKernel : Cert.SampForgetKernel.Facts] : Prop :=
  ∀ (m : (ℓ : Loc Cert.SampForgetKernel.nD Cert.SampForgetKernel.τ Cert.SampForgetKernel.sig) → Buf (Elt Bits) ℓ) (g : Dev Cert.SampForgetKernel.nD → PrngReg), Pre_SampForgetKernel m →
    θ_run (Cert.SampForgetKernel.defs (F := Bits)) (onTc (τ := Cert.SampForgetKernel.τ) (Cert.SampForgetKernel.main (F := Bits))) ⟨m, fun _ => 0, g⟩ (fun r => (∀ c : Dev Cert.SampForgetKernel.nD,
      r.2.mem ((c.tc : Thread Cert.SampForgetKernel.nD Cert.SampForgetKernel.τ).loc Cert.SampForgetKernel.main_arg0) = m ((c.tc : Thread Cert.SampForgetKernel.nD Cert.SampForgetKernel.τ).loc Cert.SampForgetKernel.main_arg0)
      ∧ r.2.mem ((c.tc : Thread Cert.SampForgetKernel.nD Cert.SampForgetKernel.τ).loc Cert.SampForgetKernel.main_arg1) = m ((c.tc : Thread Cert.SampForgetKernel.nD Cert.SampForgetKernel.τ).loc Cert.SampForgetKernel.main_arg1)
      ∧ r.2.mem ((c.tc : Thread Cert.SampForgetKernel.nD Cert.SampForgetKernel.τ).loc Cert.SampForgetKernel.main_arg2) = m ((c.tc : Thread Cert.SampForgetKernel.nD Cert.SampForgetKernel.τ).loc Cert.SampForgetKernel.main_arg2)
      ∧ r.2.mem ((c.tc : Thread Cert.SampForgetKernel.nD Cert.SampForgetKernel.τ).loc Cert.SampForgetKernel.main_arg3) = m ((c.tc : Thread Cert.SampForgetKernel.nD Cert.SampForgetKernel.τ).loc Cert.SampForgetKernel.main_arg3)
      ∧ r.2.mem ((c.tc : Thread Cert.SampForgetKernel.nD Cert.SampForgetKernel.τ).loc Cert.SampForgetKernel.main_arg4) = m ((c.tc : Thread Cert.SampForgetKernel.nD Cert.SampForgetKernel.τ).loc Cert.SampForgetKernel.main_arg4))
      ∧ r.2.sem = fun _ => 0)

def quiescent_SampForgetKernelIdeal [hSampForgetKernelIdeal : Cert.SampForgetKernelIdeal.Facts] : Prop :=
  ∀ (m : (ℓ : Loc Cert.SampForgetKernelIdeal.nD Cert.SampForgetKernelIdeal.τ Cert.SampForgetKernelIdeal.sig) → Buf (Elt Ideal) ℓ) (g : Dev Cert.SampForgetKernelIdeal.nD → PrngReg), Pre_SampForgetKernelIdeal m →
    θ_run (Cert.SampForgetKernelIdeal.defs (F := Ideal)) (onTc (τ := Cert.SampForgetKernelIdeal.τ) (Cert.SampForgetKernelIdeal.main (F := Ideal))) ⟨m, fun _ => 0, g⟩ (fun r => (∀ c : Dev Cert.SampForgetKernelIdeal.nD,
      r.2.mem ((c.tc : Thread Cert.SampForgetKernelIdeal.nD Cert.SampForgetKernelIdeal.τ).loc Cert.SampForgetKernelIdeal.main_arg0) = m ((c.tc : Thread Cert.SampForgetKernelIdeal.nD Cert.SampForgetKernelIdeal.τ).loc Cert.SampForgetKernelIdeal.main_arg0)
      ∧ r.2.mem ((c.tc : Thread Cert.SampForgetKernelIdeal.nD Cert.SampForgetKernelIdeal.τ).loc Cert.SampForgetKernelIdeal.main_arg1) = m ((c.tc : Thread Cert.SampForgetKernelIdeal.nD Cert.SampForgetKernelIdeal.τ).loc Cert.SampForgetKernelIdeal.main_arg1)
      ∧ r.2.mem ((c.tc : Thread Cert.SampForgetKernelIdeal.nD Cert.SampForgetKernelIdeal.τ).loc Cert.SampForgetKernelIdeal.main_arg2) = m ((c.tc : Thread Cert.SampForgetKernelIdeal.nD Cert.SampForgetKernelIdeal.τ).loc Cert.SampForgetKernelIdeal.main_arg2)
      ∧ r.2.mem ((c.tc : Thread Cert.SampForgetKernelIdeal.nD Cert.SampForgetKernelIdeal.τ).loc Cert.SampForgetKernelIdeal.main_arg3) = m ((c.tc : Thread Cert.SampForgetKernelIdeal.nD Cert.SampForgetKernelIdeal.τ).loc Cert.SampForgetKernelIdeal.main_arg3)
      ∧ r.2.mem ((c.tc : Thread Cert.SampForgetKernelIdeal.nD Cert.SampForgetKernelIdeal.τ).loc Cert.SampForgetKernelIdeal.main_arg4) = m ((c.tc : Thread Cert.SampForgetKernelIdeal.nD Cert.SampForgetKernelIdeal.τ).loc Cert.SampForgetKernelIdeal.main_arg4))
      ∧ r.2.sem = fun _ => 0)

def quiescent_SampForgetReferenceIdeal [hSampForgetReferenceIdeal : Cert.SampForgetReferenceIdeal.Facts] : Prop :=
  ∀ (m : (ℓ : Loc Cert.SampForgetReferenceIdeal.nD Cert.SampForgetReferenceIdeal.τ Cert.SampForgetReferenceIdeal.sig) → Buf (Elt Ideal) ℓ) (g : Dev Cert.SampForgetReferenceIdeal.nD → PrngReg), Pre_SampForgetReferenceIdeal m →
    θ_run (Cert.SampForgetReferenceIdeal.defs (F := Ideal)) (onTc (τ := Cert.SampForgetReferenceIdeal.τ) (Cert.SampForgetReferenceIdeal.main (F := Ideal))) ⟨m, fun _ => 0, g⟩ (fun r => (∀ c : Dev Cert.SampForgetReferenceIdeal.nD,
      r.2.mem ((c.tc : Thread Cert.SampForgetReferenceIdeal.nD Cert.SampForgetReferenceIdeal.τ).loc Cert.SampForgetReferenceIdeal.main_arg0) = m ((c.tc : Thread Cert.SampForgetReferenceIdeal.nD Cert.SampForgetReferenceIdeal.τ).loc Cert.SampForgetReferenceIdeal.main_arg0)
      ∧ r.2.mem ((c.tc : Thread Cert.SampForgetReferenceIdeal.nD Cert.SampForgetReferenceIdeal.τ).loc Cert.SampForgetReferenceIdeal.main_arg1) = m ((c.tc : Thread Cert.SampForgetReferenceIdeal.nD Cert.SampForgetReferenceIdeal.τ).loc Cert.SampForgetReferenceIdeal.main_arg1)
      ∧ r.2.mem ((c.tc : Thread Cert.SampForgetReferenceIdeal.nD Cert.SampForgetReferenceIdeal.τ).loc Cert.SampForgetReferenceIdeal.main_arg2) = m ((c.tc : Thread Cert.SampForgetReferenceIdeal.nD Cert.SampForgetReferenceIdeal.τ).loc Cert.SampForgetReferenceIdeal.main_arg2)
      ∧ r.2.mem ((c.tc : Thread Cert.SampForgetReferenceIdeal.nD Cert.SampForgetReferenceIdeal.τ).loc Cert.SampForgetReferenceIdeal.main_arg3) = m ((c.tc : Thread Cert.SampForgetReferenceIdeal.nD Cert.SampForgetReferenceIdeal.τ).loc Cert.SampForgetReferenceIdeal.main_arg3)
      ∧ r.2.mem ((c.tc : Thread Cert.SampForgetReferenceIdeal.nD Cert.SampForgetReferenceIdeal.τ).loc Cert.SampForgetReferenceIdeal.main_arg4) = m ((c.tc : Thread Cert.SampForgetReferenceIdeal.nD Cert.SampForgetReferenceIdeal.τ).loc Cert.SampForgetReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_SwigluKernel_SwigluKernelIdeal : Prop :=
  True

def algebraic_SwigluKernelIdeal_SwigluReferenceIdeal [hSwigluKernelIdeal : Cert.SwigluKernelIdeal.Facts] [hSwigluReferenceIdeal : Cert.SwigluReferenceIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluKernelIdeal m →
    (∀ c : Dev Cert.SwigluKernelIdeal.nD,
      m' ((c.tc : Thread Cert.SwigluReferenceIdeal.nD Cert.SwigluReferenceIdeal.τ).loc Cert.SwigluReferenceIdeal.main_arg0) = m ((c.tc : Thread Cert.SwigluKernelIdeal.nD Cert.SwigluKernelIdeal.τ).loc Cert.SwigluKernelIdeal.main_arg0)
      ∧ m' ((c.tc : Thread Cert.SwigluReferenceIdeal.nD Cert.SwigluReferenceIdeal.τ).loc Cert.SwigluReferenceIdeal.main_arg1) = m ((c.tc : Thread Cert.SwigluKernelIdeal.nD Cert.SwigluKernelIdeal.τ).loc Cert.SwigluKernelIdeal.main_arg1)
      ∧ m' ((c.tc : Thread Cert.SwigluReferenceIdeal.nD Cert.SwigluReferenceIdeal.τ).loc Cert.SwigluReferenceIdeal.main_arg2) = m ((c.tc : Thread Cert.SwigluKernelIdeal.nD Cert.SwigluKernelIdeal.τ).loc Cert.SwigluKernelIdeal.main_arg2)) →
    ∃ (v0 : (c : Dev Cert.SwigluKernelIdeal.nD) → Buf (Elt Ideal) ((c.tc : Thread Cert.SwigluKernelIdeal.nD Cert.SwigluKernelIdeal.τ).loc Cert.SwigluKernelIdeal.main_v2)),
      θ_run (Cert.SwigluKernelIdeal.defs (F := Ideal)) (onTc (τ := Cert.SwigluKernelIdeal.τ) (Cert.SwigluKernelIdeal.main (F := Ideal))) ⟨m, fun _ => 0, g⟩ (fun r => ∀ c : Dev Cert.SwigluKernelIdeal.nD,
          r.2.mem ((c.tc : Thread Cert.SwigluKernelIdeal.nD Cert.SwigluKernelIdeal.τ).loc Cert.SwigluKernelIdeal.main_v2) = v0 c
          ∧ r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
          ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
          ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v18) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v1) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v3) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v25) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v20)) (v1 : (c : Dev Cert.ProjKernelIdeal.nD) → Buf (Elt Ideal) ((c.tc : Thread Cert.ProjKernelIdeal.nD Cert.ProjKernelIdeal.τ).loc Cert.ProjKernelIdeal.main_v22)) (v2 : (c : Dev Cert.ProjKernelIdeal.nD) → Buf (Elt Ideal) ((c.tc : Thread Cert.ProjKernelIdeal.nD Cert.ProjKernelIdeal.τ).loc Cert.ProjKernelIdeal.main_v23)) (v3 : (c : Dev Cert.ProjKernelIdeal.nD) → Buf (Elt Ideal) ((c.tc : Thread Cert.ProjKernelIdeal.nD Cert.ProjKernelIdeal.τ).loc Cert.ProjKernelIdeal.main_v24)) (v4 : (c : Dev Cert.ProjKernelIdeal.nD) → Buf (Elt Ideal) ((c.tc : Thread Cert.ProjKernelIdeal.nD Cert.ProjKernelIdeal.τ).loc Cert.ProjKernelIdeal.main_v25)) (v5 : (c : Dev Cert.ProjKernelIdeal.nD) → Buf (Elt Ideal) ((c.tc : Thread Cert.ProjKernelIdeal.nD Cert.ProjKernelIdeal.τ).loc Cert.ProjKernelIdeal.main_v26)) (v6 : (c : Dev Cert.ProjKernelIdeal.nD) → Buf (Elt Ideal) ((c.tc : Thread Cert.ProjKernelIdeal.nD Cert.ProjKernelIdeal.τ).loc Cert.ProjKernelIdeal.main_v27)) (v7 : (c : Dev Cert.ProjKernelIdeal.nD) → Buf (Elt Ideal) ((c.tc : Thread Cert.ProjKernelIdeal.nD Cert.ProjKernelIdeal.τ).loc Cert.ProjKernelIdeal.main_v28)) (v8 : (c : Dev Cert.ProjKernelIdeal.nD) → Buf (Elt Ideal) ((c.tc : Thread Cert.ProjKernelIdeal.nD Cert.ProjKernelIdeal.τ).loc Cert.ProjKernelIdeal.main_v29)) (v9 : (c : Dev Cert.ProjKernelIdeal.nD) → Buf (Elt Ideal) ((c.tc : Thread Cert.ProjKernelIdeal.nD Cert.ProjKernelIdeal.τ).loc Cert.ProjKernelIdeal.main_v30)) (v10 : (c : Dev Cert.ProjKernelIdeal.nD) → Buf (Elt Ideal) ((c.tc : Thread Cert.ProjKernelIdeal.nD Cert.ProjKernelIdeal.τ).loc Cert.ProjKernelIdeal.main_v31)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v20) = v0 c
          ∧ r.2.mem ((c.tc : Thread Cert.ProjKernelIdeal.nD Cert.ProjKernelIdeal.τ).loc Cert.ProjKernelIdeal.main_v22) = v1 c
          ∧ r.2.mem ((c.tc : Thread Cert.ProjKernelIdeal.nD Cert.ProjKernelIdeal.τ).loc Cert.ProjKernelIdeal.main_v23) = v2 c
          ∧ r.2.mem ((c.tc : Thread Cert.ProjKernelIdeal.nD Cert.ProjKernelIdeal.τ).loc Cert.ProjKernelIdeal.main_v24) = v3 c
          ∧ r.2.mem ((c.tc : Thread Cert.ProjKernelIdeal.nD Cert.ProjKernelIdeal.τ).loc Cert.ProjKernelIdeal.main_v25) = v4 c
          ∧ r.2.mem ((c.tc : Thread Cert.ProjKernelIdeal.nD Cert.ProjKernelIdeal.τ).loc Cert.ProjKernelIdeal.main_v26) = v5 c
          ∧ r.2.mem ((c.tc : Thread Cert.ProjKernelIdeal.nD Cert.ProjKernelIdeal.τ).loc Cert.ProjKernelIdeal.main_v27) = v6 c
          ∧ r.2.mem ((c.tc : Thread Cert.ProjKernelIdeal.nD Cert.ProjKernelIdeal.τ).loc Cert.ProjKernelIdeal.main_v28) = v7 c
          ∧ r.2.mem ((c.tc : Thread Cert.ProjKernelIdeal.nD Cert.ProjKernelIdeal.τ).loc Cert.ProjKernelIdeal.main_v29) = v8 c
          ∧ r.2.mem ((c.tc : Thread Cert.ProjKernelIdeal.nD Cert.ProjKernelIdeal.τ).loc Cert.ProjKernelIdeal.main_v30) = v9 c
          ∧ r.2.mem ((c.tc : Thread Cert.ProjKernelIdeal.nD Cert.ProjKernelIdeal.τ).loc Cert.ProjKernelIdeal.main_v31) = v10 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v17) = v0 c
          ∧ r.2.mem ((c.tc : Thread Cert.ProjReferenceIdeal.nD Cert.ProjReferenceIdeal.τ).loc Cert.ProjReferenceIdeal.main_v19) = v1 c
          ∧ r.2.mem ((c.tc : Thread Cert.ProjReferenceIdeal.nD Cert.ProjReferenceIdeal.τ).loc Cert.ProjReferenceIdeal.main_v21) = v2 c
          ∧ r.2.mem ((c.tc : Thread Cert.ProjReferenceIdeal.nD Cert.ProjReferenceIdeal.τ).loc Cert.ProjReferenceIdeal.main_v23) = v3 c
          ∧ r.2.mem ((c.tc : Thread Cert.ProjReferenceIdeal.nD Cert.ProjReferenceIdeal.τ).loc Cert.ProjReferenceIdeal.main_v24) = v4 c
          ∧ r.2.mem ((c.tc : Thread Cert.ProjReferenceIdeal.nD Cert.ProjReferenceIdeal.τ).loc Cert.ProjReferenceIdeal.main_v25) = v5 c
          ∧ r.2.mem ((c.tc : Thread Cert.ProjReferenceIdeal.nD Cert.ProjReferenceIdeal.τ).loc Cert.ProjReferenceIdeal.main_v26) = v6 c
          ∧ r.2.mem ((c.tc : Thread Cert.ProjReferenceIdeal.nD Cert.ProjReferenceIdeal.τ).loc Cert.ProjReferenceIdeal.main_v27) = v7 c
          ∧ r.2.mem ((c.tc : Thread Cert.ProjReferenceIdeal.nD Cert.ProjReferenceIdeal.τ).loc Cert.ProjReferenceIdeal.main_v28) = v8 c
          ∧ r.2.mem ((c.tc : Thread Cert.ProjReferenceIdeal.nD Cert.ProjReferenceIdeal.τ).loc Cert.ProjReferenceIdeal.main_v29) = v9 c
          ∧ r.2.mem ((c.tc : Thread Cert.ProjReferenceIdeal.nD Cert.ProjReferenceIdeal.τ).loc Cert.ProjReferenceIdeal.main_v30) = v10 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_SampKernel_SampKernelIdeal : Prop :=
  True

def algebraic_SampKernelIdeal_SampReferenceIdeal [hSampKernelIdeal : Cert.SampKernelIdeal.Facts] [hSampReferenceIdeal : Cert.SampReferenceIdeal.Facts] : Prop :=
  ∀ (m : (ℓ : Loc Cert.SampKernelIdeal.nD Cert.SampKernelIdeal.τ Cert.SampKernelIdeal.sig) → Buf (Elt Ideal) ℓ) (g : Dev Cert.SampKernelIdeal.nD → PrngReg)
    (m' : (ℓ : Loc Cert.SampReferenceIdeal.nD Cert.SampReferenceIdeal.τ Cert.SampReferenceIdeal.sig) → Buf (Elt Ideal) ℓ) (g' : Dev Cert.SampReferenceIdeal.nD → PrngReg), Pre_SampKernelIdeal m →
    (∀ c : Dev Cert.SampKernelIdeal.nD,
      m' ((c.tc : Thread Cert.SampReferenceIdeal.nD Cert.SampReferenceIdeal.τ).loc Cert.SampReferenceIdeal.main_arg0) = m ((c.tc : Thread Cert.SampKernelIdeal.nD Cert.SampKernelIdeal.τ).loc Cert.SampKernelIdeal.main_arg0)
      ∧ m' ((c.tc : Thread Cert.SampReferenceIdeal.nD Cert.SampReferenceIdeal.τ).loc Cert.SampReferenceIdeal.main_arg1) = m ((c.tc : Thread Cert.SampKernelIdeal.nD Cert.SampKernelIdeal.τ).loc Cert.SampKernelIdeal.main_arg1)
      ∧ m' ((c.tc : Thread Cert.SampReferenceIdeal.nD Cert.SampReferenceIdeal.τ).loc Cert.SampReferenceIdeal.main_arg2) = m ((c.tc : Thread Cert.SampKernelIdeal.nD Cert.SampKernelIdeal.τ).loc Cert.SampKernelIdeal.main_arg2)
      ∧ m' ((c.tc : Thread Cert.SampReferenceIdeal.nD Cert.SampReferenceIdeal.τ).loc Cert.SampReferenceIdeal.main_arg3) = m ((c.tc : Thread Cert.SampKernelIdeal.nD Cert.SampKernelIdeal.τ).loc Cert.SampKernelIdeal.main_arg3)
      ∧ m' ((c.tc : Thread Cert.SampReferenceIdeal.nD Cert.SampReferenceIdeal.τ).loc Cert.SampReferenceIdeal.main_arg4) = m ((c.tc : Thread Cert.SampKernelIdeal.nD Cert.SampKernelIdeal.τ).loc Cert.SampKernelIdeal.main_arg4)) →
    ∃ (v0 : (c : Dev Cert.SampKernelIdeal.nD) → Buf (Elt Ideal) ((c.tc : Thread Cert.SampKernelIdeal.nD Cert.SampKernelIdeal.τ).loc Cert.SampKernelIdeal.main_v21)) (v1 : (c : Dev Cert.SampKernelIdeal.nD) → Buf (Elt Ideal) ((c.tc : Thread Cert.SampKernelIdeal.nD Cert.SampKernelIdeal.τ).loc Cert.SampKernelIdeal.main_v23)) (v2 : (c : Dev Cert.SampKernelIdeal.nD) → Buf (Elt Ideal) ((c.tc : Thread Cert.SampKernelIdeal.nD Cert.SampKernelIdeal.τ).loc Cert.SampKernelIdeal.main_v26)) (v3 : (c : Dev Cert.SampKernelIdeal.nD) → Buf (Elt Ideal) ((c.tc : Thread Cert.SampKernelIdeal.nD Cert.SampKernelIdeal.τ).loc Cert.SampKernelIdeal.main_v29)),
      θ_run (Cert.SampKernelIdeal.defs (F := Ideal)) (onTc (τ := Cert.SampKernelIdeal.τ) (Cert.SampKernelIdeal.main (F := Ideal))) ⟨m, fun _ => 0, g⟩ (fun r => ∀ c : Dev Cert.SampKernelIdeal.nD,
          r.2.mem ((c.tc : Thread Cert.SampKernelIdeal.nD Cert.SampKernelIdeal.τ).loc Cert.SampKernelIdeal.main_v21) = v0 c
          ∧ r.2.mem ((c.tc : Thread Cert.SampKernelIdeal.nD Cert.SampKernelIdeal.τ).loc Cert.SampKernelIdeal.main_v23) = v1 c
          ∧ r.2.mem ((c.tc : Thread Cert.SampKernelIdeal.nD Cert.SampKernelIdeal.τ).loc Cert.SampKernelIdeal.main_v26) = v2 c
          ∧ r.2.mem ((c.tc : Thread Cert.SampKernelIdeal.nD Cert.SampKernelIdeal.τ).loc Cert.SampKernelIdeal.main_v29) = v3 c
          ∧ r.2.mem ((c.tc : Thread Cert.SampKernelIdeal.nD Cert.SampKernelIdeal.τ).loc Cert.SampKernelIdeal.main_arg0) = m ((c.tc : Thread Cert.SampKernelIdeal.nD Cert.SampKernelIdeal.τ).loc Cert.SampKernelIdeal.main_arg0)
          ∧ r.2.mem ((c.tc : Thread Cert.SampKernelIdeal.nD Cert.SampKernelIdeal.τ).loc Cert.SampKernelIdeal.main_arg1) = m ((c.tc : Thread Cert.SampKernelIdeal.nD Cert.SampKernelIdeal.τ).loc Cert.SampKernelIdeal.main_arg1)
          ∧ r.2.mem ((c.tc : Thread Cert.SampKernelIdeal.nD Cert.SampKernelIdeal.τ).loc Cert.SampKernelIdeal.main_arg2) = m ((c.tc : Thread Cert.SampKernelIdeal.nD Cert.SampKernelIdeal.τ).loc Cert.SampKernelIdeal.main_arg2)
          ∧ r.2.mem ((c.tc : Thread Cert.SampKernelIdeal.nD Cert.SampKernelIdeal.τ).loc Cert.SampKernelIdeal.main_arg3) = m ((c.tc : Thread Cert.SampKernelIdeal.nD Cert.SampKernelIdeal.τ).loc Cert.SampKernelIdeal.main_arg3)
          ∧ r.2.mem ((c.tc : Thread Cert.SampKernelIdeal.nD Cert.SampKernelIdeal.τ).loc Cert.SampKernelIdeal.main_arg4) = m ((c.tc : Thread Cert.SampKernelIdeal.nD Cert.SampKernelIdeal.τ).loc Cert.SampKernelIdeal.main_arg4))
      ∧ θ_run (Cert.SampReferenceIdeal.defs (F := Ideal)) (onTc (τ := Cert.SampReferenceIdeal.τ) (Cert.SampReferenceIdeal.main (F := Ideal))) ⟨m', fun _ => 0, g'⟩ (fun r => ∀ c : Dev Cert.SampReferenceIdeal.nD,
          r.2.mem ((c.tc : Thread Cert.SampReferenceIdeal.nD Cert.SampReferenceIdeal.τ).loc Cert.SampReferenceIdeal.main_v19) = v0 c
          ∧ r.2.mem ((c.tc : Thread Cert.SampReferenceIdeal.nD Cert.SampReferenceIdeal.τ).loc Cert.SampReferenceIdeal.main_v21) = v1 c
          ∧ r.2.mem ((c.tc : Thread Cert.SampReferenceIdeal.nD Cert.SampReferenceIdeal.τ).loc Cert.SampReferenceIdeal.main_v24) = v2 c
          ∧ r.2.mem ((c.tc : Thread Cert.SampReferenceIdeal.nD Cert.SampReferenceIdeal.τ).loc Cert.SampReferenceIdeal.main_v27) = v3 c
          ∧ r.2.mem ((c.tc : Thread Cert.SampReferenceIdeal.nD Cert.SampReferenceIdeal.τ).loc Cert.SampReferenceIdeal.main_arg0) = m' ((c.tc : Thread Cert.SampReferenceIdeal.nD Cert.SampReferenceIdeal.τ).loc Cert.SampReferenceIdeal.main_arg0)
          ∧ r.2.mem ((c.tc : Thread Cert.SampReferenceIdeal.nD Cert.SampReferenceIdeal.τ).loc Cert.SampReferenceIdeal.main_arg1) = m' ((c.tc : Thread Cert.SampReferenceIdeal.nD Cert.SampReferenceIdeal.τ).loc Cert.SampReferenceIdeal.main_arg1)
          ∧ r.2.mem ((c.tc : Thread Cert.SampReferenceIdeal.nD Cert.SampReferenceIdeal.τ).loc Cert.SampReferenceIdeal.main_arg2) = m' ((c.tc : Thread Cert.SampReferenceIdeal.nD Cert.SampReferenceIdeal.τ).loc Cert.SampReferenceIdeal.main_arg2)
          ∧ r.2.mem ((c.tc : Thread Cert.SampReferenceIdeal.nD Cert.SampReferenceIdeal.τ).loc Cert.SampReferenceIdeal.main_arg3) = m' ((c.tc : Thread Cert.SampReferenceIdeal.nD Cert.SampReferenceIdeal.τ).loc Cert.SampReferenceIdeal.main_arg3)
          ∧ r.2.mem ((c.tc : Thread Cert.SampReferenceIdeal.nD Cert.SampReferenceIdeal.τ).loc Cert.SampReferenceIdeal.main_arg4) = m' ((c.tc : Thread Cert.SampReferenceIdeal.nD Cert.SampReferenceIdeal.τ).loc Cert.SampReferenceIdeal.main_arg4))

def preserves_ForgetKernel_ForgetKernelIdeal : Prop :=
  True

def algebraic_ForgetKernelIdeal_ForgetReferenceIdeal [hForgetKernelIdeal : Cert.ForgetKernelIdeal.Facts] [hForgetReferenceIdeal : Cert.ForgetReferenceIdeal.Facts] : Prop :=
  ∀ (m : (ℓ : Loc Cert.ForgetKernelIdeal.nD Cert.ForgetKernelIdeal.τ Cert.ForgetKernelIdeal.sig) → Buf (Elt Ideal) ℓ) (g : Dev Cert.ForgetKernelIdeal.nD → PrngReg)
    (m' : (ℓ : Loc Cert.ForgetReferenceIdeal.nD Cert.ForgetReferenceIdeal.τ Cert.ForgetReferenceIdeal.sig) → Buf (Elt Ideal) ℓ) (g' : Dev Cert.ForgetReferenceIdeal.nD → PrngReg), Pre_ForgetKernelIdeal m →
    (∀ c : Dev Cert.ForgetKernelIdeal.nD,
      m' ((c.tc : Thread Cert.ForgetReferenceIdeal.nD Cert.ForgetReferenceIdeal.τ).loc Cert.ForgetReferenceIdeal.main_arg0) = m ((c.tc : Thread Cert.ForgetKernelIdeal.nD Cert.ForgetKernelIdeal.τ).loc Cert.ForgetKernelIdeal.main_arg0)
      ∧ m' ((c.tc : Thread Cert.ForgetReferenceIdeal.nD Cert.ForgetReferenceIdeal.τ).loc Cert.ForgetReferenceIdeal.main_arg1) = m ((c.tc : Thread Cert.ForgetKernelIdeal.nD Cert.ForgetKernelIdeal.τ).loc Cert.ForgetKernelIdeal.main_arg1)
      ∧ m' ((c.tc : Thread Cert.ForgetReferenceIdeal.nD Cert.ForgetReferenceIdeal.τ).loc Cert.ForgetReferenceIdeal.main_arg2) = m ((c.tc : Thread Cert.ForgetKernelIdeal.nD Cert.ForgetKernelIdeal.τ).loc Cert.ForgetKernelIdeal.main_arg2)
      ∧ m' ((c.tc : Thread Cert.ForgetReferenceIdeal.nD Cert.ForgetReferenceIdeal.τ).loc Cert.ForgetReferenceIdeal.main_arg3) = m ((c.tc : Thread Cert.ForgetKernelIdeal.nD Cert.ForgetKernelIdeal.τ).loc Cert.ForgetKernelIdeal.main_arg3)
      ∧ m' ((c.tc : Thread Cert.ForgetReferenceIdeal.nD Cert.ForgetReferenceIdeal.τ).loc Cert.ForgetReferenceIdeal.main_arg4) = m ((c.tc : Thread Cert.ForgetKernelIdeal.nD Cert.ForgetKernelIdeal.τ).loc Cert.ForgetKernelIdeal.main_arg4)) →
    ∃ (v0 : (c : Dev Cert.ForgetKernelIdeal.nD) → Buf (Elt Ideal) ((c.tc : Thread Cert.ForgetKernelIdeal.nD Cert.ForgetKernelIdeal.τ).loc Cert.ForgetKernelIdeal.main_v5)),
      θ_run (Cert.ForgetKernelIdeal.defs (F := Ideal)) (onTc (τ := Cert.ForgetKernelIdeal.τ) (Cert.ForgetKernelIdeal.main (F := Ideal))) ⟨m, fun _ => 0, g⟩ (fun r => ∀ c : Dev Cert.ForgetKernelIdeal.nD,
          r.2.mem ((c.tc : Thread Cert.ForgetKernelIdeal.nD Cert.ForgetKernelIdeal.τ).loc Cert.ForgetKernelIdeal.main_v5) = v0 c
          ∧ r.2.mem ((c.tc : Thread Cert.ForgetKernelIdeal.nD Cert.ForgetKernelIdeal.τ).loc Cert.ForgetKernelIdeal.main_arg0) = m ((c.tc : Thread Cert.ForgetKernelIdeal.nD Cert.ForgetKernelIdeal.τ).loc Cert.ForgetKernelIdeal.main_arg0)
          ∧ r.2.mem ((c.tc : Thread Cert.ForgetKernelIdeal.nD Cert.ForgetKernelIdeal.τ).loc Cert.ForgetKernelIdeal.main_arg1) = m ((c.tc : Thread Cert.ForgetKernelIdeal.nD Cert.ForgetKernelIdeal.τ).loc Cert.ForgetKernelIdeal.main_arg1)
          ∧ r.2.mem ((c.tc : Thread Cert.ForgetKernelIdeal.nD Cert.ForgetKernelIdeal.τ).loc Cert.ForgetKernelIdeal.main_arg2) = m ((c.tc : Thread Cert.ForgetKernelIdeal.nD Cert.ForgetKernelIdeal.τ).loc Cert.ForgetKernelIdeal.main_arg2)
          ∧ r.2.mem ((c.tc : Thread Cert.ForgetKernelIdeal.nD Cert.ForgetKernelIdeal.τ).loc Cert.ForgetKernelIdeal.main_arg3) = m ((c.tc : Thread Cert.ForgetKernelIdeal.nD Cert.ForgetKernelIdeal.τ).loc Cert.ForgetKernelIdeal.main_arg3)
          ∧ r.2.mem ((c.tc : Thread Cert.ForgetKernelIdeal.nD Cert.ForgetKernelIdeal.τ).loc Cert.ForgetKernelIdeal.main_arg4) = m ((c.tc : Thread Cert.ForgetKernelIdeal.nD Cert.ForgetKernelIdeal.τ).loc Cert.ForgetKernelIdeal.main_arg4))
      ∧ θ_run (Cert.ForgetReferenceIdeal.defs (F := Ideal)) (onTc (τ := Cert.ForgetReferenceIdeal.τ) (Cert.ForgetReferenceIdeal.main (F := Ideal))) ⟨m', fun _ => 0, g'⟩ (fun r => ∀ c : Dev Cert.ForgetReferenceIdeal.nD,
          r.2.mem ((c.tc : Thread Cert.ForgetReferenceIdeal.nD Cert.ForgetReferenceIdeal.τ).loc Cert.ForgetReferenceIdeal.main_v5) = v0 c
          ∧ r.2.mem ((c.tc : Thread Cert.ForgetReferenceIdeal.nD Cert.ForgetReferenceIdeal.τ).loc Cert.ForgetReferenceIdeal.main_arg0) = m' ((c.tc : Thread Cert.ForgetReferenceIdeal.nD Cert.ForgetReferenceIdeal.τ).loc Cert.ForgetReferenceIdeal.main_arg0)
          ∧ r.2.mem ((c.tc : Thread Cert.ForgetReferenceIdeal.nD Cert.ForgetReferenceIdeal.τ).loc Cert.ForgetReferenceIdeal.main_arg1) = m' ((c.tc : Thread Cert.ForgetReferenceIdeal.nD Cert.ForgetReferenceIdeal.τ).loc Cert.ForgetReferenceIdeal.main_arg1)
          ∧ r.2.mem ((c.tc : Thread Cert.ForgetReferenceIdeal.nD Cert.ForgetReferenceIdeal.τ).loc Cert.ForgetReferenceIdeal.main_arg2) = m' ((c.tc : Thread Cert.ForgetReferenceIdeal.nD Cert.ForgetReferenceIdeal.τ).loc Cert.ForgetReferenceIdeal.main_arg2)
          ∧ r.2.mem ((c.tc : Thread Cert.ForgetReferenceIdeal.nD Cert.ForgetReferenceIdeal.τ).loc Cert.ForgetReferenceIdeal.main_arg3) = m' ((c.tc : Thread Cert.ForgetReferenceIdeal.nD Cert.ForgetReferenceIdeal.τ).loc Cert.ForgetReferenceIdeal.main_arg3)
          ∧ r.2.mem ((c.tc : Thread Cert.ForgetReferenceIdeal.nD Cert.ForgetReferenceIdeal.τ).loc Cert.ForgetReferenceIdeal.main_arg4) = m' ((c.tc : Thread Cert.ForgetReferenceIdeal.nD Cert.ForgetReferenceIdeal.τ).loc Cert.ForgetReferenceIdeal.main_arg4))

def preserves_SampForgetKernel_SampForgetKernelIdeal : Prop :=
  True

def algebraic_SampForgetKernelIdeal_SampForgetReferenceIdeal [hSampForgetKernelIdeal : Cert.SampForgetKernelIdeal.Facts] [hSampForgetReferenceIdeal : Cert.SampForgetReferenceIdeal.Facts] : Prop :=
  ∀ (m : (ℓ : Loc Cert.SampForgetKernelIdeal.nD Cert.SampForgetKernelIdeal.τ Cert.SampForgetKernelIdeal.sig) → Buf (Elt Ideal) ℓ) (g : Dev Cert.SampForgetKernelIdeal.nD → PrngReg)
    (m' : (ℓ : Loc Cert.SampForgetReferenceIdeal.nD Cert.SampForgetReferenceIdeal.τ Cert.SampForgetReferenceIdeal.sig) → Buf (Elt Ideal) ℓ) (g' : Dev Cert.SampForgetReferenceIdeal.nD → PrngReg), Pre_SampForgetKernelIdeal m →
    (∀ c : Dev Cert.SampForgetKernelIdeal.nD,
      m' ((c.tc : Thread Cert.SampForgetReferenceIdeal.nD Cert.SampForgetReferenceIdeal.τ).loc Cert.SampForgetReferenceIdeal.main_arg0) = m ((c.tc : Thread Cert.SampForgetKernelIdeal.nD Cert.SampForgetKernelIdeal.τ).loc Cert.SampForgetKernelIdeal.main_arg0)
      ∧ m' ((c.tc : Thread Cert.SampForgetReferenceIdeal.nD Cert.SampForgetReferenceIdeal.τ).loc Cert.SampForgetReferenceIdeal.main_arg1) = m ((c.tc : Thread Cert.SampForgetKernelIdeal.nD Cert.SampForgetKernelIdeal.τ).loc Cert.SampForgetKernelIdeal.main_arg1)
      ∧ m' ((c.tc : Thread Cert.SampForgetReferenceIdeal.nD Cert.SampForgetReferenceIdeal.τ).loc Cert.SampForgetReferenceIdeal.main_arg2) = m ((c.tc : Thread Cert.SampForgetKernelIdeal.nD Cert.SampForgetKernelIdeal.τ).loc Cert.SampForgetKernelIdeal.main_arg2)
      ∧ m' ((c.tc : Thread Cert.SampForgetReferenceIdeal.nD Cert.SampForgetReferenceIdeal.τ).loc Cert.SampForgetReferenceIdeal.main_arg3) = m ((c.tc : Thread Cert.SampForgetKernelIdeal.nD Cert.SampForgetKernelIdeal.τ).loc Cert.SampForgetKernelIdeal.main_arg3)
      ∧ m' ((c.tc : Thread Cert.SampForgetReferenceIdeal.nD Cert.SampForgetReferenceIdeal.τ).loc Cert.SampForgetReferenceIdeal.main_arg4) = m ((c.tc : Thread Cert.SampForgetKernelIdeal.nD Cert.SampForgetKernelIdeal.τ).loc Cert.SampForgetKernelIdeal.main_arg4)) →
    ∃ (v0 : (c : Dev Cert.SampForgetKernelIdeal.nD) → Buf (Elt Ideal) ((c.tc : Thread Cert.SampForgetKernelIdeal.nD Cert.SampForgetKernelIdeal.τ).loc Cert.SampForgetKernelIdeal.main_v5)),
      θ_run (Cert.SampForgetKernelIdeal.defs (F := Ideal)) (onTc (τ := Cert.SampForgetKernelIdeal.τ) (Cert.SampForgetKernelIdeal.main (F := Ideal))) ⟨m, fun _ => 0, g⟩ (fun r => ∀ c : Dev Cert.SampForgetKernelIdeal.nD,
          r.2.mem ((c.tc : Thread Cert.SampForgetKernelIdeal.nD Cert.SampForgetKernelIdeal.τ).loc Cert.SampForgetKernelIdeal.main_v5) = v0 c
          ∧ r.2.mem ((c.tc : Thread Cert.SampForgetKernelIdeal.nD Cert.SampForgetKernelIdeal.τ).loc Cert.SampForgetKernelIdeal.main_arg0) = m ((c.tc : Thread Cert.SampForgetKernelIdeal.nD Cert.SampForgetKernelIdeal.τ).loc Cert.SampForgetKernelIdeal.main_arg0)
          ∧ r.2.mem ((c.tc : Thread Cert.SampForgetKernelIdeal.nD Cert.SampForgetKernelIdeal.τ).loc Cert.SampForgetKernelIdeal.main_arg1) = m ((c.tc : Thread Cert.SampForgetKernelIdeal.nD Cert.SampForgetKernelIdeal.τ).loc Cert.SampForgetKernelIdeal.main_arg1)
          ∧ r.2.mem ((c.tc : Thread Cert.SampForgetKernelIdeal.nD Cert.SampForgetKernelIdeal.τ).loc Cert.SampForgetKernelIdeal.main_arg2) = m ((c.tc : Thread Cert.SampForgetKernelIdeal.nD Cert.SampForgetKernelIdeal.τ).loc Cert.SampForgetKernelIdeal.main_arg2)
          ∧ r.2.mem ((c.tc : Thread Cert.SampForgetKernelIdeal.nD Cert.SampForgetKernelIdeal.τ).loc Cert.SampForgetKernelIdeal.main_arg3) = m ((c.tc : Thread Cert.SampForgetKernelIdeal.nD Cert.SampForgetKernelIdeal.τ).loc Cert.SampForgetKernelIdeal.main_arg3)
          ∧ r.2.mem ((c.tc : Thread Cert.SampForgetKernelIdeal.nD Cert.SampForgetKernelIdeal.τ).loc Cert.SampForgetKernelIdeal.main_arg4) = m ((c.tc : Thread Cert.SampForgetKernelIdeal.nD Cert.SampForgetKernelIdeal.τ).loc Cert.SampForgetKernelIdeal.main_arg4))
      ∧ θ_run (Cert.SampForgetReferenceIdeal.defs (F := Ideal)) (onTc (τ := Cert.SampForgetReferenceIdeal.τ) (Cert.SampForgetReferenceIdeal.main (F := Ideal))) ⟨m', fun _ => 0, g'⟩ (fun r => ∀ c : Dev Cert.SampForgetReferenceIdeal.nD,
          r.2.mem ((c.tc : Thread Cert.SampForgetReferenceIdeal.nD Cert.SampForgetReferenceIdeal.τ).loc Cert.SampForgetReferenceIdeal.main_v5) = v0 c
          ∧ r.2.mem ((c.tc : Thread Cert.SampForgetReferenceIdeal.nD Cert.SampForgetReferenceIdeal.τ).loc Cert.SampForgetReferenceIdeal.main_arg0) = m' ((c.tc : Thread Cert.SampForgetReferenceIdeal.nD Cert.SampForgetReferenceIdeal.τ).loc Cert.SampForgetReferenceIdeal.main_arg0)
          ∧ r.2.mem ((c.tc : Thread Cert.SampForgetReferenceIdeal.nD Cert.SampForgetReferenceIdeal.τ).loc Cert.SampForgetReferenceIdeal.main_arg1) = m' ((c.tc : Thread Cert.SampForgetReferenceIdeal.nD Cert.SampForgetReferenceIdeal.τ).loc Cert.SampForgetReferenceIdeal.main_arg1)
          ∧ r.2.mem ((c.tc : Thread Cert.SampForgetReferenceIdeal.nD Cert.SampForgetReferenceIdeal.τ).loc Cert.SampForgetReferenceIdeal.main_arg2) = m' ((c.tc : Thread Cert.SampForgetReferenceIdeal.nD Cert.SampForgetReferenceIdeal.τ).loc Cert.SampForgetReferenceIdeal.main_arg2)
          ∧ r.2.mem ((c.tc : Thread Cert.SampForgetReferenceIdeal.nD Cert.SampForgetReferenceIdeal.τ).loc Cert.SampForgetReferenceIdeal.main_arg3) = m' ((c.tc : Thread Cert.SampForgetReferenceIdeal.nD Cert.SampForgetReferenceIdeal.τ).loc Cert.SampForgetReferenceIdeal.main_arg3)
          ∧ r.2.mem ((c.tc : Thread Cert.SampForgetReferenceIdeal.nD Cert.SampForgetReferenceIdeal.τ).loc Cert.SampForgetReferenceIdeal.main_arg4) = m' ((c.tc : Thread Cert.SampForgetReferenceIdeal.nD Cert.SampForgetReferenceIdeal.τ).loc Cert.SampForgetReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)) →
    ∃ (v0 : (c : Dev Cert.LastKernelIdeal.nD) → Buf (Elt Ideal) ((c.tc : Thread Cert.LastKernelIdeal.nD Cert.LastKernelIdeal.τ).loc Cert.LastKernelIdeal.main_v1)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v1) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v14) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1))

def preserves_TailKernel_TailKernelIdeal : Prop :=
  True

def algebraic_TailKernelIdeal_TailReferenceIdeal [hTailKernelIdeal : Cert.TailKernelIdeal.Facts] [hTailReferenceIdeal : Cert.TailReferenceIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)) →
    ∃ (v0 : (c : Dev Cert.TailKernelIdeal.nD) → Buf (Elt Ideal) ((c.tc : Thread Cert.TailKernelIdeal.nD Cert.TailKernelIdeal.τ).loc Cert.TailKernelIdeal.main_v3)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v3) = v0 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v14) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1))

def Claim : Prop :=
  ∃ (hKernel : Cert.Kernel.Facts) (hKernelIdeal : Cert.KernelIdeal.Facts) (hReferenceIdeal : Cert.ReferenceIdeal.Facts) (hSwigluKernel : Cert.SwigluKernel.Facts) (hSwigluKernelIdeal : Cert.SwigluKernelIdeal.Facts) (hSwigluReferenceIdeal : Cert.SwigluReferenceIdeal.Facts) (hDownKernel : Cert.DownKernel.Facts) (hDownKernelIdeal : Cert.DownKernelIdeal.Facts) (hDownReferenceIdeal : Cert.DownReferenceIdeal.Facts) (hMergeKernel : Cert.MergeKernel.Facts) (hMergeKernelIdeal : Cert.MergeKernelIdeal.Facts) (hMergeReferenceIdeal : Cert.MergeReferenceIdeal.Facts) (hProjKernel : Cert.ProjKernel.Facts) (hProjKernelIdeal : Cert.ProjKernelIdeal.Facts) (hProjReferenceIdeal : Cert.ProjReferenceIdeal.Facts) (hSampKernel : Cert.SampKernel.Facts) (hSampKernelIdeal : Cert.SampKernelIdeal.Facts) (hSampReferenceIdeal : Cert.SampReferenceIdeal.Facts) (hForgetKernel : Cert.ForgetKernel.Facts) (hForgetKernelIdeal : Cert.ForgetKernelIdeal.Facts) (hForgetReferenceIdeal : Cert.ForgetReferenceIdeal.Facts) (hSampForgetKernel : Cert.SampForgetKernel.Facts) (hSampForgetKernelIdeal : Cert.SampForgetKernelIdeal.Facts) (hSampForgetReferenceIdeal : Cert.SampForgetReferenceIdeal.Facts) (hOutKernel : Cert.OutKernel.Facts) (hOutKernelIdeal : Cert.OutKernelIdeal.Facts) (hOutReferenceIdeal : Cert.OutReferenceIdeal.Facts) (hLastKernel : Cert.LastKernel.Facts) (hLastKernelIdeal : Cert.LastKernelIdeal.Facts) (hLastReferenceIdeal : Cert.LastReferenceIdeal.Facts) (hTailKernel : Cert.TailKernel.Facts) (hTailKernelIdeal : Cert.TailKernelIdeal.Facts) (hTailReferenceIdeal : Cert.TailReferenceIdeal.Facts),
    quiescent_Kernel (hKernel := hKernel)
    ∧ quiescent_KernelIdeal (hKernelIdeal := hKernelIdeal)
    ∧ quiescent_ReferenceIdeal (hReferenceIdeal := hReferenceIdeal)
    ∧ quiescent_SwigluKernel (hSwigluKernel := hSwigluKernel)
    ∧ quiescent_SwigluKernelIdeal (hSwigluKernelIdeal := hSwigluKernelIdeal)
    ∧ quiescent_SwigluReferenceIdeal (hSwigluReferenceIdeal := hSwigluReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_SampKernel (hSampKernel := hSampKernel)
    ∧ quiescent_SampKernelIdeal (hSampKernelIdeal := hSampKernelIdeal)
    ∧ quiescent_SampReferenceIdeal (hSampReferenceIdeal := hSampReferenceIdeal)
    ∧ quiescent_ForgetKernel (hForgetKernel := hForgetKernel)
    ∧ quiescent_ForgetKernelIdeal (hForgetKernelIdeal := hForgetKernelIdeal)
    ∧ quiescent_ForgetReferenceIdeal (hForgetReferenceIdeal := hForgetReferenceIdeal)
    ∧ quiescent_SampForgetKernel (hSampForgetKernel := hSampForgetKernel)
    ∧ quiescent_SampForgetKernelIdeal (hSampForgetKernelIdeal := hSampForgetKernelIdeal)
    ∧ quiescent_SampForgetReferenceIdeal (hSampForgetReferenceIdeal := hSampForgetReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_TailKernel (hTailKernel := hTailKernel)
    ∧ quiescent_TailKernelIdeal (hTailKernelIdeal := hTailKernelIdeal)
    ∧ quiescent_TailReferenceIdeal (hTailReferenceIdeal := hTailReferenceIdeal)
    ∧ preserves_Kernel_KernelIdeal
    ∧ algebraic_KernelIdeal_ReferenceIdeal (hKernelIdeal := hKernelIdeal) (hReferenceIdeal := hReferenceIdeal)
    ∧ preserves_SwigluKernel_SwigluKernelIdeal
    ∧ algebraic_SwigluKernelIdeal_SwigluReferenceIdeal (hSwigluKernelIdeal := hSwigluKernelIdeal) (hSwigluReferenceIdeal := hSwigluReferenceIdeal)
    ∧ preserves_DownKernel_DownKernelIdeal
    ∧ algebraic_DownKernelIdeal_DownReferenceIdeal (hDownKernelIdeal := hDownKernelIdeal) (hDownReferenceIdeal := hDownReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_SampKernel_SampKernelIdeal
    ∧ algebraic_SampKernelIdeal_SampReferenceIdeal (hSampKernelIdeal := hSampKernelIdeal) (hSampReferenceIdeal := hSampReferenceIdeal)
    ∧ preserves_ForgetKernel_ForgetKernelIdeal
    ∧ algebraic_ForgetKernelIdeal_ForgetReferenceIdeal (hForgetKernelIdeal := hForgetKernelIdeal) (hForgetReferenceIdeal := hForgetReferenceIdeal)
    ∧ preserves_SampForgetKernel_SampForgetKernelIdeal
    ∧ algebraic_SampForgetKernelIdeal_SampForgetReferenceIdeal (hSampForgetKernelIdeal := hSampForgetKernelIdeal) (hSampForgetReferenceIdeal := hSampForgetReferenceIdeal)
    ∧ preserves_OutKernel_OutKernelIdeal
    ∧ algebraic_OutKernelIdeal_OutReferenceIdeal (hOutKernelIdeal := hOutKernelIdeal) (hOutReferenceIdeal := hOutReferenceIdeal)
    ∧ preserves_LastKernel_LastKernelIdeal
    ∧ algebraic_LastKernelIdeal_LastReferenceIdeal (hLastKernelIdeal := hLastKernelIdeal) (hLastReferenceIdeal := hLastReferenceIdeal)
    ∧ preserves_TailKernel_TailKernelIdeal
    ∧ algebraic_TailKernelIdeal_TailReferenceIdeal (hTailKernelIdeal := hTailKernelIdeal) (hTailReferenceIdeal := hTailReferenceIdeal)
-- ==== Kernel.lean ====
abbrev S8448x13312 : Shape := ⟨2, ![8448, 13312]⟩
abbrev S2x8x1536 : Shape := ⟨3, ![2, 8, 1536]⟩
abbrev S2x1024x128 : Shape := ⟨3, ![2, 1024, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S16x16 : Shape := ⟨2, ![16, 16]⟩
abbrev S_ : Shape := ⟨0, ![]⟩
abbrev S16x16x64 : Shape := ⟨3, ![16, 16, 64]⟩
abbrev S16x1024 : Shape := ⟨2, ![16, 1024]⟩
abbrev S1x1536 : Shape := ⟨2, ![1, 1536]⟩
abbrev S1x16 : Shape := ⟨2, ![1, 16]⟩
abbrev S16x64 : Shape := ⟨2, ![16, 64]⟩
abbrev S1x1024 : Shape := ⟨2, ![1, 1024]⟩
abbrev S1024x16 : Shape := ⟨2, ![1024, 16]⟩
abbrev S8448x1024 : Shape := ⟨2, ![8448, 1024]⟩
abbrev S128x2048 : Shape := ⟨2, ![128, 2048]⟩
abbrev S128x1024 : Shape := ⟨2, ![128, 1024]⟩
abbrev S1x8x1536 : Shape := ⟨3, ![1, 8, 1536]⟩
abbrev S1x1024x128 : Shape := ⟨3, ![1, 1024, 128]⟩
abbrev S136x1536 : Shape := ⟨2, ![136, 1536]⟩
abbrev S8x1536 : Shape := ⟨2, ![8, 1536]⟩
abbrev S1024x128 : Shape := ⟨2, ![1024, 128]⟩
abbrev S128x1536 : Shape := ⟨2, ![128, 1536]⟩
abbrev S128x16 : Shape := ⟨2, ![128, 16]⟩
abbrev S128x1 : Shape := ⟨2, ![128, 1]⟩
abbrev S128x128 : Shape := ⟨2, ![128, 128]⟩
abbrev S128x112 : Shape := ⟨2, ![128, 112]⟩
abbrev S16x128 : Shape := ⟨2, ![16, 128]⟩
abbrev S256x16 : Shape := ⟨2, ![256, 16]⟩
abbrev S256x1024 : Shape := ⟨2, ![256, 1024]⟩
abbrev S16x1 : Shape := ⟨2, ![16, 1]⟩
abbrev S1x128 : Shape := ⟨2, ![1, 128]⟩
abbrev S128x256 : Shape := ⟨2, ![128, 256]⟩
abbrev S256x128 : Shape := ⟨2, ![256, 128]⟩
abbrev S1x128x128 : Shape := ⟨3, ![1, 128, 128]⟩
abbrev S128 : Shape := ⟨1, ![128]⟩

abbrev nBuf : Space → Nat
  | .hbm => 28
  | .vmem => 22
  | .smem => 0
  | _ => 0

abbrev bufTy : (tb : Table) → Fin (tcTables nBuf tb) → BufTy
  | .hbm, ⟨0, _⟩ => ⟨S8448x13312, .f32⟩
  | .hbm, ⟨1, _⟩ => ⟨S2x8x1536, .f32⟩
  | .hbm, ⟨2, _⟩ => ⟨S2x1024x128, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .f32⟩
  | .hbm, ⟨16, _⟩ => ⟨S16x16x64, .f32⟩
  | .hbm, ⟨17, _⟩ => ⟨S16x1024, .f32⟩
  | .hbm, ⟨18, _⟩ => ⟨S1x1536, .f32⟩
  | .hbm, ⟨19, _⟩ => ⟨S1x16, .f32⟩
  | .hbm, ⟨20, _⟩ => ⟨S1x16, .f32⟩
  | .hbm, ⟨21, _⟩ => ⟨S16x64, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1024x16, .f32⟩
  | .hbm, ⟨26, _⟩ => ⟨S8448x1024, .bf16⟩
  | .hbm, ⟨27, _⟩ => ⟨S2x1024x128, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S1x8x1536, .f32⟩
  | .local _ .vmem, ⟨5, _⟩ => ⟨S1x8x1536, .f32⟩
  | .local _ .vmem, ⟨6, _⟩ => ⟨S1x1024x128, .f32⟩
  | .local _ .vmem, ⟨7, _⟩ => ⟨S1x1024x128, .f32⟩
  | .local _ .vmem, ⟨8, _⟩ => ⟨S4x1536, .f32⟩
  | .local _ .vmem, ⟨9, _⟩ => ⟨S1x1536, .f32⟩
  | .local _ .vmem, ⟨10, _⟩ => ⟨S1x16, .f32⟩
  | .local _ .vmem, ⟨11, _⟩ => ⟨S1x16, .f32⟩
  | .local _ .vmem, ⟨12, _⟩ => ⟨S1x1024, .f32⟩
  | .local _ .vmem, ⟨13, _⟩ => ⟨S1x1024, .f32⟩
  | .local _ .vmem, ⟨14, _⟩ => ⟨S16x1024, .f32⟩
  | .local _ .vmem, ⟨15, _⟩ => ⟨S1024x16, .f32⟩
  | .local _ .vmem, ⟨16, _⟩ => ⟨S128x1024, .bf16⟩
  | .local _ .vmem, ⟨17, _⟩ => ⟨S128x1024, .bf16⟩
  | .local _ .vmem, ⟨18, _⟩ => ⟨S1x1024x128, .f32⟩
  | .local _ .vmem, ⟨19, _⟩ => ⟨S1x1024x128, .f32⟩
  | .local _ .vmem, ⟨20, _⟩ => ⟨S136x1536, .f32⟩
  | .local _ .vmem, ⟨21, _⟩ => ⟨S128x1024, .f32⟩
  | _, _ => ⟨S8448x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c3_i32 : BitVec 32 := 3#32
  let c0_i32 : BitVec 32 := 0#32
  ![v1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
abbrev S8448x13312 : Shape := ⟨2, ![8448, 13312]⟩
abbrev S2x8x1536 : Shape := ⟨3, ![2, 8, 1536]⟩
abbrev S2x1024x128 : Shape := ⟨3, ![2, 1024, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S16x16 : Shape := ⟨2, ![16, 16]⟩
abbrev S_ : Shape := ⟨0, ![]⟩
abbrev S16x16x64 : Shape := ⟨3, ![16, 16, 64]⟩
abbrev S16x1024 : Shape := ⟨2, ![16, 1024]⟩
abbrev S1x1536 : Shape := ⟨2, ![1, 1536]⟩
abbrev S1x16 : Shape := ⟨2, ![1, 16]⟩
abbrev S16x64 : Shape := ⟨2, ![16, 64]⟩
abbrev S1x1024 : Shape := ⟨2, ![1, 1024]⟩
abbrev S1024x16 : Shape := ⟨2, ![1024, 16]⟩
abbrev S8448x1024 : Shape := ⟨2, ![8448, 1024]⟩
abbrev S128x2048 : Shape := ⟨2, ![128, 2048]⟩
abbrev S128x1024 : Shape := ⟨2, ![128, 1024]⟩
abbrev S1x8x1536 : Shape := ⟨3, ![1, 8, 1536]⟩
abbrev S1x1024x128 : Shape := ⟨3, ![1, 1024, 128]⟩
abbrev S136x1536 : Shape := ⟨2, ![136, 1536]⟩
abbrev S8x1536 : Shape := ⟨2, ![8, 1536]⟩
abbrev S1024x128 : Shape := ⟨2, ![1024, 128]⟩
abbrev S128x1536 : Shape := ⟨2, ![128, 1536]⟩
abbrev S128x16 : Shape := ⟨2, ![128, 16]⟩
abbrev S128x1 : Shape := ⟨2, ![128, 1]⟩
abbrev S128x128 : Shape := ⟨2, ![128, 128]⟩
abbrev S128x112 : Shape := ⟨2, ![128, 112]⟩
abbrev S16x128 : Shape := ⟨2, ![16, 128]⟩
abbrev S256x16 : Shape := ⟨2, ![256, 16]⟩
abbrev S256x1024 : Shape := ⟨2, ![256, 1024]⟩
abbrev S16x1 : Shape := ⟨2, ![16, 1]⟩
abbrev S1x128 : Shape := ⟨2, ![1, 128]⟩
abbrev S128x256 : Shape := ⟨2, ![128, 256]⟩
abbrev S256x128 : Shape := ⟨2, ![256, 128]⟩
abbrev S1x128x128 : Shape := ⟨3, ![1, 128, 128]⟩
abbrev S128 : Shape := ⟨1, ![128]⟩

abbrev nBuf : Space → Nat
  | .hbm => 28
  | .vmem => 22
  | .smem => 0
  | _ => 0

abbrev bufTy : (tb : Table) → Fin (tcTables nBuf tb) → BufTy
  | .hbm, ⟨0, _⟩ => ⟨S8448x13312, .f32⟩
  | .hbm, ⟨1, _⟩ => ⟨S2x8x1536, .f32⟩
  | .hbm, ⟨2, _⟩ => ⟨S2x1024x128, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .f32⟩
  | .hbm, ⟨16, _⟩ => ⟨S16x16x64, .f32⟩
  | .hbm, ⟨17, _⟩ => ⟨S16x1024, .f32⟩
  | .hbm, ⟨18, _⟩ => ⟨S1x1536, .f32⟩
  | .hbm, ⟨19, _⟩ => ⟨S1x16, .f32⟩
  | .hbm, ⟨20, _⟩ => ⟨S1x16, .f32⟩
  | .hbm, ⟨21, _⟩ => ⟨S16x64, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1024x16, .f32⟩
  | .hbm, ⟨26, _⟩ => ⟨S8448x1024, .bf16⟩
  | .hbm, ⟨27, _⟩ => ⟨S2x1024x128, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S1x8x1536, .f32⟩
  | .local _ .vmem, ⟨5, _⟩ => ⟨S1x8x1536, .f32⟩
  | .local _ .vmem, ⟨6, _⟩ => ⟨S1x1024x128, .f32⟩
  | .local _ .vmem, ⟨7, _⟩ => ⟨S1x1024x128, .f32⟩
  | .local _ .vmem, ⟨8, _⟩ => ⟨S4x1536, .f32⟩
  | .local _ .vmem, ⟨9, _⟩ => ⟨S1x1536, .f32⟩
  | .local _ .vmem, ⟨10, _⟩ => ⟨S1x16, .f32⟩
  | .local _ .vmem, ⟨11, _⟩ => ⟨S1x16, .f32⟩
  | .local _ .vmem, ⟨12, _⟩ => ⟨S1x1024, .f32⟩
  | .local _ .vmem, ⟨13, _⟩ => ⟨S1x1024, .f32⟩
  | .local _ .vmem, ⟨14, _⟩ => ⟨S16x1024, .f32⟩
  | .local _ .vmem, ⟨15, _⟩ => ⟨S1024x16, .f32⟩
  | .local _ .vmem, ⟨16, _⟩ => ⟨S128x1024, .bf16⟩
  | .local _ .vmem, ⟨17, _⟩ => ⟨S128x1024, .bf16⟩
  | .local _ .vmem, ⟨18, _⟩ => ⟨S1x1024x128, .f32⟩
  | .local _ .vmem, ⟨19, _⟩ => ⟨S1x1024x128, .f32⟩
  | .local _ .vmem, ⟨20, _⟩ => ⟨S136x1536, .f32⟩
  | .local _ .vmem, ⟨21, _⟩ => ⟨S128x1024, .f32⟩
  | _, _ => ⟨S8448x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c3_i32 : BitVec 32 := 3#32
  let c0_i32 : BitVec 32 := 0#32
  ![v1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8448x13312 : Shape := ⟨2, ![8448, 13312]⟩
abbrev S2x8x1536 : Shape := ⟨3, ![2, 8, 1536]⟩
abbrev S2x1024x128 : Shape := ⟨3, ![2, 1024, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S2x4224x13312 : Shape := ⟨3, ![2, 4224, 13312]⟩
abbrev S2x4224x1536 : Shape := ⟨3, ![2, 4224, 1536]⟩
abbrev S2x4224x16 : Shape := ⟨3, ![2, 4224, 16]⟩
abbrev S2x4224x1024 : Shape := ⟨3, ![2, 4224, 1024]⟩
abbrev S2x3x1536 : Shape := ⟨3, ![2, 3, 1536]⟩
abbrev S2x4227x1536 : Shape := ⟨3, ![2, 4227, 1536]⟩
abbrev S1x1536 : Shape := ⟨2, ![1, 1536]⟩
abbrev S1x1x1536 : Shape := ⟨3, ![1, 1, 1536]⟩
abbrev S_ : Shape := ⟨0, ![]⟩
abbrev S2x4224x16x64 : Shape := ⟨4, ![2, 4224, 16, 64]⟩
abbrev S2x4224x256 : Shape := ⟨3, ![2, 4224, 256]⟩
abbrev S2x4224x2x128 : Shape := ⟨4, ![2, 4224, 2, 128]⟩
abbrev S1x1x16 : Shape := ⟨3, ![1, 1, 16]⟩
abbrev S4224 : Shape := ⟨1, ![4224]⟩
abbrev S1x4224x1 : Shape := ⟨3, ![1, 4224, 1]⟩
abbrev S2x33x128x2x8x64 : Shape := ⟨6, ![2, 33, 128, 2, 8, 64]⟩
abbrev S2x33x128x2x8 : Shape := ⟨5, ![2, 33, 128, 2, 8]⟩
abbrev S2x33x128x2x128 : Shape := ⟨5, ![2, 33, 128, 2, 128]⟩
abbrev S2x8 : Shape := ⟨2, ![2, 8]⟩
abbrev S1x1x1x2x8 : Shape := ⟨5, ![1, 1, 1, 2, 8]⟩
abbrev S128x128 : Shape := ⟨2, ![128, 128]⟩
abbrev S1x1x128x128x1x1 : Shape := ⟨6, ![1, 1, 128, 128, 1, 1]⟩
abbrev S2x33x128x1x2x8 : Shape := ⟨6, ![2, 33, 128, 1, 2, 8]⟩
abbrev S2x33x1x128x2x8 : Shape := ⟨6, ![2, 33, 1, 128, 2, 8]⟩
abbrev S2x33x128x128x2x8 : Shape := ⟨6, ![2, 33, 128, 128, 2, 8]⟩
abbrev S2x33x2x128x128 : Shape := ⟨5, ![2, 33, 2, 128, 128]⟩
abbrev S2x33x128x128x2 : Shape := ⟨5, ![2, 33, 128, 128, 2]⟩
abbrev S2x33x128x128x2x1 : Shape := ⟨6, ![2, 33, 128, 128, 2, 1]⟩
abbrev S2x33x2x8x64x128 : Shape := ⟨6, ![2, 33, 2, 8, 64, 128]⟩
abbrev S2x33x1x2x8 : Shape := ⟨5, ![2, 33, 1, 2, 8]⟩
abbrev S2x33x128x2x8x1 : Shape := ⟨6, ![2, 33, 128, 2, 8, 1]⟩
abbrev S2x33x2x8 : Shape := ⟨4, ![2, 33, 2, 8]⟩
abbrev S2x2x8x64x128 : Shape := ⟨5, ![2, 2, 8, 64, 128]⟩
abbrev S33x2x2x8 : Shape := ⟨4, ![33, 2, 2, 8]⟩
abbrev S33x2x2x8x64x128 : Shape := ⟨6, ![33, 2, 2, 8, 64, 128]⟩
abbrev S1x2x2x8 : Shape := ⟨4, ![1, 2, 2, 8]⟩
abbrev S2x2x8 : Shape := ⟨3, ![2, 2, 8]⟩
abbrev S1x2x2x8x64x128 : Shape := ⟨6, ![1, 2, 2, 8, 64, 128]⟩
abbrev S2x2x8x1x1 : Shape := ⟨5, ![2, 2, 8, 1, 1]⟩
abbrev S2x16x64x128 : Shape := ⟨4, ![2, 16, 64, 128]⟩
abbrev S16x1 : Shape := ⟨2, ![16, 1]⟩
abbrev S1x1x16x1 : Shape := ⟨4, ![1, 1, 16, 1]⟩
abbrev S2x4224 : Shape := ⟨2, ![2, 4224]⟩
abbrev S2x4224x1 : Shape := ⟨3, ![2, 4224, 1]⟩
abbrev S1x1x1024 : Shape := ⟨3, ![1, 1, 1024]⟩
abbrev S8448x1024 : Shape := ⟨2, ![8448, 1024]⟩

abbrev nBuf : Space → Nat
  | .hbm => 227
  | .vmem => 0
  | .smem => 0
  | _ => 0

abbrev hbmTy0_0 (i : Nat) : BufTy := match i % 128 with
  | 0 => ⟨S8448x13312, .f32⟩
  | 1 => ⟨S2x8x1536, .f32⟩
  | 2 => ⟨S2x1024x128, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S2x4224x13312, .f32⟩
  | 10 => ⟨S2x4224x1536, .f32⟩
  | 11 => ⟨S2x4224x16, .f32⟩
  | 12 => ⟨S2x4224x1024, .f32⟩
  | 13 => ⟨S2x3x1536, .f32⟩
  | 14 => ⟨S2x4227x1536, .f32⟩
  | 15 => ⟨S2x4224x1536, .f32⟩
  | 16 => ⟨S1x1536, .f32⟩
  | 17 => ⟨S1536, .f32⟩
  | 18 => ⟨S1x1x1536, .f32⟩
  | 19 => ⟨S2x4224x1536, .f32⟩
  | 20 => ⟨S2x4224x1536, .f32⟩
  | 21 => ⟨S1x1x1536, .f32⟩
  | 22 => ⟨S2x4224x1536, .f32⟩
  | 23 => ⟨S2x4224x1536, .f32⟩
  | 24 => ⟨S2x4224x1536, .f32⟩
  | 25 => ⟨S1x1536, .f32⟩
  | 26 => ⟨S1536, .f32⟩
  | 27 => ⟨S1x1x1536, .f32⟩
  | 28 => ⟨S2x4224x1536, .f32⟩
  | 29 => ⟨S2x4224x1536, .f32⟩
  | 30 => ⟨S2x4224x1536, .f32⟩
  | 31 => ⟨S2x4224x1536, .f32⟩
  | 32 => ⟨S1x1536, .f32⟩
  | 33 => ⟨S1536, .f32⟩
  | 34 => ⟨S1x1x1536, .f32⟩
  | 35 => ⟨S2x4224x1536, .f32⟩
  | 36 => ⟨S2x4224x1536, .f32⟩
  | 37 => ⟨S2x4224x1536, .f32⟩
  | 38 => ⟨S2x4224x1536, .f32⟩
  | 39 => ⟨S1x1536, .f32⟩
  | 40 => ⟨S1536, .f32⟩
  | 41 => ⟨S1x1x1536, .f32⟩
  | 42 => ⟨S2x4224x1536, .f32⟩
  | 43 => ⟨S2x4224x1536, .f32⟩
  | 44 => ⟨S2x4224x1536, .f32⟩
  | 45 => ⟨S2x4224x1536, .f32⟩
  | 46 => ⟨S2x4224x1536, .f32⟩
  | 47 => ⟨S_, .f32⟩
  | 48 => ⟨S2x4224x1536, .f32⟩
  | 49 => ⟨S2x4224x1536, .f32⟩
  | 50 => ⟨S_, .f32⟩
  | 51 => ⟨S2x4224x1536, .f32⟩
  | 52 => ⟨S2x4224x1536, .f32⟩
  | 53 => ⟨S2x4224x1536, .f32⟩
  | 54 => ⟨S2x4224x1024, .f32⟩
  | 55 => ⟨S2x4224x16x64, .f32⟩
  | 56 => ⟨S2x4224x256, .f32⟩
  | 57 => ⟨S2x4224x2x128, .f32⟩
  | 58 => ⟨S2x4224x256, .f32⟩
  | 59 => ⟨S2x4224x2x128, .f32⟩
  | 60 => ⟨S1x1x16, .f32⟩
  | 61 => ⟨S2x4224x16, .f32⟩
  | 62 => ⟨S2x4224x16, .f32⟩
  | 63 => ⟨S_, .f32⟩
  | 64 => ⟨S2x4224x16, .f32⟩
  | 65 => ⟨S2x4224x16, .f32⟩
  | 66 => ⟨S2x4224x16, .f32⟩
  | 67 => ⟨S2x4224x16, .f32⟩
  | 68 => ⟨S2x4224x16, .i1⟩
  | 69 => ⟨S2x4224x16, .f32⟩
  | 70 => ⟨S2x4224x16, .f32⟩
  | 71 => ⟨S2x4224x16, .f32⟩
  | 72 => ⟨S2x4224x16, .f32⟩
  | 73 => ⟨S2x4224x16, .f32⟩
  | 74 => ⟨S2x4224x16, .f32⟩
  | 75 => ⟨S2x4224x16, .f32⟩
  | 76 => ⟨S2x4224x16, .f32⟩
  | 77 => ⟨S4224, .i32⟩
  | 78 => ⟨S_, .i32⟩
  | 79 => ⟨S4224, .i32⟩
  | 80 => ⟨S4224, .i1⟩
  | 81 => ⟨S1x4224x1, .i1⟩
  | 82 => ⟨S_, .f32⟩
  | 83 => ⟨S_, .f32⟩
  | 84 => ⟨S2x4224x16, .i1⟩
  | 85 => ⟨S2x4224x16, .f32⟩
  | 86 => ⟨S2x4224x16, .f32⟩
  | 87 => ⟨S16, .f32⟩
  | 88 => ⟨S16, .f32⟩
  | 89 => ⟨S2x33x128x2x8x64, .f32⟩
  | 90 => ⟨S2x33x128x2x8, .f32⟩
  | 91 => ⟨S2x33x128x2x128, .f32⟩
  | 92 => ⟨S2x33x128x2x128, .f32⟩
  | 93 => ⟨S2x8, .f32⟩
  | 94 => ⟨S1x1x1x2x8, .f32⟩
  | 95 => ⟨S2x33x128x2x8, .f32⟩
  | 96 => ⟨S2x33x128x2x8, .f32⟩
  | 97 => ⟨S_, .f32⟩
  | 98 => ⟨S_, .f32⟩
  | 99 => ⟨S2x33x128x2x8, .f32⟩
  | 100 => ⟨S_, .i1⟩
  | 101 => ⟨S128x128, .i1⟩
  | 102 => ⟨S128x128, .i32⟩
  | 103 => ⟨S_, .i32⟩
  | 104 => ⟨S128x128, .i32⟩
  | 105 => ⟨S128x128, .i32⟩
  | 106 => ⟨S128x128, .i32⟩
  | 107 => ⟨S128x128, .i1⟩
  | 108 => ⟨S_, .i1⟩
  | 109 => ⟨S128x128, .i1⟩
  | 110 => ⟨S128x128, .i1⟩
  | 111 => ⟨S1x1x128x128x1x1, .i1⟩
  | 112 => ⟨S2x33x128x1x2x8, .f32⟩
  | 113 => ⟨S2x33x1x128x2x8, .f32⟩
  | 114 => ⟨S2x33x128x128x2x8, .f32⟩
  | 115 => ⟨S2x33x128x128x2x8, .f32⟩
  | 116 => ⟨S2x33x128x128x2x8, .f32⟩
  | 117 => ⟨S_, .f32⟩
  | 118 => ⟨S_, .f32⟩
  | 119 => ⟨S2x33x128x128x2x8, .i1⟩
  | 120 => ⟨S2x33x128x128x2x8, .f32⟩
  | 121 => ⟨S2x33x128x128x2x8, .f32⟩
  | 122 => ⟨S2x33x128x128x2x8, .f32⟩
  | 123 => ⟨S2x33x2x128x128, .f32⟩
  | 124 => ⟨S2x33x128x128x2, .f32⟩
  | 125 => ⟨S2x33x128x128x2x1, .f32⟩
  | 126 => ⟨S2x33x128x128x2x8, .f32⟩
  | 127 => ⟨S2x33x128x128x2x8, .f32⟩
  | _ => ⟨S8448x13312, .f32⟩

abbrev hbmTy0_1 (i : Nat) : BufTy := match i % 128 with
  | 0 => ⟨S2x33x1x128x2x8, .f32⟩
  | 1 => ⟨S2x33x128x128x2x8, .f32⟩
  | 2 => ⟨S2x33x128x128x2x8, .f32⟩
  | 3 => ⟨S2x33x2x8x64x128, .f32⟩
  | 4 => ⟨S2x33x128x2x8x64, .f32⟩
  | 5 => ⟨S2x33x1x2x8, .f32⟩
  | 6 => ⟨S2x33x128x2x8, .f32⟩
  | 7 => ⟨S2x33x128x2x8, .f32⟩
  | 8 => ⟨S2x33x128x2x8, .f32⟩
  | 9 => ⟨S2x33x128x2x8, .f32⟩
  | 10 => ⟨S2x33x128x2x8x1, .f32⟩
  | 11 => ⟨S2x33x128x2x8x64, .f32⟩
  | 12 => ⟨S2x33x128x2x8x64, .f32⟩
  | 13 => ⟨S2x33x2x8x64x128, .f32⟩
  | 14 => ⟨S2x33x1x2x8, .f32⟩
  | 15 => ⟨S2x33x2x8, .f32⟩
  | 16 => ⟨S2x33x2x8, .f32⟩
  | 17 => ⟨S2x2x8x64x128, .f32⟩
  | 18 => ⟨S33x2x2x8, .f32⟩
  | 19 => ⟨S33x2x2x8x64x128, .f32⟩
  | 20 => ⟨S_, .f32⟩
  | 21 => ⟨S33x2x2x8x64x128, .f32⟩
  | 22 => ⟨S_, .i32⟩
  | 23 => ⟨S33x2x2x8, .f32⟩
  | 24 => ⟨S33x2x2x8x64x128, .f32⟩
  | 25 => ⟨S_, .i32⟩
  | 26 => ⟨S2x2x8x64x128, .f32⟩
  | 27 => ⟨S33x2x2x8x64x128, .f32⟩
  | 28 => ⟨S_, .i32⟩
  | 29 => ⟨S_, .i1⟩
  | 30 => ⟨S_, .i32⟩
  | 31 => ⟨S_, .i32⟩
  | 32 => ⟨S_, .i32⟩
  | 33 => ⟨S1x2x2x8, .f32⟩
  | 34 => ⟨S2x2x8, .f32⟩
  | 35 => ⟨S_, .i32⟩
  | 36 => ⟨S_, .i32⟩
  | 37 => ⟨S_, .i32⟩
  | 38 => ⟨S_, .i32⟩
  | 39 => ⟨S_, .i32⟩
  | 40 => ⟨S1x2x2x8x64x128, .f32⟩
  | 41 => ⟨S2x2x8x64x128, .f32⟩
  | 42 => ⟨S2x2x8x1x1, .f32⟩
  | 43 => ⟨S2x2x8x64x128, .f32⟩
  | 44 => ⟨S2x2x8x64x128, .f32⟩
  | 45 => ⟨S2x2x8x64x128, .f32⟩
  | 46 => ⟨S1x2x2x8x64x128, .f32⟩
  | 47 => ⟨S_, .i32⟩
  | 48 => ⟨S_, .i32⟩
  | 49 => ⟨S_, .i32⟩
  | 50 => ⟨S_, .i32⟩
  | 51 => ⟨S_, .i32⟩
  | 52 => ⟨S33x2x2x8x64x128, .f32⟩
  | 53 => ⟨S_, .i32⟩
  | 54 => ⟨S_, .i32⟩
  | 55 => ⟨S2x33x2x8x64x128, .f32⟩
  | 56 => ⟨S2x33x128x2x8x64, .f32⟩
  | 57 => ⟨S2x33x128x2x8, .f32⟩
  | 58 => ⟨S2x33x128x2x8x1, .f32⟩
  | 59 => ⟨S2x33x128x2x8x64, .f32⟩
  | 60 => ⟨S2x33x128x2x8x64, .f32⟩
  | 61 => ⟨S2x33x128x2x8x64, .f32⟩
  | 62 => ⟨S2x4224x16x64, .f32⟩
  | 63 => ⟨S2x16x64x128, .f32⟩
  | 64 => ⟨S16x1, .f32⟩
  | 65 => ⟨S1x1x16x1, .f32⟩
  | 66 => ⟨S2x4224x16x64, .f32⟩
  | 67 => ⟨S2x4224x16x64, .f32⟩
  | 68 => ⟨S2x4224x16x64, .f32⟩
  | 69 => ⟨S2x4224x1024, .f32⟩
  | 70 => ⟨S2x4224x1024, .f32⟩
  | 71 => ⟨S2x4224x1024, .f32⟩
  | 72 => ⟨S_, .f32⟩
  | 73 => ⟨S2x4224x1024, .f32⟩
  | 74 => ⟨S2x4224x1024, .f32⟩
  | 75 => ⟨S_, .f32⟩
  | 76 => ⟨S2x4224x1024, .f32⟩
  | 77 => ⟨S2x4224x1024, .f32⟩
  | 78 => ⟨S2x4224x1024, .f32⟩
  | 79 => ⟨S2x4224x1024, .f32⟩
  | 80 => ⟨S2x4224x1024, .f32⟩
  | 81 => ⟨S_, .f32⟩
  | 82 => ⟨S2x4224, .f32⟩
  | 83 => ⟨S2x4224x1, .f32⟩
  | 84 => ⟨S_, .f32⟩
  | 85 => ⟨S2x4224x1, .f32⟩
  | 86 => ⟨S2x4224x1, .f32⟩
  | 87 => ⟨S_, .f32⟩
  | 88 => ⟨S2x4224x1, .f32⟩
  | 89 => ⟨S2x4224x1, .f32⟩
  | 90 => ⟨S2x4224x1, .f32⟩
  | 91 => ⟨S2x4224x1024, .f32⟩
  | 92 => ⟨S2x4224x1024, .f32⟩
  | 93 => ⟨S1x1x1024, .f32⟩
  | 94 => ⟨S2x4224x1024, .f32⟩
  | 95 => ⟨S2x4224x1024, .f32⟩
  | 96 => ⟨S8448x1024, .f32⟩
  | 97 => ⟨S8448x1024, .bf16⟩
  | 98 => ⟨S2x1024x128, .f32⟩
  | _ => ⟨S8448x13312, .f32⟩

abbrev hbmTy (i : Nat) : BufTy := match i / 128 with
  | 0 => hbmTy0_0 i
  | 1 => hbmTy0_1 i
  | _ => ⟨S8448x13312, .f32⟩

abbrev bufTy : (tb : Table) → Fin (tcTables nBuf tb) → BufTy
  | .hbm, ⟨i, _⟩ => hbmTy i
  | _, _ => ⟨S8448x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v46 : Ref sig .tc := ⟨.hbm, 76, rfl⟩
abbrev main_v47 : Ref sig .tc := ⟨.hbm, 77, rfl⟩
abbrev main_c : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call3_call0_cst : Ref sig .tc := ⟨.hbm, 97, rfl⟩
abbrev main_call3_call0_v0 : Ref sig .tc := ⟨.hbm, 98, rfl⟩
abbrev main_v62 : Ref sig .tc := ⟨.hbm, 99, rfl⟩
abbrev main_c_0 : Ref sig .tc := ⟨.hbm, 100, rfl⟩
abbrev main_v63 : Ref sig .tc := ⟨.hbm, 101, rfl⟩
abbrev main_call4_v0 : Ref sig .tc := ⟨.hbm, 102, rfl⟩
abbrev main_call4_c : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_c_0 : Ref sig .tc := ⟨.hbm, 108, rfl⟩
abbrev main_call4_v5 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_1 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_2 : Ref sig .tc := ⟨.hbm, 148, rfl⟩
abbrev main_v98 : Ref sig .tc := ⟨.hbm, 149, rfl⟩
abbrev main_c_3 : Ref sig .tc := ⟨.hbm, 150, rfl⟩
abbrev main_v99_0 : Ref sig .tc := ⟨.hbm, 151, rfl⟩
abbrev main_v99_1 : Ref sig .tc := ⟨.hbm, 152, rfl⟩
abbrev main_v99_2 : Ref sig .tc := ⟨.hbm, 153, rfl⟩
abbrev main_v99_3 : Ref sig .tc := ⟨.hbm, 154, rfl⟩
abbrev main_v99_4 : Ref sig .tc := ⟨.hbm, 155, rfl⟩
abbrev main_while0c_c_11 : Ref sig .tc := ⟨.hbm, 156, rfl⟩
abbrev main_while0c_v133 : Ref sig .tc := ⟨.hbm, 157, rfl⟩
abbrev main_while0b_call6_c : Ref sig .tc := ⟨.hbm, 158, rfl⟩
abbrev main_while0b_call6_c_0 : Ref sig .tc := ⟨.hbm, 159, rfl⟩
abbrev main_while0b_call6_c_1 : Ref sig .tc := ⟨.hbm, 160, rfl⟩
abbrev main_while0b_call6_v0 : Ref sig .tc := ⟨.hbm, 161, rfl⟩
abbrev main_while0b_v133 : Ref sig .tc := ⟨.hbm, 162, rfl⟩
abbrev main_while0b_call7_c : Ref sig .tc := ⟨.hbm, 163, rfl⟩
abbrev main_while0b_call7_c_0 : Ref sig .tc := ⟨.hbm, 164, rfl⟩
abbrev main_while0b_call7_c_1 : Ref sig .tc := ⟨.hbm, 165, rfl⟩
abbrev main_while0b_call7_c_2 : Ref sig .tc := ⟨.hbm, 166, rfl⟩
abbrev main_while0b_call7_c_3 : Ref sig .tc := ⟨.hbm, 167, rfl⟩
abbrev main_while0b_call7_v0 : Ref sig .tc := ⟨.hbm, 168, rfl⟩
abbrev main_while0b_v134 : Ref sig .tc := ⟨.hbm, 169, rfl⟩
abbrev main_while0b_v135 : Ref sig .tc := ⟨.hbm, 170, rfl⟩
abbrev main_while0b_v136 : Ref sig .tc := ⟨.hbm, 171, rfl⟩
abbrev main_while0b_v137 : Ref sig .tc := ⟨.hbm, 172, rfl⟩
abbrev main_while0b_v138 : Ref sig .tc := ⟨.hbm, 173, rfl⟩
abbrev main_while0b_call8_v0 : Ref sig .tc := ⟨.hbm, 174, rfl⟩
abbrev main_while0b_call8_c : Ref sig .tc := ⟨.hbm, 175, rfl⟩
abbrev main_while0b_call8_c_0 : Ref sig .tc := ⟨.hbm, 176, rfl⟩
abbrev main_while0b_call8_c_1 : Ref sig .tc := ⟨.hbm, 177, rfl⟩
abbrev main_while0b_call8_c_2 : Ref sig .tc := ⟨.hbm, 178, rfl⟩
abbrev main_while0b_call8_c_3 : Ref sig .tc := ⟨.hbm, 179, rfl⟩
abbrev main_while0b_v139 : Ref sig .tc := ⟨.hbm, 180, rfl⟩
abbrev main_while0b_c_11 : Ref sig .tc := ⟨.hbm, 181, rfl⟩
abbrev main_while0b_v140 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_call9_v0 : Ref sig .tc := ⟨.hbm, 198, rfl⟩
abbrev main_call9_v1 : Ref sig .tc := ⟨.hbm, 199, rfl⟩
abbrev main_call9_cst : Ref sig .tc := ⟨.hbm, 200, rfl⟩
abbrev main_call9_v2 : Ref sig .tc := ⟨.hbm, 201, rfl⟩
abbrev main_call9_v3 : Ref sig .tc := ⟨.hbm, 202, rfl⟩
abbrev main_call9_cst_0 : Ref sig .tc := ⟨.hbm, 203, rfl⟩
abbrev main_call9_v4 : Ref sig .tc := ⟨.hbm, 204, rfl⟩
abbrev main_call9_v5 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_cst_4 : Ref sig .tc := ⟨.hbm, 209, rfl⟩
abbrev main_v118 : Ref sig .tc := ⟨.hbm, 210, rfl⟩
abbrev main_v119 : Ref sig .tc := ⟨.hbm, 211, rfl⟩
abbrev main_cst_5 : Ref sig .tc := ⟨.hbm, 212, rfl⟩
abbrev main_v120 : Ref sig .tc := ⟨.hbm, 213, rfl⟩
abbrev main_v121 : Ref sig .tc := ⟨.hbm, 214, rfl⟩
abbrev main_cst_6 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩

abbrev nD : Nat := 1
abbrev τ : Topo := Topo.v7x

variable {F : FTy → Type} [FloatOps F]

abbrev main_while0_count : Scf.Loop 32 := ⟨0#32, 33#32, 1#32⟩
-- ==== SwigluKernel.lean ====
abbrev S8448x2048 : Shape := ⟨2, ![8448, 2048]⟩
abbrev S2048 : Shape := ⟨1, ![2048]⟩
abbrev S2048x11264 : Shape := ⟨2, ![2048, 11264]⟩
abbrev S1x2048 : Shape := ⟨2, ![1, 2048]⟩
abbrev S8448x5632 : Shape := ⟨2, ![8448, 5632]⟩
abbrev S1056x2048 : Shape := ⟨2, ![1056, 2048]⟩
abbrev S2048x512 : Shape := ⟨2, ![2048, 512]⟩
abbrev S1056x512 : Shape := ⟨2, ![1056, 512]⟩
abbrev S1056 : Shape := ⟨1, ![1056]⟩
abbrev S1056x1 : Shape := ⟨2, ![1056, 1]⟩

abbrev nBuf : Space → Nat
  | .hbm => 6
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11264, .f32⟩
  | .hbm, ⟨3, _⟩ => ⟨S2048x11264, .bf16⟩
  | .hbm, ⟨4, _⟩ => ⟨S1x2048, .f32⟩
  | .hbm, ⟨5, _⟩ => ⟨S8448x5632, .bf16⟩
  | .local _ .vmem, ⟨0, _⟩ => ⟨S1056x2048, .f32⟩
  | .local _ .vmem, ⟨1, _⟩ => ⟨S1056x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1056x512, .bf16⟩
  | .local _ .vmem, ⟨8, _⟩ => ⟨S1056x512, .bf16⟩
  | .local _ .vmem, ⟨9, _⟩ => ⟨S1056x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluReferenceIdeal.lean ====
abbrev S8448x2048 : Shape := ⟨2, ![8448, 2048]⟩
abbrev S2048 : Shape := ⟨1, ![2048]⟩
abbrev S2048x11264 : Shape := ⟨2, ![2048, 11264]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x11264 : Shape := ⟨2, ![8448, 11264]⟩
abbrev S8448x5632 : Shape := ⟨2, ![8448, 5632]⟩

abbrev nBuf : Space → Nat
  | .hbm => 33
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11264, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x11264, .f32⟩
  | .hbm, ⟨20, _⟩ => ⟨S8448x5632, .f32⟩
  | .hbm, ⟨21, _⟩ => ⟨S8448x5632, .f32⟩
  | .hbm, ⟨22, _⟩ => ⟨S8448x5632, .f32⟩
  | .hbm, ⟨23, _⟩ => ⟨S8448x5632, .f32⟩
  | .hbm, ⟨24, _⟩ => ⟨S_, .f32⟩
  | .hbm, ⟨25, _⟩ => ⟨S8448x5632, .f32⟩
  | .hbm, ⟨26, _⟩ => ⟨S8448x5632, .f32⟩
  | .hbm, ⟨27, _⟩ => ⟨S_, .f32⟩
  | .hbm, ⟨28, _⟩ => ⟨S8448x5632, .f32⟩
  | .hbm, ⟨29, _⟩ => ⟨S8448x5632, .f32⟩
  | .hbm, ⟨30, _⟩ => ⟨S8448x5632, .f32⟩
  | .hbm, ⟨31, _⟩ => ⟨S8448x5632, .f32⟩
  | .hbm, ⟨32, _⟩ => ⟨S8448x5632, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== DownKernel.lean ====
abbrev S8448x5632 : Shape := ⟨2, ![8448, 5632]⟩
abbrev S5632x2048 : Shape := ⟨2, ![5632, 2048]⟩
abbrev S8448x2048 : Shape := ⟨2, ![8448, 2048]⟩
abbrev S1056x5632 : Shape := ⟨2, ![1056, 5632]⟩
abbrev S5632x512 : Shape := ⟨2, ![5632, 512]⟩
abbrev S1056x512 : Shape := ⟨2, ![1056, 512]⟩

abbrev nBuf : Space → Nat
  | .hbm => 5
  | .vmem => 8
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .f32⟩
  | .hbm, ⟨2, _⟩ => ⟨S8448x2048, .f32⟩
  | .hbm, ⟨3, _⟩ => ⟨S5632x2048, .bf16⟩
  | .hbm, ⟨4, _⟩ => ⟨S8448x2048, .f32⟩
  | .local _ .vmem, ⟨0, _⟩ => ⟨S1056x5632, .bf16⟩
  | .local _ .vmem, ⟨1, _⟩ => ⟨S1056x5632, .bf16⟩
  | .local _ .vmem, ⟨2, _⟩ => ⟨S5632x512, .bf16⟩
  | .local _ .vmem, ⟨3, _⟩ => ⟨S5632x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S8448x5632 : Shape := ⟨2, ![8448, 5632]⟩
abbrev S5632x2048 : Shape := ⟨2, ![5632, 2048]⟩
abbrev S8448x2048 : Shape := ⟨2, ![8448, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .f32⟩
  | .hbm, ⟨2, _⟩ => ⟨S8448x2048, .f32⟩
  | .hbm, ⟨3, _⟩ => ⟨S8448x5632, .f32⟩
  | .hbm, ⟨4, _⟩ => ⟨S8448x2048, .f32⟩
  | .hbm, ⟨5, _⟩ => ⟨S_, .f32⟩
  | .hbm, ⟨6, _⟩ => ⟨S8448x2048, .f32⟩
  | .hbm, ⟨7, _⟩ => ⟨S8448x2048, .f32⟩
  | .hbm, ⟨8, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MergeKernel.lean ====
abbrev S8448x1024 : Shape := ⟨2, ![8448, 1024]⟩
abbrev S8448x13312 : Shape := ⟨2, ![8448, 13312]⟩
abbrev S1024x2048 : Shape := ⟨2, ![1024, 2048]⟩
abbrev S8448x2048 : Shape := ⟨2, ![8448, 2048]⟩
abbrev S1056x1024 : Shape := ⟨2, ![1056, 1024]⟩
abbrev S1056x512 : Shape := ⟨2, ![1056, 512]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x13312, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .bf16⟩
  | .hbm, ⟨8, _⟩ => ⟨S1024x2048, .bf16⟩
  | .hbm, ⟨9, _⟩ => ⟨S1024x2048, .bf16⟩
  | .hbm, ⟨10, _⟩ => ⟨S8448x2048, .bf16⟩
  | .local _ .vmem, ⟨0, _⟩ => ⟨S1056x1024, .bf16⟩
  | .local _ .vmem, ⟨1, _⟩ => ⟨S1056x1024, .bf16⟩
  | .local _ .vmem, ⟨2, _⟩ => ⟨S1056x1024, .bf16⟩
  | .local _ .vmem, ⟨3, _⟩ => ⟨S1056x1024, .bf16⟩
  | .local _ .vmem, ⟨4, _⟩ => ⟨S1056x1024, .bf16⟩
  | .local _ .vmem, ⟨5, _⟩ => ⟨S1056x1024, .bf16⟩
  | .local _ .vmem, ⟨6, _⟩ => ⟨S1056x512, .f32⟩
  | .local _ .vmem, ⟨7, _⟩ => ⟨S1056x512, .f32⟩
  | .local _ .vmem, ⟨8, _⟩ => ⟨S1056x512, .f32⟩
  | .local _ .vmem, ⟨9, _⟩ => ⟨S1056x512, .f32⟩
  | .local _ .vmem, ⟨10, _⟩ => ⟨S1056x512, .f32⟩
  | .local _ .vmem, ⟨11, _⟩ => ⟨S1056x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1056x512, .bf16⟩
  | .local _ .vmem, ⟨19, _⟩ => ⟨S1056x512, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1056x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S8448x1024 : Shape := ⟨2, ![8448, 1024]⟩
abbrev S8448x13312 : Shape := ⟨2, ![8448, 13312]⟩
abbrev S1024x2048 : Shape := ⟨2, ![1024, 2048]⟩
abbrev S8448x6144 : Shape := ⟨2, ![8448, 6144]⟩
abbrev S8448x3x2048 : Shape := ⟨3, ![8448, 3, 2048]⟩
abbrev S_ : Shape := ⟨0, ![]⟩
abbrev S8448x1x2048 : Shape := ⟨3, ![8448, 1, 2048]⟩
abbrev S8448x2048 : Shape := ⟨2, ![8448, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x13312, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S8448x6144, .f32⟩
  | .hbm, ⟨8, _⟩ => ⟨S8448x3x2048, .f32⟩
  | .hbm, ⟨9, _⟩ => ⟨S8448x3x2048, .f32⟩
  | .hbm, ⟨10, _⟩ => ⟨S8448x3x2048, .f32⟩
  | .hbm, ⟨11, _⟩ => ⟨S_, .f32⟩
  | .hbm, ⟨12, _⟩ => ⟨S8448x3x2048, .f32⟩
  | .hbm, ⟨13, _⟩ => ⟨S8448x3x2048, .f32⟩
  | .hbm, ⟨14, _⟩ => ⟨S_, .f32⟩
  | .hbm, ⟨15, _⟩ => ⟨S8448x3x2048, .f32⟩
  | .hbm, ⟨16, _⟩ => ⟨S8448x3x2048, .f32⟩
  | .hbm, ⟨17, _⟩ => ⟨S8448x1x2048, .f32⟩
  | .hbm, ⟨18, _⟩ => ⟨S8448x2048, .f32⟩
  | .hbm, ⟨19, _⟩ => ⟨S8448x1024, .f32⟩
  | .hbm, ⟨20, _⟩ => ⟨S8448x2048, .f32⟩
  | .hbm, ⟨21, _⟩ => ⟨S8448x2048, .f32⟩
  | .hbm, ⟨22, _⟩ => ⟨S8448x1x2048, .f32⟩
  | .hbm, ⟨23, _⟩ => ⟨S8448x2048, .f32⟩
  | .hbm, ⟨24, _⟩ => ⟨S8448x1024, .f32⟩
  | .hbm, ⟨25, _⟩ => ⟨S8448x2048, .f32⟩
  | .hbm, ⟨26, _⟩ => ⟨S8448x2048, .f32⟩
  | .hbm, ⟨27, _⟩ => ⟨S8448x2048, .f32⟩
  | .hbm, ⟨28, _⟩ => ⟨S8448x1x2048, .f32⟩
  | .hbm, ⟨29, _⟩ => ⟨S8448x2048, .f32⟩
  | .hbm, ⟨30, _⟩ => ⟨S8448x1024, .f32⟩
  | .hbm, ⟨31, _⟩ => ⟨S8448x2048, .f32⟩
  | .hbm, ⟨32, _⟩ => ⟨S8448x2048, .f32⟩
  | .hbm, ⟨33, _⟩ => ⟨S8448x2048, .f32⟩
  | .hbm, ⟨34, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== ProjKernel.lean ====
abbrev S8448x2048 : Shape := ⟨2, ![8448, 2048]⟩
abbrev S2048 : Shape := ⟨1, ![2048]⟩
abbrev S2048x12832 : Shape := ⟨2, ![2048, 12832]⟩
abbrev S_ : Shape := ⟨0, ![]⟩
abbrev S2048x512 : Shape := ⟨2, ![2048, 512]⟩
abbrev S2048x16 : Shape := ⟨2, ![2048, 16]⟩
abbrev S1 : Shape := ⟨1, ![1]⟩
abbrev S2048x1536 : Shape := ⟨2, ![2048, 1536]⟩
abbrev S2048x1024 : Shape := ⟨2, ![2048, 1024]⟩
abbrev S2048x6144 : Shape := ⟨2, ![2048, 6144]⟩
abbrev S2048x13312 : Shape := ⟨2, ![2048, 13312]⟩
abbrev S1x2048 : Shape := ⟨2, ![1, 2048]⟩
abbrev S8448x13312 : Shape := ⟨2, ![8448, 13312]⟩
abbrev S1056x2048 : Shape := ⟨2, ![1056, 2048]⟩
abbrev S1056x1024 : Shape := ⟨2, ![1056, 1024]⟩
abbrev S1056 : Shape := ⟨1, ![1056]⟩
abbrev S1056x1 : Shape := ⟨2, ![1056, 1]⟩
abbrev S2x4224x13312 : Shape := ⟨3, ![2, 4224, 13312]⟩
abbrev S2x4112x1024 : Shape := ⟨3, ![2, 4112, 1024]⟩
abbrev S2x4112x16x64 : Shape := ⟨4, ![2, 4112, 16, 64]⟩
abbrev S2x3x1536 : Shape := ⟨3, ![2, 3, 1536]⟩
abbrev S2x15x1024 : Shape := ⟨3, ![2, 15, 1024]⟩
abbrev S8448x1024 : Shape := ⟨2, ![8448, 1024]⟩
abbrev S8448x1536 : Shape := ⟨2, ![8448, 1536]⟩
abbrev S8448x16 : Shape := ⟨2, ![8448, 16]⟩
abbrev S8448x6144 : Shape := ⟨2, ![8448, 6144]⟩

abbrev nBuf : Space → Nat
  | .hbm => 38
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12832, .f32⟩
  | .hbm, ⟨3, _⟩ => ⟨S_, .f32⟩
  | .hbm, ⟨4, _⟩ => ⟨S2048x512, .f32⟩
  | .hbm, ⟨5, _⟩ => ⟨S2048x16, .f32⟩
  | .hbm, ⟨6, _⟩ => ⟨S_, .i32⟩
  | .hbm, ⟨7, _⟩ => ⟨S1, .i32⟩
  | .hbm, ⟨8, _⟩ => ⟨S2048x512, .f32⟩
  | .hbm, ⟨9, _⟩ => ⟨S2048x16, .f32⟩
  | .hbm, ⟨10, _⟩ => ⟨S_, .i32⟩
  | .hbm, ⟨11, _⟩ => ⟨S1, .i32⟩
  | .hbm, ⟨12, _⟩ => ⟨S2048x512, .f32⟩
  | .hbm, ⟨13, _⟩ => ⟨S2048x1536, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x6144, .f32⟩
  | .hbm, ⟨20, _⟩ => ⟨S2048x13312, .f32⟩
  | .hbm, ⟨21, _⟩ => ⟨S2048x13312, .bf16⟩
  | .hbm, ⟨22, _⟩ => ⟨S1x2048, .f32⟩
  | .hbm, ⟨23, _⟩ => ⟨S8448x13312, .f32⟩
  | .hbm, ⟨24, _⟩ => ⟨S2x4224x13312, .f32⟩
  | .hbm, ⟨25, _⟩ => ⟨S2x4112x1024, .f32⟩
  | .hbm, ⟨26, _⟩ => ⟨S2x4112x16x64, .f32⟩
  | .hbm, ⟨27, _⟩ => ⟨S2x4112x1024, .f32⟩
  | .hbm, ⟨28, _⟩ => ⟨S2x4112x16x64, .f32⟩
  | .hbm, ⟨29, _⟩ => ⟨S2x3x1536, .f32⟩
  | .hbm, ⟨30, _⟩ => ⟨S2x15x1024, .f32⟩
  | .hbm, ⟨31, _⟩ => ⟨S8448x1024, .f32⟩
  | .hbm, ⟨32, _⟩ => ⟨S8448x1024, .f32⟩
  | .hbm, ⟨33, _⟩ => ⟨S8448x1536, .f32⟩
  | .hbm, ⟨34, _⟩ => ⟨S8448x16, .f32⟩
  | .hbm, ⟨35, _⟩ => ⟨S8448x1024, .f32⟩
  | .hbm, ⟨36, _⟩ => ⟨S8448x16, .f32⟩
  | .hbm, ⟨37, _⟩ => ⟨S8448x6144, .f32⟩
  | .local _ .vmem, ⟨0, _⟩ => ⟨S1056x2048, .f32⟩
  | .local _ .vmem, ⟨1, _⟩ => ⟨S1056x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1056x1024, .f32⟩
  | .local _ .vmem, ⟨6, _⟩ => ⟨S1056x1024, .f32⟩
  | .local _ .vmem, ⟨7, _⟩ => ⟨S1056x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReferenceIdeal.lean ====
abbrev S8448x2048 : Shape := ⟨2, ![8448, 2048]⟩
abbrev S2048 : Shape := ⟨1, ![2048]⟩
abbrev S2048x12832 : Shape := ⟨2, ![2048, 12832]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x12832 : Shape := ⟨2, ![8448, 12832]⟩
abbrev S2x4224x12832 : Shape := ⟨3, ![2, 4224, 12832]⟩
abbrev S2x4112x12832 : Shape := ⟨3, ![2, 4112, 12832]⟩
abbrev S2x4112x1024 : Shape := ⟨3, ![2, 4112, 1024]⟩
abbrev S2x4112x16x64 : Shape := ⟨4, ![2, 4112, 16, 64]⟩
abbrev S2x4112x1536 : Shape := ⟨3, ![2, 4112, 1536]⟩
abbrev S2x3x1536 : Shape := ⟨3, ![2, 3, 1536]⟩
abbrev S2x15x1024 : Shape := ⟨3, ![2, 15, 1024]⟩
abbrev S8448x1024 : Shape := ⟨2, ![8448, 1024]⟩
abbrev S8448x1536 : Shape := ⟨2, ![8448, 1536]⟩
abbrev S8448x16 : Shape := ⟨2, ![8448, 16]⟩
abbrev S8448x6144 : Shape := ⟨2, ![8448, 6144]⟩

abbrev nBuf : Space → Nat
  | .hbm => 37
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12832, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x12832, .f32⟩
  | .hbm, ⟨20, _⟩ => ⟨S2x4224x12832, .f32⟩
  | .hbm, ⟨21, _⟩ => ⟨S2x4112x12832, .f32⟩
  | .hbm, ⟨22, _⟩ => ⟨S2x4112x1024, .f32⟩
  | .hbm, ⟨23, _⟩ => ⟨S2x4112x16x64, .f32⟩
  | .hbm, ⟨24, _⟩ => ⟨S2x4112x1024, .f32⟩
  | .hbm, ⟨25, _⟩ => ⟨S2x4112x16x64, .f32⟩
  | .hbm, ⟨26, _⟩ => ⟨S2x4112x1536, .f32⟩
  | .hbm, ⟨27, _⟩ => ⟨S2x3x1536, .f32⟩
  | .hbm, ⟨28, _⟩ => ⟨S2x4112x1024, .f32⟩
  | .hbm, ⟨29, _⟩ => ⟨S2x15x1024, .f32⟩
  | .hbm, ⟨30, _⟩ => ⟨S8448x1024, .f32⟩
  | .hbm, ⟨31, _⟩ => ⟨S8448x1024, .f32⟩
  | .hbm, ⟨32, _⟩ => ⟨S8448x1536, .f32⟩
  | .hbm, ⟨33, _⟩ => ⟨S8448x16, .f32⟩
  | .hbm, ⟨34, _⟩ => ⟨S8448x1024, .f32⟩
  | .hbm, ⟨35, _⟩ => ⟨S8448x16, .f32⟩
  | .hbm, ⟨36, _⟩ => ⟨S8448x6144, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== SampKernel.lean ====
abbrev S128x2048 : Shape := ⟨2, ![128, 2048]⟩
abbrev S2048 : Shape := ⟨1, ![2048]⟩
abbrev S2048x12832 : Shape := ⟨2, ![2048, 12832]⟩
abbrev S8x3x1536 : Shape := ⟨3, ![8, 3, 1536]⟩
abbrev S8x15x1024 : Shape := ⟨3, ![8, 15, 1024]⟩
abbrev S_ : Shape := ⟨0, ![]⟩
abbrev S2048x512 : Shape := ⟨2, ![2048, 512]⟩
abbrev S2048x16 : Shape := ⟨2, ![2048, 16]⟩
abbrev S1 : Shape := ⟨1, ![1]⟩
abbrev S2048x1536 : Shape := ⟨2, ![2048, 1536]⟩
abbrev S2048x1024 : Shape := ⟨2, ![2048, 1024]⟩
abbrev S2048x6144 : Shape := ⟨2, ![2048, 6144]⟩
abbrev S2048x13312 : Shape := ⟨2, ![2048, 13312]⟩
abbrev S1x2048 : Shape := ⟨2, ![1, 2048]⟩
abbrev S128x13312 : Shape := ⟨2, ![128, 13312]⟩
abbrev S128x1024 : Shape := ⟨2, ![128, 1024]⟩
abbrev S128 : Shape := ⟨1, ![128]⟩
abbrev S128x1 : Shape := ⟨2, ![128, 1]⟩
abbrev S8x16x13312 : Shape := ⟨3, ![8, 16, 13312]⟩
abbrev S8x1x13312 : Shape := ⟨3, ![8, 1, 13312]⟩
abbrev S8x1x1024 : Shape := ⟨3, ![8, 1, 1024]⟩
abbrev S8x1x16x64 : Shape := ⟨4, ![8, 1, 16, 64]⟩
abbrev S8x2x1536 : Shape := ⟨3, ![8, 2, 1536]⟩
abbrev S8x1x1536 : Shape := ⟨3, ![8, 1, 1536]⟩
abbrev S8x14x1024 : Shape := ⟨3, ![8, 14, 1024]⟩

abbrev nBuf : Space → Nat
  | .hbm => 38
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x12832, .f32⟩
  | .hbm, ⟨3, _⟩ => ⟨S8x3x1536, .f32⟩
  | .hbm, ⟨4, _⟩ => ⟨S8x15x1024, .f32⟩
  | .hbm, ⟨5, _⟩ => ⟨S_, .f32⟩
  | .hbm, ⟨6, _⟩ => ⟨S2048x512, .f32⟩
  | .hbm, ⟨7, _⟩ => ⟨S2048x16, .f32⟩
  | .hbm, ⟨8, _⟩ => ⟨S_, .i32⟩
  | .hbm, ⟨9, _⟩ => ⟨S1, .i32⟩
  | .hbm, ⟨10, _⟩ => ⟨S2048x512, .f32⟩
  | .hbm, ⟨11, _⟩ => ⟨S2048x16, .f32⟩
  | .hbm, ⟨12, _⟩ => ⟨S_, .i32⟩
  | .hbm, ⟨13, _⟩ => ⟨S1, .i32⟩
  | .hbm, ⟨14, _⟩ => ⟨S2048x512, .f32⟩
  | .hbm, ⟨15, _⟩ => ⟨S2048x1536, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x6144, .f32⟩
  | .hbm, ⟨22, _⟩ => ⟨S2048x13312, .f32⟩
  | .hbm, ⟨23, _⟩ => ⟨S2048x13312, .bf16⟩
  | .hbm, ⟨24, _⟩ => ⟨S1x2048, .f32⟩
  | .hbm, ⟨25, _⟩ => ⟨S128x13312, .f32⟩
  | .hbm, ⟨26, _⟩ => ⟨S8x16x13312, .f32⟩
  | .hbm, ⟨27, _⟩ => ⟨S8x1x13312, .f32⟩
  | .hbm, ⟨28, _⟩ => ⟨S8x1x1024, .f32⟩
  | .hbm, ⟨29, _⟩ => ⟨S8x1x16x64, .f32⟩
  | .hbm, ⟨30, _⟩ => ⟨S8x1x1024, .f32⟩
  | .hbm, ⟨31, _⟩ => ⟨S8x1x16x64, .f32⟩
  | .hbm, ⟨32, _⟩ => ⟨S8x2x1536, .f32⟩
  | .hbm, ⟨33, _⟩ => ⟨S8x1x1536, .f32⟩
  | .hbm, ⟨34, _⟩ => ⟨S8x3x1536, .f32⟩
  | .hbm, ⟨35, _⟩ => ⟨S8x14x1024, .f32⟩
  | .hbm, ⟨36, _⟩ => ⟨S8x1x1024, .f32⟩
  | .hbm, ⟨37, _⟩ => ⟨S8x15x1024, .f32⟩
  | .local _ .vmem, ⟨0, _⟩ => ⟨S128x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampReferenceIdeal.lean ====
abbrev S128x2048 : Shape := ⟨2, ![128, 2048]⟩
abbrev S2048 : Shape := ⟨1, ![2048]⟩
abbrev S2048x12832 : Shape := ⟨2, ![2048, 12832]⟩
abbrev S8x3x1536 : Shape := ⟨3, ![8, 3, 1536]⟩
abbrev S8x15x1024 : Shape := ⟨3, ![8, 15, 1024]⟩
abbrev S8x16x2048 : Shape := ⟨3, ![8, 16, 2048]⟩
abbrev S8x1x2048 : Shape := ⟨3, ![8, 1, 2048]⟩
abbrev S8x2048 : Shape := ⟨2, ![8, 2048]⟩
abbrev S_ : Shape := ⟨0, ![]⟩
abbrev S8 : Shape := ⟨1, ![8]⟩
abbrev S8x1 : Shape := ⟨2, ![8, 1]⟩
abbrev S1x2048 : Shape := ⟨2, ![1, 2048]⟩
abbrev S8x12832 : Shape := ⟨2, ![8, 12832]⟩
abbrev S8x1x12832 : Shape := ⟨3, ![8, 1, 12832]⟩
abbrev S8x1x1024 : Shape := ⟨3, ![8, 1, 1024]⟩
abbrev S8x1x16x64 : Shape := ⟨4, ![8, 1, 16, 64]⟩
abbrev S8x1x1536 : Shape := ⟨3, ![8, 1, 1536]⟩
abbrev S8x4x1536 : Shape := ⟨3, ![8, 4, 1536]⟩
abbrev S8x16x1024 : Shape := ⟨3, ![8, 16, 1024]⟩

abbrev nBuf : Space → Nat
  | .hbm => 36
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x12832, .f32⟩
  | .hbm, ⟨3, _⟩ => ⟨S8x3x1536, .f32⟩
  | .hbm, ⟨4, _⟩ => ⟨S8x15x1024, .f32⟩
  | .hbm, ⟨5, _⟩ => ⟨S8x16x2048, .f32⟩
  | .hbm, ⟨6, _⟩ => ⟨S8x1x2048, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8, .f32⟩
  | .hbm, ⟨11, _⟩ => ⟨S8x1, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S_, .f32⟩
  | .hbm, ⟨16, _⟩ => ⟨S8x1, .f32⟩
  | .hbm, ⟨17, _⟩ => ⟨S8x1, .f32⟩
  | .hbm, ⟨18, _⟩ => ⟨S8x1, .f32⟩
  | .hbm, ⟨19, _⟩ => ⟨S8x2048, .f32⟩
  | .hbm, ⟨20, _⟩ => ⟨S8x2048, .f32⟩
  | .hbm, ⟨21, _⟩ => ⟨S1x2048, .f32⟩
  | .hbm, ⟨22, _⟩ => ⟨S8x2048, .f32⟩
  | .hbm, ⟨23, _⟩ => ⟨S8x2048, .f32⟩
  | .hbm, ⟨24, _⟩ => ⟨S8x12832, .f32⟩
  | .hbm, ⟨25, _⟩ => ⟨S8x1x12832, .f32⟩
  | .hbm, ⟨26, _⟩ => ⟨S8x1x1024, .f32⟩
  | .hbm, ⟨27, _⟩ => ⟨S8x1x16x64, .f32⟩
  | .hbm, ⟨28, _⟩ => ⟨S8x1x1024, .f32⟩
  | .hbm, ⟨29, _⟩ => ⟨S8x1x16x64, .f32⟩
  | .hbm, ⟨30, _⟩ => ⟨S8x1x1536, .f32⟩
  | .hbm, ⟨31, _⟩ => ⟨S8x4x1536, .f32⟩
  | .hbm, ⟨32, _⟩ => ⟨S8x3x1536, .f32⟩
  | .hbm, ⟨33, _⟩ => ⟨S8x1x1024, .f32⟩
  | .hbm, ⟨34, _⟩ => ⟨S8x16x1024, .f32⟩
  | .hbm, ⟨35, _⟩ => ⟨S8x15x1024, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== ForgetKernel.lean ====
abbrev S8448x13312 : Shape := ⟨2, ![8448, 13312]⟩
abbrev S2x16x1024 : Shape := ⟨3, ![2, 16, 1024]⟩
abbrev S4x256x256 : Shape := ⟨3, ![4, 256, 256]⟩
abbrev S1024 : Shape := ⟨1, ![1024]⟩
abbrev S16 : Shape := ⟨1, ![16]⟩
abbrev S1x1024 : Shape := ⟨2, ![1, 1024]⟩
abbrev S1x16 : Shape := ⟨2, ![1, 16]⟩
abbrev S8448x1024 : Shape := ⟨2, ![8448, 1024]⟩
abbrev S8448x16 : Shape := ⟨2, ![8448, 16]⟩
abbrev S2x16x4224 : Shape := ⟨3, ![2, 16, 4224]⟩
abbrev S128x1024 : Shape := ⟨2, ![128, 1024]⟩
abbrev S128x512 : Shape := ⟨2, ![128, 512]⟩
abbrev S1x16x1024 : Shape := ⟨3, ![1, 16, 1024]⟩
abbrev S128x16 : Shape := ⟨2, ![128, 16]⟩
abbrev S1x16x128 : Shape := ⟨3, ![1, 16, 128]⟩
abbrev S144x1024 : Shape := ⟨2, ![144, 1024]⟩
abbrev S16x1024 : Shape := ⟨2, ![16, 1024]⟩
abbrev S128x1 : Shape := ⟨2, ![128, 1]⟩
abbrev S128x256 : Shape := ⟨2, ![128, 256]⟩
abbrev S1x256x256 : Shape := ⟨3, ![1, 256, 256]⟩
abbrev S256x256 : Shape := ⟨2, ![256, 256]⟩
abbrev S1x256 : Shape := ⟨2, ![1, 256]⟩
abbrev S128x128 : Shape := ⟨2, ![128, 128]⟩
abbrev S128x112 : Shape := ⟨2, ![128, 112]⟩
abbrev S16x128 : Shape := ⟨2, ![16, 128]⟩
abbrev S2x4224x16 : Shape := ⟨3, ![2, 4224, 16]⟩
abbrev S2x4112x16 : Shape := ⟨3, ![2, 4112, 16]⟩

abbrev nBuf : Space → Nat
  | .hbm => 14
  | .vmem => 19
  | .smem => 0
  | _ => 0

abbrev bufTy : (tb : Table) → Fin (tcTables nBuf tb) → BufTy
  | .hbm, ⟨0, _⟩ => ⟨S8448x13312, .f32⟩
  | .hbm, ⟨1, _⟩ => ⟨S2x16x1024, .f32⟩
  | .hbm, ⟨2, _⟩ => ⟨S4x256x256, .f32⟩
  | .hbm, ⟨3, _⟩ => ⟨S1024, .f32⟩
  | .hbm, ⟨4, _⟩ => ⟨S16, .f32⟩
  | .hbm, ⟨5, _⟩ => ⟨S4x256x256, .bf16⟩
  | .hbm, ⟨6, _⟩ => ⟨S1x1024, .f32⟩
  | .hbm, ⟨7, _⟩ => ⟨S1x16, .f32⟩
  | .hbm, ⟨8, _⟩ => ⟨S8448x1024, .bf16⟩
  | .hbm, ⟨9, _⟩ => ⟨S8448x16, .f32⟩
  | .hbm, ⟨10, _⟩ => ⟨S8448x16, .f32⟩
  | .hbm, ⟨11, _⟩ => ⟨S2x16x4224, .f32⟩
  | .hbm, ⟨12, _⟩ => ⟨S2x4224x16, .f32⟩
  | .hbm, ⟨13, _⟩ => ⟨S2x4112x16, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S1x16x1024, .f32⟩
  | .local _ .vmem, ⟨5, _⟩ => ⟨S1x16x1024, .f32⟩
  | .local _ .vmem, ⟨6, _⟩ => ⟨S4x256x256, .bf16⟩
  | .local _ .vmem, ⟨7, _⟩ => ⟨S1x1024, .f32⟩
  | .local _ .vmem, ⟨8, _⟩ => ⟨S1x16, .f32⟩
  | .local _ .vmem, ⟨9, _⟩ => ⟨S128x1024, .bf16⟩
  | .local _ .vmem, ⟨10, _⟩ => ⟨S128x1024, .bf16⟩
  | .local _ .vmem, ⟨11, _⟩ => ⟨S128x16, .f32⟩
  | .local _ .vmem, ⟨12, _⟩ => ⟨S128x16, .f32⟩
  | .local _ .vmem, ⟨13, _⟩ => ⟨S128x16, .f32⟩
  | .local _ .vmem, ⟨14, _⟩ => ⟨S128x16, .f32⟩
  | .local _ .vmem, ⟨15, _⟩ => ⟨S1x16x128, .f32⟩
  | .local _ .vmem, ⟨16, _⟩ => ⟨S1x16x128, .f32⟩
  | .local _ .vmem, ⟨17, _⟩ => ⟨S144x1024, .f32⟩
  | .local _ .vmem, ⟨18, _⟩ => ⟨S1x16, .f32⟩
  | _, _ => ⟨S8448x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c3_i32 : BitVec 32 := 3#32
  let c0_i32 : BitVec 32 := 0#32
  ![v1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ForgetKernelIdeal.lean ====
abbrev S8448x13312 : Shape := ⟨2, ![8448, 13312]⟩
abbrev S2x16x1024 : Shape := ⟨3, ![2, 16, 1024]⟩
abbrev S4x256x256 : Shape := ⟨3, ![4, 256, 256]⟩
abbrev S1024 : Shape := ⟨1, ![1024]⟩
abbrev S16 : Shape := ⟨1, ![16]⟩
abbrev S1x1024 : Shape := ⟨2, ![1, 1024]⟩
abbrev S1x16 : Shape := ⟨2, ![1, 16]⟩
abbrev S8448x1024 : Shape := ⟨2, ![8448, 1024]⟩
abbrev S8448x16 : Shape := ⟨2, ![8448, 16]⟩
abbrev S2x16x4224 : Shape := ⟨3, ![2, 16, 4224]⟩
abbrev S128x1024 : Shape := ⟨2, ![128, 1024]⟩
abbrev S128x512 : Shape := ⟨2, ![128, 512]⟩
abbrev S1x16x1024 : Shape := ⟨3, ![1, 16, 1024]⟩
abbrev S128x16 : Shape := ⟨2, ![128, 16]⟩
abbrev S1x16x128 : Shape := ⟨3, ![1, 16, 128]⟩
abbrev S144x1024 : Shape := ⟨2, ![144, 1024]⟩
abbrev S16x1024 : Shape := ⟨2, ![16, 1024]⟩
abbrev S128x1 : Shape := ⟨2, ![128, 1]⟩
abbrev S128x256 : Shape := ⟨2, ![128, 256]⟩
abbrev S1x256x256 : Shape := ⟨3, ![1, 256, 256]⟩
abbrev S256x256 : Shape := ⟨2, ![256, 256]⟩
abbrev S1x256 : Shape := ⟨2, ![1, 256]⟩
abbrev S128x128 : Shape := ⟨2, ![128, 128]⟩
abbrev S128x112 : Shape := ⟨2, ![128, 112]⟩
abbrev S16x128 : Shape := ⟨2, ![16, 128]⟩
abbrev S2x4224x16 : Shape := ⟨3, ![2, 4224, 16]⟩
abbrev S2x4112x16 : Shape := ⟨3, ![2, 4112, 16]⟩

abbrev nBuf : Space → Nat
  | .hbm => 14
  | .vmem => 19
  | .smem => 0
  | _ => 0

abbrev bufTy : (tb : Table) → Fin (tcTables nBuf tb) → BufTy
  | .hbm, ⟨0, _⟩ => ⟨S8448x13312, .f32⟩
  | .hbm, ⟨1, _⟩ => ⟨S2x16x1024, .f32⟩
  | .hbm, ⟨2, _⟩ => ⟨S4x256x256, .f32⟩
  | .hbm, ⟨3, _⟩ => ⟨S1024, .f32⟩
  | .hbm, ⟨4, _⟩ => ⟨S16, .f32⟩
  | .hbm, ⟨5, _⟩ => ⟨S4x256x256, .bf16⟩
  | .hbm, ⟨6, _⟩ => ⟨S1x1024, .f32⟩
  | .hbm, ⟨7, _⟩ => ⟨S1x16, .f32⟩
  | .hbm, ⟨8, _⟩ => ⟨S8448x1024, .bf16⟩
  | .hbm, ⟨9, _⟩ => ⟨S8448x16, .f32⟩
  | .hbm, ⟨10, _⟩ => ⟨S8448x16, .f32⟩
  | .hbm, ⟨11, _⟩ => ⟨S2x16x4224, .f32⟩
  | .hbm, ⟨12, _⟩ => ⟨S2x4224x16, .f32⟩
  | .hbm, ⟨13, _⟩ => ⟨S2x4112x16, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S1x16x1024, .f32⟩
  | .local _ .vmem, ⟨5, _⟩ => ⟨S1x16x1024, .f32⟩
  | .local _ .vmem, ⟨6, _⟩ => ⟨S4x256x256, .bf16⟩
  | .local _ .vmem, ⟨7, _⟩ => ⟨S1x1024, .f32⟩
  | .local _ .vmem, ⟨8, _⟩ => ⟨S1x16, .f32⟩
  | .local _ .vmem, ⟨9, _⟩ => ⟨S128x1024, .bf16⟩
  | .local _ .vmem, ⟨10, _⟩ => ⟨S128x1024, .bf16⟩
  | .local _ .vmem, ⟨11, _⟩ => ⟨S128x16, .f32⟩
  | .local _ .vmem, ⟨12, _⟩ => ⟨S128x16, .f32⟩
  | .local _ .vmem, ⟨13, _⟩ => ⟨S128x16, .f32⟩
  | .local _ .vmem, ⟨14, _⟩ => ⟨S128x16, .f32⟩
  | .local _ .vmem, ⟨15, _⟩ => ⟨S1x16x128, .f32⟩
  | .local _ .vmem, ⟨16, _⟩ => ⟨S1x16x128, .f32⟩
  | .local _ .vmem, ⟨17, _⟩ => ⟨S144x1024, .f32⟩
  | .local _ .vmem, ⟨18, _⟩ => ⟨S1x16, .f32⟩
  | _, _ => ⟨S8448x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c3_i32 : BitVec 32 := 3#32
  let c0_i32 : BitVec 32 := 0#32
  ![v1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ForgetReferenceIdeal.lean ====
abbrev S8448x13312 : Shape := ⟨2, ![8448, 13312]⟩
abbrev S2x16x1024 : Shape := ⟨3, ![2, 16, 1024]⟩
abbrev S4x256x256 : Shape := ⟨3, ![4, 256, 256]⟩
abbrev S1024 : Shape := ⟨1, ![1024]⟩
abbrev S16 : Shape := ⟨1, ![16]⟩
abbrev S2x4224x13312 : Shape := ⟨3, ![2, 4224, 13312]⟩
abbrev S2x4112x16 : Shape := ⟨3, ![2, 4112, 16]⟩
abbrev S1x1x16 : Shape := ⟨3, ![1, 1, 16]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8448x13312, .f32⟩
  | .hbm, ⟨1, _⟩ => ⟨S2x16x1024, .f32⟩
  | .hbm, ⟨2, _⟩ => ⟨S4x256x256, .f32⟩
  | .hbm, ⟨3, _⟩ => ⟨S1024, .f32⟩
  | .hbm, ⟨4, _⟩ => ⟨S16, .f32⟩
  | .hbm, ⟨5, _⟩ => ⟨S2x4224x13312, .f32⟩
  | .hbm, ⟨6, _⟩ => ⟨S2x4112x16, .f32⟩
  | .hbm, ⟨7, _⟩ => ⟨S1x1x16, .f32⟩
  | .hbm, ⟨8, _⟩ => ⟨S2x4112x16, .f32⟩
  | .hbm, ⟨9, _⟩ => ⟨S2x4112x16, .f32⟩
  | .hbm, ⟨10, _⟩ => ⟨S2x4112x16, .f32⟩
  | .hbm, ⟨11, _⟩ => ⟨S_, .f32⟩
  | .hbm, ⟨12, _⟩ => ⟨S2x4112x16, .f32⟩
  | .hbm, ⟨13, _⟩ => ⟨S2x4112x16, .f32⟩
  | .hbm, ⟨14, _⟩ => ⟨S2x4112x16, .f32⟩
  | .hbm, ⟨15, _⟩ => ⟨S2x4112x16, .f32⟩
  | .hbm, ⟨16, _⟩ => ⟨S2x4112x16, .i1⟩
  | .hbm, ⟨17, _⟩ => ⟨S2x4112x16, .f32⟩
  | .hbm, ⟨18, _⟩ => ⟨S2x4112x16, .f32⟩
  | .hbm, ⟨19, _⟩ => ⟨S2x4112x16, .f32⟩
  | .hbm, ⟨20, _⟩ => ⟨S2x4112x16, .f32⟩
  | .hbm, ⟨21, _⟩ => ⟨S2x4112x16, .f32⟩
  | .hbm, ⟨22, _⟩ => ⟨S2x4112x16, .f32⟩
  | .hbm, ⟨23, _⟩ => ⟨S2x4112x16, .f32⟩
  | .hbm, ⟨24, _⟩ => ⟨S2x4112x16, .f32⟩
  | .hbm, ⟨25, _⟩ => ⟨S2x4112x16, .f32⟩
  | _, _ => ⟨S8448x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v5 : Ref sig .tc := ⟨.hbm, 25, rfl⟩

abbrev nD : Nat := 1
abbrev τ : Topo := Topo.v7x

variable {F : FTy → Type} [FloatOps F]
-- ==== SampForgetKernel.lean ====
abbrev S128x13312 : Shape := ⟨2, ![128, 13312]⟩
abbrev S8x16x1024 : Shape := ⟨3, ![8, 16, 1024]⟩
abbrev S4x256x256 : Shape := ⟨3, ![4, 256, 256]⟩
abbrev S1024 : Shape := ⟨1, ![1024]⟩
abbrev S16 : Shape := ⟨1, ![16]⟩
abbrev S1x1024 : Shape := ⟨2, ![1, 1024]⟩
abbrev S1x16 : Shape := ⟨2, ![1, 16]⟩
abbrev S128x1024 : Shape := ⟨2, ![128, 1024]⟩
abbrev S128x16 : Shape := ⟨2, ![128, 16]⟩
abbrev S16x1024 : Shape := ⟨2, ![16, 1024]⟩
abbrev S16x512 : Shape := ⟨2, ![16, 512]⟩
abbrev S1x16x1024 : Shape := ⟨3, ![1, 16, 1024]⟩
abbrev S16x16 : Shape := ⟨2, ![16, 16]⟩
abbrev S32x1024 : Shape := ⟨2, ![32, 1024]⟩
abbrev S16x1 : Shape := ⟨2, ![16, 1]⟩
abbrev S16x256 : Shape := ⟨2, ![16, 256]⟩
abbrev S1x256x256 : Shape := ⟨3, ![1, 256, 256]⟩
abbrev S256x256 : Shape := ⟨2, ![256, 256]⟩
abbrev S1x256 : Shape := ⟨2, ![1, 256]⟩
abbrev S8x16x16 : Shape := ⟨3, ![8, 16, 16]⟩
abbrev S8x1x16 : Shape := ⟨3, ![8, 1, 16]⟩

abbrev nBuf : Space → Nat
  | .hbm => 12
  | .vmem => 14
  | .smem => 0
  | _ => 0

abbrev bufTy : (tb : Table) → Fin (tcTables nBuf tb) → BufTy
  | .hbm, ⟨0, _⟩ => ⟨S128x13312, .f32⟩
  | .hbm, ⟨1, _⟩ => ⟨S8x16x1024, .f32⟩
  | .hbm, ⟨2, _⟩ => ⟨S4x256x256, .f32⟩
  | .hbm, ⟨3, _⟩ => ⟨S1024, .f32⟩
  | .hbm, ⟨4, _⟩ => ⟨S16, .f32⟩
  | .hbm, ⟨5, _⟩ => ⟨S4x256x256, .bf16⟩
  | .hbm, ⟨6, _⟩ => ⟨S1x1024, .f32⟩
  | .hbm, ⟨7, _⟩ => ⟨S1x16, .f32⟩
  | .hbm, ⟨8, _⟩ => ⟨S128x1024, .bf16⟩
  | .hbm, ⟨9, _⟩ => ⟨S128x16, .f32⟩
  | .hbm, ⟨10, _⟩ => ⟨S8x16x16, .f32⟩
  | .hbm, ⟨11, _⟩ => ⟨S8x1x16, .f32⟩
  | .local _ .vmem, ⟨0, _⟩ => ⟨S16x1024, .f32⟩
  | .local _ .vmem, ⟨1, _⟩ => ⟨S16x1024, .f32⟩
  | .local _ .vmem, ⟨2, _⟩ => ⟨S16x512, .f32⟩
  | .local _ .vmem, ⟨3, _⟩ => ⟨S16x512, .f32⟩
  | .local _ .vmem, ⟨4, _⟩ => ⟨S1x16x1024, .f32⟩
  | .local _ .vmem, ⟨5, _⟩ => ⟨S1x16x1024, .f32⟩
  | .local _ .vmem, ⟨6, _⟩ => ⟨S4x256x256, .bf16⟩
  | .local _ .vmem, ⟨7, _⟩ => ⟨S1x1024, .f32⟩
  | .local _ .vmem, ⟨8, _⟩ => ⟨S1x16, .f32⟩
  | .local _ .vmem, ⟨9, _⟩ => ⟨S16x1024, .bf16⟩
  | .local _ .vmem, ⟨10, _⟩ => ⟨S16x1024, .bf16⟩
  | .local _ .vmem, ⟨11, _⟩ => ⟨S16x16, .f32⟩
  | .local _ .vmem, ⟨12, _⟩ => ⟨S16x16, .f32⟩
  | .local _ .vmem, ⟨13, _⟩ => ⟨S32x1024, .f32⟩
  | _, _ => ⟨S128x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SampForgetReferenceIdeal.lean ====
abbrev S128x13312 : Shape := ⟨2, ![128, 13312]⟩
abbrev S8x16x1024 : Shape := ⟨3, ![8, 16, 1024]⟩
abbrev S4x256x256 : Shape := ⟨3, ![4, 256, 256]⟩
abbrev S1024 : Shape := ⟨1, ![1024]⟩
abbrev S16 : Shape := ⟨1, ![16]⟩
abbrev S8x16x13312 : Shape := ⟨3, ![8, 16, 13312]⟩
abbrev S8x1x16 : Shape := ⟨3, ![8, 1, 16]⟩
abbrev S1x1x16 : Shape := ⟨3, ![1, 1, 16]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S128x13312, .f32⟩
  | .hbm, ⟨1, _⟩ => ⟨S8x16x1024, .f32⟩
  | .hbm, ⟨2, _⟩ => ⟨S4x256x256, .f32⟩
  | .hbm, ⟨3, _⟩ => ⟨S1024, .f32⟩
  | .hbm, ⟨4, _⟩ => ⟨S16, .f32⟩
  | .hbm, ⟨5, _⟩ => ⟨S8x16x13312, .f32⟩
  | .hbm, ⟨6, _⟩ => ⟨S8x1x16, .f32⟩
  | .hbm, ⟨7, _⟩ => ⟨S1x1x16, .f32⟩
  | .hbm, ⟨8, _⟩ => ⟨S8x1x16, .f32⟩
  | .hbm, ⟨9, _⟩ => ⟨S8x1x16, .f32⟩
  | .hbm, ⟨10, _⟩ => ⟨S8x1x16, .f32⟩
  | .hbm, ⟨11, _⟩ => ⟨S_, .f32⟩
  | .hbm, ⟨12, _⟩ => ⟨S8x1x16, .f32⟩
  | .hbm, ⟨13, _⟩ => ⟨S8x1x16, .f32⟩
  | .hbm, ⟨14, _⟩ => ⟨S8x1x16, .f32⟩
  | .hbm, ⟨15, _⟩ => ⟨S8x1x16, .f32⟩
  | .hbm, ⟨16, _⟩ => ⟨S8x1x16, .i1⟩
  | .hbm, ⟨17, _⟩ => ⟨S8x1x16, .f32⟩
  | .hbm, ⟨18, _⟩ => ⟨S8x1x16, .f32⟩
  | .hbm, ⟨19, _⟩ => ⟨S8x1x16, .f32⟩
  | .hbm, ⟨20, _⟩ => ⟨S8x1x16, .f32⟩
  | .hbm, ⟨21, _⟩ => ⟨S8x1x16, .f32⟩
  | .hbm, ⟨22, _⟩ => ⟨S8x1x16, .f32⟩
  | .hbm, ⟨23, _⟩ => ⟨S8x1x16, .f32⟩
  | .hbm, ⟨24, _⟩ => ⟨S8x1x16, .f32⟩
  | .hbm, ⟨25, _⟩ => ⟨S8x1x16, .f32⟩
  | _, _ => ⟨S128x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v5 : Ref sig .tc := ⟨.hbm, 25, rfl⟩

abbrev nD : Nat := 1
abbrev τ : Topo := Topo.v7x

variable {F : FTy → Type} [FloatOps F]
-- ==== OutKernel.lean ====
abbrev S8448x2048 : Shape := ⟨2, ![8448, 2048]⟩
abbrev S2048x2048 : Shape := ⟨2, ![2048, 2048]⟩
abbrev S1056x2048 : Shape := ⟨2, ![1056, 2048]⟩
abbrev S2048x512 : Shape := ⟨2, ![2048, 512]⟩
abbrev S1056x512 : Shape := ⟨2, ![1056, 512]⟩

abbrev nBuf : Space → Nat
  | .hbm => 5
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S2048x2048, .bf16⟩
  | .hbm, ⟨4, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .bf16⟩
  | .local _ .vmem, ⟨3, _⟩ => ⟨S2048x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S8448x2048 : Shape := ⟨2, ![8448, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S8448x2048, .f32⟩
  | .hbm, ⟨4, _⟩ => ⟨S8448x2048, .f32⟩
  | .hbm, ⟨5, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LastKernel.lean ====
abbrev S8448x2048 : Shape := ⟨2, ![8448, 2048]⟩
abbrev S2048 : Shape := ⟨1, ![2048]⟩
abbrev S1x2048 : Shape := ⟨2, ![1, 2048]⟩
abbrev S2x4096x2048 : Shape := ⟨3, ![2, 4096, 2048]⟩
abbrev S128x2048 : Shape := ⟨2, ![128, 2048]⟩
abbrev S1x128x2048 : Shape := ⟨3, ![1, 128, 2048]⟩
abbrev S112x2048 : Shape := ⟨2, ![112, 2048]⟩
abbrev S16x2048 : Shape := ⟨2, ![16, 2048]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S1x2048, .f32⟩
  | .hbm, ⟨3, _⟩ => ⟨S2x4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x128x2048, .f32⟩
  | .local _ .vmem, ⟨6, _⟩ => ⟨S1x128x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LastReferenceIdeal.lean ====
abbrev S8448x2048 : Shape := ⟨2, ![8448, 2048]⟩
abbrev S2048 : Shape := ⟨1, ![2048]⟩
abbrev S2x4224x2048 : Shape := ⟨3, ![2, 4224, 2048]⟩
abbrev S_ : Shape := ⟨0, ![]⟩
abbrev S2x4224 : Shape := ⟨2, ![2, 4224]⟩
abbrev S2x4224x1 : Shape := ⟨3, ![2, 4224, 1]⟩
abbrev S1x1x2048 : Shape := ⟨3, ![1, 1, 2048]⟩
abbrev S2x4096x2048 : Shape := ⟨3, ![2, 4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x4224x2048, .f32⟩
  | .hbm, ⟨3, _⟩ => ⟨S2x4224x2048, .f32⟩
  | .hbm, ⟨4, _⟩ => ⟨S_, .f32⟩
  | .hbm, ⟨5, _⟩ => ⟨S2x4224, .f32⟩
  | .hbm, ⟨6, _⟩ => ⟨S2x4224x1, .f32⟩
  | .hbm, ⟨7, _⟩ => ⟨S_, .f32⟩
  | .hbm, ⟨8, _⟩ => ⟨S2x4224x1, .f32⟩
  | .hbm, ⟨9, _⟩ => ⟨S2x4224x1, .f32⟩
  | .hbm, ⟨10, _⟩ => ⟨S_, .f32⟩
  | .hbm, ⟨11, _⟩ => ⟨S2x4224x1, .f32⟩
  | .hbm, ⟨12, _⟩ => ⟨S2x4224x1, .f32⟩
  | .hbm, ⟨13, _⟩ => ⟨S2x4224x1, .f32⟩
  | .hbm, ⟨14, _⟩ => ⟨S2x4224x2048, .f32⟩
  | .hbm, ⟨15, _⟩ => ⟨S2x4224x2048, .f32⟩
  | .hbm, ⟨16, _⟩ => ⟨S1x1x2048, .f32⟩
  | .hbm, ⟨17, _⟩ => ⟨S2x4224x2048, .f32⟩
  | .hbm, ⟨18, _⟩ => ⟨S2x4224x2048, .f32⟩
  | .hbm, ⟨19, _⟩ => ⟨S2x4096x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== TailKernel.lean ====
abbrev S128x2048 : Shape := ⟨2, ![128, 2048]⟩
abbrev S2048 : Shape := ⟨1, ![2048]⟩
abbrev S1x2048 : Shape := ⟨2, ![1, 2048]⟩
abbrev S128 : Shape := ⟨1, ![128]⟩
abbrev S128x1 : Shape := ⟨2, ![128, 1]⟩
abbrev S8x16x2048 : Shape := ⟨3, ![8, 16, 2048]⟩
abbrev S8x1x2048 : Shape := ⟨3, ![8, 1, 2048]⟩

abbrev nBuf : Space → Nat
  | .hbm => 6
  | .vmem => 3
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048, .f32⟩
  | .hbm, ⟨3, _⟩ => ⟨S128x2048, .f32⟩
  | .hbm, ⟨4, _⟩ => ⟨S8x16x2048, .f32⟩
  | .hbm, ⟨5, _⟩ => ⟨S8x1x2048, .f32⟩
  | .local _ .vmem, ⟨0, _⟩ => ⟨S128x2048, .f32⟩
  | .local _ .vmem, ⟨1, _⟩ => ⟨S1x2048, .f32⟩
  | .local _ .vmem, ⟨2, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== TailReferenceIdeal.lean ====
abbrev S128x2048 : Shape := ⟨2, ![128, 2048]⟩
abbrev S2048 : Shape := ⟨1, ![2048]⟩
abbrev S8x16x2048 : Shape := ⟨3, ![8, 16, 2048]⟩
abbrev S8x1x2048 : Shape := ⟨3, ![8, 1, 2048]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S8x16x2048, .f32⟩
  | .hbm, ⟨3, _⟩ => ⟨S8x1x2048, .f32⟩
  | .hbm, ⟨4, _⟩ => ⟨S8x1x2048, .f32⟩
  | .hbm, ⟨5, _⟩ => ⟨S_, .f32⟩
  | .hbm, ⟨6, _⟩ => ⟨S8x1, .f32⟩
  | .hbm, ⟨7, _⟩ => ⟨S8x1x1, .f32⟩
  | .hbm, ⟨8, _⟩ => ⟨S_, .f32⟩
  | .hbm, ⟨9, _⟩ => ⟨S8x1x1, .f32⟩
  | .hbm, ⟨10, _⟩ => ⟨S8x1x1, .f32⟩
  | .hbm, ⟨11, _⟩ => ⟨S_, .f32⟩
  | .hbm, ⟨12, _⟩ => ⟨S8x1x1, .f32⟩
  | .hbm, ⟨13, _⟩ => ⟨S8x1x1, .f32⟩
  | .hbm, ⟨14, _⟩ => ⟨S8x1x1, .f32⟩
  | .hbm, ⟨15, _⟩ => ⟨S8x1x2048, .f32⟩
  | .hbm, ⟨16, _⟩ => ⟨S8x1x2048, .f32⟩
  | .hbm, ⟨17, _⟩ => ⟨S1x1x2048, .f32⟩
  | .hbm, ⟨18, _⟩ => ⟨S8x1x2048, .f32⟩
  | .hbm, ⟨19, _⟩ => ⟨S8x1x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Common.lean ====
/-
  The scalar and row functions the layer's calls share, over the extended reals: the logistic function, silu, and a
  row's root-mean-square normalization.
-/
module

public import Idealize.ShloMosaic.Lib.Pointwise

@[expose] public section

noncomputable section

namespace Cert.Layer

open Idealize.ShloMosaic
open scoped BigOperators

/-- The logistic function as the programs write it: one over one plus the exponential of the negation. -/
def sigm (x : EReal) : EReal := Ideal.div 1 (1 + Ideal.exp (-x))

/-- `x · sigm x`. -/
def silu (x : EReal) : EReal := x * sigm x

/-- Entry `k` of a row of 2048 scaled by the reciprocal root of its mean square plus epsilon, times the gain. -/
def normAt (x : Fin 2048 → EReal) (g : EReal) (k : Fin 2048) : EReal :=
  x k * Ideal.rsqrt (Ideal.div (∑ j, x j * x j) (Ideal.ofBits .f32 0x45000000#32) + Ideal.ofBits .f32 0x358637BD#32) * g

end Cert.Layer

end
-- ==== Proof.SwigluBlock.lean ====
/-
  The feed-forward up projection, read block by block: the row block is normalized once, at its first column block, and
  kept; every grid point writes back a block of one whole-array function, the gated product of two projections of the
  normalized rows.
-/
module

public import proofs.«01_k».proof.Proof.Common
public import proofs.«01_k».proof.Proof.Gen.SwigluKernelIdeal.Value
public import Idealize.ShloMosaic.Lib.Pointwise
public import Idealize.ShloMosaic.Lib.Claim
public import Idealize.ShloMosaic.Lib.Pipeline.Value

@[expose] public section

set_option maxRecDepth 16384

noncomputable section

namespace Cert.SwigluKernelIdeal.Block

open Cert.SwigluKernelIdeal Cert.SwigluKernelIdeal.Gen Idealize.ShloMosaic Idealize.ShloMosaic.TcCoe Idealize.SL.Sem
open Idealize.ShloMosaic.Pipeline (Dat)
open Cert.Layer
open scoped BigOperators

variable (m : (ℓ : Loc nD τ sig) → Buf (Elt Ideal) ℓ)

theorem hz : (![0, 0] : Fin 2 → Nat) = fun _ => 0 := funext fun a => by fin_cases a <;> rfl

/-- Row `r` of `x`, normalized, at column `k`. -/
def rowAt (x : S8448x2048.Idx → EReal) (g : S2048.Idx → EReal) (r : Fin 8448) (k : Fin 2048) : EReal :=
  normAt (fun j => x (ix2 r j)) (g (ix1 k)) k

/-- The projection of normalized row `r` on column `q` of the packed weight. -/
def projAt (x : S8448x2048.Idx → EReal) (g : S2048.Idx → EReal) (w : S2048x11264.Idx → EReal) (r : Fin 8448)
    (q : Fin 11264) : EReal := ∑ k, rowAt x g r k * w (ix2 k q)

/-- The gated product at row `r` and column `q`: silu of the gate column times the up column. -/
def upAt (x : S8448x2048.Idx → EReal) (g : S2048.Idx → EReal) (w : S2048x11264.Idx → EReal) (r : Fin 8448)
    (q : Fin 5632) : EReal :=
  silu (projAt x g w r ⟨q.val, by omega⟩) * projAt x g w r ⟨5632 + q.val, by omega⟩

/-- The whole result array of a device's three argument arrays. -/
def upOf (c : Dev nD) : S8448x5632.Idx → EReal := fun i =>
  upAt (m ((c : Thread nD τ).loc main_arg0)) (m ((c : Thread nD τ).loc main_arg1)) (m ((c : Thread nD τ).loc main_arg2)) (i 0) (i 1)

/-- The normalized row block the first column's point keeps, entry by entry. -/
theorem pay1_apply (x : Vec Ideal S1056x2048 .f32) (g : Vec Ideal S1x2048 .f32) (r : Fin 1056) (k : Fin 2048) :
    (k0_pay1 (F := Ideal) x g : S1056x2048.Idx → EReal) (ix2 r k) = normAt (fun j => x (ix2 r j)) (g (ix2 0 k)) k := by
  pointwise [k0_pay1]
  rfl

/-- The block the body stores, entry by entry. -/
theorem pay2_apply (x : Vec Ideal S1056x2048 .bf16) (wg wu : Vec Ideal S2048x512 .bf16) (r : Fin 1056) (q : Fin 512) :
    (k0_pay2 (F := Ideal) x wg wu : S1056x512.Idx → EReal) (ix2 r q)
      = silu (∑ k, (x (ix2 r k) : EReal) * (wg (ix2 k q) : EReal)) * ∑ k, (x (ix2 r k) : EReal) * (wu (ix2 k q) : EReal) := by
  pointwise [k0_pay2, silu, sigm]
  rw [zero_sub]

/-- The block indices of the five windows at point `t`. -/
theorem index_facts : ∀ t : Fin grid0.N,
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = 11 + t.val % 11)
    ∧ (win0_4.index t 0 = t.val / 11 ∧ win0_4.index t 1 = t.val % 11) := by decide +kernel

/-- The weight the region finds is the argument (the host's conversion keeps every value). -/
theorem V_weight (c : Dev nD) : (V m c main_v0 : S2048x11264.Idx → EReal)
    = (m ((c : Thread nD τ).loc main_arg2) : S2048x11264.Idx → EReal) := by
  entry_read
  rfl

/-- The gain the region finds is the argument laid out as one row. -/
theorem V_gain (c : Dev nD) (k : Fin 2048) : (V m c main_v1 : S1x2048.Idx → EReal) (ix2 0 k)
    = (m ((c : Thread nD τ).loc main_arg1) : S2048.Idx → EReal) (ix1 k) := by
  have e : (V m c main_v1 : S1x2048.Idx → EReal) = shapeCast S1x2048 (m ((c : Thread nD τ).loc main_arg1) : Vec Ideal S2048 .f32) shapeCasts_S2048_S1x2048 := by
    entry_read
    rfl
  rw [e]
  pointwise

/-- The row window's block read at an entry. -/
theorem iblk0 (c : Dev nD) (t : Fin cfg0.N) (r : Fin 1056) (k : Fin 2048) (R : Fin 8448) (hR : R.val = t.val / 11 * 1056 + r.val) :
    (iblk m c 0 t : S1056x2048.Idx → EReal) (ix2 r k) = (m ((c : Thread nD τ).loc main_arg0) : S8448x2048.Idx → EReal) (ix2 R k) := by
  unfold iblk
  rw [View.read_apply]
  show V m c main_arg0 _ = _
  rw [V_main_arg0]
  congr 1
  funext a
  apply Fin.ext
  match a with
  | ⟨0, _⟩ => show win0_0.index t 0 * 1056 + 1 * r.val = R.val; rw [(index_facts t).1.1]; omega
  | ⟨1, _⟩ => show win0_0.index t 1 * 2048 + 1 * k.val = k.val; rw [(index_facts t).1.2]; omega

/-- The gain window's block read at an entry. -/
theorem iblk1 (c : Dev nD) (t : Fin cfg0.N) (k : Fin 2048) :
    (iblk m c 1 t : S1x2048.Idx → EReal) (ix2 0 k) = (m ((c : Thread nD τ).loc main_arg1) : S2048.Idx → EReal) (ix1 k) := by
  rw [← V_gain m c k]
  unfold iblk
  rw [View.read_apply]
  show (V m c main_v1 : S1x2048.Idx → EReal) _ = _
  congr 1
  funext a
  apply Fin.ext
  match a with
  | ⟨0, _⟩ => show win0_1.index t 0 * 1 + 1 * 0 = 0; rw [(index_facts t).2.1.1]
  | ⟨1, _⟩ => show win0_1.index t 1 * 2048 + 1 * k.val = k.val; rw [(index_facts t).2.1.2]; omega

/-- The gate weight window's block read at an entry. -/
theorem iblk2 (c : Dev nD) (t : Fin cfg0.N) (k : Fin 2048) (q : Fin 512) (Q : Fin 11264) (hQ : Q.val = t.val % 11 * 512 + q.val) :
    (iblk m c 2 t : S2048x512.Idx → EReal) (ix2 k q) = (m ((c : Thread nD τ).loc main_arg2) : S2048x11264.Idx → EReal) (ix2 k Q) := by
  unfold iblk
  rw [View.read_apply]
  show (V m c main_v0 : S2048x11264.Idx → EReal) _ = _
  rw [V_weight]
  congr 1
  funext a
  apply Fin.ext
  match a with
  | ⟨0, _⟩ => show win0_2.index t 0 * 2048 + 1 * k.val = k.val; rw [(index_facts t).2.2.1.1]; omega
  | ⟨1, _⟩ => show win0_2.index t 1 * 512 + 1 * q.val = Q.val; rw [(index_facts t).2.2.1.2]; omega

/-- The up weight window's block read at an entry. -/
theorem iblk3 (c : Dev nD) (t : Fin cfg0.N) (k : Fin 2048) (q : Fin 512) (Q : Fin 11264) (hQ : Q.val = (11 + t.val % 11) * 512 + q.val) :
    (iblk m c 3 t : S2048x512.Idx → EReal) (ix2 k q) = (m ((c : Thread nD τ).loc main_arg2) : S2048x11264.Idx → EReal) (ix2 k Q) := by
  unfold iblk
  rw [View.read_apply]
  show (V m c main_v0 : S2048x11264.Idx → EReal) _ = _
  rw [V_weight]
  congr 1
  funext a
  apply Fin.ext
  match a with
  | ⟨0, _⟩ => show win0_3.index t 0 * 2048 + 1 * k.val = k.val; rw [(index_facts t).2.2.2.1.1]; omega
  | ⟨1, _⟩ => show win0_3.index t 1 * 512 + 1 * q.val = Q.val; rw [(index_facts t).2.2.2.1.2]; omega

section Cases
variable (c : Dev nD) (i : grid0.Coords) (a2 : Memref sig .tc .vmem S1056x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S2048x512 .bf16) (h5 : a5.IsWhole) (a6 : Memref sig .tc .vmem S1056x512 .bf16) (h6 : a6.IsWhole)
  (a7 : Memref sig .tc .vmem S1056x2048 .bf16) (h7 : a7.IsWhole)
  (x0 : Vec Ideal S1056x2048 .f32) (x1 : Vec Ideal S1x2048 .f32) (x2 x3 : Vec Ideal S2048x512 .bf16)

/-- At a row block's first point the kept scratch is the normalized block. -/
theorem sout_A (hc : cond0_0 i) :
    sout0_A_0 c i a2 h2 a3 h3 a4 h4 a5 h5 a6 h6 a7 h7 hc x0 x1 x2 x3 = k0_pay1 x0 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz]
  simp only [View.readAt_eq_ld, h2.read_unread, h3.read_unread, View.ld_unit_zero (S := S1056x2048) hz, View.ld_unit_zero (S := S1x2048) hz]

/-- At a row block's first point the stored block is computed from the normalized block just kept. -/
theorem out_A (hc : cond0_0 i) :
    out0_A_4 c i a2 h2 a3 h3 a4 h4 a5 h5 a6 h6 a7 h7 hc x0 x1 x2 x3 = k0_pay2 (k0_pay1 x0 x1) x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz]
  simp only [View.readAt_eq_ld, h2.read_unread, h3.read_unread, h4.read_unread, h5.read_unread, View.readCov_unit_zero (S := S1056x2048) _ hz,
    View.ld_unit_zero (S := S1056x2048) hz, View.ld_unit_zero (S := S1x2048) hz, View.ld_unit_zero (S := S2048x512) hz]

/-- At a later point of a row block the stored block is computed from what the scratch holds. -/
theorem out_B (hc : ¬cond0_0 i) (xs : Vec Ideal S1056x2048 .bf16) :
    out0_B_4 c i a2 h2 a3 h3 a4 h4 a5 h5 a6 h6 a7 h7 hc x0 x1 x2 x3 xs = k0_pay2 xs x2 x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  try sl_unfold_words
  rw [View.canon_unit_zero hz]
  simp only [View.readAt_eq_ld, h4.read_unread, h5.read_unread, h7.read_unread,
    View.ld_unit_zero (S := S1056x2048) hz, View.ld_unit_zero (S := S2048x512) hz]
end Cases

/-- After point `n` the scratch holds the normalized rows of the point's row block. -/
theorem scratch (c : Dev nD) : ∀ (n : ℕ) (h : n < cfg0.N) (r : Fin 1056) (k : Fin 2048) (R : Fin 8448),
    R.val = n / 11 * 1056 + r.val → ((outsAt0 m c n h).2 : S1056x2048.Idx → EReal) (ix2 r k)
      = rowAt (m ((c : Thread nD τ).loc main_arg0)) (m ((c : Thread nD τ).loc main_arg1)) R k := by
  have first : ∀ (t : Fin cfg0.N) (h0 : t.val % 11 = 0) (r : Fin 1056) (k : Fin 2048) (R : Fin 8448),
      R.val = t.val / 11 * 1056 + r.val → ((outsAt0 m c t.val t.isLt).2 : S1056x2048.Idx → EReal) (ix2 r k)
      = rowAt (m ((c : Thread nD τ).loc main_arg0)) (m ((c : Thread nD τ).loc main_arg1)) R k := by
    intro t h0 r k R hR
    rw [outsAt0_A m c t h0]
    dsimp only
    rw [sout_A]
    refine (pay1_apply _ _ r k).trans ?_
    unfold rowAt
    simp only [iblk0 m c t _ _ R hR, iblk1]
  intro n
  induction n with
  | zero => exact fun h => first ⟨0, h⟩ rfl
  | succ n ih =>
    intro h r k R hR
    by_cases h0 : (n + 1) % 11 = 0
    · exact first ⟨n + 1, h⟩ h0 r k R hR
    · rw [outsAt0_B m c ⟨n + 1, h⟩ h0]
      exact ih (Nat.lt_of_succ_lt h) r k R (by omega)

/-- What point `t` stores: the gated product of the block kept in the scratch. -/
theorem stored (c : Dev nD) (t : Fin cfg0.N) :
    (outsAt0 m c t.val t.isLt).1 = k0_pay2 (outsAt0 m c t.val t.isLt).2 (iblk m c 2 t) (iblk m c 3 t) := by
  by_cases h0 : t.val % 11 = 0
  · rw [outsAt0_A m c t h0]
    dsimp only
    rw [out_A, sout_A]
  · rw [outsAt0_B m c t h0]
    dsimp only
    rw [out_B]
    rfl

/-- What point `t` writes back is block `t` of the whole-array function. -/
theorem flushed_eq (c : Dev nD) (t : Fin cfg0.N) :
    (dats m 0 c).flushed 4 t = ((cfg0.win 4).blk t).view.read (Elt Ideal) (upOf m c) := by
  rw [Value.flushed4, stored]
  funext (j : S1056x512.Idx)
  obtain ⟨r, q, rfl⟩ : ∃ (r : Fin 1056) (q : Fin 512), j = ix2 r q := ⟨j 0, j 1, eq_ix2 j⟩
  have hN : t.val < 88 := t.isLt
  have h0 := r.isLt
  have h1 := q.isLt
  rw [View.read_apply]
  obtain ⟨R, hR⟩ : ∃ R : Fin 8448, R.val = t.val / 11 * 1056 + r.val := ⟨⟨_, by omega⟩, rfl⟩
  obtain ⟨Q, hQ⟩ : ∃ Q : Fin 5632, Q.val = t.val % 11 * 512 + q.val := ⟨⟨_, by omega⟩, rfl⟩
  have e : ((cfg0.win 4).blk t).view.emb (ix2 r q : S1056x512.Idx) = (ix2 R Q : S8448x5632.Idx) := by
    funext a
    apply Fin.ext
    match a with
    | ⟨0, _⟩ => show win0_4.index t 0 * 1056 + 1 * r.val = R.val; rw [(index_facts t).2.2.2.2.1]; omega
    | ⟨1, _⟩ => show win0_4.index t 1 * 512 + 1 * q.val = Q.val; rw [(index_facts t).2.2.2.2.2]; omega
  rw [e]
  refine (pay2_apply _ _ _ r q).trans ?_
  show _ = upAt _ _ _ R Q
  unfold upAt projAt
  simp only [scratch m c t.val t.isLt r _ R hR, iblk2 m c t _ q ⟨Q.val, by omega⟩ hQ,
    iblk3 m c t _ q ⟨5632 + Q.val, by omega⟩ (by show 5632 + Q.val = _; omega)]

/-- Every index of the result lies in some point's block. -/
theorem cover (i : S8448x5632.Idx) : ∃ t : Fin cfg0.N, (cfg0.win 4).flush t = true ∧ i ∈ ((cfg0.win 4).blk t).view.set := by
  have h0 : (i 0).val < 8448 := (i 0).isLt
  have h1 : (i 1).val < 5632 := (i 1).isLt
  obtain ⟨t, ht⟩ : ∃ t : Fin cfg0.N, t.val = (i 0).val / 1056 * 11 + (i 1).val / 512 :=
    ⟨⟨_, by show _ < 88; omega⟩, rfl⟩
  refine ⟨t, flush0_4 t, ?_⟩
  show i ∈ ((View.whole main_v2).slice (win0_4.rect t)).set
  rw [View.set_slice_whole, Rect.mem_set_unit]
  intro a
  match a with
  | ⟨0, _⟩ => show win0_4.index t 0 * 1056 ≤ (i 0).val ∧ (i 0).val < win0_4.index t 0 * 1056 + 1056
              rw [(index_facts t).2.2.2.2.1]; omega
  | ⟨1, _⟩ => show win0_4.index t 1 * 512 ≤ (i 1).val ∧ (i 1).val < win0_4.index t 1 * 512 + 512
              rw [(index_facts t).2.2.2.2.2]; omega

/-- So the result array ends holding the whole-array function. -/
theorem final (c : Dev nD) : (dats m 0 c).arrAt 4 cfg0.N = upOf m c :=
  (dats m 0 c).arrAt_eq_of_cover 4 (upOf m c) (fun t _ => flushed_eq m c t) cover

end Cert.SwigluKernelIdeal.Block

end
-- ==== Proof.SwigluClaim.lean ====
/-
  The up projection's claims: its kernel ends at the gated product of two projections of the normalized rows, which is
  what the reference computes.
-/
module

public import proofs.«01_k».proof.Defs
public import proofs.«01_k».proof.Proof.SwigluBlock
public import proofs.«01_k».proof.Proof.Gen.SwigluKernel.Frame
public import proofs.«01_k».proof.Proof.Gen.SwigluReferenceIdeal.Run
public import proofs.«01_k».proof.Proof.Gen.SwigluReferenceIdeal.Read
public import Idealize.ShloMosaic.Lib.Quiescent

@[expose] public section

set_option maxRecDepth 16384

noncomputable section

namespace Cert.Proof.Swiglu

open Idealize.ShloMosaic Idealize.ShloMosaic.TcCoe Idealize.SL.Sem
open Cert.SwigluReferenceIdeal.Read
open scoped BigOperators

/-- The reference's normalized rows. -/
theorem norm_apply (x : Vec Ideal Cert.SwigluReferenceIdeal.S8448x2048 .f32) (g : Vec Ideal Cert.SwigluReferenceIdeal.S2048 .f32)
    (r : Fin 8448) (k : Fin 2048) :
    (val_main_v12 (F := Ideal) x g : Cert.SwigluReferenceIdeal.S8448x2048.Idx → EReal) (ix2 r k)
      = Cert.SwigluKernelIdeal.Block.rowAt x g r k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The reference's result at row `r` and column `q`. -/
theorem ref_apply (x : Vec Ideal Cert.SwigluReferenceIdeal.S8448x2048 .f32) (g : Vec Ideal Cert.SwigluReferenceIdeal.S2048 .f32)
    (w : Vec Ideal Cert.SwigluReferenceIdeal.S2048x11264 .f32) (r : Fin 8448) (q : Fin 5632) :
    (val_main_v18 (F := Ideal) x g w : Cert.SwigluReferenceIdeal.S8448x5632.Idx → EReal) (ix2 r q)
      = Cert.SwigluKernelIdeal.Block.upAt x g w r q := by
  pointwise [val_main_v18, val_main_v17, val_main_v16, val_main_v15, val_main_v14, val_main_v13, val_main_call0_v5,
    val_main_call0_v4, val_main_call0_v3, val_main_call0_v2, val_main_call0_v1, val_main_call0_v0, val_main_call0_cst,
    val_main_call0_cst_0]
  simp only [norm_apply]
  rfl

/-- The reference's frame: its run leaves the arguments, and it declares no semaphore. -/
theorem frame_ref : Cert.quiescent_SwigluReferenceIdeal := fun m ρ _ =>
  (θ_run Cert.SwigluReferenceIdeal.defs _ _).mono (fun r h => ⟨fun c => (h c).2, sem_eq_zero_of_no_sems rfl _⟩)
    (Cert.SwigluReferenceIdeal.Value.run (F := Ideal) m ρ)

/-- Over the extended reals the kernel computes the reference's function. -/
theorem algebraic : Cert.algebraic_SwigluKernelIdeal_SwigluReferenceIdeal := by
  intro m ρ m' ρ' _ hagree
  refine ⟨fun c => Cert.SwigluKernelIdeal.Block.upOf m c, ?_, ?_⟩
  · exact (θ_run Cert.SwigluKernelIdeal.defs _ _).mono
      (fun _ h c => ⟨(h c).1.trans (Cert.SwigluKernelIdeal.Block.final m c), (h c).2⟩)
      (Cert.SwigluKernelIdeal.Value.run_blocks (F := Ideal) m ρ)
  refine (θ_run Cert.SwigluReferenceIdeal.defs _ _).mono (fun _ h c => ⟨(h c).1.trans ?_, (h c).2⟩)
    (Cert.SwigluReferenceIdeal.Value.run (F := Ideal) m' ρ')
  rw [(hagree c).1, (hagree c).2.1, (hagree c).2.2]
  rw [Cert.SwigluReferenceIdeal.Read.val_main_v18_eq]
  funext (i : Cert.SwigluReferenceIdeal.S8448x5632.Idx)
  obtain ⟨r, q, rfl⟩ : ∃ (r : Fin 8448) (q : Fin 5632), i = ix2 r q := ⟨i 0, i 1, eq_ix2 i⟩
  exact ref_apply _ _ _ r q

end Cert.Proof.Swiglu

end
-- ==== Proof.DownBlock.lean ====
/-
  The feed-forward down projection, read block by block: what each grid point writes back is the block of one
  whole-array function, `x + 1/2 · (h · w)`, and the blocks cover the result.
-/
module

public import proofs.«01_k».proof.Proof.Gen.DownKernelIdeal.Value
public import Idealize.ShloMosaic.Lib.MatmulPlain
public import Idealize.ShloMosaic.Lib.ValueIdx
public import Idealize.ShloMosaic.Lib.Claim
public import Idealize.ShloMosaic.Lib.Pipeline.Value

@[expose] public section

set_option maxRecDepth 16384

noncomputable section

namespace Cert.DownKernelIdeal.Block

open Cert.DownKernelIdeal Cert.DownKernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-- The residual plus half the product, at row `r` and column `q`. -/
def downAt (h : S8448x5632.Idx → EReal) (w : S5632x2048.Idx → EReal) (x : S8448x2048.Idx → EReal)
    (r : Fin 8448) (q : Fin 2048) : EReal :=
  x (ix2 r q) + Ideal.ofBits .f32 0x3F000000#32 * ∑ k : Fin 5632, h (ix2 r k) * w (ix2 k q)

/-- The whole result array of a device's three argument arrays. -/
def downOf (c : Dev nD) : S8448x2048.Idx → EReal := fun i =>
  downAt (m ((c : Thread nD τ).loc main_arg0)) (m ((c : Thread nD τ).loc main_arg1)) (m ((c : Thread nD τ).loc main_arg2)) (i 0) (i 1)

/-- The block the body stores, entry by entry. -/
theorem pay_apply (x : Vec Ideal S1056x512 .f32) (h : Vec Ideal S1056x5632 .bf16) (w : Vec Ideal S5632x512 .bf16)
    (r : Fin 1056) (q : Fin 512) : (k0_pay1 (F := Ideal) x h w : S1056x512.Idx → EReal) (ix2 r q)
      = (x (ix2 r q) : EReal) + Ideal.ofBits .f32 0x3F000000#32 * ∑ k : Fin 5632, (h (ix2 r k) : EReal) * (w (ix2 k q) : EReal) := by
  have e : FloatOps.matmul (F := Ideal) (φ₁ := .bf16) (φ₂ := .bf16) (DotDims.plain 1056 5632 512) none h w (constant S1056x512 .f32 0x00000000#32) (ix2 r q)
      = ∑ k : Fin 5632, (h (ix2 r k) : EReal) * (w (ix2 k q) : EReal) :=
    (Ideal.matmul_plain_apply (M := 1056) (K := 5632) (N := 512) none h w _ r q).trans (by
      rw [constant_apply, Ideal.ofBits_zero_f32, zero_add])
  unfold k0_pay1
  simp only [shapeCast_self]
  rw [← e]
  rfl

/-- The block indices of the four windows at point `t`. -/
theorem index_facts : ∀ t : Fin grid0.N,
    (win0_0.index t 0 = t.val / 4 ∧ win0_0.index t 1 = 0) ∧ (win0_1.index t 0 = 0 ∧ win0_1.index t 1 = t.val % 4)
    ∧ (win0_2.index t 0 = t.val / 4 ∧ win0_2.index t 1 = t.val % 4)
    ∧ (win0_3.index t 0 = t.val / 4 ∧ win0_3.index t 1 = t.val % 4) := by decide +kernel

/-- The weight the region finds is the argument (the host's conversion keeps every value). -/
theorem V_weight (c : Dev nD) : (V m c main_v0 : S5632x2048.Idx → EReal)
    = (m ((c : Thread nD τ).loc main_arg1) : S5632x2048.Idx → EReal) := by
  entry_read
  rfl

/-- The row window's block read at an entry. -/
theorem iblk0 (c : Dev nD) (t : Fin cfg0.N) (r : Fin 1056) (k : Fin 5632) (R : Fin 8448) (hR : R.val = t.val / 4 * 1056 + r.val) :
    (iblk m c 0 t : S1056x5632.Idx → EReal) (ix2 r k) = (m ((c : Thread nD τ).loc main_arg0) : S8448x5632.Idx → EReal) (ix2 R k) := by
  unfold iblk
  rw [View.read_apply]
  show V m c main_arg0 _ = _
  rw [V_main_arg0]
  congr 1
  funext a
  apply Fin.ext
  match a with
  | ⟨0, _⟩ => show win0_0.index t 0 * 1056 + 1 * r.val = R.val; rw [(index_facts t).1.1]; omega
  | ⟨1, _⟩ => show win0_0.index t 1 * 5632 + 1 * k.val = k.val; rw [(index_facts t).1.2]; omega

/-- The weight window's block read at an entry. -/
theorem iblk1 (c : Dev nD) (t : Fin cfg0.N) (k : Fin 5632) (q : Fin 512) (Q : Fin 2048) (hQ : Q.val = t.val % 4 * 512 + q.val) :
    (iblk m c 1 t : S5632x512.Idx → EReal) (ix2 k q) = (m ((c : Thread nD τ).loc main_arg1) : S5632x2048.Idx → EReal) (ix2 k Q) := by
  unfold iblk
  rw [View.read_apply]
  show (V m c main_v0 : S5632x2048.Idx → EReal) _ = _
  rw [V_weight]
  congr 1
  funext a
  apply Fin.ext
  match a with
  | ⟨0, _⟩ => show win0_1.index t 0 * 5632 + 1 * k.val = k.val; rw [(index_facts t).2.1.1]; omega
  | ⟨1, _⟩ => show win0_1.index t 1 * 512 + 1 * q.val = Q.val; rw [(index_facts t).2.1.2]; omega

/-- The residual window's block read at an entry. -/
theorem iblk2 (c : Dev nD) (t : Fin cfg0.N) (r : Fin 1056) (q : Fin 512) (R : Fin 8448) (Q : Fin 2048)
    (hR : R.val = t.val / 4 * 1056 + r.val) (hQ : Q.val = t.val % 4 * 512 + q.val) :
    (iblk m c 2 t : S1056x512.Idx → EReal) (ix2 r q) = (m ((c : Thread nD τ).loc main_arg2) : S8448x2048.Idx → EReal) (ix2 R Q) := by
  unfold iblk
  rw [View.read_apply]
  show V m c main_arg2 _ = _
  rw [V_main_arg2]
  congr 1
  funext a
  apply Fin.ext
  match a with
  | ⟨0, _⟩ => show win0_2.index t 0 * 1056 + 1 * r.val = R.val; rw [(index_facts t).2.2.1.1]; omega
  | ⟨1, _⟩ => show win0_2.index t 1 * 512 + 1 * q.val = Q.val; rw [(index_facts t).2.2.1.2]; omega

/-- What point `t` writes back is block `t` of the whole-array function. -/
theorem flushed_eq (c : Dev nD) (t : Fin cfg0.N) :
    (dats m 0 c).flushed 3 t = ((cfg0.win 3).blk t).view.read (Elt Ideal) (downOf m c) := by
  rw [Value.flushed3]
  unfold out0_3
  rw [View.canon_unit_zero hz, View.ld_unit_zero hz, View.ld_unit_zero hz, View.ld_unit_zero hz]
  funext (j : S1056x512.Idx)
  obtain ⟨r, q, rfl⟩ : ∃ (r : Fin 1056) (q : Fin 512), j = ix2 r q := ⟨j 0, j 1, eq_ix2 j⟩
  have hN : t.val < 32 := t.isLt
  have h0 := r.isLt
  have h1 := q.isLt
  rw [View.read_apply]
  obtain ⟨R, hR⟩ : ∃ R : Fin 8448, R.val = t.val / 4 * 1056 + r.val := ⟨⟨_, by omega⟩, rfl⟩
  obtain ⟨Q, hQ⟩ : ∃ Q : Fin 2048, Q.val = t.val % 4 * 512 + q.val := ⟨⟨_, by omega⟩, rfl⟩
  have e : ((cfg0.win 3).blk t).view.emb (ix2 r q : S1056x512.Idx) = (ix2 R Q : S8448x2048.Idx) := by
    funext a
    apply Fin.ext
    match a with
    | ⟨0, _⟩ => show win0_3.index t 0 * 1056 + 1 * r.val = R.val; rw [(index_facts t).2.2.2.1]; omega
    | ⟨1, _⟩ => show win0_3.index t 1 * 512 + 1 * q.val = Q.val; rw [(index_facts t).2.2.2.2]; omega
  rw [e]
  refine (pay_apply _ _ _ r q).trans ?_
  show _ = downAt _ _ _ R Q
  unfold downAt
  simp only [iblk0 m c t _ _ R hR, iblk1 m c t _ _ Q hQ, iblk2 m c t _ _ R Q hR hQ]

/-- Every index of the result lies in some point's block. -/
theorem cover (i : S8448x2048.Idx) : ∃ t : Fin cfg0.N, (cfg0.win 3).flush t = true ∧ i ∈ ((cfg0.win 3).blk t).view.set := by
  have h0 : (i 0).val < 8448 := (i 0).isLt
  have h1 : (i 1).val < 2048 := (i 1).isLt
  obtain ⟨t, ht⟩ : ∃ t : Fin cfg0.N, t.val = (i 0).val / 1056 * 4 + (i 1).val / 512 :=
    ⟨⟨_, by show _ < 32; omega⟩, rfl⟩
  refine ⟨t, flush0_3 t, ?_⟩
  show i ∈ ((View.whole main_v1).slice (win0_3.rect t)).set
  rw [View.set_slice_whole, Rect.mem_set_unit]
  intro a
  match a with
  | ⟨0, _⟩ => show win0_3.index t 0 * 1056 ≤ (i 0).val ∧ (i 0).val < win0_3.index t 0 * 1056 + 1056
              rw [(index_facts t).2.2.2.1]; omega
  | ⟨1, _⟩ => show win0_3.index t 1 * 512 ≤ (i 1).val ∧ (i 1).val < win0_3.index t 1 * 512 + 512
              rw [(index_facts t).2.2.2.2]; omega

/-- So the result array ends holding the whole-array function. -/
theorem final (c : Dev nD) : (dats m 0 c).arrAt 3 cfg0.N = downOf m c :=
  (dats m 0 c).arrAt_eq_of_cover 3 (downOf m c) (fun t _ => flushed_eq m c t) cover

end Cert.DownKernelIdeal.Block

end
-- ==== Proof.DownClaim.lean ====
/-
  The down projection's claims: its kernel ends at `x + 1/2 · (h · w)`, which is what the reference computes.
-/
module

public import proofs.«01_k».proof.Defs
public import proofs.«01_k».proof.Proof.DownBlock
public import proofs.«01_k».proof.Proof.Gen.DownKernel.Frame
public import proofs.«01_k».proof.Proof.Gen.DownReferenceIdeal.Run
public import proofs.«01_k».proof.Proof.Gen.DownReferenceIdeal.Read
public import Idealize.ShloMosaic.Lib.Quiescent

@[expose] public section

set_option maxRecDepth 16384

noncomputable section

namespace Cert.Proof.Down

open Idealize.ShloMosaic Idealize.ShloMosaic.TcCoe Idealize.SL.Sem Idealize.ShloMosaic.ValueIdx
open scoped BigOperators

/-- The reference's result at row `r` and column `q`. -/
theorem ref_apply (h : Vec Ideal Cert.DownReferenceIdeal.S8448x5632 .bf16) (w : Vec Ideal Cert.DownReferenceIdeal.S5632x2048 .f32)
    (x : Vec Ideal Cert.DownReferenceIdeal.S8448x2048 .f32) (r : Fin 8448) (q : Fin 2048) :
    Cert.DownReferenceIdeal.Read.val_main_v4 (F := Ideal) h w x (ix2 r q) = Cert.DownKernelIdeal.Block.downAt h w x r q := by
  rw [Cert.DownReferenceIdeal.Read.val_main_v4_apply, Cert.DownReferenceIdeal.Read.val_main_v3_apply,
    Cert.DownReferenceIdeal.Read.val_main_v2_apply, Cert.DownReferenceIdeal.Read.val_main_cst_apply,
    Cert.DownReferenceIdeal.Read.val_main_v1_apply]
  show x (ix2 r q) + Ideal.ofBits .f32 0x3F000000#32 * _ = _
  congr 2
  refine Finset.sum_congr rfl fun k _ => ?_
  rw [Cert.DownReferenceIdeal.Read.val_main_v0_apply]
  show h _ * w _ = _
  congr 2
  · rw [eq_ix2 (Cert.DownReferenceIdeal.Read.lidx_main_v1 (ix2 r q) k)]; rfl
  · rw [eq_ix2 (Cert.DownReferenceIdeal.Read.ridx_main_v1 (ix2 r q) k)]; rfl

/-- The reference's frame: its run leaves the arguments, and it declares no semaphore. -/
theorem frame_ref : Cert.quiescent_DownReferenceIdeal := fun m ρ _ =>
  (θ_run Cert.DownReferenceIdeal.defs _ _).mono (fun r h => ⟨fun c => (h c).2, sem_eq_zero_of_no_sems rfl _⟩)
    (Cert.DownReferenceIdeal.Value.run (F := Ideal) m ρ)

/-- Over the extended reals the kernel computes the reference's function. -/
theorem algebraic : Cert.algebraic_DownKernelIdeal_DownReferenceIdeal := by
  intro m ρ m' ρ' _ hagree
  refine ⟨fun c => Cert.DownKernelIdeal.Block.downOf m c, ?_, ?_⟩
  · exact (θ_run Cert.DownKernelIdeal.defs _ _).mono
      (fun _ h c => ⟨(h c).1.trans (Cert.DownKernelIdeal.Block.final m c), (h c).2⟩)
      (Cert.DownKernelIdeal.Value.run_blocks (F := Ideal) m ρ)
  refine (θ_run Cert.DownReferenceIdeal.defs _ _).mono (fun _ h c => ⟨(h c).1.trans ?_, (h c).2⟩)
    (Cert.DownReferenceIdeal.Value.run (F := Ideal) m' ρ')
  rw [(hagree c).1, (hagree c).2.1, (hagree c).2.2]
  rw [Cert.DownReferenceIdeal.Read.val_main_v4_eq]
  funext (i : Cert.DownReferenceIdeal.S8448x2048.Idx)
  obtain ⟨r, q, rfl⟩ : ∃ (r : Fin 8448) (q : Fin 2048), i = ix2 r q := ⟨i 0, i 1, eq_ix2 i⟩
  exact ref_apply _ _ _ r q

end Cert.Proof.Down

end
-- ==== Proof.MergeBlock.lean ====
/-
  The gated merge of the three mixers, read block by block: what each grid point writes back is the block of one
  whole-array function, the sum of three gated projections, and the blocks cover the result.
-/
module

public import proofs.«01_k».proof.Proof.Common
public import proofs.«01_k».proof.Proof.Gen.MergeKernelIdeal.Value
public import Idealize.ShloMosaic.Lib.Pointwise
public import Idealize.ShloMosaic.Lib.Claim
public import Idealize.ShloMosaic.Lib.Pipeline.Value

@[expose] public section

set_option maxRecDepth 16384

noncomputable section

namespace Cert.MergeKernelIdeal.Block

open Cert.MergeKernelIdeal Cert.MergeKernelIdeal.Gen Idealize.ShloMosaic Idealize.ShloMosaic.TcCoe Idealize.SL.Sem
open Idealize.ShloMosaic.Pipeline (Dat)
open Cert.Layer
open scoped BigOperators

variable (m : (ℓ : Loc nD τ sig) → Buf (Elt Ideal) ℓ)

theorem hz : (![0, 0] : Fin 2 → Nat) = fun _ => 0 := funext fun a => by fin_cases a <;> rfl

/-- Row `r` of `b` times column `q` of `w`. -/
def dotAt (b : S8448x1024.Idx → EReal) (w : S1024x2048.Idx → EReal) (r : Fin 8448) (q : Fin 2048) : EReal :=
  ∑ k : Fin 1024, b (ix2 r k) * w (ix2 k q)

/-- The gate of mixer number `s` at row `r` and column `q`: the logistic of its column of the projection. -/
def gateAt (p : S8448x13312.Idx → EReal) (s : Fin 3) (r : Fin 8448) (q : Fin 2048) : EReal :=
  sigm (p (ix2 r ⟨7168 + (s.val * 2048 + q.val), by omega⟩))

/-- The sum of the three gated projections at row `r` and column `q`. -/
def mergeAt (b0 b1 b2 : S8448x1024.Idx → EReal) (p : S8448x13312.Idx → EReal) (w0 w1 w2 : S1024x2048.Idx → EReal)
    (r : Fin 8448) (q : Fin 2048) : EReal :=
  gateAt p 0 r q * dotAt b0 w0 r q + gateAt p 1 r q * dotAt b1 w1 r q + gateAt p 2 r q * dotAt b2 w2 r q

/-- The whole result array of a device's seven argument arrays. -/
def mergeOf (c : Dev nD) : S8448x2048.Idx → EReal := fun i =>
  mergeAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- The block the body stores, entry by entry. -/
theorem pay_apply (b0 b1 b2 : Vec Ideal S1056x1024 .bf16) (g0 g1 g2 : Vec Ideal S1056x512 .f32) (w0 w1 w2 : Vec Ideal S1024x512 .bf16)
    (r : Fin 1056) (q : Fin 512) :
    (k0_pay1 (F := Ideal) (k0_pay2 g0 b0 w0 g1 b1 w1) (k0_pay3 g2) (Scalar.ofBits .f32 0x3F800000#32) b2 w2 : S1056x512.Idx → EReal) (ix2 r q)
      = sigm (g0 (ix2 r q)) * (∑ k : Fin 1024, (b0 (ix2 r k) : EReal) * (w0 (ix2 k q) : EReal))
        + sigm (g1 (ix2 r q)) * (∑ k : Fin 1024, (b1 (ix2 r k) : EReal) * (w1 (ix2 k q) : EReal))
        + sigm (g2 (ix2 r q)) * (∑ k : Fin 1024, (b2 (ix2 r k) : EReal) * (w2 (ix2 k q) : EReal)) := by
  pointwise [k0_pay1, k0_pay2, k0_pay3, sigm]
  simp only [zero_sub]

/-- The block indices of the ten windows at point `t`. -/
theorem index_facts : ∀ t : Fin grid0.N,
    ((win0_0.index t 0 = t.val / 4 ∧ win0_0.index t 1 = 0) ∧ (win0_1.index t 0 = t.val / 4 ∧ win0_1.index t 1 = 0)
    ∧ (win0_2.index t 0 = t.val / 4 ∧ win0_2.index t 1 = 0))
    ∧ ((win0_3.index t 0 = t.val / 4 ∧ win0_3.index t 1 = 14 + t.val % 4) ∧ (win0_4.index t 0 = t.val / 4 ∧ win0_4.index t 1 = 18 + t.val % 4)
    ∧ (win0_5.index t 0 = t.val / 4 ∧ win0_5.index t 1 = 22 + t.val % 4))
    ∧ ((win0_6.index t 0 = 0 ∧ win0_6.index t 1 = t.val % 4) ∧ (win0_7.index t 0 = 0 ∧ win0_7.index t 1 = t.val % 4)
    ∧ (win0_8.index t 0 = 0 ∧ win0_8.index t 1 = t.val % 4))
    ∧ (win0_9.index t 0 = t.val / 4 ∧ win0_9.index t 1 = t.val % 4) := by decide +kernel

/-- The weight of mixer number 0 the region finds is the argument (the host's conversion keeps every value). -/
theorem V_weight0 (c : Dev nD) : (V m c main_v0 : S1024x2048.Idx → EReal)
    = (m ((c : Thread nD τ).loc main_arg4) : S1024x2048.Idx → EReal) := by
  entry_read
  rfl

/-- The weight of mixer number 1 the region finds is the argument (the host's conversion keeps every value). -/
theorem V_weight1 (c : Dev nD) : (V m c main_v1 : S1024x2048.Idx → EReal)
    = (m ((c : Thread nD τ).loc main_arg5) : S1024x2048.Idx → EReal) := by
  entry_read
  rfl

/-- The weight of mixer number 2 the region finds is the argument (the host's conversion keeps every value). -/
theorem V_weight2 (c : Dev nD) : (V m c main_v2 : S1024x2048.Idx → EReal)
    = (m ((c : Thread nD τ).loc main_arg6) : S1024x2048.Idx → EReal) := by
  entry_read
  rfl

/-- Mixer 0's row window read at an entry. -/
theorem iblk0 (c : Dev nD) (t : Fin cfg0.N) (r : Fin 1056) (k : Fin 1024) (R : Fin 8448) (hR : R.val = t.val / 4 * 1056 + r.val) :
    (iblk m c 0 t : S1056x1024.Idx → EReal) (ix2 r k) = (m ((c : Thread nD τ).loc main_arg0) : S8448x1024.Idx → EReal) (ix2 R k) := by
  unfold iblk
  rw [View.read_apply]
  show V m c main_arg0 _ = _
  rw [V_main_arg0]
  congr 1
  funext a
  apply Fin.ext
  match a with
  | ⟨0, _⟩ => show win0_0.index t 0 * 1056 + 1 * r.val = R.val; rw [(index_facts t).1.1.1]; omega
  | ⟨1, _⟩ => show win0_0.index t 1 * 1024 + 1 * k.val = k.val; rw [(index_facts t).1.1.2]; omega

/-- Mixer 1's row window read at an entry. -/
theorem iblk1 (c : Dev nD) (t : Fin cfg0.N) (r : Fin 1056) (k : Fin 1024) (R : Fin 8448) (hR : R.val = t.val / 4 * 1056 + r.val) :
    (iblk m c 1 t : S1056x1024.Idx → EReal) (ix2 r k) = (m ((c : Thread nD τ).loc main_arg1) : S8448x1024.Idx → EReal) (ix2 R k) := by
  unfold iblk
  rw [View.read_apply]
  show V m c main_arg1 _ = _
  rw [V_main_arg1]
  congr 1
  funext a
  apply Fin.ext
  match a with
  | ⟨0, _⟩ => show win0_1.index t 0 * 1056 + 1 * r.val = R.val; rw [(index_facts t).1.2.1.1]; omega
  | ⟨1, _⟩ => show win0_1.index t 1 * 1024 + 1 * k.val = k.val; rw [(index_facts t).1.2.1.2]; omega

/-- Mixer 2's row window read at an entry. -/
theorem iblk2 (c : Dev nD) (t : Fin cfg0.N) (r : Fin 1056) (k : Fin 1024) (R : Fin 8448) (hR : R.val = t.val / 4 * 1056 + r.val) :
    (iblk m c 2 t : S1056x1024.Idx → EReal) (ix2 r k) = (m ((c : Thread nD τ).loc main_arg2) : S8448x1024.Idx → EReal) (ix2 R k) := by
  unfold iblk
  rw [View.read_apply]
  show V m c main_arg2 _ = _
  rw [V_main_arg2]
  congr 1
  funext a
  apply Fin.ext
  match a with
  | ⟨0, _⟩ => show win0_2.index t 0 * 1056 + 1 * r.val = R.val; rw [(index_facts t).1.2.2.1]; omega
  | ⟨1, _⟩ => show win0_2.index t 1 * 1024 + 1 * k.val = k.val; rw [(index_facts t).1.2.2.2]; omega

/-- Mixer 0's gate window read at an entry. -/
theorem iblk3 (c : Dev nD) (t : Fin cfg0.N) (r : Fin 1056) (q : Fin 512) (R : Fin 8448) (Q : Fin 13312)
    (hR : R.val = t.val / 4 * 1056 + r.val) (hQ : Q.val = (14 + t.val % 4) * 512 + q.val) :
    (iblk m c 3 t : S1056x512.Idx → EReal) (ix2 r q) = (m ((c : Thread nD τ).loc main_arg3) : S8448x13312.Idx → EReal) (ix2 R Q) := by
  unfold iblk
  rw [View.read_apply]
  show V m c main_arg3 _ = _
  rw [V_main_arg3]
  congr 1
  funext a
  apply Fin.ext
  match a with
  | ⟨0, _⟩ => show win0_3.index t 0 * 1056 + 1 * r.val = R.val; rw [(index_facts t).2.1.1.1]; omega
  | ⟨1, _⟩ => show win0_3.index t 1 * 512 + 1 * q.val = Q.val; rw [(index_facts t).2.1.1.2]; omega

/-- Mixer 1's gate window read at an entry. -/
theorem iblk4 (c : Dev nD) (t : Fin cfg0.N) (r : Fin 1056) (q : Fin 512) (R : Fin 8448) (Q : Fin 13312)
    (hR : R.val = t.val / 4 * 1056 + r.val) (hQ : Q.val = (18 + t.val % 4) * 512 + q.val) :
    (iblk m c 4 t : S1056x512.Idx → EReal) (ix2 r q) = (m ((c : Thread nD τ).loc main_arg3) : S8448x13312.Idx → EReal) (ix2 R Q) := by
  unfold iblk
  rw [View.read_apply]
  show V m c main_arg3 _ = _
  rw [V_main_arg3]
  congr 1
  funext a
  apply Fin.ext
  match a with
  | ⟨0, _⟩ => show win0_4.index t 0 * 1056 + 1 * r.val = R.val; rw [(index_facts t).2.1.2.1.1]; omega
  | ⟨1, _⟩ => show win0_4.index t 1 * 512 + 1 * q.val = Q.val; rw [(index_facts t).2.1.2.1.2]; omega

/-- Mixer 2's gate window read at an entry. -/
theorem iblk5 (c : Dev nD) (t : Fin cfg0.N) (r : Fin 1056) (q : Fin 512) (R : Fin 8448) (Q : Fin 13312)
    (hR : R.val = t.val / 4 * 1056 + r.val) (hQ : Q.val = (22 + t.val % 4) * 512 + q.val) :
    (iblk m c 5 t : S1056x512.Idx → EReal) (ix2 r q) = (m ((c : Thread nD τ).loc main_arg3) : S8448x13312.Idx → EReal) (ix2 R Q) := by
  unfold iblk
  rw [View.read_apply]
  show V m c main_arg3 _ = _
  rw [V_main_arg3]
  congr 1
  funext a
  apply Fin.ext
  match a with
  | ⟨0, _⟩ => show win0_5.index t 0 * 1056 + 1 * r.val = R.val; rw [(index_facts t).2.1.2.2.1]; omega
  | ⟨1, _⟩ => show win0_5.index t 1 * 512 + 1 * q.val = Q.val; rw [(index_facts t).2.1.2.2.2]; omega

/-- Mixer 0's weight window read at an entry. -/
theorem iblk6 (c : Dev nD) (t : Fin cfg0.N) (k : Fin 1024) (q : Fin 512) (Q : Fin 2048) (hQ : Q.val = t.val % 4 * 512 + q.val) :
    (iblk m c 6 t : S1024x512.Idx → EReal) (ix2 k q) = (m ((c : Thread nD τ).loc main_arg4) : S1024x2048.Idx → EReal) (ix2 k Q) := by
  unfold iblk
  rw [View.read_apply]
  show (V m c main_v0 : S1024x2048.Idx → EReal) _ = _
  rw [V_weight0]
  congr 1
  funext a
  apply Fin.ext
  match a with
  | ⟨0, _⟩ => show win0_6.index t 0 * 1024 + 1 * k.val = k.val; rw [(index_facts t).2.2.1.1.1]; omega
  | ⟨1, _⟩ => show win0_6.index t 1 * 512 + 1 * q.val = Q.val; rw [(index_facts t).2.2.1.1.2]; omega

/-- Mixer 1's weight window read at an entry. -/
theorem iblk7 (c : Dev nD) (t : Fin cfg0.N) (k : Fin 1024) (q : Fin 512) (Q : Fin 2048) (hQ : Q.val = t.val % 4 * 512 + q.val) :
    (iblk m c 7 t : S1024x512.Idx → EReal) (ix2 k q) = (m ((c : Thread nD τ).loc main_arg5) : S1024x2048.Idx → EReal) (ix2 k Q) := by
  unfold iblk
  rw [View.read_apply]
  show (V m c main_v1 : S1024x2048.Idx → EReal) _ = _
  rw [V_weight1]
  congr 1
  funext a
  apply Fin.ext
  match a with
  | ⟨0, _⟩ => show win0_7.index t 0 * 1024 + 1 * k.val = k.val; rw [(index_facts t).2.2.1.2.1.1]; omega
  | ⟨1, _⟩ => show win0_7.index t 1 * 512 + 1 * q.val = Q.val; rw [(index_facts t).2.2.1.2.1.2]; omega

/-- Mixer 2's weight window read at an entry. -/
theorem iblk8 (c : Dev nD) (t : Fin cfg0.N) (k : Fin 1024) (q : Fin 512) (Q : Fin 2048) (hQ : Q.val = t.val % 4 * 512 + q.val) :
    (iblk m c 8 t : S1024x512.Idx → EReal) (ix2 k q) = (m ((c : Thread nD τ).loc main_arg6) : S1024x2048.Idx → EReal) (ix2 k Q) := by
  unfold iblk
  rw [View.read_apply]
  show (V m c main_v2 : S1024x2048.Idx → EReal) _ = _
  rw [V_weight2]
  congr 1
  funext a
  apply Fin.ext
  match a with
  | ⟨0, _⟩ => show win0_8.index t 0 * 1024 + 1 * k.val = k.val; rw [(index_facts t).2.2.1.2.2.1]; omega
  | ⟨1, _⟩ => show win0_8.index t 1 * 512 + 1 * q.val = Q.val; rw [(index_facts t).2.2.1.2.2.2]; omega

/-- What point `t` writes back is block `t` of the whole-array function. -/
theorem flushed_eq (c : Dev nD) (t : Fin cfg0.N) :
    (dats m 0 c).flushed 9 t = ((cfg0.win 9).blk t).view.read (Elt Ideal) (mergeOf m c) := by
  rw [Value.flushed9]
  unfold out0_9
  rw [View.canon_unit_zero hz]
  simp only [View.ld_unit_zero (S := S1056x1024) hz, View.ld_unit_zero (S := S1056x512) hz, View.ld_unit_zero (S := S1024x512) hz]
  funext (j : S1056x512.Idx)
  obtain ⟨r, q, rfl⟩ : ∃ (r : Fin 1056) (q : Fin 512), j = ix2 r q := ⟨j 0, j 1, eq_ix2 j⟩
  have hN : t.val < 32 := t.isLt
  have h0 := r.isLt
  have h1 := q.isLt
  rw [View.read_apply]
  obtain ⟨R, hR⟩ : ∃ R : Fin 8448, R.val = t.val / 4 * 1056 + r.val := ⟨⟨_, by omega⟩, rfl⟩
  obtain ⟨Q, hQ⟩ : ∃ Q : Fin 2048, Q.val = t.val % 4 * 512 + q.val := ⟨⟨_, by omega⟩, rfl⟩
  have e : ((cfg0.win 9).blk t).view.emb (ix2 r q : S1056x512.Idx) = (ix2 R Q : S8448x2048.Idx) := by
    funext a
    apply Fin.ext
    match a with
    | ⟨0, _⟩ => show win0_9.index t 0 * 1056 + 1 * r.val = R.val; rw [(index_facts t).2.2.2.1]; omega
    | ⟨1, _⟩ => show win0_9.index t 1 * 512 + 1 * q.val = Q.val; rw [(index_facts t).2.2.2.2]; omega
  rw [e]
  refine (pay_apply _ _ _ _ _ _ _ _ _ r q).trans ?_
  show _ = mergeAt _ _ _ _ _ _ _ R Q
  unfold mergeAt dotAt gateAt
  simp only [iblk0 m c t _ _ R hR, iblk1 m c t _ _ R hR, iblk2 m c t _ _ R hR, iblk6 m c t _ _ Q hQ, iblk7 m c t _ _ Q hQ,
    iblk8 m c t _ _ Q hQ]
  rw [iblk3 m c t r q R ⟨7168 + (((0 : Fin 3) : ℕ) * 2048 + Q.val), by show 7168 + (0 * 2048 + Q.val) < 13312; omega⟩ hR (by show 7168 + (0 * 2048 + Q.val) = _; omega),
    iblk4 m c t r q R ⟨7168 + (((1 : Fin 3) : ℕ) * 2048 + Q.val), by show 7168 + (1 * 2048 + Q.val) < 13312; omega⟩ hR (by show 7168 + (1 * 2048 + Q.val) = _; omega),
    iblk5 m c t r q R ⟨7168 + (((2 : Fin 3) : ℕ) * 2048 + Q.val), by show 7168 + (2 * 2048 + Q.val) < 13312; omega⟩ hR (by show 7168 + (2 * 2048 + Q.val) = _; omega)]

/-- Every index of the result lies in some point's block. -/
theorem cover (i : S8448x2048.Idx) : ∃ t : Fin cfg0.N, (cfg0.win 9).flush t = true ∧ i ∈ ((cfg0.win 9).blk t).view.set := by
  have h0 : (i 0).val < 8448 := (i 0).isLt
  have h1 : (i 1).val < 2048 := (i 1).isLt
  obtain ⟨t, ht⟩ : ∃ t : Fin cfg0.N, t.val = (i 0).val / 1056 * 4 + (i 1).val / 512 :=
    ⟨⟨_, by show _ < 32; omega⟩, rfl⟩
  refine ⟨t, flush0_9 t, ?_⟩
  show i ∈ ((View.whole main_v3).slice (win0_9.rect t)).set
  rw [View.set_slice_whole, Rect.mem_set_unit]
  intro a
  match a with
  | ⟨0, _⟩ => show win0_9.index t 0 * 1056 ≤ (i 0).val ∧ (i 0).val < win0_9.index t 0 * 1056 + 1056
              rw [(index_facts t).2.2.2.1]; omega
  | ⟨1, _⟩ => show win0_9.index t 1 * 512 ≤ (i 1).val ∧ (i 1).val < win0_9.index t 1 * 512 + 512
              rw [(index_facts t).2.2.2.2]; omega

/-- So the result array ends holding the whole-array function. -/
theorem final (c : Dev nD) : (dats m 0 c).arrAt 9 cfg0.N = mergeOf m c :=
  (dats m 0 c).arrAt_eq_of_cover 9 (mergeOf m c) (fun t _ => flushed_eq m c t) cover

end Cert.MergeKernelIdeal.Block

end
-- ==== Proof.MergeClaim.lean ====
/-
  The gated merge's claims: its kernel ends at the sum of three gated projections, which is what the reference computes.
-/
module

public import proofs.«01_k».proof.Defs
public import proofs.«01_k».proof.Proof.MergeBlock
public import proofs.«01_k».proof.Proof.Gen.MergeKernel.Frame
public import proofs.«01_k».proof.Proof.Gen.MergeReferenceIdeal.Run
public import proofs.«01_k».proof.Proof.Gen.MergeReferenceIdeal.Read
public import Idealize.ShloMosaic.Lib.Quiescent

@[expose] public section

set_option maxRecDepth 16384

noncomputable section

namespace Cert.Proof.Merge

open Idealize.ShloMosaic Idealize.ShloMosaic.TcCoe Idealize.SL.Sem
open Cert.MergeReferenceIdeal.Read
open scoped BigOperators

/-- The reference's result at row `r` and column `q`. -/
theorem ref_apply (b0 b1 b2 : Vec Ideal Cert.MergeReferenceIdeal.S8448x1024 .bf16) (p : Vec Ideal Cert.MergeReferenceIdeal.S8448x13312 .f32)
    (w0 w1 w2 : Vec Ideal Cert.MergeReferenceIdeal.S1024x2048 .f32) (r : Fin 8448) (q : Fin 2048) :
    (val_main_v25 (F := Ideal) b0 b1 b2 p w0 w1 w2 : Cert.MergeReferenceIdeal.S8448x2048.Idx → EReal) (ix2 r q)
      = Cert.MergeKernelIdeal.Block.mergeAt b0 b1 b2 p w0 w1 w2 r q := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, Cert.MergeKernelIdeal.Block.mergeAt,
    Cert.MergeKernelIdeal.Block.gateAt, Cert.MergeKernelIdeal.Block.dotAt, Cert.Layer.sigm]

/-- The reference's frame: its run leaves the arguments, and it declares no semaphore. -/
theorem frame_ref : Cert.quiescent_MergeReferenceIdeal := fun m ρ _ =>
  (θ_run Cert.MergeReferenceIdeal.defs _ _).mono (fun r h => ⟨fun c => (h c).2, sem_eq_zero_of_no_sems rfl _⟩)
    (Cert.MergeReferenceIdeal.Value.run (F := Ideal) m ρ)

/-- Over the extended reals the kernel computes the reference's function. -/
theorem algebraic : Cert.algebraic_MergeKernelIdeal_MergeReferenceIdeal := by
  intro m ρ m' ρ' _ hagree
  refine ⟨fun c => Cert.MergeKernelIdeal.Block.mergeOf m c, ?_, ?_⟩
  · exact (θ_run Cert.MergeKernelIdeal.defs _ _).mono
      (fun _ h c => ⟨(h c).1.trans (Cert.MergeKernelIdeal.Block.final m c), (h c).2⟩)
      (Cert.MergeKernelIdeal.Value.run_blocks (F := Ideal) m ρ)
  refine (θ_run Cert.MergeReferenceIdeal.defs _ _).mono (fun _ h c => ⟨(h c).1.trans ?_, (h c).2⟩)
    (Cert.MergeReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2]
  rw [Cert.MergeReferenceIdeal.Read.val_main_v25_eq]
  funext (i : Cert.MergeReferenceIdeal.S8448x2048.Idx)
  obtain ⟨r, q, rfl⟩ : ∃ (r : Fin 8448) (q : Fin 2048), i = ix2 r q := ⟨i 0, i 1, eq_ix2 i⟩
  exact ref_apply _ _ _ _ _ _ _ r q

end Cert.Proof.Merge

end
-- ==== Proof.ProjWeight.lean ====
/-
  The packed weight of the input projection: the host lays the columns of the weight out in another order, with the two
  narrow groups of columns written into a zero block.
-/
module

public import proofs.«01_k».proof.Proof.Common
public import proofs.«01_k».proof.Proof.Gen.ProjKernelIdeal.Frame
public import Idealize.ShloMosaic.Lib.Pointwise
public import Idealize.ShloMosaic.Lib.Claim
public import Idealize.ShloMosaic.Lib.Pipeline.Value
public import Idealize.ShloMosaic.Lib.Routing.OpsSet
public import Idealize.ShloMosaic.Lib.Routing.OpsPair

@[expose] public section

set_option maxRecDepth 16384

noncomputable section

namespace Cert.ProjKernelIdeal.Block

open Cert.ProjKernelIdeal Cert.ProjKernelIdeal.Gen Idealize.ShloMosaic Idealize.ShloMosaic.TcCoe Idealize.SL.Sem
open Cert.Layer
open Idealize.ShloMosaic.Routing

variable (m : (ℓ : Loc nD τ sig) → Buf (Elt Ideal) ℓ)

/-- A block of 16 columns written from column `o` on lands at row `r` and column `q` from its own row `r` and column
    `q - o` only. -/
theorem lands (j : S2048x16.Idx) (idx : IVec S1 32) (o : ℕ) (ho : (idx (ix1 0)).toInt = (o : Int)) (r : Fin 2048) (q : Fin 512) :
    scatter_S2048x512_S1_S2048x16_01_n_1_0.resultIdx? j idx = some (ix2 r q) ↔ (j 0).val = r.val ∧ o + (j 1).val = q.val := by
  have w0 : scatter_S2048x512_S1_S2048x16_01_n_1_0.window j 0 = (j 0).val := rfl
  have w1 : scatter_S2048x512_S1_S2048x16_01_n_1_0.window j 1 = (j 1).val := rfl
  have s0 : scatter_S2048x512_S1_S2048x16_01_n_1_0.start j idx 0 = 0 := rfl
  have s1 : scatter_S2048x512_S1_S2048x16_01_n_1_0.start j idx 1 = (o : Int) := by
    rw [← ho]
    show (idx _).toInt = _
    congr 2
    funext b
    match b with
    | ⟨0, _⟩ =>
    exact (Subsingleton.elim (α := Fin 1) _ _ : (_ : Fin 1) = _)
  refine (resultIdx?_ix2 _ j idx r q).trans ?_
  rw [s0, w0, s1, w1]
  omega

/-- Inside the written columns the block is what was written. -/
theorem scatter_in (x : S2048x512.Idx → EReal) (idx : IVec S1 32) (u : S2048x16.Idx → EReal) (o : ℕ) (ho : (idx (ix1 0)).toInt = (o : Int))
    (r : Fin 2048) (q : Fin 512) (j : Fin 16) (h : o + j.val = q.val) :
    Host.scatter scatter_S2048x512_S1_S2048x16_01_n_1_0 (fun _ b => b) x idx u (ix2 r q) = u (ix2 r j) := by
  refine scatter_set_hit _ x idx u _ _ (fun k hk => ?_) (ix2 r j) ((lands _ idx o ho r q).2 ⟨rfl, h⟩)
  obtain ⟨a, b⟩ := (lands k idx o ho r q).1 hk
  congr 1
  refine (eq_ix2 k).trans ?_
  congr 1
  · exact Fin.ext a
  · exact Fin.ext (by show (k 1).val = j.val; omega)

/-- Outside the written columns the block is as it was. -/
theorem scatter_out (x : S2048x512.Idx → EReal) (idx : IVec S1 32) (u : S2048x16.Idx → EReal) (o : ℕ) (ho : (idx (ix1 0)).toInt = (o : Int))
    (r : Fin 2048) (q : Fin 512) (h : q.val < o ∨ o + 16 ≤ q.val) :
    Host.scatter scatter_S2048x512_S1_S2048x16_01_n_1_0 (fun _ b => b) x idx u (ix2 r q) = x (ix2 r q) := by
  refine scatter_set_miss _ x idx u _ fun k hk => ?_
  have b := ((lands k idx o ho r q).1 hk).2
  have hk : (k 1).val < 16 := (k 1).isLt
  omega

/-- The block of the two narrow groups of columns: 16 columns written from column 0 and 16 from column 128 of a zero
    block. -/
def narrow (w : Vec Ideal S2048x12832 .f32) : S2048x512.Idx → EReal :=
  Host.scatter scatter_S2048x512_S1_S2048x16_01_n_1_0 (fun _ b => b)
    (Host.scatter scatter_S2048x512_S1_S2048x16_01_n_1_0 (fun _ b => b)
      (broadcastInDim S2048x512 ![] bcast_S_S2048x512 (constant (F := Ideal) S_ .f32 0x00000000#32) : S2048x512.Idx → EReal)
      (broadcastInDim S1 ![] bcast_S_S1 (constantI S_ 32 0#32))
      (extractStridedSlice S2048x16 ![0, 3584] w slices_S2048x12832_S2048x16_0_3584 : S2048x16.Idx → EReal))
    (broadcastInDim S1 ![] bcast_S_S1 (constantI S_ 32 128#32))
    (extractStridedSlice S2048x16 ![0, 6672] w slices_S2048x12832_S2048x16_0_6672 : S2048x16.Idx → EReal)

/-- Columns 0 to 15 of the narrow block are the weight's columns from 3584 on. -/
theorem narrow_lo (w : Vec Ideal S2048x12832 .f32) (k : Fin 2048) (Q : Fin 512) (q : Fin 12832) (h : Q.val < 16) (hq : q.val = Q.val + 3584) :
    narrow w (ix2 k Q) = w (ix2 k q) := by
  unfold narrow
  rw [scatter_out _ _ _ 128 rfl k Q (by omega), scatter_in _ _ _ 0 rfl k Q ⟨Q.val, h⟩ (by simp)]
  pointwise
  congr 2
  exact Fin.ext (by simp only []; omega)

/-- Columns 128 to 143 of the narrow block are the weight's columns from 6672 on. -/
theorem narrow_hi (w : Vec Ideal S2048x12832 .f32) (k : Fin 2048) (Q : Fin 512) (q : Fin 12832) (h : 128 ≤ Q.val) (h' : Q.val < 144)
    (hq : q.val + 128 = Q.val + 6672) : narrow w (ix2 k Q) = w (ix2 k q) := by
  unfold narrow
  rw [scatter_in _ _ _ 128 rfl k Q ⟨Q.val - 128, by omega⟩ (by simp only []; omega)]
  pointwise
  congr 2
  exact Fin.ext (by simp only []; omega)

/-- The packed weight: the wide groups of columns in their new order, the narrow block second. -/
def pack (w : Vec Ideal S2048x12832 .f32) (n : S2048x512.Idx → EReal) : S2048x13312.Idx → EReal :=
  concatenate S2048x13312 1 [⟨S2048x1536, (extractStridedSlice S2048x1536 ![0, 2048] w slices_S2048x12832_S2048x1536_0_2048 : S2048x1536.Idx → EReal)⟩,
    ⟨S2048x512, n⟩,
    ⟨S2048x1024, (extractStridedSlice S2048x1024 ![0, 0] w slices_S2048x12832_S2048x1024_0_0 : S2048x1024.Idx → EReal)⟩,
    ⟨S2048x1024, (extractStridedSlice S2048x1024 ![0, 1024] w slices_S2048x12832_S2048x1024_0_1024 : S2048x1024.Idx → EReal)⟩,
    ⟨S2048x1024, (extractStridedSlice S2048x1024 ![0, 3600] w slices_S2048x12832_S2048x1024_0_3600 : S2048x1024.Idx → EReal)⟩,
    ⟨S2048x1024, (extractStridedSlice S2048x1024 ![0, 4624] w slices_S2048x12832_S2048x1024_0_4624 : S2048x1024.Idx → EReal)⟩,
    ⟨S2048x1024, (extractStridedSlice S2048x1024 ![0, 5648] w slices_S2048x12832_S2048x1024_0_5648 : S2048x1024.Idx → EReal)⟩,
    ⟨S2048x6144, (extractStridedSlice S2048x6144 ![0, 6688] w slices_S2048x12832_S2048x6144_0_6688 : S2048x6144.Idx → EReal)⟩]
    concatenates_S2048x1536_S2048x512_S2048x1024_S2048x1024_S2048x1024_S2048x1024_S2048x1024_S2048x6144_S2048x13312_d1

/-- Packed column `Q` holds the weight's column `q`. -/
def Holds (Q : Fin 13312) (q : Fin 12832) : Prop :=
  (Q.val < 1552 ∧ q.val = Q.val + 2048) ∨ (1664 ≤ Q.val ∧ Q.val < 1680 ∧ q.val = Q.val + 5008)
  ∨ (2048 ≤ Q.val ∧ Q.val < 4096 ∧ q.val + 2048 = Q.val) ∨ (4096 ≤ Q.val ∧ Q.val < 7168 ∧ q.val + 496 = Q.val)
  ∨ (7168 ≤ Q.val ∧ q.val + 480 = Q.val)

/-- The packed weight's columns taken from the narrow block. -/
theorem pack_narrow (w : Vec Ideal S2048x12832 .f32) (n : S2048x512.Idx → EReal) (k : Fin 2048) (Q : Fin 13312) (P : Fin 512)
    (h : Q.val = P.val + 1536) : pack w n (ix2 k Q) = n (ix2 k P) := by
  have hP := P.isLt
  pointwise [pack]
  rw [dif_neg (by omega), dif_pos (by omega)]
  exact congrArg (fun a => n (ix2 k a)) (Fin.ext (by simp only []; omega))

/-- The packed weight's columns taken from the weight itself. -/
theorem pack_wide (w : Vec Ideal S2048x12832 .f32) (n : S2048x512.Idx → EReal) (k : Fin 2048) (Q : Fin 13312) (q : Fin 12832)
    (h : Holds Q q) (hQ : Q.val < 1536 ∨ 2048 ≤ Q.val) : pack w n (ix2 k Q) = w (ix2 k q) := by
  have hQ := Q.isLt
  unfold Holds at h
  pointwise [pack]
  split_ifs
  all_goals first
    | omega
    | exact congrArg (fun a => w (ix2 k a)) (Fin.ext (by simp only []; omega))

/-- The packed weight at a column that holds one of the weight's. -/
theorem pack_apply (w : Vec Ideal S2048x12832 .f32) (k : Fin 2048) (Q : Fin 13312) (q : Fin 12832) (h : Holds Q q) :
    pack w (narrow w) (ix2 k Q) = w (ix2 k q) := by
  by_cases hQ : Q.val < 1536 ∨ 2048 ≤ Q.val
  · exact pack_wide w (narrow w) k Q q h hQ
  obtain ⟨P, hP⟩ : ∃ P : Fin 512, Q.val = P.val + 1536 := ⟨⟨Q.val - 1536, by omega⟩, by simp only []; omega⟩
  rw [pack_narrow w (narrow w) k Q P hP]
  unfold Holds at h
  rcases h with h | h | h | h | h
  · exact narrow_lo w k P q (by omega) (by omega)
  · exact narrow_hi w k P q (by omega) (by omega) (by omega)
  all_goals omega

/-- The converted concatenation of the eight pieces is the packed weight. -/
theorem pack_of (w : Vec Ideal S2048x12832 .f32) (n : S2048x512.Idx → EReal)
    (u0 : S2048x1536.Idx → EReal) (u1 : S2048x512.Idx → EReal) (u2 : S2048x1024.Idx → EReal) (u3 : S2048x1024.Idx → EReal) (u4 : S2048x1024.Idx → EReal) (u5 : S2048x1024.Idx → EReal) (u6 : S2048x1024.Idx → EReal) (u7 : S2048x6144.Idx → EReal)
    (h0 : u0 = extractStridedSlice S2048x1536 ![0, 2048] w slices_S2048x12832_S2048x1536_0_2048)
    (h1 : u1 = n)
    (h2 : u2 = extractStridedSlice S2048x1024 ![0, 0] w slices_S2048x12832_S2048x1024_0_0)
    (h3 : u3 = extractStridedSlice S2048x1024 ![0, 1024] w slices_S2048x12832_S2048x1024_0_1024)
    (h4 : u4 = extractStridedSlice S2048x1024 ![0, 3600] w slices_S2048x12832_S2048x1024_0_3600)
    (h5 : u5 = extractStridedSlice S2048x1024 ![0, 4624] w slices_S2048x12832_S2048x1024_0_4624)
    (h6 : u6 = extractStridedSlice S2048x1024 ![0, 5648] w slices_S2048x12832_S2048x1024_0_5648)
    (h7 : u7 = extractStridedSlice S2048x6144 ![0, 6688] w slices_S2048x12832_S2048x6144_0_6688) :
    ((truncf (F := Ideal) .bf16 (concatenate S2048x13312 1 [⟨S2048x1536, u0⟩, ⟨S2048x512, u1⟩, ⟨S2048x1024, u2⟩, ⟨S2048x1024, u3⟩, ⟨S2048x1024, u4⟩, ⟨S2048x1024, u5⟩, ⟨S2048x1024, u6⟩, ⟨S2048x6144, u7⟩]
      concatenates_S2048x1536_S2048x512_S2048x1024_S2048x1024_S2048x1024_S2048x1024_S2048x1024_S2048x6144_S2048x13312_d1 : Vec Ideal S2048x13312 .f32) bitsLt_bf16_f32 : Vec Ideal S2048x13312 .bf16) : S2048x13312.Idx → EReal)
      = pack w n := by
  subst h0 h1 h2 h3 h4 h5 h6 h7
  rfl

/-- The weight the region finds is the packed one (the host's conversion keeps every value). -/
theorem V_weight (c : Dev nD) : (V m c main_v15 : S2048x13312.Idx → EReal)
    = pack (m ((c : Thread nD τ).loc main_arg2) : Vec Ideal S2048x12832 .f32) (narrow (m ((c : Thread nD τ).loc main_arg2) : Vec Ideal S2048x12832 .f32)) := by
  show StableHlo.after hostOps0 (fun b => m (c, b)) (Proc.tc.devRef main_v15) = _
  set_option maxHeartbeats 1600000 in
  simp only [StableHlo.after_cons, StableHlo.after_nil]
  after_results_simp
  refine pack_of (m ((c : Thread nD τ).loc main_arg2)) (narrow (m ((c : Thread nD τ).loc main_arg2))) _ _ _ _ _ _ _ _ ?_ ?_ ?_ ?_ ?_ ?_ ?_ ?_
  · show (_ : HloOp τ sig (Elt Ideal)).result _ (Proc.tc.devRef main_v7) = _
    after_results_simp <;> rfl
  · show (_ : HloOp τ sig (Elt Ideal)).result _ (Proc.tc.devRef main_v6) = _
    after_results_simp <;> rfl
  · show (_ : HloOp τ sig (Elt Ideal)).result _ (Proc.tc.devRef main_v8) = _
    after_results_simp <;> rfl
  · show (_ : HloOp τ sig (Elt Ideal)).result _ (Proc.tc.devRef main_v9) = _
    after_results_simp <;> rfl
  · show (_ : HloOp τ sig (Elt Ideal)).result _ (Proc.tc.devRef main_v10) = _
    after_results_simp <;> rfl
  · show (_ : HloOp τ sig (Elt Ideal)).result _ (Proc.tc.devRef main_v11) = _
    after_results_simp <;> rfl
  · show (_ : HloOp τ sig (Elt Ideal)).result _ (Proc.tc.devRef main_v12) = _
    after_results_simp <;> rfl
  · show (_ : HloOp τ sig (Elt Ideal)).result _ (Proc.tc.devRef main_v13) = _
    after_results_simp <;> rfl

end Cert.ProjKernelIdeal.Block

end
-- ==== Proof.ProjBlock.lean ====
/-
  The mixers' combined input projection, read block by block: the row block is normalized once, at its first column
  block, and kept; every grid point writes back a block of one whole-array function, the normalized rows times the weight.
-/
module

public import proofs.«01_k».proof.Proof.Common
public import proofs.«01_k».proof.Proof.ProjWeight
public import Idealize.ShloMosaic.Lib.Pointwise
public import Idealize.ShloMosaic.Lib.Claim
public import Idealize.ShloMosaic.Lib.Pipeline.Value

@[expose] public section

set_option maxRecDepth 16384

noncomputable section

namespace Cert.ProjKernelIdeal.Block

open Cert.ProjKernelIdeal Cert.ProjKernelIdeal.Gen Idealize.ShloMosaic Idealize.ShloMosaic.TcCoe Idealize.SL.Sem
open Idealize.ShloMosaic.Pipeline (Dat)
open Cert.Layer
open scoped BigOperators

variable (m : (ℓ : Loc nD τ sig) → Buf (Elt Ideal) ℓ)

theorem hz : (![0, 0] : Fin 2 → Nat) = fun _ => 0 := funext fun a => by fin_cases a <;> rfl

/-- Row `r` of `x`, normalized, at column `k`. -/
def rowAt (x : S8448x2048.Idx → EReal) (g : S2048.Idx → EReal) (r : Fin 8448) (k : Fin 2048) : EReal :=
  normAt (fun j => x (ix2 r j)) (g (ix1 k)) k

/-- The projection of normalized row `r` on column `q` of the packed weight. -/
def projAt (x : S8448x2048.Idx → EReal) (g : S2048.Idx → EReal) (w : S2048x13312.Idx → EReal) (r : Fin 8448)
    (q : Fin 13312) : EReal := ∑ k, rowAt x g r k * w (ix2 k q)

/-- A device's weight, packed. -/
def packed (c : Dev nD) : S2048x13312.Idx → EReal :=
  pack (m ((c : Thread nD τ).loc main_arg2)) (narrow (m ((c : Thread nD τ).loc main_arg2)))

/-- The whole array the region leaves, of a device's three argument arrays. -/
def projOf (c : Dev nD) : S8448x13312.Idx → EReal := fun i =>
  projAt (m ((c : Thread nD τ).loc main_arg0)) (m ((c : Thread nD τ).loc main_arg1)) (packed m c) (i 0) (i 1)

/-- The normalized row block the first column's point keeps, entry by entry. -/
theorem pay1_apply (x : Vec Ideal S1056x2048 .f32) (g : Vec Ideal S1x2048 .f32) (r : Fin 1056) (k : Fin 2048) :
    (k0_pay1 (F := Ideal) x g : S1056x2048.Idx → EReal) (ix2 r k) = normAt (fun j => x (ix2 r j)) (g (ix2 0 k)) k := by
  pointwise [k0_pay1]
  rfl

/-- The block the body stores, entry by entry. -/
theorem pay2_apply (x : Vec Ideal S1056x2048 .bf16) (w : Vec Ideal S2048x1024 .bf16) (r : Fin 1056) (q : Fin 1024) :
    (k0_pay2 (F := Ideal) x w : S1056x1024.Idx → EReal) (ix2 r q) = ∑ k, (x (ix2 r k) : EReal) * (w (ix2 k q) : EReal) := by
  pointwise [k0_pay2]

/-- The block indices of the four windows at point `t`. -/
theorem index_facts : ∀ t : Fin grid0.N,
    (win0_0.index t 0 = t.val / 13 ∧ win0_0.index t 1 = 0) ∧ (win0_1.index t 0 = 0 ∧ win0_1.index t 1 = 0)
    ∧ (win0_2.index t 0 = 0 ∧ win0_2.index t 1 = t.val % 13)
    ∧ (win0_3.index t 0 = t.val / 13 ∧ win0_3.index t 1 = t.val % 13) := by decide +kernel

/-- The gain the region finds is the argument laid out as one row. -/
theorem V_gain (c : Dev nD) (k : Fin 2048) : (V m c main_v16 : S1x2048.Idx → EReal) (ix2 0 k)
    = (m ((c : Thread nD τ).loc main_arg1) : S2048.Idx → EReal) (ix1 k) := by
  have e : (V m c main_v16 : S1x2048.Idx → EReal) = shapeCast S1x2048 (m ((c : Thread nD τ).loc main_arg1) : Vec Ideal S2048 .f32) shapeCasts_S2048_S1x2048 := by
    entry_read
    rfl
  rw [e]
  pointwise

/-- The row window's block read at an entry. -/
theorem iblk0 (c : Dev nD) (t : Fin cfg0.N) (r : Fin 1056) (k : Fin 2048) (R : Fin 8448) (hR : R.val = t.val / 13 * 1056 + r.val) :
    (iblk m c 0 t : S1056x2048.Idx → EReal) (ix2 r k) = (m ((c : Thread nD τ).loc main_arg0) : S8448x2048.Idx → EReal) (ix2 R k) := by
  unfold iblk
  rw [View.read_apply]
  show V m c main_arg0 _ = _
  rw [V_main_arg0]
  congr 1
  funext a
  apply Fin.ext
  match a with
  | ⟨0, _⟩ => show win0_0.index t 0 * 1056 + 1 * r.val = R.val; rw [(index_facts t).1.1]; omega
  | ⟨1, _⟩ => show win0_0.index t 1 * 2048 + 1 * k.val = k.val; rw [(index_facts t).1.2]; omega

/-- The gain window's block read at an entry. -/
theorem iblk1 (c : Dev nD) (t : Fin cfg0.N) (k : Fin 2048) :
    (iblk m c 1 t : S1x2048.Idx → EReal) (ix2 0 k) = (m ((c : Thread nD τ).loc main_arg1) : S2048.Idx → EReal) (ix1 k) := by
  rw [← V_gain m c k]
  unfold iblk
  rw [View.read_apply]
  show (V m c main_v16 : S1x2048.Idx → EReal) _ = _
  congr 1
  funext a
  apply Fin.ext
  match a with
  | ⟨0, _⟩ => show win0_1.index t 0 * 1 + 1 * 0 = 0; rw [(index_facts t).2.1.1]
  | ⟨1, _⟩ => show win0_1.index t 1 * 2048 + 1 * k.val = k.val; rw [(index_facts t).2.1.2]; omega

/-- The weight window's block read at an entry. -/
theorem iblk2 (c : Dev nD) (t : Fin cfg0.N) (k : Fin 2048) (q : Fin 1024) (Q : Fin 13312) (hQ : Q.val = t.val % 13 * 1024 + q.val) :
    (iblk m c 2 t : S2048x1024.Idx → EReal) (ix2 k q) = packed m c (ix2 k Q) := by
  unfold iblk
  rw [View.read_apply]
  show (V m c main_v15 : S2048x13312.Idx → EReal) _ = _
  rw [V_weight]
  show packed m c _ = _
  congr 1
  funext a
  apply Fin.ext
  match a with
  | ⟨0, _⟩ => show win0_2.index t 0 * 2048 + 1 * k.val = k.val; rw [(index_facts t).2.2.1.1]; omega
  | ⟨1, _⟩ => show win0_2.index t 1 * 1024 + 1 * q.val = Q.val; rw [(index_facts t).2.2.1.2]; omega

section Cases
variable (c : Dev nD) (i : grid0.Coords) (a2 : Memref sig .tc .vmem S1056x2048 .f32) (h2 : a2.IsWhole)
  (a3 : Memref sig .tc .vmem S1x2048 .f32) (h3 : a3.IsWhole) (a4 : Memref sig .tc .vmem S2048x1024 .bf16) (h4 : a4.IsWhole)
  (a5 : Memref sig .tc .vmem S1056x1024 .f32) (h5 : a5.IsWhole) (a6 : Memref sig .tc .vmem S1056x2048 .bf16) (h6 : a6.IsWhole)
  (x0 : Vec Ideal S1056x2048 .f32) (x1 : Vec Ideal S1x2048 .f32) (x2 : Vec Ideal S2048x1024 .bf16)

/-- At a row block's first point the kept scratch is the normalized block. -/
theorem sout_A (hc : cond0_0 i) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1056x2048) hz, View.ld_unit_zero (S := S1x2048) hz]

/-- At a row block's first point the stored block is computed from the normalized block just kept. -/
theorem out_A (hc : cond0_0 i) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.readCov_unit_zero (S := S1056x2048) _ hz,
    View.ld_unit_zero (S := S1056x2048) hz, View.ld_unit_zero (S := S1x2048) hz, View.ld_unit_zero (S := S2048x1024) hz]

/-- At a later point of a row block the stored block is computed from what the scratch holds. -/
theorem out_B (hc : ¬cond0_0 i) (xs : Vec Ideal S1056x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  try sl_unfold_words
  rw [View.canon_unit_zero hz]
  simp only [View.readAt_eq_ld, h4.read_unread, h6.read_unread,
    View.ld_unit_zero (S := S1056x2048) hz, View.ld_unit_zero (S := S2048x1024) hz]
end Cases

/-- After point `n` the scratch holds the normalized rows of the point's row block. -/
theorem scratch (c : Dev nD) : ∀ (n : ℕ) (h : n < cfg0.N) (r : Fin 1056) (k : Fin 2048) (R : Fin 8448),
    R.val = n / 13 * 1056 + r.val → ((outsAt0 m c n h).2 : S1056x2048.Idx → EReal) (ix2 r k)
      = rowAt (m ((c : Thread nD τ).loc main_arg0)) (m ((c : Thread nD τ).loc main_arg1)) R k := by
  have first : ∀ (t : Fin cfg0.N) (h0 : t.val % 13 = 0) (r : Fin 1056) (k : Fin 2048) (R : Fin 8448),
      R.val = t.val / 13 * 1056 + r.val → ((outsAt0 m c t.val t.isLt).2 : S1056x2048.Idx → EReal) (ix2 r k)
      = rowAt (m ((c : Thread nD τ).loc main_arg0)) (m ((c : Thread nD τ).loc main_arg1)) R k := by
    intro t h0 r k R hR
    rw [outsAt0_A m c t h0]
    dsimp only
    rw [sout_A]
    refine (pay1_apply _ _ r k).trans ?_
    unfold rowAt
    simp only [iblk0 m c t _ _ R hR, iblk1]
  intro n
  induction n with
  | zero => exact fun h => first ⟨0, h⟩ rfl
  | succ n ih =>
    intro h r k R hR
    by_cases h0 : (n + 1) % 13 = 0
    · exact first ⟨n + 1, h⟩ h0 r k R hR
    · rw [outsAt0_B m c ⟨n + 1, h⟩ h0]
      exact ih (Nat.lt_of_succ_lt h) r k R (by omega)

/-- What point `t` stores: the product of the block kept in the scratch. -/
theorem stored (c : Dev nD) (t : Fin cfg0.N) :
    (outsAt0 m c t.val t.isLt).1 = k0_pay2 (outsAt0 m c t.val t.isLt).2 (iblk m c 2 t) := by
  by_cases h0 : t.val % 13 = 0
  · rw [outsAt0_A m c t h0]
    dsimp only
    rw [out_A, sout_A]
  · rw [outsAt0_B m c t h0]
    dsimp only
    rw [out_B]
    rfl

/-- What point `t` writes back is what its body stored. -/
theorem flushed3 (c : Dev nD) (t : Fin cfg0.N) : (dats m 0 c).flushed 3 t = (outsAt0 m c t.val t.isLt).1 := by
  show (cfg0.win 3).cut (grid0.coords t) ((dats m 0 c).after 3 t) = _
  rw [after0_3]
  rfl

/-- What point `t` writes back is block `t` of the whole-array function. -/
theorem flushed_eq (c : Dev nD) (t : Fin cfg0.N) :
    (dats m 0 c).flushed 3 t = ((cfg0.win 3).blk t).view.read (Elt Ideal) (projOf m c) := by
  rw [flushed3, stored]
  funext (j : S1056x1024.Idx)
  obtain ⟨r, q, rfl⟩ : ∃ (r : Fin 1056) (q : Fin 1024), j = ix2 r q := ⟨j 0, j 1, eq_ix2 j⟩
  have hN : t.val < 104 := t.isLt
  have h0 := r.isLt
  have h1 := q.isLt
  rw [View.read_apply]
  obtain ⟨R, hR⟩ : ∃ R : Fin 8448, R.val = t.val / 13 * 1056 + r.val := ⟨⟨_, by omega⟩, rfl⟩
  obtain ⟨Q, hQ⟩ : ∃ Q : Fin 13312, Q.val = t.val % 13 * 1024 + q.val := ⟨⟨_, by omega⟩, rfl⟩
  have e : ((cfg0.win 3).blk t).view.emb (ix2 r q : S1056x1024.Idx) = (ix2 R Q : S8448x13312.Idx) := by
    funext a
    apply Fin.ext
    match a with
    | ⟨0, _⟩ => show win0_3.index t 0 * 1056 + 1 * r.val = R.val; rw [(index_facts t).2.2.2.1]; omega
    | ⟨1, _⟩ => show win0_3.index t 1 * 1024 + 1 * q.val = Q.val; rw [(index_facts t).2.2.2.2]; omega
  rw [e]
  refine (pay2_apply _ _ r q).trans ?_
  show _ = projAt _ _ _ R Q
  unfold projAt
  simp only [scratch m c t.val t.isLt r _ R hR, iblk2 m c t _ q Q hQ]

/-- Every index of the result lies in some point's block. -/
theorem cover (i : S8448x13312.Idx) : ∃ t : Fin cfg0.N, (cfg0.win 3).flush t = true ∧ i ∈ ((cfg0.win 3).blk t).view.set := by
  have h0 : (i 0).val < 8448 := (i 0).isLt
  have h1 : (i 1).val < 13312 := (i 1).isLt
  obtain ⟨t, ht⟩ : ∃ t : Fin cfg0.N, t.val = (i 0).val / 1056 * 13 + (i 1).val / 1024 :=
    ⟨⟨_, by show _ < 104; omega⟩, rfl⟩
  refine ⟨t, flush0_3 t, ?_⟩
  show i ∈ ((View.whole main_v17).slice (win0_3.rect t)).set
  rw [View.set_slice_whole, Rect.mem_set_unit]
  intro a
  match a with
  | ⟨0, _⟩ => show win0_3.index t 0 * 1056 ≤ (i 0).val ∧ (i 0).val < win0_3.index t 0 * 1056 + 1056
              rw [(index_facts t).2.2.2.1]; omega
  | ⟨1, _⟩ => show win0_3.index t 1 * 1024 ≤ (i 1).val ∧ (i 1).val < win0_3.index t 1 * 1024 + 1024
              rw [(index_facts t).2.2.2.2]; omega

/-- So the result array ends holding the whole-array function. -/
theorem final (c : Dev nD) : (dats m 0 c).arrAt 3 cfg0.N = projOf m c :=
  (dats m 0 c).arrAt_eq_of_cover 3 (projOf m c) (fun t _ => flushed_eq m c t) cover

end Cert.ProjKernelIdeal.Block

end
-- ==== Proof.ProjColumns.lean ====
/-
  Groups of columns of a table with one row per token, as arrays: a group flat, a group at some rows of each prompt, and
  a group split into heads. Each is what a slice (and a reshape) of an array holding the table leaves.
-/
module

public import proofs.«01_k».proof.Proof.Common
public import Idealize.ShloMosaic.Lib.Pointwise

@[expose] public section

noncomputable section

namespace Cert.Layer.Columns

open Idealize.ShloMosaic

/-- The table: 4224 rows for each of two prompts, 12832 columns. -/
abbrev ColTable := Fin 8448 → Fin 12832 → EReal

/-- Columns `o` to `o + n`, every row. -/
def flatOf (G : ColTable) (o n : ℕ) (h : o + n ≤ 12832) : (⟨2, ![8448, n]⟩ : Shape).Idx → EReal := fun i =>
  G (i 0) ⟨o + (i 1).val, Nat.lt_of_lt_of_le (Nat.add_lt_add_left (i 1).isLt o) h⟩

/-- The row of token `p` of prompt `s`. -/
def rowOf (s p : ℕ) (hs : s < 2) (hp : p < 4224) : Fin 8448 := ⟨4224 * s + p, by omega⟩

/-- Columns `o` to `o + n` at tokens `p0` to `p0 + L` of each prompt. -/
def rowsOf (G : ColTable) (p0 L o n : ℕ) (hp : p0 + L ≤ 4224) (h : o + n ≤ 12832) : (⟨3, ![2, L, n]⟩ : Shape).Idx → EReal := fun i =>
  G (rowOf (i 0).val (p0 + (i 1).val) (i 0).isLt (Nat.lt_of_lt_of_le (Nat.add_lt_add_left (i 1).isLt p0) hp))
    ⟨o + (i 2).val, Nat.lt_of_lt_of_le (Nat.add_lt_add_left (i 2).isLt o) h⟩

/-- Column `o` on in 16 heads of 64 columns each, at the first 4112 tokens of each prompt. -/
def headsOf (G : ColTable) (o : ℕ) (h : o + 1024 ≤ 12832) : (⟨4, ![2, 4112, 16, 64]⟩ : Shape).Idx → EReal := fun i =>
  G (rowOf (i 0).val (i 1).val (i 0).isLt (Nat.lt_of_lt_of_le (i 1).isLt (by decide)))
    ⟨o + (64 * (i 2).val + (i 3).val), by
      have h2 : (i 2).val < 16 := (i 2).isLt
      have h3 : (i 3).val < 64 := (i 3).isLt
      omega⟩

/-- A column slice of a two-axis array is the flat group, where the array holds the table's columns there. -/
theorem slice_flat {C n O o : ℕ} (G : ColTable) (f : (⟨2, ![8448, C]⟩ : Shape).Idx → EReal) (h : o + n ≤ 12832)
    (hs : (⟨2, ![8448, C]⟩ : Shape).Slices ![0, O] ⟨2, ![8448, n]⟩)
    (hf : ∀ (r : Fin 8448) (q : Fin C) (q' : Fin 12832), O ≤ q.val → q.val < O + n → q'.val + O = q.val + o → f (ix2 r q) = G r q') :
    extractStridedSlice ⟨2, ![8448, n]⟩ ![0, O] f hs = flatOf G o n h := by
  funext i
  obtain ⟨r, q, rfl⟩ : ∃ (r : Fin 8448) (q : Fin n), i = ix2 r q := ⟨i 0, i 1, eq_ix2 i⟩
  have hq := q.isLt
  have hC : O + n ≤ C := hs.2 1
  refine Eq.trans ?_ (hf r ⟨O + q.val, by omega⟩ ⟨o + q.val, by omega⟩ (by simp) (by simp) (by simp only []; omega))
  show f _ = f _
  congr 1
  funext a
  apply Fin.ext
  match a with
  | ⟨0, _⟩ => exact Nat.zero_add _
  | ⟨1, _⟩ => rfl

/-- A slice of a three-axis array is the group at some rows, where the array holds the table's columns there. -/
theorem slice_rows {R C n L P O p0 o : ℕ} (G : ColTable) (f : (⟨3, ![2, R, C]⟩ : Shape).Idx → EReal) (hp : p0 + L ≤ 4224) (h : o + n ≤ 12832)
    (hs : (⟨3, ![2, R, C]⟩ : Shape).Slices ![0, P, O] ⟨3, ![2, L, n]⟩)
    (hf : ∀ (s : Fin 2) (p : Fin R) (q : Fin C) (r : Fin 8448) (q' : Fin 12832), P ≤ p.val → p.val < P + L → O ≤ q.val → q.val < O + n →
      r.val + P = 4224 * s.val + p.val + p0 → q'.val + O = q.val + o → f (ix3 s p q) = G r q') :
    extractStridedSlice ⟨3, ![2, L, n]⟩ ![0, P, O] f hs = rowsOf G p0 L o n hp h := by
  funext i
  obtain ⟨s, p, q, rfl⟩ : ∃ (s : Fin 2) (p : Fin L) (q : Fin n), i = ix3 s p q := ⟨i 0, i 1, i 2, eq_ix3 i⟩
  have hpl := p.isLt
  have hq := q.isLt
  have hR : P + L ≤ R := hs.2 1
  have hC : O + n ≤ C := hs.2 2
  refine Eq.trans ?_ (hf s ⟨P + p.val, by omega⟩ ⟨O + q.val, by omega⟩ (rowOf s.val (p0 + p.val) s.isLt (by omega))
    ⟨o + q.val, by omega⟩ (by simp) (by simp) (by simp) (by simp) (by simp only [rowOf]; omega) (by simp only []; omega))
  show f _ = f _
  congr 1
  funext a
  apply Fin.ext
  match a with
  | ⟨0, _⟩ => exact Nat.zero_add _
  | ⟨1, _⟩ => rfl
  | ⟨2, _⟩ => rfl

/-- Splitting a group's 1024 columns into heads. -/
theorem split_heads (G : ColTable) (o : ℕ) (h : o + 1024 ≤ 12832)
    (hc : (⟨3, ![2, 4112, 1024]⟩ : Shape).ShapeCasts ⟨4, ![2, 4112, 16, 64]⟩) :
    shapeCast ⟨4, ![2, 4112, 16, 64]⟩ (rowsOf G 0 4112 o 1024 (by decide) h) hc = headsOf G o h := by
  funext i
  obtain ⟨s, p, a, d, rfl⟩ : ∃ (s : Fin 2) (p : Fin 4112) (a : Fin 16) (d : Fin 64), i = ix4 s p a d :=
    ⟨i 0, i 1, i 2, i 3, eq_ix4 i⟩
  pointwise
  show G _ _ = G _ _
  congr 1
  · exact Fin.ext (by simp [rowOf, ix3, ix4])
  · exact Fin.ext (by show o + (a.val * 64 + d.val) = o + (64 * a.val + d.val); omega)

/-- Splitting the rows of the packed projection by prompt. -/
theorem split_packed (f : (⟨2, ![8448, 13312]⟩ : Shape).Idx → EReal) (hc : (⟨2, ![8448, 13312]⟩ : Shape).ShapeCasts ⟨3, ![2, 4224, 13312]⟩)
    (s : Fin 2) (p : Fin 4224) (q : Fin 13312) :
    shapeCast ⟨3, ![2, 4224, 13312]⟩ f hc (ix3 s p q) = f (ix2 (rowOf s.val p.val s.isLt p.isLt) q) := by
  pointwise
  exact congrArg (fun r => f (ix2 r q)) (Fin.ext (by simp only [rowOf]; omega))

/-- Splitting the rows of the projection in the weight's own columns by prompt. -/
theorem split_plain (f : (⟨2, ![8448, 12832]⟩ : Shape).Idx → EReal) (hc : (⟨2, ![8448, 12832]⟩ : Shape).ShapeCasts ⟨3, ![2, 4224, 12832]⟩)
    (s : Fin 2) (p : Fin 4224) (q : Fin 12832) :
    shapeCast ⟨3, ![2, 4224, 12832]⟩ f hc (ix3 s p q) = f (ix2 (rowOf s.val p.val s.isLt p.isLt) q) := by
  pointwise
  exact congrArg (fun r => f (ix2 r q)) (Fin.ext (by simp only [rowOf]; omega))

end Cert.Layer.Columns

end
-- ==== Proof.ProjTail.lean ====
/-
  What the input projection's program returns: the host's slices of the array the region leaves, each the weight's own
  columns of the normalized rows' projection.
-/
module

public import proofs.«01_k».proof.Proof.ProjBlock
public import proofs.«01_k».proof.Proof.ProjColumns

@[expose] public section

set_option maxRecDepth 16384

noncomputable section

namespace Cert.ProjKernelIdeal.Block

open Cert.ProjKernelIdeal Cert.ProjKernelIdeal.Gen Idealize.ShloMosaic Idealize.ShloMosaic.TcCoe Idealize.SL.Sem
open Idealize.ShloMosaic.Pipeline (Dat)
open Cert.Layer Cert.Layer.Columns
open scoped BigOperators

variable (m : (ℓ : Loc nD τ sig) → Buf (Elt Ideal) ℓ)

/-- The projection of every normalized row on every column of the weight. -/
def colAt (x : S8448x2048.Idx → EReal) (g : S2048.Idx → EReal) (w : S2048x12832.Idx → EReal) : ColTable := fun r q =>
  ∑ k, rowAt x g r k * w (ix2 k q)

/-- A device's projection, of its three argument arrays. -/
def table (c : Dev nD) : ColTable :=
  colAt (m ((c : Thread nD τ).loc main_arg0)) (m ((c : Thread nD τ).loc main_arg1)) (m ((c : Thread nD τ).loc main_arg2))

/-- The array the region leaves holds the projection's column `q` at every packed column that holds the weight's `q`. -/
theorem projOf_table (c : Dev nD) (r : Fin 8448) (Q : Fin 13312) (q : Fin 12832) (h : Holds Q q) :
    projOf m c (ix2 r Q) = table m c r q := by
  show projAt _ _ (packed m c) r Q = colAt _ _ _ r q
  unfold projAt colAt packed
  exact Finset.sum_congr rfl fun k _ => by rw [pack_apply _ k Q q h]

/-- A column slice of the array the region leaves. -/
theorem packed_flat (c : Dev nD) {n O o : ℕ} (h : o + n ≤ 12832) (hs : S8448x13312.Slices ![0, O] ⟨2, ![8448, n]⟩)
    (hh : ∀ (Q : Fin 13312) (q : Fin 12832), O ≤ Q.val → Q.val < O + n → q.val + O = Q.val + o → Holds Q q) :
    extractStridedSlice ⟨2, ![8448, n]⟩ ![0, O] (projOf m c) hs = flatOf (table m c) o n h :=
  slice_flat _ _ h hs fun r Q q h1 h2 h3 => projOf_table m c r Q q (hh Q q h1 h2 h3)

/-- A slice of the array the region leaves, its rows split by prompt. -/
theorem packed_rows (c : Dev nD) {L n P O o : ℕ} (hp : P + L ≤ 4224) (h : o + n ≤ 12832)
    (hs : S2x4224x13312.Slices ![0, P, O] ⟨3, ![2, L, n]⟩)
    (hh : ∀ (Q : Fin 13312) (q : Fin 12832), O ≤ Q.val → Q.val < O + n → q.val + O = Q.val + o → Holds Q q) :
    extractStridedSlice ⟨3, ![2, L, n]⟩ ![0, P, O] (shapeCast S2x4224x13312 (projOf m c) shapeCasts_S8448x13312_S2x4224x13312) hs
      = rowsOf (table m c) P L o n hp h := by
  refine slice_rows _ _ hp h hs fun s p Q r q _ _ h1 h2 h3 h4 => ?_
  rw [split_packed, projOf_table m c _ Q q (hh Q q h1 h2 h4)]
  congr 1
  exact Fin.ext (by simp only [rowOf]; omega)

/-- At the region's exit the output array holds the projection on the packed weight. -/
theorem exit_out (c : Dev nD) :
    (Pipeline.withArrays (cfgs 0).spec c (V0 m c) (fun w => (dats m 0 c).arrAt w (cfgs 0).N) (Proc.devRef .tc main_v17) : S8448x13312.Idx → EReal)
      = projOf m c :=
  ((Pipeline.withArrays_arr spec0 (by decide) c (V0 m c) (fun w => (dats m 0 c).arrAt w cfg0.N) 3)).trans (final m c)

/-- A column group's packed columns hold it. -/
theorem holds_of (O n o : ℕ) (h : (O + n ≤ 1552 ∧ o = O + 2048) ∨ (1664 ≤ O ∧ O + n ≤ 1680 ∧ o = O + 5008)
    ∨ (2048 ≤ O ∧ O + n ≤ 4096 ∧ o + 2048 = O) ∨ (4096 ≤ O ∧ O + n ≤ 7168 ∧ o + 496 = O) ∨ (7168 ≤ O ∧ o + 480 = O))
    (Q : Fin 13312) (q : Fin 12832) (h1 : O ≤ Q.val) (h2 : Q.val < O + n) (h3 : q.val + O = Q.val + o) : Holds Q q := by
  unfold Holds
  omega

/-- What the host's slices leave in the eleven results: the keys and the values in heads, the rows the convolution and
    the pool carry on, and the seven flat groups (the pool's columns, the scan's gate, input and step columns, the
    queries, the forget gates, the output gates). -/
theorem ends (c : Dev nD) :
    ((Pipeline.afterTail₀ cfgs (dats m) 0 (V0 m) [hostOps1] c main_v20 : S2x4112x16x64.Idx → EReal) = headsOf (table m c) 4624 (by decide)
      ∧ (Pipeline.afterTail₀ cfgs (dats m) 0 (V0 m) [hostOps1] c main_v22 : S2x4112x16x64.Idx → EReal) = headsOf (table m c) 5648 (by decide))
    ∧ ((Pipeline.afterTail₀ cfgs (dats m) 0 (V0 m) [hostOps1] c main_v23 : S2x3x1536.Idx → EReal) = rowsOf (table m c) 4109 3 2048 1536 (by decide) (by decide)
      ∧ (Pipeline.afterTail₀ cfgs (dats m) 0 (V0 m) [hostOps1] c main_v24 : S2x15x1024.Idx → EReal) = rowsOf (table m c) 4097 15 0 1024 (by decide) (by decide))
    ∧ (Pipeline.afterTail₀ cfgs (dats m) 0 (V0 m) [hostOps1] c main_v25 : S8448x1024.Idx → EReal) = flatOf (table m c) 0 1024 (by decide)
    ∧ (Pipeline.afterTail₀ cfgs (dats m) 0 (V0 m) [hostOps1] c main_v26 : S8448x1024.Idx → EReal) = flatOf (table m c) 1024 1024 (by decide)
    ∧ (Pipeline.afterTail₀ cfgs (dats m) 0 (V0 m) [hostOps1] c main_v27 : S8448x1536.Idx → EReal) = flatOf (table m c) 2048 1536 (by decide)
    ∧ (Pipeline.afterTail₀ cfgs (dats m) 0 (V0 m) [hostOps1] c main_v28 : S8448x16.Idx → EReal) = flatOf (table m c) 3584 16 (by decide)
    ∧ (Pipeline.afterTail₀ cfgs (dats m) 0 (V0 m) [hostOps1] c main_v29 : S8448x1024.Idx → EReal) = flatOf (table m c) 3600 1024 (by decide)
    ∧ (Pipeline.afterTail₀ cfgs (dats m) 0 (V0 m) [hostOps1] c main_v30 : S8448x16.Idx → EReal) = flatOf (table m c) 6672 16 (by decide)
    ∧ (Pipeline.afterTail₀ cfgs (dats m) 0 (V0 m) [hostOps1] c main_v31 : S8448x6144.Idx → EReal) = flatOf (table m c) 6688 6144 (by decide) := by
  unfold Pipeline.afterTail₀
  simp only [List.flatten_cons, List.flatten_nil, List.append_nil]
  refine ⟨⟨?_, ?_⟩, ⟨?_, ?_⟩, ?_, ?_, ?_, ?_, ?_, ?_, ?_⟩ <;> after_results_simp <;> rw [exit_out]
  iterate 2
    rw [← split_heads _ _ _ shapeCasts_S2x4112x1024_S2x4112x16x64]
    exact congrArg (fun f => shapeCast S2x4112x16x64 f shapeCasts_S2x4112x1024_S2x4112x16x64)
      (packed_rows m c (by decide) (by decide) _ (holds_of _ _ _ (by decide)))
  iterate 2 exact packed_rows m c (by decide) (by decide) _ (holds_of _ _ _ (by decide))
  all_goals exact packed_flat m c (by decide) _ (holds_of _ _ _ (by decide))

end Cert.ProjKernelIdeal.Block

end
-- ==== Proof.ProjClaim.lean ====
/-
  The combined input projection's claims: its kernel, over the packed weight, ends at the groups of columns of the
  normalized rows' projection which the reference reads off the plain weight.
-/
module

public import proofs.«01_k».proof.Defs
public import proofs.«01_k».proof.Proof.ProjTail
public import proofs.«01_k».proof.Proof.Gen.ProjKernel.Frame
public import proofs.«01_k».proof.Proof.Gen.ProjReferenceIdeal.Run
public import proofs.«01_k».proof.Proof.Gen.ProjReferenceIdeal.Read
public import Idealize.ShloMosaic.Lib.Quiescent

@[expose] public section

set_option maxRecDepth 16384

noncomputable section

namespace Cert.Proof.Proj

open Idealize.ShloMosaic Idealize.ShloMosaic.TcCoe Idealize.SL.Sem
open Cert.ProjReferenceIdeal.Read
open Cert.Layer.Columns
open Cert.ProjKernelIdeal.Block (colAt table)
open scoped BigOperators

/-- The reference's normalized rows. -/
theorem norm_apply (x : Vec Ideal Cert.ProjReferenceIdeal.S8448x2048 .f32) (g : Vec Ideal Cert.ProjReferenceIdeal.S2048 .f32)
    (r : Fin 8448) (k : Fin 2048) :
    (val_main_v12 (F := Ideal) x g : Cert.ProjReferenceIdeal.S8448x2048.Idx → EReal) (ix2 r k)
      = Cert.ProjKernelIdeal.Block.rowAt x g r k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

section Reference
variable (x : Vec Ideal Cert.ProjReferenceIdeal.S8448x2048 .f32) (g : Vec Ideal Cert.ProjReferenceIdeal.S2048 .f32) (w : Vec Ideal Cert.ProjReferenceIdeal.S2048x12832 .f32)

/-- The reference's projection at row `r` and column `q`. -/
theorem ref_apply (r : Fin 8448) (q : Fin 12832) :
    (val_main_v13 (F := Ideal) x g w : Cert.ProjReferenceIdeal.S8448x12832.Idx → EReal) (ix2 r q) = colAt x g w r q := by
  pointwise [val_main_v13]
  simp only [norm_apply]
  rfl

/-- The reference's projection, its rows split by prompt and each prompt's last rows left out. -/
theorem ref_rows (s : Fin 2) (p : Fin 4112) (q : Fin 12832) (r : Fin 8448) (hr : r.val = 4224 * s.val + p.val) :
    (val_main_v15 (F := Ideal) x g w : Cert.ProjReferenceIdeal.S2x4112x12832.Idx → EReal) (ix3 s p q) = colAt x g w r q := by
  pointwise [val_main_v15, val_main_v14]
  rw [← ref_apply x g w r q]
  exact congrArg (fun r => (val_main_v13 (F := Ideal) x g w : Cert.ProjReferenceIdeal.S8448x12832.Idx → EReal) (ix2 r q)) (Fin.ext (by simp only []; omega))

/-- A column slice of the reference's projection. -/
theorem ref_flat {n o : ℕ} (h : o + n ≤ 12832) (hs : Cert.ProjReferenceIdeal.S8448x12832.Slices ![0, o] ⟨2, ![8448, n]⟩) :
    extractStridedSlice ⟨2, ![8448, n]⟩ ![0, o] (val_main_v13 (F := Ideal) x g w : Cert.ProjReferenceIdeal.S8448x12832.Idx → EReal) hs = flatOf (colAt x g w) o n h :=
  slice_flat _ _ h hs fun r q q' _ _ e => by
    rw [ref_apply, show q = q' from Fin.ext (by omega)]

/-- A column slice of the reference's projection split by prompt. -/
theorem ref_group {n o : ℕ} (h : o + n ≤ 12832) (hs : Cert.ProjReferenceIdeal.S2x4112x12832.Slices ![0, 0, o] ⟨3, ![2, 4112, n]⟩) :
    extractStridedSlice ⟨3, ![2, 4112, n]⟩ ![0, 0, o] (val_main_v15 (F := Ideal) x g w : Cert.ProjReferenceIdeal.S2x4112x12832.Idx → EReal) hs
      = rowsOf (colAt x g w) 0 4112 o n (by decide) h :=
  slice_rows _ _ (by decide) h hs fun s p q r q' _ _ _ _ er e => by
    rw [ref_rows x g w s p q r (by omega), show q = q' from Fin.ext (by omega)]

/-- The last `L` rows of each prompt in a group of columns. -/
theorem last_rows {L P n o : ℕ} (G : ColTable) (h : o + n ≤ 12832) (hp : P + L ≤ 4224)
    (hs : (⟨3, ![2, 4112, n]⟩ : Shape).Slices ![0, P, 0] ⟨3, ![2, L, n]⟩) :
    extractStridedSlice ⟨3, ![2, L, n]⟩ ![0, P, 0] (rowsOf G 0 4112 o n (by decide) h) hs = rowsOf G P L o n hp h :=
  slice_rows _ _ hp h hs fun s p q r q' _ _ _ _ er e => by
    show G _ _ = G _ _
    congr 1
    · exact Fin.ext (by show 4224 * s.val + (0 + p.val) = r.val; omega)
    · exact Fin.ext (by show o + q.val = q'.val; omega)

/-- The reference's eleven results are the groups of columns of its projection. -/
theorem ref_ends :
    ((val_main_v17 (F := Ideal) x g w : Cert.ProjReferenceIdeal.S2x4112x16x64.Idx → EReal) = headsOf (colAt x g w) 4624 (by decide)
      ∧ (val_main_v19 (F := Ideal) x g w : Cert.ProjReferenceIdeal.S2x4112x16x64.Idx → EReal) = headsOf (colAt x g w) 5648 (by decide))
    ∧ ((val_main_v21 (F := Ideal) x g w : Cert.ProjReferenceIdeal.S2x3x1536.Idx → EReal) = rowsOf (colAt x g w) 4109 3 2048 1536 (by decide) (by decide)
      ∧ (val_main_v23 (F := Ideal) x g w : Cert.ProjReferenceIdeal.S2x15x1024.Idx → EReal) = rowsOf (colAt x g w) 4097 15 0 1024 (by decide) (by decide))
    ∧ (val_main_v24 (F := Ideal) x g w : Cert.ProjReferenceIdeal.S8448x1024.Idx → EReal) = flatOf (colAt x g w) 0 1024 (by decide)
    ∧ (val_main_v25 (F := Ideal) x g w : Cert.ProjReferenceIdeal.S8448x1024.Idx → EReal) = flatOf (colAt x g w) 1024 1024 (by decide)
    ∧ (val_main_v26 (F := Ideal) x g w : Cert.ProjReferenceIdeal.S8448x1536.Idx → EReal) = flatOf (colAt x g w) 2048 1536 (by decide)
    ∧ (val_main_v27 (F := Ideal) x g w : Cert.ProjReferenceIdeal.S8448x16.Idx → EReal) = flatOf (colAt x g w) 3584 16 (by decide)
    ∧ (val_main_v28 (F := Ideal) x g w : Cert.ProjReferenceIdeal.S8448x1024.Idx → EReal) = flatOf (colAt x g w) 3600 1024 (by decide)
    ∧ (val_main_v29 (F := Ideal) x g w : Cert.ProjReferenceIdeal.S8448x16.Idx → EReal) = flatOf (colAt x g w) 6672 16 (by decide)
    ∧ (val_main_v30 (F := Ideal) x g w : Cert.ProjReferenceIdeal.S8448x6144.Idx → EReal) = flatOf (colAt x g w) 6688 6144 (by decide) := by
  unfold val_main_v17 val_main_v16 val_main_v19 val_main_v18 val_main_v21 val_main_v20 val_main_v23 val_main_v22
    val_main_v24 val_main_v25 val_main_v26 val_main_v27 val_main_v28 val_main_v29 val_main_v30
  refine ⟨⟨?_, ?_⟩, ⟨?_, ?_⟩, ?_, ?_, ?_, ?_, ?_, ?_, ?_⟩
  iterate 2
    rw [← split_heads _ _ _ Cert.ProjReferenceIdeal.Gen.shapeCasts_S2x4112x1024_S2x4112x16x64]
    exact congrArg (fun f => shapeCast Cert.ProjReferenceIdeal.S2x4112x16x64 f Cert.ProjReferenceIdeal.Gen.shapeCasts_S2x4112x1024_S2x4112x16x64)
      (ref_group x g w (by decide) _)
  iterate 2
    refine Eq.trans ?_ (last_rows (colAt x g w) (by decide) (by decide) (by decide))
    exact congrArg (fun f => extractStridedSlice _ _ f _) (ref_group x g w (by decide) _)
  all_goals exact ref_flat x g w (by decide) _
end Reference

/-- The reference's frame: its run leaves the arguments, and it declares no semaphore. -/
theorem frame_ref : Cert.quiescent_ProjReferenceIdeal := fun m ρ _ =>
  (θ_run Cert.ProjReferenceIdeal.defs _ _).mono (fun r h => ⟨fun c => (h c).2.2.2.2.2.2.2.2.2.2.2, sem_eq_zero_of_no_sems rfl _⟩)
    (Cert.ProjReferenceIdeal.Value.run (F := Ideal) m ρ)

/-- Over the extended reals the kernel computes the reference's function. -/
theorem algebraic : Cert.algebraic_ProjKernelIdeal_ProjReferenceIdeal := by
  intro m ρ m' ρ' _ hagree
  refine ⟨fun c => headsOf (Cert.ProjKernelIdeal.Block.table m c) 4624 (by decide),
    fun c => headsOf (Cert.ProjKernelIdeal.Block.table m c) 5648 (by decide),
    fun c => rowsOf (Cert.ProjKernelIdeal.Block.table m c) 4109 3 2048 1536 (by decide) (by decide),
    fun c => rowsOf (Cert.ProjKernelIdeal.Block.table m c) 4097 15 0 1024 (by decide) (by decide),
    fun c => flatOf (Cert.ProjKernelIdeal.Block.table m c) 0 1024 (by decide),
    fun c => flatOf (Cert.ProjKernelIdeal.Block.table m c) 1024 1024 (by decide),
    fun c => flatOf (Cert.ProjKernelIdeal.Block.table m c) 2048 1536 (by decide),
    fun c => flatOf (Cert.ProjKernelIdeal.Block.table m c) 3584 16 (by decide),
    fun c => flatOf (Cert.ProjKernelIdeal.Block.table m c) 3600 1024 (by decide),
    fun c => flatOf (Cert.ProjKernelIdeal.Block.table m c) 6672 16 (by decide),
    fun c => flatOf (Cert.ProjKernelIdeal.Block.table m c) 6688 6144 (by decide),
    ?_, ?_⟩
  · refine (θ_run Cert.ProjKernelIdeal.defs _ _).mono (fun r h c => ?_)
      (θ_run_and (Cert.ProjKernelIdeal.Gen.run_main (F := Ideal) m ρ) (Cert.ProjKernelIdeal.Gen.unchanged (F := Ideal) m ρ))
    have e := Cert.ProjKernelIdeal.Block.ends m c
    have rest := fun b h1 h2 => (h.1 c).2 b (Pipeline.mem_restRefs_of b h1 h2)
    exact ⟨(rest Cert.ProjKernelIdeal.main_v20 (by decide) (by decide)).trans e.1.1,
      (rest Cert.ProjKernelIdeal.main_v22 (by decide) (by decide)).trans e.1.2,
      (rest Cert.ProjKernelIdeal.main_v23 (by decide) (by decide)).trans e.2.1.1,
      (rest Cert.ProjKernelIdeal.main_v24 (by decide) (by decide)).trans e.2.1.2,
      (rest Cert.ProjKernelIdeal.main_v25 (by decide) (by decide)).trans e.2.2.1,
      (rest Cert.ProjKernelIdeal.main_v26 (by decide) (by decide)).trans e.2.2.2.1,
      (rest Cert.ProjKernelIdeal.main_v27 (by decide) (by decide)).trans e.2.2.2.2.1,
      (rest Cert.ProjKernelIdeal.main_v28 (by decide) (by decide)).trans e.2.2.2.2.2.1,
      (rest Cert.ProjKernelIdeal.main_v29 (by decide) (by decide)).trans e.2.2.2.2.2.2.1,
      (rest Cert.ProjKernelIdeal.main_v30 (by decide) (by decide)).trans e.2.2.2.2.2.2.2.1,
      (rest Cert.ProjKernelIdeal.main_v31 (by decide) (by decide)).trans e.2.2.2.2.2.2.2.2,
      h.2 c⟩
  refine (θ_run Cert.ProjReferenceIdeal.defs _ _).mono (fun _ h c => ?_)
    (Cert.ProjReferenceIdeal.Value.run (F := Ideal) m' ρ')
  have h := h c
  have e := ref_ends (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1))
    (m ((c.tc : Thread Cert.ProjKernelIdeal.nD Cert.ProjKernelIdeal.τ).loc Cert.ProjKernelIdeal.main_arg2))
  rw [(hagree c).1, (hagree c).2.1, (hagree c).2.2] at h ⊢
  rw [val_main_v17_eq, val_main_v19_eq, val_main_v21_eq, val_main_v23_eq, val_main_v24_eq, val_main_v25_eq, val_main_v26_eq, val_main_v27_eq, val_main_v28_eq, val_main_v29_eq, val_main_v30_eq] at h
  obtain ⟨a0, a1, a2, a3, a4, a5, a6, a7, a8, a9, a10, kept⟩ := h
  exact ⟨a0.trans e.1.1, a1.trans e.1.2, a2.trans e.2.1.1, a3.trans e.2.1.2, a4.trans e.2.2.1, a5.trans e.2.2.2.1, a6.trans e.2.2.2.2.1, a7.trans e.2.2.2.2.2.1, a8.trans e.2.2.2.2.2.2.1, a9.trans e.2.2.2.2.2.2.2.1, a10.trans e.2.2.2.2.2.2.2.2, kept⟩

end Cert.Proof.Proj

end
-- ==== Proof.SampBlock.lean ====
/-
  The combined input projection of the sample rows, one row block of 128: normalized at the first column block and kept;
  every grid point writes back one column block of the normalized rows times the packed weight.
-/
module

public import proofs.«01_k».proof.Proof.Common
public import proofs.«01_k».proof.Proof.ProjWeight
public import proofs.«01_k».proof.Proof.Gen.SampKernelIdeal.Frame
public import Idealize.ShloMosaic.Lib.Pointwise
public import Idealize.ShloMosaic.Lib.Claim
public import Idealize.ShloMosaic.Lib.Pipeline.Value

@[expose] public section

set_option maxRecDepth 16384

noncomputable section

namespace Cert.SampKernelIdeal.Block

open Cert.SampKernelIdeal Cert.SampKernelIdeal.Gen Idealize.ShloMosaic Idealize.ShloMosaic.TcCoe Idealize.SL.Sem
open Idealize.ShloMosaic.Pipeline (Dat)
open Cert.Layer
open Cert.ProjKernelIdeal.Block (pack narrow pack_of pack_apply Holds)
open scoped BigOperators

variable (m : (ℓ : Loc nD τ sig) → Buf (Elt Ideal) ℓ)

theorem hz : (![0, 0] : Fin 2 → Nat) = fun _ => 0 := funext fun a => by fin_cases a <;> rfl

/-- Row `r` of `x`, normalized, at column `k`. -/
def rowAt (x : S128x2048.Idx → EReal) (g : S2048.Idx → EReal) (r : Fin 128) (k : Fin 2048) : EReal :=
  normAt (fun j => x (ix2 r j)) (g (ix1 k)) k

/-- The projection of normalized row `r` on column `q` of the packed weight. -/
def projAt (x : S128x2048.Idx → EReal) (g : S2048.Idx → EReal) (w : S2048x13312.Idx → EReal) (r : Fin 128)
    (q : Fin 13312) : EReal := ∑ k, rowAt x g r k * w (ix2 k q)

/-- A device's weight, packed. -/
def packed (c : Dev nD) : S2048x13312.Idx → EReal :=
  pack (m ((c : Thread nD τ).loc main_arg2)) (narrow (m ((c : Thread nD τ).loc main_arg2)))

/-- The whole array the region leaves, of a device's three argument arrays. -/
def projOf (c : Dev nD) : S128x13312.Idx → EReal := fun i =>
  projAt (m ((c : Thread nD τ).loc main_arg0)) (m ((c : Thread nD τ).loc main_arg1)) (packed m c) (i 0) (i 1)

/-- The normalized row block the first column's point keeps, entry by entry. -/
theorem pay1_apply (x : Vec Ideal S128x2048 .f32) (g : Vec Ideal S1x2048 .f32) (r : Fin 128) (k : Fin 2048) :
    (k0_pay1 (F := Ideal) x g : S128x2048.Idx → EReal) (ix2 r k) = normAt (fun j => x (ix2 r j)) (g (ix2 0 k)) k := by
  pointwise [k0_pay1]
  rfl

/-- The block the body stores, entry by entry. -/
theorem pay2_apply (x : Vec Ideal S128x2048 .bf16) (w : Vec Ideal S2048x1024 .bf16) (r : Fin 128) (q : Fin 1024) :
    (k0_pay2 (F := Ideal) x w : S128x1024.Idx → EReal) (ix2 r q) = ∑ k, (x (ix2 r k) : EReal) * (w (ix2 k q) : EReal) := by
  pointwise [k0_pay2]

/-- The block indices of the four windows at point `t`. -/
theorem index_facts : ∀ t : Fin grid0.N,
    (win0_0.index t 0 = t.val / 13 ∧ win0_0.index t 1 = 0) ∧ (win0_1.index t 0 = 0 ∧ win0_1.index t 1 = 0)
    ∧ (win0_2.index t 0 = 0 ∧ win0_2.index t 1 = t.val % 13)
    ∧ (win0_3.index t 0 = t.val / 13 ∧ win0_3.index t 1 = t.val % 13) := by decide +kernel

/-- The weight the region finds is the packed one (the host's conversion keeps every value). -/
theorem V_weight (c : Dev nD) : (V m c main_v15 : S2048x13312.Idx → EReal)
    = pack (m ((c : Thread nD τ).loc main_arg2) : Vec Ideal S2048x12832 .f32) (narrow (m ((c : Thread nD τ).loc main_arg2) : Vec Ideal S2048x12832 .f32)) := by
  show StableHlo.after hostOps0 (fun b => m (c, b)) (Proc.tc.devRef main_v15) = _
  set_option maxHeartbeats 1600000 in
  simp only [StableHlo.after_cons, StableHlo.after_nil]
  after_results_simp
  refine pack_of (m ((c : Thread nD τ).loc main_arg2)) (narrow (m ((c : Thread nD τ).loc main_arg2))) _ _ _ _ _ _ _ _ ?_ ?_ ?_ ?_ ?_ ?_ ?_ ?_
  · show (_ : HloOp τ sig (Elt Ideal)).result _ (Proc.tc.devRef main_v7) = _
    after_results_simp <;> rfl
  · show (_ : HloOp τ sig (Elt Ideal)).result _ (Proc.tc.devRef main_v6) = _
    after_results_simp <;> rfl
  · show (_ : HloOp τ sig (Elt Ideal)).result _ (Proc.tc.devRef main_v8) = _
    after_results_simp <;> rfl
  · show (_ : HloOp τ sig (Elt Ideal)).result _ (Proc.tc.devRef main_v9) = _
    after_results_simp <;> rfl
  · show (_ : HloOp τ sig (Elt Ideal)).result _ (Proc.tc.devRef main_v10) = _
    after_results_simp <;> rfl
  · show (_ : HloOp τ sig (Elt Ideal)).result _ (Proc.tc.devRef main_v11) = _
    after_results_simp <;> rfl
  · show (_ : HloOp τ sig (Elt Ideal)).result _ (Proc.tc.devRef main_v12) = _
    after_results_simp <;> rfl
  · show (_ : HloOp τ sig (Elt Ideal)).result _ (Proc.tc.devRef main_v13) = _
    after_results_simp <;> rfl

/-- The gain the region finds is the argument laid out as one row. -/
theorem V_gain (c : Dev nD) (k : Fin 2048) : (V m c main_v16 : S1x2048.Idx → EReal) (ix2 0 k)
    = (m ((c : Thread nD τ).loc main_arg1) : S2048.Idx → EReal) (ix1 k) := by
  have e : (V m c main_v16 : S1x2048.Idx → EReal) = shapeCast S1x2048 (m ((c : Thread nD τ).loc main_arg1) : Vec Ideal S2048 .f32) shapeCasts_S2048_S1x2048 := by
    entry_read
    rfl
  rw [e]
  pointwise

/-- The row window's block read at an entry. -/
theorem iblk0 (c : Dev nD) (t : Fin cfg0.N) (r : Fin 128) (k : Fin 2048) (R : Fin 128) (hR : R.val = t.val / 13 * 128 + r.val) :
    (iblk m c 0 t : S128x2048.Idx → EReal) (ix2 r k) = (m ((c : Thread nD τ).loc main_arg0) : S128x2048.Idx → EReal) (ix2 R k) := by
  unfold iblk
  rw [View.read_apply]
  show V m c main_arg0 _ = _
  rw [V_main_arg0]
  congr 1
  funext a
  apply Fin.ext
  match a with
  | ⟨0, _⟩ => show win0_0.index t 0 * 128 + 1 * r.val = R.val; rw [(index_facts t).1.1]; omega
  | ⟨1, _⟩ => show win0_0.index t 1 * 2048 + 1 * k.val = k.val; rw [(index_facts t).1.2]; omega

/-- The gain window's block read at an entry. -/
theorem iblk1 (c : Dev nD) (t : Fin cfg0.N) (k : Fin 2048) :
    (iblk m c 1 t : S1x2048.Idx → EReal) (ix2 0 k) = (m ((c : Thread nD τ).loc main_arg1) : S2048.Idx → EReal) (ix1 k) := by
  rw [← V_gain m c k]
  unfold iblk
  rw [View.read_apply]
  show (V m c main_v16 : S1x2048.Idx → EReal) _ = _
  congr 1
  funext a
  apply Fin.ext
  match a with
  | ⟨0, _⟩ => show win0_1.index t 0 * 1 + 1 * 0 = 0; rw [(index_facts t).2.1.1]
  | ⟨1, _⟩ => show win0_1.index t 1 * 2048 + 1 * k.val = k.val; rw [(index_facts t).2.1.2]; omega

/-- The weight window's block read at an entry. -/
theorem iblk2 (c : Dev nD) (t : Fin cfg0.N) (k : Fin 2048) (q : Fin 1024) (Q : Fin 13312) (hQ : Q.val = t.val % 13 * 1024 + q.val) :
    (iblk m c 2 t : S2048x1024.Idx → EReal) (ix2 k q) = packed m c (ix2 k Q) := by
  unfold iblk
  rw [View.read_apply]
  show (V m c main_v15 : S2048x13312.Idx → EReal) _ = _
  rw [V_weight]
  show packed m c _ = _
  congr 1
  funext a
  apply Fin.ext
  match a with
  | ⟨0, _⟩ => show win0_2.index t 0 * 2048 + 1 * k.val = k.val; rw [(index_facts t).2.2.1.1]; omega
  | ⟨1, _⟩ => show win0_2.index t 1 * 1024 + 1 * q.val = Q.val; rw [(index_facts t).2.2.1.2]; omega

section Cases
variable (c : Dev nD) (i : grid0.Coords) (a2 : Memref sig .tc .vmem S128x2048 .f32) (h2 : a2.IsWhole)
  (a3 : Memref sig .tc .vmem S1x2048 .f32) (h3 : a3.IsWhole) (a4 : Memref sig .tc .vmem S2048x1024 .bf16) (h4 : a4.IsWhole)
  (a5 : Memref sig .tc .vmem S128x1024 .f32) (h5 : a5.IsWhole) (a6 : Memref sig .tc .vmem S128x2048 .bf16) (h6 : a6.IsWhole)
  (x0 : Vec Ideal S128x2048 .f32) (x1 : Vec Ideal S1x2048 .f32) (x2 : Vec Ideal S2048x1024 .bf16)

/-- At a row block's first point the kept scratch is the normalized block. -/
theorem sout_A (hc : cond0_0 i) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S128x2048) hz, View.ld_unit_zero (S := S1x2048) hz]

/-- At a row block's first point the stored block is computed from the normalized block just kept. -/
theorem out_A (hc : cond0_0 i) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.readCov_unit_zero (S := S128x2048) _ hz,
    View.ld_unit_zero (S := S128x2048) hz, View.ld_unit_zero (S := S1x2048) hz, View.ld_unit_zero (S := S2048x1024) hz]

/-- At a later point of a row block the stored block is computed from what the scratch holds. -/
theorem out_B (hc : ¬cond0_0 i) (xs : Vec Ideal S128x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  try sl_unfold_words
  rw [View.canon_unit_zero hz]
  simp only [View.readAt_eq_ld, h4.read_unread, h6.read_unread,
    View.ld_unit_zero (S := S128x2048) hz, View.ld_unit_zero (S := S2048x1024) hz]
end Cases

/-- After point `n` the scratch holds the normalized rows of the point's row block. -/
theorem scratch (c : Dev nD) : ∀ (n : ℕ) (h : n < cfg0.N) (r : Fin 128) (k : Fin 2048) (R : Fin 128),
    R.val = n / 13 * 128 + r.val → ((outsAt0 m c n h).2 : S128x2048.Idx → EReal) (ix2 r k)
      = rowAt (m ((c : Thread nD τ).loc main_arg0)) (m ((c : Thread nD τ).loc main_arg1)) R k := by
  have first : ∀ (t : Fin cfg0.N) (h0 : t.val % 13 = 0) (r : Fin 128) (k : Fin 2048) (R : Fin 128),
      R.val = t.val / 13 * 128 + r.val → ((outsAt0 m c t.val t.isLt).2 : S128x2048.Idx → EReal) (ix2 r k)
      = rowAt (m ((c : Thread nD τ).loc main_arg0)) (m ((c : Thread nD τ).loc main_arg1)) R k := by
    intro t h0 r k R hR
    rw [outsAt0_A m c t h0]
    dsimp only
    rw [sout_A]
    refine (pay1_apply _ _ r k).trans ?_
    unfold rowAt
    simp only [iblk0 m c t _ _ R hR, iblk1]
  intro n
  induction n with
  | zero => exact fun h => first ⟨0, h⟩ rfl
  | succ n ih =>
    intro h r k R hR
    by_cases h0 : (n + 1) % 13 = 0
    · exact first ⟨n + 1, h⟩ h0 r k R hR
    · rw [outsAt0_B m c ⟨n + 1, h⟩ h0]
      exact ih (Nat.lt_of_succ_lt h) r k R (by omega)

/-- What point `t` stores: the product of the block kept in the scratch. -/
theorem stored (c : Dev nD) (t : Fin cfg0.N) :
    (outsAt0 m c t.val t.isLt).1 = k0_pay2 (outsAt0 m c t.val t.isLt).2 (iblk m c 2 t) := by
  by_cases h0 : t.val % 13 = 0
  · rw [outsAt0_A m c t h0]
    dsimp only
    rw [out_A, sout_A]
  · rw [outsAt0_B m c t h0]
    dsimp only
    rw [out_B]
    rfl

/-- What point `t` writes back is what its body stored. -/
theorem flushed3 (c : Dev nD) (t : Fin cfg0.N) : (dats m 0 c).flushed 3 t = (outsAt0 m c t.val t.isLt).1 := by
  show (cfg0.win 3).cut (grid0.coords t) ((dats m 0 c).after 3 t) = _
  rw [after0_3]
  rfl

/-- What point `t` writes back is block `t` of the whole-array function. -/
theorem flushed_eq (c : Dev nD) (t : Fin cfg0.N) :
    (dats m 0 c).flushed 3 t = ((cfg0.win 3).blk t).view.read (Elt Ideal) (projOf m c) := by
  rw [flushed3, stored]
  funext (j : S128x1024.Idx)
  obtain ⟨r, q, rfl⟩ : ∃ (r : Fin 128) (q : Fin 1024), j = ix2 r q := ⟨j 0, j 1, eq_ix2 j⟩
  have hN : t.val < 13 := t.isLt
  have h0 := r.isLt
  have h1 := q.isLt
  rw [View.read_apply]
  obtain ⟨R, hR⟩ : ∃ R : Fin 128, R.val = t.val / 13 * 128 + r.val := ⟨⟨_, by omega⟩, rfl⟩
  obtain ⟨Q, hQ⟩ : ∃ Q : Fin 13312, Q.val = t.val % 13 * 1024 + q.val := ⟨⟨_, by omega⟩, rfl⟩
  have e : ((cfg0.win 3).blk t).view.emb (ix2 r q : S128x1024.Idx) = (ix2 R Q : S128x13312.Idx) := by
    funext a
    apply Fin.ext
    match a with
    | ⟨0, _⟩ => show win0_3.index t 0 * 128 + 1 * r.val = R.val; rw [(index_facts t).2.2.2.1]; omega
    | ⟨1, _⟩ => show win0_3.index t 1 * 1024 + 1 * q.val = Q.val; rw [(index_facts t).2.2.2.2]; omega
  rw [e]
  refine (pay2_apply _ _ r q).trans ?_
  show _ = projAt _ _ _ R Q
  unfold projAt
  simp only [scratch m c t.val t.isLt r _ R hR, iblk2 m c t _ q Q hQ]

/-- Every index of the result lies in some point's block. -/
theorem cover (i : S128x13312.Idx) : ∃ t : Fin cfg0.N, (cfg0.win 3).flush t = true ∧ i ∈ ((cfg0.win 3).blk t).view.set := by
  have h0 : (i 0).val < 128 := (i 0).isLt
  have h1 : (i 1).val < 13312 := (i 1).isLt
  obtain ⟨t, ht⟩ : ∃ t : Fin cfg0.N, t.val = (i 0).val / 128 * 13 + (i 1).val / 1024 :=
    ⟨⟨_, by show _ < 13; omega⟩, rfl⟩
  refine ⟨t, flush0_3 t, ?_⟩
  show i ∈ ((View.whole main_v17).slice (win0_3.rect t)).set
  rw [View.set_slice_whole, Rect.mem_set_unit]
  intro a
  match a with
  | ⟨0, _⟩ => show win0_3.index t 0 * 128 ≤ (i 0).val ∧ (i 0).val < win0_3.index t 0 * 128 + 128
              rw [(index_facts t).2.2.2.1]; omega
  | ⟨1, _⟩ => show win0_3.index t 1 * 1024 ≤ (i 1).val ∧ (i 1).val < win0_3.index t 1 * 1024 + 1024
              rw [(index_facts t).2.2.2.2]; omega

/-- So the result array ends holding the whole-array function. -/
theorem final (c : Dev nD) : (dats m 0 c).arrAt 3 cfg0.N = projOf m c :=
  (dats m 0 c).arrAt_eq_of_cover 3 (projOf m c) (fun t _ => flushed_eq m c t) cover

end Cert.SampKernelIdeal.Block

end
-- ==== Proof.SampTail.lean ====
/-
  What the sample rows' projection returns: the keys, the values and the two carried histories of eight sequences, one
  new row each, the first of the sequence's sixteen padded rows.
-/
module

public import proofs.«01_k».proof.Proof.SampBlock
public import proofs.«01_k».proof.Proof.ProjTail

@[expose] public section

set_option maxRecDepth 16384

noncomputable section

namespace Cert.SampKernelIdeal.Block

open Cert.SampKernelIdeal Cert.SampKernelIdeal.Gen Idealize.ShloMosaic Idealize.ShloMosaic.TcCoe Idealize.SL.Sem
open Idealize.ShloMosaic.Pipeline (Dat)
open Cert.Layer
open Cert.ProjKernelIdeal.Block (pack narrow pack_apply Holds holds_of)
open scoped BigOperators

variable (m : (ℓ : Loc nD τ sig) → Buf (Elt Ideal) ℓ)

/-- The projection of the new row of sequence `s`, its row `16 s`, on every column of the weight. -/
def newAt (x : S128x2048.Idx → EReal) (g : S2048.Idx → EReal) (w : S2048x12832.Idx → EReal) (s : Fin 8) (q : Fin 12832) : EReal :=
  ∑ k, rowAt x g ⟨16 * s.val, by omega⟩ k * w (ix2 k q)

/-- A device's new rows, of its argument arrays. -/
def fresh (c : Dev nD) : Fin 8 → Fin 12832 → EReal :=
  newAt (m ((c : Thread nD τ).loc main_arg0)) (m ((c : Thread nD τ).loc main_arg1)) (m ((c : Thread nD τ).loc main_arg2))

/-- Columns `o` on of the new rows, in 16 heads of 64. -/
def headsOf (T : Fin 8 → Fin 12832 → EReal) (o : ℕ) (h : o + 1024 ≤ 12832) : S8x1x16x64.Idx → EReal := fun i =>
  T (i 0) ⟨o + (64 * (i 2).val + (i 3).val), by
    have h2 : (i 2).val < 16 := (i 2).isLt
    have h3 : (i 3).val < 64 := (i 3).isLt
    omega⟩

/-- Columns `o` on of the new rows. -/
def colsOf (T : Fin 8 → Fin 12832 → EReal) (o n : ℕ) (h : o + n ≤ 12832) : (⟨3, ![8, 1, n]⟩ : Shape).Idx → EReal := fun i =>
  T (i 0) ⟨o + (i 2).val, Nat.lt_of_lt_of_le (Nat.add_lt_add_left (i 2).isLt o) h⟩

/-- A slice of an array that holds the table's column `q` at column `Q`. -/
theorem cols_slice {W n O o : ℕ} (a : (⟨3, ![8, 1, W]⟩ : Shape).Idx → EReal) (T : Fin 8 → Fin 12832 → EReal) (h : o + n ≤ 12832)
    (hs : (⟨3, ![8, 1, W]⟩ : Shape).Slices ![0, 0, O] ⟨3, ![8, 1, n]⟩)
    (ha : ∀ (s : Fin 8) (Q : Fin W) (q : Fin 12832), O ≤ Q.val → Q.val < O + n → q.val + O = Q.val + o → a (ix3 s 0 Q) = T s q) :
    extractStridedSlice ⟨3, ![8, 1, n]⟩ ![0, 0, O] a hs = colsOf T o n h := by
  funext i
  obtain ⟨s, z, k, rfl⟩ : ∃ (s : Fin 8) (z : Fin 1) (k : Fin n), i = ix3 s z k := ⟨i 0, i 1, i 2, eq_ix3 i⟩
  have hW : O + n ≤ W := hs.2 2
  unfold extractStridedSlice
  refine Eq.trans (congrArg a ?_) (ha s ⟨O + k.val, by omega⟩ ⟨o + k.val, by omega⟩ (Nat.le_add_right _ _) (by simp only []; omega) (by simp only []; omega))
  funext b
  apply Fin.ext
  match b with
  | ⟨0, _⟩ => exact Nat.zero_add _
  | ⟨1, _⟩ => show 0 + z.val = 0; omega
  | ⟨2, _⟩ => rfl

/-- The new rows' columns split in heads. -/
theorem heads_cast (T : Fin 8 → Fin 12832 → EReal) (o : ℕ) (h : o + 1024 ≤ 12832) (hs : S8x1x1024.ShapeCasts S8x1x16x64) :
    shapeCast S8x1x16x64 (colsOf T o 1024 h) hs = headsOf T o h := by
  funext i
  refine (shapeCast_apply _ hs i (ix3 (i 0) 0 ⟨64 * (i 2).val + (i 3).val, ?_⟩) ?_).trans rfl
  · have h2 : (i 2).val < 16 := (i 2).isLt
    have h3 : (i 3).val < 64 := (i 3).isLt
    omega
  · have h1 : (i 1).val < 1 := (i 1).isLt
    rw [Shape.rowMajor_val_three, Shape.rowMajor_val_four]
    show ((i 0).val * 1 + 0) * 1024 + (64 * (i 2).val + (i 3).val) = (((i 0).val * 1 + (i 1).val) * 16 + (i 2).val) * 64 + (i 3).val
    omega

/-- A history of `L` rows a sequence, its first row dropped and columns `o` on of the new row put last. -/
def shifted {L n : ℕ} (T : Fin 8 → Fin 12832 → EReal) (o : ℕ) (h : o + n ≤ 12832) (st : (⟨3, ![8, L, n]⟩ : Shape).Idx → EReal) :
    (⟨3, ![8, L, n]⟩ : Shape).Idx → EReal := fun i =>
  if hl : (i 1).val + 1 < L then st (ix3 (i 0) ⟨(i 1).val + 1, hl⟩ (i 2))
  else T (i 0) ⟨o + (i 2).val, Nat.lt_of_lt_of_le (Nat.add_lt_add_left (i 2).isLt o) h⟩

/-- The history's later rows, then the new row. -/
theorem shift_of {L M n o : ℕ} (hL : L = M + 1) (T : Fin 8 → Fin 12832 → EReal) (h : o + n ≤ 12832) (st : (⟨3, ![8, L, n]⟩ : Shape).Idx → EReal)
    (hs : (⟨3, ![8, L, n]⟩ : Shape).Slices ![0, 1, 0] ⟨3, ![8, M, n]⟩)
    (hc : Shape.Concatenates [⟨3, ![8, M, n]⟩, ⟨3, ![8, 1, n]⟩] ⟨3, ![8, L, n]⟩ 1) :
    concatenate ⟨3, ![8, L, n]⟩ 1 [⟨⟨3, ![8, M, n]⟩, extractStridedSlice ⟨3, ![8, M, n]⟩ ![0, 1, 0] st hs⟩, ⟨⟨3, ![8, 1, n]⟩, colsOf T o n h⟩] hc
      = shifted T o h st := by
  funext i
  obtain ⟨s, p, k, rfl⟩ : ∃ (s : Fin 8) (p : Fin L) (k : Fin n), i = ix3 s p k := ⟨i 0, i 1, i 2, eq_ix3 i⟩
  unfold shifted
  by_cases hl : p.val + 1 < L
  · rw [dif_pos (by exact hl)]
    refine (concatenate_pair_apply_left _ _ _ hc _ rfl (ix3 s ⟨p.val, by omega⟩ k : (⟨3, ![8, M, n]⟩ : Shape).Idx) fun b => ?_).trans ?_
    · match b with
      | ⟨0, _⟩ => rfl
      | ⟨1, _⟩ => rfl
      | ⟨2, _⟩ => rfl
    · unfold extractStridedSlice
      refine congrArg st ?_
      funext b
      apply Fin.ext
      match b with
      | ⟨0, _⟩ => exact Nat.zero_add _
      | ⟨1, _⟩ => exact Nat.add_comm _ _
      | ⟨2, _⟩ => exact Nat.zero_add _
  · rw [dif_neg (by exact hl)]
    refine (concatenate_pair_apply_right _ _ _ hc _ rfl rfl (ix3 s 0 k : (⟨3, ![8, 1, n]⟩ : Shape).Idx) (fun b hb => ?_) ?_).trans rfl
    · match b with
      | ⟨0, _⟩ => rfl
      | ⟨1, _⟩ => exact absurd rfl hb
      | ⟨2, _⟩ => rfl
    · show 0 + M = p.val
      omega

/-- The array the region leaves, its rows split by sequence, read at a new row. -/
theorem split_new (c : Dev nD) (s : Fin 8) (Q : Fin 13312) (q : Fin 12832) (h : Holds Q q) :
    extractStridedSlice S8x1x13312 ![0, 0, 0] (shapeCast S8x16x13312 (projOf m c) shapeCasts_S128x13312_S8x16x13312)
      slices_S8x16x13312_S8x1x13312_0_0_0 (ix3 s 0 Q) = fresh m c s q := by
  have e : ∀ r : Fin 128, r.val = 16 * s.val → projOf m c (ix2 r Q) = fresh m c s q := by
    intro r hr
    show projAt _ _ (packed m c) r Q = newAt _ _ _ s q
    unfold projAt newAt packed
    refine Finset.sum_congr rfl fun k _ => ?_
    rw [pack_apply _ k Q q h, show r = ⟨16 * s.val, by omega⟩ from Fin.ext hr]
  pointwise
  exact e _ (Nat.mul_comm _ _)

/-- A group of the new rows' columns, read off the array the region leaves. -/
theorem new_cols (c : Dev nD) {n O o : ℕ} (h : o + n ≤ 12832) (hs : S8x1x13312.Slices ![0, 0, O] ⟨3, ![8, 1, n]⟩)
    (hh : ∀ (Q : Fin 13312) (q : Fin 12832), O ≤ Q.val → Q.val < O + n → q.val + O = Q.val + o → Holds Q q) :
    extractStridedSlice ⟨3, ![8, 1, n]⟩ ![0, 0, O] (extractStridedSlice S8x1x13312 ![0, 0, 0]
      (shapeCast S8x16x13312 (projOf m c) shapeCasts_S128x13312_S8x16x13312) slices_S8x16x13312_S8x1x13312_0_0_0) hs
      = colsOf (fresh m c) o n h := by
  refine cols_slice _ _ h hs fun s Q q h1 h2 h3 => split_new m c s Q q (hh Q q h1 h2 h3)

/-- At the region's exit the output array holds the projection on the packed weight. -/
theorem exit_out (c : Dev nD) :
    (Pipeline.withArrays (cfgs 0).spec c (V0 m c) (fun w => (dats m 0 c).arrAt w (cfgs 0).N) (Proc.devRef .tc main_v17) : S128x13312.Idx → EReal)
      = projOf m c :=
  ((Pipeline.withArrays_arr spec0 (by decide) c (V0 m c) (fun w => (dats m 0 c).arrAt w cfg0.N) 3)).trans (final m c)

/-- The region leaves the convolution's history as launched. -/
theorem exit_conv (c : Dev nD) :
    (Pipeline.withArrays (cfgs 0).spec c (V0 m c) (fun w => (dats m 0 c).arrAt w (cfgs 0).N) (Proc.devRef .tc main_arg3) : S8x3x1536.Idx → EReal)
      = m ((c : Thread nD τ).loc main_arg3) :=
  (Pipeline.withArrays_of_ne _ c (V0 m c) _ main_arg3 (by exact (by decide : ∀ w, Pipeline.arrRef spec0 w ≠ main_arg3))).trans (V_main_arg3 m c)

/-- The region leaves the pool's history as launched. -/
theorem exit_pool (c : Dev nD) :
    (Pipeline.withArrays (cfgs 0).spec c (V0 m c) (fun w => (dats m 0 c).arrAt w (cfgs 0).N) (Proc.devRef .tc main_arg4) : S8x15x1024.Idx → EReal)
      = m ((c : Thread nD τ).loc main_arg4) :=
  (Pipeline.withArrays_of_ne _ c (V0 m c) _ main_arg4 (by exact (by decide : ∀ w, Pipeline.arrRef spec0 w ≠ main_arg4))).trans (V_main_arg4 m c)

/-- Two pieces joined, each by what it holds. -/
theorem pair_of {t s₁ s₂ : Shape} {a : Fin t.rank} {x x' : s₁.Idx → EReal} {y y' : s₂.Idx → EReal}
    (h h' : Shape.Concatenates [s₁, s₂] t a) (hx : x = x') (hy : y = y') :
    concatenate t a [⟨s₁, x⟩, ⟨s₂, y⟩] h = concatenate t a [⟨s₁, x'⟩, ⟨s₂, y'⟩] h' := by
  subst hx hy
  rfl

/-- What the host leaves in the four results. -/
theorem ends (c : Dev nD) :
    (Pipeline.afterTail₀ cfgs (dats m) 0 (V0 m) [hostOps1] c main_v21 : S8x1x16x64.Idx → EReal) = headsOf (fresh m c) 4624 (by decide)
    ∧ (Pipeline.afterTail₀ cfgs (dats m) 0 (V0 m) [hostOps1] c main_v23 : S8x1x16x64.Idx → EReal) = headsOf (fresh m c) 5648 (by decide)
    ∧ (Pipeline.afterTail₀ cfgs (dats m) 0 (V0 m) [hostOps1] c main_v26 : S8x3x1536.Idx → EReal)
      = shifted (fresh m c) 2048 (by decide) (m ((c : Thread nD τ).loc main_arg3) : S8x3x1536.Idx → EReal)
    ∧ (Pipeline.afterTail₀ cfgs (dats m) 0 (V0 m) [hostOps1] c main_v29 : S8x15x1024.Idx → EReal)
      = shifted (fresh m c) 0 (by decide) (m ((c : Thread nD τ).loc main_arg4) : S8x15x1024.Idx → EReal) := by
  unfold Pipeline.afterTail₀
  simp only [List.flatten_cons, List.flatten_nil, List.append_nil]
  refine ⟨?_, ?_, ?_, ?_⟩ <;> after_results_simp
  iterate 2
    rw [exit_out, ← heads_cast _ _ _ shapeCasts_S8x1x1024_S8x1x16x64]
    exact congrArg (fun f => shapeCast S8x1x16x64 f shapeCasts_S8x1x1024_S8x1x16x64) (new_cols m c (by decide) _ (holds_of _ _ _ (by decide)))
  · refine Eq.trans ?_ (shift_of (M := 2) rfl (fresh m c) (by decide) _ slices_S8x3x1536_S8x2x1536_0_1_0 concatenates_S8x2x1536_S8x1x1536_S8x3x1536_d1)
    refine pair_of _ _ ?_ ?_
    · show (_ : HloOp τ sig (Elt Ideal)).result _ (Proc.tc.devRef main_v24) = _
      after_results_simp
      rw [exit_conv]
    · show (_ : HloOp τ sig (Elt Ideal)).result _ (Proc.tc.devRef main_v25) = _
      after_results_simp
      rw [exit_out]
      exact new_cols m c (by decide) _ (holds_of _ _ _ (by decide))
  · refine Eq.trans ?_ (shift_of (M := 14) rfl (fresh m c) (by decide) _ slices_S8x15x1024_S8x14x1024_0_1_0 concatenates_S8x14x1024_S8x1x1024_S8x15x1024_d1)
    refine pair_of _ _ ?_ ?_
    · show (_ : HloOp τ sig (Elt Ideal)).result _ (Proc.tc.devRef main_v27) = _
      after_results_simp
      rw [exit_pool]
    · show (_ : HloOp τ sig (Elt Ideal)).result _ (Proc.tc.devRef main_v28) = _
      after_results_simp
      rw [exit_out]
      exact new_cols m c (by decide) _ (holds_of _ _ _ (by decide))

end Cert.SampKernelIdeal.Block

end
-- ==== Proof.SampClaim.lean ====
/-
  The sample rows' projection: its claims. The kernel, over the packed weight and all the padded rows, ends at the keys,
  the values and the two carried histories which the reference computes from each sequence's new row alone.
-/
module

public import proofs.«01_k».proof.Defs
public import proofs.«01_k».proof.Proof.SampTail
public import proofs.«01_k».proof.Proof.Gen.SampKernel.Frame
public import proofs.«01_k».proof.Proof.Gen.SampReferenceIdeal.Run
public import proofs.«01_k».proof.Proof.Gen.SampReferenceIdeal.Read
public import Idealize.ShloMosaic.Lib.Quiescent

@[expose] public section

set_option maxRecDepth 16384

noncomputable section

namespace Cert.Proof.Samp

open Idealize.ShloMosaic Idealize.ShloMosaic.TcCoe Idealize.SL.Sem
open Cert.SampReferenceIdeal.Read
open Cert.SampKernelIdeal.Block (newAt fresh headsOf shifted colsOf cols_slice heads_cast pair_of)
open scoped BigOperators

section Reference
variable (x : Vec Ideal Cert.SampReferenceIdeal.S128x2048 .f32) (g : Vec Ideal Cert.SampReferenceIdeal.S2048 .f32) (w : Vec Ideal Cert.SampReferenceIdeal.S2048x12832 .f32)

/-- The reference's row `s`: row `16 s` of the argument. -/
theorem row_apply (s : Fin 8) (k : Fin 2048) (r : Fin 128) (hr : r.val = 16 * s.val) :
    (val_main_v2 (F := Ideal) x : Cert.SampReferenceIdeal.S8x2048.Idx → EReal) (ix2 s k) = x (ix2 r k) := by
  pointwise [val_main_v2, val_main_v1, val_main_v0]
  exact congrArg (fun r => x (ix2 r k)) (Fin.ext (by simp only []; omega))

/-- The reference's normalized new rows. -/
theorem norm_apply (s : Fin 8) (k : Fin 2048) :
    (val_main_v15 (F := Ideal) x g : Cert.SampReferenceIdeal.S8x2048.Idx → EReal) (ix2 s k)
      = Cert.SampKernelIdeal.Block.rowAt x g ⟨16 * s.val, by omega⟩ k := by
  pointwise [val_main_v15, val_main_v14, val_main_v13, val_main_v12, val_main_v11, val_main_v10, val_main_v9, val_main_v8,
    val_main_v7, val_main_v6, val_main_v5, val_main_v4, val_main_v3, val_main_cst, val_main_cst_0, val_main_cst_1]
  simp only [row_apply x s _ ⟨16 * s.val, by omega⟩ rfl]
  rfl

/-- The reference's projection of the new rows. -/
theorem ref_apply (s : Fin 8) (q : Fin 12832) :
    (val_main_v17 (F := Ideal) x g w : Cert.SampReferenceIdeal.S8x1x12832.Idx → EReal) (ix3 s 0 q) = newAt x g w s q := by
  pointwise [val_main_v17, val_main_v16]
  simp only [norm_apply]
  rfl

/-- A slice of the reference's projection. -/
theorem ref_cols {n o : ℕ} (h : o + n ≤ 12832) (hs : Cert.SampReferenceIdeal.S8x1x12832.Slices ![0, 0, o] ⟨3, ![8, 1, n]⟩) :
    extractStridedSlice ⟨3, ![8, 1, n]⟩ ![0, 0, o] (val_main_v17 (F := Ideal) x g w : Cert.SampReferenceIdeal.S8x1x12832.Idx → EReal) hs
      = colsOf (newAt x g w) o n h :=
  cols_slice _ _ h hs fun s q q' _ _ e => by
    rw [ref_apply, show q = q' from Fin.ext (by omega)]

/-- The last rows of a history with the new row put after it. -/
theorem last_of {L n o : ℕ} (T : Fin 8 → Fin 12832 → EReal) (h : o + n ≤ 12832) (st : (⟨3, ![8, L, n]⟩ : Shape).Idx → EReal)
    (hs : (⟨3, ![8, L + 1, n]⟩ : Shape).Slices ![0, 1, 0] ⟨3, ![8, L, n]⟩)
    (hc : Shape.Concatenates [⟨3, ![8, L, n]⟩, ⟨3, ![8, 1, n]⟩] ⟨3, ![8, L + 1, n]⟩ 1) :
    extractStridedSlice ⟨3, ![8, L, n]⟩ ![0, 1, 0] (concatenate ⟨3, ![8, L + 1, n]⟩ 1 [⟨⟨3, ![8, L, n]⟩, st⟩, ⟨⟨3, ![8, 1, n]⟩, colsOf T o n h⟩] hc) hs
      = shifted T o h st := by
  funext i
  obtain ⟨s, p, k, rfl⟩ : ∃ (s : Fin 8) (p : Fin L) (k : Fin n), i = ix3 s p k := ⟨i 0, i 1, i 2, eq_ix3 i⟩
  unfold shifted extractStridedSlice
  by_cases hl : p.val + 1 < L
  · rw [dif_pos (by exact hl)]
    refine concatenate_pair_apply_left _ _ _ hc _ rfl (ix3 s ⟨p.val + 1, hl⟩ k : (⟨3, ![8, L, n]⟩ : Shape).Idx) fun b => ?_
    match b with
    | ⟨0, _⟩ => exact (Nat.zero_add _).symm
    | ⟨1, _⟩ => exact Nat.add_comm _ _
    | ⟨2, _⟩ => exact (Nat.zero_add _).symm
  · rw [dif_neg (by exact hl)]
    refine (concatenate_pair_apply_right _ _ _ hc _ rfl rfl (ix3 s 0 k : (⟨3, ![8, 1, n]⟩ : Shape).Idx) (fun b hb => ?_) ?_).trans rfl
    · match b with
      | ⟨0, _⟩ => exact (Nat.zero_add _).symm
      | ⟨1, _⟩ => exact absurd rfl hb
      | ⟨2, _⟩ => exact (Nat.zero_add _).symm
    · show 0 + L = 1 + p.val
      omega

/-- The reference's four results. -/
theorem ref_ends (a : Vec Ideal Cert.SampReferenceIdeal.S8x3x1536 .f32) (b : Vec Ideal Cert.SampReferenceIdeal.S8x15x1024 .f32) :
    (val_main_v19 (F := Ideal) x g w : Cert.SampReferenceIdeal.S8x1x16x64.Idx → EReal) = headsOf (newAt x g w) 4624 (by decide)
    ∧ (val_main_v21 (F := Ideal) x g w : Cert.SampReferenceIdeal.S8x1x16x64.Idx → EReal) = headsOf (newAt x g w) 5648 (by decide)
    ∧ (val_main_v24 (F := Ideal) x g w a : Cert.SampReferenceIdeal.S8x3x1536.Idx → EReal) = shifted (newAt x g w) 2048 (by decide) a
    ∧ (val_main_v27 (F := Ideal) x g w b : Cert.SampReferenceIdeal.S8x15x1024.Idx → EReal) = shifted (newAt x g w) 0 (by decide) b := by
  unfold val_main_v19 val_main_v18 val_main_v21 val_main_v20 val_main_v24 val_main_v23 val_main_v22 val_main_v27 val_main_v26 val_main_v25
  refine ⟨?_, ?_, ?_, ?_⟩
  iterate 2
    rw [← heads_cast _ _ _ Cert.SampReferenceIdeal.Gen.shapeCasts_S8x1x1024_S8x1x16x64]
    exact congrArg (fun f => shapeCast Cert.SampReferenceIdeal.S8x1x16x64 f Cert.SampReferenceIdeal.Gen.shapeCasts_S8x1x1024_S8x1x16x64)
      (ref_cols x g w (by decide) _)
  iterate 2
    refine Eq.trans ?_ (last_of (newAt x g w) (by decide) _ (by decide) (by decide))
    exact congrArg (fun f => extractStridedSlice _ _ f _) (pair_of _ _ rfl (ref_cols x g w (by decide) _))
end Reference

/-- The reference's frame: its run leaves the arguments, and it declares no semaphore. -/
theorem frame_ref : Cert.quiescent_SampReferenceIdeal := fun m ρ _ =>
  (θ_run Cert.SampReferenceIdeal.defs _ _).mono (fun r h => ⟨fun c => (h c).2.2.2.2, sem_eq_zero_of_no_sems rfl _⟩)
    (Cert.SampReferenceIdeal.Value.run (F := Ideal) m ρ)

/-- Over the extended reals the kernel computes the reference's function. -/
theorem algebraic : Cert.algebraic_SampKernelIdeal_SampReferenceIdeal := by
  intro m ρ m' ρ' _ hagree
  refine ⟨fun c => headsOf (fresh m c) 4624 (by decide), fun c => headsOf (fresh m c) 5648 (by decide),
    fun c => shifted (fresh m c) 2048 (by decide) (m ((c.tc : Thread Cert.SampKernelIdeal.nD Cert.SampKernelIdeal.τ).loc Cert.SampKernelIdeal.main_arg3) : Cert.SampKernelIdeal.S8x3x1536.Idx → EReal),
    fun c => shifted (fresh m c) 0 (by decide) (m ((c.tc : Thread Cert.SampKernelIdeal.nD Cert.SampKernelIdeal.τ).loc Cert.SampKernelIdeal.main_arg4) : Cert.SampKernelIdeal.S8x15x1024.Idx → EReal),
    ?_, ?_⟩
  · refine (θ_run Cert.SampKernelIdeal.defs _ _).mono (fun r h c => ?_)
      (θ_run_and (Cert.SampKernelIdeal.Gen.run_main (F := Ideal) m ρ) (Cert.SampKernelIdeal.Gen.unchanged (F := Ideal) m ρ))
    have e := Cert.SampKernelIdeal.Block.ends m c
    have rest := fun b h1 h2 => (h.1 c).2 b (Pipeline.mem_restRefs_of b h1 h2)
    exact ⟨(rest Cert.SampKernelIdeal.main_v21 (by decide) (by decide)).trans e.1,
      (rest Cert.SampKernelIdeal.main_v23 (by decide) (by decide)).trans e.2.1,
      (rest Cert.SampKernelIdeal.main_v26 (by decide) (by decide)).trans e.2.2.1,
      (rest Cert.SampKernelIdeal.main_v29 (by decide) (by decide)).trans e.2.2.2,
      h.2 c⟩
  refine (θ_run Cert.SampReferenceIdeal.defs _ _).mono (fun _ h c => ?_)
    (Cert.SampReferenceIdeal.Value.run (F := Ideal) m' ρ')
  have h := h c
  have e := ref_ends (m ((c.tc : Thread Cert.SampKernelIdeal.nD Cert.SampKernelIdeal.τ).loc Cert.SampKernelIdeal.main_arg0)) (m ((c.tc : Thread Cert.SampKernelIdeal.nD Cert.SampKernelIdeal.τ).loc Cert.SampKernelIdeal.main_arg1))
    (m ((c.tc : Thread Cert.SampKernelIdeal.nD Cert.SampKernelIdeal.τ).loc Cert.SampKernelIdeal.main_arg2)) (m ((c.tc : Thread Cert.SampKernelIdeal.nD Cert.SampKernelIdeal.τ).loc Cert.SampKernelIdeal.main_arg3))
    (m ((c.tc : Thread Cert.SampKernelIdeal.nD Cert.SampKernelIdeal.τ).loc Cert.SampKernelIdeal.main_arg4))
  rw [(hagree c).1, (hagree c).2.1, (hagree c).2.2.1, (hagree c).2.2.2.1, (hagree c).2.2.2.2] at h ⊢
  rw [val_main_v19_eq, val_main_v21_eq, val_main_v24_eq, val_main_v27_eq] at h
  obtain ⟨a0, a1, a2, a3, kept⟩ := h
  exact ⟨a0.trans e.1, a1.trans e.2.1, a2.trans e.2.2.1, a3.trans e.2.2.2, kept⟩

end Cert.Proof.Samp

end
-- ==== Proof.SsdMath.lean ====
/-
  The mixer's chunk, as plain functions: the step sizes, the running log decay, the weights within the chunk, the output
  of a row and the state handed to the next chunk.
-/
module

public import proofs.«01_k».proof.Proof.Common
public import Idealize.ShloMosaic.Lib.WordCmp

@[expose] public section

noncomputable section

namespace Cert.Layer

open Idealize.ShloMosaic
open scoped BigOperators

/-- The head a state row belongs to. -/
def hd (r : Fin 1024) : Fin 16 := ⟨r.val / 64, by omega⟩

/-- The group a state row belongs to. -/
def gr (r : Fin 1024) : Fin 2 := ⟨r.val / 512, by omega⟩

/-- Where a state row sits among the convolved columns. -/
def xcol (r : Fin 1024) : Fin 1536 := ⟨r.val, by omega⟩

/-- Where the input projection of a group's state column sits among the convolved columns. -/
def bcol (g : Fin 2) (s : Fin 128) : Fin 1536 := ⟨1024 + 128 * g.val + s.val, by omega⟩

/-- Where the output projection of a group's state column sits among the convolved columns. -/
def ccol (g : Fin 2) (s : Fin 128) : Fin 1536 := ⟨1280 + 128 * g.val + s.val, by omega⟩

/-- The least value, as both programs write it. -/
def ninf : EReal := Ideal.ofBits .f32 0xFF800000#32

/-- The softplus, as both programs compute it: the positive part plus the logarithm of one plus a decaying exponential. -/
def softp (x : EReal) : EReal := max x 0 + Ideal.log (1 + Ideal.exp (-(max x (-x))))

/-- The step size of global row `t`: zero from the first padding row on. -/
def stepAt (t : ℕ) (x : EReal) : EReal := if t < 4112 then softp x else 0

/-- The running sum over the chunk of the steps scaled by the head's rate. -/
def acumOf (dt : Fin 128 → Fin 16 → EReal) (ea : Fin 16 → EReal) (l : Fin 128) (h : Fin 16) : EReal :=
  ∑ j : Fin 128, if j ≤ l then dt j h * -(ea h) else 0

/-- The product of a row's output projection with another row's input projection. -/
def cbOf (act : Fin 128 → Fin 1536 → EReal) (g : Fin 2) (l j : Fin 128) : EReal :=
  ∑ s : Fin 128, act l (ccol g s) * act j (bcol g s)

/-- The weight of row `j` in row `l`'s output. -/
def wtOf (act : Fin 128 → Fin 1536 → EReal) (dt ac : Fin 128 → Fin 16 → EReal) (g : Fin 2) (h : Fin 16) (l j : Fin 128) :
    EReal := cbOf act g l j * Ideal.exp (if j ≤ l then ac l h - ac j h else ninf) * dt j h

/-- The output of row `l` at state row `r`, before the gate. -/
def yOf (act : Fin 128 → Fin 1536 → EReal) (dt ac : Fin 128 → Fin 16 → EReal) (H : Fin 1024 → Fin 128 → EReal)
    (ds : Fin 16 → EReal) (l : Fin 128) (r : Fin 1024) : EReal :=
  (∑ j : Fin 128, wtOf act dt ac (gr r) (hd r) l j * act j (xcol r)) +
    (∑ s : Fin 128, act l (ccol (gr r) s) * H r s) * Ideal.exp (ac l (hd r)) + ds (hd r) * act l (xcol r)

/-- The state after the chunk. -/
def hOf (act : Fin 128 → Fin 1536 → EReal) (dt ac : Fin 128 → Fin 16 → EReal) (H : Fin 1024 → Fin 128 → EReal)
    (r : Fin 1024) (s : Fin 128) : EReal :=
  Ideal.exp (ac 127 (hd r)) * H r s +
    ∑ l : Fin 128, act l (xcol r) * (Ideal.exp (ac 127 (hd r) - ac l (hd r)) * dt l (hd r)) * act l (bcol (gr r) s)

/-- Entry `r` of a gated row, normalized. -/
def gatedAt (y z : Fin 1024 → EReal) (g : EReal) (r : Fin 1024) : EReal :=
  y r * silu (z r) * Ideal.rsqrt (Ideal.div (∑ j, y j * silu (z j) * (y j * silu (z j))) (Ideal.ofBits .f32 0x44800000#32) +
    Ideal.ofBits .f32 0x358637BD#32) * g

/-- The convolved row `l` at column `c`, before its gate: four taps over the rows ending at `l`, on rows that start
eight early. -/
def convOf (F : Fin 136 → Fin 1536 → EReal) (w : Fin 4 → Fin 1536 → EReal) (b : Fin 1536 → EReal) (l : Fin 128)
    (c : Fin 1536) : EReal :=
  b c + F ⟨5 + l.val, by omega⟩ c * w 0 c + F ⟨6 + l.val, by omega⟩ c * w 1 c + F ⟨7 + l.val, by omega⟩ c * w 2 c +
    F ⟨8 + l.val, by omega⟩ c * w 3 c

/-- The convolved row, gated. -/
def actOf (F : Fin 136 → Fin 1536 → EReal) (w : Fin 4 → Fin 1536 → EReal) (b : Fin 1536 → EReal) (l : Fin 128)
    (c : Fin 1536) : EReal := silu (convOf F w b l c)

/-- Rows that start eight early: the eight rows from before the chunk, then the chunk's. -/
def rowsOf (p : Fin 8 → Fin 1536 → EReal) (x : Fin 128 → Fin 1536 → EReal) : Fin 136 → Fin 1536 → EReal := fun r k =>
  if h : r.val < 8 then p ⟨r.val, h⟩ k else x ⟨r.val - 8, by omega⟩ k

/-- Choosing by the order of two rows' numbers. -/
theorem sel_causal (l j : Fin 128) (a b : EReal) :
    Scalar.select (IntOp.cmpi .sge (BitVec.ofNat 32 l.val) (BitVec.ofNat 32 j.val)) a b = if j ≤ l then a else b := by
  rw [WordCmp.cmpi_sge_ofNat (by have := l.isLt; omega) (by have := j.isLt; omega)]
  by_cases h : j ≤ l
  · have h' : j.val ≤ l.val := h
    rw [if_pos h]; simp [h', Scalar.select]
  · have h' : ¬ j.val ≤ l.val := h
    rw [if_neg h]; simp [h', Scalar.select]

/-- The order of two rows' numbers, as a factor. -/
theorem fac_causal (l j : Fin 128) (x : EReal) :
    FloatOps.sitofp (F := Ideal) .f32 (BitVec.setWidth 32 (IntOp.cmpi .sge (BitVec.ofNat 32 l.val) (BitVec.ofNat 32 j.val))) * x =
      if j ≤ l then x else 0 := by
  rw [WordCmp.cmpi_sge_ofNat (by have := l.isLt; omega) (by have := j.isLt; omega)]
  by_cases h : j ≤ l
  · have h' : j.val ≤ l.val := h
    rw [if_pos h]
    refine Eq.trans (congrArg (· * x) (?_ : _ = (1 : EReal))) (one_mul x)
    simp only [h', decide_true]
    show (((BitVec.setWidth 32 1#1).toInt : ℝ) : EReal) = 1
    simp
  · have h' : ¬ j.val ≤ l.val := h
    rw [if_neg h]
    refine Eq.trans (congrArg (· * x) (?_ : _ = (0 : EReal))) (zero_mul x)
    simp only [h', decide_false]
    show (((BitVec.setWidth 32 0#1).toInt : ℝ) : EReal) = 0
    simp

/-- Choosing the first or the second half of a pair of heads. -/
theorem sel_first (q : Fin 128) (a b : EReal) :
    Scalar.select (IntOp.cmpi .slt (BitVec.ofNat 32 q.val) 64#32) a b = if q.val < 64 then a else b := by
  rw [WordCmp.cmpi_slt_ofNat (by have := q.isLt; omega) (by omega)]
  by_cases h : q.val < 64
  · rw [if_pos h]; simp [h, Scalar.select]
  · rw [if_neg h]; simp [h, Scalar.select]

/-- A sum all of whose terms are chosen by one condition. -/
theorem sum_ite_const {n : ℕ} (p : Prop) [Decidable p] (f : Fin n → EReal) :
    (∑ x, if p then f x else 0) = if p then ∑ x, f x else 0 := by
  split
  · rfl
  · exact Finset.sum_const_zero

theorem sum_ite_const' {n : ℕ} (p : Prop) [Decidable p] (f : Fin n → EReal) :
    (∑ x, if p then 0 else f x) = if p then 0 else ∑ x, f x := by
  split
  · exact Finset.sum_const_zero
  · rfl

/-- A sum against a row with one entry one and the others zero. -/
theorem sum_onehot {n : ℕ} (i : Fin n) (f : Fin n → EReal) (e : Fin n → EReal) (he : ∀ x, e x = if x = i then 1 else 0) :
    ∑ x, f x * e x = f i := by
  rw [Finset.sum_eq_single i]
  · rw [he, if_pos rfl, mul_one]
  · intro x _ hx; rw [he, if_neg hx, mul_zero]
  · intro h; exact absurd (Finset.mem_univ i) h

theorem sum_onehot' {n : ℕ} (i : Fin n) (f : Fin n → EReal) (e : Fin n → EReal) (he : ∀ x, e x = if x = i then 1 else 0) :
    ∑ x, e x * f x = f i := by
  rw [← sum_onehot i f e he]
  exact Finset.sum_congr rfl fun x _ => mul_comm _ _

end Cert.Layer

end
-- ==== Proof.ForgetMath.lean ====
/-
  The forget gate's logarithm, as a plain function.
-/
module

public import proofs.«01_k».proof.Proof.SsdMath

@[expose] public section

noncomputable section

namespace Cert.Layer

open Idealize.ShloMosaic

/-- The logarithm of the logistic of `z + b`: minus the softplus of its negation. -/
def forgetAt (z b : EReal) : EReal := -softp (-(z + b))

end Cert.Layer

end
-- ==== Proof.ForgetBlock.lean ====
/-
  The prompt's forget logs: each point writes a chunk of 128 rows, whether it starts a sequence or carries one on; the
  host keeps each sequence's 4112 true rows.
-/
module

public import proofs.«01_k».proof.Proof.ForgetMath
public import proofs.«01_k».proof.Proof.Gen.ForgetKernelIdeal.Frame
public import Idealize.ShloMosaic.Lib.Pointwise
public import Idealize.ShloMosaic.Lib.Claim
public import Idealize.ShloMosaic.Lib.Pipeline.Value
public import Idealize.ShloMosaic.Lib.Pipeline.ValueKit.Tiles

@[expose] public section

set_option maxRecDepth 16384

noncomputable section

namespace Cert.ForgetKernelIdeal.Block

open Cert.ForgetKernelIdeal Cert.ForgetKernelIdeal.Gen Idealize.ShloMosaic Idealize.ShloMosaic.TcCoe Idealize.SL.Sem
open Idealize.ShloMosaic.Pipeline (Dat)
open Cert.Layer
open scoped BigOperators

variable (m : (ℓ : Loc nD τ sig) → Buf (Elt Ideal) ℓ)

/-- The forget log of packed row `r`, head `h`: the forget columns start at column 1664 of the packed projections. -/
def logAt (x : S8448x13312.Idx → EReal) (b : S16.Idx → EReal) (r : Fin 8448) (h : Fin 16) : EReal :=
  forgetAt (x (ix2 r ⟨1664 + h.val, by omega⟩)) (b (ix1 h))

/-- The whole array of forget logs of a device's arguments. -/
def logsOf (c : Dev nD) : S8448x16.Idx → EReal := fun i =>
  logAt (m ((c : Thread nD τ).loc main_arg0)) (m ((c : Thread nD τ).loc main_arg4)) (i 0) (i 1)

/-- The block stored from the forget columns `v` and the bias row `b`. -/
abbrev stored (v : Vec Ideal S128x16 .f32) (b : Vec Ideal S1x16 .f32) : Vec Ideal S128x16 .f32 :=
  k0_pay1 (F := Ideal) (k0_pay18 v b) (k0_pay19 v b) (Scalar.ofBits .f32 0x3F800000#32)

/-- The stored block, entry by entry. -/
theorem stored_at (v : Vec Ideal S128x16 .f32) (b : Vec Ideal S1x16 .f32) (r : Fin 128) (h : Fin 16) :
    (stored v b : S128x16.Idx → EReal) (ix2 r h) = forgetAt (v (ix2 r h)) (b (ix2 0 h)) := by
  unfold stored
  pointwise [k0_pay1, k0_pay18, k0_pay19, k0_pay17]
  simp only [zero_sub]
  rfl

/-- The forget columns as the body reads them, and the bias row, from buffers holding `x1` and `x5`. -/
abbrev cols (arg3 : Memref sig .tc .vmem S128x512 .f32) (harg3 : arg3.IsWhole) (x1 : Vec Ideal S128x512 .f32) : Vec Ideal S128x16 .f32 :=
  View.readAt (Elt Ideal) arg3.view (Rect.unit (s := S128x512) ![0, 128] S128x16.size inb_S128x512_S128x16_0_128).toLoadRect (harg3.unread x1)

/-- The bias row as the body reads it from a buffer holding `x5`. -/
abbrev bias (arg7 : Memref sig .tc .vmem S1x16 .f32) (harg7 : arg7.IsWhole) (x5 : Vec Ideal S1x16 .f32) : Vec Ideal S1x16 .f32 :=
  View.readAt (Elt Ideal) arg7.view (Rect.unit (s := S1x16) ![0, 0] S1x16.size inb_S1x16_S1x16_0_0).toLoadRect (harg7.unread x5)

/-- The one piece stored in the logs' block covers it, so what is read back is the logs of the columns. -/
theorem canon_stored (arg3 : Memref sig .tc .vmem S128x512 .f32) (harg3 : arg3.IsWhole) (arg7 : Memref sig .tc .vmem S1x16 .f32) (harg7 : arg7.IsWhole)
    (x1 : Vec Ideal S128x512 .f32) (x5 : Vec Ideal S1x16 .f32) (r : Fin 128) (h : Fin 16) :
    (View.canon (Val := Elt Ideal) [⟨Rect.unit ![0, 0] S128x16.size inb_S128x16_S128x16_0_0, stored (cols arg3 harg3 x1) (bias arg7 harg7 x5)⟩] : S128x16.Idx → EReal) (ix2 r h)
      = forgetAt ((x1 : S128x512.Idx → EReal) (ix2 r ⟨128 + h.val, by omega⟩)) ((x5 : S1x16.Idx → EReal) (ix2 0 h)) := by
  rw [View.canon_unit_zero (S := S128x16) (funext fun a => by fin_cases a <;> rfl), stored_at]
  unfold cols bias
  congr 1
  · rw [View.readAt_eq_ld, harg3.read_unread]
    exact View.ld_unit_apply_of x1 _ _ _ _ _ (Fin.forall_fin_two.mpr ⟨by show r.val = 0 + r.val; omega, rfl⟩)
  · rw [View.readAt_eq_ld, harg7.read_unread]
    exact View.ld_unit_apply_of x5 _ _ _ _ _ (Fin.forall_fin_two.mpr ⟨rfl, by show h.val = 0 + h.val; omega⟩)

section body

variable (c : Dev nD) (i : grid0.Coords) (arg2 : Memref sig .tc .vmem S128x1024 .f32) (harg2 : arg2.IsWhole) (arg3 : Memref sig .tc .vmem S128x512 .f32) (harg3 : arg3.IsWhole) (arg4 : Memref sig .tc .vmem S1x16x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S1x16 .f32) (harg7 : arg7.IsWhole) (arg8 : Memref sig .tc .vmem S128x1024 .bf16) (harg8 : arg8.IsWhole) (arg9 : Memref sig .tc .vmem S128x16 .f32) (harg9 : arg9.IsWhole) (arg10 : Memref sig .tc .vmem S128x16 .f32) (harg10 : arg10.IsWhole) (arg11 : Memref sig .tc .vmem S1x16x128 .f32) (harg11 : arg11.IsWhole) (arg12 : Memref sig .tc .vmem S144x1024 .f32) (harg12 : arg12.IsWhole) (arg13 : Memref sig .tc .vmem S1x16 .f32) (harg13 : arg13.IsWhole)
    (x0 : Vec Ideal S128x1024 .f32) (x1 : Vec Ideal S128x512 .f32) (x2 : Vec Ideal S1x16x1024 .f32) (x3 : Vec Ideal S4x256x256 .bf16) (x4 : Vec Ideal S1x1024 .f32) (x5 : Vec Ideal S1x16 .f32) (xs0 : Vec Ideal S144x1024 .f32) (xs1 : Vec Ideal S1x16 .f32)

/-- At a sequence's first chunk. -/
theorem outA_at (hc0 : cond0_0 i) (r : Fin 128) (h : Fin 16) :
    (out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 : S128x16.Idx → EReal) (ix2 r h)
      = forgetAt ((x1 : S128x512.Idx → EReal) (ix2 r ⟨128 + h.val, by omega⟩)) ((x5 : S1x16.Idx → EReal) (ix2 0 h)) := by
  have list : (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5).2.1 =
      [⟨Rect.unit ![0, 0] S128x16.size inb_S128x16_S128x16_0_0, stored (cols arg3 harg3 x1) (bias arg7 harg7 x5)⟩] := rfl
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5), list]
  exact canon_stored arg3 harg3 arg7 harg7 x1 x5 r h

/-- At a later chunk: what is carried does not enter. -/
theorem outB_at (hc0 : ¬cond0_0 i) (r : Fin 128) (h : Fin 16) :
    (out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 : S128x16.Idx → EReal) (ix2 r h)
      = forgetAt ((x1 : S128x512.Idx → EReal) (ix2 r ⟨128 + h.val, by omega⟩)) ((x5 : S1x16.Idx → EReal) (ix2 0 h)) := by
  have list : (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1).2.1 =
      [⟨Rect.unit ![0, 0] S128x16.size inb_S128x16_S128x16_0_0, stored (cols arg3 harg3 x1) (bias arg7 harg7 x5)⟩] := rfl
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1), list]
  exact canon_stored arg3 harg3 arg7 harg7 x1 x5 r h

end body

/-- What a point computes for the logs, whichever kind of chunk it is. -/
theorem outs_at (c : Dev nD) (t : Fin cfg0.N) (r : Fin 128) (h : Fin 16) :
    ((outsAt0 m c t.val t.isLt).2.1 : S128x16.Idx → EReal) (ix2 r h)
      = forgetAt ((iblk m c 1 t : S128x512.Idx → EReal) (ix2 r ⟨128 + h.val, by omega⟩)) ((iblk m c 5 t : S1x16.Idx → EReal) (ix2 0 h)) := by
  by_cases h0 : t.val % 33 = 0
  · have e := congrArg (fun p => p.2.1) (outsAt0_A m c t h0)
    dsimp only at e
    rw [e]
    exact outA_at (r := r) (h := h) ..
  · have e := congrArg (fun p => p.2.1) (outsAt0_B m c t h0)
    dsimp only at e
    rw [e]
    exact outB_at (r := r) (h := h) ..

/-- The block indices of the three windows the logs touch. -/
theorem index_facts : ∀ t : Fin grid0.N,
    (win0_1.index t 0 = t.val ∧ win0_1.index t 1 = 3) ∧ (win0_5.index t 0 = 0 ∧ win0_5.index t 1 = 0)
    ∧ (win0_7.index t 0 = t.val ∧ win0_7.index t 1 = 0) := by decide +kernel

/-- The bias the region finds is the argument laid out as one row. -/
theorem V_bias (c : Dev nD) (h : Fin 16) : (V m c main_v2 : S1x16.Idx → EReal) (ix2 0 h)
    = (m ((c : Thread nD τ).loc main_arg4) : S16.Idx → EReal) (ix1 h) := by
  have e : (V m c main_v2 : S1x16.Idx → EReal) = shapeCast S1x16 (m ((c : Thread nD τ).loc main_arg4) : Vec Ideal S16 .f32) shapeCasts_S16_S1x16 := by
    entry_read
    rfl
  rw [e]
  pointwise

/-- The bias window's block read at an entry. -/
theorem bias_at (c : Dev nD) (t : Fin cfg0.N) (h : Fin 16) :
    (iblk m c 5 t : S1x16.Idx → EReal) (ix2 0 h) = (m ((c : Thread nD τ).loc main_arg4) : S16.Idx → EReal) (ix1 h) := by
  rw [← V_bias m c h]
  unfold iblk
  rw [View.read_apply]
  show (V m c main_v2 : S1x16.Idx → EReal) _ = _
  congr 1
  funext a
  apply Fin.ext
  match a with
  | ⟨0, _⟩ => show win0_5.index t 0 * 1 + 1 * 0 = 0; rw [(index_facts t).2.1.1]
  | ⟨1, _⟩ => show win0_5.index t 1 * 16 + 1 * h.val = h.val; rw [(index_facts t).2.1.2]; omega

/-- The small window's forget columns read at an entry. -/
theorem col_at (c : Dev nD) (t : Fin cfg0.N) (r : Fin 128) (h : Fin 16) (q : Fin 8448) (hq : q.val = 128 * t.val + r.val) :
    (iblk m c 1 t : S128x512.Idx → EReal) (ix2 r ⟨128 + h.val, by omega⟩)
      = (m ((c : Thread nD τ).loc main_arg0) : S8448x13312.Idx → EReal) (ix2 q ⟨1664 + h.val, by omega⟩) := by
  unfold iblk
  rw [View.read_apply]
  show V m c main_arg0 _ = _
  rw [V_main_arg0]
  congr 1
  funext a
  apply Fin.ext
  match a with
  | ⟨0, _⟩ => show win0_1.index t 0 * 128 + 1 * r.val = q.val; rw [(index_facts t).1.1]; omega
  | ⟨1, _⟩ => show win0_1.index t 1 * 512 + 1 * (128 + h.val) = 1664 + h.val; rw [(index_facts t).1.2]; omega

/-- What a point writes back is its block of the forget logs. -/
theorem flushed_eq (c : Dev nD) (t : Fin cfg0.N) :
    (dats m 0 c).flushed 7 t = ((cfg0.win 7).blk t).view.read (Elt Ideal) (logsOf m c) := by
  have e : (dats m 0 c).flushed 7 t = (outsAt0 m c t.val t.isLt).2.1 := by
    show (cfg0.win 7).cut (grid0.coords t) ((dats m 0 c).after 7 t) = _
    rw [after0_7]
    rfl
  rw [e]
  clear e
  funext (j : S128x16.Idx)
  obtain ⟨r, h, rfl⟩ : ∃ (r : Fin 128) (h : Fin 16), j = ix2 r h := ⟨j 0, j 1, eq_ix2 j⟩
  have ht : t.val < 66 := t.isLt
  rw [View.read_apply]
  have e : ((cfg0.win 7).blk t).view.emb (ix2 r h : S128x16.Idx) = (ix2 ⟨128 * t.val + r.val, by omega⟩ h : S8448x16.Idx) := by
    funext a
    apply Fin.ext
    match a with
    | ⟨0, _⟩ => show win0_7.index t 0 * 128 + 1 * r.val = 128 * t.val + r.val; rw [(index_facts t).2.2.1]; omega
    | ⟨1, _⟩ => show win0_7.index t 1 * 16 + 1 * h.val = h.val; rw [(index_facts t).2.2.2]; omega
  rw [e]
  refine (outs_at m c t r h).trans ?_
  rw [bias_at, col_at m c t r h ⟨128 * t.val + r.val, by omega⟩ rfl]
  rfl

/-- The points' blocks cover the array. -/
theorem cover (i : S8448x16.Idx) : ∃ t : Fin cfg0.N, (cfg0.win 7).flush t = true ∧ i ∈ ((cfg0.win 7).blk t).view.set := by
  have h0 : (i 0).val < 8448 := (i 0).isLt
  have h1 : (i 1).val < 16 := (i 1).isLt
  obtain ⟨t, ht⟩ : ∃ t : Fin cfg0.N, t.val = (i 0).val / 128 := ⟨⟨(i 0).val / 128, by show _ < 66; omega⟩, rfl⟩
  refine ⟨t, flush0_7 t, ?_⟩
  show i ∈ ((View.whole main_v3_1).slice (win0_7.rect t)).set
  rw [View.set_slice_whole, Rect.mem_set_unit]
  intro a
  match a with
  | ⟨0, _⟩ => show win0_7.index t 0 * 128 ≤ (i 0).val ∧ (i 0).val < win0_7.index t 0 * 128 + 128
              rw [(index_facts t).2.2.1]; omega
  | ⟨1, _⟩ => show win0_7.index t 1 * 16 ≤ (i 1).val ∧ (i 1).val < win0_7.index t 1 * 16 + 16
              rw [(index_facts t).2.2.2]; omega

/-- So the array ends holding the forget logs. -/
theorem final (c : Dev nD) : (dats m 0 c).arrAt 7 cfg0.N = logsOf m c :=
  (dats m 0 c).arrAt_eq_of_cover 7 (logsOf m c) (fun t _ => flushed_eq m c t) cover

/-- The forget logs of each sequence's true rows: sequence `s` starts at packed row `4224 s`. -/
def rowsOf (c : Dev nD) : S2x4112x16.Idx → EReal := fun i =>
  logAt (m ((c : Thread nD τ).loc main_arg0)) (m ((c : Thread nD τ).loc main_arg4))
    ⟨4224 * (i 0).val + (i 1).val, by have h : (i 0).val < 2 := (i 0).isLt; have h' : (i 1).val < 4112 := (i 1).isLt; omega⟩ (i 2)

/-- At the region's exit the array holds the forget logs. -/
theorem exit_out (c : Dev nD) :
    (Pipeline.withArrays (cfgs 0).spec c (V0 m c) (fun w => (dats m 0 c).arrAt w (cfgs 0).N) (Proc.devRef .tc main_v3_1) : S8448x16.Idx → EReal)
      = logsOf m c :=
  ((dats m 0 c).withArrays_arrAt sharedIn0 (V0 m c) (A_eq m c) 7).trans (final m c)

/-- What the host leaves in the result. -/
theorem ends (c : Dev nD) :
    (Pipeline.afterTail₀ cfgs (dats m) 0 (V0 m) [hostOps1] c main_v5 : S2x4112x16.Idx → EReal) = rowsOf m c := by
  unfold Pipeline.afterTail₀
  simp only [List.flatten_cons, List.flatten_nil, List.append_nil]
  after_results_simp
  rw [exit_out]
  funext (i : S2x4112x16.Idx)
  obtain ⟨s, t, h, rfl⟩ : ∃ (s : Fin 2) (t : Fin 4112) (h : Fin 16), i = ix3 s t h := ⟨i 0, i 1, i 2, eq_ix3 i⟩
  have e : ∀ r : Fin 8448, r.val = 4224 * s.val + t.val → logsOf m c (ix2 r h) = rowsOf m c (ix3 s t h) := by
    intro r hr
    show logAt _ _ r h = logAt _ _ _ h
    exact congrArg (fun r => logAt _ _ r h) (Fin.ext hr)
  pointwise
  exact e _ (by simp only []; omega)

end Cert.ForgetKernelIdeal.Block

end
-- ==== Proof.ForgetClaim.lean ====
/-
  The prompt's forget logs: their claims.
-/
module

public import proofs.«01_k».proof.Defs
public import proofs.«01_k».proof.Proof.ForgetBlock
public import proofs.«01_k».proof.Proof.Gen.ForgetKernel.Frame
public import proofs.«01_k».proof.Proof.Gen.ForgetReferenceIdeal.Run
public import proofs.«01_k».proof.Proof.Gen.ForgetReferenceIdeal.Read
public import Idealize.ShloMosaic.Lib.Quiescent

@[expose] public section

set_option maxRecDepth 16384

noncomputable section

namespace Cert.Proof.Forget

open Idealize.ShloMosaic Idealize.ShloMosaic.TcCoe Idealize.SL.Sem
open Cert.ForgetReferenceIdeal.Read
open scoped BigOperators

/-- The reference's biased column, negated. -/
theorem arg_apply (x : Vec Ideal Cert.ForgetReferenceIdeal.S8448x13312 .f32) (b : Vec Ideal Cert.ForgetReferenceIdeal.S16 .f32)
    (s : Fin 2) (t : Fin 4112) (h : Fin 16) (r : Fin 8448) (hr : r.val = 4224 * s.val + t.val) :
    (val_main_call0_v0 (F := Ideal) x b : Cert.ForgetReferenceIdeal.S2x4112x16.Idx → EReal) (ix3 s t h)
      = -(x (ix2 r ⟨1664 + h.val, by omega⟩) + b (ix1 h)) := by
  pointwise [val_main_call0_v0, val_main_v4, val_main_v3, val_main_v2, val_main_v1, val_main_v0]
  exact congrArg (fun r => -(x (ix2 r ⟨1664 + h.val, by omega⟩) + b (ix1 h))) (Fin.ext (by simp only []; omega))

/-- The reference's result at an index. -/
theorem ref_apply (x : Vec Ideal Cert.ForgetReferenceIdeal.S8448x13312 .f32) (b : Vec Ideal Cert.ForgetReferenceIdeal.S16 .f32)
    (s : Fin 2) (t : Fin 4112) (h : Fin 16) :
    (val_main_v5 (F := Ideal) x b : Cert.ForgetReferenceIdeal.S2x4112x16.Idx → EReal) (ix3 s t h)
      = Cert.ForgetKernelIdeal.Block.logAt x b ⟨4224 * s.val + t.val, by omega⟩ h := by
  have e := arg_apply x b s t h ⟨4224 * s.val + t.val, by omega⟩ rfl
  pointwise [val_main_v5, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  rw [e]
  rw [if_neg (by simp)]
  rfl

/-- The reference's frame: its run leaves the arguments, and it declares no semaphore. -/
theorem frame_ref : Cert.quiescent_ForgetReferenceIdeal := fun m ρ _ =>
  (θ_run Cert.ForgetReferenceIdeal.defs _ _).mono (fun r h => ⟨fun c => (h c).2, sem_eq_zero_of_no_sems rfl _⟩)
    (Cert.ForgetReferenceIdeal.Value.run (F := Ideal) m ρ)

/-- Over the extended reals the kernel computes the reference's function. -/
theorem algebraic : Cert.algebraic_ForgetKernelIdeal_ForgetReferenceIdeal := by
  intro m ρ m' ρ' _ hagree
  refine ⟨fun c => Cert.ForgetKernelIdeal.Block.rowsOf m c, ?_, ?_⟩
  · exact (θ_run Cert.ForgetKernelIdeal.defs _ _).mono
      (fun _ h c => ⟨((h.1 c).2 Cert.ForgetKernelIdeal.main_v5 (Pipeline.mem_restRefs_of Cert.ForgetKernelIdeal.main_v5 (by decide) (by decide))).trans
        (Cert.ForgetKernelIdeal.Block.ends m c), h.2 c⟩)
      (θ_run_and (Cert.ForgetKernelIdeal.Gen.run_main (F := Ideal) m ρ) (Cert.ForgetKernelIdeal.Gen.unchanged (F := Ideal) m ρ))
  refine (θ_run Cert.ForgetReferenceIdeal.defs _ _).mono (fun _ h c => ⟨(h c).1.trans ?_, (h c).2⟩)
    (Cert.ForgetReferenceIdeal.Value.run (F := Ideal) m' ρ')
  rw [(hagree c).1, (hagree c).2.2.2.2]
  rw [Cert.ForgetReferenceIdeal.Read.val_main_v5_eq]
  funext (i : Cert.ForgetReferenceIdeal.S2x4112x16.Idx)
  obtain ⟨s, t, h, rfl⟩ : ∃ (s : Fin 2) (t : Fin 4112) (h : Fin 16), i = ix3 s t h := ⟨i 0, i 1, i 2, eq_ix3 i⟩
  exact ref_apply _ _ s t h

end Cert.Proof.Forget

end
-- ==== Proof.SampForgetBlock.lean ====
/-
  The sample rows' forget logs: each point writes its sequence's sixteen rows, of which the host keeps the first.
-/
module

public import proofs.«01_k».proof.Proof.ForgetMath
public import proofs.«01_k».proof.Proof.Gen.SampForgetKernelIdeal.Frame
public import Idealize.ShloMosaic.Lib.Pointwise
public import Idealize.ShloMosaic.Lib.Claim
public import Idealize.ShloMosaic.Lib.Pipeline.Value
public import Idealize.ShloMosaic.Lib.Pipeline.ValueKit.Tiles

@[expose] public section

set_option maxRecDepth 16384

noncomputable section

namespace Cert.SampForgetKernelIdeal.Block

open Cert.SampForgetKernelIdeal Cert.SampForgetKernelIdeal.Gen Idealize.ShloMosaic Idealize.ShloMosaic.TcCoe Idealize.SL.Sem
open Idealize.ShloMosaic.Pipeline (Dat)
open Cert.Layer
open scoped BigOperators

variable (m : (ℓ : Loc nD τ sig) → Buf (Elt Ideal) ℓ)

/-- The forget log of packed row `r`, head `h`: the forget columns start at column 1664 of the packed projections. -/
def logAt (x : S128x13312.Idx → EReal) (b : S16.Idx → EReal) (r : Fin 128) (h : Fin 16) : EReal :=
  forgetAt (x (ix2 r ⟨1664 + h.val, by omega⟩)) (b (ix1 h))

/-- The whole array of forget logs of a device's arguments. -/
def logsOf (c : Dev nD) : S128x16.Idx → EReal := fun i =>
  logAt (m ((c : Thread nD τ).loc main_arg0)) (m ((c : Thread nD τ).loc main_arg4)) (i 0) (i 1)

/-- The stored block, entry by entry, from the forget columns and the bias row. -/
theorem pay_apply (v : Vec Ideal S16x16 .f32) (b : Vec Ideal S1x16 .f32) (r h : Fin 16) :
    (k0_pay1 (F := Ideal) (k0_pay14 v b) (k0_pay15 v b) (Scalar.ofBits .f32 0x3F800000#32) : S16x16.Idx → EReal) (ix2 r h)
      = forgetAt (v (ix2 r h)) (b (ix2 0 h)) := by
  pointwise [k0_pay1, k0_pay14, k0_pay15, k0_pay13]
  simp only [zero_sub]
  rfl

section body

variable (c : Dev nD) (i : grid0.Coords) (arg2 : Memref sig .tc .vmem S16x1024 .f32) (harg2 : arg2.IsWhole) (arg3 : Memref sig .tc .vmem S16x512 .f32) (harg3 : arg3.IsWhole) (arg4 : Memref sig .tc .vmem S1x16x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S1x16 .f32) (harg7 : arg7.IsWhole) (arg8 : Memref sig .tc .vmem S16x1024 .bf16) (harg8 : arg8.IsWhole) (arg9 : Memref sig .tc .vmem S16x16 .f32) (harg9 : arg9.IsWhole) (arg10 : Memref sig .tc .vmem S32x1024 .f32) (harg10 : arg10.IsWhole) (hc0 : cond0_0 i)
    (x0 : Vec Ideal S16x1024 .f32) (x1 : Vec Ideal S16x512 .f32) (x2 : Vec Ideal S1x16x1024 .f32) (x3 : Vec Ideal S4x256x256 .bf16) (x4 : Vec Ideal S1x1024 .f32) (x5 : Vec Ideal S1x16 .f32)

/-- The one store of the forget logs. -/
theorem list7 : (kernelRun0_A (F := Ideal) c i arg2 harg2 arg3 harg3 arg4 harg4 arg5 harg5 arg6 harg6 arg7 harg7 arg8 harg8 arg9 harg9 arg10 harg10 hc0 x0 x1 x2 x3 x4 x5).2.1 =
    [⟨Rect.unit ![0, 0] S16x16.size inb_S16x16_S16x16_0_0, k0_pay1
      (k0_pay14 (View.readAt (Elt Ideal) arg3.view (Rect.unit (s := S16x512) ![0, 128] S16x16.size inb_S16x512_S16x16_0_128).toLoadRect (harg3.unread x1)) (View.readAt (Elt Ideal) arg7.view (Rect.unit (s := S1x16) ![0, 0] S1x16.size inb_S1x16_S1x16_0_0).toLoadRect (harg7.unread x5)))
      (k0_pay15 (View.readAt (Elt Ideal) arg3.view (Rect.unit (s := S16x512) ![0, 128] S16x16.size inb_S16x512_S16x16_0_128).toLoadRect (harg3.unread x1)) (View.readAt (Elt Ideal) arg7.view (Rect.unit (s := S1x16) ![0, 0] S1x16.size inb_S1x16_S1x16_0_0).toLoadRect (harg7.unread x5)))
      (Scalar.ofBits .f32 0x3F800000#32)⟩] := rfl

/-- The forget logs' block: entry by entry from the columns at lane 128 of the small block. -/
theorem out7_at (r h : Fin 16) :
    (out0_A_7 (F := Ideal) c i arg2 harg2 arg3 harg3 arg4 harg4 arg5 harg5 arg6 harg6 arg7 harg7 arg8 harg8 arg9 harg9 arg10 harg10 hc0 x0 x1 x2 x3 x4 x5 : S16x16.Idx → EReal) (ix2 r h)
      = forgetAt ((x1 : S16x512.Idx → EReal) (ix2 r ⟨128 + h.val, by omega⟩)) ((x5 : S1x16.Idx → EReal) (ix2 0 h)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5), list7]
  rw [View.canon_unit_zero (S := S16x16) (funext fun a => by fin_cases a <;> rfl), pay_apply]
  congr 1
  · rw [View.readAt_eq_ld, harg3.read_unread]
    exact View.ld_unit_apply_of x1 _ _ _ _ _ (Fin.forall_fin_two.mpr ⟨by show r.val = 0 + r.val; omega, rfl⟩)
  · rw [View.readAt_eq_ld, harg7.read_unread]
    exact View.ld_unit_apply_of x5 _ _ _ _ _ (Fin.forall_fin_two.mpr ⟨rfl, by show h.val = 0 + h.val; omega⟩)

end body

/-- The block indices of the three windows the logs touch. -/
theorem index_facts : ∀ t : Fin grid0.N,
    (win0_1.index t 0 = t.val ∧ win0_1.index t 1 = 3) ∧ (win0_5.index t 0 = 0 ∧ win0_5.index t 1 = 0)
    ∧ (win0_7.index t 0 = t.val ∧ win0_7.index t 1 = 0) := by decide +kernel

/-- The bias the region finds is the argument laid out as one row. -/
theorem V_bias (c : Dev nD) (h : Fin 16) : (V m c main_v2 : S1x16.Idx → EReal) (ix2 0 h)
    = (m ((c : Thread nD τ).loc main_arg4) : S16.Idx → EReal) (ix1 h) := by
  have e : (V m c main_v2 : S1x16.Idx → EReal) = shapeCast S1x16 (m ((c : Thread nD τ).loc main_arg4) : Vec Ideal S16 .f32) shapeCasts_S16_S1x16 := by
    entry_read
    rfl
  rw [e]
  pointwise

/-- The bias window's block read at an entry. -/
theorem bias_at (c : Dev nD) (t : Fin cfg0.N) (h : Fin 16) :
    (iblk m c 5 t : S1x16.Idx → EReal) (ix2 0 h) = (m ((c : Thread nD τ).loc main_arg4) : S16.Idx → EReal) (ix1 h) := by
  rw [← V_bias m c h]
  unfold iblk
  rw [View.read_apply]
  show (V m c main_v2 : S1x16.Idx → EReal) _ = _
  congr 1
  funext a
  apply Fin.ext
  match a with
  | ⟨0, _⟩ => show win0_5.index t 0 * 1 + 1 * 0 = 0; rw [(index_facts t).2.1.1]
  | ⟨1, _⟩ => show win0_5.index t 1 * 16 + 1 * h.val = h.val; rw [(index_facts t).2.1.2]; omega

/-- The small window's forget columns read at an entry. -/
theorem col_at (c : Dev nD) (t : Fin cfg0.N) (r h : Fin 16) (q : Fin 128) (hq : q.val = 16 * t.val + r.val) :
    (iblk m c 1 t : S16x512.Idx → EReal) (ix2 r ⟨128 + h.val, by omega⟩)
      = (m ((c : Thread nD τ).loc main_arg0) : S128x13312.Idx → EReal) (ix2 q ⟨1664 + h.val, by omega⟩) := by
  unfold iblk
  rw [View.read_apply]
  show V m c main_arg0 _ = _
  rw [V_main_arg0]
  congr 1
  funext a
  apply Fin.ext
  match a with
  | ⟨0, _⟩ => show win0_1.index t 0 * 16 + 1 * r.val = q.val; rw [(index_facts t).1.1]; omega
  | ⟨1, _⟩ => show win0_1.index t 1 * 512 + 1 * (128 + h.val) = 1664 + h.val; rw [(index_facts t).1.2]; omega

/-- What a point writes back is its block of the forget logs. -/
theorem flushed_eq (c : Dev nD) (t : Fin cfg0.N) :
    (dats m 0 c).flushed 7 t = ((cfg0.win 7).blk t).view.read (Elt Ideal) (logsOf m c) := by
  have e : (dats m 0 c).flushed 7 t = (outsAt0 m c t).2 := by
    show (cfg0.win 7).cut (grid0.coords t) ((dats m 0 c).after 7 t) = _
    rw [after0_7]
    rfl
  rw [e]
  clear e
  funext (j : S16x16.Idx)
  obtain ⟨r, h, rfl⟩ : ∃ (r h : Fin 16), j = ix2 r h := ⟨j 0, j 1, eq_ix2 j⟩
  have ht : t.val < 8 := t.isLt
  rw [View.read_apply]
  have e : ((cfg0.win 7).blk t).view.emb (ix2 r h : S16x16.Idx) = (ix2 ⟨16 * t.val + r.val, by omega⟩ h : S128x16.Idx) := by
    funext a
    apply Fin.ext
    match a with
    | ⟨0, _⟩ => show win0_7.index t 0 * 16 + 1 * r.val = 16 * t.val + r.val; rw [(index_facts t).2.2.1]; omega
    | ⟨1, _⟩ => show win0_7.index t 1 * 16 + 1 * h.val = h.val; rw [(index_facts t).2.2.2]; omega
  rw [e]
  unfold outsAt0
  dsimp only
  refine (out7_at (r := r) (h := h) ..).trans ?_
  rw [bias_at, col_at m c t r h ⟨16 * t.val + r.val, by omega⟩ rfl]
  rfl

/-- The points' blocks cover the array. -/
theorem cover (i : S128x16.Idx) : ∃ t : Fin cfg0.N, (cfg0.win 7).flush t = true ∧ i ∈ ((cfg0.win 7).blk t).view.set := by
  have h0 : (i 0).val < 128 := (i 0).isLt
  have h1 : (i 1).val < 16 := (i 1).isLt
  obtain ⟨t, ht⟩ : ∃ t : Fin cfg0.N, t.val = (i 0).val / 16 := ⟨⟨(i 0).val / 16, by show _ < 8; omega⟩, rfl⟩
  refine ⟨t, flush0_7 t, ?_⟩
  show i ∈ ((View.whole main_v3_1).slice (win0_7.rect t)).set
  rw [View.set_slice_whole, Rect.mem_set_unit]
  intro a
  match a with
  | ⟨0, _⟩ => show win0_7.index t 0 * 16 ≤ (i 0).val ∧ (i 0).val < win0_7.index t 0 * 16 + 16
              rw [(index_facts t).2.2.1]; omega
  | ⟨1, _⟩ => show win0_7.index t 1 * 16 ≤ (i 1).val ∧ (i 1).val < win0_7.index t 1 * 16 + 16
              rw [(index_facts t).2.2.2]; omega

/-- So the array ends holding the forget logs. -/
theorem final (c : Dev nD) : (dats m 0 c).arrAt 7 cfg0.N = logsOf m c :=
  (dats m 0 c).arrAt_eq_of_cover 7 (logsOf m c) (fun t _ => flushed_eq m c t) cover

/-- The forget logs of each sequence's first row. -/
def firstOf (c : Dev nD) : S8x1x16.Idx → EReal := fun i =>
  logAt (m ((c : Thread nD τ).loc main_arg0)) (m ((c : Thread nD τ).loc main_arg4))
    ⟨16 * (i 0).val, by have h : (i 0).val < 8 := (i 0).isLt; omega⟩ (i 2)

/-- At the region's exit the array holds the forget logs. -/
theorem exit_out (c : Dev nD) :
    (Pipeline.withArrays (cfgs 0).spec c (V0 m c) (fun w => (dats m 0 c).arrAt w (cfgs 0).N) (Proc.devRef .tc main_v3_1) : S128x16.Idx → EReal)
      = logsOf m c :=
  ((dats m 0 c).withArrays_arrAt sharedIn0 (V0 m c) (A_eq m c) 7).trans (final m c)

/-- What the host leaves in the result. -/
theorem ends (c : Dev nD) :
    (Pipeline.afterTail₀ cfgs (dats m) 0 (V0 m) [hostOps1] c main_v5 : S8x1x16.Idx → EReal) = firstOf m c := by
  unfold Pipeline.afterTail₀
  simp only [List.flatten_cons, List.flatten_nil, List.append_nil]
  after_results_simp
  rw [exit_out]
  funext (i : S8x1x16.Idx)
  obtain ⟨s, z, h, rfl⟩ : ∃ (s : Fin 8) (z : Fin 1) (h : Fin 16), i = ix3 s z h := ⟨i 0, i 1, i 2, eq_ix3 i⟩
  have e : ∀ r : Fin 128, r.val = 16 * s.val → logsOf m c (ix2 r h) = firstOf m c (ix3 s z h) := by
    intro r hr
    show logAt _ _ r h = logAt _ _ _ h
    exact congrArg (fun r => logAt _ _ r h) (Fin.ext hr)
  pointwise
  exact e _ (by simp only []; omega)

end Cert.SampForgetKernelIdeal.Block

end
-- ==== Proof.SampForgetClaim.lean ====
/-
  The sample rows' forget logs: their claims.
-/
module

public import proofs.«01_k».proof.Defs
public import proofs.«01_k».proof.Proof.SampForgetBlock
public import proofs.«01_k».proof.Proof.Gen.SampForgetKernel.Frame
public import proofs.«01_k».proof.Proof.Gen.SampForgetReferenceIdeal.Run
public import proofs.«01_k».proof.Proof.Gen.SampForgetReferenceIdeal.Read
public import Idealize.ShloMosaic.Lib.Quiescent

@[expose] public section

set_option maxRecDepth 16384

noncomputable section

namespace Cert.Proof.SampForget

open Idealize.ShloMosaic Idealize.ShloMosaic.TcCoe Idealize.SL.Sem
open Cert.SampForgetReferenceIdeal.Read
open scoped BigOperators

/-- The reference's biased column, negated. -/
theorem arg_apply (x : Vec Ideal Cert.SampForgetReferenceIdeal.S128x13312 .f32) (b : Vec Ideal Cert.SampForgetReferenceIdeal.S16 .f32)
    (s : Fin 8) (z : Fin 1) (h : Fin 16) (r : Fin 128) (hr : r.val = 16 * s.val) :
    (val_main_call0_v0 (F := Ideal) x b : Cert.SampForgetReferenceIdeal.S8x1x16.Idx → EReal) (ix3 s z h)
      = -(x (ix2 r ⟨1664 + h.val, by omega⟩) + b (ix1 h)) := by
  pointwise [val_main_call0_v0, val_main_v4, val_main_v3, val_main_v2, val_main_v1, val_main_v0]
  exact congrArg (fun r => -(x (ix2 r ⟨1664 + h.val, by omega⟩) + b (ix1 h))) (Fin.ext (by simp only []; omega))

/-- The reference's result at an index. -/
theorem ref_apply (x : Vec Ideal Cert.SampForgetReferenceIdeal.S128x13312 .f32) (b : Vec Ideal Cert.SampForgetReferenceIdeal.S16 .f32)
    (s : Fin 8) (z : Fin 1) (h : Fin 16) :
    (val_main_v5 (F := Ideal) x b : Cert.SampForgetReferenceIdeal.S8x1x16.Idx → EReal) (ix3 s z h)
      = Cert.SampForgetKernelIdeal.Block.logAt x b ⟨16 * s.val, by omega⟩ h := by
  have e := arg_apply x b s z h ⟨16 * s.val, by omega⟩ rfl
  pointwise [val_main_v5, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  rw [e]
  rw [if_neg (by simp)]
  rfl

/-- The reference's frame: its run leaves the arguments, and it declares no semaphore. -/
theorem frame_ref : Cert.quiescent_SampForgetReferenceIdeal := fun m ρ _ =>
  (θ_run Cert.SampForgetReferenceIdeal.defs _ _).mono (fun r h => ⟨fun c => (h c).2, sem_eq_zero_of_no_sems rfl _⟩)
    (Cert.SampForgetReferenceIdeal.Value.run (F := Ideal) m ρ)

/-- Over the extended reals the kernel computes the reference's function. -/
theorem algebraic : Cert.algebraic_SampForgetKernelIdeal_SampForgetReferenceIdeal := by
  intro m ρ m' ρ' _ hagree
  refine ⟨fun c => Cert.SampForgetKernelIdeal.Block.firstOf m c, ?_, ?_⟩
  · exact (θ_run Cert.SampForgetKernelIdeal.defs _ _).mono
      (fun _ h c => ⟨((h.1 c).2 Cert.SampForgetKernelIdeal.main_v5 (Pipeline.mem_restRefs_of Cert.SampForgetKernelIdeal.main_v5 (by decide) (by decide))).trans
        (Cert.SampForgetKernelIdeal.Block.ends m c), h.2 c⟩)
      (θ_run_and (Cert.SampForgetKernelIdeal.Gen.run_main (F := Ideal) m ρ) (Cert.SampForgetKernelIdeal.Gen.unchanged (F := Ideal) m ρ))
  refine (θ_run Cert.SampForgetReferenceIdeal.defs _ _).mono (fun _ h c => ⟨(h c).1.trans ?_, (h c).2⟩)
    (Cert.SampForgetReferenceIdeal.Value.run (F := Ideal) m' ρ')
  rw [(hagree c).1, (hagree c).2.2.2.2]
  rw [Cert.SampForgetReferenceIdeal.Read.val_main_v5_eq]
  funext (i : Cert.SampForgetReferenceIdeal.S8x1x16.Idx)
  obtain ⟨s, z, h, rfl⟩ : ∃ (s : Fin 8) (z : Fin 1) (h : Fin 16), i = ix3 s z h := ⟨i 0, i 1, i 2, eq_ix3 i⟩
  exact ref_apply _ _ s z h

end Cert.Proof.SampForget

end
-- ==== Proof.OutBlock.lean ====
/-
  The mixers' output projection, read block by block: what each grid point writes back is the block of one
  whole-array function, `x + h · w`, and the blocks cover the result.
-/
module

public import proofs.«01_k».proof.Proof.Gen.OutKernelIdeal.Value
public import Idealize.ShloMosaic.Lib.Pointwise
public import Idealize.ShloMosaic.Lib.Claim
public import Idealize.ShloMosaic.Lib.Pipeline.Value

@[expose] public section

set_option maxRecDepth 16384

noncomputable section

namespace Cert.OutKernelIdeal.Block

open Cert.OutKernelIdeal Cert.OutKernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-- The residual plus the product, at row `r` and column `q`. -/
def outAt (h : S8448x2048.Idx → EReal) (w : S2048x2048.Idx → EReal) (x : S8448x2048.Idx → EReal)
    (r : Fin 8448) (q : Fin 2048) : EReal :=
  x (ix2 r q) + ∑ k : Fin 2048, h (ix2 r k) * w (ix2 k q)

/-- The whole result array of a device's three argument arrays. -/
def outOf (c : Dev nD) : S8448x2048.Idx → EReal := fun i =>
  outAt (m ((c : Thread nD τ).loc main_arg0)) (m ((c : Thread nD τ).loc main_arg1)) (m ((c : Thread nD τ).loc main_arg2)) (i 0) (i 1)

/-- The block the body stores, entry by entry. -/
theorem pay_apply (x : Vec Ideal S1056x512 .f32) (h : Vec Ideal S1056x2048 .bf16) (w : Vec Ideal S2048x512 .bf16)
    (r : Fin 1056) (q : Fin 512) : (k0_pay1 (F := Ideal) x h w : S1056x512.Idx → EReal) (ix2 r q)
      = (x (ix2 r q) : EReal) + ∑ k : Fin 2048, (h (ix2 r k) : EReal) * (w (ix2 k q) : EReal) := by
  pointwise [k0_pay1]

/-- The block indices of the four windows at point `t`. -/
theorem index_facts : ∀ t : Fin grid0.N,
    (win0_0.index t 0 = t.val / 4 ∧ win0_0.index t 1 = 0) ∧ (win0_1.index t 0 = 0 ∧ win0_1.index t 1 = t.val % 4)
    ∧ (win0_2.index t 0 = t.val / 4 ∧ win0_2.index t 1 = t.val % 4)
    ∧ (win0_3.index t 0 = t.val / 4 ∧ win0_3.index t 1 = t.val % 4) := by decide +kernel

/-- The weight the region finds is the argument (the host's conversion keeps every value). -/
theorem V_weight (c : Dev nD) : (V m c main_v0 : S2048x2048.Idx → EReal)
    = (m ((c : Thread nD τ).loc main_arg1) : S2048x2048.Idx → EReal) := by
  entry_read
  rfl

/-- The row window's block read at an entry. -/
theorem iblk0 (c : Dev nD) (t : Fin cfg0.N) (r : Fin 1056) (k : Fin 2048) (R : Fin 8448) (hR : R.val = t.val / 4 * 1056 + r.val) :
    (iblk m c 0 t : S1056x2048.Idx → EReal) (ix2 r k) = (m ((c : Thread nD τ).loc main_arg0) : S8448x2048.Idx → EReal) (ix2 R k) := by
  unfold iblk
  rw [View.read_apply]
  show V m c main_arg0 _ = _
  rw [V_main_arg0]
  congr 1
  funext a
  apply Fin.ext
  match a with
  | ⟨0, _⟩ => show win0_0.index t 0 * 1056 + 1 * r.val = R.val; rw [(index_facts t).1.1]; omega
  | ⟨1, _⟩ => show win0_0.index t 1 * 2048 + 1 * k.val = k.val; rw [(index_facts t).1.2]; omega

/-- The weight window's block read at an entry. -/
theorem iblk1 (c : Dev nD) (t : Fin cfg0.N) (k : Fin 2048) (q : Fin 512) (Q : Fin 2048) (hQ : Q.val = t.val % 4 * 512 + q.val) :
    (iblk m c 1 t : S2048x512.Idx → EReal) (ix2 k q) = (m ((c : Thread nD τ).loc main_arg1) : S2048x2048.Idx → EReal) (ix2 k Q) := by
  unfold iblk
  rw [View.read_apply]
  show (V m c main_v0 : S2048x2048.Idx → EReal) _ = _
  rw [V_weight]
  congr 1
  funext a
  apply Fin.ext
  match a with
  | ⟨0, _⟩ => show win0_1.index t 0 * 2048 + 1 * k.val = k.val; rw [(index_facts t).2.1.1]; omega
  | ⟨1, _⟩ => show win0_1.index t 1 * 512 + 1 * q.val = Q.val; rw [(index_facts t).2.1.2]; omega

/-- The residual window's block read at an entry. -/
theorem iblk2 (c : Dev nD) (t : Fin cfg0.N) (r : Fin 1056) (q : Fin 512) (R : Fin 8448) (Q : Fin 2048)
    (hR : R.val = t.val / 4 * 1056 + r.val) (hQ : Q.val = t.val % 4 * 512 + q.val) :
    (iblk m c 2 t : S1056x512.Idx → EReal) (ix2 r q) = (m ((c : Thread nD τ).loc main_arg2) : S8448x2048.Idx → EReal) (ix2 R Q) := by
  unfold iblk
  rw [View.read_apply]
  show V m c main_arg2 _ = _
  rw [V_main_arg2]
  congr 1
  funext a
  apply Fin.ext
  match a with
  | ⟨0, _⟩ => show win0_2.index t 0 * 1056 + 1 * r.val = R.val; rw [(index_facts t).2.2.1.1]; omega
  | ⟨1, _⟩ => show win0_2.index t 1 * 512 + 1 * q.val = Q.val; rw [(index_facts t).2.2.1.2]; omega

/-- What point `t` writes back is block `t` of the whole-array function. -/
theorem flushed_eq (c : Dev nD) (t : Fin cfg0.N) :
    (dats m 0 c).flushed 3 t = ((cfg0.win 3).blk t).view.read (Elt Ideal) (outOf m c) := by
  rw [Value.flushed3]
  unfold out0_3
  rw [View.canon_unit_zero hz, View.ld_unit_zero hz, View.ld_unit_zero hz, View.ld_unit_zero hz]
  funext (j : S1056x512.Idx)
  obtain ⟨r, q, rfl⟩ : ∃ (r : Fin 1056) (q : Fin 512), j = ix2 r q := ⟨j 0, j 1, eq_ix2 j⟩
  have hN : t.val < 32 := t.isLt
  have h0 := r.isLt
  have h1 := q.isLt
  rw [View.read_apply]
  obtain ⟨R, hR⟩ : ∃ R : Fin 8448, R.val = t.val / 4 * 1056 + r.val := ⟨⟨_, by omega⟩, rfl⟩
  obtain ⟨Q, hQ⟩ : ∃ Q : Fin 2048, Q.val = t.val % 4 * 512 + q.val := ⟨⟨_, by omega⟩, rfl⟩
  have e : ((cfg0.win 3).blk t).view.emb (ix2 r q : S1056x512.Idx) = (ix2 R Q : S8448x2048.Idx) := by
    funext a
    apply Fin.ext
    match a with
    | ⟨0, _⟩ => show win0_3.index t 0 * 1056 + 1 * r.val = R.val; rw [(index_facts t).2.2.2.1]; omega
    | ⟨1, _⟩ => show win0_3.index t 1 * 512 + 1 * q.val = Q.val; rw [(index_facts t).2.2.2.2]; omega
  rw [e]
  refine (pay_apply _ _ _ r q).trans ?_
  show _ = outAt _ _ _ R Q
  unfold outAt
  simp only [iblk0 m c t _ _ R hR, iblk1 m c t _ _ Q hQ, iblk2 m c t _ _ R Q hR hQ]

/-- Every index of the result lies in some point's block. -/
theorem cover (i : S8448x2048.Idx) : ∃ t : Fin cfg0.N, (cfg0.win 3).flush t = true ∧ i ∈ ((cfg0.win 3).blk t).view.set := by
  have h0 : (i 0).val < 8448 := (i 0).isLt
  have h1 : (i 1).val < 2048 := (i 1).isLt
  obtain ⟨t, ht⟩ : ∃ t : Fin cfg0.N, t.val = (i 0).val / 1056 * 4 + (i 1).val / 512 :=
    ⟨⟨_, by show _ < 32; omega⟩, rfl⟩
  refine ⟨t, flush0_3 t, ?_⟩
  show i ∈ ((View.whole main_v1).slice (win0_3.rect t)).set
  rw [View.set_slice_whole, Rect.mem_set_unit]
  intro a
  match a with
  | ⟨0, _⟩ => show win0_3.index t 0 * 1056 ≤ (i 0).val ∧ (i 0).val < win0_3.index t 0 * 1056 + 1056
              rw [(index_facts t).2.2.2.1]; omega
  | ⟨1, _⟩ => show win0_3.index t 1 * 512 ≤ (i 1).val ∧ (i 1).val < win0_3.index t 1 * 512 + 512
              rw [(index_facts t).2.2.2.2]; omega

/-- So the result array ends holding the whole-array function. -/
theorem final (c : Dev nD) : (dats m 0 c).arrAt 3 cfg0.N = outOf m c :=
  (dats m 0 c).arrAt_eq_of_cover 3 (outOf m c) (fun t _ => flushed_eq m c t) cover

end Cert.OutKernelIdeal.Block

end
-- ==== Proof.OutClaim.lean ====
/-
  The output projection's claims: its kernel ends at `x + h · w`, which is what the reference computes.
-/
module

public import proofs.«01_k».proof.Defs
public import proofs.«01_k».proof.Proof.OutBlock
public import proofs.«01_k».proof.Proof.Gen.OutKernel.Frame
public import proofs.«01_k».proof.Proof.Gen.OutReferenceIdeal.Run
public import proofs.«01_k».proof.Proof.Gen.OutReferenceIdeal.Read
public import Idealize.ShloMosaic.Lib.Quiescent

@[expose] public section

set_option maxRecDepth 16384

noncomputable section

namespace Cert.Proof.Out

open Idealize.ShloMosaic Idealize.ShloMosaic.TcCoe Idealize.SL.Sem
open scoped BigOperators

/-- The reference's result at row `r` and column `q`. -/
theorem ref_apply (h : Vec Ideal Cert.OutReferenceIdeal.S8448x2048 .bf16) (w : Vec Ideal Cert.OutReferenceIdeal.S2048x2048 .f32)
    (x : Vec Ideal Cert.OutReferenceIdeal.S8448x2048 .f32) (r : Fin 8448) (q : Fin 2048) :
    (Cert.OutReferenceIdeal.Read.val_main_v2 (F := Ideal) h w x : Cert.OutReferenceIdeal.S8448x2048.Idx → EReal) (ix2 r q) = Cert.OutKernelIdeal.Block.outAt h w x r q := by
  pointwise [Cert.OutReferenceIdeal.Read.val_main_v2, Cert.OutReferenceIdeal.Read.val_main_v1, Cert.OutReferenceIdeal.Read.val_main_v0]
  rfl

/-- The reference's frame: its run leaves the arguments, and it declares no semaphore. -/
theorem frame_ref : Cert.quiescent_OutReferenceIdeal := fun m ρ _ =>
  (θ_run Cert.OutReferenceIdeal.defs _ _).mono (fun r h => ⟨fun c => (h c).2, sem_eq_zero_of_no_sems rfl _⟩)
    (Cert.OutReferenceIdeal.Value.run (F := Ideal) m ρ)

/-- Over the extended reals the kernel computes the reference's function. -/
theorem algebraic : Cert.algebraic_OutKernelIdeal_OutReferenceIdeal := by
  intro m ρ m' ρ' _ hagree
  refine ⟨fun c => Cert.OutKernelIdeal.Block.outOf m c, ?_, ?_⟩
  · exact (θ_run Cert.OutKernelIdeal.defs _ _).mono
      (fun _ h c => ⟨(h c).1.trans (Cert.OutKernelIdeal.Block.final m c), (h c).2⟩)
      (Cert.OutKernelIdeal.Value.run_blocks (F := Ideal) m ρ)
  refine (θ_run Cert.OutReferenceIdeal.defs _ _).mono (fun _ h c => ⟨(h c).1.trans ?_, (h c).2⟩)
    (Cert.OutReferenceIdeal.Value.run (F := Ideal) m' ρ')
  rw [(hagree c).1, (hagree c).2.1, (hagree c).2.2]
  rw [Cert.OutReferenceIdeal.Read.val_main_v2_eq]
  funext (i : Cert.OutReferenceIdeal.S8448x2048.Idx)
  obtain ⟨r, q, rfl⟩ : ∃ (r : Fin 8448) (q : Fin 2048), i = ix2 r q := ⟨i 0, i 1, eq_ix2 i⟩
  exact ref_apply _ _ _ r q

end Cert.Proof.Out

end
-- ==== Proof.LastBlock.lean ====
/-
  The prompt's final norm, read block by block: a block of the result joins the last 112 rows of one block of its input
  and the first 16 of the next, so row `p` of the result is the normalized row `16 + p` of its sequence.
-/
module

public import proofs.«01_k».proof.Proof.Common
public import proofs.«01_k».proof.Proof.Gen.LastKernelIdeal.Value
public import Idealize.ShloMosaic.Lib.Pointwise
public import Idealize.ShloMosaic.Lib.Claim
public import Idealize.ShloMosaic.Lib.Pipeline.Value
public import Idealize.ShloMosaic.Lib.Pipeline.ValueKit.Tiles

@[expose] public section

set_option maxRecDepth 16384

noncomputable section

namespace Cert.LastKernelIdeal.Block

open Cert.LastKernelIdeal Cert.LastKernelIdeal.Gen Idealize.ShloMosaic Idealize.ShloMosaic.TcCoe Idealize.SL.Sem
open Idealize.ShloMosaic.Pipeline (Dat)
open Cert.Layer
open scoped BigOperators

variable (m : (ℓ : Loc nD τ sig) → Buf (Elt Ideal) ℓ)

theorem hz : (![0, 0] : Fin 2 → Nat) = fun _ => 0 := funext fun a => by fin_cases a <;> rfl

theorem hz3 : (![0, 0, 0] : Fin 3 → Nat) = fun _ => 0 := funext fun a => by fin_cases a <;> rfl

/-- Row `16 + p` of sequence `s` normalized, at column `k`. -/
def rowAt (x : S8448x2048.Idx → EReal) (g : S2048.Idx → EReal) (s : Fin 2) (p : Fin 4096) (k : Fin 2048) : EReal :=
  normAt (fun j => x (ix2 ⟨s.val * 4224 + (16 + p.val), by omega⟩ j)) (g (ix1 k)) k

/-- The whole result array of a device's two argument arrays. -/
def normOf (c : Dev nD) : S2x4096x2048.Idx → EReal := fun i =>
  rowAt (m ((c : Thread nD τ).loc main_arg0)) (m ((c : Thread nD τ).loc main_arg1)) (i 0) (i 1) (i 2)

/-- The block the body stores, entry by entry. -/
theorem pay_apply (x : Vec Ideal S112x2048 .f32) (y : Vec Ideal S16x2048 .f32) (g : Vec Ideal S1x2048 .f32) (f : Fin 2048 → EReal)
    (l : Fin 128) (k : Fin 2048) (h : ∀ j, f j = (if h : l.val < 112 then x (ix2 ⟨l.val, h⟩ j) else y (ix2 ⟨l.val - 112, by omega⟩ j) : EReal)) :
    (k0_pay1 (F := Ideal) x y g : S1x128x2048.Idx → EReal) (ix3 0 l k) = normAt f (g (ix2 0 k)) k := by
  obtain rfl : f = fun j => (if h : l.val < 112 then x (ix2 ⟨l.val, h⟩ j) else y (ix2 ⟨l.val - 112, by omega⟩ j) : EReal) := funext h
  pointwise [k0_pay1]
  rfl

/-- The block indices of the four windows at point `t`. -/
theorem index_facts : ∀ t : Fin grid0.N,
    ((win0_0.index t 0 = t.val / 32 * 33 + t.val % 32 ∧ win0_0.index t 1 = 0) ∧ (win0_1.index t 0 = t.val / 32 * 33 + t.val % 32 + 1 ∧ win0_1.index t 1 = 0))
    ∧ (win0_2.index t 0 = 0 ∧ win0_2.index t 1 = 0)
    ∧ (win0_3.index t 0 = t.val / 32 ∧ win0_3.index t 1 = t.val % 32 ∧ win0_3.index t 2 = 0) := by decide +kernel

/-- The gain the region finds is the argument laid out as one row. -/
theorem V_gain (c : Dev nD) (k : Fin 2048) : (V m c main_v0 : S1x2048.Idx → EReal) (ix2 0 k)
    = (m ((c : Thread nD τ).loc main_arg1) : S2048.Idx → EReal) (ix1 k) := by
  have e : (V m c main_v0 : S1x2048.Idx → EReal) = shapeCast S1x2048 (m ((c : Thread nD τ).loc main_arg1) : Vec Ideal S2048 .f32) shapeCasts_S2048_S1x2048 := by
    entry_read
    rfl
  rw [e]
  pointwise

/-- The gain window's block read at an entry. -/
theorem gain_at (c : Dev nD) (t : Fin cfg0.N) (k : Fin 2048) :
    (iblk m c 2 t : S1x2048.Idx → EReal) (ix2 0 k) = (m ((c : Thread nD τ).loc main_arg1) : S2048.Idx → EReal) (ix1 k) := by
  rw [← V_gain m c k]
  unfold iblk
  rw [View.read_apply]
  show (V m c main_v0 : S1x2048.Idx → EReal) _ = _
  congr 1
  funext a
  apply Fin.ext
  match a with
  | ⟨0, _⟩ => show win0_2.index t 0 * 1 + 1 * 0 = 0; rw [(index_facts t).2.1.1]
  | ⟨1, _⟩ => show win0_2.index t 1 * 2048 + 1 * k.val = k.val; rw [(index_facts t).2.1.2]; omega

/-- The first row window's block read at an entry. -/
theorem row0_at (c : Dev nD) (t : Fin cfg0.N) (r : Fin 128) (k : Fin 2048) (R : Fin 8448) (hR : R.val = (t.val / 32 * 33 + t.val % 32) * 128 + r.val) :
    (iblk m c 0 t : S128x2048.Idx → EReal) (ix2 r k) = (m ((c : Thread nD τ).loc main_arg0) : S8448x2048.Idx → EReal) (ix2 R k) := by
  unfold iblk
  rw [View.read_apply]
  show V m c main_arg0 _ = _
  rw [V_main_arg0]
  congr 1
  funext a
  apply Fin.ext
  match a with
  | ⟨0, _⟩ => show win0_0.index t 0 * 128 + 1 * r.val = R.val; rw [(index_facts t).1.1.1]; omega
  | ⟨1, _⟩ => show win0_0.index t 1 * 2048 + 1 * k.val = k.val; rw [(index_facts t).1.1.2]; omega

/-- The second row window's block read at an entry. -/
theorem row1_at (c : Dev nD) (t : Fin cfg0.N) (r : Fin 128) (k : Fin 2048) (R : Fin 8448) (hR : R.val = (t.val / 32 * 33 + t.val % 32 + 1) * 128 + r.val) :
    (iblk m c 1 t : S128x2048.Idx → EReal) (ix2 r k) = (m ((c : Thread nD τ).loc main_arg0) : S8448x2048.Idx → EReal) (ix2 R k) := by
  unfold iblk
  rw [View.read_apply]
  show V m c main_arg0 _ = _
  rw [V_main_arg0]
  congr 1
  funext a
  apply Fin.ext
  match a with
  | ⟨0, _⟩ => show win0_1.index t 0 * 128 + 1 * r.val = R.val; rw [(index_facts t).1.2.1]; omega
  | ⟨1, _⟩ => show win0_1.index t 1 * 2048 + 1 * k.val = k.val; rw [(index_facts t).1.2.2]; omega

/-- What point `t` writes back is block `t` of the whole-array function. -/
theorem flushed_eq (c : Dev nD) (t : Fin cfg0.N) :
    (dats m 0 c).flushed 3 t = ((cfg0.win 3).blk t).view.read (Elt Ideal) (normOf m c) := by
  rw [Value.flushed3]
  unfold out0_3
  rw [View.canon_unit_zero hz3]
  funext (j : S1x128x2048.Idx)
  obtain ⟨z, l, k, rfl⟩ : ∃ (z : Fin 1) (l : Fin 128) (k : Fin 2048), j = ix3 z l k := ⟨j 0, j 1, j 2, eq_ix3 j⟩
  obtain rfl : z = 0 := Subsingleton.elim _ _
  have hN : t.val < 64 := t.isLt
  have hl := l.isLt
  rw [View.read_apply]
  obtain ⟨s, hs⟩ : ∃ s : Fin 2, s.val = t.val / 32 := ⟨⟨_, by omega⟩, rfl⟩
  obtain ⟨p, hp⟩ : ∃ p : Fin 4096, p.val = t.val % 32 * 128 + l.val := ⟨⟨_, by omega⟩, rfl⟩
  have e : ((cfg0.win 3).blk t).view.emb (ix3 0 l k : S1x128x2048.Idx) = (ix3 s p k : S2x4096x2048.Idx) := by
    funext a
    apply Fin.ext
    match a with
    | ⟨0, _⟩ => show win0_3.index t 0 * 1 + 1 * 0 = s.val; rw [(index_facts t).2.2.1]; omega
    | ⟨1, _⟩ => show win0_3.index t 1 * 128 + 1 * l.val = p.val; rw [(index_facts t).2.2.2.1]; omega
    | ⟨2, _⟩ => show win0_3.index t 2 * 2048 + 1 * k.val = k.val; rw [(index_facts t).2.2.2.2]; omega
  rw [e]
  refine (pay_apply _ _ _ (fun j => (m ((c : Thread nD τ).loc main_arg0) : S8448x2048.Idx → EReal) (ix2 ⟨s.val * 4224 + (16 + p.val), by omega⟩ j)) l k (fun j => ?_)).trans ?_
  · by_cases h : l.val < 112
    · rw [dif_pos h]
      refine Eq.symm ((View.ld_unit_apply_of (iblk m c 0 t) _ _ _ _ (ix2 ⟨16 + l.val, by omega⟩ j)
        (Fin.forall_fin_two.mpr ⟨rfl, by show j.val = 0 + j.val; omega⟩)).trans ?_)
      exact row0_at m c t _ j _ (by show s.val * 4224 + (16 + p.val) = (t.val / 32 * 33 + t.val % 32) * 128 + (16 + l.val); omega)
    · rw [dif_neg h]
      refine Eq.symm ((View.ld_unit_apply_of (iblk m c 1 t) _ _ _ _ (ix2 ⟨l.val - 112, by omega⟩ j)
        (Fin.forall_fin_two.mpr ⟨by show l.val - 112 = 0 + (l.val - 112); omega, by show j.val = 0 + j.val; omega⟩)).trans ?_)
      exact row1_at m c t _ j _ (by show s.val * 4224 + (16 + p.val) = (t.val / 32 * 33 + t.val % 32 + 1) * 128 + (l.val - 112); omega)
  show _ = rowAt _ _ s p k
  unfold rowAt
  rw [View.ld_unit_zero hz, gain_at]

/-- Every index of the result lies in some point's block. -/
theorem cover (i : S2x4096x2048.Idx) : ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 2048 := (i 2).isLt
  obtain ⟨t, ht⟩ : ∃ t : Fin cfg0.N, t.val = (i 0).val * 32 + (i 1).val / 128 := ⟨⟨_, by show _ < 64; omega⟩, rfl⟩
  refine ⟨t, flush0_3 t, ?_⟩
  show i ∈ ((View.whole main_v1).slice (win0_3.rect t)).set
  rw [View.set_slice_whole, Rect.mem_set_unit]
  intro a
  match a with
  | ⟨0, _⟩ => show win0_3.index t 0 * 1 ≤ (i 0).val ∧ (i 0).val < win0_3.index t 0 * 1 + 1
              rw [(index_facts t).2.2.1]; omega
  | ⟨1, _⟩ => show win0_3.index t 1 * 128 ≤ (i 1).val ∧ (i 1).val < win0_3.index t 1 * 128 + 128
              rw [(index_facts t).2.2.2.1]; omega
  | ⟨2, _⟩ => show win0_3.index t 2 * 2048 ≤ (i 2).val ∧ (i 2).val < win0_3.index t 2 * 2048 + 2048
              rw [(index_facts t).2.2.2.2]; omega

/-- So the result array ends holding the whole-array function. -/
theorem final (c : Dev nD) : (dats m 0 c).arrAt 3 cfg0.N = normOf m c :=
  (dats m 0 c).arrAt_eq_of_cover 3 (normOf m c) (fun t _ => flushed_eq m c t) cover

end Cert.LastKernelIdeal.Block

end
-- ==== Proof.LastClaim.lean ====
/-
  The prompt's final norm: its claims.
-/
module

public import proofs.«01_k».proof.Defs
public import proofs.«01_k».proof.Proof.LastBlock
public import proofs.«01_k».proof.Proof.Gen.LastKernel.Frame
public import proofs.«01_k».proof.Proof.Gen.LastReferenceIdeal.Run
public import proofs.«01_k».proof.Proof.Gen.LastReferenceIdeal.Read
public import Idealize.ShloMosaic.Lib.Quiescent

@[expose] public section

set_option maxRecDepth 16384

noncomputable section

namespace Cert.Proof.Last

open Idealize.ShloMosaic Idealize.ShloMosaic.TcCoe Idealize.SL.Sem
open Cert.LastReferenceIdeal.Read
open scoped BigOperators

/-- The reference's result at an index. -/
theorem ref_apply (x : Vec Ideal Cert.LastReferenceIdeal.S8448x2048 .f32) (g : Vec Ideal Cert.LastReferenceIdeal.S2048 .f32)
    (s : Fin 2) (p : Fin 4096) (k : Fin 2048) :
    (val_main_v14 (F := Ideal) x g : Cert.LastReferenceIdeal.S2x4096x2048.Idx → EReal) (ix3 s p k)
      = Cert.LastKernelIdeal.Block.rowAt x g s p k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's frame: its run leaves the arguments, and it declares no semaphore. -/
theorem frame_ref : Cert.quiescent_LastReferenceIdeal := fun m ρ _ =>
  (θ_run Cert.LastReferenceIdeal.defs _ _).mono (fun r h => ⟨fun c => (h c).2, sem_eq_zero_of_no_sems rfl _⟩)
    (Cert.LastReferenceIdeal.Value.run (F := Ideal) m ρ)

/-- Over the extended reals the kernel computes the reference's function. -/
theorem algebraic : Cert.algebraic_LastKernelIdeal_LastReferenceIdeal := by
  intro m ρ m' ρ' _ hagree
  refine ⟨fun c => Cert.LastKernelIdeal.Block.normOf m c, ?_, ?_⟩
  · exact (θ_run Cert.LastKernelIdeal.defs _ _).mono
      (fun _ h c => ⟨(h c).1.trans (Cert.LastKernelIdeal.Block.final m c), (h c).2⟩)
      (Cert.LastKernelIdeal.Value.run_blocks (F := Ideal) m ρ)
  refine (θ_run Cert.LastReferenceIdeal.defs _ _).mono (fun _ h c => ⟨(h c).1.trans ?_, (h c).2⟩)
    (Cert.LastReferenceIdeal.Value.run (F := Ideal) m' ρ')
  rw [(hagree c).1, (hagree c).2]
  rw [Cert.LastReferenceIdeal.Read.val_main_v14_eq]
  funext (i : Cert.LastReferenceIdeal.S2x4096x2048.Idx)
  obtain ⟨s, p, k, rfl⟩ : ∃ (s : Fin 2) (p : Fin 4096) (k : Fin 2048), i = ix3 s p k := ⟨i 0, i 1, i 2, eq_ix3 i⟩
  exact ref_apply _ _ s p k

end Cert.Proof.Last

end
-- ==== Proof.TailBlock.lean ====
/-
  The sample rows' final norm: its one block is the normalized rows, of which the host keeps each sequence's first.
-/
module

public import proofs.«01_k».proof.Proof.Common
public import proofs.«01_k».proof.Proof.Gen.TailKernelIdeal.Frame
public import Idealize.ShloMosaic.Lib.Pointwise
public import Idealize.ShloMosaic.Lib.Claim
public import Idealize.ShloMosaic.Lib.Pipeline.Value
public import Idealize.ShloMosaic.Lib.Pipeline.ValueKit.Tiles

@[expose] public section

set_option maxRecDepth 16384

noncomputable section

namespace Cert.TailKernelIdeal.Block

open Cert.TailKernelIdeal Cert.TailKernelIdeal.Gen Idealize.ShloMosaic Idealize.ShloMosaic.TcCoe Idealize.SL.Sem
open Idealize.ShloMosaic.Pipeline (Dat)
open Cert.Layer
open scoped BigOperators

variable (m : (ℓ : Loc nD τ sig) → Buf (Elt Ideal) ℓ)

theorem hz : (![0, 0] : Fin 2 → Nat) = fun _ => 0 := funext fun a => by fin_cases a <;> rfl

/-- Row `r` normalized, at column `k`. -/
def rowAt (x : S128x2048.Idx → EReal) (g : S2048.Idx → EReal) (r : Fin 128) (k : Fin 2048) : EReal :=
  normAt (fun j => x (ix2 r j)) (g (ix1 k)) k

/-- The whole result array of a device's two argument arrays. -/
def normOf (c : Dev nD) : S128x2048.Idx → EReal := fun i =>
  rowAt (m ((c : Thread nD τ).loc main_arg0)) (m ((c : Thread nD τ).loc main_arg1)) (i 0) (i 1)

/-- The block the body stores, entry by entry. -/
theorem pay_apply (x : Vec Ideal S128x2048 .f32) (g : Vec Ideal S1x2048 .f32) (r : Fin 128) (k : Fin 2048) :
    (k0_pay1 (F := Ideal) x g : S128x2048.Idx → EReal) (ix2 r k) = normAt (fun j => x (ix2 r j)) (g (ix2 0 k)) k := by
  pointwise [k0_pay1]
  rfl

/-- The block indices of the three windows. -/
theorem index_facts : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) := by decide +kernel

/-- The gain the region finds is the argument laid out as one row. -/
theorem V_gain (c : Dev nD) (k : Fin 2048) : (V m c main_v0 : S1x2048.Idx → EReal) (ix2 0 k)
    = (m ((c : Thread nD τ).loc main_arg1) : S2048.Idx → EReal) (ix1 k) := by
  have e : (V m c main_v0 : S1x2048.Idx → EReal) = shapeCast S1x2048 (m ((c : Thread nD τ).loc main_arg1) : Vec Ideal S2048 .f32) shapeCasts_S2048_S1x2048 := by
    entry_read
    rfl
  rw [e]
  pointwise

/-- The gain window's block read at an entry. -/
theorem gain_at (c : Dev nD) (t : Fin cfg0.N) (k : Fin 2048) :
    (iblk m c 1 t : S1x2048.Idx → EReal) (ix2 0 k) = (m ((c : Thread nD τ).loc main_arg1) : S2048.Idx → EReal) (ix1 k) := by
  rw [← V_gain m c k]
  unfold iblk
  rw [View.read_apply]
  show (V m c main_v0 : S1x2048.Idx → EReal) _ = _
  congr 1
  funext a
  apply Fin.ext
  match a with
  | ⟨0, _⟩ => show win0_1.index t 0 * 1 + 1 * 0 = 0; rw [(index_facts t).2.1.1]
  | ⟨1, _⟩ => show win0_1.index t 1 * 2048 + 1 * k.val = k.val; rw [(index_facts t).2.1.2]; omega

/-- The row window's block read at an entry. -/
theorem row_at (c : Dev nD) (t : Fin cfg0.N) (r : Fin 128) (k : Fin 2048) :
    (iblk m c 0 t : S128x2048.Idx → EReal) (ix2 r k) = (m ((c : Thread nD τ).loc main_arg0) : S128x2048.Idx → EReal) (ix2 r k) := by
  unfold iblk
  rw [View.read_apply]
  show V m c main_arg0 _ = _
  rw [V_main_arg0]
  congr 1
  funext a
  apply Fin.ext
  match a with
  | ⟨0, _⟩ => show win0_0.index t 0 * 128 + 1 * r.val = r.val; rw [(index_facts t).1.1]; omega
  | ⟨1, _⟩ => show win0_0.index t 1 * 2048 + 1 * k.val = k.val; rw [(index_facts t).1.2]; omega

/-- What the point writes back is the block the body stores. -/
theorem flushed2 (c : Dev nD) (t : Fin cfg0.N) : (dats m 0 c).flushed 2 t = out0_2 (iblk m c 0 t) (iblk m c 1 t) := by
  show (cfg0.win 2).cut (grid0.coords t) ((dats m 0 c).after 2 t) = _
  rw [after0_2]
  rfl

/-- What the point writes back is the normalized rows. -/
theorem flushed_eq (c : Dev nD) (t : Fin cfg0.N) :
    (dats m 0 c).flushed 2 t = ((cfg0.win 2).blk t).view.read (Elt Ideal) (normOf m c) := by
  rw [flushed2]
  unfold out0_2
  rw [View.canon_unit_zero hz, View.ld_unit_zero hz, View.ld_unit_zero hz]
  funext (j : S128x2048.Idx)
  obtain ⟨r, k, rfl⟩ : ∃ (r : Fin 128) (k : Fin 2048), j = ix2 r k := ⟨j 0, j 1, eq_ix2 j⟩
  rw [View.read_apply]
  have e : ((cfg0.win 2).blk t).view.emb (ix2 r k : S128x2048.Idx) = (ix2 r k : S128x2048.Idx) := by
    funext a
    apply Fin.ext
    match a with
    | ⟨0, _⟩ => show win0_2.index t 0 * 128 + 1 * r.val = r.val; rw [(index_facts t).2.2.1]; omega
    | ⟨1, _⟩ => show win0_2.index t 1 * 2048 + 1 * k.val = k.val; rw [(index_facts t).2.2.2]; omega
  rw [e]
  refine (pay_apply _ _ r k).trans ?_
  show _ = rowAt _ _ r k
  unfold rowAt
  simp only [row_at, gain_at]

/-- The block is the whole result. -/
theorem cover (i : S128x2048.Idx) : ∃ t : Fin cfg0.N, (cfg0.win 2).flush t = true ∧ i ∈ ((cfg0.win 2).blk t).view.set := by
  have h0 : (i 0).val < 128 := (i 0).isLt
  have h1 : (i 1).val < 2048 := (i 1).isLt
  obtain ⟨t, ht⟩ : ∃ t : Fin cfg0.N, t.val = 0 := ⟨⟨0, by show 0 < 1; omega⟩, rfl⟩
  refine ⟨t, flush0_2 t, ?_⟩
  show i ∈ ((View.whole main_v1).slice (win0_2.rect t)).set
  rw [View.set_slice_whole, Rect.mem_set_unit]
  intro a
  match a with
  | ⟨0, _⟩ => show win0_2.index t 0 * 128 ≤ (i 0).val ∧ (i 0).val < win0_2.index t 0 * 128 + 128
              rw [(index_facts t).2.2.1]; omega
  | ⟨1, _⟩ => show win0_2.index t 1 * 2048 ≤ (i 1).val ∧ (i 1).val < win0_2.index t 1 * 2048 + 2048
              rw [(index_facts t).2.2.2]; omega

/-- So the result array ends holding the normalized rows. -/
theorem final (c : Dev nD) : (dats m 0 c).arrAt 2 cfg0.N = normOf m c :=
  (dats m 0 c).arrAt_eq_of_cover 2 (normOf m c) (fun t _ => flushed_eq m c t) cover

/-- The first of each sequence's sixteen rows, normalized. -/
def firstOf (c : Dev nD) : S8x1x2048.Idx → EReal := fun i =>
  rowAt (m ((c : Thread nD τ).loc main_arg0)) (m ((c : Thread nD τ).loc main_arg1))
    ⟨16 * (i 0).val, by have h : (i 0).val < 8 := (i 0).isLt; omega⟩ (i 2)

/-- At the region's exit the output array holds the normalized rows. -/
theorem exit_out (c : Dev nD) :
    (Pipeline.withArrays (cfgs 0).spec c (V0 m c) (fun w => (dats m 0 c).arrAt w (cfgs 0).N) (Proc.devRef .tc main_v1) : S128x2048.Idx → EReal)
      = normOf m c :=
  ((Pipeline.withArrays_arr spec0 (by decide) c (V0 m c) (fun w => (dats m 0 c).arrAt w cfg0.N) 2)).trans (final m c)

/-- What the host leaves in the result. -/
theorem ends (c : Dev nD) :
    (Pipeline.afterTail₀ cfgs (dats m) 0 (V0 m) [hostOps1] c main_v3 : S8x1x2048.Idx → EReal) = firstOf m c := by
  unfold Pipeline.afterTail₀
  simp only [List.flatten_cons, List.flatten_nil, List.append_nil]
  after_results_simp
  rw [exit_out]
  funext (i : S8x1x2048.Idx)
  obtain ⟨s, z, k, rfl⟩ : ∃ (s : Fin 8) (z : Fin 1) (k : Fin 2048), i = ix3 s z k := ⟨i 0, i 1, i 2, eq_ix3 i⟩
  have e : ∀ r : Fin 128, r.val = 16 * s.val → normOf m c (ix2 r k) = firstOf m c (ix3 s z k) := by
    intro r hr
    show rowAt _ _ r k = rowAt _ _ _ k
    exact congrArg (fun r => rowAt _ _ r k) (Fin.ext hr)
  pointwise
  exact e _ (by simp only []; omega)

end Cert.TailKernelIdeal.Block

end
-- ==== Proof.TailClaim.lean ====
/-
  The sample rows' final norm: its claims.
-/
module

public import proofs.«01_k».proof.Defs
public import proofs.«01_k».proof.Proof.TailBlock
public import proofs.«01_k».proof.Proof.Gen.TailKernel.Frame
public import proofs.«01_k».proof.Proof.Gen.TailReferenceIdeal.Run
public import proofs.«01_k».proof.Proof.Gen.TailReferenceIdeal.Read
public import Idealize.ShloMosaic.Lib.Quiescent

@[expose] public section

set_option maxRecDepth 16384

noncomputable section

namespace Cert.Proof.Tail

open Idealize.ShloMosaic Idealize.ShloMosaic.TcCoe Idealize.SL.Sem
open Cert.TailReferenceIdeal.Read
open scoped BigOperators

/-- The rows the reference normalizes: row `16 s` of the argument. -/
theorem row_apply (x : Vec Ideal Cert.TailReferenceIdeal.S128x2048 .f32) (s : Fin 8) (z : Fin 1) (k : Fin 2048) (r : Fin 128) (hr : r.val = 16 * s.val) :
    (val_main_v1 (F := Ideal) x : Cert.TailReferenceIdeal.S8x1x2048.Idx → EReal) (ix3 s z k) = x (ix2 r k) := by
  pointwise [val_main_v1, val_main_v0]
  exact congrArg (fun r => x (ix2 r k)) (Fin.ext (by simp only []; omega))

/-- The reference's result at an index. -/
theorem ref_apply (x : Vec Ideal Cert.TailReferenceIdeal.S128x2048 .f32) (g : Vec Ideal Cert.TailReferenceIdeal.S2048 .f32)
    (s : Fin 8) (z : Fin 1) (k : Fin 2048) :
    (val_main_v14 (F := Ideal) x g : Cert.TailReferenceIdeal.S8x1x2048.Idx → EReal) (ix3 s z k)
      = Cert.TailKernelIdeal.Block.rowAt x g ⟨16 * s.val, by omega⟩ k := by
  pointwise [val_main_v14, val_main_v13, val_main_v12, val_main_v11, val_main_v10, val_main_v9, val_main_v8, val_main_v7, val_main_v6, val_main_v5, val_main_v4, val_main_v3, val_main_v2, val_main_cst, val_main_cst_0, val_main_cst_1]
  simp only [row_apply x s _ _ ⟨16 * s.val, by omega⟩ rfl]
  rfl

/-- The reference's frame: its run leaves the arguments, and it declares no semaphore. -/
theorem frame_ref : Cert.quiescent_TailReferenceIdeal := fun m ρ _ =>
  (θ_run Cert.TailReferenceIdeal.defs _ _).mono (fun r h => ⟨fun c => (h c).2, sem_eq_zero_of_no_sems rfl _⟩)
    (Cert.TailReferenceIdeal.Value.run (F := Ideal) m ρ)

/-- Over the extended reals the kernel computes the reference's function. -/
theorem algebraic : Cert.algebraic_TailKernelIdeal_TailReferenceIdeal := by
  intro m ρ m' ρ' _ hagree
  refine ⟨fun c => Cert.TailKernelIdeal.Block.firstOf m c, ?_, ?_⟩
  · exact (θ_run Cert.TailKernelIdeal.defs _ _).mono
      (fun _ h c => ⟨((h.1 c).2 Cert.TailKernelIdeal.main_v3 (Pipeline.mem_restRefs_of Cert.TailKernelIdeal.main_v3 (by decide) (by decide))).trans
        (Cert.TailKernelIdeal.Block.ends m c), h.2 c⟩)
      (θ_run_and (Cert.TailKernelIdeal.Gen.run_main (F := Ideal) m ρ) (Cert.TailKernelIdeal.Gen.unchanged (F := Ideal) m ρ))
  refine (θ_run Cert.TailReferenceIdeal.defs _ _).mono (fun _ h c => ⟨(h c).1.trans ?_, (h c).2⟩)
    (Cert.TailReferenceIdeal.Value.run (F := Ideal) m' ρ')
  rw [(hagree c).1, (hagree c).2]
  rw [Cert.TailReferenceIdeal.Read.val_main_v14_eq]
  funext (i : Cert.TailReferenceIdeal.S8x1x2048.Idx)
  obtain ⟨r, z, k, rfl⟩ : ∃ (r : Fin 8) (z : Fin 1) (k : Fin 2048), i = ix3 r z k := ⟨i 0, i 1, i 2, eq_ix3 i⟩
  exact ref_apply _ _ r z k

end Cert.Proof.Tail

end
-- ==== Proof.SsdLine.lean ====
/-
  The reference's straight lines of host operations, before and after its loop, read one operation at a time:
  each buffer's contents as a function of the buffers it is computed from.
-/
module

public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Line

open Cert.ReferenceIdeal Cert.ReferenceIdeal.Gen Cert.ReferenceIdeal.Value Idealize.ShloMosaic Idealize.ShloMosaic.TcCoe Idealize.ShloMosaic.StableHlo

/-- The buffers the operations before the loop write, in order. -/
def preW : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_call0_v0, main_call0_v1, main_call0_cst, main_call0_v2, main_call0_v3, main_call0_cst_0, main_call0_v4, main_call0_v5, main_v36, main_v37, main_v38, main_v39, main_v40, main_v41, main_v42, main_v43, main_v44, main_v45, main_call1_cst, main_call1_v0, main_call1_v1, main_call1_v2, main_call1_v3, main_call1_v4, main_call1_v5, main_call1_v6, main_call1_v7, main_call1_v8, main_call1_v9, main_call1_v10, main_call1_v11, main_v46, main_v47, main_c, main_v48, main_v49, main_v50, main_cst, main_call2_v0, main_call2_v1, main_call2_v2, main_v51, main_v52, main_v53, main_v54, main_v55, main_v56, main_v57, main_v58, main_v59, main_v60, main_v61, main_call3_call0_cst, main_call3_call0_v0, main_v62, main_c_0, main_v63, main_call4_v0, main_call4_c, main_call4_v1, main_call4_v2, main_call4_v3, main_call4_v4, main_call4_c_0, main_call4_v5, main_v64, main_v65, main_v66, main_v67, main_v68, main_v69, main_v70, main_cst_1, main_call5_v0, main_call5_v1, main_call5_v2, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_cst_2, main_v98, main_c_3, main_v99_0, main_v99_1, main_v99_2, main_v99_3, main_v99_4]

/-- The buffers the operations after the loop write, in order. -/
def postW : List (Ref sig .tc) := [main_v100, main_v101, main_v102, main_v103, main_v104, main_v105, main_v106, main_v107, main_v108, main_v109, main_v110, main_v111, main_v112, main_v113, main_v114, main_call9_v0, main_call9_v1, main_call9_cst, main_call9_v2, main_call9_v3, main_call9_cst_0, main_call9_v4, main_call9_v5, main_v115, main_v116, main_v117, main_cst_4, main_v118, main_v119, main_cst_5, main_v120, main_v121, main_cst_6, main_v122, main_v123, main_v124, main_v125, main_v126, main_v127, main_v128, main_v129, main_v130, main_v131, main_v132]

/-- The operations before the loop, as one line. -/
abbrev preOps : List (HloOp τ sig (Elt Ideal)) := (preI (F := Ideal)).flatten

/-- The operations after the loop, as one line. -/
abbrev postOps : List (HloOp τ sig (Elt Ideal)) := (postI (F := Ideal)).flatten

theorem preOps_writes : preOps.map HloOp.writes = preW.map fun w => {Proc.devRef (τ := τ) .tc w} := rfl

theorem postOps_writes : postOps.map HloOp.writes = postW.map fun w => {Proc.devRef (τ := τ) .tc w} := rfl

/-- A line read at the buffer its `i`-th operation writes last: what that operation leaves there. -/
theorem read_line {ops : List (HloOp τ sig (Elt Ideal))} {W : List (Ref sig .tc)}
    (hW : ops.map HloOp.writes = W.map fun w => {Proc.devRef (τ := τ) .tc w}) (V : Valuation τ sig (Elt Ideal))
    (i : ℕ) {op : HloOp τ sig (Elt Ideal)} (h : ops[i]? = some op) (r : Ref sig .tc) (hr : r ∉ W.drop (i + 1)) :
    after ops V (Proc.devRef .tc r) = op.result (upto ops V i) (Proc.devRef .tc r) := by
  obtain ⟨hi, rfl⟩ := List.getElem?_eq_some_iff.mp h
  exact after_last_write (W.drop (i + 1)) (List.drop_eq_getElem_cons hi) (by rw [List.map_drop, hW, List.map_drop]) hr V

/-- A buffer that no operation from the `i`-th on writes holds before the `i`-th what it holds at the line's end. -/
theorem keep_line {ops : List (HloOp τ sig (Elt Ideal))} {W : List (Ref sig .tc)}
    (hW : ops.map HloOp.writes = W.map fun w => {Proc.devRef (τ := τ) .tc w}) (V : Valuation τ sig (Elt Ideal))
    (i : ℕ) (r : Ref sig .tc) (hr : r ∉ W.drop i) :
    upto ops V i (Proc.devRef .tc r) = after ops V (Proc.devRef .tc r) := by
  have h := after_append (ops.take i) (ops.drop i) V
  rw [List.take_append_drop] at h
  rw [h, after_unwritten (W.drop i) (by rw [List.map_drop, hW, List.map_drop]) hr]
  rfl

variable (m : (ℓ : Loc nD τ sig) → Buf (Elt Ideal) ℓ) (c : Dev nD)

/-- The contents at the loop's entry. -/
def E : Valuation τ sig (Elt Ideal) := after preOps (launchContents m c)

theorem entry_eq : entryContents (preI (F := Ideal)) m c = E m c := afterL_eq_after_flatten _ _

/-- The contents at the loop's end. -/
def X : Valuation τ sig (Elt Ideal) := after condOps (atK m 33 c)

/-- The contents at the program's end. -/
def Z : Valuation τ sig (Elt Ideal) := after postOps (X m c)

theorem final_eq : finalContents condOps (preI (F := Ideal)) bodyI postI 33 m c = Z m c := afterL_eq_after_flatten _ _

theorem read_pre (i : ℕ) {op : HloOp τ sig (Elt Ideal)} (h : preOps[i]? = some op) (r : Ref sig .tc)
    (hr : r ∉ preW.drop (i + 1)) :
    E m c (Proc.devRef .tc r) = op.result (upto preOps (launchContents m c) i) (Proc.devRef .tc r) :=
  read_line preOps_writes _ i h r hr

theorem keep_pre (i : ℕ) (r : Ref sig .tc) (hr : r ∉ preW.drop i) :
    upto preOps (launchContents m c) i (Proc.devRef .tc r) = E m c (Proc.devRef .tc r) :=
  keep_line preOps_writes _ i r hr

theorem read_post (i : ℕ) {op : HloOp τ sig (Elt Ideal)} (h : postOps[i]? = some op) (r : Ref sig .tc)
    (hr : r ∉ postW.drop (i + 1)) :
    Z m c (Proc.devRef .tc r) = op.result (upto postOps (X m c) i) (Proc.devRef .tc r) :=
  read_line postOps_writes _ i h r hr

theorem keep_post (i : ℕ) (r : Ref sig .tc) (hr : r ∉ postW.drop i) :
    upto postOps (X m c) i (Proc.devRef .tc r) = Z m c (Proc.devRef .tc r) :=
  keep_line postOps_writes _ i r hr

/-- The buffers the loop writes. -/
def loopW : List (Ref sig .tc) := condOps_W ++ while0Ops0_W ++ while0Ops0_1_W ++ while0Ops0_2_W ++ while0Ops0_3_W ++ while0Ops0_4_W

/-- A buffer the loop does not write holds at any trip what it held at the loop's entry. -/
theorem atK_keep (r : Ref sig .tc) (hr : r ∉ loopW) : ∀ k, atK m k c (Proc.devRef .tc r) = E m c (Proc.devRef .tc r)
  | 0 => by rw [← entry_eq]; rfl
  | k + 1 => by
    have hr' := hr
    simp only [loopW, List.mem_append, not_or] at hr
    rw [show atK m (k + 1) c = afterL bodyI (after condOps (atK m k c)) from rfl]
    simp only [afterL_cons, afterL_nil]
    rw [after_of_writes_sub while0Ops0_4 _ while0Ops0_4_writes hr.2,
      after_of_writes_sub while0Ops0_3 _ while0Ops0_3_writes hr.1.2,
      after_of_writes_sub while0Ops0_2 _ while0Ops0_2_writes hr.1.1.2,
      after_of_writes_sub while0Ops0_1 _ while0Ops0_1_writes hr.1.1.1.2,
      after_of_writes_sub while0Ops0 _ while0Ops0_writes hr.1.1.1.1.2,
      after_of_writes_sub condOps _ condOps_writes hr.1.1.1.1.1, atK_keep r hr' k]

/-- A buffer neither the loop nor the later operations write ends at what it held at the loop's entry. -/
theorem final_keep (r : Ref sig .tc) (h : r ∉ postW) (hr : r ∉ loopW) : Z m c (Proc.devRef .tc r) = E m c (Proc.devRef .tc r) := by
  refine (after_unwritten postW postOps_writes h (X m c)).trans ?_
  unfold X
  rw [after_of_writes_sub condOps _ condOps_writes (fun h' => hr (by simp only [loopW, List.mem_append]; tauto)), atK_keep m c r hr]

def e_arg0 : FVec Ideal S8448x13312 .f32 := E m c (Proc.devRef .tc main_arg0)
def e_arg1 : FVec Ideal S2x8x1536 .f32 := E m c (Proc.devRef .tc main_arg1)
def e_arg2 : FVec Ideal S2x1024x128 .f32 := E m c (Proc.devRef .tc main_arg2)
def e_arg3 : FVec Ideal S4x1536 .f32 := E m c (Proc.devRef .tc main_arg3)
def e_arg4 : FVec Ideal S1536 .f32 := E m c (Proc.devRef .tc main_arg4)
def e_arg5 : FVec Ideal S16 .f32 := E m c (Proc.devRef .tc main_arg5)
def e_arg6 : FVec Ideal S16 .f32 := E m c (Proc.devRef .tc main_arg6)
def e_arg7 : FVec Ideal S16 .f32 := E m c (Proc.devRef .tc main_arg7)
def e_arg8 : FVec Ideal S1024 .f32 := E m c (Proc.devRef .tc main_arg8)
def e_v0 : FVec Ideal S2x4224x13312 .f32 := E m c (Proc.devRef .tc main_v0)
def e_v1 : FVec Ideal S2x4224x1536 .f32 := E m c (Proc.devRef .tc main_v1)
def e_v2 : FVec Ideal S2x4224x16 .f32 := E m c (Proc.devRef .tc main_v2)
def e_v3 : FVec Ideal S2x4224x1024 .f32 := E m c (Proc.devRef .tc main_v3)
def e_v4 : FVec Ideal S2x3x1536 .f32 := E m c (Proc.devRef .tc main_v4)
def e_v5 : FVec Ideal S2x4227x1536 .f32 := E m c (Proc.devRef .tc main_v5)
def e_v6 : FVec Ideal S2x4224x1536 .f32 := E m c (Proc.devRef .tc main_v6)
def e_v7 : FVec Ideal S1x1536 .f32 := E m c (Proc.devRef .tc main_v7)
def e_v8 : FVec Ideal S1536 .f32 := E m c (Proc.devRef .tc main_v8)
def e_v9 : FVec Ideal S1x1x1536 .f32 := E m c (Proc.devRef .tc main_v9)
def e_v10 : FVec Ideal S2x4224x1536 .f32 := E m c (Proc.devRef .tc main_v10)
def e_v11 : FVec Ideal S2x4224x1536 .f32 := E m c (Proc.devRef .tc main_v11)
def e_v12 : FVec Ideal S1x1x1536 .f32 := E m c (Proc.devRef .tc main_v12)
def e_v13 : FVec Ideal S2x4224x1536 .f32 := E m c (Proc.devRef .tc main_v13)
def e_v14 : FVec Ideal S2x4224x1536 .f32 := E m c (Proc.devRef .tc main_v14)
def e_v15 : FVec Ideal S2x4224x1536 .f32 := E m c (Proc.devRef .tc main_v15)
def e_v16 : FVec Ideal S1x1536 .f32 := E m c (Proc.devRef .tc main_v16)
def e_v17 : FVec Ideal S1536 .f32 := E m c (Proc.devRef .tc main_v17)
def e_v18 : FVec Ideal S1x1x1536 .f32 := E m c (Proc.devRef .tc main_v18)
def e_v19 : FVec Ideal S2x4224x1536 .f32 := E m c (Proc.devRef .tc main_v19)
def e_v20 : FVec Ideal S2x4224x1536 .f32 := E m c (Proc.devRef .tc main_v20)
def e_v21 : FVec Ideal S2x4224x1536 .f32 := E m c (Proc.devRef .tc main_v21)
def e_v22 : FVec Ideal S2x4224x1536 .f32 := E m c (Proc.devRef .tc main_v22)
def e_v23 : FVec Ideal S1x1536 .f32 := E m c (Proc.devRef .tc main_v23)
def e_v24 : FVec Ideal S1536 .f32 := E m c (Proc.devRef .tc main_v24)
def e_v25 : FVec Ideal S1x1x1536 .f32 := E m c (Proc.devRef .tc main_v25)
def e_v26 : FVec Ideal S2x4224x1536 .f32 := E m c (Proc.devRef .tc main_v26)
def e_v27 : FVec Ideal S2x4224x1536 .f32 := E m c (Proc.devRef .tc main_v27)
def e_v28 : FVec Ideal S2x4224x1536 .f32 := E m c (Proc.devRef .tc main_v28)
def e_v29 : FVec Ideal S2x4224x1536 .f32 := E m c (Proc.devRef .tc main_v29)
def e_v30 : FVec Ideal S1x1536 .f32 := E m c (Proc.devRef .tc main_v30)
def e_v31 : FVec Ideal S1536 .f32 := E m c (Proc.devRef .tc main_v31)
def e_v32 : FVec Ideal S1x1x1536 .f32 := E m c (Proc.devRef .tc main_v32)
def e_v33 : FVec Ideal S2x4224x1536 .f32 := E m c (Proc.devRef .tc main_v33)
def e_v34 : FVec Ideal S2x4224x1536 .f32 := E m c (Proc.devRef .tc main_v34)
def e_v35 : FVec Ideal S2x4224x1536 .f32 := E m c (Proc.devRef .tc main_v35)
def e_call0_v0 : FVec Ideal S2x4224x1536 .f32 := E m c (Proc.devRef .tc main_call0_v0)
def e_call0_v1 : FVec Ideal S2x4224x1536 .f32 := E m c (Proc.devRef .tc main_call0_v1)
def e_call0_cst : FVec Ideal S_ .f32 := E m c (Proc.devRef .tc main_call0_cst)
def e_call0_v2 : FVec Ideal S2x4224x1536 .f32 := E m c (Proc.devRef .tc main_call0_v2)
def e_call0_v3 : FVec Ideal S2x4224x1536 .f32 := E m c (Proc.devRef .tc main_call0_v3)
def e_call0_cst_0 : FVec Ideal S_ .f32 := E m c (Proc.devRef .tc main_call0_cst_0)
def e_call0_v4 : FVec Ideal S2x4224x1536 .f32 := E m c (Proc.devRef .tc main_call0_v4)
def e_call0_v5 : FVec Ideal S2x4224x1536 .f32 := E m c (Proc.devRef .tc main_call0_v5)
def e_v36 : FVec Ideal S2x4224x1536 .f32 := E m c (Proc.devRef .tc main_v36)
def e_v37 : FVec Ideal S2x4224x1024 .f32 := E m c (Proc.devRef .tc main_v37)
def e_v38 : FVec Ideal S2x4224x16x64 .f32 := E m c (Proc.devRef .tc main_v38)
def e_v39 : FVec Ideal S2x4224x256 .f32 := E m c (Proc.devRef .tc main_v39)
def e_v40 : FVec Ideal S2x4224x2x128 .f32 := E m c (Proc.devRef .tc main_v40)
def e_v41 : FVec Ideal S2x4224x256 .f32 := E m c (Proc.devRef .tc main_v41)
def e_v42 : FVec Ideal S2x4224x2x128 .f32 := E m c (Proc.devRef .tc main_v42)
def e_v43 : FVec Ideal S1x1x16 .f32 := E m c (Proc.devRef .tc main_v43)
def e_v44 : FVec Ideal S2x4224x16 .f32 := E m c (Proc.devRef .tc main_v44)
def e_v45 : FVec Ideal S2x4224x16 .f32 := E m c (Proc.devRef .tc main_v45)
def e_call1_cst : FVec Ideal S_ .f32 := E m c (Proc.devRef .tc main_call1_cst)
def e_call1_v0 : FVec Ideal S2x4224x16 .f32 := E m c (Proc.devRef .tc main_call1_v0)
def e_call1_v1 : FVec Ideal S2x4224x16 .f32 := E m c (Proc.devRef .tc main_call1_v1)
def e_call1_v2 : FVec Ideal S2x4224x16 .f32 := E m c (Proc.devRef .tc main_call1_v2)
def e_call1_v3 : FVec Ideal S2x4224x16 .f32 := E m c (Proc.devRef .tc main_call1_v3)
def e_call1_v4 : (⟨S2x4224x16, .i1⟩ : BufTy).Contents (Elt Ideal) := E m c (Proc.devRef .tc main_call1_v4)
def e_call1_v5 : FVec Ideal S2x4224x16 .f32 := E m c (Proc.devRef .tc main_call1_v5)
def e_call1_v6 : FVec Ideal S2x4224x16 .f32 := E m c (Proc.devRef .tc main_call1_v6)
def e_call1_v7 : FVec Ideal S2x4224x16 .f32 := E m c (Proc.devRef .tc main_call1_v7)
def e_call1_v8 : FVec Ideal S2x4224x16 .f32 := E m c (Proc.devRef .tc main_call1_v8)
def e_call1_v9 : FVec Ideal S2x4224x16 .f32 := E m c (Proc.devRef .tc main_call1_v9)
def e_call1_v10 : FVec Ideal S2x4224x16 .f32 := E m c (Proc.devRef .tc main_call1_v10)
def e_call1_v11 : FVec Ideal S2x4224x16 .f32 := E m c (Proc.devRef .tc main_call1_v11)
def e_v46 : FVec Ideal S2x4224x16 .f32 := E m c (Proc.devRef .tc main_v46)
def e_v47 : (⟨S4224, .i32⟩ : BufTy).Contents (Elt Ideal) := E m c (Proc.devRef .tc main_v47)
def e_c : (⟨S_, .i32⟩ : BufTy).Contents (Elt Ideal) := E m c (Proc.devRef .tc main_c)
def e_v48 : (⟨S4224, .i32⟩ : BufTy).Contents (Elt Ideal) := E m c (Proc.devRef .tc main_v48)
def e_v49 : (⟨S4224, .i1⟩ : BufTy).Contents (Elt Ideal) := E m c (Proc.devRef .tc main_v49)
def e_v50 : (⟨S1x4224x1, .i1⟩ : BufTy).Contents (Elt Ideal) := E m c (Proc.devRef .tc main_v50)
def e_cst : FVec Ideal S_ .f32 := E m c (Proc.devRef .tc main_cst)
def e_call2_v0 : FVec Ideal S_ .f32 := E m c (Proc.devRef .tc main_call2_v0)
def e_call2_v1 : (⟨S2x4224x16, .i1⟩ : BufTy).Contents (Elt Ideal) := E m c (Proc.devRef .tc main_call2_v1)
def e_call2_v2 : FVec Ideal S2x4224x16 .f32 := E m c (Proc.devRef .tc main_call2_v2)
def e_v51 : FVec Ideal S2x4224x16 .f32 := E m c (Proc.devRef .tc main_v51)
def e_v52 : FVec Ideal S16 .f32 := E m c (Proc.devRef .tc main_v52)
def e_v53 : FVec Ideal S16 .f32 := E m c (Proc.devRef .tc main_v53)
def e_v54 : FVec Ideal S2x33x128x2x8x64 .f32 := E m c (Proc.devRef .tc main_v54)
def e_v55 : FVec Ideal S2x33x128x2x8 .f32 := E m c (Proc.devRef .tc main_v55)
def e_v56 : FVec Ideal S2x33x128x2x128 .f32 := E m c (Proc.devRef .tc main_v56)
def e_v57 : FVec Ideal S2x33x128x2x128 .f32 := E m c (Proc.devRef .tc main_v57)
def e_v58 : FVec Ideal S2x8 .f32 := E m c (Proc.devRef .tc main_v58)
def e_v59 : FVec Ideal S1x1x1x2x8 .f32 := E m c (Proc.devRef .tc main_v59)
def e_v60 : FVec Ideal S2x33x128x2x8 .f32 := E m c (Proc.devRef .tc main_v60)
def e_v61 : FVec Ideal S2x33x128x2x8 .f32 := E m c (Proc.devRef .tc main_v61)
def e_call3_call0_cst : FVec Ideal S_ .f32 := E m c (Proc.devRef .tc main_call3_call0_cst)
def e_call3_call0_v0 : FVec Ideal S_ .f32 := E m c (Proc.devRef .tc main_call3_call0_v0)
def e_v62 : FVec Ideal S2x33x128x2x8 .f32 := E m c (Proc.devRef .tc main_v62)
def e_c_0 : (⟨S_, .i1⟩ : BufTy).Contents (Elt Ideal) := E m c (Proc.devRef .tc main_c_0)
def e_v63 : (⟨S128x128, .i1⟩ : BufTy).Contents (Elt Ideal) := E m c (Proc.devRef .tc main_v63)
def e_call4_v0 : (⟨S128x128, .i32⟩ : BufTy).Contents (Elt Ideal) := E m c (Proc.devRef .tc main_call4_v0)
def e_call4_c : (⟨S_, .i32⟩ : BufTy).Contents (Elt Ideal) := E m c (Proc.devRef .tc main_call4_c)
def e_call4_v1 : (⟨S128x128, .i32⟩ : BufTy).Contents (Elt Ideal) := E m c (Proc.devRef .tc main_call4_v1)
def e_call4_v2 : (⟨S128x128, .i32⟩ : BufTy).Contents (Elt Ideal) := E m c (Proc.devRef .tc main_call4_v2)
def e_call4_v3 : (⟨S128x128, .i32⟩ : BufTy).Contents (Elt Ideal) := E m c (Proc.devRef .tc main_call4_v3)
def e_call4_v4 : (⟨S128x128, .i1⟩ : BufTy).Contents (Elt Ideal) := E m c (Proc.devRef .tc main_call4_v4)
def e_call4_c_0 : (⟨S_, .i1⟩ : BufTy).Contents (Elt Ideal) := E m c (Proc.devRef .tc main_call4_c_0)
def e_call4_v5 : (⟨S128x128, .i1⟩ : BufTy).Contents (Elt Ideal) := E m c (Proc.devRef .tc main_call4_v5)
def e_v64 : (⟨S128x128, .i1⟩ : BufTy).Contents (Elt Ideal) := E m c (Proc.devRef .tc main_v64)
def e_v65 : (⟨S1x1x128x128x1x1, .i1⟩ : BufTy).Contents (Elt Ideal) := E m c (Proc.devRef .tc main_v65)
def e_v66 : FVec Ideal S2x33x128x1x2x8 .f32 := E m c (Proc.devRef .tc main_v66)
def e_v67 : FVec Ideal S2x33x1x128x2x8 .f32 := E m c (Proc.devRef .tc main_v67)
def e_v68 : FVec Ideal S2x33x128x128x2x8 .f32 := E m c (Proc.devRef .tc main_v68)
def e_v69 : FVec Ideal S2x33x128x128x2x8 .f32 := E m c (Proc.devRef .tc main_v69)
def e_v70 : FVec Ideal S2x33x128x128x2x8 .f32 := E m c (Proc.devRef .tc main_v70)
def e_cst_1 : FVec Ideal S_ .f32 := E m c (Proc.devRef .tc main_cst_1)
def e_call5_v0 : FVec Ideal S_ .f32 := E m c (Proc.devRef .tc main_call5_v0)
def e_call5_v1 : (⟨S2x33x128x128x2x8, .i1⟩ : BufTy).Contents (Elt Ideal) := E m c (Proc.devRef .tc main_call5_v1)
def e_call5_v2 : FVec Ideal S2x33x128x128x2x8 .f32 := E m c (Proc.devRef .tc main_call5_v2)
def e_v71 : FVec Ideal S2x33x128x128x2x8 .f32 := E m c (Proc.devRef .tc main_v71)
def e_v72 : FVec Ideal S2x33x128x128x2x8 .f32 := E m c (Proc.devRef .tc main_v72)
def e_v73 : FVec Ideal S2x33x2x128x128 .f32 := E m c (Proc.devRef .tc main_v73)
def e_v74 : FVec Ideal S2x33x128x128x2 .f32 := E m c (Proc.devRef .tc main_v74)
def e_v75 : FVec Ideal S2x33x128x128x2x1 .f32 := E m c (Proc.devRef .tc main_v75)
def e_v76 : FVec Ideal S2x33x128x128x2x8 .f32 := E m c (Proc.devRef .tc main_v76)
def e_v77 : FVec Ideal S2x33x128x128x2x8 .f32 := E m c (Proc.devRef .tc main_v77)
def e_v78 : FVec Ideal S2x33x1x128x2x8 .f32 := E m c (Proc.devRef .tc main_v78)
def e_v79 : FVec Ideal S2x33x128x128x2x8 .f32 := E m c (Proc.devRef .tc main_v79)
def e_v80 : FVec Ideal S2x33x128x128x2x8 .f32 := E m c (Proc.devRef .tc main_v80)
def e_v81 : FVec Ideal S2x33x2x8x64x128 .f32 := E m c (Proc.devRef .tc main_v81)
def e_v82 : FVec Ideal S2x33x128x2x8x64 .f32 := E m c (Proc.devRef .tc main_v82)
def e_v83 : FVec Ideal S2x33x1x2x8 .f32 := E m c (Proc.devRef .tc main_v83)
def e_v84 : FVec Ideal S2x33x128x2x8 .f32 := E m c (Proc.devRef .tc main_v84)
def e_v85 : FVec Ideal S2x33x128x2x8 .f32 := E m c (Proc.devRef .tc main_v85)
def e_v86 : FVec Ideal S2x33x128x2x8 .f32 := E m c (Proc.devRef .tc main_v86)
def e_v87 : FVec Ideal S2x33x128x2x8 .f32 := E m c (Proc.devRef .tc main_v87)
def e_v88 : FVec Ideal S2x33x128x2x8x1 .f32 := E m c (Proc.devRef .tc main_v88)
def e_v89 : FVec Ideal S2x33x128x2x8x64 .f32 := E m c (Proc.devRef .tc main_v89)
def e_v90 : FVec Ideal S2x33x128x2x8x64 .f32 := E m c (Proc.devRef .tc main_v90)
def e_v91 : FVec Ideal S2x33x2x8x64x128 .f32 := E m c (Proc.devRef .tc main_v91)
def e_v92 : FVec Ideal S2x33x1x2x8 .f32 := E m c (Proc.devRef .tc main_v92)
def e_v93 : FVec Ideal S2x33x2x8 .f32 := E m c (Proc.devRef .tc main_v93)
def e_v94 : FVec Ideal S2x33x2x8 .f32 := E m c (Proc.devRef .tc main_v94)
def e_v95 : FVec Ideal S2x2x8x64x128 .f32 := E m c (Proc.devRef .tc main_v95)
def e_v96 : FVec Ideal S33x2x2x8 .f32 := E m c (Proc.devRef .tc main_v96)
def e_v97 : FVec Ideal S33x2x2x8x64x128 .f32 := E m c (Proc.devRef .tc main_v97)
def e_cst_2 : FVec Ideal S_ .f32 := E m c (Proc.devRef .tc main_cst_2)
def e_v98 : FVec Ideal S33x2x2x8x64x128 .f32 := E m c (Proc.devRef .tc main_v98)
def e_c_3 : (⟨S_, .i32⟩ : BufTy).Contents (Elt Ideal) := E m c (Proc.devRef .tc main_c_3)
def e_v99_0 : FVec Ideal S33x2x2x8 .f32 := E m c (Proc.devRef .tc main_v99_0)
def e_v99_1 : FVec Ideal S33x2x2x8x64x128 .f32 := E m c (Proc.devRef .tc main_v99_1)
def e_v99_2 : (⟨S_, .i32⟩ : BufTy).Contents (Elt Ideal) := E m c (Proc.devRef .tc main_v99_2)
def e_v99_3 : FVec Ideal S2x2x8x64x128 .f32 := E m c (Proc.devRef .tc main_v99_3)
def e_v99_4 : FVec Ideal S33x2x2x8x64x128 .f32 := E m c (Proc.devRef .tc main_v99_4)

def z_arg7 : FVec Ideal S16 .f32 := Z m c (Proc.devRef .tc main_arg7)
def z_arg8 : FVec Ideal S1024 .f32 := Z m c (Proc.devRef .tc main_arg8)
def z_v3 : FVec Ideal S2x4224x1024 .f32 := Z m c (Proc.devRef .tc main_v3)
def z_v38 : FVec Ideal S2x4224x16x64 .f32 := Z m c (Proc.devRef .tc main_v38)
def z_v57 : FVec Ideal S2x33x128x2x128 .f32 := Z m c (Proc.devRef .tc main_v57)
def z_v62 : FVec Ideal S2x33x128x2x8 .f32 := Z m c (Proc.devRef .tc main_v62)
def z_v82 : FVec Ideal S2x33x128x2x8x64 .f32 := Z m c (Proc.devRef .tc main_v82)
def z_v99_3 : FVec Ideal S2x2x8x64x128 .f32 := Z m c (Proc.devRef .tc main_v99_3)
def z_v99_4 : FVec Ideal S33x2x2x8x64x128 .f32 := Z m c (Proc.devRef .tc main_v99_4)
def z_v100 : FVec Ideal S2x33x2x8x64x128 .f32 := Z m c (Proc.devRef .tc main_v100)
def z_v101 : FVec Ideal S2x33x128x2x8x64 .f32 := Z m c (Proc.devRef .tc main_v101)
def z_v102 : FVec Ideal S2x33x128x2x8 .f32 := Z m c (Proc.devRef .tc main_v102)
def z_v103 : FVec Ideal S2x33x128x2x8x1 .f32 := Z m c (Proc.devRef .tc main_v103)
def z_v104 : FVec Ideal S2x33x128x2x8x64 .f32 := Z m c (Proc.devRef .tc main_v104)
def z_v105 : FVec Ideal S2x33x128x2x8x64 .f32 := Z m c (Proc.devRef .tc main_v105)
def z_v106 : FVec Ideal S2x33x128x2x8x64 .f32 := Z m c (Proc.devRef .tc main_v106)
def z_v107 : FVec Ideal S2x4224x16x64 .f32 := Z m c (Proc.devRef .tc main_v107)
def z_v108 : FVec Ideal S2x16x64x128 .f32 := Z m c (Proc.devRef .tc main_v108)
def z_v109 : FVec Ideal S16x1 .f32 := Z m c (Proc.devRef .tc main_v109)
def z_v110 : FVec Ideal S1x1x16x1 .f32 := Z m c (Proc.devRef .tc main_v110)
def z_v111 : FVec Ideal S2x4224x16x64 .f32 := Z m c (Proc.devRef .tc main_v111)
def z_v112 : FVec Ideal S2x4224x16x64 .f32 := Z m c (Proc.devRef .tc main_v112)
def z_v113 : FVec Ideal S2x4224x16x64 .f32 := Z m c (Proc.devRef .tc main_v113)
def z_v114 : FVec Ideal S2x4224x1024 .f32 := Z m c (Proc.devRef .tc main_v114)
def z_call9_v0 : FVec Ideal S2x4224x1024 .f32 := Z m c (Proc.devRef .tc main_call9_v0)
def z_call9_v1 : FVec Ideal S2x4224x1024 .f32 := Z m c (Proc.devRef .tc main_call9_v1)
def z_call9_cst : FVec Ideal S_ .f32 := Z m c (Proc.devRef .tc main_call9_cst)
def z_call9_v2 : FVec Ideal S2x4224x1024 .f32 := Z m c (Proc.devRef .tc main_call9_v2)
def z_call9_v3 : FVec Ideal S2x4224x1024 .f32 := Z m c (Proc.devRef .tc main_call9_v3)
def z_call9_cst_0 : FVec Ideal S_ .f32 := Z m c (Proc.devRef .tc main_call9_cst_0)
def z_call9_v4 : FVec Ideal S2x4224x1024 .f32 := Z m c (Proc.devRef .tc main_call9_v4)
def z_call9_v5 : FVec Ideal S2x4224x1024 .f32 := Z m c (Proc.devRef .tc main_call9_v5)
def z_v115 : FVec Ideal S2x4224x1024 .f32 := Z m c (Proc.devRef .tc main_v115)
def z_v116 : FVec Ideal S2x4224x1024 .f32 := Z m c (Proc.devRef .tc main_v116)
def z_v117 : FVec Ideal S2x4224x1024 .f32 := Z m c (Proc.devRef .tc main_v117)
def z_cst_4 : FVec Ideal S_ .f32 := Z m c (Proc.devRef .tc main_cst_4)
def z_v118 : FVec Ideal S2x4224 .f32 := Z m c (Proc.devRef .tc main_v118)
def z_v119 : FVec Ideal S2x4224x1 .f32 := Z m c (Proc.devRef .tc main_v119)
def z_cst_5 : FVec Ideal S_ .f32 := Z m c (Proc.devRef .tc main_cst_5)
def z_v120 : FVec Ideal S2x4224x1 .f32 := Z m c (Proc.devRef .tc main_v120)
def z_v121 : FVec Ideal S2x4224x1 .f32 := Z m c (Proc.devRef .tc main_v121)
def z_cst_6 : FVec Ideal S_ .f32 := Z m c (Proc.devRef .tc main_cst_6)
def z_v122 : FVec Ideal S2x4224x1 .f32 := Z m c (Proc.devRef .tc main_v122)
def z_v123 : FVec Ideal S2x4224x1 .f32 := Z m c (Proc.devRef .tc main_v123)
def z_v124 : FVec Ideal S2x4224x1 .f32 := Z m c (Proc.devRef .tc main_v124)
def z_v125 : FVec Ideal S2x4224x1024 .f32 := Z m c (Proc.devRef .tc main_v125)
def z_v126 : FVec Ideal S2x4224x1024 .f32 := Z m c (Proc.devRef .tc main_v126)
def z_v127 : FVec Ideal S1x1x1024 .f32 := Z m c (Proc.devRef .tc main_v127)
def z_v128 : FVec Ideal S2x4224x1024 .f32 := Z m c (Proc.devRef .tc main_v128)
def z_v129 : FVec Ideal S2x4224x1024 .f32 := Z m c (Proc.devRef .tc main_v129)
def z_v130 : FVec Ideal S8448x1024 .f32 := Z m c (Proc.devRef .tc main_v130)
def z_v131 : FVec Ideal S8448x1024 .bf16 := Z m c (Proc.devRef .tc main_v131)
def z_v132 : FVec Ideal S2x1024x128 .f32 := Z m c (Proc.devRef .tc main_v132)

theorem e_arg0_eq : e_arg0 m c = m ((c.tc : Thread nD τ).loc main_arg0) :=
  after_unwritten preW preOps_writes (by decide +kernel) (launchContents m c)

theorem e_arg1_eq : e_arg1 m c = m ((c.tc : Thread nD τ).loc main_arg1) :=
  after_unwritten preW preOps_writes (by decide +kernel) (launchContents m c)

theorem e_arg2_eq : e_arg2 m c = m ((c.tc : Thread nD τ).loc main_arg2) :=
  after_unwritten preW preOps_writes (by decide +kernel) (launchContents m c)

theorem e_arg3_eq : e_arg3 m c = m ((c.tc : Thread nD τ).loc main_arg3) :=
  after_unwritten preW preOps_writes (by decide +kernel) (launchContents m c)

theorem e_arg4_eq : e_arg4 m c = m ((c.tc : Thread nD τ).loc main_arg4) :=
  after_unwritten preW preOps_writes (by decide +kernel) (launchContents m c)

theorem e_arg5_eq : e_arg5 m c = m ((c.tc : Thread nD τ).loc main_arg5) :=
  after_unwritten preW preOps_writes (by decide +kernel) (launchContents m c)

theorem e_arg6_eq : e_arg6 m c = m ((c.tc : Thread nD τ).loc main_arg6) :=
  after_unwritten preW preOps_writes (by decide +kernel) (launchContents m c)

theorem e_arg7_eq : e_arg7 m c = m ((c.tc : Thread nD τ).loc main_arg7) :=
  after_unwritten preW preOps_writes (by decide +kernel) (launchContents m c)

theorem e_arg8_eq : e_arg8 m c = m ((c.tc : Thread nD τ).loc main_arg8) :=
  after_unwritten preW preOps_writes (by decide +kernel) (launchContents m c)

theorem final_arg0 : Z m c (Proc.devRef .tc main_arg0) = m ((c.tc : Thread nD τ).loc main_arg0) :=
  (final_keep m c main_arg0 (by decide +kernel) (by decide +kernel)).trans (e_arg0_eq m c)

theorem final_arg1 : Z m c (Proc.devRef .tc main_arg1) = m ((c.tc : Thread nD τ).loc main_arg1) :=
  (final_keep m c main_arg1 (by decide +kernel) (by decide +kernel)).trans (e_arg1_eq m c)

theorem final_arg2 : Z m c (Proc.devRef .tc main_arg2) = m ((c.tc : Thread nD τ).loc main_arg2) :=
  (final_keep m c main_arg2 (by decide +kernel) (by decide +kernel)).trans (e_arg2_eq m c)

theorem final_arg3 : Z m c (Proc.devRef .tc main_arg3) = m ((c.tc : Thread nD τ).loc main_arg3) :=
  (final_keep m c main_arg3 (by decide +kernel) (by decide +kernel)).trans (e_arg3_eq m c)

theorem final_arg4 : Z m c (Proc.devRef .tc main_arg4) = m ((c.tc : Thread nD τ).loc main_arg4) :=
  (final_keep m c main_arg4 (by decide +kernel) (by decide +kernel)).trans (e_arg4_eq m c)

theorem final_arg5 : Z m c (Proc.devRef .tc main_arg5) = m ((c.tc : Thread nD τ).loc main_arg5) :=
  (final_keep m c main_arg5 (by decide +kernel) (by decide +kernel)).trans (e_arg5_eq m c)

theorem final_arg6 : Z m c (Proc.devRef .tc main_arg6) = m ((c.tc : Thread nD τ).loc main_arg6) :=
  (final_keep m c main_arg6 (by decide +kernel) (by decide +kernel)).trans (e_arg6_eq m c)

theorem final_arg7 : Z m c (Proc.devRef .tc main_arg7) = m ((c.tc : Thread nD τ).loc main_arg7) :=
  (final_keep m c main_arg7 (by decide +kernel) (by decide +kernel)).trans (e_arg7_eq m c)

theorem final_arg8 : Z m c (Proc.devRef .tc main_arg8) = m ((c.tc : Thread nD τ).loc main_arg8) :=
  (final_keep m c main_arg8 (by decide +kernel) (by decide +kernel)).trans (e_arg8_eq m c)

theorem z_arg7_keep : z_arg7 m c = e_arg7 m c := final_keep m c main_arg7 (by decide +kernel) (by decide +kernel)

theorem z_arg8_keep : z_arg8 m c = e_arg8 m c := final_keep m c main_arg8 (by decide +kernel) (by decide +kernel)

theorem z_v3_keep : z_v3 m c = e_v3 m c := final_keep m c main_v3 (by decide +kernel) (by decide +kernel)

theorem z_v38_keep : z_v38 m c = e_v38 m c := final_keep m c main_v38 (by decide +kernel) (by decide +kernel)

theorem z_v57_keep : z_v57 m c = e_v57 m c := final_keep m c main_v57 (by decide +kernel) (by decide +kernel)

theorem z_v62_keep : z_v62 m c = e_v62 m c := final_keep m c main_v62 (by decide +kernel) (by decide +kernel)

theorem z_v82_keep : z_v82 m c = e_v82 m c := final_keep m c main_v82 (by decide +kernel) (by decide +kernel)

end Cert.ReferenceIdeal.Line

end
-- ==== Proof.SsdLineA.lean ====
/-
  The reference before its loop, one equation per operation.
-/
module

public import proofs.«01_k».proof.Proof.SsdLine

@[expose] public section

set_option maxRecDepth 16384

noncomputable section

namespace Cert.ReferenceIdeal.Line

open Cert.ReferenceIdeal Cert.ReferenceIdeal.Gen Cert.ReferenceIdeal.Value Idealize.ShloMosaic Idealize.ShloMosaic.TcCoe Idealize.ShloMosaic.StableHlo

variable (m : (ℓ : Loc nD τ sig) → Buf (Elt Ideal) ℓ) (c : Dev nD)

theorem e_v0_eq : e_v0 m c = shapeCast S2x4224x13312 (e_arg0 m c) shapeCasts_S8448x13312_S2x4224x13312 := by
  refine (read_pre m c 0 rfl main_v0 (by decide +kernel)).trans ?_
  rw [← show upto preOps (launchContents m c) 0 (Proc.devRef .tc main_arg0) = e_arg0 m c from keep_pre m c 0 main_arg0 (by decide +kernel)]
  rfl

theorem e_v1_eq : e_v1 m c = (extractStridedSlice S2x4224x1536 ![0, 0, 0] (e_v0 m c) slices_S2x4224x13312_S2x4224x1536_0_0_0) := by
  refine (read_pre m c 1 rfl main_v1 (by decide +kernel)).trans ?_
  rw [← show upto preOps (launchContents m c) 1 (Proc.devRef .tc main_v0) = e_v0 m c from keep_pre m c 1 main_v0 (by decide +kernel)]
  rfl

theorem e_v2_eq : e_v2 m c = (extractStridedSlice S2x4224x16 ![0, 0, 1536] (e_v0 m c) slices_S2x4224x13312_S2x4224x16_0_0_1536) := by
  refine (read_pre m c 2 rfl main_v2 (by decide +kernel)).trans ?_
  rw [← show upto preOps (launchContents m c) 2 (Proc.devRef .tc main_v0) = e_v0 m c from keep_pre m c 2 main_v0 (by decide +kernel)]
  rfl

theorem e_v3_eq : e_v3 m c = (extractStridedSlice S2x4224x1024 ![0, 0, 3072] (e_v0 m c) slices_S2x4224x13312_S2x4224x1024_0_0_3072) := by
  refine (read_pre m c 3 rfl main_v3 (by decide +kernel)).trans ?_
  rw [← show upto preOps (launchContents m c) 3 (Proc.devRef .tc main_v0) = e_v0 m c from keep_pre m c 3 main_v0 (by decide +kernel)]
  rfl

theorem e_v4_eq : e_v4 m c = (extractStridedSlice S2x3x1536 ![0, 5, 0] (e_arg1 m c) slices_S2x8x1536_S2x3x1536_0_5_0) := by
  refine (read_pre m c 4 rfl main_v4 (by decide +kernel)).trans ?_
  rw [← show upto preOps (launchContents m c) 4 (Proc.devRef .tc main_arg1) = e_arg1 m c from keep_pre m c 4 main_arg1 (by decide +kernel)]
  rfl

theorem e_v5_eq : e_v5 m c = concatenate S2x4227x1536 1 [⟨S2x3x1536, (e_v4 m c)⟩, ⟨S2x4224x1536, (e_v1 m c)⟩] concatenates_S2x3x1536_S2x4224x1536_S2x4227x1536_d1 := by
  refine (read_pre m c 5 rfl main_v5 (by decide +kernel)).trans ?_
  rw [← show upto preOps (launchContents m c) 5 (Proc.devRef .tc main_v4) = e_v4 m c from keep_pre m c 5 main_v4 (by decide +kernel), ← show upto preOps (launchContents m c) 5 (Proc.devRef .tc main_v1) = e_v1 m c from keep_pre m c 5 main_v1 (by decide +kernel)]
  rfl

theorem e_v6_eq : e_v6 m c = (extractStridedSlice S2x4224x1536 ![0, 0, 0] (e_v5 m c) slices_S2x4227x1536_S2x4224x1536_0_0_0) := by
  refine (read_pre m c 6 rfl main_v6 (by decide +kernel)).trans ?_
  rw [← show upto preOps (launchContents m c) 6 (Proc.devRef .tc main_v5) = e_v5 m c from keep_pre m c 6 main_v5 (by decide +kernel)]
  rfl

theorem e_v7_eq : e_v7 m c = (extractStridedSlice S1x1536 ![0, 0] (e_arg3 m c) slices_S4x1536_S1x1536_0_0) := by
  refine (read_pre m c 7 rfl main_v7 (by decide +kernel)).trans ?_
  rw [← show upto preOps (launchContents m c) 7 (Proc.devRef .tc main_arg3) = e_arg3 m c from keep_pre m c 7 main_arg3 (by decide +kernel)]
  rfl

theorem e_v8_eq : e_v8 m c = shapeCast S1536 (e_v7 m c) shapeCasts_S1x1536_S1536 := by
  refine (read_pre m c 8 rfl main_v8 (by decide +kernel)).trans ?_
  rw [← show upto preOps (launchContents m c) 8 (Proc.devRef .tc main_v7) = e_v7 m c from keep_pre m c 8 main_v7 (by decide +kernel)]
  rfl

theorem e_v9_eq : e_v9 m c = broadcastInDim S1x1x1536 ![2] bcast_S1536_S1x1x1536_2 (e_v8 m c) := by
  refine (read_pre m c 9 rfl main_v9 (by decide +kernel)).trans ?_
  rw [← show upto preOps (launchContents m c) 9 (Proc.devRef .tc main_v8) = e_v8 m c from keep_pre m c 9 main_v8 (by decide +kernel)]
  rfl

theorem e_v10_eq : e_v10 m c = broadcastInDim S2x4224x1536 ![0, 1, 2] bcast_S1x1x1536_S2x4224x1536_0_1_2 (e_v9 m c) := by
  refine (read_pre m c 10 rfl main_v10 (by decide +kernel)).trans ?_
  rw [← show upto preOps (launchContents m c) 10 (Proc.devRef .tc main_v9) = e_v9 m c from keep_pre m c 10 main_v9 (by decide +kernel)]
  rfl

theorem e_v11_eq : e_v11 m c = mulf (e_v6 m c) (e_v10 m c) := by
  refine (read_pre m c 11 rfl main_v11 (by decide +kernel)).trans ?_
  rw [← show upto preOps (launchContents m c) 11 (Proc.devRef .tc main_v6) = e_v6 m c from keep_pre m c 11 main_v6 (by decide +kernel), ← show upto preOps (launchContents m c) 11 (Proc.devRef .tc main_v10) = e_v10 m c from keep_pre m c 11 main_v10 (by decide +kernel)]
  rfl

theorem e_v12_eq : e_v12 m c = broadcastInDim S1x1x1536 ![2] bcast_S1536_S1x1x1536_2 (e_arg4 m c) := by
  refine (read_pre m c 12 rfl main_v12 (by decide +kernel)).trans ?_
  rw [← show upto preOps (launchContents m c) 12 (Proc.devRef .tc main_arg4) = e_arg4 m c from keep_pre m c 12 main_arg4 (by decide +kernel)]
  rfl

theorem e_v13_eq : e_v13 m c = broadcastInDim S2x4224x1536 ![0, 1, 2] bcast_S1x1x1536_S2x4224x1536_0_1_2 (e_v12 m c) := by
  refine (read_pre m c 13 rfl main_v13 (by decide +kernel)).trans ?_
  rw [← show upto preOps (launchContents m c) 13 (Proc.devRef .tc main_v12) = e_v12 m c from keep_pre m c 13 main_v12 (by decide +kernel)]
  rfl

theorem e_v14_eq : e_v14 m c = addf (e_v13 m c) (e_v11 m c) := by
  refine (read_pre m c 14 rfl main_v14 (by decide +kernel)).trans ?_
  rw [← show upto preOps (launchContents m c) 14 (Proc.devRef .tc main_v13) = e_v13 m c from keep_pre m c 14 main_v13 (by decide +kernel), ← show upto preOps (launchContents m c) 14 (Proc.devRef .tc main_v11) = e_v11 m c from keep_pre m c 14 main_v11 (by decide +kernel)]
  rfl

theorem e_v15_eq : e_v15 m c = (extractStridedSlice S2x4224x1536 ![0, 1, 0] (e_v5 m c) slices_S2x4227x1536_S2x4224x1536_0_1_0) := by
  refine (read_pre m c 15 rfl main_v15 (by decide +kernel)).trans ?_
  rw [← show upto preOps (launchContents m c) 15 (Proc.devRef .tc main_v5) = e_v5 m c from keep_pre m c 15 main_v5 (by decide +kernel)]
  rfl

theorem e_v16_eq : e_v16 m c = (extractStridedSlice S1x1536 ![1, 0] (e_arg3 m c) slices_S4x1536_S1x1536_1_0) := by
  refine (read_pre m c 16 rfl main_v16 (by decide +kernel)).trans ?_
  rw [← show upto preOps (launchContents m c) 16 (Proc.devRef .tc main_arg3) = e_arg3 m c from keep_pre m c 16 main_arg3 (by decide +kernel)]
  rfl

theorem e_v17_eq : e_v17 m c = shapeCast S1536 (e_v16 m c) shapeCasts_S1x1536_S1536 := by
  refine (read_pre m c 17 rfl main_v17 (by decide +kernel)).trans ?_
  rw [← show upto preOps (launchContents m c) 17 (Proc.devRef .tc main_v16) = e_v16 m c from keep_pre m c 17 main_v16 (by decide +kernel)]
  rfl

theorem e_v18_eq : e_v18 m c = broadcastInDim S1x1x1536 ![2] bcast_S1536_S1x1x1536_2 (e_v17 m c) := by
  refine (read_pre m c 18 rfl main_v18 (by decide +kernel)).trans ?_
  rw [← show upto preOps (launchContents m c) 18 (Proc.devRef .tc main_v17) = e_v17 m c from keep_pre m c 18 main_v17 (by decide +kernel)]
  rfl

theorem e_v19_eq : e_v19 m c = broadcastInDim S2x4224x1536 ![0, 1, 2] bcast_S1x1x1536_S2x4224x1536_0_1_2 (e_v18 m c) := by
  refine (read_pre m c 19 rfl main_v19 (by decide +kernel)).trans ?_
  rw [← show upto preOps (launchContents m c) 19 (Proc.devRef .tc main_v18) = e_v18 m c from keep_pre m c 19 main_v18 (by decide +kernel)]
  rfl

theorem e_v20_eq : e_v20 m c = mulf (e_v15 m c) (e_v19 m c) := by
  refine (read_pre m c 20 rfl main_v20 (by decide +kernel)).trans ?_
  rw [← show upto preOps (launchContents m c) 20 (Proc.devRef .tc main_v15) = e_v15 m c from keep_pre m c 20 main_v15 (by decide +kernel), ← show upto preOps (launchContents m c) 20 (Proc.devRef .tc main_v19) = e_v19 m c from keep_pre m c 20 main_v19 (by decide +kernel)]
  rfl

theorem e_v21_eq : e_v21 m c = addf (e_v14 m c) (e_v20 m c) := by
  refine (read_pre m c 21 rfl main_v21 (by decide +kernel)).trans ?_
  rw [← show upto preOps (launchContents m c) 21 (Proc.devRef .tc main_v14) = e_v14 m c from keep_pre m c 21 main_v14 (by decide +kernel), ← show upto preOps (launchContents m c) 21 (Proc.devRef .tc main_v20) = e_v20 m c from keep_pre m c 21 main_v20 (by decide +kernel)]
  rfl

theorem e_v22_eq : e_v22 m c = (extractStridedSlice S2x4224x1536 ![0, 2, 0] (e_v5 m c) slices_S2x4227x1536_S2x4224x1536_0_2_0) := by
  refine (read_pre m c 22 rfl main_v22 (by decide +kernel)).trans ?_
  rw [← show upto preOps (launchContents m c) 22 (Proc.devRef .tc main_v5) = e_v5 m c from keep_pre m c 22 main_v5 (by decide +kernel)]
  rfl

theorem e_v23_eq : e_v23 m c = (extractStridedSlice S1x1536 ![2, 0] (e_arg3 m c) slices_S4x1536_S1x1536_2_0) := by
  refine (read_pre m c 23 rfl main_v23 (by decide +kernel)).trans ?_
  rw [← show upto preOps (launchContents m c) 23 (Proc.devRef .tc main_arg3) = e_arg3 m c from keep_pre m c 23 main_arg3 (by decide +kernel)]
  rfl

theorem e_v24_eq : e_v24 m c = shapeCast S1536 (e_v23 m c) shapeCasts_S1x1536_S1536 := by
  refine (read_pre m c 24 rfl main_v24 (by decide +kernel)).trans ?_
  rw [← show upto preOps (launchContents m c) 24 (Proc.devRef .tc main_v23) = e_v23 m c from keep_pre m c 24 main_v23 (by decide +kernel)]
  rfl

theorem e_v25_eq : e_v25 m c = broadcastInDim S1x1x1536 ![2] bcast_S1536_S1x1x1536_2 (e_v24 m c) := by
  refine (read_pre m c 25 rfl main_v25 (by decide +kernel)).trans ?_
  rw [← show upto preOps (launchContents m c) 25 (Proc.devRef .tc main_v24) = e_v24 m c from keep_pre m c 25 main_v24 (by decide +kernel)]
  rfl

theorem e_v26_eq : e_v26 m c = broadcastInDim S2x4224x1536 ![0, 1, 2] bcast_S1x1x1536_S2x4224x1536_0_1_2 (e_v25 m c) := by
  refine (read_pre m c 26 rfl main_v26 (by decide +kernel)).trans ?_
  rw [← show upto preOps (launchContents m c) 26 (Proc.devRef .tc main_v25) = e_v25 m c from keep_pre m c 26 main_v25 (by decide +kernel)]
  rfl

theorem e_v27_eq : e_v27 m c = mulf (e_v22 m c) (e_v26 m c) := by
  refine (read_pre m c 27 rfl main_v27 (by decide +kernel)).trans ?_
  rw [← show upto preOps (launchContents m c) 27 (Proc.devRef .tc main_v22) = e_v22 m c from keep_pre m c 27 main_v22 (by decide +kernel), ← show upto preOps (launchContents m c) 27 (Proc.devRef .tc main_v26) = e_v26 m c from keep_pre m c 27 main_v26 (by decide +kernel)]
  rfl

theorem e_v28_eq : e_v28 m c = addf (e_v21 m c) (e_v27 m c) := by
  refine (read_pre m c 28 rfl main_v28 (by decide +kernel)).trans ?_
  rw [← show upto preOps (launchContents m c) 28 (Proc.devRef .tc main_v21) = e_v21 m c from keep_pre m c 28 main_v21 (by decide +kernel), ← show upto preOps (launchContents m c) 28 (Proc.devRef .tc main_v27) = e_v27 m c from keep_pre m c 28 main_v27 (by decide +kernel)]
  rfl

theorem e_v29_eq : e_v29 m c = (extractStridedSlice S2x4224x1536 ![0, 3, 0] (e_v5 m c) slices_S2x4227x1536_S2x4224x1536_0_3_0) := by
  refine (read_pre m c 29 rfl main_v29 (by decide +kernel)).trans ?_
  rw [← show upto preOps (launchContents m c) 29 (Proc.devRef .tc main_v5) = e_v5 m c from keep_pre m c 29 main_v5 (by decide +kernel)]
  rfl

theorem e_v30_eq : e_v30 m c = (extractStridedSlice S1x1536 ![3, 0] (e_arg3 m c) slices_S4x1536_S1x1536_3_0) := by
  refine (read_pre m c 30 rfl main_v30 (by decide +kernel)).trans ?_
  rw [← show upto preOps (launchContents m c) 30 (Proc.devRef .tc main_arg3) = e_arg3 m c from keep_pre m c 30 main_arg3 (by decide +kernel)]
  rfl

theorem e_v31_eq : e_v31 m c = shapeCast S1536 (e_v30 m c) shapeCasts_S1x1536_S1536 := by
  refine (read_pre m c 31 rfl main_v31 (by decide +kernel)).trans ?_
  rw [← show upto preOps (launchContents m c) 31 (Proc.devRef .tc main_v30) = e_v30 m c from keep_pre m c 31 main_v30 (by decide +kernel)]
  rfl

theorem e_v32_eq : e_v32 m c = broadcastInDim S1x1x1536 ![2] bcast_S1536_S1x1x1536_2 (e_v31 m c) := by
  refine (read_pre m c 32 rfl main_v32 (by decide +kernel)).trans ?_
  rw [← show upto preOps (launchContents m c) 32 (Proc.devRef .tc main_v31) = e_v31 m c from keep_pre m c 32 main_v31 (by decide +kernel)]
  rfl

theorem e_v33_eq : e_v33 m c = broadcastInDim S2x4224x1536 ![0, 1, 2] bcast_S1x1x1536_S2x4224x1536_0_1_2 (e_v32 m c) := by
  refine (read_pre m c 33 rfl main_v33 (by decide +kernel)).trans ?_
  rw [← show upto preOps (launchContents m c) 33 (Proc.devRef .tc main_v32) = e_v32 m c from keep_pre m c 33 main_v32 (by decide +kernel)]
  rfl

theorem e_v34_eq : e_v34 m c = mulf (e_v29 m c) (e_v33 m c) := by
  refine (read_pre m c 34 rfl main_v34 (by decide +kernel)).trans ?_
  rw [← show upto preOps (launchContents m c) 34 (Proc.devRef .tc main_v29) = e_v29 m c from keep_pre m c 34 main_v29 (by decide +kernel), ← show upto preOps (launchContents m c) 34 (Proc.devRef .tc main_v33) = e_v33 m c from keep_pre m c 34 main_v33 (by decide +kernel)]
  rfl

theorem e_v35_eq : e_v35 m c = addf (e_v28 m c) (e_v34 m c) := by
  refine (read_pre m c 35 rfl main_v35 (by decide +kernel)).trans ?_
  rw [← show upto preOps (launchContents m c) 35 (Proc.devRef .tc main_v28) = e_v28 m c from keep_pre m c 35 main_v28 (by decide +kernel), ← show upto preOps (launchContents m c) 35 (Proc.devRef .tc main_v34) = e_v34 m c from keep_pre m c 35 main_v34 (by decide +kernel)]
  rfl

theorem e_call0_v0_eq : e_call0_v0 m c = Host.negf (e_v35 m c) := by
  refine (read_pre m c 36 rfl main_call0_v0 (by decide +kernel)).trans ?_
  rw [← show upto preOps (launchContents m c) 36 (Proc.devRef .tc main_v35) = e_v35 m c from keep_pre m c 36 main_v35 (by decide +kernel)]
  rfl

theorem e_call0_v1_eq : e_call0_v1 m c = Host.exp (e_call0_v0 m c) := by
  refine (read_pre m c 37 rfl main_call0_v1 (by decide +kernel)).trans ?_
  rw [← show upto preOps (launchContents m c) 37 (Proc.devRef .tc main_call0_v0) = e_call0_v0 m c from keep_pre m c 37 main_call0_v0 (by decide +kernel)]
  rfl

theorem e_call0_cst_eq : e_call0_cst m c = (constant S_ .f32 0x3F800000#32) := by
  refine (read_pre m c 38 rfl main_call0_cst (by decide +kernel)).trans ?_
  rfl

theorem e_call0_v2_eq : e_call0_v2 m c = (broadcastInDim S2x4224x1536 ![] bcast_S_S2x4224x1536) (e_call0_cst m c) := by
  refine (read_pre m c 39 rfl main_call0_v2 (by decide +kernel)).trans ?_
  rw [← show upto preOps (launchContents m c) 39 (Proc.devRef .tc main_call0_cst) = e_call0_cst m c from keep_pre m c 39 main_call0_cst (by decide +kernel)]
  rfl

theorem e_call0_v3_eq : e_call0_v3 m c = addf (e_call0_v2 m c) (e_call0_v1 m c) := by
  refine (read_pre m c 40 rfl main_call0_v3 (by decide +kernel)).trans ?_
  rw [← show upto preOps (launchContents m c) 40 (Proc.devRef .tc main_call0_v2) = e_call0_v2 m c from keep_pre m c 40 main_call0_v2 (by decide +kernel), ← show upto preOps (launchContents m c) 40 (Proc.devRef .tc main_call0_v1) = e_call0_v1 m c from keep_pre m c 40 main_call0_v1 (by decide +kernel)]
  rfl

theorem e_call0_cst_0_eq : e_call0_cst_0 m c = (constant S_ .f32 0x3F800000#32) := by
  refine (read_pre m c 41 rfl main_call0_cst_0 (by decide +kernel)).trans ?_
  rfl

theorem e_call0_v4_eq : e_call0_v4 m c = (broadcastInDim S2x4224x1536 ![] bcast_S_S2x4224x1536) (e_call0_cst_0 m c) := by
  refine (read_pre m c 42 rfl main_call0_v4 (by decide +kernel)).trans ?_
  rw [← show upto preOps (launchContents m c) 42 (Proc.devRef .tc main_call0_cst_0) = e_call0_cst_0 m c from keep_pre m c 42 main_call0_cst_0 (by decide +kernel)]
  rfl

theorem e_call0_v5_eq : e_call0_v5 m c = Host.divf (e_call0_v4 m c) (e_call0_v3 m c) := by
  refine (read_pre m c 43 rfl main_call0_v5 (by decide +kernel)).trans ?_
  rw [← show upto preOps (launchContents m c) 43 (Proc.devRef .tc main_call0_v4) = e_call0_v4 m c from keep_pre m c 43 main_call0_v4 (by decide +kernel), ← show upto preOps (launchContents m c) 43 (Proc.devRef .tc main_call0_v3) = e_call0_v3 m c from keep_pre m c 43 main_call0_v3 (by decide +kernel)]
  rfl

theorem e_v36_eq : e_v36 m c = mulf (e_v35 m c) (e_call0_v5 m c) := by
  refine (read_pre m c 44 rfl main_v36 (by decide +kernel)).trans ?_
  rw [← show upto preOps (launchContents m c) 44 (Proc.devRef .tc main_v35) = e_v35 m c from keep_pre m c 44 main_v35 (by decide +kernel), ← show upto preOps (launchContents m c) 44 (Proc.devRef .tc main_call0_v5) = e_call0_v5 m c from keep_pre m c 44 main_call0_v5 (by decide +kernel)]
  rfl

theorem e_v37_eq : e_v37 m c = (extractStridedSlice S2x4224x1024 ![0, 0, 0] (e_v36 m c) slices_S2x4224x1536_S2x4224x1024_0_0_0) := by
  refine (read_pre m c 45 rfl main_v37 (by decide +kernel)).trans ?_
  rw [← show upto preOps (launchContents m c) 45 (Proc.devRef .tc main_v36) = e_v36 m c from keep_pre m c 45 main_v36 (by decide +kernel)]
  rfl

theorem e_v38_eq : e_v38 m c = shapeCast S2x4224x16x64 (e_v37 m c) shapeCasts_S2x4224x1024_S2x4224x16x64 := by
  refine (read_pre m c 46 rfl main_v38 (by decide +kernel)).trans ?_
  rw [← show upto preOps (launchContents m c) 46 (Proc.devRef .tc main_v37) = e_v37 m c from keep_pre m c 46 main_v37 (by decide +kernel)]
  rfl

theorem e_v39_eq : e_v39 m c = (extractStridedSlice S2x4224x256 ![0, 0, 1024] (e_v36 m c) slices_S2x4224x1536_S2x4224x256_0_0_1024) := by
  refine (read_pre m c 47 rfl main_v39 (by decide +kernel)).trans ?_
  rw [← show upto preOps (launchContents m c) 47 (Proc.devRef .tc main_v36) = e_v36 m c from keep_pre m c 47 main_v36 (by decide +kernel)]
  rfl

theorem e_v40_eq : e_v40 m c = shapeCast S2x4224x2x128 (e_v39 m c) shapeCasts_S2x4224x256_S2x4224x2x128 := by
  refine (read_pre m c 48 rfl main_v40 (by decide +kernel)).trans ?_
  rw [← show upto preOps (launchContents m c) 48 (Proc.devRef .tc main_v39) = e_v39 m c from keep_pre m c 48 main_v39 (by decide +kernel)]
  rfl

theorem e_v41_eq : e_v41 m c = (extractStridedSlice S2x4224x256 ![0, 0, 1280] (e_v36 m c) slices_S2x4224x1536_S2x4224x256_0_0_1280) := by
  refine (read_pre m c 49 rfl main_v41 (by decide +kernel)).trans ?_
  rw [← show upto preOps (launchContents m c) 49 (Proc.devRef .tc main_v36) = e_v36 m c from keep_pre m c 49 main_v36 (by decide +kernel)]
  rfl

theorem e_v42_eq : e_v42 m c = shapeCast S2x4224x2x128 (e_v41 m c) shapeCasts_S2x4224x256_S2x4224x2x128 := by
  refine (read_pre m c 50 rfl main_v42 (by decide +kernel)).trans ?_
  rw [← show upto preOps (launchContents m c) 50 (Proc.devRef .tc main_v41) = e_v41 m c from keep_pre m c 50 main_v41 (by decide +kernel)]
  rfl

theorem e_v43_eq : e_v43 m c = broadcastInDim S1x1x16 ![2] bcast_S16_S1x1x16_2 (e_arg5 m c) := by
  refine (read_pre m c 51 rfl main_v43 (by decide +kernel)).trans ?_
  rw [← show upto preOps (launchContents m c) 51 (Proc.devRef .tc main_arg5) = e_arg5 m c from keep_pre m c 51 main_arg5 (by decide +kernel)]
  rfl

theorem e_v44_eq : e_v44 m c = broadcastInDim S2x4224x16 ![0, 1, 2] bcast_S1x1x16_S2x4224x16_0_1_2 (e_v43 m c) := by
  refine (read_pre m c 52 rfl main_v44 (by decide +kernel)).trans ?_
  rw [← show upto preOps (launchContents m c) 52 (Proc.devRef .tc main_v43) = e_v43 m c from keep_pre m c 52 main_v43 (by decide +kernel)]
  rfl

theorem e_v45_eq : e_v45 m c = addf (e_v2 m c) (e_v44 m c) := by
  refine (read_pre m c 53 rfl main_v45 (by decide +kernel)).trans ?_
  rw [← show upto preOps (launchContents m c) 53 (Proc.devRef .tc main_v2) = e_v2 m c from keep_pre m c 53 main_v2 (by decide +kernel), ← show upto preOps (launchContents m c) 53 (Proc.devRef .tc main_v44) = e_v44 m c from keep_pre m c 53 main_v44 (by decide +kernel)]
  rfl

theorem e_call1_cst_eq : e_call1_cst m c = (constant S_ .f32 0x00000000#32) := by
  refine (read_pre m c 54 rfl main_call1_cst (by decide +kernel)).trans ?_
  rfl

theorem e_call1_v0_eq : e_call1_v0 m c = (broadcastInDim S2x4224x16 ![] bcast_S_S2x4224x16) (e_call1_cst m c) := by
  refine (read_pre m c 55 rfl main_call1_v0 (by decide +kernel)).trans ?_
  rw [← show upto preOps (launchContents m c) 55 (Proc.devRef .tc main_call1_cst) = e_call1_cst m c from keep_pre m c 55 main_call1_cst (by decide +kernel)]
  rfl

theorem e_call1_v1_eq : e_call1_v1 m c = maximumf (e_v45 m c) (e_call1_v0 m c) := by
  refine (read_pre m c 56 rfl main_call1_v1 (by decide +kernel)).trans ?_
  rw [← show upto preOps (launchContents m c) 56 (Proc.devRef .tc main_v45) = e_v45 m c from keep_pre m c 56 main_v45 (by decide +kernel), ← show upto preOps (launchContents m c) 56 (Proc.devRef .tc main_call1_v0) = e_call1_v0 m c from keep_pre m c 56 main_call1_v0 (by decide +kernel)]
  rfl

theorem e_call1_v2_eq : e_call1_v2 m c = (broadcastInDim S2x4224x16 ![] bcast_S_S2x4224x16) (e_call1_cst m c) := by
  refine (read_pre m c 57 rfl main_call1_v2 (by decide +kernel)).trans ?_
  rw [← show upto preOps (launchContents m c) 57 (Proc.devRef .tc main_call1_cst) = e_call1_cst m c from keep_pre m c 57 main_call1_cst (by decide +kernel)]
  rfl

theorem e_call1_v3_eq : e_call1_v3 m c = subf (e_v45 m c) (e_call1_v2 m c) := by
  refine (read_pre m c 58 rfl main_call1_v3 (by decide +kernel)).trans ?_
  rw [← show upto preOps (launchContents m c) 58 (Proc.devRef .tc main_v45) = e_v45 m c from keep_pre m c 58 main_v45 (by decide +kernel), ← show upto preOps (launchContents m c) 58 (Proc.devRef .tc main_call1_v2) = e_call1_v2 m c from keep_pre m c 58 main_call1_v2 (by decide +kernel)]
  rfl

theorem e_call1_v4_eq : e_call1_v4 m c = (cmpf .une) (e_call1_v3 m c) (e_call1_v3 m c) := by
  refine (read_pre m c 59 rfl main_call1_v4 (by decide +kernel)).trans ?_
  rw [← show upto preOps (launchContents m c) 59 (Proc.devRef .tc main_call1_v3) = e_call1_v3 m c from keep_pre m c 59 main_call1_v3 (by decide +kernel)]
  rfl

theorem e_call1_v5_eq : e_call1_v5 m c = (broadcastInDim S2x4224x16 ![] bcast_S_S2x4224x16) (e_call1_cst m c) := by
  refine (read_pre m c 60 rfl main_call1_v5 (by decide +kernel)).trans ?_
  rw [← show upto preOps (launchContents m c) 60 (Proc.devRef .tc main_call1_cst) = e_call1_cst m c from keep_pre m c 60 main_call1_cst (by decide +kernel)]
  rfl

theorem e_call1_v6_eq : e_call1_v6 m c = addf (e_v45 m c) (e_call1_v5 m c) := by
  refine (read_pre m c 61 rfl main_call1_v6 (by decide +kernel)).trans ?_
  rw [← show upto preOps (launchContents m c) 61 (Proc.devRef .tc main_v45) = e_v45 m c from keep_pre m c 61 main_v45 (by decide +kernel), ← show upto preOps (launchContents m c) 61 (Proc.devRef .tc main_call1_v5) = e_call1_v5 m c from keep_pre m c 61 main_call1_v5 (by decide +kernel)]
  rfl

theorem e_call1_v7_eq : e_call1_v7 m c = Host.absf (e_call1_v3 m c) := by
  refine (read_pre m c 62 rfl main_call1_v7 (by decide +kernel)).trans ?_
  rw [← show upto preOps (launchContents m c) 62 (Proc.devRef .tc main_call1_v3) = e_call1_v3 m c from keep_pre m c 62 main_call1_v3 (by decide +kernel)]
  rfl

theorem e_call1_v8_eq : e_call1_v8 m c = Host.negf (e_call1_v7 m c) := by
  refine (read_pre m c 63 rfl main_call1_v8 (by decide +kernel)).trans ?_
  rw [← show upto preOps (launchContents m c) 63 (Proc.devRef .tc main_call1_v7) = e_call1_v7 m c from keep_pre m c 63 main_call1_v7 (by decide +kernel)]
  rfl

theorem e_call1_v9_eq : e_call1_v9 m c = Host.exp (e_call1_v8 m c) := by
  refine (read_pre m c 64 rfl main_call1_v9 (by decide +kernel)).trans ?_
  rw [← show upto preOps (launchContents m c) 64 (Proc.devRef .tc main_call1_v8) = e_call1_v8 m c from keep_pre m c 64 main_call1_v8 (by decide +kernel)]
  rfl

theorem e_call1_v10_eq : e_call1_v10 m c = Host.log1p (e_call1_v9 m c) := by
  refine (read_pre m c 65 rfl main_call1_v10 (by decide +kernel)).trans ?_
  rw [← show upto preOps (launchContents m c) 65 (Proc.devRef .tc main_call1_v9) = e_call1_v9 m c from keep_pre m c 65 main_call1_v9 (by decide +kernel)]
  rfl

theorem e_call1_v11_eq : e_call1_v11 m c = addf (e_call1_v1 m c) (e_call1_v10 m c) := by
  refine (read_pre m c 66 rfl main_call1_v11 (by decide +kernel)).trans ?_
  rw [← show upto preOps (launchContents m c) 66 (Proc.devRef .tc main_call1_v1) = e_call1_v1 m c from keep_pre m c 66 main_call1_v1 (by decide +kernel), ← show upto preOps (launchContents m c) 66 (Proc.devRef .tc main_call1_v10) = e_call1_v10 m c from keep_pre m c 66 main_call1_v10 (by decide +kernel)]
  rfl

theorem e_v46_eq : e_v46 m c = select (e_call1_v4 m c) (e_call1_v6 m c) (e_call1_v11 m c) := by
  refine (read_pre m c 67 rfl main_v46 (by decide +kernel)).trans ?_
  rw [← show upto preOps (launchContents m c) 67 (Proc.devRef .tc main_call1_v4) = e_call1_v4 m c from keep_pre m c 67 main_call1_v4 (by decide +kernel), ← show upto preOps (launchContents m c) 67 (Proc.devRef .tc main_call1_v6) = e_call1_v6 m c from keep_pre m c 67 main_call1_v6 (by decide +kernel), ← show upto preOps (launchContents m c) 67 (Proc.devRef .tc main_call1_v11) = e_call1_v11 m c from keep_pre m c 67 main_call1_v11 (by decide +kernel)]
  rfl

theorem e_v47_eq : e_v47 m c = (iotaInDim S4224 32 0) := by
  refine (read_pre m c 68 rfl main_v47 (by decide +kernel)).trans ?_
  rfl

theorem e_c_eq : e_c m c = (constantI S_ 32 4112#32) := by
  refine (read_pre m c 69 rfl main_c (by decide +kernel)).trans ?_
  rfl

theorem e_v48_eq : e_v48 m c = broadcastInDim S4224 ![] bcast_S_S4224 (e_c m c) := by
  refine (read_pre m c 70 rfl main_v48 (by decide +kernel)).trans ?_
  rw [← show upto preOps (launchContents m c) 70 (Proc.devRef .tc main_c) = e_c m c from keep_pre m c 70 main_c (by decide +kernel)]
  rfl

theorem e_v49_eq : e_v49 m c = cmpi .slt (e_v47 m c) (e_v48 m c) := by
  refine (read_pre m c 71 rfl main_v49 (by decide +kernel)).trans ?_
  rw [← show upto preOps (launchContents m c) 71 (Proc.devRef .tc main_v47) = e_v47 m c from keep_pre m c 71 main_v47 (by decide +kernel), ← show upto preOps (launchContents m c) 71 (Proc.devRef .tc main_v48) = e_v48 m c from keep_pre m c 71 main_v48 (by decide +kernel)]
  rfl

theorem e_v50_eq : e_v50 m c = broadcastInDim S1x4224x1 ![1] bcast_S4224_S1x4224x1_1 (e_v49 m c) := by
  refine (read_pre m c 72 rfl main_v50 (by decide +kernel)).trans ?_
  rw [← show upto preOps (launchContents m c) 72 (Proc.devRef .tc main_v49) = e_v49 m c from keep_pre m c 72 main_v49 (by decide +kernel)]
  rfl

theorem e_cst_eq : e_cst m c = (constant S_ .f32 0x00000000#32) := by
  refine (read_pre m c 73 rfl main_cst (by decide +kernel)).trans ?_
  rfl

theorem e_call2_v0_eq : e_call2_v0 m c = (e_cst m c) := by
  refine (read_pre m c 74 rfl main_call2_v0 (by decide +kernel)).trans ?_
  rw [← show upto preOps (launchContents m c) 74 (Proc.devRef .tc main_cst) = e_cst m c from keep_pre m c 74 main_cst (by decide +kernel)]
  rfl

theorem e_call2_v1_eq : e_call2_v1 m c = (broadcastInDim S2x4224x16 ![0, 1, 2] bcast_S1x4224x1_S2x4224x16_0_1_2) (e_v50 m c) := by
  refine (read_pre m c 75 rfl main_call2_v1 (by decide +kernel)).trans ?_
  rw [← show upto preOps (launchContents m c) 75 (Proc.devRef .tc main_v50) = e_v50 m c from keep_pre m c 75 main_v50 (by decide +kernel)]
  rfl

theorem e_call2_v2_eq : e_call2_v2 m c = (broadcastInDim S2x4224x16 ![] bcast_S_S2x4224x16) (e_call2_v0 m c) := by
  refine (read_pre m c 76 rfl main_call2_v2 (by decide +kernel)).trans ?_
  rw [← show upto preOps (launchContents m c) 76 (Proc.devRef .tc main_call2_v0) = e_call2_v0 m c from keep_pre m c 76 main_call2_v0 (by decide +kernel)]
  rfl

theorem e_v51_eq : e_v51 m c = select (e_call2_v1 m c) (e_v46 m c) (e_call2_v2 m c) := by
  refine (read_pre m c 77 rfl main_v51 (by decide +kernel)).trans ?_
  rw [← show upto preOps (launchContents m c) 77 (Proc.devRef .tc main_call2_v1) = e_call2_v1 m c from keep_pre m c 77 main_call2_v1 (by decide +kernel), ← show upto preOps (launchContents m c) 77 (Proc.devRef .tc main_v46) = e_v46 m c from keep_pre m c 77 main_v46 (by decide +kernel), ← show upto preOps (launchContents m c) 77 (Proc.devRef .tc main_call2_v2) = e_call2_v2 m c from keep_pre m c 77 main_call2_v2 (by decide +kernel)]
  rfl

theorem e_v52_eq : e_v52 m c = Host.exp (e_arg6 m c) := by
  refine (read_pre m c 78 rfl main_v52 (by decide +kernel)).trans ?_
  rw [← show upto preOps (launchContents m c) 78 (Proc.devRef .tc main_arg6) = e_arg6 m c from keep_pre m c 78 main_arg6 (by decide +kernel)]
  rfl

theorem e_v53_eq : e_v53 m c = Host.negf (e_v52 m c) := by
  refine (read_pre m c 79 rfl main_v53 (by decide +kernel)).trans ?_
  rw [← show upto preOps (launchContents m c) 79 (Proc.devRef .tc main_v52) = e_v52 m c from keep_pre m c 79 main_v52 (by decide +kernel)]
  rfl

theorem e_v54_eq : e_v54 m c = shapeCast S2x33x128x2x8x64 (e_v38 m c) shapeCasts_S2x4224x16x64_S2x33x128x2x8x64 := by
  refine (read_pre m c 80 rfl main_v54 (by decide +kernel)).trans ?_
  rw [← show upto preOps (launchContents m c) 80 (Proc.devRef .tc main_v38) = e_v38 m c from keep_pre m c 80 main_v38 (by decide +kernel)]
  rfl

theorem e_v55_eq : e_v55 m c = shapeCast S2x33x128x2x8 (e_v51 m c) shapeCasts_S2x4224x16_S2x33x128x2x8 := by
  refine (read_pre m c 81 rfl main_v55 (by decide +kernel)).trans ?_
  rw [← show upto preOps (launchContents m c) 81 (Proc.devRef .tc main_v51) = e_v51 m c from keep_pre m c 81 main_v51 (by decide +kernel)]
  rfl

theorem e_v56_eq : e_v56 m c = shapeCast S2x33x128x2x128 (e_v40 m c) shapeCasts_S2x4224x2x128_S2x33x128x2x128 := by
  refine (read_pre m c 82 rfl main_v56 (by decide +kernel)).trans ?_
  rw [← show upto preOps (launchContents m c) 82 (Proc.devRef .tc main_v40) = e_v40 m c from keep_pre m c 82 main_v40 (by decide +kernel)]
  rfl

theorem e_v57_eq : e_v57 m c = shapeCast S2x33x128x2x128 (e_v42 m c) shapeCasts_S2x4224x2x128_S2x33x128x2x128 := by
  refine (read_pre m c 83 rfl main_v57 (by decide +kernel)).trans ?_
  rw [← show upto preOps (launchContents m c) 83 (Proc.devRef .tc main_v42) = e_v42 m c from keep_pre m c 83 main_v42 (by decide +kernel)]
  rfl

theorem e_v58_eq : e_v58 m c = shapeCast S2x8 (e_v53 m c) shapeCasts_S16_S2x8 := by
  refine (read_pre m c 84 rfl main_v58 (by decide +kernel)).trans ?_
  rw [← show upto preOps (launchContents m c) 84 (Proc.devRef .tc main_v53) = e_v53 m c from keep_pre m c 84 main_v53 (by decide +kernel)]
  rfl

theorem e_v59_eq : e_v59 m c = broadcastInDim S1x1x1x2x8 ![3, 4] bcast_S2x8_S1x1x1x2x8_3_4 (e_v58 m c) := by
  refine (read_pre m c 85 rfl main_v59 (by decide +kernel)).trans ?_
  rw [← show upto preOps (launchContents m c) 85 (Proc.devRef .tc main_v58) = e_v58 m c from keep_pre m c 85 main_v58 (by decide +kernel)]
  rfl

theorem e_v60_eq : e_v60 m c = broadcastInDim S2x33x128x2x8 ![0, 1, 2, 3, 4] bcast_S1x1x1x2x8_S2x33x128x2x8_0_1_2_3_4 (e_v59 m c) := by
  refine (read_pre m c 86 rfl main_v60 (by decide +kernel)).trans ?_
  rw [← show upto preOps (launchContents m c) 86 (Proc.devRef .tc main_v59) = e_v59 m c from keep_pre m c 86 main_v59 (by decide +kernel)]
  rfl

theorem e_v61_eq : e_v61 m c = mulf (e_v55 m c) (e_v60 m c) := by
  refine (read_pre m c 87 rfl main_v61 (by decide +kernel)).trans ?_
  rw [← show upto preOps (launchContents m c) 87 (Proc.devRef .tc main_v55) = e_v55 m c from keep_pre m c 87 main_v55 (by decide +kernel), ← show upto preOps (launchContents m c) 87 (Proc.devRef .tc main_v60) = e_v60 m c from keep_pre m c 87 main_v60 (by decide +kernel)]
  rfl

theorem e_call3_call0_cst_eq : e_call3_call0_cst m c = (constant S_ .f32 0x00000000#32) := by
  refine (read_pre m c 88 rfl main_call3_call0_cst (by decide +kernel)).trans ?_
  rfl

theorem e_call3_call0_v0_eq : e_call3_call0_v0 m c = (broadcastInDim S_ ![] bcast_S_S_) (e_call3_call0_cst m c) := by
  refine (read_pre m c 89 rfl main_call3_call0_v0 (by decide +kernel)).trans ?_
  rw [← show upto preOps (launchContents m c) 89 (Proc.devRef .tc main_call3_call0_cst) = e_call3_call0_cst m c from keep_pre m c 89 main_call3_call0_cst (by decide +kernel)]
  rfl

theorem e_v62_eq : e_v62 m c = Host.reduceWindowAdd ![1, 1, 128, 1, 1] ![1, 1, 1, 1, 1] ![0, 0, 127, 0, 0] ![0, 0, 0, 0, 0] (e_v61 m c) (e_call3_call0_v0 m c) reduceWindows_S2x33x128x2x8_S2x33x128x2x8_w1s1p0_0_w1s1p0_0_w128s1p127_0_w1s1p0_0_w1s1p0_0 h_S_ := by
  refine (read_pre m c 90 rfl main_v62 (by decide +kernel)).trans ?_
  rw [← show upto preOps (launchContents m c) 90 (Proc.devRef .tc main_v61) = e_v61 m c from keep_pre m c 90 main_v61 (by decide +kernel), ← show upto preOps (launchContents m c) 90 (Proc.devRef .tc main_call3_call0_v0) = e_call3_call0_v0 m c from keep_pre m c 90 main_call3_call0_v0 (by decide +kernel)]
  rfl

theorem e_c_0_eq : e_c_0 m c = (constantI S_ 1 1#1) := by
  refine (read_pre m c 91 rfl main_c_0 (by decide +kernel)).trans ?_
  rfl

theorem e_v63_eq : e_v63 m c = broadcastInDim S128x128 ![] bcast_S_S128x128 (e_c_0 m c) := by
  refine (read_pre m c 92 rfl main_v63 (by decide +kernel)).trans ?_
  rw [← show upto preOps (launchContents m c) 92 (Proc.devRef .tc main_c_0) = e_c_0 m c from keep_pre m c 92 main_c_0 (by decide +kernel)]
  rfl

theorem e_call4_v0_eq : e_call4_v0 m c = (iotaInDim S128x128 32 0) := by
  refine (read_pre m c 93 rfl main_call4_v0 (by decide +kernel)).trans ?_
  rfl

theorem e_call4_c_eq : e_call4_c m c = (constantI S_ 32 0#32) := by
  refine (read_pre m c 94 rfl main_call4_c (by decide +kernel)).trans ?_
  rfl

theorem e_call4_v1_eq : e_call4_v1 m c = (broadcastInDim S128x128 ![] bcast_S_S128x128) (e_call4_c m c) := by
  refine (read_pre m c 95 rfl main_call4_v1 (by decide +kernel)).trans ?_
  rw [← show upto preOps (launchContents m c) 95 (Proc.devRef .tc main_call4_c) = e_call4_c m c from keep_pre m c 95 main_call4_c (by decide +kernel)]
  rfl

theorem e_call4_v2_eq : e_call4_v2 m c = addi (e_call4_v0 m c) (e_call4_v1 m c) := by
  refine (read_pre m c 96 rfl main_call4_v2 (by decide +kernel)).trans ?_
  rw [← show upto preOps (launchContents m c) 96 (Proc.devRef .tc main_call4_v0) = e_call4_v0 m c from keep_pre m c 96 main_call4_v0 (by decide +kernel), ← show upto preOps (launchContents m c) 96 (Proc.devRef .tc main_call4_v1) = e_call4_v1 m c from keep_pre m c 96 main_call4_v1 (by decide +kernel)]
  rfl

theorem e_call4_v3_eq : e_call4_v3 m c = (iotaInDim S128x128 32 1) := by
  refine (read_pre m c 97 rfl main_call4_v3 (by decide +kernel)).trans ?_
  rfl

theorem e_call4_v4_eq : e_call4_v4 m c = (cmpi .sge) (e_call4_v2 m c) (e_call4_v3 m c) := by
  refine (read_pre m c 98 rfl main_call4_v4 (by decide +kernel)).trans ?_
  rw [← show upto preOps (launchContents m c) 98 (Proc.devRef .tc main_call4_v2) = e_call4_v2 m c from keep_pre m c 98 main_call4_v2 (by decide +kernel), ← show upto preOps (launchContents m c) 98 (Proc.devRef .tc main_call4_v3) = e_call4_v3 m c from keep_pre m c 98 main_call4_v3 (by decide +kernel)]
  rfl

theorem e_call4_c_0_eq : e_call4_c_0 m c = (constantI S_ 1 0#1) := by
  refine (read_pre m c 99 rfl main_call4_c_0 (by decide +kernel)).trans ?_
  rfl

theorem e_call4_v5_eq : e_call4_v5 m c = (broadcastInDim S128x128 ![] bcast_S_S128x128) (e_call4_c_0 m c) := by
  refine (read_pre m c 100 rfl main_call4_v5 (by decide +kernel)).trans ?_
  rw [← show upto preOps (launchContents m c) 100 (Proc.devRef .tc main_call4_c_0) = e_call4_c_0 m c from keep_pre m c 100 main_call4_c_0 (by decide +kernel)]
  rfl

theorem e_v64_eq : e_v64 m c = select (e_call4_v4 m c) (e_v63 m c) (e_call4_v5 m c) := by
  refine (read_pre m c 101 rfl main_v64 (by decide +kernel)).trans ?_
  rw [← show upto preOps (launchContents m c) 101 (Proc.devRef .tc main_call4_v4) = e_call4_v4 m c from keep_pre m c 101 main_call4_v4 (by decide +kernel), ← show upto preOps (launchContents m c) 101 (Proc.devRef .tc main_v63) = e_v63 m c from keep_pre m c 101 main_v63 (by decide +kernel), ← show upto preOps (launchContents m c) 101 (Proc.devRef .tc main_call4_v5) = e_call4_v5 m c from keep_pre m c 101 main_call4_v5 (by decide +kernel)]
  rfl

theorem e_v65_eq : e_v65 m c = broadcastInDim S1x1x128x128x1x1 ![2, 3] bcast_S128x128_S1x1x128x128x1x1_2_3 (e_v64 m c) := by
  refine (read_pre m c 102 rfl main_v65 (by decide +kernel)).trans ?_
  rw [← show upto preOps (launchContents m c) 102 (Proc.devRef .tc main_v64) = e_v64 m c from keep_pre m c 102 main_v64 (by decide +kernel)]
  rfl

theorem e_v66_eq : e_v66 m c = broadcastInDim S2x33x128x1x2x8 ![0, 1, 2, 4, 5] bcast_S2x33x128x2x8_S2x33x128x1x2x8_0_1_2_4_5 (e_v62 m c) := by
  refine (read_pre m c 103 rfl main_v66 (by decide +kernel)).trans ?_
  rw [← show upto preOps (launchContents m c) 103 (Proc.devRef .tc main_v62) = e_v62 m c from keep_pre m c 103 main_v62 (by decide +kernel)]
  rfl

theorem e_v67_eq : e_v67 m c = broadcastInDim S2x33x1x128x2x8 ![0, 1, 3, 4, 5] bcast_S2x33x128x2x8_S2x33x1x128x2x8_0_1_3_4_5 (e_v62 m c) := by
  refine (read_pre m c 104 rfl main_v67 (by decide +kernel)).trans ?_
  rw [← show upto preOps (launchContents m c) 104 (Proc.devRef .tc main_v62) = e_v62 m c from keep_pre m c 104 main_v62 (by decide +kernel)]
  rfl

theorem e_v68_eq : e_v68 m c = broadcastInDim S2x33x128x128x2x8 ![0, 1, 2, 3, 4, 5] bcast_S2x33x128x1x2x8_S2x33x128x128x2x8_0_1_2_3_4_5 (e_v66 m c) := by
  refine (read_pre m c 105 rfl main_v68 (by decide +kernel)).trans ?_
  rw [← show upto preOps (launchContents m c) 105 (Proc.devRef .tc main_v66) = e_v66 m c from keep_pre m c 105 main_v66 (by decide +kernel)]
  rfl

theorem e_v69_eq : e_v69 m c = broadcastInDim S2x33x128x128x2x8 ![0, 1, 2, 3, 4, 5] bcast_S2x33x1x128x2x8_S2x33x128x128x2x8_0_1_2_3_4_5 (e_v67 m c) := by
  refine (read_pre m c 106 rfl main_v69 (by decide +kernel)).trans ?_
  rw [← show upto preOps (launchContents m c) 106 (Proc.devRef .tc main_v67) = e_v67 m c from keep_pre m c 106 main_v67 (by decide +kernel)]
  rfl

theorem e_v70_eq : e_v70 m c = subf (e_v68 m c) (e_v69 m c) := by
  refine (read_pre m c 107 rfl main_v70 (by decide +kernel)).trans ?_
  rw [← show upto preOps (launchContents m c) 107 (Proc.devRef .tc main_v68) = e_v68 m c from keep_pre m c 107 main_v68 (by decide +kernel), ← show upto preOps (launchContents m c) 107 (Proc.devRef .tc main_v69) = e_v69 m c from keep_pre m c 107 main_v69 (by decide +kernel)]
  rfl

theorem e_cst_1_eq : e_cst_1 m c = (constant S_ .f32 0xFF800000#32) := by
  refine (read_pre m c 108 rfl main_cst_1 (by decide +kernel)).trans ?_
  rfl

theorem e_call5_v0_eq : e_call5_v0 m c = (e_cst_1 m c) := by
  refine (read_pre m c 109 rfl main_call5_v0 (by decide +kernel)).trans ?_
  rw [← show upto preOps (launchContents m c) 109 (Proc.devRef .tc main_cst_1) = e_cst_1 m c from keep_pre m c 109 main_cst_1 (by decide +kernel)]
  rfl

theorem e_call5_v1_eq : e_call5_v1 m c = (broadcastInDim S2x33x128x128x2x8 ![0, 1, 2, 3, 4, 5] bcast_S1x1x128x128x1x1_S2x33x128x128x2x8_0_1_2_3_4_5) (e_v65 m c) := by
  refine (read_pre m c 110 rfl main_call5_v1 (by decide +kernel)).trans ?_
  rw [← show upto preOps (launchContents m c) 110 (Proc.devRef .tc main_v65) = e_v65 m c from keep_pre m c 110 main_v65 (by decide +kernel)]
  rfl

theorem e_call5_v2_eq : e_call5_v2 m c = (broadcastInDim S2x33x128x128x2x8 ![] bcast_S_S2x33x128x128x2x8) (e_call5_v0 m c) := by
  refine (read_pre m c 111 rfl main_call5_v2 (by decide +kernel)).trans ?_
  rw [← show upto preOps (launchContents m c) 111 (Proc.devRef .tc main_call5_v0) = e_call5_v0 m c from keep_pre m c 111 main_call5_v0 (by decide +kernel)]
  rfl

theorem e_v71_eq : e_v71 m c = select (e_call5_v1 m c) (e_v70 m c) (e_call5_v2 m c) := by
  refine (read_pre m c 112 rfl main_v71 (by decide +kernel)).trans ?_
  rw [← show upto preOps (launchContents m c) 112 (Proc.devRef .tc main_call5_v1) = e_call5_v1 m c from keep_pre m c 112 main_call5_v1 (by decide +kernel), ← show upto preOps (launchContents m c) 112 (Proc.devRef .tc main_v70) = e_v70 m c from keep_pre m c 112 main_v70 (by decide +kernel), ← show upto preOps (launchContents m c) 112 (Proc.devRef .tc main_call5_v2) = e_call5_v2 m c from keep_pre m c 112 main_call5_v2 (by decide +kernel)]
  rfl

theorem e_v72_eq : e_v72 m c = Host.exp (e_v71 m c) := by
  refine (read_pre m c 113 rfl main_v72 (by decide +kernel)).trans ?_
  rw [← show upto preOps (launchContents m c) 113 (Proc.devRef .tc main_v71) = e_v71 m c from keep_pre m c 113 main_v71 (by decide +kernel)]
  rfl

theorem e_v73_eq : e_v73 m c = Host.dotGeneral dot_S2x33x128x2x128_S2x33x128x2x128_S2x33x2x128x128_4_4_2_2_013_013 none (e_v56 m c) (e_v57 m c) := by
  refine (read_pre m c 114 rfl main_v73 (by decide +kernel)).trans ?_
  rw [← show upto preOps (launchContents m c) 114 (Proc.devRef .tc main_v56) = e_v56 m c from keep_pre m c 114 main_v56 (by decide +kernel), ← show upto preOps (launchContents m c) 114 (Proc.devRef .tc main_v57) = e_v57 m c from keep_pre m c 114 main_v57 (by decide +kernel)]
  rfl

theorem e_v74_eq : e_v74 m c = (transpose S2x33x128x128x2 [0, 1, 4, 3, 2] (e_v73 m c) transposes_S2x33x2x128x128_S2x33x128x128x2_0_1_4_3_2) := by
  refine (read_pre m c 115 rfl main_v74 (by decide +kernel)).trans ?_
  rw [← show upto preOps (launchContents m c) 115 (Proc.devRef .tc main_v73) = e_v73 m c from keep_pre m c 115 main_v73 (by decide +kernel)]
  rfl

theorem e_v75_eq : e_v75 m c = broadcastInDim S2x33x128x128x2x1 ![0, 1, 2, 3, 4] bcast_S2x33x128x128x2_S2x33x128x128x2x1_0_1_2_3_4 (e_v74 m c) := by
  refine (read_pre m c 116 rfl main_v75 (by decide +kernel)).trans ?_
  rw [← show upto preOps (launchContents m c) 116 (Proc.devRef .tc main_v74) = e_v74 m c from keep_pre m c 116 main_v74 (by decide +kernel)]
  rfl

theorem e_v76_eq : e_v76 m c = broadcastInDim S2x33x128x128x2x8 ![0, 1, 2, 3, 4, 5] bcast_S2x33x128x128x2x1_S2x33x128x128x2x8_0_1_2_3_4_5 (e_v75 m c) := by
  refine (read_pre m c 117 rfl main_v76 (by decide +kernel)).trans ?_
  rw [← show upto preOps (launchContents m c) 117 (Proc.devRef .tc main_v75) = e_v75 m c from keep_pre m c 117 main_v75 (by decide +kernel)]
  rfl

theorem e_v77_eq : e_v77 m c = mulf (e_v76 m c) (e_v72 m c) := by
  refine (read_pre m c 118 rfl main_v77 (by decide +kernel)).trans ?_
  rw [← show upto preOps (launchContents m c) 118 (Proc.devRef .tc main_v76) = e_v76 m c from keep_pre m c 118 main_v76 (by decide +kernel), ← show upto preOps (launchContents m c) 118 (Proc.devRef .tc main_v72) = e_v72 m c from keep_pre m c 118 main_v72 (by decide +kernel)]
  rfl

theorem e_v78_eq : e_v78 m c = broadcastInDim S2x33x1x128x2x8 ![0, 1, 3, 4, 5] bcast_S2x33x128x2x8_S2x33x1x128x2x8_0_1_3_4_5 (e_v55 m c) := by
  refine (read_pre m c 119 rfl main_v78 (by decide +kernel)).trans ?_
  rw [← show upto preOps (launchContents m c) 119 (Proc.devRef .tc main_v55) = e_v55 m c from keep_pre m c 119 main_v55 (by decide +kernel)]
  rfl

theorem e_v79_eq : e_v79 m c = broadcastInDim S2x33x128x128x2x8 ![0, 1, 2, 3, 4, 5] bcast_S2x33x1x128x2x8_S2x33x128x128x2x8_0_1_2_3_4_5 (e_v78 m c) := by
  refine (read_pre m c 120 rfl main_v79 (by decide +kernel)).trans ?_
  rw [← show upto preOps (launchContents m c) 120 (Proc.devRef .tc main_v78) = e_v78 m c from keep_pre m c 120 main_v78 (by decide +kernel)]
  rfl

theorem e_v80_eq : e_v80 m c = mulf (e_v77 m c) (e_v79 m c) := by
  refine (read_pre m c 121 rfl main_v80 (by decide +kernel)).trans ?_
  rw [← show upto preOps (launchContents m c) 121 (Proc.devRef .tc main_v77) = e_v77 m c from keep_pre m c 121 main_v77 (by decide +kernel), ← show upto preOps (launchContents m c) 121 (Proc.devRef .tc main_v79) = e_v79 m c from keep_pre m c 121 main_v79 (by decide +kernel)]
  rfl

theorem e_v81_eq : e_v81 m c = Host.dotGeneral dot_S2x33x128x2x8x64_S2x33x128x128x2x8_S2x33x2x8x64x128_2_3_5_2_0134_0145 none (e_v54 m c) (e_v80 m c) := by
  refine (read_pre m c 122 rfl main_v81 (by decide +kernel)).trans ?_
  rw [← show upto preOps (launchContents m c) 122 (Proc.devRef .tc main_v54) = e_v54 m c from keep_pre m c 122 main_v54 (by decide +kernel), ← show upto preOps (launchContents m c) 122 (Proc.devRef .tc main_v80) = e_v80 m c from keep_pre m c 122 main_v80 (by decide +kernel)]
  rfl

theorem e_v82_eq : e_v82 m c = (transpose S2x33x128x2x8x64 [0, 1, 5, 2, 3, 4] (e_v81 m c) transposes_S2x33x2x8x64x128_S2x33x128x2x8x64_0_1_5_2_3_4) := by
  refine (read_pre m c 123 rfl main_v82 (by decide +kernel)).trans ?_
  rw [← show upto preOps (launchContents m c) 123 (Proc.devRef .tc main_v81) = e_v81 m c from keep_pre m c 123 main_v81 (by decide +kernel)]
  rfl

theorem e_v83_eq : e_v83 m c = (extractStridedSlice S2x33x1x2x8 ![0, 0, 127, 0, 0] (e_v62 m c) slices_S2x33x128x2x8_S2x33x1x2x8_0_0_127_0_0) := by
  refine (read_pre m c 124 rfl main_v83 (by decide +kernel)).trans ?_
  rw [← show upto preOps (launchContents m c) 124 (Proc.devRef .tc main_v62) = e_v62 m c from keep_pre m c 124 main_v62 (by decide +kernel)]
  rfl

theorem e_v84_eq : e_v84 m c = broadcastInDim S2x33x128x2x8 ![0, 1, 2, 3, 4] bcast_S2x33x1x2x8_S2x33x128x2x8_0_1_2_3_4 (e_v83 m c) := by
  refine (read_pre m c 125 rfl main_v84 (by decide +kernel)).trans ?_
  rw [← show upto preOps (launchContents m c) 125 (Proc.devRef .tc main_v83) = e_v83 m c from keep_pre m c 125 main_v83 (by decide +kernel)]
  rfl

theorem e_v85_eq : e_v85 m c = subf (e_v84 m c) (e_v62 m c) := by
  refine (read_pre m c 126 rfl main_v85 (by decide +kernel)).trans ?_
  rw [← show upto preOps (launchContents m c) 126 (Proc.devRef .tc main_v84) = e_v84 m c from keep_pre m c 126 main_v84 (by decide +kernel), ← show upto preOps (launchContents m c) 126 (Proc.devRef .tc main_v62) = e_v62 m c from keep_pre m c 126 main_v62 (by decide +kernel)]
  rfl

theorem e_v86_eq : e_v86 m c = Host.exp (e_v85 m c) := by
  refine (read_pre m c 127 rfl main_v86 (by decide +kernel)).trans ?_
  rw [← show upto preOps (launchContents m c) 127 (Proc.devRef .tc main_v85) = e_v85 m c from keep_pre m c 127 main_v85 (by decide +kernel)]
  rfl

theorem e_v87_eq : e_v87 m c = mulf (e_v86 m c) (e_v55 m c) := by
  refine (read_pre m c 128 rfl main_v87 (by decide +kernel)).trans ?_
  rw [← show upto preOps (launchContents m c) 128 (Proc.devRef .tc main_v86) = e_v86 m c from keep_pre m c 128 main_v86 (by decide +kernel), ← show upto preOps (launchContents m c) 128 (Proc.devRef .tc main_v55) = e_v55 m c from keep_pre m c 128 main_v55 (by decide +kernel)]
  rfl

theorem e_v88_eq : e_v88 m c = broadcastInDim S2x33x128x2x8x1 ![0, 1, 2, 3, 4] bcast_S2x33x128x2x8_S2x33x128x2x8x1_0_1_2_3_4 (e_v87 m c) := by
  refine (read_pre m c 129 rfl main_v88 (by decide +kernel)).trans ?_
  rw [← show upto preOps (launchContents m c) 129 (Proc.devRef .tc main_v87) = e_v87 m c from keep_pre m c 129 main_v87 (by decide +kernel)]
  rfl

theorem e_v89_eq : e_v89 m c = broadcastInDim S2x33x128x2x8x64 ![0, 1, 2, 3, 4, 5] bcast_S2x33x128x2x8x1_S2x33x128x2x8x64_0_1_2_3_4_5 (e_v88 m c) := by
  refine (read_pre m c 130 rfl main_v89 (by decide +kernel)).trans ?_
  rw [← show upto preOps (launchContents m c) 130 (Proc.devRef .tc main_v88) = e_v88 m c from keep_pre m c 130 main_v88 (by decide +kernel)]
  rfl

theorem e_v90_eq : e_v90 m c = mulf (e_v89 m c) (e_v54 m c) := by
  refine (read_pre m c 131 rfl main_v90 (by decide +kernel)).trans ?_
  rw [← show upto preOps (launchContents m c) 131 (Proc.devRef .tc main_v89) = e_v89 m c from keep_pre m c 131 main_v89 (by decide +kernel), ← show upto preOps (launchContents m c) 131 (Proc.devRef .tc main_v54) = e_v54 m c from keep_pre m c 131 main_v54 (by decide +kernel)]
  rfl

theorem e_v91_eq : e_v91 m c = Host.dotGeneral dot_S2x33x128x2x8x64_S2x33x128x2x128_S2x33x2x8x64x128_2_2_45_4_013_013 none (e_v90 m c) (e_v56 m c) := by
  refine (read_pre m c 132 rfl main_v91 (by decide +kernel)).trans ?_
  rw [← show upto preOps (launchContents m c) 132 (Proc.devRef .tc main_v90) = e_v90 m c from keep_pre m c 132 main_v90 (by decide +kernel), ← show upto preOps (launchContents m c) 132 (Proc.devRef .tc main_v56) = e_v56 m c from keep_pre m c 132 main_v56 (by decide +kernel)]
  rfl

theorem e_v92_eq : e_v92 m c = (extractStridedSlice S2x33x1x2x8 ![0, 0, 127, 0, 0] (e_v62 m c) slices_S2x33x128x2x8_S2x33x1x2x8_0_0_127_0_0) := by
  refine (read_pre m c 133 rfl main_v92 (by decide +kernel)).trans ?_
  rw [← show upto preOps (launchContents m c) 133 (Proc.devRef .tc main_v62) = e_v62 m c from keep_pre m c 133 main_v62 (by decide +kernel)]
  rfl

theorem e_v93_eq : e_v93 m c = shapeCast S2x33x2x8 (e_v92 m c) shapeCasts_S2x33x1x2x8_S2x33x2x8 := by
  refine (read_pre m c 134 rfl main_v93 (by decide +kernel)).trans ?_
  rw [← show upto preOps (launchContents m c) 134 (Proc.devRef .tc main_v92) = e_v92 m c from keep_pre m c 134 main_v92 (by decide +kernel)]
  rfl

theorem e_v94_eq : e_v94 m c = Host.exp (e_v93 m c) := by
  refine (read_pre m c 135 rfl main_v94 (by decide +kernel)).trans ?_
  rw [← show upto preOps (launchContents m c) 135 (Proc.devRef .tc main_v93) = e_v93 m c from keep_pre m c 135 main_v93 (by decide +kernel)]
  rfl

theorem e_v95_eq : e_v95 m c = shapeCast S2x2x8x64x128 (e_arg2 m c) shapeCasts_S2x1024x128_S2x2x8x64x128 := by
  refine (read_pre m c 136 rfl main_v95 (by decide +kernel)).trans ?_
  rw [← show upto preOps (launchContents m c) 136 (Proc.devRef .tc main_arg2) = e_arg2 m c from keep_pre m c 136 main_arg2 (by decide +kernel)]
  rfl

theorem e_v96_eq : e_v96 m c = (transpose S33x2x2x8 [1, 0, 2, 3] (e_v94 m c) transposes_S2x33x2x8_S33x2x2x8_1_0_2_3) := by
  refine (read_pre m c 137 rfl main_v96 (by decide +kernel)).trans ?_
  rw [← show upto preOps (launchContents m c) 137 (Proc.devRef .tc main_v94) = e_v94 m c from keep_pre m c 137 main_v94 (by decide +kernel)]
  rfl

theorem e_v97_eq : e_v97 m c = (transpose S33x2x2x8x64x128 [1, 0, 2, 3, 4, 5] (e_v91 m c) transposes_S2x33x2x8x64x128_S33x2x2x8x64x128_1_0_2_3_4_5) := by
  refine (read_pre m c 138 rfl main_v97 (by decide +kernel)).trans ?_
  rw [← show upto preOps (launchContents m c) 138 (Proc.devRef .tc main_v91) = e_v91 m c from keep_pre m c 138 main_v91 (by decide +kernel)]
  rfl

theorem e_cst_2_eq : e_cst_2 m c = (constant S_ .f32 0x00000000#32) := by
  refine (read_pre m c 139 rfl main_cst_2 (by decide +kernel)).trans ?_
  rfl

theorem e_v98_eq : e_v98 m c = broadcastInDim S33x2x2x8x64x128 ![] bcast_S_S33x2x2x8x64x128 (e_cst_2 m c) := by
  refine (read_pre m c 140 rfl main_v98 (by decide +kernel)).trans ?_
  rw [← show upto preOps (launchContents m c) 140 (Proc.devRef .tc main_cst_2) = e_cst_2 m c from keep_pre m c 140 main_cst_2 (by decide +kernel)]
  rfl

theorem e_c_3_eq : e_c_3 m c = (constantI S_ 32 0#32) := by
  refine (read_pre m c 141 rfl main_c_3 (by decide +kernel)).trans ?_
  rfl

theorem e_v99_0_eq : e_v99_0 m c = (e_v96 m c) := by
  refine (read_pre m c 142 rfl main_v99_0 (by decide +kernel)).trans ?_
  rw [← show upto preOps (launchContents m c) 142 (Proc.devRef .tc main_v96) = e_v96 m c from keep_pre m c 142 main_v96 (by decide +kernel)]
  rfl

theorem e_v99_1_eq : e_v99_1 m c = (e_v97 m c) := by
  refine (read_pre m c 143 rfl main_v99_1 (by decide +kernel)).trans ?_
  rw [← show upto preOps (launchContents m c) 143 (Proc.devRef .tc main_v97) = e_v97 m c from keep_pre m c 143 main_v97 (by decide +kernel)]
  rfl

theorem e_v99_2_eq : e_v99_2 m c = (e_c_3 m c) := by
  refine (read_pre m c 144 rfl main_v99_2 (by decide +kernel)).trans ?_
  rw [← show upto preOps (launchContents m c) 144 (Proc.devRef .tc main_c_3) = e_c_3 m c from keep_pre m c 144 main_c_3 (by decide +kernel)]
  rfl

theorem e_v99_3_eq : e_v99_3 m c = (e_v95 m c) := by
  refine (read_pre m c 145 rfl main_v99_3 (by decide +kernel)).trans ?_
  rw [← show upto preOps (launchContents m c) 145 (Proc.devRef .tc main_v95) = e_v95 m c from keep_pre m c 145 main_v95 (by decide +kernel)]
  rfl

theorem e_v99_4_eq : e_v99_4 m c = (e_v98 m c) := by
  refine (read_pre m c 146 rfl main_v99_4 (by decide +kernel)).trans ?_
  rw [← show upto preOps (launchContents m c) 146 (Proc.devRef .tc main_v98) = e_v98 m c from keep_pre m c 146 main_v98 (by decide +kernel)]
  rfl

end Cert.ReferenceIdeal.Line

end
-- ==== Proof.SsdSeq.lean ====
/-
  The mixer over whole sequences, as plain functions of its arguments: the convolved rows, the step sizes, the state before
  each chunk and the gated output of each row.
-/
module

public import proofs.«01_k».proof.Proof.SsdMath
public import Idealize.ShloMosaic.Lib.Pointwise

@[expose] public section

noncomputable section

namespace Cert.Layer

open Idealize.ShloMosaic
open scoped BigOperators

/-- The mixer's arguments, as functions of sequence, row, head and column. -/
structure Mix where
  /-- The columns to convolve. -/
  xb : Fin 2 → Fin 4224 → Fin 1536 → EReal
  /-- The raw step sizes. -/
  dtr : Fin 2 → Fin 4224 → Fin 16 → EReal
  /-- The gate. -/
  z : Fin 2 → Fin 4224 → Fin 1024 → EReal
  /-- The eight rows before the first. -/
  hist : Fin 2 → Fin 8 → Fin 1536 → EReal
  /-- The initial state. -/
  h0 : Fin 2 → Fin 1024 → Fin 128 → EReal
  /-- The four taps of the convolution. -/
  w : Fin 4 → Fin 1536 → EReal
  /-- The convolution's bias. -/
  b : Fin 1536 → EReal
  /-- The bias of the step sizes. -/
  dtb : Fin 16 → EReal
  /-- The logarithm of the rates. -/
  al : Fin 16 → EReal
  /-- The skip weights. -/
  ds : Fin 16 → EReal
  /-- The gain of the closing normalization. -/
  ng : Fin 1024 → EReal

/-- The arguments read off the arrays of a launch. -/
def mixOf (P : (⟨2, ![8448, 13312]⟩ : Shape).Idx → EReal) (Hi : (⟨3, ![2, 8, 1536]⟩ : Shape).Idx → EReal)
    (H0 : (⟨3, ![2, 1024, 128]⟩ : Shape).Idx → EReal) (W : (⟨2, ![4, 1536]⟩ : Shape).Idx → EReal) (B : (⟨1, ![1536]⟩ : Shape).Idx → EReal)
    (D A S : (⟨1, ![16]⟩ : Shape).Idx → EReal) (N : (⟨1, ![1024]⟩ : Shape).Idx → EReal) : Mix where
  xb s t k := P (ix2 ⟨s.val * 4224 + t.val, by omega⟩ ⟨k.val, by omega⟩)
  dtr s t h := P (ix2 ⟨s.val * 4224 + t.val, by omega⟩ ⟨1536 + h.val, by omega⟩)
  z s t k := P (ix2 ⟨s.val * 4224 + t.val, by omega⟩ ⟨3072 + k.val, by omega⟩)
  hist s r k := Hi (ix3 s r k)
  h0 s r k := H0 (ix3 s r k)
  w q k := W (ix2 q k)
  b k := B (ix1 k)
  dtb h := D (ix1 h)
  al h := A (ix1 h)
  ds h := S (ix1 h)
  ng k := N (ix1 k)

namespace Mix

variable (a : Mix) (s : Fin 2)

/-- The sequence's rows, the eight before the first in front. -/
def xpad (j : ℕ) (k : Fin 1536) : EReal :=
  if h : j < 8 then a.hist s ⟨j, h⟩ k else if h' : j - 8 < 4224 then a.xb s ⟨j - 8, h'⟩ k else 0

/-- The convolved and gated row `t`. -/
def act (t : ℕ) (k : Fin 1536) : EReal :=
  silu (a.b k + a.xpad s (5 + t) k * a.w 0 k + a.xpad s (6 + t) k * a.w 1 k + a.xpad s (7 + t) k * a.w 2 k + a.xpad s (8 + t) k * a.w 3 k)

/-- Row `t`'s step sizes. -/
def dt (t : ℕ) (h : Fin 16) : EReal := if h' : t < 4224 then stepAt t (a.dtr s ⟨t, h'⟩ h + a.dtb h) else 0

/-- Chunk `n`'s convolved rows. -/
def cAct (n : ℕ) (l : Fin 128) (k : Fin 1536) : EReal := a.act s (128 * n + l.val) k

/-- Chunk `n`'s step sizes. -/
def cDt (n : ℕ) (l : Fin 128) (h : Fin 16) : EReal := a.dt s (128 * n + l.val) h

/-- Chunk `n`'s running log decay. -/
def cAc (n : ℕ) : Fin 128 → Fin 16 → EReal := acumOf (a.cDt s n) fun h => Ideal.exp (a.al h)

/-- The state before chunk `n`. -/
def st : ℕ → Fin 1024 → Fin 128 → EReal
  | 0 => a.h0 s
  | n + 1 => hOf (a.cAct s n) (a.cDt s n) (a.cAc s n) (st n)

/-- Chunk `n`'s outputs before the gate. -/
def y (n : ℕ) (l : Fin 128) (r : Fin 1024) : EReal := yOf (a.cAct s n) (a.cDt s n) (a.cAc s n) (a.st s n) a.ds l r

/-- The gated and normalized output. -/
def out (n : Fin 33) (l : Fin 128) (r : Fin 1024) : EReal :=
  gatedAt (a.y s n.val l) (a.z s ⟨128 * n.val + l.val, by omega⟩) (a.ng r) r

/-- A chunk's rows, the eight before it in front, are the sequence's. -/
theorem rows_eq (n : ℕ) (hn : n < 33) (p : Fin 8 → Fin 1536 → EReal) (x : Fin 128 → Fin 1536 → EReal)
    (hp : ∀ r k, p r k = a.xpad s (128 * n + r.val) k) (hx : ∀ l k, x l k = a.xb s ⟨128 * n + l.val, by omega⟩ k)
    (r : Fin 136) (k : Fin 1536) : rowsOf p x r k = a.xpad s (128 * n + r.val) k := by
  unfold rowsOf
  by_cases h : r.val < 8
  · rw [dif_pos h, hp]
  · rw [dif_neg h, hx]
    unfold xpad
    rw [dif_neg (by omega), dif_pos (by omega)]
    exact congrArg (fun t => a.xb s t k) (Fin.ext (by show 128 * n + (r.val - 8) = 128 * n + r.val - 8; omega))

/-- A chunk's convolved rows are the sequence's. -/
theorem act_eq (n : ℕ) (hn : n < 33) (p : Fin 8 → Fin 1536 → EReal) (x : Fin 128 → Fin 1536 → EReal)
    (hp : ∀ r k, p r k = a.xpad s (128 * n + r.val) k) (hx : ∀ l k, x l k = a.xb s ⟨128 * n + l.val, by omega⟩ k)
    (w : Fin 4 → Fin 1536 → EReal) (b : Fin 1536 → EReal) (hw : ∀ q k, w q k = a.w q k) (hb : ∀ k, b k = a.b k) :
    actOf (rowsOf p x) w b = a.cAct s n := by
  funext l k
  unfold actOf convOf cAct act
  rw [a.rows_eq s n hn p x hp hx, a.rows_eq s n hn p x hp hx, a.rows_eq s n hn p x hp hx, a.rows_eq s n hn p x hp hx, hb, hw, hw, hw, hw,
    show 128 * n + (5 + l.val) = 5 + (128 * n + l.val) by omega, show 128 * n + (6 + l.val) = 6 + (128 * n + l.val) by omega,
    show 128 * n + (7 + l.val) = 7 + (128 * n + l.val) by omega, show 128 * n + (8 + l.val) = 8 + (128 * n + l.val) by omega]

/-- The last eight rows of a chunk are in front of the next. -/
theorem xpad_next (n : ℕ) (hn : n < 33) (r : Fin 8) (k : Fin 1536) :
    a.xpad s (128 * (n + 1) + r.val) k = a.xb s ⟨128 * n + (120 + r.val), by omega⟩ k := by
  unfold xpad
  rw [dif_neg (by omega), dif_pos (by omega)]
  exact congrArg (fun t => a.xb s t k) (Fin.ext (by show 128 * (n + 1) + r.val - 8 = 128 * n + (120 + r.val); omega))

end Mix

end Cert.Layer

end
-- ==== Proof.SsdRefA.lean ====
/-
  The reference before its loop, at an index: the convolved rows and the step sizes.
-/
module

public import proofs.«01_k».proof.Proof.SsdLineA
public import proofs.«01_k».proof.Proof.SsdSeq
public import Idealize.ShloMosaic.Lib.WordCmp
public import Idealize.ShloMosaic.Lib.Pointwise
public import Idealize.ShloMosaic.Lib.Claim

@[expose] public section

set_option maxRecDepth 16384

noncomputable section

namespace Cert.ReferenceIdeal.Line

open Cert.ReferenceIdeal Cert.ReferenceIdeal.Gen Cert.ReferenceIdeal.Value Idealize.ShloMosaic Idealize.ShloMosaic.TcCoe Idealize.ShloMosaic.StableHlo
open Cert.Layer
open scoped BigOperators

variable (m : (ℓ : Loc nD τ sig) → Buf (Elt Ideal) ℓ) (c : Dev nD)

/-- The reference's arguments, as functions. -/
def mix : Mix := mixOf (e_arg0 m c) (e_arg1 m c) (e_arg2 m c) (e_arg3 m c) (e_arg4 m c) (e_arg5 m c) (e_arg6 m c) (e_arg7 m c) (e_arg8 m c)

/-- The rows to convolve. -/
theorem v1_at (s : Fin 2) (t : Fin 4224) (k : Fin 1536) : e_v1 m c (ix3 s t k) = (mix m c).xb s t k := by
  rw [e_v1_eq, e_v0_eq]
  pointwise
  rfl

/-- The three rows before the first. -/
theorem v4_at (s : Fin 2) (r : Fin 3) (k : Fin 1536) : e_v4 m c (ix3 s r k) = (mix m c).hist s ⟨5 + r.val, by omega⟩ k := by
  rw [e_v4_eq]
  pointwise
  rfl

/-- The rows, three before the first in front. -/
theorem v5_at (s : Fin 2) (j : Fin 4227) (k : Fin 1536) : e_v5 m c (ix3 s j k) = (mix m c).xpad s (5 + j.val) k := by
  rw [e_v5_eq]
  pointwise
  by_cases h : j.val < 3
  · rw [dif_pos h, v4_at]
    unfold Mix.xpad
    rw [dif_pos (by omega)]
  · rw [dif_neg h, v1_at]
    unfold Mix.xpad
    rw [dif_neg (by omega), dif_pos (by omega)]
    exact congrArg (fun t => (mix m c).xb s t k) (Fin.ext (by show j.val - 3 = 5 + j.val - 8; omega))

/-- The convolved rows. -/
theorem v35_at (s : Fin 2) (t : Fin 4224) (k : Fin 1536) : e_v35 m c (ix3 s t k) = (mix m c).b k + (mix m c).xpad s (5 + t.val) k * (mix m c).w 0 k +
    (mix m c).xpad s (6 + t.val) k * (mix m c).w 1 k + (mix m c).xpad s (7 + t.val) k * (mix m c).w 2 k + (mix m c).xpad s (8 + t.val) k * (mix m c).w 3 k := by
  rw [e_v35_eq, e_v28_eq, e_v21_eq, e_v14_eq, e_v13_eq, e_v12_eq, e_v11_eq, e_v10_eq, e_v9_eq, e_v8_eq, e_v7_eq, e_v6_eq,
    e_v20_eq, e_v19_eq, e_v18_eq, e_v17_eq, e_v16_eq, e_v15_eq, e_v27_eq, e_v26_eq, e_v25_eq, e_v24_eq, e_v23_eq, e_v22_eq,
    e_v34_eq, e_v33_eq, e_v32_eq, e_v31_eq, e_v30_eq, e_v29_eq]
  pointwise
  rw [v5_at, v5_at, v5_at, v5_at, show 5 + (⟨t.val, by omega⟩ : Fin 4227).val = 5 + t.val from rfl,
    show 5 + (⟨1 + t.val, by omega⟩ : Fin 4227).val = 6 + t.val by show 5 + (1 + t.val) = _; omega,
    show 5 + (⟨2 + t.val, by omega⟩ : Fin 4227).val = 7 + t.val by show 5 + (2 + t.val) = _; omega,
    show 5 + (⟨3 + t.val, by omega⟩ : Fin 4227).val = 8 + t.val by show 5 + (3 + t.val) = _; omega]
  rfl

/-- The convolved rows, gated. -/
theorem v36_at (s : Fin 2) (t : Fin 4224) (k : Fin 1536) : e_v36 m c (ix3 s t k) = (mix m c).act s t.val k := by
  rw [e_v36_eq, e_call0_v5_eq, e_call0_v4_eq, e_call0_cst_0_eq, e_call0_v3_eq, e_call0_v2_eq, e_call0_cst_eq, e_call0_v1_eq, e_call0_v0_eq]
  pointwise
  rw [v35_at]
  rfl

/-- The step sizes. -/
theorem v46_at (s : Fin 2) (t : Fin 4224) (h : Fin 16) : e_v46 m c (ix3 s t h) = softp ((mix m c).dtr s t h + (mix m c).dtb h) := by
  have e : e_v45 m c (ix3 s t h) = (mix m c).dtr s t h + (mix m c).dtb h := by
    rw [e_v45_eq, e_v44_eq, e_v43_eq, e_v2_eq, e_v0_eq]
    pointwise
    rfl
  rw [e_v46_eq, e_call1_v4_eq, e_call1_v6_eq, e_call1_v11_eq, e_call1_v1_eq, e_call1_v10_eq, e_call1_v9_eq, e_call1_v8_eq, e_call1_v7_eq, e_call1_v5_eq, e_call1_v3_eq, e_call1_v2_eq, e_call1_v0_eq, e_call1_cst_eq]
  pointwise
  rw [e]
  rw [if_neg (by simp)]
  rfl

/-- The masked step sizes. -/
theorem v51_at (s : Fin 2) (t : Fin 4224) (h : Fin 16) : e_v51 m c (ix3 s t h) = (mix m c).dt s t.val h := by
  rw [e_v51_eq, e_call2_v1_eq, e_call2_v2_eq, e_call2_v0_eq, e_cst_eq, e_v50_eq, e_v49_eq, e_v48_eq, e_c_eq, e_v47_eq]
  pointwise
  rw [v46_at]
  rw [WordCmp.cmpi_slt_ofNat (by omega) (by omega)]
  unfold Mix.dt stepAt
  rw [dif_pos t.isLt]
  by_cases h' : t.val < 4112
  · rw [if_pos h']; simp [h', Scalar.select]
  · rw [if_neg h']; simp [h', Scalar.select]

end Cert.ReferenceIdeal.Line

end
-- ==== Proof.SsdCum.lean ====
/-
  The reference's running sum along a chunk, at an index.
-/
module

public import proofs.«01_k».proof.Proof.Gen.ReferenceIdeal.Run
public import proofs.«01_k».proof.Proof.SsdMath
public import Idealize.ShloMosaic.Lib.Pointwise
public import Idealize.ShloMosaic.Lib.Claim

@[expose] public section

set_option maxRecDepth 16384

noncomputable section

namespace Cert.ReferenceIdeal.Line

open Cert.ReferenceIdeal Cert.ReferenceIdeal.Gen Idealize.ShloMosaic
open scoped BigOperators

/-- Adding up a list from the left is the sum. -/
theorem foldl_add {N : ℕ} (f : Fin N → EReal) (v : EReal) : (List.finRange N).foldl (fun r n => r + f n) v = v + ∑ n, f n := by
  have h : ∀ (L : List (Fin N)) (v : EReal), L.foldl (fun r n => r + f n) v = v + (L.map f).sum := by
    intro L
    induction L with
    | nil => intro v; simp
    | cons a L ih => intro v; rw [List.foldl_cons, ih, List.map_cons, List.sum_cons, add_assoc]
  rw [h, ← List.ofFn_eq_map, List.sum_ofFn]

/-- A window ending at `l`, the positions before the first row being zero, holds the rows up to `l`. -/
theorem sum_ending (l : Fin 128) (y : Fin 128 → EReal) :
    (∑ k : Fin 128, if h : 127 ≤ l.val + k.val then y ⟨l.val + k.val - 127, by omega⟩ else 0) = ∑ j : Fin 128, if j ≤ l then y j else 0 := by
  rw [← Finset.sum_filter]
  rw [show (∑ k : Fin 128, if h : 127 ≤ l.val + k.val then y ⟨l.val + k.val - 127, by omega⟩ else 0)
      = ∑ k : Fin 128, if 127 ≤ l.val + k.val then y ⟨l.val + k.val - 127, by omega⟩ else 0 from
    Finset.sum_congr rfl fun k _ => by by_cases h : 127 ≤ l.val + k.val <;> simp [h]]
  rw [← Finset.sum_filter]
  refine Finset.sum_bij' (fun k _ => ⟨l.val + k.val - 127, by omega⟩) (fun j hj => ⟨j.val + 127 - l.val, ?_⟩) ?_ ?_ ?_ ?_ ?_
  · have := Fin.le_def.mp (Finset.mem_filter.mp hj).2
    omega
  · intro k hk
    have := (Finset.mem_filter.mp hk).2
    exact Finset.mem_filter.mpr ⟨Finset.mem_univ _, Fin.le_def.mpr (by show l.val + k.val - 127 ≤ l.val; omega)⟩
  · intro j hj
    have := Fin.le_def.mp (Finset.mem_filter.mp hj).2
    exact Finset.mem_filter.mpr ⟨Finset.mem_univ _, by show 127 ≤ l.val + (j.val + 127 - l.val); omega⟩
  · intro k hk
    have := (Finset.mem_filter.mp hk).2
    exact Fin.ext (by show l.val + k.val - 127 + 127 - l.val = k.val; omega)
  · intro j hj
    have := Fin.le_def.mp (Finset.mem_filter.mp hj).2
    exact Fin.ext (by show l.val + (j.val + 127 - l.val) - 127 = j.val; omega)
  · intro k _
    rfl

/-- The window's places, one per row. -/
def winEquiv : Fin 128 ≃ (⟨5, ![1, 1, 128, 1, 1]⟩ : Shape).Idx where
  toFun k := ix5 0 0 k 0 0
  invFun i := i 2
  left_inv k := rfl
  right_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _

/-- The running sum at a row is the sum of the rows up to it. -/
theorem cumsum_at (x : FVec Ideal S2x33x128x2x8 .f32) (v : FVec Ideal S_ .f32) (hv : ∀ i, v i = 0)
    (hw : S2x33x128x2x8.ReduceWindows ![1, 1, 128, 1, 1] ![1, 1, 1, 1, 1] ![0, 0, 127, 0, 0] ![0, 0, 0, 0, 0] S2x33x128x2x8) (hu : 0 < S_.numel)
    (b : Fin 2) (n : Fin 33) (l : Fin 128) (g : Fin 2) (h : Fin 8) :
    Host.reduceWindowAdd ![1, 1, 128, 1, 1] ![1, 1, 1, 1, 1] ![0, 0, 127, 0, 0] ![0, 0, 0, 0, 0] x v hw hu (ix5 b n l g h) =
      ∑ j : Fin 128, if j ≤ l then x (ix5 b n j g h) else 0 := by
  unfold Host.reduceWindowAdd
  rw [Ideal.hostReduceWindowAdd_def, hv]
  unfold Ideal.hostReduceWindowAdd Host.reduceWindow
  dsimp only
  rw [foldl_add, zero_add]
  rw [← sum_ending l fun j => x (ix5 b n j g h)]
  have key : ∀ G : (⟨5, ![1, 1, 128, 1, 1]⟩ : Shape).Idx → EReal, (∑ q, G ((⟨5, ![1, 1, 128, 1, 1]⟩ : Shape).rowMajor.symm q)) = ∑ k : Fin 128, G (winEquiv k) :=
    fun G => (Equiv.sum_comp _ G).trans (winEquiv.sum_comp G).symm
  refine (Finset.sum_congr rfl fun q _ => ?_).trans (key fun i => if hk : 127 ≤ l.val + (i 2).val then x (ix5 b n ⟨l.val + (i 2).val - 127, by have : (i 2).val < 128 := (i 2).isLt; omega⟩ g h) else 0)
  dsimp only
  have h0 : (((⟨5, ![1, 1, 128, 1, 1]⟩ : Shape).rowMajor.symm q) 0).val = 0 := Nat.lt_one_iff.mp (((⟨5, ![1, 1, 128, 1, 1]⟩ : Shape).rowMajor.symm q) 0).isLt
  have h1 : (((⟨5, ![1, 1, 128, 1, 1]⟩ : Shape).rowMajor.symm q) 1).val = 0 := Nat.lt_one_iff.mp (((⟨5, ![1, 1, 128, 1, 1]⟩ : Shape).rowMajor.symm q) 1).isLt
  have h2 : (((⟨5, ![1, 1, 128, 1, 1]⟩ : Shape).rowMajor.symm q) 2).val < 128 := (((⟨5, ![1, 1, 128, 1, 1]⟩ : Shape).rowMajor.symm q) 2).isLt
  have h3 : (((⟨5, ![1, 1, 128, 1, 1]⟩ : Shape).rowMajor.symm q) 3).val = 0 := Nat.lt_one_iff.mp (((⟨5, ![1, 1, 128, 1, 1]⟩ : Shape).rowMajor.symm q) 3).isLt
  have h4 : (((⟨5, ![1, 1, 128, 1, 1]⟩ : Shape).rowMajor.symm q) 4).val = 0 := Nat.lt_one_iff.mp (((⟨5, ![1, 1, 128, 1, 1]⟩ : Shape).rowMajor.symm q) 4).isLt
  by_cases hk : 127 ≤ l.val + (((⟨5, ![1, 1, 128, 1, 1]⟩ : Shape).rowMajor.symm q) 2).val
  · rw [dif_pos hk, dif_pos (fun a => by
      match a with
      | ⟨0, _⟩ => exact ⟨Nat.zero_le _, by show b.val * 1 + (((⟨5, ![1, 1, 128, 1, 1]⟩ : Shape).rowMajor.symm q) 0).val - 0 < 2; omega⟩
      | ⟨1, _⟩ => exact ⟨Nat.zero_le _, by show n.val * 1 + (((⟨5, ![1, 1, 128, 1, 1]⟩ : Shape).rowMajor.symm q) 1).val - 0 < 33; omega⟩
      | ⟨2, _⟩ => exact ⟨by show 127 ≤ l.val * 1 + (((⟨5, ![1, 1, 128, 1, 1]⟩ : Shape).rowMajor.symm q) 2).val; omega, by show l.val * 1 + (((⟨5, ![1, 1, 128, 1, 1]⟩ : Shape).rowMajor.symm q) 2).val - 127 < 128; omega⟩
      | ⟨3, _⟩ => exact ⟨Nat.zero_le _, by show g.val * 1 + (((⟨5, ![1, 1, 128, 1, 1]⟩ : Shape).rowMajor.symm q) 3).val - 0 < 2; omega⟩
      | ⟨4, _⟩ => exact ⟨Nat.zero_le _, by show h.val * 1 + (((⟨5, ![1, 1, 128, 1, 1]⟩ : Shape).rowMajor.symm q) 4).val - 0 < 8; omega⟩)]
    congr 1
    funext a
    apply Fin.ext
    match a with
    | ⟨0, _⟩ => show b.val * 1 + (((⟨5, ![1, 1, 128, 1, 1]⟩ : Shape).rowMajor.symm q) 0).val - 0 = b.val; omega
    | ⟨1, _⟩ => show n.val * 1 + (((⟨5, ![1, 1, 128, 1, 1]⟩ : Shape).rowMajor.symm q) 1).val - 0 = n.val; omega
    | ⟨2, _⟩ => show l.val * 1 + (((⟨5, ![1, 1, 128, 1, 1]⟩ : Shape).rowMajor.symm q) 2).val - 127 = l.val + (((⟨5, ![1, 1, 128, 1, 1]⟩ : Shape).rowMajor.symm q) 2).val - 127; omega
    | ⟨3, _⟩ => show g.val * 1 + (((⟨5, ![1, 1, 128, 1, 1]⟩ : Shape).rowMajor.symm q) 3).val - 0 = g.val; omega
    | ⟨4, _⟩ => show h.val * 1 + (((⟨5, ![1, 1, 128, 1, 1]⟩ : Shape).rowMajor.symm q) 4).val - 0 = h.val; omega
  · rw [dif_neg hk, dif_neg fun hin => hk (by have := (hin 2).1; change 127 ≤ l.val * 1 + (((⟨5, ![1, 1, 128, 1, 1]⟩ : Shape).rowMajor.symm q) 2).val at this; omega)]

end Cert.ReferenceIdeal.Line

end
-- ==== Proof.SsdRefB.lean ====
/-
  The reference before its loop, at an index: each chunk by itself.
-/
module

public import proofs.«01_k».proof.Proof.SsdRefA
public import proofs.«01_k».proof.Proof.SsdCum
public import proofs.«01_k».proof.Proof.SsdSeq
public import Idealize.ShloMosaic.Lib.WordCmp
public import Idealize.ShloMosaic.Lib.Pointwise
public import Idealize.ShloMosaic.Lib.Claim

@[expose] public section

set_option maxRecDepth 16384

noncomputable section

namespace Cert.ReferenceIdeal.Line

open Cert.ReferenceIdeal Cert.ReferenceIdeal.Gen Cert.ReferenceIdeal.Value Idealize.ShloMosaic Idealize.ShloMosaic.TcCoe Idealize.ShloMosaic.StableHlo
open Cert.Layer
open scoped BigOperators

variable (m : (ℓ : Loc nD τ sig) → Buf (Elt Ideal) ℓ) (c : Dev nD)

/-- The state row of a group's head's column. -/
def row (g : Fin 2) (h : Fin 8) (p : Fin 64) : Fin 1024 := ⟨512 * g.val + 64 * h.val + p.val, by omega⟩

/-- The head of a group's head. -/
def head (g : Fin 2) (h : Fin 8) : Fin 16 := ⟨8 * g.val + h.val, by omega⟩

/-- A chunk's row, found in the sequence. -/
theorem act_cAct (a : Mix) (s : Fin 2) (n : Fin 33) (l : Fin 128) (k k' : Fin 1536) (hk : k.val = k'.val) :
    a.act s (n.val * 128 + l.val) k = a.cAct s n.val l k' := by
  unfold Mix.cAct
  rw [Nat.mul_comm, Fin.ext hk]

/-- The columns that enter the state. -/
theorem v54_at (s : Fin 2) (n : Fin 33) (l : Fin 128) (g : Fin 2) (h : Fin 8) (p : Fin 64) :
    e_v54 m c (ix6 s n l g h p) = (mix m c).cAct s n.val l (xcol (row g h p)) := by
  rw [e_v54_eq, e_v38_eq, e_v37_eq]
  pointwise
  rw [v36_at]
  exact act_cAct _ s n l _ _ (by show g.val * 512 + h.val * 64 + p.val = 512 * g.val + 64 * h.val + p.val; omega)

/-- The input projections. -/
theorem v56_at (s : Fin 2) (n : Fin 33) (l : Fin 128) (g : Fin 2) (k : Fin 128) :
    e_v56 m c (ix5 s n l g k) = (mix m c).cAct s n.val l (bcol g k) := by
  rw [e_v56_eq, e_v40_eq, e_v39_eq]
  pointwise
  rw [v36_at]
  exact act_cAct _ s n l _ _ (by show 1024 + (g.val * 128 + k.val) = 1024 + 128 * g.val + k.val; omega)

/-- The output projections. -/
theorem v57_at (s : Fin 2) (n : Fin 33) (l : Fin 128) (g : Fin 2) (k : Fin 128) :
    e_v57 m c (ix5 s n l g k) = (mix m c).cAct s n.val l (ccol g k) := by
  rw [e_v57_eq, e_v42_eq, e_v41_eq]
  pointwise
  rw [v36_at]
  exact act_cAct _ s n l _ _ (by show 1280 + (g.val * 128 + k.val) = 1280 + 128 * g.val + k.val; omega)

/-- The step sizes, by chunk. -/
theorem v55_at (s : Fin 2) (n : Fin 33) (l : Fin 128) (g : Fin 2) (h : Fin 8) :
    e_v55 m c (ix5 s n l g h) = (mix m c).cDt s n.val l (head g h) := by
  rw [e_v55_eq]
  pointwise
  rw [v51_at]
  unfold Mix.cDt
  rw [show (⟨n.val * 128 + l.val, by omega⟩ : Fin 4224).val = 128 * n.val + l.val by show n.val * 128 + l.val = _; omega]
  exact congrArg _ (Fin.ext (by show g.val * 8 + h.val = 8 * g.val + h.val; omega))

/-- The steps scaled by the rates. -/
theorem v61_at (s : Fin 2) (n : Fin 33) (l : Fin 128) (g : Fin 2) (h : Fin 8) :
    e_v61 m c (ix5 s n l g h) = (mix m c).cDt s n.val l (head g h) * -Ideal.exp ((mix m c).al (head g h)) := by
  rw [e_v61_eq, e_v60_eq, e_v59_eq, e_v58_eq, e_v53_eq, e_v52_eq]
  pointwise
  rw [v55_at]
  have e : (⟨g.val * 8 + h.val, by omega⟩ : Fin 16) = head g h := Fin.ext (by show g.val * 8 + h.val = 8 * g.val + h.val; omega)
  rw [e]
  rfl

/-- The running log decay. -/
theorem v62_at (s : Fin 2) (n : Fin 33) (l : Fin 128) (g : Fin 2) (h : Fin 8) :
    e_v62 m c (ix5 s n l g h) = (mix m c).cAc s n.val l (head g h) := by
  rw [e_v62_eq, cumsum_at _ _ (fun i => by rw [e_call3_call0_v0_eq, e_call3_call0_cst_eq]; pointwise)]
  unfold Mix.cAc acumOf
  exact Finset.sum_congr rfl fun j _ => by rw [v61_at]

/-- The decay from row `j` to row `l`. -/
theorem v72_at (s : Fin 2) (n : Fin 33) (l j : Fin 128) (g : Fin 2) (h : Fin 8) :
    e_v72 m c (ix6 s n l j g h) = Ideal.exp (if j ≤ l then (mix m c).cAc s n.val l (head g h) - (mix m c).cAc s n.val j (head g h) else ninf) := by
  rw [e_v72_eq, e_v71_eq, e_call5_v1_eq, e_call5_v2_eq, e_call5_v0_eq, e_cst_1_eq, e_v70_eq, e_v69_eq, e_v68_eq, e_v67_eq, e_v66_eq, e_v65_eq,
    e_v64_eq, e_call4_v5_eq, e_call4_c_0_eq, e_call4_v4_eq, e_call4_v3_eq, e_call4_v2_eq, e_call4_v1_eq, e_call4_c_eq, e_call4_v0_eq, e_v63_eq, e_c_0_eq]
  pointwise
  rw [v62_at, v62_at, show IntOp.addi (BitVec.ofNat 32 l.val) 0#32 = BitVec.ofNat 32 l.val from BitVec.add_zero _]
  by_cases hj : j ≤ l
  · rw [WordCmp.cmpi_sge_ofNat (by omega) (by omega), if_pos hj]
    have hj' : j.val ≤ l.val := hj
    simp [hj', Scalar.select]
  · rw [WordCmp.cmpi_sge_ofNat (by omega) (by omega), if_neg hj]
    have hj' : ¬ j.val ≤ l.val := hj
    simp [hj', Scalar.select]
    rfl

/-- The weight of row `j` in row `l`'s output. -/
theorem v80_at (s : Fin 2) (n : Fin 33) (l j : Fin 128) (g : Fin 2) (h : Fin 8) :
    e_v80 m c (ix6 s n l j g h) = wtOf ((mix m c).cAct s n.val) ((mix m c).cDt s n.val) ((mix m c).cAc s n.val) g (head g h) l j := by
  rw [e_v80_eq, e_v79_eq, e_v78_eq, e_v77_eq, e_v76_eq, e_v75_eq, e_v74_eq, e_v73_eq]
  pointwise
  rw [v72_at, v55_at]
  unfold wtOf cbOf
  rw [Finset.sum_congr rfl fun x _ => by rw [v56_at, v57_at, mul_comm]]

/-- The output from within the chunk. -/
theorem v82_at (s : Fin 2) (n : Fin 33) (l : Fin 128) (g : Fin 2) (h : Fin 8) (p : Fin 64) :
    e_v82 m c (ix6 s n l g h p) = ∑ j : Fin 128, wtOf ((mix m c).cAct s n.val) ((mix m c).cDt s n.val) ((mix m c).cAc s n.val) g (head g h) l j * (mix m c).cAct s n.val j (xcol (row g h p)) := by
  rw [e_v82_eq, e_v81_eq]
  pointwise
  exact Finset.sum_congr rfl fun x _ => by rw [v54_at, v80_at, mul_comm]

/-- What a chunk adds to the state. -/
theorem v91_at (s : Fin 2) (n : Fin 33) (g : Fin 2) (h : Fin 8) (p : Fin 64) (k : Fin 128) :
    e_v91 m c (ix6 s n g h p k) = ∑ l : Fin 128, (mix m c).cAct s n.val l (xcol (row g h p)) *
      (Ideal.exp ((mix m c).cAc s n.val 127 (head g h) - (mix m c).cAc s n.val l (head g h)) * (mix m c).cDt s n.val l (head g h)) * (mix m c).cAct s n.val l (bcol g k) := by
  rw [e_v91_eq, e_v90_eq, e_v89_eq, e_v88_eq, e_v87_eq, e_v86_eq, e_v85_eq, e_v84_eq, e_v83_eq]
  pointwise
  refine Finset.sum_congr rfl fun x _ => ?_
  rw [v54_at, v55_at, v56_at, v62_at, v62_at]
  exact congrArg (· * _) (mul_comm _ _)

/-- A chunk's decay. -/
theorem v94_at (s : Fin 2) (n : Fin 33) (g : Fin 2) (h : Fin 8) :
    e_v94 m c (ix4 s n g h) = Ideal.exp ((mix m c).cAc s n.val 127 (head g h)) := by
  rw [e_v94_eq, e_v93_eq, e_v92_eq]
  pointwise
  rw [v62_at]

/-- The chunks' decays, as the loop reads them. -/
theorem v99_0_at (n : Fin 33) (s : Fin 2) (g : Fin 2) (h : Fin 8) :
    e_v99_0 m c (ix4 n s g h) = Ideal.exp ((mix m c).cAc s n.val 127 (head g h)) := by
  rw [e_v99_0_eq, e_v96_eq]
  pointwise
  rw [v94_at]

/-- What each chunk adds, as the loop reads it. -/
theorem v99_1_at (n : Fin 33) (s : Fin 2) (g : Fin 2) (h : Fin 8) (p : Fin 64) (k : Fin 128) :
    e_v99_1 m c (ix6 n s g h p k) = ∑ l : Fin 128, (mix m c).cAct s n.val l (xcol (row g h p)) *
      (Ideal.exp ((mix m c).cAc s n.val 127 (head g h) - (mix m c).cAc s n.val l (head g h)) * (mix m c).cDt s n.val l (head g h)) * (mix m c).cAct s n.val l (bcol g k) := by
  rw [e_v99_1_eq, e_v97_eq]
  pointwise
  rw [v91_at]

/-- The initial state. -/
theorem v99_3_at (s : Fin 2) (g : Fin 2) (h : Fin 8) (p : Fin 64) (k : Fin 128) :
    e_v99_3 m c (ix5 s g h p k) = (mix m c).h0 s (row g h p) k := by
  rw [e_v99_3_eq, e_v95_eq]
  pointwise
  have e : (⟨g.val * 512 + h.val * 64 + p.val, by omega⟩ : Fin 1024) = row g h p := Fin.ext (by show g.val * 512 + h.val * 64 + p.val = 512 * g.val + 64 * h.val + p.val; omega)
  rw [e]
  rfl

end Cert.ReferenceIdeal.Line

end
-- ==== Proof.SsdLoop.lean ====
/-
  The loop of the reference: before each trip the state is the sequence’s, and the stack holds the states before the chunks.
-/
module

public import proofs.«01_k».proof.Proof.SsdRefB
public import proofs.«01_k».proof.Proof.SsdSeq
public import Idealize.ShloMosaic.Lib.WordCmp
public import Idealize.ShloMosaic.Lib.Pointwise
public import Idealize.ShloMosaic.Lib.Claim

@[expose] public section

set_option maxRecDepth 16384

noncomputable section

namespace Cert.ReferenceIdeal.Line

open Cert.ReferenceIdeal Cert.ReferenceIdeal.Gen Cert.ReferenceIdeal.Value Idealize.ShloMosaic Idealize.ShloMosaic.TcCoe Idealize.ShloMosaic.StableHlo
open Cert.Layer
open scoped BigOperators

variable (m : (ℓ : Loc nD τ sig) → Buf (Elt Ideal) ℓ) (c : Dev nD)

/-- A trip's state from the state before, the chunk's decay and what it adds. -/
theorem trip_state (A0 : FVec Ideal S33x2x2x8 .f32) (A1 : FVec Ideal S33x2x2x8x64x128 .f32) (A3 : FVec Ideal S2x2x8x64x128 .f32)
    (w : (⟨S_, .i32⟩ : BufTy).Contents (Elt Ideal)) (k : ℕ) (hk : k < 33) (hw : w = fun _ => BitVec.ofNat 32 k)
    (s g : Fin 2) (h : Fin 8) (p : Fin 64) (q : Fin 128) :
    addf (mulf (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2 (shapeCast S2x2x8 (Host.dynamicSlice S1x2x2x8 A0 (fun k => (((![w, constantI S_ 32 0#32, constantI S_ 32 0#32, constantI S_ 32 0#32] : Fin 4 → (⟨S_, .i32⟩ : BufTy).Contents (Elt Ideal))) k (Shape.Idx.first h_S_)).toInt) sliceFits_S33x2x2x8_S1x2x2x8) shapeCasts_S1x2x2x8_S2x2x8))) A3)
      (shapeCast S2x2x8x64x128 (Host.dynamicSlice S1x2x2x8x64x128 A1 (fun k => (((![w, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) sliceFits_S33x2x2x8x64x128_S1x2x2x8x64x128) shapeCasts_S1x2x2x8x64x128_S2x2x8x64x128)
      (ix5 s g h p q) = A0 (ix4 ⟨k, hk⟩ s g h) * A3 (ix5 s g h p q) + A1 (ix6 ⟨k, hk⟩ s g h p q) := by
  subst hw
  rw [WordCmp.dynamicSlice_eq_extract S1x2x2x8 A0 _ _ ![k, 0, 0, 0] ⟨rfl, fun a => by
      match a with
      | ⟨0, _⟩ => show k + 1 ≤ 33; omega
      | ⟨1, _⟩ => show 0 + 2 ≤ 2; omega
      | ⟨2, _⟩ => show 0 + 2 ≤ 2; omega
      | ⟨3, _⟩ => show 0 + 8 ≤ 8; omega⟩ (fun a => by
      match a with
      | ⟨0, _⟩ => exact WordCmp.toInt_ofNat_of_lt (by omega)
      | ⟨1, _⟩ => rfl
      | ⟨2, _⟩ => rfl
      | ⟨3, _⟩ => rfl),
    WordCmp.dynamicSlice_eq_extract S1x2x2x8x64x128 A1 _ _ ![k, 0, 0, 0, 0, 0] ⟨rfl, fun a => by
      match a with
      | ⟨0, _⟩ => show k + 1 ≤ 33; omega
      | ⟨1, _⟩ => show 0 + 2 ≤ 2; omega
      | ⟨2, _⟩ => show 0 + 2 ≤ 2; omega
      | ⟨3, _⟩ => show 0 + 8 ≤ 8; omega
      | ⟨4, _⟩ => show 0 + 64 ≤ 64; omega
      | ⟨5, _⟩ => show 0 + 128 ≤ 128; omega⟩ (fun a => by
      match a with
      | ⟨0, _⟩ => exact WordCmp.toInt_ofNat_of_lt (by omega)
      | ⟨1, _⟩ => rfl
      | ⟨2, _⟩ => rfl
      | ⟨3, _⟩ => rfl
      | ⟨4, _⟩ => rfl
      | ⟨5, _⟩ => rfl)]
  pointwise

/-- A trip's stack of states: the state before the trip, put at the trip's place. -/
theorem trip_stack (A4 : FVec Ideal S33x2x2x8x64x128 .f32) (A3 : FVec Ideal S2x2x8x64x128 .f32)
    (w : (⟨S_, .i32⟩ : BufTy).Contents (Elt Ideal)) (k : ℕ) (hk : k < 33) (hw : w = fun _ => BitVec.ofNat 32 k)
    (j : Fin 33) (s g : Fin 2) (h : Fin 8) (p : Fin 64) (q : Fin 128) :
    Host.dynamicUpdateSlice A4 (broadcastInDim S1x2x2x8x64x128 ![1, 2, 3, 4, 5] bcast_S2x2x8x64x128_S1x2x2x8x64x128_1_2_3_4_5 A3) (fun k => (((![w, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) updateFits_S33x2x2x8x64x128_S1x2x2x8x64x128
      (ix6 j s g h p q) = if j.val = k then A3 (ix5 s g h p q) else A4 (ix6 j s g h p q) := by
  subst hw
  refine Eq.trans (congrFun (WordCmp.dynamicUpdateSlice_eq_update (α := Elt Ideal .f32) (s := S33x2x2x8x64x128) (u := S1x2x2x8x64x128) A4 _ _ _ ![k, 0, 0, 0, 0, 0] ⟨rfl, fun a => by
      match a with
      | ⟨0, _⟩ => show k + 1 ≤ 33; omega
      | ⟨1, _⟩ => show 0 + 2 ≤ 2; omega
      | ⟨2, _⟩ => show 0 + 2 ≤ 2; omega
      | ⟨3, _⟩ => show 0 + 8 ≤ 8; omega
      | ⟨4, _⟩ => show 0 + 64 ≤ 64; omega
      | ⟨5, _⟩ => show 0 + 128 ≤ 128; omega⟩ (fun a => by
      match a with
      | ⟨0, _⟩ => exact WordCmp.toInt_ofNat_of_lt (by omega)
      | ⟨1, _⟩ => rfl
      | ⟨2, _⟩ => rfl
      | ⟨3, _⟩ => rfl
      | ⟨4, _⟩ => rfl
      | ⟨5, _⟩ => rfl)) _) ?_
  unfold updateSlice
  by_cases hj : j.val = k
  · rw [if_pos hj, dif_pos (fun a => by
      match a with
      | ⟨0, _⟩ => exact ⟨by show k ≤ j.val; omega, by show j.val < k + 1; omega⟩
      | ⟨1, _⟩ => exact ⟨Nat.zero_le _, by show s.val < 0 + 2; omega⟩
      | ⟨2, _⟩ => exact ⟨Nat.zero_le _, by show g.val < 0 + 2; omega⟩
      | ⟨3, _⟩ => exact ⟨Nat.zero_le _, by show h.val < 0 + 8; omega⟩
      | ⟨4, _⟩ => exact ⟨Nat.zero_le _, by show p.val < 0 + 64; omega⟩
      | ⟨5, _⟩ => exact ⟨Nat.zero_le _, by show q.val < 0 + 128; omega⟩)]
    pointwise
  · rw [if_neg hj, dif_neg fun hin => hj (by have := hin 0; change k ≤ j.val ∧ j.val < k + 1 at this; omega)]

/-- The state before trip `k`. -/
def loopSt (k : ℕ) : FVec Ideal S2x2x8x64x128 .f32 := STEP^[k] (E m c) (Proc.devRef .tc main_v99_3)

/-- The stack of states before trip `k`. -/
def loopStack (k : ℕ) : FVec Ideal S33x2x2x8x64x128 .f32 := STEP^[k] (E m c) (Proc.devRef .tc main_v99_4)

/-- The decays do not change. -/
theorem loop_0 (k : ℕ) : STEP^[k] (E m c) (Proc.devRef .tc main_v99_0) = e_v99_0 m c := by
  induction k with
  | zero => rfl
  | succ k ih => rw [Function.iterate_succ_apply', STEP_main_v99_0, ih]

/-- What the chunks add does not change. -/
theorem loop_1 (k : ℕ) : STEP^[k] (E m c) (Proc.devRef .tc main_v99_1) = e_v99_1 m c := by
  induction k with
  | zero => rfl
  | succ k ih => rw [Function.iterate_succ_apply', STEP_main_v99_1, ih]

/-- The counter. -/
theorem loop_2 (k : ℕ) : STEP^[k] (E m c) (Proc.devRef .tc main_v99_2) = fun _ => BitVec.ofNat 32 k := by
  induction k with
  | zero =>
    show e_v99_2 m c = _
    rw [e_v99_2_eq, e_c_3_eq]
    rfl
  | succ k ih =>
    rw [Function.iterate_succ_apply', STEP_main_v99_2]
    unfold step_main_v99_2
    rw [ih]
    funext i
    show BitVec.ofNat 32 k + 1#32 = _
    rw [BitVec.ofNat_add]

/-- The state after a trip. -/
theorem loopSt_succ (k : ℕ) (hk : k < 33) (s g : Fin 2) (h : Fin 8) (p : Fin 64) (q : Fin 128) :
    loopSt m c (k + 1) (ix5 s g h p q) = e_v99_0 m c (ix4 ⟨k, hk⟩ s g h) * loopSt m c k (ix5 s g h p q) + e_v99_1 m c (ix6 ⟨k, hk⟩ s g h p q) := by
  have e : loopSt m c (k + 1) = step_main_v99_3 (STEP^[k] (E m c)) := by
    unfold loopSt
    rw [Function.iterate_succ_apply', STEP_main_v99_3]
  rw [e]
  unfold step_main_v99_3
  rw [loop_0, loop_1]
  exact trip_state (e_v99_0 m c) (e_v99_1 m c) (loopSt m c k) _ k hk (loop_2 m c k) s g h p q

/-- The stack after a trip. -/
theorem loopStack_succ (k : ℕ) (hk : k < 33) (j : Fin 33) (s g : Fin 2) (h : Fin 8) (p : Fin 64) (q : Fin 128) :
    loopStack m c (k + 1) (ix6 j s g h p q) = if j.val = k then loopSt m c k (ix5 s g h p q) else loopStack m c k (ix6 j s g h p q) := by
  have e : loopStack m c (k + 1) = step_main_v99_4 (STEP^[k] (E m c)) := by
    unfold loopStack
    rw [Function.iterate_succ_apply', STEP_main_v99_4]
  rw [e]
  exact trip_stack (loopStack m c k) (loopSt m c k) _ k hk (loop_2 m c k) j s g h p q

/-- The head of a state row. -/
theorem hd_row (g : Fin 2) (h : Fin 8) (p : Fin 64) : hd (row g h p) = head g h :=
  Fin.ext (by show (512 * g.val + 64 * h.val + p.val) / 64 = 8 * g.val + h.val; omega)

/-- The group of a state row. -/
theorem gr_row (g : Fin 2) (h : Fin 8) (p : Fin 64) : gr (row g h p) = g :=
  Fin.ext (by show (512 * g.val + 64 * h.val + p.val) / 512 = g.val; omega)

/-- Before each trip the state is the sequence's. -/
theorem loopSt_at (k : ℕ) (hk : k ≤ 33) (s g : Fin 2) (h : Fin 8) (p : Fin 64) (q : Fin 128) :
    loopSt m c k (ix5 s g h p q) = (mix m c).st s k (row g h p) q := by
  induction k with
  | zero => exact v99_3_at m c s g h p q
  | succ k ih =>
    rw [loopSt_succ m c k (by omega), ih (by omega), v99_0_at, v99_1_at]
    show _ = hOf _ _ _ _ _ _
    unfold hOf
    rw [hd_row, gr_row]

/-- After enough trips the stack holds every chunk's state. -/
theorem loopStack_at (k : ℕ) (hk : k ≤ 33) (j : Fin 33) (hj : j.val < k) (s g : Fin 2) (h : Fin 8) (p : Fin 64) (q : Fin 128) :
    loopStack m c k (ix6 j s g h p q) = (mix m c).st s j.val (row g h p) q := by
  induction k with
  | zero => exact absurd hj (Nat.not_lt_zero _)
  | succ k ih =>
    rw [loopStack_succ m c k (by omega)]
    by_cases e : j.val = k
    · rw [if_pos e, loopSt_at m c k (by omega), e]
    · rw [if_neg e, ih (by omega) (by omega)]

/-- The state the program ends with. -/
theorem z_v99_3_at (s g : Fin 2) (h : Fin 8) (p : Fin 64) (q : Fin 128) :
    z_v99_3 m c (ix5 s g h p q) = (mix m c).st s 33 (row g h p) q := by
  have e : z_v99_3 m c = loopSt m c 33 := by
    refine (after_unwritten postW postOps_writes (by decide +kernel) (X m c)).trans ?_
    unfold X loopSt
    rw [after_of_writes_sub condOps _ condOps_writes (by decide +kernel), ← entry_eq]
    exact atK_agree m c 33 main_v99_3 (by decide)
  rw [e, loopSt_at m c 33 le_rfl]

/-- The stack the program ends with. -/
theorem z_v99_4_at (j : Fin 33) (s g : Fin 2) (h : Fin 8) (p : Fin 64) (q : Fin 128) :
    z_v99_4 m c (ix6 j s g h p q) = (mix m c).st s j.val (row g h p) q := by
  have e : z_v99_4 m c = loopStack m c 33 := by
    refine (after_unwritten postW postOps_writes (by decide +kernel) (X m c)).trans ?_
    unfold X loopStack
    rw [after_of_writes_sub condOps _ condOps_writes (by decide +kernel), ← entry_eq]
    exact atK_agree m c 33 main_v99_4 (by decide)
  rw [e, loopStack_at m c 33 le_rfl j j.isLt]

end Cert.ReferenceIdeal.Line

end
-- ==== Proof.SsdLineZ.lean ====
/-
  The reference after its loop, one equation per operation.
-/
module

public import proofs.«01_k».proof.Proof.SsdLine

@[expose] public section

set_option maxRecDepth 16384

noncomputable section

namespace Cert.ReferenceIdeal.Line

open Cert.ReferenceIdeal Cert.ReferenceIdeal.Gen Cert.ReferenceIdeal.Value Idealize.ShloMosaic Idealize.ShloMosaic.TcCoe Idealize.ShloMosaic.StableHlo

variable (m : (ℓ : Loc nD τ sig) → Buf (Elt Ideal) ℓ) (c : Dev nD)

theorem z_v100_eq : z_v100 m c = Host.dotGeneral dot_S33x2x2x8x64x128_S2x33x128x2x128_S2x33x2x8x64x128_5_4_34_2_102_013 none (z_v99_4 m c) (z_v57 m c) := by
  refine (read_post m c 0 rfl main_v100 (by decide +kernel)).trans ?_
  rw [← show upto postOps (X m c) 0 (Proc.devRef .tc main_v99_4) = z_v99_4 m c from keep_post m c 0 main_v99_4 (by decide +kernel), ← show upto postOps (X m c) 0 (Proc.devRef .tc main_v57) = z_v57 m c from keep_post m c 0 main_v57 (by decide +kernel)]
  rfl

theorem z_v101_eq : z_v101 m c = (transpose S2x33x128x2x8x64 [0, 1, 5, 2, 3, 4] (z_v100 m c) transposes_S2x33x2x8x64x128_S2x33x128x2x8x64_0_1_5_2_3_4) := by
  refine (read_post m c 1 rfl main_v101 (by decide +kernel)).trans ?_
  rw [← show upto postOps (X m c) 1 (Proc.devRef .tc main_v100) = z_v100 m c from keep_post m c 1 main_v100 (by decide +kernel)]
  rfl

theorem z_v102_eq : z_v102 m c = Host.exp (z_v62 m c) := by
  refine (read_post m c 2 rfl main_v102 (by decide +kernel)).trans ?_
  rw [← show upto postOps (X m c) 2 (Proc.devRef .tc main_v62) = z_v62 m c from keep_post m c 2 main_v62 (by decide +kernel)]
  rfl

theorem z_v103_eq : z_v103 m c = broadcastInDim S2x33x128x2x8x1 ![0, 1, 2, 3, 4] bcast_S2x33x128x2x8_S2x33x128x2x8x1_0_1_2_3_4 (z_v102 m c) := by
  refine (read_post m c 3 rfl main_v103 (by decide +kernel)).trans ?_
  rw [← show upto postOps (X m c) 3 (Proc.devRef .tc main_v102) = z_v102 m c from keep_post m c 3 main_v102 (by decide +kernel)]
  rfl

theorem z_v104_eq : z_v104 m c = broadcastInDim S2x33x128x2x8x64 ![0, 1, 2, 3, 4, 5] bcast_S2x33x128x2x8x1_S2x33x128x2x8x64_0_1_2_3_4_5 (z_v103 m c) := by
  refine (read_post m c 4 rfl main_v104 (by decide +kernel)).trans ?_
  rw [← show upto postOps (X m c) 4 (Proc.devRef .tc main_v103) = z_v103 m c from keep_post m c 4 main_v103 (by decide +kernel)]
  rfl

theorem z_v105_eq : z_v105 m c = mulf (z_v101 m c) (z_v104 m c) := by
  refine (read_post m c 5 rfl main_v105 (by decide +kernel)).trans ?_
  rw [← show upto postOps (X m c) 5 (Proc.devRef .tc main_v101) = z_v101 m c from keep_post m c 5 main_v101 (by decide +kernel), ← show upto postOps (X m c) 5 (Proc.devRef .tc main_v104) = z_v104 m c from keep_post m c 5 main_v104 (by decide +kernel)]
  rfl

theorem z_v106_eq : z_v106 m c = addf (z_v82 m c) (z_v105 m c) := by
  refine (read_post m c 6 rfl main_v106 (by decide +kernel)).trans ?_
  rw [← show upto postOps (X m c) 6 (Proc.devRef .tc main_v82) = z_v82 m c from keep_post m c 6 main_v82 (by decide +kernel), ← show upto postOps (X m c) 6 (Proc.devRef .tc main_v105) = z_v105 m c from keep_post m c 6 main_v105 (by decide +kernel)]
  rfl

theorem z_v107_eq : z_v107 m c = shapeCast S2x4224x16x64 (z_v106 m c) shapeCasts_S2x33x128x2x8x64_S2x4224x16x64 := by
  refine (read_post m c 7 rfl main_v107 (by decide +kernel)).trans ?_
  rw [← show upto postOps (X m c) 7 (Proc.devRef .tc main_v106) = z_v106 m c from keep_post m c 7 main_v106 (by decide +kernel)]
  rfl

theorem z_v108_eq : z_v108 m c = shapeCast S2x16x64x128 (z_v99_3 m c) shapeCasts_S2x2x8x64x128_S2x16x64x128 := by
  refine (read_post m c 8 rfl main_v108 (by decide +kernel)).trans ?_
  rw [← show upto postOps (X m c) 8 (Proc.devRef .tc main_v99_3) = z_v99_3 m c from keep_post m c 8 main_v99_3 (by decide +kernel)]
  rfl

theorem z_v109_eq : z_v109 m c = broadcastInDim S16x1 ![0] bcast_S16_S16x1_0 (z_arg7 m c) := by
  refine (read_post m c 9 rfl main_v109 (by decide +kernel)).trans ?_
  rw [← show upto postOps (X m c) 9 (Proc.devRef .tc main_arg7) = z_arg7 m c from keep_post m c 9 main_arg7 (by decide +kernel)]
  rfl

theorem z_v110_eq : z_v110 m c = broadcastInDim S1x1x16x1 ![2, 3] bcast_S16x1_S1x1x16x1_2_3 (z_v109 m c) := by
  refine (read_post m c 10 rfl main_v110 (by decide +kernel)).trans ?_
  rw [← show upto postOps (X m c) 10 (Proc.devRef .tc main_v109) = z_v109 m c from keep_post m c 10 main_v109 (by decide +kernel)]
  rfl

theorem z_v111_eq : z_v111 m c = broadcastInDim S2x4224x16x64 ![0, 1, 2, 3] bcast_S1x1x16x1_S2x4224x16x64_0_1_2_3 (z_v110 m c) := by
  refine (read_post m c 11 rfl main_v111 (by decide +kernel)).trans ?_
  rw [← show upto postOps (X m c) 11 (Proc.devRef .tc main_v110) = z_v110 m c from keep_post m c 11 main_v110 (by decide +kernel)]
  rfl

theorem z_v112_eq : z_v112 m c = mulf (z_v111 m c) (z_v38 m c) := by
  refine (read_post m c 12 rfl main_v112 (by decide +kernel)).trans ?_
  rw [← show upto postOps (X m c) 12 (Proc.devRef .tc main_v111) = z_v111 m c from keep_post m c 12 main_v111 (by decide +kernel), ← show upto postOps (X m c) 12 (Proc.devRef .tc main_v38) = z_v38 m c from keep_post m c 12 main_v38 (by decide +kernel)]
  rfl

theorem z_v113_eq : z_v113 m c = addf (z_v107 m c) (z_v112 m c) := by
  refine (read_post m c 13 rfl main_v113 (by decide +kernel)).trans ?_
  rw [← show upto postOps (X m c) 13 (Proc.devRef .tc main_v107) = z_v107 m c from keep_post m c 13 main_v107 (by decide +kernel), ← show upto postOps (X m c) 13 (Proc.devRef .tc main_v112) = z_v112 m c from keep_post m c 13 main_v112 (by decide +kernel)]
  rfl

theorem z_v114_eq : z_v114 m c = shapeCast S2x4224x1024 (z_v113 m c) shapeCasts_S2x4224x16x64_S2x4224x1024 := by
  refine (read_post m c 14 rfl main_v114 (by decide +kernel)).trans ?_
  rw [← show upto postOps (X m c) 14 (Proc.devRef .tc main_v113) = z_v113 m c from keep_post m c 14 main_v113 (by decide +kernel)]
  rfl

theorem z_call9_v0_eq : z_call9_v0 m c = Host.negf (z_v3 m c) := by
  refine (read_post m c 15 rfl main_call9_v0 (by decide +kernel)).trans ?_
  rw [← show upto postOps (X m c) 15 (Proc.devRef .tc main_v3) = z_v3 m c from keep_post m c 15 main_v3 (by decide +kernel)]
  rfl

theorem z_call9_v1_eq : z_call9_v1 m c = Host.exp (z_call9_v0 m c) := by
  refine (read_post m c 16 rfl main_call9_v1 (by decide +kernel)).trans ?_
  rw [← show upto postOps (X m c) 16 (Proc.devRef .tc main_call9_v0) = z_call9_v0 m c from keep_post m c 16 main_call9_v0 (by decide +kernel)]
  rfl

theorem z_call9_cst_eq : z_call9_cst m c = (constant S_ .f32 0x3F800000#32) := by
  refine (read_post m c 17 rfl main_call9_cst (by decide +kernel)).trans ?_
  rfl

theorem z_call9_v2_eq : z_call9_v2 m c = (broadcastInDim S2x4224x1024 ![] bcast_S_S2x4224x1024) (z_call9_cst m c) := by
  refine (read_post m c 18 rfl main_call9_v2 (by decide +kernel)).trans ?_
  rw [← show upto postOps (X m c) 18 (Proc.devRef .tc main_call9_cst) = z_call9_cst m c from keep_post m c 18 main_call9_cst (by decide +kernel)]
  rfl

theorem z_call9_v3_eq : z_call9_v3 m c = addf (z_call9_v2 m c) (z_call9_v1 m c) := by
  refine (read_post m c 19 rfl main_call9_v3 (by decide +kernel)).trans ?_
  rw [← show upto postOps (X m c) 19 (Proc.devRef .tc main_call9_v2) = z_call9_v2 m c from keep_post m c 19 main_call9_v2 (by decide +kernel), ← show upto postOps (X m c) 19 (Proc.devRef .tc main_call9_v1) = z_call9_v1 m c from keep_post m c 19 main_call9_v1 (by decide +kernel)]
  rfl

theorem z_call9_cst_0_eq : z_call9_cst_0 m c = (constant S_ .f32 0x3F800000#32) := by
  refine (read_post m c 20 rfl main_call9_cst_0 (by decide +kernel)).trans ?_
  rfl

theorem z_call9_v4_eq : z_call9_v4 m c = (broadcastInDim S2x4224x1024 ![] bcast_S_S2x4224x1024) (z_call9_cst_0 m c) := by
  refine (read_post m c 21 rfl main_call9_v4 (by decide +kernel)).trans ?_
  rw [← show upto postOps (X m c) 21 (Proc.devRef .tc main_call9_cst_0) = z_call9_cst_0 m c from keep_post m c 21 main_call9_cst_0 (by decide +kernel)]
  rfl

theorem z_call9_v5_eq : z_call9_v5 m c = Host.divf (z_call9_v4 m c) (z_call9_v3 m c) := by
  refine (read_post m c 22 rfl main_call9_v5 (by decide +kernel)).trans ?_
  rw [← show upto postOps (X m c) 22 (Proc.devRef .tc main_call9_v4) = z_call9_v4 m c from keep_post m c 22 main_call9_v4 (by decide +kernel), ← show upto postOps (X m c) 22 (Proc.devRef .tc main_call9_v3) = z_call9_v3 m c from keep_post m c 22 main_call9_v3 (by decide +kernel)]
  rfl

theorem z_v115_eq : z_v115 m c = mulf (z_v3 m c) (z_call9_v5 m c) := by
  refine (read_post m c 23 rfl main_v115 (by decide +kernel)).trans ?_
  rw [← show upto postOps (X m c) 23 (Proc.devRef .tc main_v3) = z_v3 m c from keep_post m c 23 main_v3 (by decide +kernel), ← show upto postOps (X m c) 23 (Proc.devRef .tc main_call9_v5) = z_call9_v5 m c from keep_post m c 23 main_call9_v5 (by decide +kernel)]
  rfl

theorem z_v116_eq : z_v116 m c = mulf (z_v114 m c) (z_v115 m c) := by
  refine (read_post m c 24 rfl main_v116 (by decide +kernel)).trans ?_
  rw [← show upto postOps (X m c) 24 (Proc.devRef .tc main_v114) = z_v114 m c from keep_post m c 24 main_v114 (by decide +kernel), ← show upto postOps (X m c) 24 (Proc.devRef .tc main_v115) = z_v115 m c from keep_post m c 24 main_v115 (by decide +kernel)]
  rfl

theorem z_v117_eq : z_v117 m c = mulf (z_v116 m c) (z_v116 m c) := by
  refine (read_post m c 25 rfl main_v117 (by decide +kernel)).trans ?_
  rw [← show upto postOps (X m c) 25 (Proc.devRef .tc main_v116) = z_v116 m c from keep_post m c 25 main_v116 (by decide +kernel)]
  rfl

theorem z_cst_4_eq : z_cst_4 m c = (constant S_ .f32 0x00000000#32) := by
  refine (read_post m c 26 rfl main_cst_4 (by decide +kernel)).trans ?_
  rfl

theorem z_v118_eq : z_v118 m c = Host.reduceAdd (z_v117 m c) (z_cst_4 m c) reducesTo_S2x4224x1024_S2x4224_d2 h_S_ := by
  refine (read_post m c 27 rfl main_v118 (by decide +kernel)).trans ?_
  rw [← show upto postOps (X m c) 27 (Proc.devRef .tc main_v117) = z_v117 m c from keep_post m c 27 main_v117 (by decide +kernel), ← show upto postOps (X m c) 27 (Proc.devRef .tc main_cst_4) = z_cst_4 m c from keep_post m c 27 main_cst_4 (by decide +kernel)]
  rfl

theorem z_v119_eq : z_v119 m c = broadcastInDim S2x4224x1 ![0, 1] bcast_S2x4224_S2x4224x1_0_1 (z_v118 m c) := by
  refine (read_post m c 28 rfl main_v119 (by decide +kernel)).trans ?_
  rw [← show upto postOps (X m c) 28 (Proc.devRef .tc main_v118) = z_v118 m c from keep_post m c 28 main_v118 (by decide +kernel)]
  rfl

theorem z_cst_5_eq : z_cst_5 m c = (constant S_ .f32 0x44800000#32) := by
  refine (read_post m c 29 rfl main_cst_5 (by decide +kernel)).trans ?_
  rfl

theorem z_v120_eq : z_v120 m c = broadcastInDim S2x4224x1 ![] bcast_S_S2x4224x1 (z_cst_5 m c) := by
  refine (read_post m c 30 rfl main_v120 (by decide +kernel)).trans ?_
  rw [← show upto postOps (X m c) 30 (Proc.devRef .tc main_cst_5) = z_cst_5 m c from keep_post m c 30 main_cst_5 (by decide +kernel)]
  rfl

theorem z_v121_eq : z_v121 m c = Host.divf (z_v119 m c) (z_v120 m c) := by
  refine (read_post m c 31 rfl main_v121 (by decide +kernel)).trans ?_
  rw [← show upto postOps (X m c) 31 (Proc.devRef .tc main_v119) = z_v119 m c from keep_post m c 31 main_v119 (by decide +kernel), ← show upto postOps (X m c) 31 (Proc.devRef .tc main_v120) = z_v120 m c from keep_post m c 31 main_v120 (by decide +kernel)]
  rfl

theorem z_cst_6_eq : z_cst_6 m c = (constant S_ .f32 0x358637BD#32) := by
  refine (read_post m c 32 rfl main_cst_6 (by decide +kernel)).trans ?_
  rfl

theorem z_v122_eq : z_v122 m c = broadcastInDim S2x4224x1 ![] bcast_S_S2x4224x1 (z_cst_6 m c) := by
  refine (read_post m c 33 rfl main_v122 (by decide +kernel)).trans ?_
  rw [← show upto postOps (X m c) 33 (Proc.devRef .tc main_cst_6) = z_cst_6 m c from keep_post m c 33 main_cst_6 (by decide +kernel)]
  rfl

theorem z_v123_eq : z_v123 m c = addf (z_v121 m c) (z_v122 m c) := by
  refine (read_post m c 34 rfl main_v123 (by decide +kernel)).trans ?_
  rw [← show upto postOps (X m c) 34 (Proc.devRef .tc main_v121) = z_v121 m c from keep_post m c 34 main_v121 (by decide +kernel), ← show upto postOps (X m c) 34 (Proc.devRef .tc main_v122) = z_v122 m c from keep_post m c 34 main_v122 (by decide +kernel)]
  rfl

theorem z_v124_eq : z_v124 m c = Host.rsqrt (z_v123 m c) := by
  refine (read_post m c 35 rfl main_v124 (by decide +kernel)).trans ?_
  rw [← show upto postOps (X m c) 35 (Proc.devRef .tc main_v123) = z_v123 m c from keep_post m c 35 main_v123 (by decide +kernel)]
  rfl

theorem z_v125_eq : z_v125 m c = broadcastInDim S2x4224x1024 ![0, 1, 2] bcast_S2x4224x1_S2x4224x1024_0_1_2 (z_v124 m c) := by
  refine (read_post m c 36 rfl main_v125 (by decide +kernel)).trans ?_
  rw [← show upto postOps (X m c) 36 (Proc.devRef .tc main_v124) = z_v124 m c from keep_post m c 36 main_v124 (by decide +kernel)]
  rfl

theorem z_v126_eq : z_v126 m c = mulf (z_v116 m c) (z_v125 m c) := by
  refine (read_post m c 37 rfl main_v126 (by decide +kernel)).trans ?_
  rw [← show upto postOps (X m c) 37 (Proc.devRef .tc main_v116) = z_v116 m c from keep_post m c 37 main_v116 (by decide +kernel), ← show upto postOps (X m c) 37 (Proc.devRef .tc main_v125) = z_v125 m c from keep_post m c 37 main_v125 (by decide +kernel)]
  rfl

theorem z_v127_eq : z_v127 m c = broadcastInDim S1x1x1024 ![2] bcast_S1024_S1x1x1024_2 (z_arg8 m c) := by
  refine (read_post m c 38 rfl main_v127 (by decide +kernel)).trans ?_
  rw [← show upto postOps (X m c) 38 (Proc.devRef .tc main_arg8) = z_arg8 m c from keep_post m c 38 main_arg8 (by decide +kernel)]
  rfl

theorem z_v128_eq : z_v128 m c = broadcastInDim S2x4224x1024 ![0, 1, 2] bcast_S1x1x1024_S2x4224x1024_0_1_2 (z_v127 m c) := by
  refine (read_post m c 39 rfl main_v128 (by decide +kernel)).trans ?_
  rw [← show upto postOps (X m c) 39 (Proc.devRef .tc main_v127) = z_v127 m c from keep_post m c 39 main_v127 (by decide +kernel)]
  rfl

theorem z_v129_eq : z_v129 m c = mulf (z_v126 m c) (z_v128 m c) := by
  refine (read_post m c 40 rfl main_v129 (by decide +kernel)).trans ?_
  rw [← show upto postOps (X m c) 40 (Proc.devRef .tc main_v126) = z_v126 m c from keep_post m c 40 main_v126 (by decide +kernel), ← show upto postOps (X m c) 40 (Proc.devRef .tc main_v128) = z_v128 m c from keep_post m c 40 main_v128 (by decide +kernel)]
  rfl

theorem z_v130_eq : z_v130 m c = shapeCast S8448x1024 (z_v129 m c) shapeCasts_S2x4224x1024_S8448x1024 := by
  refine (read_post m c 41 rfl main_v130 (by decide +kernel)).trans ?_
  rw [← show upto postOps (X m c) 41 (Proc.devRef .tc main_v129) = z_v129 m c from keep_post m c 41 main_v129 (by decide +kernel)]
  rfl

theorem z_v131_eq : z_v131 m c = (truncf .bf16 (z_v130 m c) bitsLt_bf16_f32) := by
  refine (read_post m c 42 rfl main_v131 (by decide +kernel)).trans ?_
  rw [← show upto postOps (X m c) 42 (Proc.devRef .tc main_v130) = z_v130 m c from keep_post m c 42 main_v130 (by decide +kernel)]
  rfl

theorem z_v132_eq : z_v132 m c = shapeCast S2x1024x128 (z_v108 m c) shapeCasts_S2x16x64x128_S2x1024x128 := by
  refine (read_post m c 43 rfl main_v132 (by decide +kernel)).trans ?_
  rw [← show upto postOps (X m c) 43 (Proc.devRef .tc main_v108) = z_v108 m c from keep_post m c 43 main_v108 (by decide +kernel)]
  rfl

end Cert.ReferenceIdeal.Line

end
-- ==== Proof.SsdRefC.lean ====
/-
  The reference after its loop, at an index: its two results are the mixer’s.
-/
module

public import proofs.«01_k».proof.Proof.SsdLoop
public import proofs.«01_k».proof.Proof.SsdLineZ
public import proofs.«01_k».proof.Proof.SsdSeq
public import Idealize.ShloMosaic.Lib.WordCmp
public import Idealize.ShloMosaic.Lib.Pointwise
public import Idealize.ShloMosaic.Lib.Claim

@[expose] public section

set_option maxRecDepth 16384

noncomputable section

namespace Cert.ReferenceIdeal.Line

open Cert.ReferenceIdeal Cert.ReferenceIdeal.Gen Cert.ReferenceIdeal.Value Idealize.ShloMosaic Idealize.ShloMosaic.TcCoe Idealize.ShloMosaic.StableHlo
open Cert.Layer
open scoped BigOperators

variable (m : (ℓ : Loc nD τ sig) → Buf (Elt Ideal) ℓ) (c : Dev nD)

/-- A state row from its head and its place in it. -/
theorem row_split (r : Fin 1024) : row ⟨r.val / 64 / 8, by omega⟩ ⟨r.val / 64 % 8, by omega⟩ ⟨r.val % 64, by omega⟩ = r :=
  Fin.ext (by show 512 * (r.val / 64 / 8) + 64 * (r.val / 64 % 8) + r.val % 64 = r.val; omega)

/-- A state row's head from its group and its place in it. -/
theorem head_split (r : Fin 1024) : head ⟨r.val / 64 / 8, by omega⟩ ⟨r.val / 64 % 8, by omega⟩ = hd r :=
  Fin.ext (by show 8 * (r.val / 64 / 8) + r.val / 64 % 8 = r.val / 64; omega)

/-- A state row's group from its head. -/
theorem gr_split (r : Fin 1024) : (⟨r.val / 64 / 8, by omega⟩ : Fin 2) = gr r :=
  Fin.ext (by show r.val / 64 / 8 = r.val / 512; omega)

/-- The output before the gate, by chunk. -/
theorem z_v106_at (s : Fin 2) (n : Fin 33) (l : Fin 128) (g : Fin 2) (h : Fin 8) (p : Fin 64) :
    z_v106 m c (ix6 s n l g h p) = (∑ j : Fin 128, wtOf ((mix m c).cAct s n.val) ((mix m c).cDt s n.val) ((mix m c).cAc s n.val) g (head g h) l j * (mix m c).cAct s n.val j (xcol (row g h p)))
      + (∑ k : Fin 128, (mix m c).cAct s n.val l (ccol g k) * (mix m c).st s n.val (row g h p) k) * Ideal.exp ((mix m c).cAc s n.val l (head g h)) := by
  rw [z_v106_eq, z_v105_eq, z_v104_eq, z_v103_eq, z_v102_eq, z_v101_eq, z_v100_eq, z_v82_keep, z_v57_keep, z_v62_keep]
  pointwise
  rw [v82_at, v62_at]
  refine congrArg₂ (· + ·) rfl (congrArg₂ (· * ·) (Finset.sum_congr rfl fun k _ => ?_) rfl)
  rw [z_v99_4_at, v57_at]
  exact mul_comm _ _

/-- The output before the gate. -/
theorem z_v114_at (s : Fin 2) (n : Fin 33) (l : Fin 128) (r : Fin 1024) :
    z_v114 m c (ix3 s ⟨128 * n.val + l.val, by omega⟩ r) = (mix m c).y s n.val l r := by
  rw [z_v114_eq, z_v113_eq, z_v112_eq, z_v111_eq, z_v110_eq, z_v109_eq, z_v107_eq, z_arg7_keep, z_v38_keep, e_v38_eq, e_v37_eq]
  pointwise
  rw [z_v106_at, v36_at, row_split, head_split, gr_split]
  have ed : e_arg7 m c (ix1 ⟨r.val / 64, by omega⟩) = (mix m c).ds (hd r) := rfl
  have ea : (mix m c).act s (128 * n.val + l.val) ⟨r.val, by omega⟩ = (mix m c).cAct s n.val l (xcol r) := rfl
  unfold Mix.y yOf
  refine congrArg₂ (· + ·) rfl ?_
  exact (congrArg₂ (· * ·) ed ea :)

/-- The gate. -/
theorem z_v115_at (s : Fin 2) (t : Fin 4224) (r : Fin 1024) : z_v115 m c (ix3 s t r) = silu ((mix m c).z s t r) := by
  have e : z_v3 m c (ix3 s t r) = (mix m c).z s t r := by
    rw [z_v3_keep, e_v3_eq, e_v0_eq]
    pointwise
    rfl
  rw [z_v115_eq, z_call9_v5_eq, z_call9_v4_eq, z_call9_cst_0_eq, z_call9_v3_eq, z_call9_v2_eq, z_call9_cst_eq, z_call9_v1_eq, z_call9_v0_eq]
  pointwise
  rw [e]
  rfl

/-- The first result. -/
theorem z_v131_at (s : Fin 2) (n : Fin 33) (l : Fin 128) (r : Fin 1024) :
    z_v131 m c (ix2 ⟨s.val * 4224 + (128 * n.val + l.val), by omega⟩ r) = (mix m c).out s n l r := by
  rw [z_v131_eq, z_v130_eq, z_v129_eq, z_v128_eq, z_v127_eq, z_v126_eq, z_v125_eq, z_v124_eq, z_v123_eq, z_v122_eq, z_cst_6_eq, z_v121_eq, z_v120_eq, z_cst_5_eq, z_v119_eq, z_v118_eq, z_cst_4_eq, z_v117_eq, z_v116_eq, z_arg8_keep]
  pointwise
  have e : ∀ x : Fin 1024, z_v114 m c (ix3 s ⟨(s.val * 4224 + (128 * n.val + l.val)) % 4224, by omega⟩ x) = (mix m c).y s n.val l x := fun x => by
    rw [← z_v114_at]
    refine congrArg (fun t => z_v114 m c (ix3 s t x)) (Fin.ext ?_)
    show (s.val * 4224 + (128 * n.val + l.val)) % 4224 = 128 * n.val + l.val
    omega
  have e' : ∀ x : Fin 1024, z_v115 m c (ix3 s ⟨(s.val * 4224 + (128 * n.val + l.val)) % 4224, by omega⟩ x) = silu ((mix m c).z s ⟨128 * n.val + l.val, by omega⟩ x) := fun x => by
    rw [← z_v115_at]
    refine congrArg (fun t => z_v115 m c (ix3 s t x)) (Fin.ext ?_)
    show (s.val * 4224 + (128 * n.val + l.val)) % 4224 = 128 * n.val + l.val
    omega
  simp only [e, e']
  rfl

/-- The second result. -/
theorem z_v132_at (s : Fin 2) (r : Fin 1024) (k : Fin 128) : z_v132 m c (ix3 s r k) = (mix m c).st s 33 r k := by
  rw [z_v132_eq, z_v108_eq]
  pointwise
  refine Eq.trans ?_ (congrArg (fun r => (mix m c).st s 33 r k) (row_split r))
  rw [← z_v99_3_at]
  refine congrArg (fun g => z_v99_3 m c (ix5 s g ⟨r.val / 64 % 8, by omega⟩ ⟨r.val % 64, by omega⟩ k)) (Fin.ext ?_)
  show r.val / 512 = r.val / 64 / 8
  omega

end Cert.ReferenceIdeal.Line

end
-- ==== Proof.SsdInput.lean ====
/-
  The mixer kernel's windows: what each block read at a grid point holds, as entries of the launch's arguments.
-/
module

public import proofs.«01_k».proof.Proof.SsdSeq
public import Idealize.ShloMosaic.Lib.WordCmp
public import proofs.«01_k».proof.Proof.Gen.KernelIdeal.Value
public import Idealize.ShloMosaic.Lib.Pointwise
public import Idealize.ShloMosaic.Lib.Claim
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.Layer
open scoped BigOperators

variable (m : (ℓ : Loc nD τ sig) → Buf (Elt Ideal) ℓ)

/-- The launch's arguments, as functions. -/
def mix (c : Dev nD) : Mix := mixOf (m ((c : Thread nD τ).loc main_arg0) : S8448x13312.Idx → EReal) (m ((c : Thread nD τ).loc main_arg1) : S2x8x1536.Idx → EReal) (m ((c : Thread nD τ).loc main_arg2) : S2x1024x128.Idx → EReal)
  (m ((c : Thread nD τ).loc main_arg3) : S4x1536.Idx → EReal) (m ((c : Thread nD τ).loc main_arg4) : S1536.Idx → EReal) (m ((c : Thread nD τ).loc main_arg5) : S16.Idx → EReal) (m ((c : Thread nD τ).loc main_arg6) : S16.Idx → EReal) (m ((c : Thread nD τ).loc main_arg7) : S16.Idx → EReal) (m ((c : Thread nD τ).loc main_arg8) : S1024.Idx → EReal)

/-- The windows' block indices. -/
theorem index_facts : ∀ t : Fin grid0.N,
    (win0_0.index t 0 = t.val ∧ win0_0.index t 1 = 0) ∧ (win0_1.index t 0 = t.val ∧ win0_1.index t 1 = 3)
    ∧ (win0_2.index t 0 = t.val / 33 ∧ win0_2.index t 1 = 0 ∧ win0_2.index t 2 = 0)
    ∧ (win0_3.index t 0 = t.val / 33 ∧ win0_3.index t 1 = 0 ∧ win0_3.index t 2 = 0)
    ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) ∧ (grid0.coords t 1).val = t.val % 33 := by decide +kernel

/-- Argument 4 as the region finds it, one row. -/
theorem V_v8 (c : Dev nD) (k : Fin 1536) : (V m c main_v8 : S1x1536.Idx → EReal) (ix2 0 k) = (m ((c : Thread nD τ).loc main_arg4) : S1536.Idx → EReal) (ix1 k) := by
  have e : (V m c main_v8 : S1x1536.Idx → EReal) = shapeCast S1x1536 (m ((c : Thread nD τ).loc main_arg4) : Vec Ideal S1536 .f32) shapeCasts_S1536_S1x1536 := by
    entry_read
    rfl
  rw [e]
  pointwise

/-- Argument 5 as the region finds it, one row. -/
theorem V_v9 (c : Dev nD) (k : Fin 16) : (V m c main_v9 : S1x16.Idx → EReal) (ix2 0 k) = (m ((c : Thread nD τ).loc main_arg5) : S16.Idx → EReal) (ix1 k) := by
  have e : (V m c main_v9 : S1x16.Idx → EReal) = shapeCast S1x16 (m ((c : Thread nD τ).loc main_arg5) : Vec Ideal S16 .f32) shapeCasts_S16_S1x16 := by
    entry_read
    rfl
  rw [e]
  pointwise

/-- Argument 6 as the region finds it, one row. -/
theorem V_v10 (c : Dev nD) (k : Fin 16) : (V m c main_v10 : S1x16.Idx → EReal) (ix2 0 k) = (m ((c : Thread nD τ).loc main_arg6) : S16.Idx → EReal) (ix1 k) := by
  have e : (V m c main_v10 : S1x16.Idx → EReal) = shapeCast S1x16 (m ((c : Thread nD τ).loc main_arg6) : Vec Ideal S16 .f32) shapeCasts_S16_S1x16 := by
    entry_read
    rfl
  rw [e]
  pointwise

/-- Argument 8 as the region finds it, one row. -/
theorem V_v14 (c : Dev nD) (k : Fin 1024) : (V m c main_v14 : S1x1024.Idx → EReal) (ix2 0 k) = (m ((c : Thread nD τ).loc main_arg8) : S1024.Idx → EReal) (ix1 k) := by
  have e : (V m c main_v14 : S1x1024.Idx → EReal) = shapeCast S1x1024 (m ((c : Thread nD τ).loc main_arg8) : Vec Ideal S1024 .f32) shapeCasts_S1024_S1x1024 := by
    entry_read
    rfl
  rw [e]
  pointwise

/-- The skip weights as the region finds them: each head's repeated over its columns. -/
theorem V_v13 (c : Dev nD) (r : Fin 1024) : (V m c main_v13 : S1x1024.Idx → EReal) (ix2 0 r) = (m ((c : Thread nD τ).loc main_arg7) : S16.Idx → EReal) (ix1 (hd r)) := by
  have e : (V m c main_v13 : S1x1024.Idx → EReal) = shapeCast S1x1024 (shapeCast S1024 (broadcastInDim S16x64 ![0] bcast_S16_S16x64_0 (m ((c : Thread nD τ).loc main_arg7) : Vec Ideal S16 .f32)) shapeCasts_S16x64_S1024) shapeCasts_S1024_S1x1024 := by
    entry_read
    rfl
  rw [e]
  pointwise
  rfl

/-- The spreading matrix as the region finds it. -/
theorem V_v7_eq (c : Dev nD) : (V m c main_v7 : S16x1024.Idx → EReal) = shapeCast S16x1024 (broadcastInDim S16x16x64 ![0, 1] bcast_S16x16_S16x16x64_0_1
    (uitofp (F := Ideal) .f32 (cmpi .eq (addi (iotaInDim S16x16 32 0) (broadcastInDim S16x16 ![] bcast_S_S16x16 (constantI S_ 32 0#32))) (iotaInDim S16x16 32 1)) : Vec Ideal S16x16 .f32)) shapeCasts_S16x16x64_S16x1024 := by
  entry_read
  rfl

/-- The test of two heads' numbers, as words. -/
theorem head_eq : ∀ h q : Fin 16, IntOp.cmpi CmpIPredicate.eq (IntOp.addi (BitVec.ofNat 32 h.val) 0#32) (BitVec.ofNat 32 q.val) = if h = q then 1#1 else 0#1 := by
  decide +kernel

/-- The spreading matrix has a one where the column is one of the head's. -/
theorem V_v7 (c : Dev nD) (h : Fin 16) (r : Fin 1024) : (V m c main_v7 : S16x1024.Idx → EReal) (ix2 h r) = (if h = hd r then 1 else 0 : EReal) := by
  rw [V_v7_eq]
  pointwise
  have e : r.val / 64 = (hd r).val := rfl
  rw [e, head_eq]
  by_cases h' : h = hd r
  · rw [if_pos h', if_pos h']; show ((((1#1 : BitVec 1).toNat : ℕ) : ℝ) : EReal) = 1; simp
  · rw [if_neg h', if_neg h']; show ((((0#1 : BitVec 1).toNat : ℕ) : ℝ) : EReal) = 0; simp

/-- Its transpose. -/
theorem V_v15 (c : Dev nD) (h : Fin 16) (r : Fin 1024) : (V m c main_v15 : S1024x16.Idx → EReal) (ix2 r h) = (if h = hd r then 1 else 0 : EReal) := by
  rw [← V_v7 m c h r]
  have e : (V m c main_v15 : S1024x16.Idx → EReal) = transpose S1024x16 [1, 0] (V m c main_v7 : Vec Ideal S16x1024 .f32) transposes_S16x1024_S1024x16_1_0 := by
    rw [V_v7_eq]
    entry_read
    rfl
  rw [e]
  pointwise

/-- The first coordinate of the grid's second axis. -/
theorem coord1 (t : Fin cfg0.N) : (grid0.coords t 1).val = t.val % 33 := (index_facts t).2.2.2.2.2.2.2.2.2.2.2.2

/-- The projection window's block. -/
theorem X0_at (c : Dev nD) (t : Fin cfg0.N) (l : Fin 128) (q : Fin 2048) (R : Fin 8448) (hR : R.val = t.val * 128 + l.val) :
    (X0_0 m c t : S128x2048.Idx → EReal) (ix2 l q) = (m ((c : Thread nD τ).loc main_arg0) : S8448x13312.Idx → EReal) (ix2 R ⟨q.val, by omega⟩) := by
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 128 + 1 * l.val = R.val; rw [(index_facts t).1.1]; omega
  | ⟨1, _⟩ => show win0_0.index t 1 * 2048 + 1 * q.val = q.val; rw [(index_facts t).1.2]; omega

/-- The gate window's block. -/
theorem iblk1 (c : Dev nD) (t : Fin cfg0.N) (l : Fin 128) (q : Fin 1024) (R : Fin 8448) (hR : R.val = t.val * 128 + l.val) :
    (iblk m c 1 t : S128x1024.Idx → EReal) (ix2 l q) = (m ((c : Thread nD τ).loc main_arg0) : S8448x13312.Idx → EReal) (ix2 R ⟨3072 + q.val, by omega⟩) := by
  unfold iblk
  rw [View.read_apply]
  show V m c main_arg0 _ = _
  rw [V_main_arg0]
  congr 1
  funext a
  apply Fin.ext
  match a with
  | ⟨0, _⟩ => show win0_1.index t 0 * 128 + 1 * l.val = R.val; rw [(index_facts t).2.1.1]; omega
  | ⟨1, _⟩ => show win0_1.index t 1 * 1024 + 1 * q.val = 3072 + q.val; rw [(index_facts t).2.1.2]; omega

/-- The history window's block. -/
theorem iblk2 (c : Dev nD) (t : Fin cfg0.N) (r : Fin 8) (k : Fin 1536) (b : Fin 2) (hb : b.val = t.val / 33) :
    (iblk m c 2 t : S1x8x1536.Idx → EReal) (ix3 0 r k) = (m ((c : Thread nD τ).loc main_arg1) : S2x8x1536.Idx → EReal) (ix3 b r k) := by
  unfold iblk
  rw [View.read_apply]
  show V m c main_arg1 _ = _
  rw [V_main_arg1]
  congr 1
  funext a
  apply Fin.ext
  match a with
  | ⟨0, _⟩ => show win0_2.index t 0 * 1 + 1 * 0 = b.val; rw [(index_facts t).2.2.1.1]; omega
  | ⟨1, _⟩ => show win0_2.index t 1 * 8 + 1 * r.val = r.val; rw [(index_facts t).2.2.1.2.1]; omega
  | ⟨2, _⟩ => show win0_2.index t 2 * 1536 + 1 * k.val = k.val; rw [(index_facts t).2.2.1.2.2]; omega

/-- The initial state window's block. -/
theorem iblk3 (c : Dev nD) (t : Fin cfg0.N) (r : Fin 1024) (k : Fin 128) (b : Fin 2) (hb : b.val = t.val / 33) :
    (iblk m c 3 t : S1x1024x128.Idx → EReal) (ix3 0 r k) = (m ((c : Thread nD τ).loc main_arg2) : S2x1024x128.Idx → EReal) (ix3 b r k) := by
  unfold iblk
  rw [View.read_apply]
  show V m c main_arg2 _ = _
  rw [V_main_arg2]
  congr 1
  funext a
  apply Fin.ext
  match a with
  | ⟨0, _⟩ => show win0_3.index t 0 * 1 + 1 * 0 = b.val; rw [(index_facts t).2.2.2.1.1]; omega
  | ⟨1, _⟩ => show win0_3.index t 1 * 1024 + 1 * r.val = r.val; rw [(index_facts t).2.2.2.1.2.1]; omega
  | ⟨2, _⟩ => show win0_3.index t 2 * 128 + 1 * k.val = k.val; rw [(index_facts t).2.2.2.1.2.2]; omega

/-- Window 4's block is the whole operand. -/
theorem iblk4 (c : Dev nD) (t : Fin cfg0.N) (r : Fin 4) (k : Fin 1536) :
    (iblk m c 4 t : S4x1536.Idx → EReal) (ix2 r k) = (V m c main_arg3 : S4x1536.Idx → EReal) (ix2 r k) := by
  unfold iblk
  rw [View.read_apply]
  show (V m c main_arg3 : S4x1536.Idx → EReal) _ = _
  congr 1
  funext a
  apply Fin.ext
  match a with
  | ⟨0, _⟩ => show win0_4.index t 0 * 4 + 1 * r.val = r.val; rw [(index_facts t).2.2.2.2.1.1]; omega
  | ⟨1, _⟩ => show win0_4.index t 1 * 1536 + 1 * k.val = k.val; rw [(index_facts t).2.2.2.2.1.2]; omega

/-- Window 5's block is the whole operand. -/
theorem iblk5 (c : Dev nD) (t : Fin cfg0.N) (k : Fin 1536) :
    (iblk m c 5 t : S1x1536.Idx → EReal) (ix2 0 k) = (V m c main_v8 : S1x1536.Idx → EReal) (ix2 0 k) := by
  unfold iblk
  rw [View.read_apply]
  show (V m c main_v8 : S1x1536.Idx → EReal) _ = _
  congr 1
  funext a
  apply Fin.ext
  match a with
  | ⟨0, _⟩ => show win0_5.index t 0 * 1 + 1 * 0 = 0; rw [(index_facts t).2.2.2.2.2.1.1]
  | ⟨1, _⟩ => show win0_5.index t 1 * 1536 + 1 * k.val = k.val; rw [(index_facts t).2.2.2.2.2.1.2]; omega

/-- Window 6's block is the whole operand. -/
theorem iblk6 (c : Dev nD) (t : Fin cfg0.N) (k : Fin 16) :
    (iblk m c 6 t : S1x16.Idx → EReal) (ix2 0 k) = (V m c main_v9 : S1x16.Idx → EReal) (ix2 0 k) := by
  unfold iblk
  rw [View.read_apply]
  show (V m c main_v9 : S1x16.Idx → EReal) _ = _
  congr 1
  funext a
  apply Fin.ext
  match a with
  | ⟨0, _⟩ => show win0_6.index t 0 * 1 + 1 * 0 = 0; rw [(index_facts t).2.2.2.2.2.2.1.1]
  | ⟨1, _⟩ => show win0_6.index t 1 * 16 + 1 * k.val = k.val; rw [(index_facts t).2.2.2.2.2.2.1.2]; omega

/-- Window 7's block is the whole operand. -/
theorem iblk7 (c : Dev nD) (t : Fin cfg0.N) (k : Fin 16) :
    (iblk m c 7 t : S1x16.Idx → EReal) (ix2 0 k) = (V m c main_v10 : S1x16.Idx → EReal) (ix2 0 k) := by
  unfold iblk
  rw [View.read_apply]
  show (V m c main_v10 : S1x16.Idx → EReal) _ = _
  congr 1
  funext a
  apply Fin.ext
  match a with
  | ⟨0, _⟩ => show win0_7.index t 0 * 1 + 1 * 0 = 0; rw [(index_facts t).2.2.2.2.2.2.2.1.1]
  | ⟨1, _⟩ => show win0_7.index t 1 * 16 + 1 * k.val = k.val; rw [(index_facts t).2.2.2.2.2.2.2.1.2]; omega

/-- Window 8's block is the whole operand. -/
theorem iblk8 (c : Dev nD) (t : Fin cfg0.N) (k : Fin 1024) :
    (iblk m c 8 t : S1x1024.Idx → EReal) (ix2 0 k) = (V m c main_v13 : S1x1024.Idx → EReal) (ix2 0 k) := by
  unfold iblk
  rw [View.read_apply]
  show (V m c main_v13 : S1x1024.Idx → EReal) _ = _
  congr 1
  funext a
  apply Fin.ext
  match a with
  | ⟨0, _⟩ => show win0_8.index t 0 * 1 + 1 * 0 = 0; rw [(index_facts t).2.2.2.2.2.2.2.2.1.1]
  | ⟨1, _⟩ => show win0_8.index t 1 * 1024 + 1 * k.val = k.val; rw [(index_facts t).2.2.2.2.2.2.2.2.1.2]; omega

/-- Window 9's block is the whole operand. -/
theorem iblk9 (c : Dev nD) (t : Fin cfg0.N) (k : Fin 1024) :
    (iblk m c 9 t : S1x1024.Idx → EReal) (ix2 0 k) = (V m c main_v14 : S1x1024.Idx → EReal) (ix2 0 k) := by
  unfold iblk
  rw [View.read_apply]
  show (V m c main_v14 : S1x1024.Idx → EReal) _ = _
  congr 1
  funext a
  apply Fin.ext
  match a with
  | ⟨0, _⟩ => show win0_9.index t 0 * 1 + 1 * 0 = 0; rw [(index_facts t).2.2.2.2.2.2.2.2.2.1.1]
  | ⟨1, _⟩ => show win0_9.index t 1 * 1024 + 1 * k.val = k.val; rw [(index_facts t).2.2.2.2.2.2.2.2.2.1.2]; omega

/-- Window 10's block is the whole operand. -/
theorem iblk10 (c : Dev nD) (t : Fin cfg0.N) (r : Fin 16) (k : Fin 1024) :
    (iblk m c 10 t : S16x1024.Idx → EReal) (ix2 r k) = (V m c main_v7 : S16x1024.Idx → EReal) (ix2 r k) := by
  unfold iblk
  rw [View.read_apply]
  show (V m c main_v7 : S16x1024.Idx → EReal) _ = _
  congr 1
  funext a
  apply Fin.ext
  match a with
  | ⟨0, _⟩ => show win0_10.index t 0 * 16 + 1 * r.val = r.val; rw [(index_facts t).2.2.2.2.2.2.2.2.2.2.1.1]; omega
  | ⟨1, _⟩ => show win0_10.index t 1 * 1024 + 1 * k.val = k.val; rw [(index_facts t).2.2.2.2.2.2.2.2.2.2.1.2]; omega

/-- Window 11's block is the whole operand. -/
theorem iblk11 (c : Dev nD) (t : Fin cfg0.N) (r : Fin 1024) (k : Fin 16) :
    (iblk m c 11 t : S1024x16.Idx → EReal) (ix2 r k) = (V m c main_v15 : S1024x16.Idx → EReal) (ix2 r k) := by
  unfold iblk
  rw [View.read_apply]
  show (V m c main_v15 : S1024x16.Idx → EReal) _ = _
  congr 1
  funext a
  apply Fin.ext
  match a with
  | ⟨0, _⟩ => show win0_11.index t 0 * 1024 + 1 * r.val = r.val; rw [(index_facts t).2.2.2.2.2.2.2.2.2.2.2.1.1]; omega
  | ⟨1, _⟩ => show win0_11.index t 1 * 16 + 1 * k.val = k.val; rw [(index_facts t).2.2.2.2.2.2.2.2.2.2.2.1.2]; omega

end Cert.KernelIdeal.Block

end
-- ==== Proof.SsdPay.lean ====
/-
  The mixer kernel's steps of one chunk, read at an index: the step sizes, the decays, the convolution, the gate.
-/
module

public import proofs.«01_k».proof.Proof.SsdMath
public import proofs.«01_k».proof.Proof.Gen.KernelIdeal.Value
public import Idealize.ShloMosaic.Lib.Pointwise
public import Idealize.ShloMosaic.Lib.Claim
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.Layer
open scoped BigOperators

/-- The chunk's convolved columns as a function of row and column. -/
abbrev actA (A : FVec Ideal S128x1536 .f32) (l : Fin 128) (c : Fin 1536) : EReal := A (ix2 l c)

/-- The chunk's step sizes as a function of row and head. -/
abbrev dtA (d : FVec Ideal S128x16 .f32) (l : Fin 128) (h : Fin 16) : EReal := d (ix2 l h)

/-- The running log decay of the chunk. -/
abbrev acA (d : FVec Ideal S128x16 .f32) (a : FVec Ideal S1x16 .f32) : Fin 128 → Fin 16 → EReal :=
  acumOf (dtA d) fun h => a (ix2 0 h)

/-- The chunk's running log decay is the product of the lower triangle with the scaled steps. -/
theorem pay13_at (d : FVec Ideal S128x16 .f32) (a : FVec Ideal S1x16 .f32) (l : Fin 128) (h : Fin 16) :
    (k0_pay13 (F := Ideal) d a k0_pay11 : S128x16.Idx → EReal) (ix2 l h) = acA d a l h := by
  pointwise [k0_pay13, k0_pay12, k0_pay11]
  simp only [fac_causal, zero_sub]
  rfl

/-- Its transpose. -/
theorem pay15_at (d : FVec Ideal S128x16 .f32) (a : FVec Ideal S1x16 .f32) (l : Fin 128) (h : Fin 16) :
    (k0_pay15 (F := Ideal) d a k0_pay11 : S16x128.Idx → EReal) (ix2 h l) = acA d a l h := by
  refine Eq.trans ?_ (pay13_at d a l h)
  pointwise [k0_pay15]

/-- The decay from the chunk's start, spread over the state rows. -/
theorem pay18_at (d : FVec Ideal S128x16 .f32) (a : FVec Ideal S1x16 .f32) (e : FVec Ideal S16x1024 .f32)
    (he : ∀ h r, (e : S16x1024.Idx → EReal) (ix2 h r) = if h = hd r then 1 else 0) (l : Fin 128) (r : Fin 1024) :
    (k0_pay18 (F := Ideal) d a k0_pay11 e : S128x1024.Idx → EReal) (ix2 l r) = Ideal.exp (acA d a l (hd r)) := by
  rw [← pay13_at]
  pointwise [k0_pay18, k0_pay17]
  exact sum_onehot (hd r) (fun x => Ideal.exp ((k0_pay13 (F := Ideal) d a k0_pay11 : S128x16.Idx → EReal) (ix2 l x))) _ fun h => he h r

/-- The decay to the chunk's end times the step, spread over the state rows. -/
theorem pay19_at (d : FVec Ideal S128x16 .f32) (a : FVec Ideal S1x16 .f32) (e : FVec Ideal S16x1024 .f32)
    (he : ∀ h r, (e : S16x1024.Idx → EReal) (ix2 h r) = if h = hd r then 1 else 0) (l : Fin 128) (r : Fin 1024) :
    (k0_pay19 (F := Ideal) d a k0_pay11 e : S128x1024.Idx → EReal) (ix2 l r) =
      Ideal.exp (acA d a 127 (hd r) - acA d a l (hd r)) * dtA d l (hd r) := by
  rw [← pay13_at, ← pay13_at]
  pointwise [k0_pay19, k0_pay17]
  exact sum_onehot (hd r) (fun x => Ideal.exp ((k0_pay13 (F := Ideal) d a k0_pay11 : S128x16.Idx → EReal) (ix2 127 x) -
    (k0_pay13 (F := Ideal) d a k0_pay11 : S128x16.Idx → EReal) (ix2 l x)) * (d : S128x16.Idx → EReal) (ix2 l x)) _ fun h => he h r

/-- The chunk's whole decay, spread over the state rows. -/
theorem pay20_at (d : FVec Ideal S128x16 .f32) (a : FVec Ideal S1x16 .f32) (f : FVec Ideal S1024x16 .f32)
    (hf : ∀ h r, (f : S1024x16.Idx → EReal) (ix2 r h) = if h = hd r then 1 else 0) (r : Fin 1024) (s : Fin 128) :
    (k0_pay20 (F := Ideal) d a k0_pay11 f : S1024x128.Idx → EReal) (ix2 r s) = Ideal.exp (acA d a 127 (hd r)) := by
  rw [← pay15_at]
  pointwise [k0_pay20]
  exact sum_onehot' (hd r) (fun x => Ideal.exp ((k0_pay15 (F := Ideal) d a k0_pay11 : S16x128.Idx → EReal) (ix2 x 127))) _ fun h => hf h r

/-- The step sizes. -/
theorem pay9_at (bi : BitVec 32) (n : ℕ) (hn : n < 33) (hb : bi = BitVec.ofNat 32 n) (x : FVec Ideal S128x16 .f32) (b : FVec Ideal S1x16 .f32) (l : Fin 128) (h : Fin 16) :
    (k0_pay9 (F := Ideal) bi x b : S128x16.Idx → EReal) (ix2 l h) =
      stepAt (128 * n + l.val) ((x : S128x16.Idx → EReal) (ix2 l h) + (b : S1x16.Idx → EReal) (ix2 0 h)) := by
  pointwise [k0_pay9]
  have hl := l.isLt
  have e : IntOp.addi (Scalar.muli bi 128#32) (BitVec.ofNat 32 l.val) = BitVec.ofNat 32 (128 * n + l.val) := by
    subst hb
    show BitVec.ofNat 32 n * 128#32 + BitVec.ofNat 32 l.val = _
    apply BitVec.eq_of_toNat_eq
    simp only [BitVec.toNat_add, BitVec.toNat_mul, BitVec.toNat_ofNat]
    omega
  rw [e, WordCmp.cmpi_slt_ofNat (by omega) (by omega)]
  unfold stepAt
  by_cases h : 128 * n + l.val < 4112
  · rw [if_pos h]; simp only [h, decide_true, zero_sub]; rfl
  · rw [if_neg h]; simp only [h, decide_false]; rfl

/-- The rates. -/
theorem pay10_at (x : FVec Ideal S1x16 .f32) (h : Fin 16) :
    (k0_pay10 (F := Ideal) x : S1x16.Idx → EReal) (ix2 0 h) = Ideal.exp ((x : S1x16.Idx → EReal) (ix2 0 h)) := by
  pointwise [k0_pay10]

/-- The convolved row, gated. -/
theorem pay7_at (b : FVec Ideal S1x1536 .f32) (x0 : FVec Ideal S128x1536 .f32) (w0 : FVec Ideal S1x1536 .f32) (x1 : FVec Ideal S128x1536 .f32)
    (w1 : FVec Ideal S1x1536 .f32) (x2 : FVec Ideal S128x1536 .f32) (w2 : FVec Ideal S1x1536 .f32) (x3 : FVec Ideal S128x1536 .f32)
    (w3 : FVec Ideal S1x1536 .f32) (l : Fin 128) (k : Fin 1536) :
    (k0_pay7 (F := Ideal) (k0_pay5 b x0 w0 x1 w1 x2 w2 x3 w3) k0_pay6 : S128x1536.Idx → EReal) (ix2 l k) =
      silu ((b : S1x1536.Idx → EReal) (ix2 0 k) + (x0 : S128x1536.Idx → EReal) (ix2 l k) * (w0 : S1x1536.Idx → EReal) (ix2 0 k) +
        (x1 : S128x1536.Idx → EReal) (ix2 l k) * (w1 : S1x1536.Idx → EReal) (ix2 0 k) +
        (x2 : S128x1536.Idx → EReal) (ix2 l k) * (w2 : S1x1536.Idx → EReal) (ix2 0 k) +
        (x3 : S128x1536.Idx → EReal) (ix2 l k) * (w3 : S1x1536.Idx → EReal) (ix2 0 k)) := by
  pointwise [k0_pay7, k0_pay5, k0_pay6]
  simp only [zero_sub]
  rfl

/-- The gated, normalized row. -/
theorem pay1_at (z y : FVec Ideal S128x1024 .f32) (b : FVec Ideal S1x1024 .f32) (l : Fin 128) (r : Fin 1024) :
    (k0_pay1 (F := Ideal) (k0_pay71 z y) (k0_pay72 b) : S128x1024.Idx → EReal) (ix2 l r) =
      gatedAt (fun k => (y : S128x1024.Idx → EReal) (ix2 l k)) (fun k => (z : S128x1024.Idx → EReal) (ix2 l k)) ((b : S1x1024.Idx → EReal) (ix2 0 r)) r := by
  pointwise [k0_pay1, k0_pay71, k0_pay72]
  simp only [zero_sub]
  rfl

end Cert.KernelIdeal.Block

end
-- ==== Proof.SsdPairs.lean ====
/-
  The mixer kernel's eight pairs of heads, read at an index: the output columns and the state rows of each pair.
-/
module

public import proofs.«01_k».proof.Proof.SsdPay
public import proofs.«01_k».proof.Proof.Gen.KernelIdeal.Value
public import Idealize.ShloMosaic.Lib.Pointwise
public import Idealize.ShloMosaic.Lib.Claim
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.Layer
open scoped BigOperators

/-- The output columns of heads 0 and 1. -/
def Y0 (A : FVec Ideal S128x1536 .f32) (d : FVec Ideal S128x16 .f32) (a : FVec Ideal S1x16 .f32) (e : FVec Ideal S16x1024 .f32) (hp : Vec Ideal S1x128x128 .f32) (dk : Vec Ideal S1x128 .f32) : FVec Ideal S128x128 .f32 :=
  k0_pay29 k0_pay12 (k0_pay13 d a k0_pay11) (k0_pay15 d a k0_pay11) (k0_pay16 d) (k0_pay18 d a k0_pay11 e) (k0_pay21 A) (k0_pay22 A) k0_pay23 (k0_pay25 A) (k0_pay26 A) (k0_pay27 d a k0_pay11) hp dk

/-- The state rows of heads 0 and 1 after the chunk. -/
def H0 (A : FVec Ideal S128x1536 .f32) (d : FVec Ideal S128x16 .f32) (a : FVec Ideal S1x16 .f32) (e : FVec Ideal S16x1024 .f32) (f : FVec Ideal S1024x16 .f32) (hp : Vec Ideal S1x128x128 .f32) : FVec Ideal S1x128x128 .f32 :=
  k0_pay31 (k0_pay20 d a k0_pay11 f) (k0_pay24 A) (k0_pay28 hp) (k0_pay30 (k0_pay19 d a k0_pay11 e) (k0_pay21 A))

theorem hd_lo0 (q : Fin 128) (h : q.val < 64) : hd ⟨q.val, by omega⟩ = 0 := Fin.ext (by show (q.val) / 64 = 0; omega)

theorem hd_hi0 (q : Fin 128) (h : ¬ q.val < 64) : hd ⟨q.val, by omega⟩ = 1 := Fin.ext (by show (q.val) / 64 = 1; omega)

theorem gr0 (q : Fin 128) : gr ⟨q.val, by omega⟩ = 0 := Fin.ext (by show (q.val) / 512 = 0; omega)

/-- The output columns, entry by entry. -/
theorem Y0_at (A : FVec Ideal S128x1536 .f32) (d : FVec Ideal S128x16 .f32) (a : FVec Ideal S1x16 .f32) (e : FVec Ideal S16x1024 .f32) (hp : Vec Ideal S1x128x128 .f32) (dk : Vec Ideal S1x128 .f32) (H : Fin 1024 → Fin 128 → EReal) (ds : Fin 16 → EReal)
    (he : ∀ h r, (e : S16x1024.Idx → EReal) (ix2 h r) = if h = hd r then 1 else 0)
    (hH : ∀ (q s : Fin 128), (hp : S1x128x128.Idx → EReal) (ix3 0 q s) = H ⟨q.val, by omega⟩ s)
    (hds : ∀ q : Fin 128, (dk : S1x128.Idx → EReal) (ix2 0 q) = ds (hd ⟨q.val, by omega⟩)) (l q : Fin 128) :
    (Y0 A d a e hp dk : S128x128.Idx → EReal) (ix2 l q) = yOf (actA A) (dtA d) (acA d a) H ds l ⟨q.val, by omega⟩ := by
  pointwise [Y0, k0_pay12, k0_pay16, k0_pay21, k0_pay22, k0_pay23, k0_pay24, k0_pay25, k0_pay26, k0_pay27, k0_pay28, k0_pay29]
  simp only [pay13_at, pay15_at, pay18_at d a e he, sel_causal, sel_first, sum_ite_const, sum_ite_const', hH, hds]
  by_cases h : q.val < 64
  · simp only [h, if_true, add_zero]
    unfold yOf wtOf cbOf
    rw [gr0, hd_lo0 q h]
    rfl
  · simp only [h, if_false, zero_add]
    unfold yOf wtOf cbOf
    rw [gr0, hd_hi0 q h]
    rfl

/-- The state rows, entry by entry. -/
theorem H0_at (A : FVec Ideal S128x1536 .f32) (d : FVec Ideal S128x16 .f32) (a : FVec Ideal S1x16 .f32) (e : FVec Ideal S16x1024 .f32) (f : FVec Ideal S1024x16 .f32) (hp : Vec Ideal S1x128x128 .f32) (H : Fin 1024 → Fin 128 → EReal)
    (he : ∀ h r, (e : S16x1024.Idx → EReal) (ix2 h r) = if h = hd r then 1 else 0)
    (hf : ∀ h r, (f : S1024x16.Idx → EReal) (ix2 r h) = if h = hd r then 1 else 0)
    (hH : ∀ (q s : Fin 128), (hp : S1x128x128.Idx → EReal) (ix3 0 q s) = H ⟨q.val, by omega⟩ s) (q s : Fin 128) :
    (H0 A d a e f hp : S1x128x128.Idx → EReal) (ix3 0 q s) = hOf (actA A) (dtA d) (acA d a) H ⟨q.val, by omega⟩ s := by
  pointwise [H0, k0_pay12, k0_pay21, k0_pay24, k0_pay28, k0_pay30, k0_pay31]
  simp only [pay19_at d a e he, pay20_at d a f hf, hH]
  unfold hOf
  rw [gr0]
  rfl

/-- The output columns of heads 2 and 3. -/
def Y1 (A : FVec Ideal S128x1536 .f32) (d : FVec Ideal S128x16 .f32) (a : FVec Ideal S1x16 .f32) (e : FVec Ideal S16x1024 .f32) (hp : Vec Ideal S1x128x128 .f32) (dk : Vec Ideal S1x128 .f32) : FVec Ideal S128x128 .f32 :=
  k0_pay34 (k0_pay21 A) (k0_pay33 k0_pay12 (k0_pay13 d a k0_pay11) (k0_pay15 d a k0_pay11) (k0_pay16 d) (k0_pay18 d a k0_pay11 e) (k0_pay22 A) k0_pay23 (k0_pay25 A) (k0_pay26 A) hp) dk

/-- The state rows of heads 2 and 3 after the chunk. -/
def H1 (A : FVec Ideal S128x1536 .f32) (d : FVec Ideal S128x16 .f32) (a : FVec Ideal S1x16 .f32) (e : FVec Ideal S16x1024 .f32) (f : FVec Ideal S1024x16 .f32) (hp : Vec Ideal S1x128x128 .f32) : FVec Ideal S1x128x128 .f32 :=
  k0_pay35 (k0_pay19 d a k0_pay11 e) (k0_pay20 d a k0_pay11 f) (k0_pay21 A) (k0_pay24 A) (k0_pay32 hp)

theorem hd_lo1 (q : Fin 128) (h : q.val < 64) : hd ⟨128 + q.val, by omega⟩ = 2 := Fin.ext (by show (128 + q.val) / 64 = 2; omega)

theorem hd_hi1 (q : Fin 128) (h : ¬ q.val < 64) : hd ⟨128 + q.val, by omega⟩ = 3 := Fin.ext (by show (128 + q.val) / 64 = 3; omega)

theorem gr1 (q : Fin 128) : gr ⟨128 + q.val, by omega⟩ = 0 := Fin.ext (by show (128 + q.val) / 512 = 0; omega)

/-- The output columns, entry by entry. -/
theorem Y1_at (A : FVec Ideal S128x1536 .f32) (d : FVec Ideal S128x16 .f32) (a : FVec Ideal S1x16 .f32) (e : FVec Ideal S16x1024 .f32) (hp : Vec Ideal S1x128x128 .f32) (dk : Vec Ideal S1x128 .f32) (H : Fin 1024 → Fin 128 → EReal) (ds : Fin 16 → EReal)
    (he : ∀ h r, (e : S16x1024.Idx → EReal) (ix2 h r) = if h = hd r then 1 else 0)
    (hH : ∀ (q s : Fin 128), (hp : S1x128x128.Idx → EReal) (ix3 0 q s) = H ⟨128 + q.val, by omega⟩ s)
    (hds : ∀ q : Fin 128, (dk : S1x128.Idx → EReal) (ix2 0 q) = ds (hd ⟨128 + q.val, by omega⟩)) (l q : Fin 128) :
    (Y1 A d a e hp dk : S128x128.Idx → EReal) (ix2 l q) = yOf (actA A) (dtA d) (acA d a) H ds l ⟨128 + q.val, by omega⟩ := by
  pointwise [Y1, k0_pay12, k0_pay16, k0_pay21, k0_pay22, k0_pay23, k0_pay24, k0_pay25, k0_pay26, k0_pay32, k0_pay33, k0_pay34]
  simp only [pay13_at, pay15_at, pay18_at d a e he, sel_causal, sel_first, sum_ite_const, sum_ite_const', hH, hds]
  by_cases h : q.val < 64
  · simp only [h, if_true, add_zero]
    unfold yOf wtOf cbOf
    rw [gr1, hd_lo1 q h]
    rfl
  · simp only [h, if_false, zero_add]
    unfold yOf wtOf cbOf
    rw [gr1, hd_hi1 q h]
    rfl

/-- The state rows, entry by entry. -/
theorem H1_at (A : FVec Ideal S128x1536 .f32) (d : FVec Ideal S128x16 .f32) (a : FVec Ideal S1x16 .f32) (e : FVec Ideal S16x1024 .f32) (f : FVec Ideal S1024x16 .f32) (hp : Vec Ideal S1x128x128 .f32) (H : Fin 1024 → Fin 128 → EReal)
    (he : ∀ h r, (e : S16x1024.Idx → EReal) (ix2 h r) = if h = hd r then 1 else 0)
    (hf : ∀ h r, (f : S1024x16.Idx → EReal) (ix2 r h) = if h = hd r then 1 else 0)
    (hH : ∀ (q s : Fin 128), (hp : S1x128x128.Idx → EReal) (ix3 0 q s) = H ⟨128 + q.val, by omega⟩ s) (q s : Fin 128) :
    (H1 A d a e f hp : S1x128x128.Idx → EReal) (ix3 0 q s) = hOf (actA A) (dtA d) (acA d a) H ⟨128 + q.val, by omega⟩ s := by
  pointwise [H1, k0_pay12, k0_pay21, k0_pay24, k0_pay32, k0_pay35]
  simp only [pay19_at d a e he, pay20_at d a f hf, hH]
  unfold hOf
  rw [gr1]
  rfl

/-- The output columns of heads 4 and 5. -/
def Y2 (A : FVec Ideal S128x1536 .f32) (d : FVec Ideal S128x16 .f32) (a : FVec Ideal S1x16 .f32) (e : FVec Ideal S16x1024 .f32) (hp : Vec Ideal S1x128x128 .f32) (dk : Vec Ideal S1x128 .f32) : FVec Ideal S128x128 .f32 :=
  k0_pay39 (k0_pay18 d a k0_pay11 e) (k0_pay21 A) k0_pay23 (k0_pay25 A) (k0_pay36 k0_pay12 (k0_pay13 d a k0_pay11) (k0_pay15 d a k0_pay11) (k0_pay16 d) (k0_pay26 A)) (k0_pay37 (k0_pay22 A)) hp dk

/-- The state rows of heads 4 and 5 after the chunk. -/
def H2 (A : FVec Ideal S128x1536 .f32) (d : FVec Ideal S128x16 .f32) (a : FVec Ideal S1x16 .f32) (e : FVec Ideal S16x1024 .f32) (f : FVec Ideal S1024x16 .f32) (hp : Vec Ideal S1x128x128 .f32) : FVec Ideal S1x128x128 .f32 :=
  k0_pay40 (k0_pay19 d a k0_pay11 e) (k0_pay20 d a k0_pay11 f) (k0_pay21 A) (k0_pay24 A) hp

theorem hd_lo2 (q : Fin 128) (h : q.val < 64) : hd ⟨256 + q.val, by omega⟩ = 4 := Fin.ext (by show (256 + q.val) / 64 = 4; omega)

theorem hd_hi2 (q : Fin 128) (h : ¬ q.val < 64) : hd ⟨256 + q.val, by omega⟩ = 5 := Fin.ext (by show (256 + q.val) / 64 = 5; omega)

theorem gr2 (q : Fin 128) : gr ⟨256 + q.val, by omega⟩ = 0 := Fin.ext (by show (256 + q.val) / 512 = 0; omega)

/-- The output columns, entry by entry. -/
theorem Y2_at (A : FVec Ideal S128x1536 .f32) (d : FVec Ideal S128x16 .f32) (a : FVec Ideal S1x16 .f32) (e : FVec Ideal S16x1024 .f32) (hp : Vec Ideal S1x128x128 .f32) (dk : Vec Ideal S1x128 .f32) (H : Fin 1024 → Fin 128 → EReal) (ds : Fin 16 → EReal)
    (he : ∀ h r, (e : S16x1024.Idx → EReal) (ix2 h r) = if h = hd r then 1 else 0)
    (hH : ∀ (q s : Fin 128), (hp : S1x128x128.Idx → EReal) (ix3 0 q s) = H ⟨256 + q.val, by omega⟩ s)
    (hds : ∀ q : Fin 128, (dk : S1x128.Idx → EReal) (ix2 0 q) = ds (hd ⟨256 + q.val, by omega⟩)) (l q : Fin 128) :
    (Y2 A d a e hp dk : S128x128.Idx → EReal) (ix2 l q) = yOf (actA A) (dtA d) (acA d a) H ds l ⟨256 + q.val, by omega⟩ := by
  pointwise [Y2, k0_pay12, k0_pay16, k0_pay21, k0_pay22, k0_pay23, k0_pay24, k0_pay25, k0_pay26, k0_pay36, k0_pay37, k0_pay38, k0_pay39]
  simp only [pay13_at, pay15_at, pay18_at d a e he, sel_causal, sel_first, sum_ite_const, sum_ite_const', hH, hds]
  by_cases h : q.val < 64
  · simp only [h, if_true, add_zero]
    unfold yOf wtOf cbOf
    rw [gr2, hd_lo2 q h]
    rfl
  · simp only [h, if_false, zero_add]
    unfold yOf wtOf cbOf
    rw [gr2, hd_hi2 q h]
    rfl

/-- The state rows, entry by entry. -/
theorem H2_at (A : FVec Ideal S128x1536 .f32) (d : FVec Ideal S128x16 .f32) (a : FVec Ideal S1x16 .f32) (e : FVec Ideal S16x1024 .f32) (f : FVec Ideal S1024x16 .f32) (hp : Vec Ideal S1x128x128 .f32) (H : Fin 1024 → Fin 128 → EReal)
    (he : ∀ h r, (e : S16x1024.Idx → EReal) (ix2 h r) = if h = hd r then 1 else 0)
    (hf : ∀ h r, (f : S1024x16.Idx → EReal) (ix2 r h) = if h = hd r then 1 else 0)
    (hH : ∀ (q s : Fin 128), (hp : S1x128x128.Idx → EReal) (ix3 0 q s) = H ⟨256 + q.val, by omega⟩ s) (q s : Fin 128) :
    (H2 A d a e f hp : S1x128x128.Idx → EReal) (ix3 0 q s) = hOf (actA A) (dtA d) (acA d a) H ⟨256 + q.val, by omega⟩ s := by
  pointwise [H2, k0_pay12, k0_pay21, k0_pay24, k0_pay38, k0_pay40]
  simp only [pay19_at d a e he, pay20_at d a f hf, hH]
  unfold hOf
  rw [gr2]
  rfl

/-- The output columns of heads 6 and 7. -/
def Y3 (A : FVec Ideal S128x1536 .f32) (d : FVec Ideal S128x16 .f32) (a : FVec Ideal S1x16 .f32) (e : FVec Ideal S16x1024 .f32) (hp : Vec Ideal S1x128x128 .f32) (dk : Vec Ideal S1x128 .f32) : FVec Ideal S128x128 .f32 :=
  k0_pay44 k0_pay12 (k0_pay13 d a k0_pay11) (k0_pay15 d a k0_pay11) (k0_pay16 d) (k0_pay18 d a k0_pay11 e) (k0_pay21 A) (k0_pay22 A) k0_pay23 (k0_pay25 A) (k0_pay26 A) (k0_pay41 k0_pay12 (k0_pay13 d a k0_pay11) (k0_pay15 d a k0_pay11) (k0_pay26 A)) (k0_pay42 (k0_pay16 d)) hp dk

/-- The state rows of heads 6 and 7 after the chunk. -/
def H3 (A : FVec Ideal S128x1536 .f32) (d : FVec Ideal S128x16 .f32) (a : FVec Ideal S1x16 .f32) (e : FVec Ideal S16x1024 .f32) (f : FVec Ideal S1024x16 .f32) (hp : Vec Ideal S1x128x128 .f32) : FVec Ideal S1x128x128 .f32 :=
  k0_pay46 (k0_pay45 (k0_pay19 d a k0_pay11 e) (k0_pay20 d a k0_pay11 f) (k0_pay21 A) (k0_pay24 A) hp)

theorem hd_lo3 (q : Fin 128) (h : q.val < 64) : hd ⟨384 + q.val, by omega⟩ = 6 := Fin.ext (by show (384 + q.val) / 64 = 6; omega)

theorem hd_hi3 (q : Fin 128) (h : ¬ q.val < 64) : hd ⟨384 + q.val, by omega⟩ = 7 := Fin.ext (by show (384 + q.val) / 64 = 7; omega)

theorem gr3 (q : Fin 128) : gr ⟨384 + q.val, by omega⟩ = 0 := Fin.ext (by show (384 + q.val) / 512 = 0; omega)

/-- The output columns, entry by entry. -/
theorem Y3_at (A : FVec Ideal S128x1536 .f32) (d : FVec Ideal S128x16 .f32) (a : FVec Ideal S1x16 .f32) (e : FVec Ideal S16x1024 .f32) (hp : Vec Ideal S1x128x128 .f32) (dk : Vec Ideal S1x128 .f32) (H : Fin 1024 → Fin 128 → EReal) (ds : Fin 16 → EReal)
    (he : ∀ h r, (e : S16x1024.Idx → EReal) (ix2 h r) = if h = hd r then 1 else 0)
    (hH : ∀ (q s : Fin 128), (hp : S1x128x128.Idx → EReal) (ix3 0 q s) = H ⟨384 + q.val, by omega⟩ s)
    (hds : ∀ q : Fin 128, (dk : S1x128.Idx → EReal) (ix2 0 q) = ds (hd ⟨384 + q.val, by omega⟩)) (l q : Fin 128) :
    (Y3 A d a e hp dk : S128x128.Idx → EReal) (ix2 l q) = yOf (actA A) (dtA d) (acA d a) H ds l ⟨384 + q.val, by omega⟩ := by
  pointwise [Y3, k0_pay12, k0_pay16, k0_pay21, k0_pay22, k0_pay23, k0_pay24, k0_pay25, k0_pay26, k0_pay41, k0_pay42, k0_pay43, k0_pay44]
  simp only [pay13_at, pay15_at, pay18_at d a e he, sel_causal, sel_first, sum_ite_const, sum_ite_const', hH, hds]
  by_cases h : q.val < 64
  · simp only [h, if_true, add_zero]
    unfold yOf wtOf cbOf
    rw [gr3, hd_lo3 q h]
    rfl
  · simp only [h, if_false, zero_add]
    unfold yOf wtOf cbOf
    rw [gr3, hd_hi3 q h]
    rfl

/-- The state rows, entry by entry. -/
theorem H3_at (A : FVec Ideal S128x1536 .f32) (d : FVec Ideal S128x16 .f32) (a : FVec Ideal S1x16 .f32) (e : FVec Ideal S16x1024 .f32) (f : FVec Ideal S1024x16 .f32) (hp : Vec Ideal S1x128x128 .f32) (H : Fin 1024 → Fin 128 → EReal)
    (he : ∀ h r, (e : S16x1024.Idx → EReal) (ix2 h r) = if h = hd r then 1 else 0)
    (hf : ∀ h r, (f : S1024x16.Idx → EReal) (ix2 r h) = if h = hd r then 1 else 0)
    (hH : ∀ (q s : Fin 128), (hp : S1x128x128.Idx → EReal) (ix3 0 q s) = H ⟨384 + q.val, by omega⟩ s) (q s : Fin 128) :
    (H3 A d a e f hp : S1x128x128.Idx → EReal) (ix3 0 q s) = hOf (actA A) (dtA d) (acA d a) H ⟨384 + q.val, by omega⟩ s := by
  pointwise [H3, k0_pay12, k0_pay21, k0_pay24, k0_pay43, k0_pay45, k0_pay46]
  simp only [pay19_at d a e he, pay20_at d a f hf, hH]
  unfold hOf
  rw [gr3]
  rfl

/-- The output columns of heads 8 and 9. -/
def Y4 (A : FVec Ideal S128x1536 .f32) (d : FVec Ideal S128x16 .f32) (a : FVec Ideal S1x16 .f32) (e : FVec Ideal S16x1024 .f32) (hp : Vec Ideal S1x128x128 .f32) (dk : Vec Ideal S1x128 .f32) : FVec Ideal S128x128 .f32 :=
  k0_pay52 (k0_pay21 A) (k0_pay51 A k0_pay12 (k0_pay13 d a k0_pay11) (k0_pay15 d a k0_pay11) (k0_pay16 d) (k0_pay18 d a k0_pay11 e) (k0_pay22 A) k0_pay23 hp) dk

/-- The state rows of heads 8 and 9 after the chunk. -/
def H4 (A : FVec Ideal S128x1536 .f32) (d : FVec Ideal S128x16 .f32) (a : FVec Ideal S1x16 .f32) (e : FVec Ideal S16x1024 .f32) (f : FVec Ideal S1024x16 .f32) (hp : Vec Ideal S1x128x128 .f32) : FVec Ideal S1x128x128 .f32 :=
  k0_pay53 (k0_pay19 d a k0_pay11 e) (k0_pay20 d a k0_pay11 f) (k0_pay21 A) (k0_pay47 A) (k0_pay50 hp)

theorem hd_lo4 (q : Fin 128) (h : q.val < 64) : hd ⟨512 + q.val, by omega⟩ = 8 := Fin.ext (by show (512 + q.val) / 64 = 8; omega)

theorem hd_hi4 (q : Fin 128) (h : ¬ q.val < 64) : hd ⟨512 + q.val, by omega⟩ = 9 := Fin.ext (by show (512 + q.val) / 64 = 9; omega)

theorem gr4 (q : Fin 128) : gr ⟨512 + q.val, by omega⟩ = 1 := Fin.ext (by show (512 + q.val) / 512 = 1; omega)

/-- The output columns, entry by entry. -/
theorem Y4_at (A : FVec Ideal S128x1536 .f32) (d : FVec Ideal S128x16 .f32) (a : FVec Ideal S1x16 .f32) (e : FVec Ideal S16x1024 .f32) (hp : Vec Ideal S1x128x128 .f32) (dk : Vec Ideal S1x128 .f32) (H : Fin 1024 → Fin 128 → EReal) (ds : Fin 16 → EReal)
    (he : ∀ h r, (e : S16x1024.Idx → EReal) (ix2 h r) = if h = hd r then 1 else 0)
    (hH : ∀ (q s : Fin 128), (hp : S1x128x128.Idx → EReal) (ix3 0 q s) = H ⟨512 + q.val, by omega⟩ s)
    (hds : ∀ q : Fin 128, (dk : S1x128.Idx → EReal) (ix2 0 q) = ds (hd ⟨512 + q.val, by omega⟩)) (l q : Fin 128) :
    (Y4 A d a e hp dk : S128x128.Idx → EReal) (ix2 l q) = yOf (actA A) (dtA d) (acA d a) H ds l ⟨512 + q.val, by omega⟩ := by
  pointwise [Y4, k0_pay12, k0_pay16, k0_pay21, k0_pay22, k0_pay23, k0_pay47, k0_pay48, k0_pay49, k0_pay50, k0_pay51, k0_pay52]
  simp only [pay13_at, pay15_at, pay18_at d a e he, sel_causal, sel_first, sum_ite_const, sum_ite_const', hH, hds]
  by_cases h : q.val < 64
  · simp only [h, if_true, add_zero]
    unfold yOf wtOf cbOf
    rw [gr4, hd_lo4 q h]
    rfl
  · simp only [h, if_false, zero_add]
    unfold yOf wtOf cbOf
    rw [gr4, hd_hi4 q h]
    rfl

/-- The state rows, entry by entry. -/
theorem H4_at (A : FVec Ideal S128x1536 .f32) (d : FVec Ideal S128x16 .f32) (a : FVec Ideal S1x16 .f32) (e : FVec Ideal S16x1024 .f32) (f : FVec Ideal S1024x16 .f32) (hp : Vec Ideal S1x128x128 .f32) (H : Fin 1024 → Fin 128 → EReal)
    (he : ∀ h r, (e : S16x1024.Idx → EReal) (ix2 h r) = if h = hd r then 1 else 0)
    (hf : ∀ h r, (f : S1024x16.Idx → EReal) (ix2 r h) = if h = hd r then 1 else 0)
    (hH : ∀ (q s : Fin 128), (hp : S1x128x128.Idx → EReal) (ix3 0 q s) = H ⟨512 + q.val, by omega⟩ s) (q s : Fin 128) :
    (H4 A d a e f hp : S1x128x128.Idx → EReal) (ix3 0 q s) = hOf (actA A) (dtA d) (acA d a) H ⟨512 + q.val, by omega⟩ s := by
  pointwise [H4, k0_pay12, k0_pay21, k0_pay47, k0_pay50, k0_pay53]
  simp only [pay19_at d a e he, pay20_at d a f hf, hH]
  unfold hOf
  rw [gr4]
  rfl

/-- The output columns of heads 10 and 11. -/
def Y5 (A : FVec Ideal S128x1536 .f32) (d : FVec Ideal S128x16 .f32) (a : FVec Ideal S1x16 .f32) (e : FVec Ideal S16x1024 .f32) (hp : Vec Ideal S1x128x128 .f32) (dk : Vec Ideal S1x128 .f32) : FVec Ideal S128x128 .f32 :=
  k0_pay57 (k0_pay18 d a k0_pay11 e) (k0_pay21 A) k0_pay23 (k0_pay48 A) (k0_pay54 k0_pay12 (k0_pay13 d a k0_pay11) (k0_pay15 d a k0_pay11) (k0_pay16 d) (k0_pay49 A)) (k0_pay55 (k0_pay22 A)) hp dk

/-- The state rows of heads 10 and 11 after the chunk. -/
def H5 (A : FVec Ideal S128x1536 .f32) (d : FVec Ideal S128x16 .f32) (a : FVec Ideal S1x16 .f32) (e : FVec Ideal S16x1024 .f32) (f : FVec Ideal S1024x16 .f32) (hp : Vec Ideal S1x128x128 .f32) : FVec Ideal S1x128x128 .f32 :=
  k0_pay58 (k0_pay19 d a k0_pay11 e) (k0_pay20 d a k0_pay11 f) (k0_pay21 A) (k0_pay47 A) hp

theorem hd_lo5 (q : Fin 128) (h : q.val < 64) : hd ⟨640 + q.val, by omega⟩ = 10 := Fin.ext (by show (640 + q.val) / 64 = 10; omega)

theorem hd_hi5 (q : Fin 128) (h : ¬ q.val < 64) : hd ⟨640 + q.val, by omega⟩ = 11 := Fin.ext (by show (640 + q.val) / 64 = 11; omega)

theorem gr5 (q : Fin 128) : gr ⟨640 + q.val, by omega⟩ = 1 := Fin.ext (by show (640 + q.val) / 512 = 1; omega)

/-- The output columns, entry by entry. -/
theorem Y5_at (A : FVec Ideal S128x1536 .f32) (d : FVec Ideal S128x16 .f32) (a : FVec Ideal S1x16 .f32) (e : FVec Ideal S16x1024 .f32) (hp : Vec Ideal S1x128x128 .f32) (dk : Vec Ideal S1x128 .f32) (H : Fin 1024 → Fin 128 → EReal) (ds : Fin 16 → EReal)
    (he : ∀ h r, (e : S16x1024.Idx → EReal) (ix2 h r) = if h = hd r then 1 else 0)
    (hH : ∀ (q s : Fin 128), (hp : S1x128x128.Idx → EReal) (ix3 0 q s) = H ⟨640 + q.val, by omega⟩ s)
    (hds : ∀ q : Fin 128, (dk : S1x128.Idx → EReal) (ix2 0 q) = ds (hd ⟨640 + q.val, by omega⟩)) (l q : Fin 128) :
    (Y5 A d a e hp dk : S128x128.Idx → EReal) (ix2 l q) = yOf (actA A) (dtA d) (acA d a) H ds l ⟨640 + q.val, by omega⟩ := by
  pointwise [Y5, k0_pay12, k0_pay16, k0_pay21, k0_pay22, k0_pay23, k0_pay47, k0_pay48, k0_pay49, k0_pay54, k0_pay55, k0_pay56, k0_pay57]
  simp only [pay13_at, pay15_at, pay18_at d a e he, sel_causal, sel_first, sum_ite_const, sum_ite_const', hH, hds]
  by_cases h : q.val < 64
  · simp only [h, if_true, add_zero]
    unfold yOf wtOf cbOf
    rw [gr5, hd_lo5 q h]
    rfl
  · simp only [h, if_false, zero_add]
    unfold yOf wtOf cbOf
    rw [gr5, hd_hi5 q h]
    rfl

/-- The state rows, entry by entry. -/
theorem H5_at (A : FVec Ideal S128x1536 .f32) (d : FVec Ideal S128x16 .f32) (a : FVec Ideal S1x16 .f32) (e : FVec Ideal S16x1024 .f32) (f : FVec Ideal S1024x16 .f32) (hp : Vec Ideal S1x128x128 .f32) (H : Fin 1024 → Fin 128 → EReal)
    (he : ∀ h r, (e : S16x1024.Idx → EReal) (ix2 h r) = if h = hd r then 1 else 0)
    (hf : ∀ h r, (f : S1024x16.Idx → EReal) (ix2 r h) = if h = hd r then 1 else 0)
    (hH : ∀ (q s : Fin 128), (hp : S1x128x128.Idx → EReal) (ix3 0 q s) = H ⟨640 + q.val, by omega⟩ s) (q s : Fin 128) :
    (H5 A d a e f hp : S1x128x128.Idx → EReal) (ix3 0 q s) = hOf (actA A) (dtA d) (acA d a) H ⟨640 + q.val, by omega⟩ s := by
  pointwise [H5, k0_pay12, k0_pay21, k0_pay47, k0_pay56, k0_pay58]
  simp only [pay19_at d a e he, pay20_at d a f hf, hH]
  unfold hOf
  rw [gr5]
  rfl

/-- The output columns of heads 12 and 13. -/
def Y6 (A : FVec Ideal S128x1536 .f32) (d : FVec Ideal S128x16 .f32) (a : FVec Ideal S1x16 .f32) (e : FVec Ideal S16x1024 .f32) (hp : Vec Ideal S1x128x128 .f32) (dk : Vec Ideal S1x128 .f32) : FVec Ideal S128x128 .f32 :=
  k0_pay62 k0_pay12 (k0_pay13 d a k0_pay11) (k0_pay15 d a k0_pay11) (k0_pay16 d) (k0_pay18 d a k0_pay11 e) (k0_pay21 A) (k0_pay22 A) k0_pay23 (k0_pay48 A) (k0_pay49 A) (k0_pay59 k0_pay12 (k0_pay13 d a k0_pay11) (k0_pay15 d a k0_pay11) (k0_pay49 A)) (k0_pay60 (k0_pay16 d)) hp dk

/-- The state rows of heads 12 and 13 after the chunk. -/
def H6 (A : FVec Ideal S128x1536 .f32) (d : FVec Ideal S128x16 .f32) (a : FVec Ideal S1x16 .f32) (e : FVec Ideal S16x1024 .f32) (f : FVec Ideal S1024x16 .f32) (hp : Vec Ideal S1x128x128 .f32) : FVec Ideal S1x128x128 .f32 :=
  k0_pay64 (k0_pay63 (k0_pay19 d a k0_pay11 e) (k0_pay20 d a k0_pay11 f) (k0_pay21 A) (k0_pay47 A) hp)

theorem hd_lo6 (q : Fin 128) (h : q.val < 64) : hd ⟨768 + q.val, by omega⟩ = 12 := Fin.ext (by show (768 + q.val) / 64 = 12; omega)

theorem hd_hi6 (q : Fin 128) (h : ¬ q.val < 64) : hd ⟨768 + q.val, by omega⟩ = 13 := Fin.ext (by show (768 + q.val) / 64 = 13; omega)

theorem gr6 (q : Fin 128) : gr ⟨768 + q.val, by omega⟩ = 1 := Fin.ext (by show (768 + q.val) / 512 = 1; omega)

/-- The output columns, entry by entry. -/
theorem Y6_at (A : FVec Ideal S128x1536 .f32) (d : FVec Ideal S128x16 .f32) (a : FVec Ideal S1x16 .f32) (e : FVec Ideal S16x1024 .f32) (hp : Vec Ideal S1x128x128 .f32) (dk : Vec Ideal S1x128 .f32) (H : Fin 1024 → Fin 128 → EReal) (ds : Fin 16 → EReal)
    (he : ∀ h r, (e : S16x1024.Idx → EReal) (ix2 h r) = if h = hd r then 1 else 0)
    (hH : ∀ (q s : Fin 128), (hp : S1x128x128.Idx → EReal) (ix3 0 q s) = H ⟨768 + q.val, by omega⟩ s)
    (hds : ∀ q : Fin 128, (dk : S1x128.Idx → EReal) (ix2 0 q) = ds (hd ⟨768 + q.val, by omega⟩)) (l q : Fin 128) :
    (Y6 A d a e hp dk : S128x128.Idx → EReal) (ix2 l q) = yOf (actA A) (dtA d) (acA d a) H ds l ⟨768 + q.val, by omega⟩ := by
  pointwise [Y6, k0_pay12, k0_pay16, k0_pay21, k0_pay22, k0_pay23, k0_pay47, k0_pay48, k0_pay49, k0_pay59, k0_pay60, k0_pay61, k0_pay62]
  simp only [pay13_at, pay15_at, pay18_at d a e he, sel_causal, sel_first, sum_ite_const, sum_ite_const', hH, hds]
  by_cases h : q.val < 64
  · simp only [h, if_true, add_zero]
    unfold yOf wtOf cbOf
    rw [gr6, hd_lo6 q h]
    rfl
  · simp only [h, if_false, zero_add]
    unfold yOf wtOf cbOf
    rw [gr6, hd_hi6 q h]
    rfl

/-- The state rows, entry by entry. -/
theorem H6_at (A : FVec Ideal S128x1536 .f32) (d : FVec Ideal S128x16 .f32) (a : FVec Ideal S1x16 .f32) (e : FVec Ideal S16x1024 .f32) (f : FVec Ideal S1024x16 .f32) (hp : Vec Ideal S1x128x128 .f32) (H : Fin 1024 → Fin 128 → EReal)
    (he : ∀ h r, (e : S16x1024.Idx → EReal) (ix2 h r) = if h = hd r then 1 else 0)
    (hf : ∀ h r, (f : S1024x16.Idx → EReal) (ix2 r h) = if h = hd r then 1 else 0)
    (hH : ∀ (q s : Fin 128), (hp : S1x128x128.Idx → EReal) (ix3 0 q s) = H ⟨768 + q.val, by omega⟩ s) (q s : Fin 128) :
    (H6 A d a e f hp : S1x128x128.Idx → EReal) (ix3 0 q s) = hOf (actA A) (dtA d) (acA d a) H ⟨768 + q.val, by omega⟩ s := by
  pointwise [H6, k0_pay12, k0_pay21, k0_pay47, k0_pay61, k0_pay63, k0_pay64]
  simp only [pay19_at d a e he, pay20_at d a f hf, hH]
  unfold hOf
  rw [gr6]
  rfl

/-- The output columns of heads 14 and 15. -/
def Y7 (A : FVec Ideal S128x1536 .f32) (d : FVec Ideal S128x16 .f32) (a : FVec Ideal S1x16 .f32) (e : FVec Ideal S16x1024 .f32) (hp : Vec Ideal S1x128x128 .f32) (dk : Vec Ideal S1x128 .f32) : FVec Ideal S128x128 .f32 :=
  k0_pay69 (k0_pay66 k0_pay12 (k0_pay13 d a k0_pay11) (k0_pay15 d a k0_pay11) (k0_pay16 d) (k0_pay18 d a k0_pay11 e) (k0_pay22 A) k0_pay23 (k0_pay48 A) (k0_pay49 A) hp) (k0_pay67 (k0_pay21 A)) (k0_pay68 dk)

/-- The state rows of heads 14 and 15 after the chunk. -/
def H7 (A : FVec Ideal S128x1536 .f32) (d : FVec Ideal S128x16 .f32) (a : FVec Ideal S1x16 .f32) (e : FVec Ideal S16x1024 .f32) (f : FVec Ideal S1024x16 .f32) (hp : Vec Ideal S1x128x128 .f32) : FVec Ideal S1x128x128 .f32 :=
  k0_pay70 (k0_pay19 d a k0_pay11 e) (k0_pay20 d a k0_pay11 f) (k0_pay21 A) (k0_pay47 A) (k0_pay65 hp)

theorem hd_lo7 (q : Fin 128) (h : q.val < 64) : hd ⟨896 + q.val, by omega⟩ = 14 := Fin.ext (by show (896 + q.val) / 64 = 14; omega)

theorem hd_hi7 (q : Fin 128) (h : ¬ q.val < 64) : hd ⟨896 + q.val, by omega⟩ = 15 := Fin.ext (by show (896 + q.val) / 64 = 15; omega)

theorem gr7 (q : Fin 128) : gr ⟨896 + q.val, by omega⟩ = 1 := Fin.ext (by show (896 + q.val) / 512 = 1; omega)

/-- The output columns, entry by entry. -/
theorem Y7_at (A : FVec Ideal S128x1536 .f32) (d : FVec Ideal S128x16 .f32) (a : FVec Ideal S1x16 .f32) (e : FVec Ideal S16x1024 .f32) (hp : Vec Ideal S1x128x128 .f32) (dk : Vec Ideal S1x128 .f32) (H : Fin 1024 → Fin 128 → EReal) (ds : Fin 16 → EReal)
    (he : ∀ h r, (e : S16x1024.Idx → EReal) (ix2 h r) = if h = hd r then 1 else 0)
    (hH : ∀ (q s : Fin 128), (hp : S1x128x128.Idx → EReal) (ix3 0 q s) = H ⟨896 + q.val, by omega⟩ s)
    (hds : ∀ q : Fin 128, (dk : S1x128.Idx → EReal) (ix2 0 q) = ds (hd ⟨896 + q.val, by omega⟩)) (l q : Fin 128) :
    (Y7 A d a e hp dk : S128x128.Idx → EReal) (ix2 l q) = yOf (actA A) (dtA d) (acA d a) H ds l ⟨896 + q.val, by omega⟩ := by
  pointwise [Y7, k0_pay12, k0_pay16, k0_pay21, k0_pay22, k0_pay23, k0_pay47, k0_pay48, k0_pay49, k0_pay65, k0_pay66, k0_pay67, k0_pay68, k0_pay69]
  simp only [pay13_at, pay15_at, pay18_at d a e he, sel_causal, sel_first, sum_ite_const, sum_ite_const', hH, hds]
  by_cases h : q.val < 64
  · simp only [h, if_true, add_zero]
    unfold yOf wtOf cbOf
    rw [gr7, hd_lo7 q h]
    rfl
  · simp only [h, if_false, zero_add]
    unfold yOf wtOf cbOf
    rw [gr7, hd_hi7 q h]
    rfl

/-- The state rows, entry by entry. -/
theorem H7_at (A : FVec Ideal S128x1536 .f32) (d : FVec Ideal S128x16 .f32) (a : FVec Ideal S1x16 .f32) (e : FVec Ideal S16x1024 .f32) (f : FVec Ideal S1024x16 .f32) (hp : Vec Ideal S1x128x128 .f32) (H : Fin 1024 → Fin 128 → EReal)
    (he : ∀ h r, (e : S16x1024.Idx → EReal) (ix2 h r) = if h = hd r then 1 else 0)
    (hf : ∀ h r, (f : S1024x16.Idx → EReal) (ix2 r h) = if h = hd r then 1 else 0)
    (hH : ∀ (q s : Fin 128), (hp : S1x128x128.Idx → EReal) (ix3 0 q s) = H ⟨896 + q.val, by omega⟩ s) (q s : Fin 128) :
    (H7 A d a e f hp : S1x128x128.Idx → EReal) (ix3 0 q s) = hOf (actA A) (dtA d) (acA d a) H ⟨896 + q.val, by omega⟩ s := by
  pointwise [H7, k0_pay12, k0_pay21, k0_pay47, k0_pay65, k0_pay70]
  simp only [pay19_at d a e he, pay20_at d a f hf, hH]
  unfold hOf
  rw [gr7]
  rfl

end Cert.KernelIdeal.Block

end
-- ==== Proof.SsdLists.lean ====
/-
  The mixer kernel's stores of one chunk: the eight blocks of state rows and the eight blocks of output columns, read back
  as whole arrays.
-/
module

public import proofs.«01_k».proof.Proof.SsdPairs
public import Idealize.ShloMosaic.Lib.Pipeline.ReadBack
public import Idealize.ShloMosaic.Lib.WritesUnit
public import Idealize.ShloMosaic.Lib.Pipeline.ValueKit.Tiles
public import proofs.«01_k».proof.Proof.Gen.KernelIdeal.Value
public import Idealize.ShloMosaic.Lib.Pointwise
public import Idealize.ShloMosaic.Lib.Claim
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.Layer
open scoped BigOperators

/-- The eight stores of state rows, the last first. -/
def hList (A : FVec Ideal S128x1536 .f32) (d : FVec Ideal S128x16 .f32) (a : FVec Ideal S1x16 .f32) (e : FVec Ideal S16x1024 .f32) (f : FVec Ideal S1024x16 .f32) (p0 p1 p2 p3 p4 p5 p6 p7 : Vec Ideal S1x128x128 .f32) : List (View.Piece (Elt Ideal) S1x1024x128 .f32) :=
  [⟨Rect.unit ![0, 896, 0] S1x128x128.size inb_S1x1024x128_S1x128x128_0_896_0, H7 A d a e f p7⟩,
    ⟨Rect.unit ![0, 768, 0] S1x128x128.size inb_S1x1024x128_S1x128x128_0_768_0, H6 A d a e f p6⟩,
    ⟨Rect.unit ![0, 640, 0] S1x128x128.size inb_S1x1024x128_S1x128x128_0_640_0, H5 A d a e f p5⟩,
    ⟨Rect.unit ![0, 512, 0] S1x128x128.size inb_S1x1024x128_S1x128x128_0_512_0, H4 A d a e f p4⟩,
    ⟨Rect.unit ![0, 384, 0] S1x128x128.size inb_S1x1024x128_S1x128x128_0_384_0, H3 A d a e f p3⟩,
    ⟨Rect.unit ![0, 256, 0] S1x128x128.size inb_S1x1024x128_S1x128x128_0_256_0, H2 A d a e f p2⟩,
    ⟨Rect.unit ![0, 128, 0] S1x128x128.size inb_S1x1024x128_S1x128x128_0_128_0, H1 A d a e f p1⟩,
    ⟨Rect.unit ![0, 0, 0] S1x128x128.size inb_S1x1024x128_S1x128x128_0_0_0, H0 A d a e f p0⟩]

/-- The eight stores of output columns, the last first. -/
def yList (A : FVec Ideal S128x1536 .f32) (d : FVec Ideal S128x16 .f32) (a : FVec Ideal S1x16 .f32) (e : FVec Ideal S16x1024 .f32) (p0 p1 p2 p3 p4 p5 p6 p7 : Vec Ideal S1x128x128 .f32) (k0 k1 k2 k3 k4 k5 k6 k7 : Vec Ideal S1x128 .f32) : List (View.Piece (Elt Ideal) S128x1024 .f32) :=
  [⟨Rect.unit ![0, 896] S128x128.size inb_S128x1024_S128x128_0_896, Y7 A d a e p7 k7⟩,
    ⟨Rect.unit ![0, 768] S128x128.size inb_S128x1024_S128x128_0_768, Y6 A d a e p6 k6⟩,
    ⟨Rect.unit ![0, 640] S128x128.size inb_S128x1024_S128x128_0_640, Y5 A d a e p5 k5⟩,
    ⟨Rect.unit ![0, 512] S128x128.size inb_S128x1024_S128x128_0_512, Y4 A d a e p4 k4⟩,
    ⟨Rect.unit ![0, 384] S128x128.size inb_S128x1024_S128x128_0_384, Y3 A d a e p3 k3⟩,
    ⟨Rect.unit ![0, 256] S128x128.size inb_S128x1024_S128x128_0_256, Y2 A d a e p2 k2⟩,
    ⟨Rect.unit ![0, 128] S128x128.size inb_S128x1024_S128x128_0_128, Y1 A d a e p1 k1⟩,
    ⟨Rect.unit ![0, 0] S128x128.size inb_S128x1024_S128x128_0_0, Y0 A d a e p0 k0⟩]

/-- The stores of state rows cover the state. -/
theorem hList_cover (A : FVec Ideal S128x1536 .f32) (d : FVec Ideal S128x16 .f32) (a : FVec Ideal S1x16 .f32) (e : FVec Ideal S16x1024 .f32) (f : FVec Ideal S1024x16 .f32) (p0 p1 p2 p3 p4 p5 p6 p7 : Vec Ideal S1x128x128 .f32) (y : S1x1024x128.Idx) : ∃ p ∈ hList A d a e f p0 p1 p2 p3 p4 p5 p6 p7, y ∈ p.1.set :=
  View.cover_of_tiledL (hList A d a e f p0 p1 p2 p3 p4 p5 p6 p7) S1x128x128.size (by sl_kernel_rfl) y

/-- The stores of output columns cover the row block. -/
theorem yList_cover (A : FVec Ideal S128x1536 .f32) (d : FVec Ideal S128x16 .f32) (a : FVec Ideal S1x16 .f32) (e : FVec Ideal S16x1024 .f32) (p0 p1 p2 p3 p4 p5 p6 p7 : Vec Ideal S1x128x128 .f32) (k0 k1 k2 k3 k4 k5 k6 k7 : Vec Ideal S1x128 .f32) (y : S128x1024.Idx) : ∃ p ∈ yList A d a e p0 p1 p2 p3 p4 p5 p6 p7 k0 k1 k2 k3 k4 k5 k6 k7, y ∈ p.1.set :=
  View.cover_of_tiledL (yList A d a e p0 p1 p2 p3 p4 p5 p6 p7 k0 k1 k2 k3 k4 k5 k6 k7) S128x128.size (by sl_kernel_rfl) y

/-- The state after the chunk, read back over whatever the buffer held. -/
theorem hList_at (A : FVec Ideal S128x1536 .f32) (d : FVec Ideal S128x16 .f32) (a : FVec Ideal S1x16 .f32) (e : FVec Ideal S16x1024 .f32) (f : FVec Ideal S1024x16 .f32) (p0 p1 p2 p3 p4 p5 p6 p7 : Vec Ideal S1x128x128 .f32) (H : Fin 1024 → Fin 128 → EReal)
    (he : ∀ h r, (e : S16x1024.Idx → EReal) (ix2 h r) = if h = hd r then 1 else 0)
    (hf : ∀ h r, (f : S1024x16.Idx → EReal) (ix2 r h) = if h = hd r then 1 else 0)
    (h0 : ∀ (q s : Fin 128), (p0 : S1x128x128.Idx → EReal) (ix3 0 q s) = H ⟨q.val, by omega⟩ s)
    (h1 : ∀ (q s : Fin 128), (p1 : S1x128x128.Idx → EReal) (ix3 0 q s) = H ⟨128 + q.val, by omega⟩ s)
    (h2 : ∀ (q s : Fin 128), (p2 : S1x128x128.Idx → EReal) (ix3 0 q s) = H ⟨256 + q.val, by omega⟩ s)
    (h3 : ∀ (q s : Fin 128), (p3 : S1x128x128.Idx → EReal) (ix3 0 q s) = H ⟨384 + q.val, by omega⟩ s)
    (h4 : ∀ (q s : Fin 128), (p4 : S1x128x128.Idx → EReal) (ix3 0 q s) = H ⟨512 + q.val, by omega⟩ s)
    (h5 : ∀ (q s : Fin 128), (p5 : S1x128x128.Idx → EReal) (ix3 0 q s) = H ⟨640 + q.val, by omega⟩ s)
    (h6 : ∀ (q s : Fin 128), (p6 : S1x128x128.Idx → EReal) (ix3 0 q s) = H ⟨768 + q.val, by omega⟩ s)
    (h7 : ∀ (q s : Fin 128), (p7 : S1x128x128.Idx → EReal) (ix3 0 q s) = H ⟨896 + q.val, by omega⟩ s)
    (L : List (View.Piece (Elt Ideal) S1x1024x128 .f32)) (r : Fin 1024) (s : Fin 128) :
    View.canon (Val := Elt Ideal) (hList A d a e f p0 p1 p2 p3 p4 p5 p6 p7 ++ L) (ix3 0 r s) = hOf (actA A) (dtA d) (acA d a) H r s := by
  have hG : View.PiecesOf (Val := Elt Ideal) (fun y : S1x1024x128.Idx => hOf (actA A) (dtA d) (acA d a) H (y 1) (y 2)) (hList A d a e f p0 p1 p2 p3 p4 p5 p6 p7) :=
    ⟨fun x => by
      obtain ⟨z, q, s, rfl⟩ : ∃ (z : Fin 1) (q s : Fin 128), x = ix3 z q s := ⟨_, _, _, eq_ix3 x⟩
      obtain rfl : z = 0 := Fin.ext (by omega)
      refine (H7_at A d a e f p7 H he hf h7 q s).trans ?_
      exact congrArg₂ (hOf (actA A) (dtA d) (acA d a) H) (Fin.ext (by show 896 + q.val = 896 + 1 * q.val; omega)) (Fin.ext (by show s.val = 0 + 1 * s.val; omega)),
    fun x => by
      obtain ⟨z, q, s, rfl⟩ : ∃ (z : Fin 1) (q s : Fin 128), x = ix3 z q s := ⟨_, _, _, eq_ix3 x⟩
      obtain rfl : z = 0 := Fin.ext (by omega)
      refine (H6_at A d a e f p6 H he hf h6 q s).trans ?_
      exact congrArg₂ (hOf (actA A) (dtA d) (acA d a) H) (Fin.ext (by show 768 + q.val = 768 + 1 * q.val; omega)) (Fin.ext (by show s.val = 0 + 1 * s.val; omega)),
    fun x => by
      obtain ⟨z, q, s, rfl⟩ : ∃ (z : Fin 1) (q s : Fin 128), x = ix3 z q s := ⟨_, _, _, eq_ix3 x⟩
      obtain rfl : z = 0 := Fin.ext (by omega)
      refine (H5_at A d a e f p5 H he hf h5 q s).trans ?_
      exact congrArg₂ (hOf (actA A) (dtA d) (acA d a) H) (Fin.ext (by show 640 + q.val = 640 + 1 * q.val; omega)) (Fin.ext (by show s.val = 0 + 1 * s.val; omega)),
    fun x => by
      obtain ⟨z, q, s, rfl⟩ : ∃ (z : Fin 1) (q s : Fin 128), x = ix3 z q s := ⟨_, _, _, eq_ix3 x⟩
      obtain rfl : z = 0 := Fin.ext (by omega)
      refine (H4_at A d a e f p4 H he hf h4 q s).trans ?_
      exact congrArg₂ (hOf (actA A) (dtA d) (acA d a) H) (Fin.ext (by show 512 + q.val = 512 + 1 * q.val; omega)) (Fin.ext (by show s.val = 0 + 1 * s.val; omega)),
    fun x => by
      obtain ⟨z, q, s, rfl⟩ : ∃ (z : Fin 1) (q s : Fin 128), x = ix3 z q s := ⟨_, _, _, eq_ix3 x⟩
      obtain rfl : z = 0 := Fin.ext (by omega)
      refine (H3_at A d a e f p3 H he hf h3 q s).trans ?_
      exact congrArg₂ (hOf (actA A) (dtA d) (acA d a) H) (Fin.ext (by show 384 + q.val = 384 + 1 * q.val; omega)) (Fin.ext (by show s.val = 0 + 1 * s.val; omega)),
    fun x => by
      obtain ⟨z, q, s, rfl⟩ : ∃ (z : Fin 1) (q s : Fin 128), x = ix3 z q s := ⟨_, _, _, eq_ix3 x⟩
      obtain rfl : z = 0 := Fin.ext (by omega)
      refine (H2_at A d a e f p2 H he hf h2 q s).trans ?_
      exact congrArg₂ (hOf (actA A) (dtA d) (acA d a) H) (Fin.ext (by show 256 + q.val = 256 + 1 * q.val; omega)) (Fin.ext (by show s.val = 0 + 1 * s.val; omega)),
    fun x => by
      obtain ⟨z, q, s, rfl⟩ : ∃ (z : Fin 1) (q s : Fin 128), x = ix3 z q s := ⟨_, _, _, eq_ix3 x⟩
      obtain rfl : z = 0 := Fin.ext (by omega)
      refine (H1_at A d a e f p1 H he hf h1 q s).trans ?_
      exact congrArg₂ (hOf (actA A) (dtA d) (acA d a) H) (Fin.ext (by show 128 + q.val = 128 + 1 * q.val; omega)) (Fin.ext (by show s.val = 0 + 1 * s.val; omega)),
    fun x => by
      obtain ⟨z, q, s, rfl⟩ : ∃ (z : Fin 1) (q s : Fin 128), x = ix3 z q s := ⟨_, _, _, eq_ix3 x⟩
      obtain rfl : z = 0 := Fin.ext (by omega)
      refine (H0_at A d a e f p0 H he hf h0 q s).trans ?_
      exact congrArg₂ (hOf (actA A) (dtA d) (acA d a) H) (Fin.ext (by show q.val = 0 + 1 * q.val; omega)) (Fin.ext (by show s.val = 0 + 1 * s.val; omega)), trivial⟩
  exact View.canon_append_of_piecesOf _ L _ hG (ix3 0 r s) (hList_cover A d a e f p0 p1 p2 p3 p4 p5 p6 p7 _)

/-- The row block's outputs before the gate, read back. -/
theorem yList_at (A : FVec Ideal S128x1536 .f32) (d : FVec Ideal S128x16 .f32) (a : FVec Ideal S1x16 .f32) (e : FVec Ideal S16x1024 .f32) (p0 p1 p2 p3 p4 p5 p6 p7 : Vec Ideal S1x128x128 .f32) (k0 k1 k2 k3 k4 k5 k6 k7 : Vec Ideal S1x128 .f32) (H : Fin 1024 → Fin 128 → EReal) (ds : Fin 16 → EReal)
    (he : ∀ h r, (e : S16x1024.Idx → EReal) (ix2 h r) = if h = hd r then 1 else 0)
    (h0 : ∀ (q s : Fin 128), (p0 : S1x128x128.Idx → EReal) (ix3 0 q s) = H ⟨q.val, by omega⟩ s)
    (h1 : ∀ (q s : Fin 128), (p1 : S1x128x128.Idx → EReal) (ix3 0 q s) = H ⟨128 + q.val, by omega⟩ s)
    (h2 : ∀ (q s : Fin 128), (p2 : S1x128x128.Idx → EReal) (ix3 0 q s) = H ⟨256 + q.val, by omega⟩ s)
    (h3 : ∀ (q s : Fin 128), (p3 : S1x128x128.Idx → EReal) (ix3 0 q s) = H ⟨384 + q.val, by omega⟩ s)
    (h4 : ∀ (q s : Fin 128), (p4 : S1x128x128.Idx → EReal) (ix3 0 q s) = H ⟨512 + q.val, by omega⟩ s)
    (h5 : ∀ (q s : Fin 128), (p5 : S1x128x128.Idx → EReal) (ix3 0 q s) = H ⟨640 + q.val, by omega⟩ s)
    (h6 : ∀ (q s : Fin 128), (p6 : S1x128x128.Idx → EReal) (ix3 0 q s) = H ⟨768 + q.val, by omega⟩ s)
    (h7 : ∀ (q s : Fin 128), (p7 : S1x128x128.Idx → EReal) (ix3 0 q s) = H ⟨896 + q.val, by omega⟩ s)
    (g0 : ∀ q : Fin 128, (k0 : S1x128.Idx → EReal) (ix2 0 q) = ds (hd ⟨q.val, by omega⟩))
    (g1 : ∀ q : Fin 128, (k1 : S1x128.Idx → EReal) (ix2 0 q) = ds (hd ⟨128 + q.val, by omega⟩))
    (g2 : ∀ q : Fin 128, (k2 : S1x128.Idx → EReal) (ix2 0 q) = ds (hd ⟨256 + q.val, by omega⟩))
    (g3 : ∀ q : Fin 128, (k3 : S1x128.Idx → EReal) (ix2 0 q) = ds (hd ⟨384 + q.val, by omega⟩))
    (g4 : ∀ q : Fin 128, (k4 : S1x128.Idx → EReal) (ix2 0 q) = ds (hd ⟨512 + q.val, by omega⟩))
    (g5 : ∀ q : Fin 128, (k5 : S1x128.Idx → EReal) (ix2 0 q) = ds (hd ⟨640 + q.val, by omega⟩))
    (g6 : ∀ q : Fin 128, (k6 : S1x128.Idx → EReal) (ix2 0 q) = ds (hd ⟨768 + q.val, by omega⟩))
    (g7 : ∀ q : Fin 128, (k7 : S1x128.Idx → EReal) (ix2 0 q) = ds (hd ⟨896 + q.val, by omega⟩))
    (l : Fin 128) (r : Fin 1024) :
    View.canon (Val := Elt Ideal) (yList A d a e p0 p1 p2 p3 p4 p5 p6 p7 k0 k1 k2 k3 k4 k5 k6 k7) (ix2 l r) = yOf (actA A) (dtA d) (acA d a) H ds l r := by
  have hG : View.PiecesOf (Val := Elt Ideal) (fun y : S128x1024.Idx => yOf (actA A) (dtA d) (acA d a) H ds (y 0) (y 1)) (yList A d a e p0 p1 p2 p3 p4 p5 p6 p7 k0 k1 k2 k3 k4 k5 k6 k7) :=
    ⟨fun x => by
      obtain ⟨l, q, rfl⟩ : ∃ (l q : Fin 128), x = ix2 l q := ⟨_, _, eq_ix2 x⟩
      refine (Y7_at A d a e p7 k7 H ds he h7 g7 l q).trans ?_
      exact congrArg₂ (yOf (actA A) (dtA d) (acA d a) H ds) (Fin.ext (by show l.val = 0 + 1 * l.val; omega)) (Fin.ext (by show 896 + q.val = 896 + 1 * q.val; omega)),
    fun x => by
      obtain ⟨l, q, rfl⟩ : ∃ (l q : Fin 128), x = ix2 l q := ⟨_, _, eq_ix2 x⟩
      refine (Y6_at A d a e p6 k6 H ds he h6 g6 l q).trans ?_
      exact congrArg₂ (yOf (actA A) (dtA d) (acA d a) H ds) (Fin.ext (by show l.val = 0 + 1 * l.val; omega)) (Fin.ext (by show 768 + q.val = 768 + 1 * q.val; omega)),
    fun x => by
      obtain ⟨l, q, rfl⟩ : ∃ (l q : Fin 128), x = ix2 l q := ⟨_, _, eq_ix2 x⟩
      refine (Y5_at A d a e p5 k5 H ds he h5 g5 l q).trans ?_
      exact congrArg₂ (yOf (actA A) (dtA d) (acA d a) H ds) (Fin.ext (by show l.val = 0 + 1 * l.val; omega)) (Fin.ext (by show 640 + q.val = 640 + 1 * q.val; omega)),
    fun x => by
      obtain ⟨l, q, rfl⟩ : ∃ (l q : Fin 128), x = ix2 l q := ⟨_, _, eq_ix2 x⟩
      refine (Y4_at A d a e p4 k4 H ds he h4 g4 l q).trans ?_
      exact congrArg₂ (yOf (actA A) (dtA d) (acA d a) H ds) (Fin.ext (by show l.val = 0 + 1 * l.val; omega)) (Fin.ext (by show 512 + q.val = 512 + 1 * q.val; omega)),
    fun x => by
      obtain ⟨l, q, rfl⟩ : ∃ (l q : Fin 128), x = ix2 l q := ⟨_, _, eq_ix2 x⟩
      refine (Y3_at A d a e p3 k3 H ds he h3 g3 l q).trans ?_
      exact congrArg₂ (yOf (actA A) (dtA d) (acA d a) H ds) (Fin.ext (by show l.val = 0 + 1 * l.val; omega)) (Fin.ext (by show 384 + q.val = 384 + 1 * q.val; omega)),
    fun x => by
      obtain ⟨l, q, rfl⟩ : ∃ (l q : Fin 128), x = ix2 l q := ⟨_, _, eq_ix2 x⟩
      refine (Y2_at A d a e p2 k2 H ds he h2 g2 l q).trans ?_
      exact congrArg₂ (yOf (actA A) (dtA d) (acA d a) H ds) (Fin.ext (by show l.val = 0 + 1 * l.val; omega)) (Fin.ext (by show 256 + q.val = 256 + 1 * q.val; omega)),
    fun x => by
      obtain ⟨l, q, rfl⟩ : ∃ (l q : Fin 128), x = ix2 l q := ⟨_, _, eq_ix2 x⟩
      refine (Y1_at A d a e p1 k1 H ds he h1 g1 l q).trans ?_
      exact congrArg₂ (yOf (actA A) (dtA d) (acA d a) H ds) (Fin.ext (by show l.val = 0 + 1 * l.val; omega)) (Fin.ext (by show 128 + q.val = 128 + 1 * q.val; omega)),
    fun x => by
      obtain ⟨l, q, rfl⟩ : ∃ (l q : Fin 128), x = ix2 l q := ⟨_, _, eq_ix2 x⟩
      refine (Y0_at A d a e p0 k0 H ds he h0 g0 l q).trans ?_
      exact congrArg₂ (yOf (actA A) (dtA d) (acA d a) H ds) (Fin.ext (by show l.val = 0 + 1 * l.val; omega)) (Fin.ext (by show q.val = 0 + 1 * q.val; omega)), trivial⟩
  exact (congrFun (congrArg _ (List.append_nil _).symm) _).trans
    (View.canon_append_of_piecesOf _ [] _ hG (ix2 l r) (yList_cover A d a e p0 p1 p2 p3 p4 p5 p6 p7 k0 k1 k2 k3 k4 k5 k6 k7 _))

/-- What pieces hold, read through a box at an index. -/
theorem canon_box {s : Shape} {e : EltTy} (L : List (View.Piece (Elt Ideal) s e)) (off size : Fin s.rank → ℕ)
    (inb : ∀ a, off a + size a ≤ s.size a) (x : (Rect.unit off size inb).shape.Idx) (y : s.Idx)
    (h : ∀ a, (y a).val = off a + (x a).val) :
    View.canon (Val := Elt Ideal) L ((Rect.unit off size inb).toLoadRect.idx x) = View.canon L y :=
  congrArg _ (funext fun a => Fin.ext ((Rect.idx_unit_val off size inb x a).trans (h a).symm))

end Cert.KernelIdeal.Block

end
-- ==== Proof.SsdBlockA.lean ====
/-
  The mixer kernel at the first chunk of a sequence: what the point leaves in the running state, in the output block and in the rows kept for the
  next chunk, entry by entry.
-/
module

public import proofs.«01_k».proof.Proof.SsdLists
public import proofs.«01_k».proof.Proof.Gen.KernelIdeal.Value
public import Idealize.ShloMosaic.Lib.Pointwise
public import Idealize.ShloMosaic.Lib.Claim
public import Idealize.ShloMosaic.Lib.Pipeline.Value

@[expose] public section

set_option maxRecDepth 16384

noncomputable section

namespace Cert.KernelIdeal.BlockA

open Cert.KernelIdeal Cert.KernelIdeal.Gen Idealize.ShloMosaic Idealize.ShloMosaic.TcCoe Idealize.SL.Sem
open Idealize.ShloMosaic.Pipeline (Dat)
open Cert.Layer Cert.KernelIdeal.Block
open scoped BigOperators

variable (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S1x8x1536 .f32) (harg4 : arg4.IsWhole) (arg5 : Memref sig .tc .vmem S1x1024x128 .f32) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x1024 .f32) (harg12 : arg12.IsWhole) (arg13 : Memref sig .tc .vmem S1024x16 .f32) (harg13 : arg13.IsWhole) (arg14 : Memref sig .tc .vmem S128x1024 .bf16) (harg14 : arg14.IsWhole) (arg15 : Memref sig .tc .vmem S1x1024x128 .f32) (harg15 : arg15.IsWhole) (arg16 : Memref sig .tc .vmem S136x1536 .f32) (harg16 : arg16.IsWhole) (arg17 : Memref sig .tc .vmem S128x1024 .f32) (harg17 : arg17.IsWhole) (hc0 : cond0_0 i)
    (x0 : Vec Ideal S128x2048 .f32) (x1 : Vec Ideal S128x1024 .f32) (x2 : Vec Ideal S1x8x1536 .f32) (x3 : Vec Ideal S1x1024x128 .f32) (x4 : Vec Ideal S4x1536 .f32) (x5 : Vec Ideal S1x1536 .f32) (x6 : Vec Ideal S1x16 .f32) (x7 : Vec Ideal S1x16 .f32) (x8 : Vec Ideal S1x1024 .f32) (x9 : Vec Ideal S1x1024 .f32) (x10 : Vec Ideal S16x1024 .f32) (x11 : Vec Ideal S1024x16 .f32)

/-- The rows the convolution reads: eight from before the chunk, then the chunk. -/
def rows : Fin 136 → Fin 1536 → EReal :=
  rowsOf (fun r k => (x2 : S1x8x1536.Idx → EReal) (ix3 0 r k)) fun l k => (x0 : S128x2048.Idx → EReal) (ix2 l ⟨k.val, by omega⟩)

/-- The convolved and gated rows. -/
def act : Fin 128 → Fin 1536 → EReal :=
  actOf (rows x0 x2) (fun q k => (x4 : S4x1536.Idx → EReal) (ix2 q k)) fun k => (x5 : S1x1536.Idx → EReal) (ix2 0 k)

/-- The step sizes. -/
def dt : Fin 128 → Fin 16 → EReal := fun l h =>
  stepAt (128 * (i 1).val + l.val) ((x0 : S128x2048.Idx → EReal) (ix2 l ⟨1536 + h.val, by omega⟩) + (x6 : S1x16.Idx → EReal) (ix2 0 h))

/-- The running log decay. -/
def acum : Fin 128 → Fin 16 → EReal := acumOf (dt i x0 x6) fun h => Ideal.exp ((x7 : S1x16.Idx → EReal) (ix2 0 h))

/-- The state before the chunk. -/
def st : Fin 1024 → Fin 128 → EReal := fun r s => (x3 : S1x1024x128.Idx → EReal) (ix3 0 r s)

include harg2 in
/-- What the pieces stored in the scratch hold at the chunk's own rows. -/
theorem canon_hi (l : Fin 128) (k : Fin 1536) :
    (View.canon (Val := Elt Ideal) (kernelRun0_A.sl.HS0_2 (F := Ideal) c arg2 harg2 arg4 harg4 x0 x2) : S136x1536.Idx → EReal) (ix2 ⟨8 + l.val, by omega⟩ k) = (x0 : S128x2048.Idx → EReal) (ix2 l ⟨k.val, by omega⟩) := by
  unfold kernelRun0_A.sl.HS0_2
  have e : (ix2 ⟨8 + l.val, by omega⟩ k : S136x1536.Idx) = (Rect.unit (s := S136x1536) ![8, 0] S128x1536.size inb_S136x1536_S128x1536_8_0).emb (ix2 l k) :=
    funext (Fin.forall_fin_two.mpr ⟨Fin.ext (by show 8 + l.val = 8 + 1 * l.val; omega), Fin.ext (by show k.val = 0 + 1 * k.val; omega)⟩)
  rw [e, View.canon_cons_emb]
  pointwise [k0_pay4]
  rw [View.readAt_eq_ld, harg2.read_unread]
  exact View.ld_unit_apply_of x0 _ _ _ _ _ (Fin.forall_fin_two.mpr ⟨by show l.val = 0 + l.val; omega, by show k.val = 0 + k.val; omega⟩)

include harg2 harg4 in
/-- What the pieces stored in the scratch hold. -/
theorem scr_at (r : Fin 136) (k : Fin 1536) :
    (View.canon (Val := Elt Ideal) (kernelRun0_A.sl.HS0_2 (F := Ideal) c arg2 harg2 arg4 harg4 x0 x2) : S136x1536.Idx → EReal) (ix2 r k) = (rows x0 x2) r k := by
  unfold rows rowsOf
  by_cases h : r.val < 8
  · rw [dif_pos h]
    unfold kernelRun0_A.sl.HS0_2
    rw [View.canon_cons_of_not_mem]
    · have e : (ix2 r k : S136x1536.Idx) = (Rect.unit (s := S136x1536) ![0, 0] S8x1536.size inb_S136x1536_S8x1536_0_0).emb (ix2 ⟨r.val, h⟩ k) :=
        funext (Fin.forall_fin_two.mpr ⟨Fin.ext (by show r.val = 0 + 1 * r.val; omega), Fin.ext (by show k.val = 0 + 1 * k.val; omega)⟩)
      rw [e, View.canon_cons_emb]
      pointwise [k0_pay2]
      rw [View.readAt_eq_ld, harg4.read_unread]
      exact View.ld_unit_apply_of x2 _ _ _ _ _ (fun a => by fin_cases a <;> simp)
    · rw [Rect.mem_set_unit]
      intro hm
      have h0 := (hm 0).1
      have : 8 ≤ r.val := h0
      omega
  · rw [dif_neg h]
    have e : (ix2 r k : S136x1536.Idx) = ix2 ⟨8 + (r.val - 8), by omega⟩ k := by
      congr 1
      exact Fin.ext (by show r.val = 8 + (r.val - 8); omega)
    rw [e]
    exact canon_hi c arg2 harg2 arg4 harg4 x0 x2 ⟨r.val - 8, by omega⟩ k

include harg2 harg4 harg6 harg7 in
/-- The convolved and gated rows are the kernel's. -/
theorem act_at (l : Fin 128) (k : Fin 1536) : ((kernelRun0_A.sl.r_1 (F := Ideal) c arg2 harg2 arg4 harg4 arg6 harg6 arg7 harg7 arg16 x0 x2 x4 x5) : S128x1536.Idx → EReal) (ix2 l k) = (act x0 x2 x4 x5) l k := by
  unfold kernelRun0_A.sl.r_1 kernelRun0_A.sl.r
  rw [pay7_at]
  have w : ∀ (q : Fin 4) (inb) , (View.readAt (Elt Ideal) arg6.view (Rect.unit (s := S4x1536) ![q.val, 0] S1x1536.size inb).toLoadRect (harg6.unread x4) : S1x1536.Idx → EReal) (ix2 0 k) = (x4 : S4x1536.Idx → EReal) (ix2 q k) := fun q inb => by
    rw [View.readAt_eq_ld, harg6.read_unread]
    exact View.ld_unit_apply_of x4 _ _ _ _ _ (Fin.forall_fin_two.mpr ⟨by show q.val = q.val + 0; omega, by show k.val = 0 + k.val; omega⟩)
  have b : (View.readAt (Elt Ideal) arg7.view (Rect.unit ![0, 0] S1x1536.size inb_S1x1536_S1x1536_0_0).toLoadRect (harg7.unread x5) : S1x1536.Idx → EReal) (ix2 0 k) = (x5 : S1x1536.Idx → EReal) (ix2 0 k) := by
    rw [View.readAt_eq_ld, harg7.read_unread]
    exact View.ld_unit_apply_of x5 _ _ _ _ _ (Fin.forall_fin_two.mpr ⟨rfl, by show k.val = 0 + k.val; omega⟩)
  unfold act actOf convOf
  refine congrArg silu ?_
  refine congrArg₂ (· + ·) (congrArg₂ (· + ·) (congrArg₂ (· + ·) (congrArg₂ (· + ·) b
    (congrArg₂ (· * ·) (show ((kernelRun0_A.sl.v9 (F := Ideal) c arg2 harg2 arg4 harg4 arg16 x0 x2) : S128x1536.Idx → EReal) (ix2 l k) = (rows x0 x2) ⟨5 + l.val, by omega⟩ k from by
        unfold kernelRun0_A.sl.v9
        rw [View.readCov_eq_canon']
        exact (canon_box _ _ _ _ _ (ix2 ⟨5 + l.val, by omega⟩ k) (Fin.forall_fin_two.mpr ⟨by first | rfl | (show _ = 5 + l.val; omega), by show k.val = 0 + k.val; omega⟩)).trans (scr_at c arg2 harg2 arg4 harg4 x0 x2 ⟨5 + l.val, by omega⟩ k)) (w 0 inb_S4x1536_S1x1536_0_0)))
    (congrArg₂ (· * ·) (show ((kernelRun0_A.sl.v15 (F := Ideal) c arg2 harg2 arg4 harg4 arg16 x0 x2) : S128x1536.Idx → EReal) (ix2 l k) = (rows x0 x2) ⟨6 + l.val, by omega⟩ k from by
        unfold kernelRun0_A.sl.v15
        rw [View.readCov_eq_canon']
        exact (canon_box _ _ _ _ _ (ix2 ⟨6 + l.val, by omega⟩ k) (Fin.forall_fin_two.mpr ⟨by first | rfl | (show _ = 6 + l.val; omega), by show k.val = 0 + k.val; omega⟩)).trans (scr_at c arg2 harg2 arg4 harg4 x0 x2 ⟨6 + l.val, by omega⟩ k)) (w 1 inb_S4x1536_S1x1536_1_0)))
    (congrArg₂ (· * ·) (show ((kernelRun0_A.sl.v20 (F := Ideal) c arg2 harg2 arg4 harg4 arg16 x0 x2) : S128x1536.Idx → EReal) (ix2 l k) = (rows x0 x2) ⟨7 + l.val, by omega⟩ k from by
        unfold kernelRun0_A.sl.v20
        rw [View.readCov_eq_canon']
        exact (canon_box _ _ _ _ _ (ix2 ⟨7 + l.val, by omega⟩ k) (Fin.forall_fin_two.mpr ⟨by first | rfl | (show _ = 7 + l.val; omega), by show k.val = 0 + k.val; omega⟩)).trans (scr_at c arg2 harg2 arg4 harg4 x0 x2 ⟨7 + l.val, by omega⟩ k)) (w 2 inb_S4x1536_S1x1536_2_0)))
    (congrArg₂ (· * ·) (show ((kernelRun0_A.sl.v25 (F := Ideal) c arg2 harg2 arg4 harg4 arg16 x0 x2) : S128x1536.Idx → EReal) (ix2 l k) = (rows x0 x2) ⟨8 + l.val, by omega⟩ k from by
        unfold kernelRun0_A.sl.v25
        rw [View.readCov_eq_canon']
        exact (canon_box _ _ _ _ _ (ix2 ⟨8 + l.val, by omega⟩ k) (Fin.forall_fin_two.mpr ⟨by first | rfl | (show _ = 8 + l.val; omega), by show k.val = 0 + k.val; omega⟩)).trans (scr_at c arg2 harg2 arg4 harg4 x0 x2 ⟨8 + l.val, by omega⟩ k)) (w 3 inb_S4x1536_S1x1536_3_0))

include harg2 harg8 in
/-- The step sizes are the kernel's. -/
theorem dt_at (l : Fin 128) (h : Fin 16) : ((kernelRun0_A.sl.r_2 (F := Ideal) c i arg2 harg2 arg8 harg8 x0 x6) : S128x16.Idx → EReal) (ix2 l h) = (dt i x0 x6) l h := by
  unfold kernelRun0_A.sl.r_2 dt
  rw [pay9_at _ (i 1).val (i 1).isLt rfl]
  rw [View.readAt_eq_ld, View.readAt_eq_ld, harg2.read_unread, harg8.read_unread]
  refine congrArg (stepAt _) (congrArg₂ (· + ·) (View.ld_unit_apply_of x0 _ _ _ _ _ ?_) (View.ld_unit_apply_of x6 _ _ _ _ _ ?_))
  · exact Fin.forall_fin_two.mpr ⟨by show l.val = 0 + l.val; omega, by show 1536 + h.val = 1536 + h.val; omega⟩
  · exact Fin.forall_fin_two.mpr ⟨rfl, by show h.val = 0 + h.val; omega⟩

include harg9 in
/-- The rates are the kernel's. -/
theorem ea_at (h : Fin 16) : ((kernelRun0_A.sl.r_3 (F := Ideal) c arg9 harg9 x7) : S1x16.Idx → EReal) (ix2 0 h) = Ideal.exp ((x7 : S1x16.Idx → EReal) (ix2 0 h)) := by
  unfold kernelRun0_A.sl.r_3
  rw [pay10_at, View.readAt_eq_ld, harg9.read_unread]
  exact congrArg Ideal.exp (View.ld_unit_apply_of x7 _ _ _ _ _ (Fin.forall_fin_two.mpr ⟨rfl, by show h.val = 0 + h.val; omega⟩))

include harg2 harg8 harg9 in
/-- The running log decay is the kernel's. -/
theorem ac_eq : acA (kernelRun0_A.sl.r_2 (F := Ideal) c i arg2 harg2 arg8 harg8 x0 x6) (kernelRun0_A.sl.r_3 (F := Ideal) c arg9 harg9 x7) = (acum i x0 x6 x7) := by
  unfold acA acum
  rw [show dtA (kernelRun0_A.sl.r_2 (F := Ideal) c i arg2 harg2 arg8 harg8 x0 x6) = (dt i x0 x6) from funext fun l => funext fun h => dt_at c i arg2 harg2 arg8 harg8 x0 x6 l h,
    show (fun h => ((kernelRun0_A.sl.r_3 (F := Ideal) c arg9 harg9 x7) : S1x16.Idx → EReal) (ix2 0 h)) = fun h => Ideal.exp ((x7 : S1x16.Idx → EReal) (ix2 0 h)) from funext fun h => ea_at c arg9 harg9 x7 h]

include harg12 in
/-- The spreading matrix is read whole. -/
theorem e_at (h : Fin 16) (r : Fin 1024) : ((View.readAt (Elt Ideal) arg12.view (Rect.unit (s := S16x1024) ![0, 0] S16x1024.size inb_S16x1024_S16x1024_0_0).toLoadRect (harg12.unread x10)) : S16x1024.Idx → EReal) (ix2 h r) = (x10 : S16x1024.Idx → EReal) (ix2 h r) := by
  rw [View.readAt_eq_ld, harg12.read_unread]
  exact View.ld_unit_apply_of x10 _ _ _ _ _ (Fin.forall_fin_two.mpr ⟨by show h.val = 0 + h.val; omega, by show r.val = 0 + r.val; omega⟩)

include harg13 in
/-- The transposed spreading matrix is read whole. -/
theorem f_at (h : Fin 16) (r : Fin 1024) : ((View.readAt (Elt Ideal) arg13.view (Rect.unit (s := S1024x16) ![0, 0] S1024x16.size inb_S1024x16_S1024x16_0_0).toLoadRect (harg13.unread x11)) : S1024x16.Idx → EReal) (ix2 r h) = (x11 : S1024x16.Idx → EReal) (ix2 r h) := by
  rw [View.readAt_eq_ld, harg13.read_unread]
  exact View.ld_unit_apply_of x11 _ _ _ _ _ (Fin.forall_fin_two.mpr ⟨by show r.val = 0 + r.val; omega, by show h.val = 0 + h.val; omega⟩)

include harg5 in
/-- The state rows of pair 0 before the chunk. -/
theorem hp0_at (q s : Fin 128) : ((kernelRun0_A.sl.v148 (F := Ideal) c arg5 harg5 arg15 x3) : S1x128x128.Idx → EReal) (ix3 0 q s) = (st x3) ⟨q.val, by omega⟩ s := by
  unfold kernelRun0_A.sl.v148 kernelRun0_A.sl.H13_1
  simp (disch := decide) only [↓ View.readCov_skip, ↓ View.readCov_fill]
  refine (View.ld_unit_apply_of _ _ _ _ _ (ix3 0 ⟨q.val, by omega⟩ s) (fun a => by fin_cases a <;> simp)).trans ?_
  unfold k0_pay3
  pointwise
  rw [View.readAt_eq_ld, harg5.read_unread]
  exact View.ld_unit_apply_of x3 _ _ _ _ _ (fun a => by fin_cases a <;> simp)

include harg10 in
theorem dk0_at (ds : Fin 16 → EReal) (h8 : ∀ r, (x8 : S1x1024.Idx → EReal) (ix2 0 r) = ds (hd r)) (q : Fin 128) : ((View.readAt (Elt Ideal) arg10.view (Rect.unit (s := S1x1024) ![0, 0] S1x128.size inb_S1x1024_S1x128_0_0).toLoadRect (harg10.unread x8)) : S1x128.Idx → EReal) (ix2 0 q) = ds (hd ⟨q.val, by omega⟩) := by
  rw [View.readAt_eq_ld, harg10.read_unread, ← h8]
  exact View.ld_unit_apply_of x8 _ _ _ _ _ (Fin.forall_fin_two.mpr ⟨rfl, by show q.val = 0 + q.val; omega⟩)

include harg2 harg4 harg5 harg6 harg7 harg8 harg9 harg12 harg13 in
/-- The state rows of pair 1 before the chunk. -/
theorem hp1_at (q s : Fin 128) : ((kernelRun0_A.sl.v208 (F := Ideal) c i arg2 harg2 arg4 harg4 arg5 harg5 arg6 harg6 arg7 harg7 arg8 harg8 arg9 harg9 arg12 harg12 arg13 harg13 arg15 arg16 x0 x2 x3 x4 x5 x6 x7 x10 x11) : S1x128x128.Idx → EReal) (ix3 0 q s) = (st x3) ⟨128 + q.val, by omega⟩ s := by
  unfold kernelRun0_A.sl.v208 kernelRun0_A.sl.H13_2 kernelRun0_A.sl.H13_1
  simp (disch := decide) only [↓ View.readCov_skip, ↓ View.readCov_fill]
  refine (View.ld_unit_apply_of _ _ _ _ _ (ix3 0 ⟨128 + q.val, by omega⟩ s) (fun a => by fin_cases a <;> simp)).trans ?_
  unfold k0_pay3
  pointwise
  rw [View.readAt_eq_ld, harg5.read_unread]
  exact View.ld_unit_apply_of x3 _ _ _ _ _ (fun a => by fin_cases a <;> simp)

include harg10 in
theorem dk1_at (ds : Fin 16 → EReal) (h8 : ∀ r, (x8 : S1x1024.Idx → EReal) (ix2 0 r) = ds (hd r)) (q : Fin 128) : ((View.readAt (Elt Ideal) arg10.view (Rect.unit (s := S1x1024) ![0, 128] S1x128.size inb_S1x1024_S1x128_0_128).toLoadRect (harg10.unread x8)) : S1x128.Idx → EReal) (ix2 0 q) = ds (hd ⟨128 + q.val, by omega⟩) := by
  rw [View.readAt_eq_ld, harg10.read_unread, ← h8]
  exact View.ld_unit_apply_of x8 _ _ _ _ _ (Fin.forall_fin_two.mpr ⟨rfl, by show 128 + q.val = 128 + q.val; omega⟩)

include harg2 harg4 harg5 harg6 harg7 harg8 harg9 harg12 harg13 in
/-- The state rows of pair 2 before the chunk. -/
theorem hp2_at (q s : Fin 128) : ((kernelRun0_A.sl.v268 (F := Ideal) c i arg2 harg2 arg4 harg4 arg5 harg5 arg6 harg6 arg7 harg7 arg8 harg8 arg9 harg9 arg12 harg12 arg13 harg13 arg15 arg16 x0 x2 x3 x4 x5 x6 x7 x10 x11) : S1x128x128.Idx → EReal) (ix3 0 q s) = (st x3) ⟨256 + q.val, by omega⟩ s := by
  unfold kernelRun0_A.sl.v268 kernelRun0_A.sl.H13_3 kernelRun0_A.sl.H13_2 kernelRun0_A.sl.H13_1
  simp (disch := decide) only [↓ View.readCov_skip, ↓ View.readCov_fill]
  refine (View.ld_unit_apply_of _ _ _ _ _ (ix3 0 ⟨256 + q.val, by omega⟩ s) (fun a => by fin_cases a <;> simp)).trans ?_
  unfold k0_pay3
  pointwise
  rw [View.readAt_eq_ld, harg5.read_unread]
  exact View.ld_unit_apply_of x3 _ _ _ _ _ (fun a => by fin_cases a <;> simp)

include harg10 in
theorem dk2_at (ds : Fin 16 → EReal) (h8 : ∀ r, (x8 : S1x1024.Idx → EReal) (ix2 0 r) = ds (hd r)) (q : Fin 128) : ((View.readAt (Elt Ideal) arg10.view (Rect.unit (s := S1x1024) ![0, 256] S1x128.size inb_S1x1024_S1x128_0_256).toLoadRect (harg10.unread x8)) : S1x128.Idx → EReal) (ix2 0 q) = ds (hd ⟨256 + q.val, by omega⟩) := by
  rw [View.readAt_eq_ld, harg10.read_unread, ← h8]
  exact View.ld_unit_apply_of x8 _ _ _ _ _ (Fin.forall_fin_two.mpr ⟨rfl, by show 256 + q.val = 256 + q.val; omega⟩)

include harg2 harg4 harg5 harg6 harg7 harg8 harg9 harg12 harg13 in
/-- The state rows of pair 3 before the chunk. -/
theorem hp3_at (q s : Fin 128) : ((kernelRun0_A.sl.v328 (F := Ideal) c i arg2 harg2 arg4 harg4 arg5 harg5 arg6 harg6 arg7 harg7 arg8 harg8 arg9 harg9 arg12 harg12 arg13 harg13 arg15 arg16 x0 x2 x3 x4 x5 x6 x7 x10 x11) : S1x128x128.Idx → EReal) (ix3 0 q s) = (st x3) ⟨384 + q.val, by omega⟩ s := by
  unfold kernelRun0_A.sl.v328 kernelRun0_A.sl.H13_4 kernelRun0_A.sl.H13_3 kernelRun0_A.sl.H13_2 kernelRun0_A.sl.H13_1
  simp (disch := decide) only [↓ View.readCov_skip, ↓ View.readCov_fill]
  refine (View.ld_unit_apply_of _ _ _ _ _ (ix3 0 ⟨384 + q.val, by omega⟩ s) (fun a => by fin_cases a <;> simp)).trans ?_
  unfold k0_pay3
  pointwise
  rw [View.readAt_eq_ld, harg5.read_unread]
  exact View.ld_unit_apply_of x3 _ _ _ _ _ (fun a => by fin_cases a <;> simp)

include harg10 in
theorem dk3_at (ds : Fin 16 → EReal) (h8 : ∀ r, (x8 : S1x1024.Idx → EReal) (ix2 0 r) = ds (hd r)) (q : Fin 128) : ((View.readAt (Elt Ideal) arg10.view (Rect.unit (s := S1x1024) ![0, 384] S1x128.size inb_S1x1024_S1x128_0_384).toLoadRect (harg10.unread x8)) : S1x128.Idx → EReal) (ix2 0 q) = ds (hd ⟨384 + q.val, by omega⟩) := by
  rw [View.readAt_eq_ld, harg10.read_unread, ← h8]
  exact View.ld_unit_apply_of x8 _ _ _ _ _ (Fin.forall_fin_two.mpr ⟨rfl, by show 384 + q.val = 384 + q.val; omega⟩)

include harg2 harg4 harg5 harg6 harg7 harg8 harg9 harg12 harg13 in
/-- The state rows of pair 4 before the chunk. -/
theorem hp4_at (q s : Fin 128) : ((kernelRun0_A.sl.v393 (F := Ideal) c i arg2 harg2 arg4 harg4 arg5 harg5 arg6 harg6 arg7 harg7 arg8 harg8 arg9 harg9 arg12 harg12 arg13 harg13 arg15 arg16 x0 x2 x3 x4 x5 x6 x7 x10 x11) : S1x128x128.Idx → EReal) (ix3 0 q s) = (st x3) ⟨512 + q.val, by omega⟩ s := by
  unfold kernelRun0_A.sl.v393 kernelRun0_A.sl.H13_5 kernelRun0_A.sl.H13_4 kernelRun0_A.sl.H13_3 kernelRun0_A.sl.H13_2 kernelRun0_A.sl.H13_1
  simp (disch := decide) only [↓ View.readCov_skip, ↓ View.readCov_fill]
  refine (View.ld_unit_apply_of _ _ _ _ _ (ix3 0 ⟨512 + q.val, by omega⟩ s) (fun a => by fin_cases a <;> simp)).trans ?_
  unfold k0_pay3
  pointwise
  rw [View.readAt_eq_ld, harg5.read_unread]
  exact View.ld_unit_apply_of x3 _ _ _ _ _ (fun a => by fin_cases a <;> simp)

include harg10 in
theorem dk4_at (ds : Fin 16 → EReal) (h8 : ∀ r, (x8 : S1x1024.Idx → EReal) (ix2 0 r) = ds (hd r)) (q : Fin 128) : ((View.readAt (Elt Ideal) arg10.view (Rect.unit (s := S1x1024) ![0, 512] S1x128.size inb_S1x1024_S1x128_0_512).toLoadRect (harg10.unread x8)) : S1x128.Idx → EReal) (ix2 0 q) = ds (hd ⟨512 + q.val, by omega⟩) := by
  rw [View.readAt_eq_ld, harg10.read_unread, ← h8]
  exact View.ld_unit_apply_of x8 _ _ _ _ _ (Fin.forall_fin_two.mpr ⟨rfl, by show 512 + q.val = 512 + q.val; omega⟩)

include harg2 harg4 harg5 harg6 harg7 harg8 harg9 harg12 harg13 in
/-- The state rows of pair 5 before the chunk. -/
theorem hp5_at (q s : Fin 128) : ((kernelRun0_A.sl.v453 (F := Ideal) c i arg2 harg2 arg4 harg4 arg5 harg5 arg6 harg6 arg7 harg7 arg8 harg8 arg9 harg9 arg12 harg12 arg13 harg13 arg15 arg16 x0 x2 x3 x4 x5 x6 x7 x10 x11) : S1x128x128.Idx → EReal) (ix3 0 q s) = (st x3) ⟨640 + q.val, by omega⟩ s := by
  unfold kernelRun0_A.sl.v453 kernelRun0_A.sl.H13_6 kernelRun0_A.sl.H13_5 kernelRun0_A.sl.H13_4 kernelRun0_A.sl.H13_3 kernelRun0_A.sl.H13_2 kernelRun0_A.sl.H13_1
  simp (disch := decide) only [↓ View.readCov_skip, ↓ View.readCov_fill]
  refine (View.ld_unit_apply_of _ _ _ _ _ (ix3 0 ⟨640 + q.val, by omega⟩ s) (fun a => by fin_cases a <;> simp)).trans ?_
  unfold k0_pay3
  pointwise
  rw [View.readAt_eq_ld, harg5.read_unread]
  exact View.ld_unit_apply_of x3 _ _ _ _ _ (fun a => by fin_cases a <;> simp)

include harg10 in
theorem dk5_at (ds : Fin 16 → EReal) (h8 : ∀ r, (x8 : S1x1024.Idx → EReal) (ix2 0 r) = ds (hd r)) (q : Fin 128) : ((View.readAt (Elt Ideal) arg10.view (Rect.unit (s := S1x1024) ![0, 640] S1x128.size inb_S1x1024_S1x128_0_640).toLoadRect (harg10.unread x8)) : S1x128.Idx → EReal) (ix2 0 q) = ds (hd ⟨640 + q.val, by omega⟩) := by
  rw [View.readAt_eq_ld, harg10.read_unread, ← h8]
  exact View.ld_unit_apply_of x8 _ _ _ _ _ (Fin.forall_fin_two.mpr ⟨rfl, by show 640 + q.val = 640 + q.val; omega⟩)

include harg2 harg4 harg5 harg6 harg7 harg8 harg9 harg12 harg13 in
/-- The state rows of pair 6 before the chunk. -/
theorem hp6_at (q s : Fin 128) : ((kernelRun0_A.sl.v513 (F := Ideal) c i arg2 harg2 arg4 harg4 arg5 harg5 arg6 harg6 arg7 harg7 arg8 harg8 arg9 harg9 arg12 harg12 arg13 harg13 arg15 arg16 x0 x2 x3 x4 x5 x6 x7 x10 x11) : S1x128x128.Idx → EReal) (ix3 0 q s) = (st x3) ⟨768 + q.val, by omega⟩ s := by
  unfold kernelRun0_A.sl.v513 kernelRun0_A.sl.H13_7 kernelRun0_A.sl.H13_6 kernelRun0_A.sl.H13_5 kernelRun0_A.sl.H13_4 kernelRun0_A.sl.H13_3 kernelRun0_A.sl.H13_2 kernelRun0_A.sl.H13_1
  simp (disch := decide) only [↓ View.readCov_skip, ↓ View.readCov_fill]
  refine (View.ld_unit_apply_of _ _ _ _ _ (ix3 0 ⟨768 + q.val, by omega⟩ s) (fun a => by fin_cases a <;> simp)).trans ?_
  unfold k0_pay3
  pointwise
  rw [View.readAt_eq_ld, harg5.read_unread]
  exact View.ld_unit_apply_of x3 _ _ _ _ _ (fun a => by fin_cases a <;> simp)

include harg10 in
theorem dk6_at (ds : Fin 16 → EReal) (h8 : ∀ r, (x8 : S1x1024.Idx → EReal) (ix2 0 r) = ds (hd r)) (q : Fin 128) : ((View.readAt (Elt Ideal) arg10.view (Rect.unit (s := S1x1024) ![0, 768] S1x128.size inb_S1x1024_S1x128_0_768).toLoadRect (harg10.unread x8)) : S1x128.Idx → EReal) (ix2 0 q) = ds (hd ⟨768 + q.val, by omega⟩) := by
  rw [View.readAt_eq_ld, harg10.read_unread, ← h8]
  exact View.ld_unit_apply_of x8 _ _ _ _ _ (Fin.forall_fin_two.mpr ⟨rfl, by show 768 + q.val = 768 + q.val; omega⟩)

include harg2 harg4 harg5 harg6 harg7 harg8 harg9 harg12 harg13 in
/-- The state rows of pair 7 before the chunk. -/
theorem hp7_at (q s : Fin 128) : ((kernelRun0_A.sl.v573 (F := Ideal) c i arg2 harg2 arg4 harg4 arg5 harg5 arg6 harg6 arg7 harg7 arg8 harg8 arg9 harg9 arg12 harg12 arg13 harg13 arg15 arg16 x0 x2 x3 x4 x5 x6 x7 x10 x11) : S1x128x128.Idx → EReal) (ix3 0 q s) = (st x3) ⟨896 + q.val, by omega⟩ s := by
  unfold kernelRun0_A.sl.v573 kernelRun0_A.sl.H13_8 kernelRun0_A.sl.H13_7 kernelRun0_A.sl.H13_6 kernelRun0_A.sl.H13_5 kernelRun0_A.sl.H13_4 kernelRun0_A.sl.H13_3 kernelRun0_A.sl.H13_2 kernelRun0_A.sl.H13_1
  simp (disch := decide) only [↓ View.readCov_skip, ↓ View.readCov_fill]
  refine (View.ld_unit_apply_of _ _ _ _ _ (ix3 0 ⟨896 + q.val, by omega⟩ s) (fun a => by fin_cases a <;> simp)).trans ?_
  unfold k0_pay3
  pointwise
  rw [View.readAt_eq_ld, harg5.read_unread]
  exact View.ld_unit_apply_of x3 _ _ _ _ _ (fun a => by fin_cases a <;> simp)

include harg10 in
theorem dk7_at (ds : Fin 16 → EReal) (h8 : ∀ r, (x8 : S1x1024.Idx → EReal) (ix2 0 r) = ds (hd r)) (q : Fin 128) : ((View.readAt (Elt Ideal) arg10.view (Rect.unit (s := S1x1024) ![0, 896] S1x128.size inb_S1x1024_S1x128_0_896).toLoadRect (harg10.unread x8)) : S1x128.Idx → EReal) (ix2 0 q) = ds (hd ⟨896 + q.val, by omega⟩) := by
  rw [View.readAt_eq_ld, harg10.read_unread, ← h8]
  exact View.ld_unit_apply_of x8 _ _ _ _ _ (Fin.forall_fin_two.mpr ⟨rfl, by show 896 + q.val = 896 + q.val; omega⟩)

/-- The stores of state rows the run leaves. -/
theorem list13 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.1 = hList (kernelRun0_A.sl.r_1 (F := Ideal) c arg2 harg2 arg4 harg4 arg6 harg6 arg7 harg7 arg16 x0 x2 x4 x5) (kernelRun0_A.sl.r_2 (F := Ideal) c i arg2 harg2 arg8 harg8 x0 x6) (kernelRun0_A.sl.r_3 (F := Ideal) c arg9 harg9 x7) (View.readAt (Elt Ideal) arg12.view (Rect.unit (s := S16x1024) ![0, 0] S16x1024.size inb_S16x1024_S16x1024_0_0).toLoadRect (harg12.unread x10)) (View.readAt (Elt Ideal) arg13.view (Rect.unit (s := S1024x16) ![0, 0] S1024x16.size inb_S1024x16_S1024x16_0_0).toLoadRect (harg13.unread x11)) (kernelRun0_A.sl.v148 (F := Ideal) c arg5 harg5 arg15 x3) (kernelRun0_A.sl.v208 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v268 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v328 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v393 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v453 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v513 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v573 (F := Ideal) c i arg2 harg2 arg4 harg4 arg5 harg5 arg6 harg6 arg7 harg7 arg8 harg8 arg9 harg9 arg12 harg12 arg13 harg13 arg15 arg16 x0 x2 x3 x4 x5 x6 x7 x10 x11) ++ [⟨Rect.unit ![0, 0, 0] S1x1024x128.size inb_S1x1024x128_S1x1024x128_0_0_0, k0_pay3 (View.readAt (Elt Ideal) arg5.view (Rect.unit (s := S1x1024x128) ![0, 0, 0] S1x1024x128.size inb_S1x1024x128_S1x1024x128_0_0_0).toLoadRect (harg5.unread x3))⟩] := rfl

/-- The state after the chunk. -/
theorem out13_at (he : ∀ h r, (x10 : S16x1024.Idx → EReal) (ix2 h r) = if h = hd r then 1 else 0)
    (hf : ∀ h r, (x11 : S1024x16.Idx → EReal) (ix2 r h) = if h = hd r then 1 else 0) (r : Fin 1024) (s : Fin 128) :
    (out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 : S1x1024x128.Idx → EReal) (ix3 0 r s) = hOf (act x0 x2 x4 x5) (dt i x0 x6) (acum i x0 x6 x7) (st x3) r s := by
  have hA : actA (kernelRun0_A.sl.r_1 (F := Ideal) c arg2 harg2 arg4 harg4 arg6 harg6 arg7 harg7 arg16 x0 x2 x4 x5) = (act x0 x2 x4 x5) := funext fun l => funext fun k => act_at c arg2 harg2 arg4 harg4 arg6 harg6 arg7 harg7 arg16 x0 x2 x4 x5 l k
  have hd' : dtA (kernelRun0_A.sl.r_2 (F := Ideal) c i arg2 harg2 arg8 harg8 x0 x6) = (dt i x0 x6) := funext fun l => funext fun h => dt_at c i arg2 harg2 arg8 harg8 x0 x6 l h
  have hac := ac_eq c i arg2 harg2 arg8 harg8 arg9 harg9 x0 x6 x7
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11), list13]
  rw [← hA, ← hd', ← hac]
  exact hList_at (kernelRun0_A.sl.r_1 (F := Ideal) c arg2 harg2 arg4 harg4 arg6 harg6 arg7 harg7 arg16 x0 x2 x4 x5) (kernelRun0_A.sl.r_2 (F := Ideal) c i arg2 harg2 arg8 harg8 x0 x6) (kernelRun0_A.sl.r_3 (F := Ideal) c arg9 harg9 x7) (View.readAt (Elt Ideal) arg12.view (Rect.unit (s := S16x1024) ![0, 0] S16x1024.size inb_S16x1024_S16x1024_0_0).toLoadRect (harg12.unread x10)) (View.readAt (Elt Ideal) arg13.view (Rect.unit (s := S1024x16) ![0, 0] S1024x16.size inb_S1024x16_S1024x16_0_0).toLoadRect (harg13.unread x11)) (kernelRun0_A.sl.v148 (F := Ideal) c arg5 harg5 arg15 x3) (kernelRun0_A.sl.v208 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v268 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v328 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v393 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v453 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v513 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v573 (F := Ideal) c i arg2 harg2 arg4 harg4 arg5 harg5 arg6 harg6 arg7 harg7 arg8 harg8 arg9 harg9 arg12 harg12 arg13 harg13 arg15 arg16 x0 x2 x3 x4 x5 x6 x7 x10 x11) (st x3) (fun h r => (e_at arg12 harg12 x10 h r).trans (he h r)) (fun h r => (f_at arg13 harg13 x11 h r).trans (hf h r)) (fun q s => hp0_at c arg5 harg5 arg15 x3 q s) (fun q s => hp1_at c i arg2 harg2 arg4 harg4 arg5 harg5 arg6 harg6 arg7 harg7 arg8 harg8 arg9 harg9 arg12 harg12 arg13 harg13 arg15 arg16 x0 x2 x3 x4 x5 x6 x7 x10 x11 q s) (fun q s => hp2_at c i arg2 harg2 arg4 harg4 arg5 harg5 arg6 harg6 arg7 harg7 arg8 harg8 arg9 harg9 arg12 harg12 arg13 harg13 arg15 arg16 x0 x2 x3 x4 x5 x6 x7 x10 x11 q s) (fun q s => hp3_at c i arg2 harg2 arg4 harg4 arg5 harg5 arg6 harg6 arg7 harg7 arg8 harg8 arg9 harg9 arg12 harg12 arg13 harg13 arg15 arg16 x0 x2 x3 x4 x5 x6 x7 x10 x11 q s) (fun q s => hp4_at c i arg2 harg2 arg4 harg4 arg5 harg5 arg6 harg6 arg7 harg7 arg8 harg8 arg9 harg9 arg12 harg12 arg13 harg13 arg15 arg16 x0 x2 x3 x4 x5 x6 x7 x10 x11 q s) (fun q s => hp5_at c i arg2 harg2 arg4 harg4 arg5 harg5 arg6 harg6 arg7 harg7 arg8 harg8 arg9 harg9 arg12 harg12 arg13 harg13 arg15 arg16 x0 x2 x3 x4 x5 x6 x7 x10 x11 q s) (fun q s => hp6_at c i arg2 harg2 arg4 harg4 arg5 harg5 arg6 harg6 arg7 harg7 arg8 harg8 arg9 harg9 arg12 harg12 arg13 harg13 arg15 arg16 x0 x2 x3 x4 x5 x6 x7 x10 x11 q s) (fun q s => hp7_at c i arg2 harg2 arg4 harg4 arg5 harg5 arg6 harg6 arg7 harg7 arg8 harg8 arg9 harg9 arg12 harg12 arg13 harg13 arg15 arg16 x0 x2 x3 x4 x5 x6 x7 x10 x11 q s) _ r s

/-- The stores of output columns the run leaves in its scratch. -/
theorem listY : (kernelRun0_A.sl.HS1_8 (F := Ideal) c i arg2 harg2 arg4 harg4 arg5 harg5 arg6 harg6 arg7 harg7 arg8 harg8 arg9 harg9 arg10 harg10 arg12 harg12 arg13 harg13 arg15 arg16 x0 x2 x3 x4 x5 x6 x7 x8 x10 x11) = yList (kernelRun0_A.sl.r_1 (F := Ideal) c arg2 harg2 arg4 harg4 arg6 harg6 arg7 harg7 arg16 x0 x2 x4 x5) (kernelRun0_A.sl.r_2 (F := Ideal) c i arg2 harg2 arg8 harg8 x0 x6) (kernelRun0_A.sl.r_3 (F := Ideal) c arg9 harg9 x7) (View.readAt (Elt Ideal) arg12.view (Rect.unit (s := S16x1024) ![0, 0] S16x1024.size inb_S16x1024_S16x1024_0_0).toLoadRect (harg12.unread x10)) (kernelRun0_A.sl.v148 (F := Ideal) c arg5 harg5 arg15 x3) (kernelRun0_A.sl.v208 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v268 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v328 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v393 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v453 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v513 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v573 (F := Ideal) c i arg2 harg2 arg4 harg4 arg5 harg5 arg6 harg6 arg7 harg7 arg8 harg8 arg9 harg9 arg12 harg12 arg13 harg13 arg15 arg16 x0 x2 x3 x4 x5 x6 x7 x10 x11) (View.readAt (Elt Ideal) arg10.view (Rect.unit (s := S1x1024) ![0, 0] S1x128.size inb_S1x1024_S1x128_0_0).toLoadRect (harg10.unread x8)) (View.readAt (Elt Ideal) arg10.view (Rect.unit (s := S1x1024) ![0, 128] S1x128.size inb_S1x1024_S1x128_0_128).toLoadRect (harg10.unread x8)) (View.readAt (Elt Ideal) arg10.view (Rect.unit (s := S1x1024) ![0, 256] S1x128.size inb_S1x1024_S1x128_0_256).toLoadRect (harg10.unread x8)) (View.readAt (Elt Ideal) arg10.view (Rect.unit (s := S1x1024) ![0, 384] S1x128.size inb_S1x1024_S1x128_0_384).toLoadRect (harg10.unread x8)) (View.readAt (Elt Ideal) arg10.view (Rect.unit (s := S1x1024) ![0, 512] S1x128.size inb_S1x1024_S1x128_0_512).toLoadRect (harg10.unread x8)) (View.readAt (Elt Ideal) arg10.view (Rect.unit (s := S1x1024) ![0, 640] S1x128.size inb_S1x1024_S1x128_0_640).toLoadRect (harg10.unread x8)) (View.readAt (Elt Ideal) arg10.view (Rect.unit (s := S1x1024) ![0, 768] S1x128.size inb_S1x1024_S1x128_0_768).toLoadRect (harg10.unread x8)) (View.readAt (Elt Ideal) arg10.view (Rect.unit (s := S1x1024) ![0, 896] S1x128.size inb_S1x1024_S1x128_0_896).toLoadRect (harg10.unread x8)) := rfl

/-- The store of the output block. -/
theorem list12 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).1 =
    [⟨Rect.unit ![0, 0] S128x1024.size inb_S128x1024_S128x1024_0_0, k0_pay1 (k0_pay71 (View.readAt (Elt Ideal) arg3.view (Rect.unit (s := S128x1024) ![0, 0] S128x1024.size inb_S128x1024_S128x1024_0_0).toLoadRect (harg3.unread x1)) (kernelRun0_A.sl.v602 (F := Ideal) c i arg2 harg2 arg4 harg4 arg5 harg5 arg6 harg6 arg7 harg7 arg8 harg8 arg9 harg9 arg10 harg10 arg12 harg12 arg13 harg13 arg15 arg16 arg17 x0 x2 x3 x4 x5 x6 x7 x8 x10 x11)) (k0_pay72 (View.readAt (Elt Ideal) arg11.view (Rect.unit (s := S1x1024) ![0, 0] S1x1024.size inb_S1x1024_S1x1024_0_0).toLoadRect (harg11.unread x9)))⟩] := rfl

/-- The output block of the chunk. -/
theorem out12_at (he : ∀ h r, (x10 : S16x1024.Idx → EReal) (ix2 h r) = if h = hd r then 1 else 0)
    (ds : Fin 16 → EReal) (h8 : ∀ r, (x8 : S1x1024.Idx → EReal) (ix2 0 r) = ds (hd r)) (l : Fin 128) (r : Fin 1024) :
    (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 : S128x1024.Idx → EReal) (ix2 l r) =
      gatedAt (yOf (act x0 x2 x4 x5) (dt i x0 x6) (acum i x0 x6 x7) (st x3) ds l) (fun k => (x1 : S128x1024.Idx → EReal) (ix2 l k)) ((x9 : S1x1024.Idx → EReal) (ix2 0 r)) r := by
  have hA : actA (kernelRun0_A.sl.r_1 (F := Ideal) c arg2 harg2 arg4 harg4 arg6 harg6 arg7 harg7 arg16 x0 x2 x4 x5) = (act x0 x2 x4 x5) := funext fun l => funext fun k => act_at c arg2 harg2 arg4 harg4 arg6 harg6 arg7 harg7 arg16 x0 x2 x4 x5 l k
  have hd' : dtA (kernelRun0_A.sl.r_2 (F := Ideal) c i arg2 harg2 arg8 harg8 x0 x6) = (dt i x0 x6) := funext fun l => funext fun h => dt_at c i arg2 harg2 arg8 harg8 x0 x6 l h
  have hac := ac_eq c i arg2 harg2 arg8 harg8 arg9 harg9 x0 x6 x7
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11), list12]
  rw [View.canon_unit_zero (S := S128x1024) (funext fun a => by fin_cases a <;> rfl), pay1_at]
  have hz : (fun k : Fin 1024 => ((View.readAt (Elt Ideal) arg3.view (Rect.unit (s := S128x1024) ![0, 0] S128x1024.size inb_S128x1024_S128x1024_0_0).toLoadRect (harg3.unread x1)) : S128x1024.Idx → EReal) (ix2 l k)) = fun k => (x1 : S128x1024.Idx → EReal) (ix2 l k) := funext fun k => by
    rw [View.readAt_eq_ld, harg3.read_unread]
    exact View.ld_unit_apply_of x1 _ _ _ _ _ (Fin.forall_fin_two.mpr ⟨by show l.val = 0 + l.val; omega, by show k.val = 0 + k.val; omega⟩)
  have hg : ((View.readAt (Elt Ideal) arg11.view (Rect.unit (s := S1x1024) ![0, 0] S1x1024.size inb_S1x1024_S1x1024_0_0).toLoadRect (harg11.unread x9)) : S1x1024.Idx → EReal) (ix2 0 r) = (x9 : S1x1024.Idx → EReal) (ix2 0 r) := by
    rw [View.readAt_eq_ld, harg11.read_unread]
    exact View.ld_unit_apply_of x9 _ _ _ _ _ (Fin.forall_fin_two.mpr ⟨rfl, by show r.val = 0 + r.val; omega⟩)
  have hy : (fun k : Fin 1024 => ((kernelRun0_A.sl.v602 (F := Ideal) c i arg2 harg2 arg4 harg4 arg5 harg5 arg6 harg6 arg7 harg7 arg8 harg8 arg9 harg9 arg10 harg10 arg12 harg12 arg13 harg13 arg15 arg16 arg17 x0 x2 x3 x4 x5 x6 x7 x8 x10 x11) : S128x1024.Idx → EReal) (ix2 l k)) = yOf (act x0 x2 x4 x5) (dt i x0 x6) (acum i x0 x6 x7) (st x3) ds l := funext fun k => by
    unfold kernelRun0_A.sl.v602
    rw [View.readCov_eq_canon', listY]
    refine (canon_box _ _ _ _ _ (ix2 l k) (Fin.forall_fin_two.mpr ⟨by show l.val = 0 + l.val; omega, by show k.val = 0 + k.val; omega⟩)).trans ?_
    rw [← hA, ← hd', ← hac]
    exact yList_at (kernelRun0_A.sl.r_1 (F := Ideal) c arg2 harg2 arg4 harg4 arg6 harg6 arg7 harg7 arg16 x0 x2 x4 x5) (kernelRun0_A.sl.r_2 (F := Ideal) c i arg2 harg2 arg8 harg8 x0 x6) (kernelRun0_A.sl.r_3 (F := Ideal) c arg9 harg9 x7) (View.readAt (Elt Ideal) arg12.view (Rect.unit (s := S16x1024) ![0, 0] S16x1024.size inb_S16x1024_S16x1024_0_0).toLoadRect (harg12.unread x10)) (kernelRun0_A.sl.v148 (F := Ideal) c arg5 harg5 arg15 x3) (kernelRun0_A.sl.v208 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v268 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v328 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v393 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v453 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v513 (F := Ideal) c i arg2 harg2 arg4 harg4 arg5 harg5 arg6 harg6 arg7 harg7 arg8 harg8 arg9 harg9 arg12 harg12 arg13 harg13 arg15 arg16 x0 x2 x3 x4 x5 x6 x7 x10 x11) (kernelRun0_A.sl.v573 (F := Ideal) c i arg2 harg2 arg4 harg4 arg5 harg5 arg6 harg6 arg7 harg7 arg8 harg8 arg9 harg9 arg12 harg12 arg13 harg13 arg15 arg16 x0 x2 x3 x4 x5 x6 x7 x10 x11) (View.readAt (Elt Ideal) arg10.view (Rect.unit (s := S1x1024) ![0, 0] S1x128.size inb_S1x1024_S1x128_0_0).toLoadRect (harg10.unread x8)) (View.readAt (Elt Ideal) arg10.view (Rect.unit (s := S1x1024) ![0, 128] S1x128.size inb_S1x1024_S1x128_0_128).toLoadRect (harg10.unread x8)) (View.readAt (Elt Ideal) arg10.view (Rect.unit (s := S1x1024) ![0, 256] S1x128.size inb_S1x1024_S1x128_0_256).toLoadRect (harg10.unread x8)) (View.readAt (Elt Ideal) arg10.view (Rect.unit (s := S1x1024) ![0, 384] S1x128.size inb_S1x1024_S1x128_0_384).toLoadRect (harg10.unread x8)) (View.readAt (Elt Ideal) arg10.view (Rect.unit (s := S1x1024) ![0, 512] S1x128.size inb_S1x1024_S1x128_0_512).toLoadRect (harg10.unread x8)) (View.readAt (Elt Ideal) arg10.view (Rect.unit (s := S1x1024) ![0, 640] S1x128.size inb_S1x1024_S1x128_0_640).toLoadRect (harg10.unread x8)) (View.readAt (Elt Ideal) arg10.view (Rect.unit (s := S1x1024) ![0, 768] S1x128.size inb_S1x1024_S1x128_0_768).toLoadRect (harg10.unread x8)) (View.readAt (Elt Ideal) arg10.view (Rect.unit (s := S1x1024) ![0, 896] S1x128.size inb_S1x1024_S1x128_0_896).toLoadRect (harg10.unread x8)) (st x3) ds (fun h r => (e_at arg12 harg12 x10 h r).trans (he h r)) (fun q s => hp0_at c arg5 harg5 arg15 x3 q s) (fun q s => hp1_at c i arg2 harg2 arg4 harg4 arg5 harg5 arg6 harg6 arg7 harg7 arg8 harg8 arg9 harg9 arg12 harg12 arg13 harg13 arg15 arg16 x0 x2 x3 x4 x5 x6 x7 x10 x11 q s) (fun q s => hp2_at c i arg2 harg2 arg4 harg4 arg5 harg5 arg6 harg6 arg7 harg7 arg8 harg8 arg9 harg9 arg12 harg12 arg13 harg13 arg15 arg16 x0 x2 x3 x4 x5 x6 x7 x10 x11 q s) (fun q s => hp3_at c i arg2 harg2 arg4 harg4 arg5 harg5 arg6 harg6 arg7 harg7 arg8 harg8 arg9 harg9 arg12 harg12 arg13 harg13 arg15 arg16 x0 x2 x3 x4 x5 x6 x7 x10 x11 q s) (fun q s => hp4_at c i arg2 harg2 arg4 harg4 arg5 harg5 arg6 harg6 arg7 harg7 arg8 harg8 arg9 harg9 arg12 harg12 arg13 harg13 arg15 arg16 x0 x2 x3 x4 x5 x6 x7 x10 x11 q s) (fun q s => hp5_at c i arg2 harg2 arg4 harg4 arg5 harg5 arg6 harg6 arg7 harg7 arg8 harg8 arg9 harg9 arg12 harg12 arg13 harg13 arg15 arg16 x0 x2 x3 x4 x5 x6 x7 x10 x11 q s) (fun q s => hp6_at c i arg2 harg2 arg4 harg4 arg5 harg5 arg6 harg6 arg7 harg7 arg8 harg8 arg9 harg9 arg12 harg12 arg13 harg13 arg15 arg16 x0 x2 x3 x4 x5 x6 x7 x10 x11 q s) (fun q s => hp7_at c i arg2 harg2 arg4 harg4 arg5 harg5 arg6 harg6 arg7 harg7 arg8 harg8 arg9 harg9 arg12 harg12 arg13 harg13 arg15 arg16 x0 x2 x3 x4 x5 x6 x7 x10 x11 q s) (fun q => dk0_at arg10 harg10 x8 ds h8 q) (fun q => dk1_at arg10 harg10 x8 ds h8 q) (fun q => dk2_at arg10 harg10 x8 ds h8 q) (fun q => dk3_at arg10 harg10 x8 ds h8 q) (fun q => dk4_at arg10 harg10 x8 ds h8 q) (fun q => dk5_at arg10 harg10 x8 ds h8 q) (fun q => dk6_at arg10 harg10 x8 ds h8 q) (fun q => dk7_at arg10 harg10 x8 ds h8 q) l k
  rw [hz, hg, hy]

/-- The rows kept for the next chunk are the chunk's last eight. -/
theorem sout_at (r : Fin 8) (k : Fin 1536) :
    (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 : S136x1536.Idx → EReal) (ix2 ⟨r.val, by omega⟩ k) = (x0 : S128x2048.Idx → EReal) (ix2 ⟨120 + r.val, by omega⟩ ⟨k.val, by omega⟩) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  have e0 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.1 = ⟨Rect.unit (s := S136x1536) ![0, 0] S8x1536.size inb_S136x1536_S8x1536_0_0, k0_pay8 (kernelRun0_A.sl.v38 (F := Ideal) c arg2 harg2 arg4 harg4 arg16 x0 x2)⟩ :: (kernelRun0_A.sl.HS0_2 (F := Ideal) c arg2 harg2 arg4 harg4 x0 x2) := rfl
  rw [e0]
  have e : (ix2 ⟨r.val, by omega⟩ k : S136x1536.Idx) = (Rect.unit (s := S136x1536) ![0, 0] S8x1536.size inb_S136x1536_S8x1536_0_0).emb (ix2 r k) :=
    funext (Fin.forall_fin_two.mpr ⟨Fin.ext (by show r.val = 0 + 1 * r.val; omega), Fin.ext (by show k.val = 0 + 1 * k.val; omega)⟩)
  rw [e, View.canon_cons_emb]
  pointwise [k0_pay8]
  unfold kernelRun0_A.sl.v38
  rw [View.readCov_eq_canon']
  exact (canon_box _ _ _ _ _ (ix2 ⟨8 + (120 + r.val), by omega⟩ k) (Fin.forall_fin_two.mpr ⟨by show 8 + (120 + r.val) = 128 + r.val; omega, by show k.val = 0 + k.val; omega⟩)).trans
    (canon_hi c arg2 harg2 arg4 harg4 x0 x2 ⟨120 + r.val, by omega⟩ k)

end Cert.KernelIdeal.BlockA

end
-- ==== Proof.SsdBlockB.lean ====
/-
  The mixer kernel at a later chunk of a sequence: what the point leaves in the running state, in the output block and in the rows kept for the
  next chunk, entry by entry.
-/
module

public import proofs.«01_k».proof.Proof.SsdLists
public import proofs.«01_k».proof.Proof.Gen.KernelIdeal.Value
public import Idealize.ShloMosaic.Lib.Pointwise
public import Idealize.ShloMosaic.Lib.Claim
public import Idealize.ShloMosaic.Lib.Pipeline.Value

@[expose] public section

set_option maxRecDepth 16384

noncomputable section

namespace Cert.KernelIdeal.BlockB

open Cert.KernelIdeal Cert.KernelIdeal.Gen Idealize.ShloMosaic Idealize.ShloMosaic.TcCoe Idealize.SL.Sem
open Idealize.ShloMosaic.Pipeline (Dat)
open Cert.Layer Cert.KernelIdeal.Block
open scoped BigOperators

variable (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S1x8x1536 .f32) (harg4 : arg4.IsWhole) (arg5 : Memref sig .tc .vmem S1x1024x128 .f32) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x1024 .f32) (harg12 : arg12.IsWhole) (arg13 : Memref sig .tc .vmem S1024x16 .f32) (harg13 : arg13.IsWhole) (arg14 : Memref sig .tc .vmem S128x1024 .bf16) (harg14 : arg14.IsWhole) (arg15 : Memref sig .tc .vmem S1x1024x128 .f32) (harg15 : arg15.IsWhole) (arg16 : Memref sig .tc .vmem S136x1536 .f32) (harg16 : arg16.IsWhole) (arg17 : Memref sig .tc .vmem S128x1024 .f32) (harg17 : arg17.IsWhole) (hc0 : ¬cond0_0 i)
    (x0 : Vec Ideal S128x2048 .f32) (x1 : Vec Ideal S128x1024 .f32) (x2 : Vec Ideal S1x8x1536 .f32) (x3 : Vec Ideal S1x1024x128 .f32) (x4 : Vec Ideal S4x1536 .f32) (x5 : Vec Ideal S1x1536 .f32) (x6 : Vec Ideal S1x16 .f32) (x7 : Vec Ideal S1x16 .f32) (x8 : Vec Ideal S1x1024 .f32) (x9 : Vec Ideal S1x1024 .f32) (x10 : Vec Ideal S16x1024 .f32) (x11 : Vec Ideal S1024x16 .f32) (xo13 : Vec Ideal S1x1024x128 .f32) (xs0 : Vec Ideal S136x1536 .f32)

/-- The rows the convolution reads: eight from before the chunk, then the chunk. -/
def rows : Fin 136 → Fin 1536 → EReal :=
  rowsOf (fun r k => (xs0 : S136x1536.Idx → EReal) (ix2 ⟨r.val, by omega⟩ k)) fun l k => (x0 : S128x2048.Idx → EReal) (ix2 l ⟨k.val, by omega⟩)

/-- The convolved and gated rows. -/
def act : Fin 128 → Fin 1536 → EReal :=
  actOf (rows x0 xs0) (fun q k => (x4 : S4x1536.Idx → EReal) (ix2 q k)) fun k => (x5 : S1x1536.Idx → EReal) (ix2 0 k)

/-- The step sizes. -/
def dt : Fin 128 → Fin 16 → EReal := fun l h =>
  stepAt (128 * (i 1).val + l.val) ((x0 : S128x2048.Idx → EReal) (ix2 l ⟨1536 + h.val, by omega⟩) + (x6 : S1x16.Idx → EReal) (ix2 0 h))

/-- The running log decay. -/
def acum : Fin 128 → Fin 16 → EReal := acumOf (dt i x0 x6) fun h => Ideal.exp ((x7 : S1x16.Idx → EReal) (ix2 0 h))

/-- The state before the chunk. -/
def st : Fin 1024 → Fin 128 → EReal := fun r s => (xo13 : S1x1024x128.Idx → EReal) (ix3 0 r s)

include harg2 harg16 in
/-- The scratch while the convolution reads it: the kept rows, then the chunk's. -/
theorem scr_at (r : Fin 136) (k : Fin 1536) :
    (arg16.view.read (Elt Ideal) (arg16.view.writes (Elt Ideal) (harg16.unread xs0) (kernelRun0_B.sl.HS0_1 (F := Ideal) c arg2 harg2 x0)) : S136x1536.Idx → EReal) (ix2 r k) = (rows x0 xs0) r k := by
  unfold kernelRun0_B.sl.HS0_1 rows rowsOf
  by_cases h : r.val < 8
  · rw [dif_pos h]
    refine (View.read_writes_cons_unit_of_not_mem arg16.view _ _ _ _ _ rfl (0 : Fin 2) (Or.inl (by show r.val < 8; omega))).trans ?_
    exact congrFun (harg16.read_unread xs0) (ix2 r k)
  · rw [dif_neg h]
    refine (View.read_writes_cons_unit_of_mem arg16.view _ _ _ _ _ (ix2 ⟨r.val - 8, by omega⟩ k) rfl (Fin.forall_fin_two.mpr
      ⟨by show r.val = 8 + (r.val - 8); omega, by show k.val = 0 + k.val; omega⟩)).trans ?_
    pointwise [k0_pay4]
    rw [View.readAt_eq_ld, harg2.read_unread]
    exact View.ld_unit_apply_of x0 _ _ _ _ _ (Fin.forall_fin_two.mpr ⟨by show r.val - 8 = 0 + (r.val - 8); omega, by show k.val = 0 + k.val; omega⟩)

include harg2 in
/-- What the pieces stored in the scratch hold at the chunk's own rows. -/
theorem canon_hi (l : Fin 128) (k : Fin 1536) :
    (View.canon (Val := Elt Ideal) (kernelRun0_B.sl.HS0_1 (F := Ideal) c arg2 harg2 x0) : S136x1536.Idx → EReal) (ix2 ⟨8 + l.val, by omega⟩ k) = (x0 : S128x2048.Idx → EReal) (ix2 l ⟨k.val, by omega⟩) := by
  unfold kernelRun0_B.sl.HS0_1
  have e : (ix2 ⟨8 + l.val, by omega⟩ k : S136x1536.Idx) = (Rect.unit (s := S136x1536) ![8, 0] S128x1536.size inb_S136x1536_S128x1536_8_0).emb (ix2 l k) :=
    funext (Fin.forall_fin_two.mpr ⟨Fin.ext (by show 8 + l.val = 8 + 1 * l.val; omega), Fin.ext (by show k.val = 0 + 1 * k.val; omega)⟩)
  rw [e, View.canon_cons_emb]
  pointwise [k0_pay4]
  rw [View.readAt_eq_ld, harg2.read_unread]
  exact View.ld_unit_apply_of x0 _ _ _ _ _ (Fin.forall_fin_two.mpr ⟨by show l.val = 0 + l.val; omega, by show k.val = 0 + k.val; omega⟩)

include harg2 harg6 harg7 harg16 in
/-- The convolved and gated rows are the kernel's. -/
theorem act_at (l : Fin 128) (k : Fin 1536) : ((kernelRun0_B.sl.r_1 (F := Ideal) c arg2 harg2 arg6 harg6 arg7 harg7 arg16 harg16 x0 x4 x5 xs0) : S128x1536.Idx → EReal) (ix2 l k) = (act x0 x4 x5 xs0) l k := by
  unfold kernelRun0_B.sl.r_1 kernelRun0_B.sl.r
  rw [pay7_at]
  have w : ∀ (q : Fin 4) (inb) , (View.readAt (Elt Ideal) arg6.view (Rect.unit (s := S4x1536) ![q.val, 0] S1x1536.size inb).toLoadRect (harg6.unread x4) : S1x1536.Idx → EReal) (ix2 0 k) = (x4 : S4x1536.Idx → EReal) (ix2 q k) := fun q inb => by
    rw [View.readAt_eq_ld, harg6.read_unread]
    exact View.ld_unit_apply_of x4 _ _ _ _ _ (Fin.forall_fin_two.mpr ⟨by show q.val = q.val + 0; omega, by show k.val = 0 + k.val; omega⟩)
  have b : (View.readAt (Elt Ideal) arg7.view (Rect.unit ![0, 0] S1x1536.size inb_S1x1536_S1x1536_0_0).toLoadRect (harg7.unread x5) : S1x1536.Idx → EReal) (ix2 0 k) = (x5 : S1x1536.Idx → EReal) (ix2 0 k) := by
    rw [View.readAt_eq_ld, harg7.read_unread]
    exact View.ld_unit_apply_of x5 _ _ _ _ _ (Fin.forall_fin_two.mpr ⟨rfl, by show k.val = 0 + k.val; omega⟩)
  unfold act actOf convOf
  refine congrArg silu ?_
  refine congrArg₂ (· + ·) (congrArg₂ (· + ·) (congrArg₂ (· + ·) (congrArg₂ (· + ·) b
    (congrArg₂ (· * ·) (show (View.readAt (Elt Ideal) arg16.view (Rect.unit (s := S136x1536) ![5, 0] S128x1536.size inb_S136x1536_S128x1536_5_0).toLoadRect (arg16.view.writes (Elt Ideal) (harg16.unread xs0) (kernelRun0_B.sl.HS0_1 (F := Ideal) c arg2 harg2 x0)) : S128x1536.Idx → EReal) (ix2 l k) = (rows x0 xs0) ⟨5 + l.val, by omega⟩ k from
        (congrArg (arg16.view.read (Elt Ideal) (arg16.view.writes (Elt Ideal) (harg16.unread xs0) (kernelRun0_B.sl.HS0_1 (F := Ideal) c arg2 harg2 x0))) (funext (Fin.forall_fin_two.mpr ⟨Fin.ext (by show 5 + 1 * l.val = 5 + l.val; omega), Fin.ext (by show 0 + 1 * k.val = k.val; omega)⟩))).trans
          (scr_at c arg2 harg2 arg16 harg16 x0 xs0 ⟨5 + l.val, by omega⟩ k)) (w 0 inb_S4x1536_S1x1536_0_0)))
    (congrArg₂ (· * ·) (show (View.readAt (Elt Ideal) arg16.view (Rect.unit (s := S136x1536) ![6, 0] S128x1536.size inb_S136x1536_S128x1536_6_0).toLoadRect (arg16.view.writes (Elt Ideal) (harg16.unread xs0) (kernelRun0_B.sl.HS0_1 (F := Ideal) c arg2 harg2 x0)) : S128x1536.Idx → EReal) (ix2 l k) = (rows x0 xs0) ⟨6 + l.val, by omega⟩ k from
        (congrArg (arg16.view.read (Elt Ideal) (arg16.view.writes (Elt Ideal) (harg16.unread xs0) (kernelRun0_B.sl.HS0_1 (F := Ideal) c arg2 harg2 x0))) (funext (Fin.forall_fin_two.mpr ⟨Fin.ext (by show 6 + 1 * l.val = 6 + l.val; omega), Fin.ext (by show 0 + 1 * k.val = k.val; omega)⟩))).trans
          (scr_at c arg2 harg2 arg16 harg16 x0 xs0 ⟨6 + l.val, by omega⟩ k)) (w 1 inb_S4x1536_S1x1536_1_0)))
    (congrArg₂ (· * ·) (show (View.readAt (Elt Ideal) arg16.view (Rect.unit (s := S136x1536) ![7, 0] S128x1536.size inb_S136x1536_S128x1536_7_0).toLoadRect (arg16.view.writes (Elt Ideal) (harg16.unread xs0) (kernelRun0_B.sl.HS0_1 (F := Ideal) c arg2 harg2 x0)) : S128x1536.Idx → EReal) (ix2 l k) = (rows x0 xs0) ⟨7 + l.val, by omega⟩ k from
        (congrArg (arg16.view.read (Elt Ideal) (arg16.view.writes (Elt Ideal) (harg16.unread xs0) (kernelRun0_B.sl.HS0_1 (F := Ideal) c arg2 harg2 x0))) (funext (Fin.forall_fin_two.mpr ⟨Fin.ext (by show 7 + 1 * l.val = 7 + l.val; omega), Fin.ext (by show 0 + 1 * k.val = k.val; omega)⟩))).trans
          (scr_at c arg2 harg2 arg16 harg16 x0 xs0 ⟨7 + l.val, by omega⟩ k)) (w 2 inb_S4x1536_S1x1536_2_0)))
    (congrArg₂ (· * ·) (show ((kernelRun0_B.sl.v25 (F := Ideal) c arg2 harg2 arg16 x0) : S128x1536.Idx → EReal) (ix2 l k) = (rows x0 xs0) ⟨8 + l.val, by omega⟩ k from by
        unfold kernelRun0_B.sl.v25
        rw [View.readCov_eq_canon']
        refine (canon_box _ _ _ _ _ (ix2 ⟨8 + l.val, by omega⟩ k) (Fin.forall_fin_two.mpr ⟨rfl, by show k.val = 0 + k.val; omega⟩)).trans ((canon_hi c arg2 harg2 x0 l k).trans ?_)
        unfold rows rowsOf
        rw [dif_neg (by show ¬ 8 + l.val < 8; omega)]
        exact congrArg (x0 : S128x2048.Idx → EReal) (congrArg (fun z => ix2 z _) (Fin.ext (by show l.val = 8 + l.val - 8; omega)))) (w 3 inb_S4x1536_S1x1536_3_0))

include harg2 harg8 in
/-- The step sizes are the kernel's. -/
theorem dt_at (l : Fin 128) (h : Fin 16) : ((kernelRun0_B.sl.r_2 (F := Ideal) c i arg2 harg2 arg8 harg8 x0 x6) : S128x16.Idx → EReal) (ix2 l h) = (dt i x0 x6) l h := by
  unfold kernelRun0_B.sl.r_2 dt
  rw [pay9_at _ (i 1).val (i 1).isLt rfl]
  rw [View.readAt_eq_ld, View.readAt_eq_ld, harg2.read_unread, harg8.read_unread]
  refine congrArg (stepAt _) (congrArg₂ (· + ·) (View.ld_unit_apply_of x0 _ _ _ _ _ ?_) (View.ld_unit_apply_of x6 _ _ _ _ _ ?_))
  · exact Fin.forall_fin_two.mpr ⟨by show l.val = 0 + l.val; omega, by show 1536 + h.val = 1536 + h.val; omega⟩
  · exact Fin.forall_fin_two.mpr ⟨rfl, by show h.val = 0 + h.val; omega⟩

include harg9 in
/-- The rates are the kernel's. -/
theorem ea_at (h : Fin 16) : ((kernelRun0_B.sl.r_3 (F := Ideal) c arg9 harg9 x7) : S1x16.Idx → EReal) (ix2 0 h) = Ideal.exp ((x7 : S1x16.Idx → EReal) (ix2 0 h)) := by
  unfold kernelRun0_B.sl.r_3
  rw [pay10_at, View.readAt_eq_ld, harg9.read_unread]
  exact congrArg Ideal.exp (View.ld_unit_apply_of x7 _ _ _ _ _ (Fin.forall_fin_two.mpr ⟨rfl, by show h.val = 0 + h.val; omega⟩))

include harg2 harg8 harg9 in
/-- The running log decay is the kernel's. -/
theorem ac_eq : acA (kernelRun0_B.sl.r_2 (F := Ideal) c i arg2 harg2 arg8 harg8 x0 x6) (kernelRun0_B.sl.r_3 (F := Ideal) c arg9 harg9 x7) = (acum i x0 x6 x7) := by
  unfold acA acum
  rw [show dtA (kernelRun0_B.sl.r_2 (F := Ideal) c i arg2 harg2 arg8 harg8 x0 x6) = (dt i x0 x6) from funext fun l => funext fun h => dt_at c i arg2 harg2 arg8 harg8 x0 x6 l h,
    show (fun h => ((kernelRun0_B.sl.r_3 (F := Ideal) c arg9 harg9 x7) : S1x16.Idx → EReal) (ix2 0 h)) = fun h => Ideal.exp ((x7 : S1x16.Idx → EReal) (ix2 0 h)) from funext fun h => ea_at c arg9 harg9 x7 h]

include harg12 in
/-- The spreading matrix is read whole. -/
theorem e_at (h : Fin 16) (r : Fin 1024) : ((View.readAt (Elt Ideal) arg12.view (Rect.unit (s := S16x1024) ![0, 0] S16x1024.size inb_S16x1024_S16x1024_0_0).toLoadRect (harg12.unread x10)) : S16x1024.Idx → EReal) (ix2 h r) = (x10 : S16x1024.Idx → EReal) (ix2 h r) := by
  rw [View.readAt_eq_ld, harg12.read_unread]
  exact View.ld_unit_apply_of x10 _ _ _ _ _ (Fin.forall_fin_two.mpr ⟨by show h.val = 0 + h.val; omega, by show r.val = 0 + r.val; omega⟩)

include harg13 in
/-- The transposed spreading matrix is read whole. -/
theorem f_at (h : Fin 16) (r : Fin 1024) : ((View.readAt (Elt Ideal) arg13.view (Rect.unit (s := S1024x16) ![0, 0] S1024x16.size inb_S1024x16_S1024x16_0_0).toLoadRect (harg13.unread x11)) : S1024x16.Idx → EReal) (ix2 r h) = (x11 : S1024x16.Idx → EReal) (ix2 r h) := by
  rw [View.readAt_eq_ld, harg13.read_unread]
  exact View.ld_unit_apply_of x11 _ _ _ _ _ (Fin.forall_fin_two.mpr ⟨by show r.val = 0 + r.val; omega, by show h.val = 0 + h.val; omega⟩)

include harg15 in
/-- The state rows of pair 0 before the chunk. -/
theorem hp0_at (q s : Fin 128) : ((View.readAt (Elt Ideal) arg15.view (Rect.unit (s := S1x1024x128) ![0, 0, 0] S1x128x128.size inb_S1x1024x128_S1x128x128_0_0_0).toLoadRect (harg15.unread xo13)) : S1x128x128.Idx → EReal) (ix3 0 q s) = (st xo13) ⟨q.val, by omega⟩ s := by
  rw [View.readAt_eq_ld, harg15.read_unread]
  exact View.ld_unit_apply_of xo13 _ _ _ _ _ (fun a => by fin_cases a <;> simp)

include harg10 in
theorem dk0_at (ds : Fin 16 → EReal) (h8 : ∀ r, (x8 : S1x1024.Idx → EReal) (ix2 0 r) = ds (hd r)) (q : Fin 128) : ((View.readAt (Elt Ideal) arg10.view (Rect.unit (s := S1x1024) ![0, 0] S1x128.size inb_S1x1024_S1x128_0_0).toLoadRect (harg10.unread x8)) : S1x128.Idx → EReal) (ix2 0 q) = ds (hd ⟨q.val, by omega⟩) := by
  rw [View.readAt_eq_ld, harg10.read_unread, ← h8]
  exact View.ld_unit_apply_of x8 _ _ _ _ _ (Fin.forall_fin_two.mpr ⟨rfl, by show q.val = 0 + q.val; omega⟩)

include harg15 in
/-- The state rows of pair 1 before the chunk. -/
theorem hp1_at (q s : Fin 128) : ((kernelRun0_B.sl.v208 (F := Ideal) c arg15 harg15 xo13) : S1x128x128.Idx → EReal) (ix3 0 q s) = (st xo13) ⟨128 + q.val, by omega⟩ s := by
  unfold kernelRun0_B.sl.v208
  rw [View.readAt_eq_ld, harg15.read_unread]
  exact View.ld_unit_apply_of xo13 _ _ _ _ _ (fun a => by fin_cases a <;> simp)

include harg10 in
theorem dk1_at (ds : Fin 16 → EReal) (h8 : ∀ r, (x8 : S1x1024.Idx → EReal) (ix2 0 r) = ds (hd r)) (q : Fin 128) : ((View.readAt (Elt Ideal) arg10.view (Rect.unit (s := S1x1024) ![0, 128] S1x128.size inb_S1x1024_S1x128_0_128).toLoadRect (harg10.unread x8)) : S1x128.Idx → EReal) (ix2 0 q) = ds (hd ⟨128 + q.val, by omega⟩) := by
  rw [View.readAt_eq_ld, harg10.read_unread, ← h8]
  exact View.ld_unit_apply_of x8 _ _ _ _ _ (Fin.forall_fin_two.mpr ⟨rfl, by show 128 + q.val = 128 + q.val; omega⟩)

include harg15 in
/-- The state rows of pair 2 before the chunk. -/
theorem hp2_at (q s : Fin 128) : ((kernelRun0_B.sl.v268 (F := Ideal) c arg15 harg15 xo13) : S1x128x128.Idx → EReal) (ix3 0 q s) = (st xo13) ⟨256 + q.val, by omega⟩ s := by
  unfold kernelRun0_B.sl.v268
  rw [View.readAt_eq_ld, harg15.read_unread]
  exact View.ld_unit_apply_of xo13 _ _ _ _ _ (fun a => by fin_cases a <;> simp)

include harg10 in
theorem dk2_at (ds : Fin 16 → EReal) (h8 : ∀ r, (x8 : S1x1024.Idx → EReal) (ix2 0 r) = ds (hd r)) (q : Fin 128) : ((View.readAt (Elt Ideal) arg10.view (Rect.unit (s := S1x1024) ![0, 256] S1x128.size inb_S1x1024_S1x128_0_256).toLoadRect (harg10.unread x8)) : S1x128.Idx → EReal) (ix2 0 q) = ds (hd ⟨256 + q.val, by omega⟩) := by
  rw [View.readAt_eq_ld, harg10.read_unread, ← h8]
  exact View.ld_unit_apply_of x8 _ _ _ _ _ (Fin.forall_fin_two.mpr ⟨rfl, by show 256 + q.val = 256 + q.val; omega⟩)

include harg15 in
/-- The state rows of pair 3 before the chunk. -/
theorem hp3_at (q s : Fin 128) : ((kernelRun0_B.sl.v328 (F := Ideal) c arg15 harg15 xo13) : S1x128x128.Idx → EReal) (ix3 0 q s) = (st xo13) ⟨384 + q.val, by omega⟩ s := by
  unfold kernelRun0_B.sl.v328
  rw [View.readAt_eq_ld, harg15.read_unread]
  exact View.ld_unit_apply_of xo13 _ _ _ _ _ (fun a => by fin_cases a <;> simp)

include harg10 in
theorem dk3_at (ds : Fin 16 → EReal) (h8 : ∀ r, (x8 : S1x1024.Idx → EReal) (ix2 0 r) = ds (hd r)) (q : Fin 128) : ((View.readAt (Elt Ideal) arg10.view (Rect.unit (s := S1x1024) ![0, 384] S1x128.size inb_S1x1024_S1x128_0_384).toLoadRect (harg10.unread x8)) : S1x128.Idx → EReal) (ix2 0 q) = ds (hd ⟨384 + q.val, by omega⟩) := by
  rw [View.readAt_eq_ld, harg10.read_unread, ← h8]
  exact View.ld_unit_apply_of x8 _ _ _ _ _ (Fin.forall_fin_two.mpr ⟨rfl, by show 384 + q.val = 384 + q.val; omega⟩)

include harg15 in
/-- The state rows of pair 4 before the chunk. -/
theorem hp4_at (q s : Fin 128) : ((kernelRun0_B.sl.v393 (F := Ideal) c arg15 harg15 xo13) : S1x128x128.Idx → EReal) (ix3 0 q s) = (st xo13) ⟨512 + q.val, by omega⟩ s := by
  unfold kernelRun0_B.sl.v393
  rw [View.readAt_eq_ld, harg15.read_unread]
  exact View.ld_unit_apply_of xo13 _ _ _ _ _ (fun a => by fin_cases a <;> simp)

include harg10 in
theorem dk4_at (ds : Fin 16 → EReal) (h8 : ∀ r, (x8 : S1x1024.Idx → EReal) (ix2 0 r) = ds (hd r)) (q : Fin 128) : ((View.readAt (Elt Ideal) arg10.view (Rect.unit (s := S1x1024) ![0, 512] S1x128.size inb_S1x1024_S1x128_0_512).toLoadRect (harg10.unread x8)) : S1x128.Idx → EReal) (ix2 0 q) = ds (hd ⟨512 + q.val, by omega⟩) := by
  rw [View.readAt_eq_ld, harg10.read_unread, ← h8]
  exact View.ld_unit_apply_of x8 _ _ _ _ _ (Fin.forall_fin_two.mpr ⟨rfl, by show 512 + q.val = 512 + q.val; omega⟩)

include harg15 in
/-- The state rows of pair 5 before the chunk. -/
theorem hp5_at (q s : Fin 128) : ((kernelRun0_B.sl.v453 (F := Ideal) c arg15 harg15 xo13) : S1x128x128.Idx → EReal) (ix3 0 q s) = (st xo13) ⟨640 + q.val, by omega⟩ s := by
  unfold kernelRun0_B.sl.v453
  rw [View.readAt_eq_ld, harg15.read_unread]
  exact View.ld_unit_apply_of xo13 _ _ _ _ _ (fun a => by fin_cases a <;> simp)

include harg10 in
theorem dk5_at (ds : Fin 16 → EReal) (h8 : ∀ r, (x8 : S1x1024.Idx → EReal) (ix2 0 r) = ds (hd r)) (q : Fin 128) : ((View.readAt (Elt Ideal) arg10.view (Rect.unit (s := S1x1024) ![0, 640] S1x128.size inb_S1x1024_S1x128_0_640).toLoadRect (harg10.unread x8)) : S1x128.Idx → EReal) (ix2 0 q) = ds (hd ⟨640 + q.val, by omega⟩) := by
  rw [View.readAt_eq_ld, harg10.read_unread, ← h8]
  exact View.ld_unit_apply_of x8 _ _ _ _ _ (Fin.forall_fin_two.mpr ⟨rfl, by show 640 + q.val = 640 + q.val; omega⟩)

include harg15 in
/-- The state rows of pair 6 before the chunk. -/
theorem hp6_at (q s : Fin 128) : ((kernelRun0_B.sl.v513 (F := Ideal) c arg15 harg15 xo13) : S1x128x128.Idx → EReal) (ix3 0 q s) = (st xo13) ⟨768 + q.val, by omega⟩ s := by
  unfold kernelRun0_B.sl.v513
  rw [View.readAt_eq_ld, harg15.read_unread]
  exact View.ld_unit_apply_of xo13 _ _ _ _ _ (fun a => by fin_cases a <;> simp)

include harg10 in
theorem dk6_at (ds : Fin 16 → EReal) (h8 : ∀ r, (x8 : S1x1024.Idx → EReal) (ix2 0 r) = ds (hd r)) (q : Fin 128) : ((View.readAt (Elt Ideal) arg10.view (Rect.unit (s := S1x1024) ![0, 768] S1x128.size inb_S1x1024_S1x128_0_768).toLoadRect (harg10.unread x8)) : S1x128.Idx → EReal) (ix2 0 q) = ds (hd ⟨768 + q.val, by omega⟩) := by
  rw [View.readAt_eq_ld, harg10.read_unread, ← h8]
  exact View.ld_unit_apply_of x8 _ _ _ _ _ (Fin.forall_fin_two.mpr ⟨rfl, by show 768 + q.val = 768 + q.val; omega⟩)

include harg15 in
/-- The state rows of pair 7 before the chunk. -/
theorem hp7_at (q s : Fin 128) : ((kernelRun0_B.sl.v573 (F := Ideal) c arg15 harg15 xo13) : S1x128x128.Idx → EReal) (ix3 0 q s) = (st xo13) ⟨896 + q.val, by omega⟩ s := by
  unfold kernelRun0_B.sl.v573
  rw [View.readAt_eq_ld, harg15.read_unread]
  exact View.ld_unit_apply_of xo13 _ _ _ _ _ (fun a => by fin_cases a <;> simp)

include harg10 in
theorem dk7_at (ds : Fin 16 → EReal) (h8 : ∀ r, (x8 : S1x1024.Idx → EReal) (ix2 0 r) = ds (hd r)) (q : Fin 128) : ((View.readAt (Elt Ideal) arg10.view (Rect.unit (s := S1x1024) ![0, 896] S1x128.size inb_S1x1024_S1x128_0_896).toLoadRect (harg10.unread x8)) : S1x128.Idx → EReal) (ix2 0 q) = ds (hd ⟨896 + q.val, by omega⟩) := by
  rw [View.readAt_eq_ld, harg10.read_unread, ← h8]
  exact View.ld_unit_apply_of x8 _ _ _ _ _ (Fin.forall_fin_two.mpr ⟨rfl, by show 896 + q.val = 896 + q.val; omega⟩)

/-- The stores of state rows the run leaves. -/
theorem list13 : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xs0).2.1 = hList (kernelRun0_B.sl.r_1 (F := Ideal) c arg2 harg2 arg6 harg6 arg7 harg7 arg16 harg16 x0 x4 x5 xs0) (kernelRun0_B.sl.r_2 (F := Ideal) c i arg2 harg2 arg8 harg8 x0 x6) (kernelRun0_B.sl.r_3 (F := Ideal) c arg9 harg9 x7) (View.readAt (Elt Ideal) arg12.view (Rect.unit (s := S16x1024) ![0, 0] S16x1024.size inb_S16x1024_S16x1024_0_0).toLoadRect (harg12.unread x10)) (View.readAt (Elt Ideal) arg13.view (Rect.unit (s := S1024x16) ![0, 0] S1024x16.size inb_S1024x16_S1024x16_0_0).toLoadRect (harg13.unread x11)) (View.readAt (Elt Ideal) arg15.view (Rect.unit (s := S1x1024x128) ![0, 0, 0] S1x128x128.size inb_S1x1024x128_S1x128x128_0_0_0).toLoadRect (harg15.unread xo13)) (kernelRun0_B.sl.v208 (F := Ideal) c arg15 harg15 xo13) (kernelRun0_B.sl.v268 (F := Ideal) c arg15 harg15 xo13) (kernelRun0_B.sl.v328 (F := Ideal) c arg15 harg15 xo13) (kernelRun0_B.sl.v393 (F := Ideal) c arg15 harg15 xo13) (kernelRun0_B.sl.v453 (F := Ideal) c arg15 harg15 xo13) (kernelRun0_B.sl.v513 (F := Ideal) c arg15 harg15 xo13) (kernelRun0_B.sl.v573 (F := Ideal) c arg15 harg15 xo13) := rfl

/-- The state after the chunk. -/
theorem out13_at (he : ∀ h r, (x10 : S16x1024.Idx → EReal) (ix2 h r) = if h = hd r then 1 else 0)
    (hf : ∀ h r, (x11 : S1024x16.Idx → EReal) (ix2 r h) = if h = hd r then 1 else 0) (r : Fin 1024) (s : Fin 128) :
    (out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xs0 : S1x1024x128.Idx → EReal) (ix3 0 r s) = hOf (act x0 x4 x5 xs0) (dt i x0 x6) (acum i x0 x6 x7) (st xo13) r s := by
  have hA : actA (kernelRun0_B.sl.r_1 (F := Ideal) c arg2 harg2 arg6 harg6 arg7 harg7 arg16 harg16 x0 x4 x5 xs0) = (act x0 x4 x5 xs0) := funext fun l => funext fun k => act_at c arg2 harg2 arg6 harg6 arg7 harg7 arg16 harg16 x0 x4 x5 xs0 l k
  have hd' : dtA (kernelRun0_B.sl.r_2 (F := Ideal) c i arg2 harg2 arg8 harg8 x0 x6) = (dt i x0 x6) := funext fun l => funext fun h => dt_at c i arg2 harg2 arg8 harg8 x0 x6 l h
  have hac := ac_eq c i arg2 harg2 arg8 harg8 arg9 harg9 x0 x6 x7
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xs0), list13]
  rw [← hA, ← hd', ← hac]
  rw [← List.append_nil (hList _ _ _ _ _ _ _ _ _ _ _ _ _)]
  exact hList_at (kernelRun0_B.sl.r_1 (F := Ideal) c arg2 harg2 arg6 harg6 arg7 harg7 arg16 harg16 x0 x4 x5 xs0) (kernelRun0_B.sl.r_2 (F := Ideal) c i arg2 harg2 arg8 harg8 x0 x6) (kernelRun0_B.sl.r_3 (F := Ideal) c arg9 harg9 x7) (View.readAt (Elt Ideal) arg12.view (Rect.unit (s := S16x1024) ![0, 0] S16x1024.size inb_S16x1024_S16x1024_0_0).toLoadRect (harg12.unread x10)) (View.readAt (Elt Ideal) arg13.view (Rect.unit (s := S1024x16) ![0, 0] S1024x16.size inb_S1024x16_S1024x16_0_0).toLoadRect (harg13.unread x11)) (View.readAt (Elt Ideal) arg15.view (Rect.unit (s := S1x1024x128) ![0, 0, 0] S1x128x128.size inb_S1x1024x128_S1x128x128_0_0_0).toLoadRect (harg15.unread xo13)) (kernelRun0_B.sl.v208 (F := Ideal) c arg15 harg15 xo13) (kernelRun0_B.sl.v268 (F := Ideal) c arg15 harg15 xo13) (kernelRun0_B.sl.v328 (F := Ideal) c arg15 harg15 xo13) (kernelRun0_B.sl.v393 (F := Ideal) c arg15 harg15 xo13) (kernelRun0_B.sl.v453 (F := Ideal) c arg15 harg15 xo13) (kernelRun0_B.sl.v513 (F := Ideal) c arg15 harg15 xo13) (kernelRun0_B.sl.v573 (F := Ideal) c arg15 harg15 xo13) (st xo13) (fun h r => (e_at arg12 harg12 x10 h r).trans (he h r)) (fun h r => (f_at arg13 harg13 x11 h r).trans (hf h r)) (fun q s => hp0_at arg15 harg15 xo13 q s) (fun q s => hp1_at c arg15 harg15 xo13 q s) (fun q s => hp2_at c arg15 harg15 xo13 q s) (fun q s => hp3_at c arg15 harg15 xo13 q s) (fun q s => hp4_at c arg15 harg15 xo13 q s) (fun q s => hp5_at c arg15 harg15 xo13 q s) (fun q s => hp6_at c arg15 harg15 xo13 q s) (fun q s => hp7_at c arg15 harg15 xo13 q s) _ r s

/-- The stores of output columns the run leaves in its scratch. -/
theorem listY : (kernelRun0_B.sl.HS1_8 (F := Ideal) c i arg2 harg2 arg6 harg6 arg7 harg7 arg8 harg8 arg9 harg9 arg10 harg10 arg12 harg12 arg15 harg15 arg16 harg16 x0 x4 x5 x6 x7 x8 x10 xo13 xs0) = yList (kernelRun0_B.sl.r_1 (F := Ideal) c arg2 harg2 arg6 harg6 arg7 harg7 arg16 harg16 x0 x4 x5 xs0) (kernelRun0_B.sl.r_2 (F := Ideal) c i arg2 harg2 arg8 harg8 x0 x6) (kernelRun0_B.sl.r_3 (F := Ideal) c arg9 harg9 x7) (View.readAt (Elt Ideal) arg12.view (Rect.unit (s := S16x1024) ![0, 0] S16x1024.size inb_S16x1024_S16x1024_0_0).toLoadRect (harg12.unread x10)) (View.readAt (Elt Ideal) arg15.view (Rect.unit (s := S1x1024x128) ![0, 0, 0] S1x128x128.size inb_S1x1024x128_S1x128x128_0_0_0).toLoadRect (harg15.unread xo13)) (kernelRun0_B.sl.v208 (F := Ideal) c arg15 harg15 xo13) (kernelRun0_B.sl.v268 (F := Ideal) c arg15 harg15 xo13) (kernelRun0_B.sl.v328 (F := Ideal) c arg15 harg15 xo13) (kernelRun0_B.sl.v393 (F := Ideal) c arg15 harg15 xo13) (kernelRun0_B.sl.v453 (F := Ideal) c arg15 harg15 xo13) (kernelRun0_B.sl.v513 (F := Ideal) c arg15 harg15 xo13) (kernelRun0_B.sl.v573 (F := Ideal) c arg15 harg15 xo13) (View.readAt (Elt Ideal) arg10.view (Rect.unit (s := S1x1024) ![0, 0] S1x128.size inb_S1x1024_S1x128_0_0).toLoadRect (harg10.unread x8)) (View.readAt (Elt Ideal) arg10.view (Rect.unit (s := S1x1024) ![0, 128] S1x128.size inb_S1x1024_S1x128_0_128).toLoadRect (harg10.unread x8)) (View.readAt (Elt Ideal) arg10.view (Rect.unit (s := S1x1024) ![0, 256] S1x128.size inb_S1x1024_S1x128_0_256).toLoadRect (harg10.unread x8)) (View.readAt (Elt Ideal) arg10.view (Rect.unit (s := S1x1024) ![0, 384] S1x128.size inb_S1x1024_S1x128_0_384).toLoadRect (harg10.unread x8)) (View.readAt (Elt Ideal) arg10.view (Rect.unit (s := S1x1024) ![0, 512] S1x128.size inb_S1x1024_S1x128_0_512).toLoadRect (harg10.unread x8)) (View.readAt (Elt Ideal) arg10.view (Rect.unit (s := S1x1024) ![0, 640] S1x128.size inb_S1x1024_S1x128_0_640).toLoadRect (harg10.unread x8)) (View.readAt (Elt Ideal) arg10.view (Rect.unit (s := S1x1024) ![0, 768] S1x128.size inb_S1x1024_S1x128_0_768).toLoadRect (harg10.unread x8)) (View.readAt (Elt Ideal) arg10.view (Rect.unit (s := S1x1024) ![0, 896] S1x128.size inb_S1x1024_S1x128_0_896).toLoadRect (harg10.unread x8)) := rfl

/-- The store of the output block. -/
theorem list12 : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xs0).1 =
    [⟨Rect.unit ![0, 0] S128x1024.size inb_S128x1024_S128x1024_0_0, k0_pay1 (k0_pay71 (View.readAt (Elt Ideal) arg3.view (Rect.unit (s := S128x1024) ![0, 0] S128x1024.size inb_S128x1024_S128x1024_0_0).toLoadRect (harg3.unread x1)) (kernelRun0_B.sl.v602 (F := Ideal) c i arg2 harg2 arg6 harg6 arg7 harg7 arg8 harg8 arg9 harg9 arg10 harg10 arg12 harg12 arg15 harg15 arg16 harg16 arg17 x0 x4 x5 x6 x7 x8 x10 xo13 xs0)) (k0_pay72 (View.readAt (Elt Ideal) arg11.view (Rect.unit (s := S1x1024) ![0, 0] S1x1024.size inb_S1x1024_S1x1024_0_0).toLoadRect (harg11.unread x9)))⟩] := rfl

/-- The output block of the chunk. -/
theorem out12_at (he : ∀ h r, (x10 : S16x1024.Idx → EReal) (ix2 h r) = if h = hd r then 1 else 0)
    (ds : Fin 16 → EReal) (h8 : ∀ r, (x8 : S1x1024.Idx → EReal) (ix2 0 r) = ds (hd r)) (l : Fin 128) (r : Fin 1024) :
    (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xs0 : S128x1024.Idx → EReal) (ix2 l r) =
      gatedAt (yOf (act x0 x4 x5 xs0) (dt i x0 x6) (acum i x0 x6 x7) (st xo13) ds l) (fun k => (x1 : S128x1024.Idx → EReal) (ix2 l k)) ((x9 : S1x1024.Idx → EReal) (ix2 0 r)) r := by
  have hA : actA (kernelRun0_B.sl.r_1 (F := Ideal) c arg2 harg2 arg6 harg6 arg7 harg7 arg16 harg16 x0 x4 x5 xs0) = (act x0 x4 x5 xs0) := funext fun l => funext fun k => act_at c arg2 harg2 arg6 harg6 arg7 harg7 arg16 harg16 x0 x4 x5 xs0 l k
  have hd' : dtA (kernelRun0_B.sl.r_2 (F := Ideal) c i arg2 harg2 arg8 harg8 x0 x6) = (dt i x0 x6) := funext fun l => funext fun h => dt_at c i arg2 harg2 arg8 harg8 x0 x6 l h
  have hac := ac_eq c i arg2 harg2 arg8 harg8 arg9 harg9 x0 x6 x7
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xs0), list12]
  rw [View.canon_unit_zero (S := S128x1024) (funext fun a => by fin_cases a <;> rfl), pay1_at]
  have hz : (fun k : Fin 1024 => ((View.readAt (Elt Ideal) arg3.view (Rect.unit (s := S128x1024) ![0, 0] S128x1024.size inb_S128x1024_S128x1024_0_0).toLoadRect (harg3.unread x1)) : S128x1024.Idx → EReal) (ix2 l k)) = fun k => (x1 : S128x1024.Idx → EReal) (ix2 l k) := funext fun k => by
    rw [View.readAt_eq_ld, harg3.read_unread]
    exact View.ld_unit_apply_of x1 _ _ _ _ _ (Fin.forall_fin_two.mpr ⟨by show l.val = 0 + l.val; omega, by show k.val = 0 + k.val; omega⟩)
  have hg : ((View.readAt (Elt Ideal) arg11.view (Rect.unit (s := S1x1024) ![0, 0] S1x1024.size inb_S1x1024_S1x1024_0_0).toLoadRect (harg11.unread x9)) : S1x1024.Idx → EReal) (ix2 0 r) = (x9 : S1x1024.Idx → EReal) (ix2 0 r) := by
    rw [View.readAt_eq_ld, harg11.read_unread]
    exact View.ld_unit_apply_of x9 _ _ _ _ _ (Fin.forall_fin_two.mpr ⟨rfl, by show r.val = 0 + r.val; omega⟩)
  have hy : (fun k : Fin 1024 => ((kernelRun0_B.sl.v602 (F := Ideal) c i arg2 harg2 arg6 harg6 arg7 harg7 arg8 harg8 arg9 harg9 arg10 harg10 arg12 harg12 arg15 harg15 arg16 harg16 arg17 x0 x4 x5 x6 x7 x8 x10 xo13 xs0) : S128x1024.Idx → EReal) (ix2 l k)) = yOf (act x0 x4 x5 xs0) (dt i x0 x6) (acum i x0 x6 x7) (st xo13) ds l := funext fun k => by
    unfold kernelRun0_B.sl.v602
    rw [View.readCov_eq_canon', listY]
    refine (canon_box _ _ _ _ _ (ix2 l k) (Fin.forall_fin_two.mpr ⟨by show l.val = 0 + l.val; omega, by show k.val = 0 + k.val; omega⟩)).trans ?_
    rw [← hA, ← hd', ← hac]
    exact yList_at (kernelRun0_B.sl.r_1 (F := Ideal) c arg2 harg2 arg6 harg6 arg7 harg7 arg16 harg16 x0 x4 x5 xs0) (kernelRun0_B.sl.r_2 (F := Ideal) c i arg2 harg2 arg8 harg8 x0 x6) (kernelRun0_B.sl.r_3 (F := Ideal) c arg9 harg9 x7) (View.readAt (Elt Ideal) arg12.view (Rect.unit (s := S16x1024) ![0, 0] S16x1024.size inb_S16x1024_S16x1024_0_0).toLoadRect (harg12.unread x10)) (View.readAt (Elt Ideal) arg15.view (Rect.unit (s := S1x1024x128) ![0, 0, 0] S1x128x128.size inb_S1x1024x128_S1x128x128_0_0_0).toLoadRect (harg15.unread xo13)) (kernelRun0_B.sl.v208 (F := Ideal) c arg15 harg15 xo13) (kernelRun0_B.sl.v268 (F := Ideal) c arg15 harg15 xo13) (kernelRun0_B.sl.v328 (F := Ideal) c arg15 harg15 xo13) (kernelRun0_B.sl.v393 (F := Ideal) c arg15 harg15 xo13) (kernelRun0_B.sl.v453 (F := Ideal) c arg15 harg15 xo13) (kernelRun0_B.sl.v513 (F := Ideal) c arg15 harg15 xo13) (kernelRun0_B.sl.v573 (F := Ideal) c arg15 harg15 xo13) (View.readAt (Elt Ideal) arg10.view (Rect.unit (s := S1x1024) ![0, 0] S1x128.size inb_S1x1024_S1x128_0_0).toLoadRect (harg10.unread x8)) (View.readAt (Elt Ideal) arg10.view (Rect.unit (s := S1x1024) ![0, 128] S1x128.size inb_S1x1024_S1x128_0_128).toLoadRect (harg10.unread x8)) (View.readAt (Elt Ideal) arg10.view (Rect.unit (s := S1x1024) ![0, 256] S1x128.size inb_S1x1024_S1x128_0_256).toLoadRect (harg10.unread x8)) (View.readAt (Elt Ideal) arg10.view (Rect.unit (s := S1x1024) ![0, 384] S1x128.size inb_S1x1024_S1x128_0_384).toLoadRect (harg10.unread x8)) (View.readAt (Elt Ideal) arg10.view (Rect.unit (s := S1x1024) ![0, 512] S1x128.size inb_S1x1024_S1x128_0_512).toLoadRect (harg10.unread x8)) (View.readAt (Elt Ideal) arg10.view (Rect.unit (s := S1x1024) ![0, 640] S1x128.size inb_S1x1024_S1x128_0_640).toLoadRect (harg10.unread x8)) (View.readAt (Elt Ideal) arg10.view (Rect.unit (s := S1x1024) ![0, 768] S1x128.size inb_S1x1024_S1x128_0_768).toLoadRect (harg10.unread x8)) (View.readAt (Elt Ideal) arg10.view (Rect.unit (s := S1x1024) ![0, 896] S1x128.size inb_S1x1024_S1x128_0_896).toLoadRect (harg10.unread x8)) (st xo13) ds (fun h r => (e_at arg12 harg12 x10 h r).trans (he h r)) (fun q s => hp0_at arg15 harg15 xo13 q s) (fun q s => hp1_at c arg15 harg15 xo13 q s) (fun q s => hp2_at c arg15 harg15 xo13 q s) (fun q s => hp3_at c arg15 harg15 xo13 q s) (fun q s => hp4_at c arg15 harg15 xo13 q s) (fun q s => hp5_at c arg15 harg15 xo13 q s) (fun q s => hp6_at c arg15 harg15 xo13 q s) (fun q s => hp7_at c arg15 harg15 xo13 q s) (fun q => dk0_at arg10 harg10 x8 ds h8 q) (fun q => dk1_at arg10 harg10 x8 ds h8 q) (fun q => dk2_at arg10 harg10 x8 ds h8 q) (fun q => dk3_at arg10 harg10 x8 ds h8 q) (fun q => dk4_at arg10 harg10 x8 ds h8 q) (fun q => dk5_at arg10 harg10 x8 ds h8 q) (fun q => dk6_at arg10 harg10 x8 ds h8 q) (fun q => dk7_at arg10 harg10 x8 ds h8 q) l k
  rw [hz, hg, hy]

/-- The rows kept for the next chunk are the chunk's last eight. -/
theorem sout_at (r : Fin 8) (k : Fin 1536) :
    (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xs0 : S136x1536.Idx → EReal) (ix2 ⟨r.val, by omega⟩ k) = (x0 : S128x2048.Idx → EReal) (ix2 ⟨120 + r.val, by omega⟩ ⟨k.val, by omega⟩) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xs0)]
  have e0 : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xs0).2.2.1 = ⟨Rect.unit (s := S136x1536) ![0, 0] S8x1536.size inb_S136x1536_S8x1536_0_0, k0_pay8 (kernelRun0_B.sl.v38 (F := Ideal) c arg2 harg2 arg16 x0)⟩ :: (kernelRun0_B.sl.HS0_1 (F := Ideal) c arg2 harg2 x0) := rfl
  rw [e0]
  have e : (ix2 ⟨r.val, by omega⟩ k : S136x1536.Idx) = (Rect.unit (s := S136x1536) ![0, 0] S8x1536.size inb_S136x1536_S8x1536_0_0).emb (ix2 r k) :=
    funext (Fin.forall_fin_two.mpr ⟨Fin.ext (by show r.val = 0 + 1 * r.val; omega), Fin.ext (by show k.val = 0 + 1 * k.val; omega)⟩)
  rw [e, View.canon_cons_emb]
  pointwise [k0_pay8]
  unfold kernelRun0_B.sl.v38
  rw [View.readCov_eq_canon']
  exact (canon_box _ _ _ _ _ (ix2 ⟨8 + (120 + r.val), by omega⟩ k) (Fin.forall_fin_two.mpr ⟨by show 8 + (120 + r.val) = 128 + r.val; omega, by show k.val = 0 + k.val; omega⟩)).trans
    (canon_hi c arg2 harg2 x0 ⟨120 + r.val, by omega⟩ k)

end Cert.KernelIdeal.BlockB

end
-- ==== Proof.SsdState.lean ====
/-
  The mixer kernel over its grid: after each point the output block, the state and the rows carried on are the
  sequence's, so the arrays the launch leaves are the mixer's.
-/
module

public import proofs.«01_k».proof.Proof.SsdInput
public import proofs.«01_k».proof.Proof.SsdBlockA
public import proofs.«01_k».proof.Proof.SsdBlockB
public import proofs.«01_k».proof.Proof.Gen.KernelIdeal.Value
public import Idealize.ShloMosaic.Lib.Pointwise
public import Idealize.ShloMosaic.Lib.Claim
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.Layer
open scoped BigOperators

variable (m : (ℓ : Loc nD τ sig) → Buf (Elt Ideal) ℓ) (c : Dev nD)

/-- The kernel's step sizes at a point are the sequence's. -/
theorem dt_mix (t : Fin cfg0.N) (s : Fin 2) (hs : s.val = t.val / 33) :
    BlockA.dt (grid0.coords t) (X0_0 m c t) (iblk m c 6 t)
    = (mix m c).cDt s (t.val % 33) := by
  have hN : t.val < 66 := t.isLt
  funext l h
  unfold BlockA.dt Mix.cDt Mix.dt
  rw [dif_pos (by omega), coord1, iblk6, V_v9, X0_at m c t l _ ⟨s.val * 4224 + (128 * (t.val % 33) + l.val), by omega⟩ (by show s.val * 4224 + _ = _; omega)]
  rfl

/-- The kernel's running log decay at a point is the sequence's. -/
theorem ac_mix (t : Fin cfg0.N) (s : Fin 2) (hs : s.val = t.val / 33) :
    BlockA.acum (grid0.coords t) (X0_0 m c t) (iblk m c 6 t) (iblk m c 7 t)
    = (mix m c).cAc s (t.val % 33) := by
  unfold BlockA.acum Mix.cAc
  rw [dt_mix m c t s hs]
  congr 1
  funext h
  rw [iblk7, V_v10]
  rfl

/-- The kernel's convolved rows at a point are the sequence's, once the eight rows before the chunk are. -/
theorem act_mix (t : Fin cfg0.N) (s : Fin 2) (hs : s.val = t.val / 33) (p : Fin 8 → Fin 1536 → EReal)
    (hp : ∀ r k, p r k = (mix m c).xpad s (128 * (t.val % 33) + r.val) k) :
    actOf (rowsOf p fun l k => (X0_0 m c t : S128x2048.Idx → EReal) (ix2 l ⟨k.val, by omega⟩))
      (fun q k => (iblk m c 4 t : S4x1536.Idx → EReal) (ix2 q k)) (fun k => (iblk m c 5 t : S1x1536.Idx → EReal) (ix2 0 k))
    = (mix m c).cAct s (t.val % 33) := by
  have hN : t.val < 66 := t.isLt
  refine (mix m c).act_eq s (t.val % 33) (by omega) p _ hp (fun l k => ?_) _ _ (fun q k => ?_) (fun k => ?_)
  · rw [X0_at m c t l _ ⟨s.val * 4224 + (128 * (t.val % 33) + l.val), by omega⟩ (by show s.val * 4224 + _ = _; omega)]
    rfl
  · rw [iblk4]
    exact congrFun (V_main_arg3 m c) _
  · rw [iblk5, V_v8]
    rfl

/-- The kernel's gate rows at a point. -/
theorem z_mix (t : Fin cfg0.N) (s : Fin 2) (hs : s.val = t.val / 33) (l : Fin 128) :
    (fun k => (iblk m c 1 t : S128x1024.Idx → EReal) (ix2 l k)) = (mix m c).z s ⟨128 * (t.val % 33) + l.val, by omega⟩ := by
  have hN : t.val < 66 := t.isLt
  funext k
  rw [iblk1 m c t l k ⟨s.val * 4224 + (128 * (t.val % 33) + l.val), by omega⟩ (by show s.val * 4224 + _ = _; omega)]
  rfl

/-- The spreading matrix, as a block. -/
theorem he_mix (t : Fin cfg0.N) (h : Fin 16) (r : Fin 1024) : (iblk m c 10 t : S16x1024.Idx → EReal) (ix2 h r) = (if h = hd r then 1 else 0 : EReal) :=
  (iblk10 m c t h r).trans (V_v7 m c h r)

/-- Its transpose, as a block. -/
theorem hf_mix (t : Fin cfg0.N) (h : Fin 16) (r : Fin 1024) : (iblk m c 11 t : S1024x16.Idx → EReal) (ix2 r h) = (if h = hd r then 1 else 0 : EReal) :=
  (iblk11 m c t r h).trans (V_v15 m c h r)

/-- The skip weights, as a block. -/
theorem h8_mix (t : Fin cfg0.N) (r : Fin 1024) : (iblk m c 8 t : S1x1024.Idx → EReal) (ix2 0 r) = (mix m c).ds (hd r) :=
  (iblk8 m c t r).trans (V_v13 m c r)

/-- The gain, as a block. -/
theorem h9_mix (t : Fin cfg0.N) (r : Fin 1024) : (iblk m c 9 t : S1x1024.Idx → EReal) (ix2 0 r) = (mix m c).ng r :=
  (iblk9 m c t r).trans (V_v14 m c r)

/-- What the point before left, as the sequence has it. -/
def Left (t : ℕ) (ht : t < cfg0.N) (s : Fin 2) : Prop :=
  (∀ r k, ((outsAt0 m c t ht).2.1 : S1x1024x128.Idx → EReal) (ix3 0 r k) = (mix m c).st s (t % 33 + 1) r k)
  ∧ (∀ (r : Fin 8) k, ((outsAt0 m c t ht).2.2 : S136x1536.Idx → EReal) (ix2 ⟨r.val, by omega⟩ k) = (mix m c).xpad s (128 * (t % 33 + 1) + r.val) k)
  ∧ (∀ l r, ((outsAt0 m c t ht).1 : S128x1024.Idx → EReal) (ix2 l r) = (mix m c).out s ⟨t % 33, Nat.mod_lt _ (by omega)⟩ l r)

/-- The rows a chunk hands on. -/
theorem hand_on (t : Fin cfg0.N) (s : Fin 2) (hs : s.val = t.val / 33) (r : Fin 8) (k : Fin 1536) :
    (X0_0 m c t : S128x2048.Idx → EReal) (ix2 ⟨120 + r.val, by omega⟩ ⟨k.val, by omega⟩) = (mix m c).xpad s (128 * (t.val % 33 + 1) + r.val) k := by
  have hN : t.val < 66 := t.isLt
  rw [(mix m c).xpad_next s (t.val % 33) (by omega), X0_at m c t ⟨120 + r.val, by omega⟩ _ ⟨s.val * 4224 + (128 * (t.val % 33) + (120 + r.val)), by omega⟩ (by show s.val * 4224 + _ = _ + (120 + r.val); omega)]
  rfl

/-- At a sequence's first point. -/
theorem left_A (t : Fin cfg0.N) (h0 : t.val % 33 = 0) (s : Fin 2) (hs : s.val = t.val / 33) : Left m c t.val t.isLt s := by
  have hact : BlockA.act (X0_0 m c t) (iblk m c 2 t) (iblk m c 4 t) (iblk m c 5 t) = (mix m c).cAct s (t.val % 33) := by
    refine act_mix m c t s hs _ fun r k => ?_
    rw [iblk2 m c t r k s hs]
    unfold Mix.xpad
    rw [dif_pos (by omega)]
    show (mix m c).hist s r k = _
    exact congrArg (fun q => (mix m c).hist s q k) (Fin.ext (by show r.val = 128 * (t.val % 33) + r.val; omega))
  have hdt : BlockA.dt (grid0.coords t) (X0_0 m c t) (iblk m c 6 t) = (mix m c).cDt s (t.val % 33) := dt_mix m c t s hs
  have hac : BlockA.acum (grid0.coords t) (X0_0 m c t) (iblk m c 6 t) (iblk m c 7 t) = (mix m c).cAc s (t.val % 33) := ac_mix m c t s hs
  have hst : BlockA.st (iblk m c 3 t) = (mix m c).st s (t.val % 33) := by
    rw [h0]
    funext r k
    exact iblk3 m c t r k s hs
  have e := outsAt0_A m c t h0
  have e12 := congrArg (fun p => p.1) e
  have e13 := congrArg (fun p => p.2.1) e
  have es := congrArg (fun p => p.2.2) e
  clear e
  dsimp only at e12 e13 es
  unfold Left
  rw [e12, e13, es]
  refine ⟨fun r k => ?_, fun r k => ?_, fun l r => ?_⟩
  · refine (BlockA.out13_at (he := he_mix m c t) (hf := hf_mix m c t) (r := r) (s := k) ..).trans ?_
    rw [hact, hdt, hac, hst]
    rfl
  · refine (BlockA.sout_at (r := r) (k := k) ..).trans ?_
    exact hand_on m c t s hs r k
  · refine (BlockA.out12_at (he := he_mix m c t) (ds := (mix m c).ds) (h8 := h8_mix m c t) (l := l) (r := r) ..).trans ?_
    rw [hact, hdt, hac, hst, z_mix m c t s hs l, h9_mix]
    rfl

/-- At a later point, from what the point before left. -/
theorem left_B (t : Fin cfg0.N) (h0 : ¬t.val % 33 = 0) (s : Fin 2) (hs : s.val = t.val / 33)
    (hp : t.val - 1 < cfg0.N) (ih : Left m c (t.val - 1) hp s) : Left m c t.val t.isLt s := by
  have hmod : (t.val - 1) % 33 + 1 = t.val % 33 := by omega
  have hact : BlockB.act (X0_0 m c t) (iblk m c 4 t) (iblk m c 5 t) (outsAt0 m c (t.val - 1) hp).2.2 = (mix m c).cAct s (t.val % 33) := by
    refine act_mix m c t s hs _ fun r k => ?_
    rw [← hmod]
    exact ih.2.1 r k
  have hdt : BlockB.dt (grid0.coords t) (X0_0 m c t) (iblk m c 6 t) = (mix m c).cDt s (t.val % 33) := dt_mix m c t s hs
  have hac : BlockB.acum (grid0.coords t) (X0_0 m c t) (iblk m c 6 t) (iblk m c 7 t) = (mix m c).cAc s (t.val % 33) := ac_mix m c t s hs
  have hst : BlockB.st (outsAt0 m c (t.val - 1) hp).2.1 = (mix m c).st s (t.val % 33) := by
    rw [← hmod]
    funext r k
    exact ih.1 r k
  have e := outsAt0_B m c t h0
  have e12 := congrArg (fun p => p.1) e
  have e13 := congrArg (fun p => p.2.1) e
  have es := congrArg (fun p => p.2.2) e
  clear e
  dsimp only at e12 e13 es
  unfold Left
  rw [e12, e13, es]
  refine ⟨fun r k => ?_, fun r k => ?_, fun l r => ?_⟩
  · refine (BlockB.out13_at (he := he_mix m c t) (hf := hf_mix m c t) (r := r) (s := k) ..).trans ?_
    rw [hact, hdt, hac, hst]
    rfl
  · refine (BlockB.sout_at (r := r) (k := k) ..).trans ?_
    exact hand_on m c t s hs r k
  · refine (BlockB.out12_at (he := he_mix m c t) (ds := (mix m c).ds) (h8 := h8_mix m c t) (l := l) (r := r) ..).trans ?_
    rw [hact, hdt, hac, hst, z_mix m c t s hs l, h9_mix]
    rfl

/-- After every point. -/
theorem left (t : ℕ) : ∀ (ht : t < cfg0.N) (s : Fin 2), s.val = t / 33 → Left m c t ht s := by
  induction t with
  | zero => exact fun ht s hs => left_A m c ⟨0, ht⟩ rfl s hs
  | succ n ih =>
    intro ht s hs
    by_cases h0 : (n + 1) % 33 = 0
    · exact left_A m c ⟨n + 1, ht⟩ h0 s hs
    · exact left_B m c ⟨n + 1, ht⟩ h0 s hs (Nat.lt_of_succ_lt ht) (ih (Nat.lt_of_succ_lt ht) s (by omega))

/-- The output array. -/
theorem G12_at (s : Fin 2) (n : Fin 33) (l : Fin 128) (r : Fin 1024) :
    (Value.G12 m c : S8448x1024.Idx → EReal) (ix2 ⟨s.val * 4224 + (128 * n.val + l.val), by omega⟩ r) = (mix m c).out s n l r := by
  have hpt : Value.pt12Of (ix2 ⟨s.val * 4224 + (128 * n.val + l.val), by omega⟩ r) = 33 * s.val + n.val := by
    show 1 * ((s.val * 4224 + (128 * n.val + l.val)) / 128 - 0) + 1 * (r.val / 1024 - 0) = _
    omega
  have hlt : Value.pt12Of (ix2 ⟨s.val * 4224 + (128 * n.val + l.val), by omega⟩ r) < cfg0.N := by
    rw [hpt]
    show _ < 66
    omega
  have hloc : Value.loc12Of (ix2 ⟨s.val * 4224 + (128 * n.val + l.val), by omega⟩ r) = ix2 l r := by
    funext a
    apply Fin.ext
    match a with
    | ⟨0, _⟩ => show (s.val * 4224 + (128 * n.val + l.val)) % 128 = l.val; omega
    | ⟨1, _⟩ => show r.val % 1024 = r.val; omega
  unfold Value.G12
  rw [dif_pos hlt, ← Value.outsAt0_sweep m c _ hlt, hloc, (left m c _ hlt s (by rw [hpt]; omega)).2.2 l r]
  congr 1
  exact Fin.ext (by show Value.pt12Of _ % 33 = n.val; rw [hpt]; omega)

/-- The state array. -/
theorem G13_at (s : Fin 2) (r : Fin 1024) (k : Fin 128) :
    (Value.G13 m c : S2x1024x128.Idx → EReal) (ix3 s r k) = (mix m c).st s 33 r k := by
  have hpt : Value.pt13Of (ix3 s r k) = 33 * s.val + 32 := by
    show 33 * (1 * (s.val / 1 - 0) + 1 * (r.val / 1024 - 0) + 1 * (k.val / 128 - 0)) + 32 = _
    omega
  have hlt : Value.pt13Of (ix3 s r k) < cfg0.N := by
    rw [hpt]
    show _ < 66
    omega
  have hloc : Value.loc13Of (ix3 s r k) = ix3 0 r k := by
    funext a
    apply Fin.ext
    match a with
    | ⟨0, _⟩ => show s.val % 1 = 0; omega
    | ⟨1, _⟩ => show r.val % 1024 = r.val; omega
    | ⟨2, _⟩ => show k.val % 128 = k.val; omega
  unfold Value.G13
  rw [dif_pos hlt, ← Value.outsAt0_sweep m c _ hlt, hloc, (left m c _ hlt s (by rw [hpt]; omega)).1 r k]
  congr 1
  rw [hpt]
  omega

end Cert.KernelIdeal.Block

end
-- ==== Proof.SsdClaim.lean ====
/-
  The SSD mixer's claims: its kernel's two arrays and its reference's two results are one mixer's gated output and
  final state.
-/
module

public import proofs.«01_k».proof.Defs
public import proofs.«01_k».proof.Proof.Gen.Kernel.Frame
public import proofs.«01_k».proof.Proof.Gen.KernelIdeal.Value
public import proofs.«01_k».proof.Proof.SsdRefC
public import proofs.«01_k».proof.Proof.SsdState
public import Idealize.ShloMosaic.Lib.Quiescent

@[expose] public section

set_option maxRecDepth 16384

noncomputable section

namespace Cert.Proof.Ssd

open Idealize.ShloMosaic Idealize.ShloMosaic.TcCoe Idealize.SL.Sem
open Cert.ReferenceIdeal (main_arg0 main_arg1 main_arg2 main_arg3 main_arg4 main_arg5 main_arg6 main_arg7 main_arg8)
open Cert.ReferenceIdeal.Line

/-- The reference's frame: its run leaves the arguments, and it declares no semaphore. -/
theorem frame_ref : Cert.quiescent_ReferenceIdeal := fun m ρ _ =>
  (θ_run Cert.ReferenceIdeal.defs _ _).mono
    (fun r h => ⟨fun c => by
      have k := fun b hb => (h c b hb).trans (congrFun (final_eq m c) _)
      exact ⟨(k main_arg0 rfl).trans (final_arg0 m c), (k main_arg1 rfl).trans (final_arg1 m c), (k main_arg2 rfl).trans (final_arg2 m c), (k main_arg3 rfl).trans (final_arg3 m c), (k main_arg4 rfl).trans (final_arg4 m c), (k main_arg5 rfl).trans (final_arg5 m c), (k main_arg6 rfl).trans (final_arg6 m c), (k main_arg7 rfl).trans (final_arg7 m c), (k main_arg8 rfl).trans (final_arg8 m c)⟩,
      sem_eq_zero_of_no_sems rfl _⟩)
    (Cert.ReferenceIdeal.Value.run_fold (F := Ideal) m ρ)

/-- From the same arguments the two programs' mixers are one. -/
theorem mix_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc main_arg0) = m ((c.tc : Thread Cert.KernelIdeal.nD Cert.KernelIdeal.τ).loc Cert.KernelIdeal.main_arg0))
    (h1 : m' ((c.tc : Thread Cert.ReferenceIdeal.nD Cert.ReferenceIdeal.τ).loc main_arg1) = m ((c.tc : Thread Cert.KernelIdeal.nD Cert.KernelIdeal.τ).loc Cert.KernelIdeal.main_arg1))
    (h2 : m' ((c.tc : Thread Cert.ReferenceIdeal.nD Cert.ReferenceIdeal.τ).loc main_arg2) = m ((c.tc : Thread Cert.KernelIdeal.nD Cert.KernelIdeal.τ).loc Cert.KernelIdeal.main_arg2))
    (h3 : m' ((c.tc : Thread Cert.ReferenceIdeal.nD Cert.ReferenceIdeal.τ).loc main_arg3) = m ((c.tc : Thread Cert.KernelIdeal.nD Cert.KernelIdeal.τ).loc Cert.KernelIdeal.main_arg3))
    (h4 : m' ((c.tc : Thread Cert.ReferenceIdeal.nD Cert.ReferenceIdeal.τ).loc main_arg4) = m ((c.tc : Thread Cert.KernelIdeal.nD Cert.KernelIdeal.τ).loc Cert.KernelIdeal.main_arg4))
    (h5 : m' ((c.tc : Thread Cert.ReferenceIdeal.nD Cert.ReferenceIdeal.τ).loc main_arg5) = m ((c.tc : Thread Cert.KernelIdeal.nD Cert.KernelIdeal.τ).loc Cert.KernelIdeal.main_arg5))
    (h6 : m' ((c.tc : Thread Cert.ReferenceIdeal.nD Cert.ReferenceIdeal.τ).loc main_arg6) = m ((c.tc : Thread Cert.KernelIdeal.nD Cert.KernelIdeal.τ).loc Cert.KernelIdeal.main_arg6))
    (h7 : m' ((c.tc : Thread Cert.ReferenceIdeal.nD Cert.ReferenceIdeal.τ).loc main_arg7) = m ((c.tc : Thread Cert.KernelIdeal.nD Cert.KernelIdeal.τ).loc Cert.KernelIdeal.main_arg7))
    (h8 : m' ((c.tc : Thread Cert.ReferenceIdeal.nD Cert.ReferenceIdeal.τ).loc main_arg8) = m ((c.tc : Thread Cert.KernelIdeal.nD Cert.KernelIdeal.τ).loc Cert.KernelIdeal.main_arg8)) :
    Cert.ReferenceIdeal.Line.mix m' c = Cert.KernelIdeal.Block.mix m c := by
  unfold Cert.ReferenceIdeal.Line.mix Cert.KernelIdeal.Block.mix
  rw [e_arg0_eq, h0, e_arg1_eq, h1, e_arg2_eq, h2, e_arg3_eq, h3, e_arg4_eq, h4, e_arg5_eq, h5, e_arg6_eq, h6, e_arg7_eq, h7, e_arg8_eq, h8]

/-- A row of the two sequences, by sequence, chunk and place in the chunk. -/
theorem row_parts (r : Fin 8448) : ∃ (s : Fin 2) (n : Fin 33) (l : Fin 128), r = ⟨s.val * 4224 + (128 * n.val + l.val), by omega⟩ :=
  ⟨⟨r.val / 4224, by omega⟩, ⟨r.val % 4224 / 128, by omega⟩, ⟨r.val % 128, by omega⟩,
    Fin.ext (by show r.val = r.val / 4224 * 4224 + (128 * (r.val % 4224 / 128) + r.val % 128); omega)⟩

/-- Over the extended reals the kernel computes the reference's function. -/
theorem algebraic : Cert.algebraic_KernelIdeal_ReferenceIdeal := by
  intro m ρ m' ρ' _ hagree
  refine ⟨fun c => Cert.KernelIdeal.Value.G12 m c, fun c => Cert.KernelIdeal.Value.G13 m c, Cert.KernelIdeal.Value.run (F := Ideal) m ρ, ?_⟩
  refine (θ_run Cert.ReferenceIdeal.defs _ _).mono (fun r h c => ?_) (Cert.ReferenceIdeal.Value.run_fold (F := Ideal) m' ρ')
  have k := fun b hb => (h c b hb).trans (congrFun (final_eq m' c) _)
  obtain ⟨a0, a1, a2, a3, a4, a5, a6, a7, a8⟩ := hagree c
  have em := mix_eq m m' c a0 a1 a2 a3 a4 a5 a6 a7 a8
  have e0 : z_v131 m' c = Cert.KernelIdeal.Value.G12 m c := by
    funext (i : Cert.ReferenceIdeal.S8448x1024.Idx)
    obtain ⟨R, q, rfl⟩ : ∃ (R : Fin 8448) (q : Fin 1024), i = ix2 R q := ⟨i 0, i 1, eq_ix2 i⟩
    obtain ⟨s, n, l, rfl⟩ := row_parts R
    refine (z_v131_at m' c s n l q).trans ?_
    rw [em]
    exact (Cert.KernelIdeal.Block.G12_at m c s n l q).symm
  have e1 : z_v132 m' c = Cert.KernelIdeal.Value.G13 m c := by
    funext (i : Cert.ReferenceIdeal.S2x1024x128.Idx)
    obtain ⟨s, q, p, rfl⟩ : ∃ (s : Fin 2) (q : Fin 1024) (p : Fin 128), i = ix3 s q p := ⟨i 0, i 1, i 2, eq_ix3 i⟩
    refine (z_v132_at m' c s q p).trans ?_
    rw [em]
    exact (Cert.KernelIdeal.Block.G13_at m c s q p).symm
  exact ⟨(k Cert.ReferenceIdeal.main_v131 rfl).trans e0, (k Cert.ReferenceIdeal.main_v132 rfl).trans e1,
    (k main_arg0 rfl).trans (final_arg0 m' c), (k main_arg1 rfl).trans (final_arg1 m' c), (k main_arg2 rfl).trans (final_arg2 m' c), (k main_arg3 rfl).trans (final_arg3 m' c), (k main_arg4 rfl).trans (final_arg4 m' c), (k main_arg5 rfl).trans (final_arg5 m' c), (k main_arg6 rfl).trans (final_arg6 m' c), (k main_arg7 rfl).trans (final_arg7 m' c), (k main_arg8 rfl).trans (final_arg8 m' c)⟩

end Cert.Proof.Ssd

end
-- ==== Proof.lean ====
/-
  The layer's calls, one certificate: the frames of every kernel and reference, and for each call that its kernel
  computes its reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.SwigluKernel
public import proofs.«01_k».proof.Proof.Gen.SwigluKernel.Skeleton
public import proofs.«01_k».proof.Proof.Gen.SwigluKernel.Launch
public import proofs.«01_k».proof.Proof.Gen.SwigluKernel.Points
public import proofs.«01_k».proof.Proof.Gen.SwigluKernel.Frame
public import proofs.«01_k».proof.Proof.Gen.SwigluKernelIdeal
public import proofs.«01_k».proof.Proof.Gen.SwigluKernelIdeal.Skeleton
public import proofs.«01_k».proof.Proof.Gen.SwigluKernelIdeal.Launch
public import proofs.«01_k».proof.Proof.Gen.SwigluKernelIdeal.Points
public import proofs.«01_k».proof.Proof.Gen.SwigluKernelIdeal.Frame
public import proofs.«01_k».proof.Proof.Gen.SwigluKernelIdeal.Value
public import proofs.«01_k».proof.Proof.Gen.SwigluReferenceIdeal
public import proofs.«01_k».proof.Proof.Gen.SwigluReferenceIdeal.Run
public import proofs.«01_k».proof.Proof.Gen.SwigluReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.SampKernel
public import proofs.«01_k».proof.Proof.Gen.SampKernel.Skeleton
public import proofs.«01_k».proof.Proof.Gen.SampKernel.Launch
public import proofs.«01_k».proof.Proof.Gen.SampKernel.Points
public import proofs.«01_k».proof.Proof.Gen.SampKernel.Frame
public import proofs.«01_k».proof.Proof.Gen.SampKernelIdeal
public import proofs.«01_k».proof.Proof.Gen.SampKernelIdeal.Skeleton
public import proofs.«01_k».proof.Proof.Gen.SampKernelIdeal.Launch
public import proofs.«01_k».proof.Proof.Gen.SampKernelIdeal.Points
public import proofs.«01_k».proof.Proof.Gen.SampKernelIdeal.Frame
public import proofs.«01_k».proof.Proof.Gen.SampReferenceIdeal
public import proofs.«01_k».proof.Proof.Gen.SampReferenceIdeal.Run
public import proofs.«01_k».proof.Proof.Gen.SampReferenceIdeal.Read
public import proofs.«01_k».proof.Proof.Gen.ForgetKernel
public import proofs.«01_k».proof.Proof.Gen.ForgetKernel.Skeleton
public import proofs.«01_k».proof.Proof.Gen.ForgetKernel.Launch
public import proofs.«01_k».proof.Proof.Gen.ForgetKernel.Points
public import proofs.«01_k».proof.Proof.Gen.ForgetKernel.Frame
public import proofs.«01_k».proof.Proof.Gen.ForgetKernelIdeal
public import proofs.«01_k».proof.Proof.Gen.ForgetKernelIdeal.Skeleton
public import proofs.«01_k».proof.Proof.Gen.ForgetKernelIdeal.Launch
public import proofs.«01_k».proof.Proof.Gen.ForgetKernelIdeal.Points
public import proofs.«01_k».proof.Proof.Gen.ForgetKernelIdeal.Frame
public import proofs.«01_k».proof.Proof.Gen.ForgetReferenceIdeal
public import proofs.«01_k».proof.Proof.Gen.ForgetReferenceIdeal.Run
public import proofs.«01_k».proof.Proof.Gen.ForgetReferenceIdeal.Read
public import proofs.«01_k».proof.Proof.Gen.SampForgetKernel
public import proofs.«01_k».proof.Proof.Gen.SampForgetKernel.Skeleton
public import proofs.«01_k».proof.Proof.Gen.SampForgetKernel.Launch
public import proofs.«01_k».proof.Proof.Gen.SampForgetKernel.Points
public import proofs.«01_k».proof.Proof.Gen.SampForgetKernel.Frame
public import proofs.«01_k».proof.Proof.Gen.SampForgetKernelIdeal
public import proofs.«01_k».proof.Proof.Gen.SampForgetKernelIdeal.Skeleton
public import proofs.«01_k».proof.Proof.Gen.SampForgetKernelIdeal.Launch
public import proofs.«01_k».proof.Proof.Gen.SampForgetKernelIdeal.Points
public import proofs.«01_k».proof.Proof.Gen.SampForgetKernelIdeal.Frame
public import proofs.«01_k».proof.Proof.Gen.SampForgetReferenceIdeal
public import proofs.«01_k».proof.Proof.Gen.SampForgetReferenceIdeal.Run
public import proofs.«01_k».proof.Proof.Gen.SampForgetReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.LastKernel
public import proofs.«01_k».proof.Proof.Gen.LastKernel.Skeleton
public import proofs.«01_k».proof.Proof.Gen.LastKernel.Launch
public import proofs.«01_k».proof.Proof.Gen.LastKernel.Points
public import proofs.«01_k».proof.Proof.Gen.LastKernel.Frame
public import proofs.«01_k».proof.Proof.Gen.LastKernelIdeal
public import proofs.«01_k».proof.Proof.Gen.LastKernelIdeal.Skeleton
public import proofs.«01_k».proof.Proof.Gen.LastKernelIdeal.Launch
public import proofs.«01_k».proof.Proof.Gen.LastKernelIdeal.Points
public import proofs.«01_k».proof.Proof.Gen.LastKernelIdeal.Frame
public import proofs.«01_k».proof.Proof.Gen.LastKernelIdeal.Value
public import proofs.«01_k».proof.Proof.Gen.LastReferenceIdeal
public import proofs.«01_k».proof.Proof.Gen.LastReferenceIdeal.Run
public import proofs.«01_k».proof.Proof.Gen.LastReferenceIdeal.Read
public import proofs.«01_k».proof.Proof.Gen.TailKernel
public import proofs.«01_k».proof.Proof.Gen.TailKernel.Skeleton
public import proofs.«01_k».proof.Proof.Gen.TailKernel.Launch
public import proofs.«01_k».proof.Proof.Gen.TailKernel.Points
public import proofs.«01_k».proof.Proof.Gen.TailKernel.Frame
public import proofs.«01_k».proof.Proof.Gen.TailKernelIdeal
public import proofs.«01_k».proof.Proof.Gen.TailKernelIdeal.Skeleton
public import proofs.«01_k».proof.Proof.Gen.TailKernelIdeal.Launch
public import proofs.«01_k».proof.Proof.Gen.TailKernelIdeal.Points
public import proofs.«01_k».proof.Proof.Gen.TailKernelIdeal.Frame
public import proofs.«01_k».proof.Proof.Gen.TailReferenceIdeal
public import proofs.«01_k».proof.Proof.Gen.TailReferenceIdeal.Run
public import proofs.«01_k».proof.Proof.Gen.TailReferenceIdeal.Read
public import proofs.«01_k».proof.Proof.SwigluClaim
public import proofs.«01_k».proof.Proof.DownClaim
public import proofs.«01_k».proof.Proof.MergeClaim
public import proofs.«01_k».proof.Proof.ProjClaim
public import proofs.«01_k».proof.Proof.SampClaim
public import proofs.«01_k».proof.Proof.ForgetClaim
public import proofs.«01_k».proof.Proof.SampForgetClaim
public import proofs.«01_k».proof.Proof.OutClaim
public import proofs.«01_k».proof.Proof.LastClaim
public import proofs.«01_k».proof.Proof.TailClaim
public import proofs.«01_k».proof.Proof.SsdClaim
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts,
    Cert.KernelIdeal.Gen.facts,
    Cert.ReferenceIdeal.Gen.facts,
    Cert.SwigluKernel.Gen.facts,
    Cert.SwigluKernelIdeal.Gen.facts,
    Cert.SwigluReferenceIdeal.Gen.facts,
    Cert.DownKernel.Gen.facts,
    Cert.DownKernelIdeal.Gen.facts,
    Cert.DownReferenceIdeal.Gen.facts,
    Cert.MergeKernel.Gen.facts,
    Cert.MergeKernelIdeal.Gen.facts,
    Cert.MergeReferenceIdeal.Gen.facts,
    Cert.ProjKernel.Gen.facts,
    Cert.ProjKernelIdeal.Gen.facts,
    Cert.ProjReferenceIdeal.Gen.facts,
    Cert.SampKernel.Gen.facts,
    Cert.SampKernelIdeal.Gen.facts,
    Cert.SampReferenceIdeal.Gen.facts,
    Cert.ForgetKernel.Gen.facts,
    Cert.ForgetKernelIdeal.Gen.facts,
    Cert.ForgetReferenceIdeal.Gen.facts,
    Cert.SampForgetKernel.Gen.facts,
    Cert.SampForgetKernelIdeal.Gen.facts,
    Cert.SampForgetReferenceIdeal.Gen.facts,
    Cert.OutKernel.Gen.facts,
    Cert.OutKernelIdeal.Gen.facts,
    Cert.OutReferenceIdeal.Gen.facts,
    Cert.LastKernel.Gen.facts,
    Cert.LastKernelIdeal.Gen.facts,
    Cert.LastReferenceIdeal.Gen.facts,
    Cert.TailKernel.Gen.facts,
    Cert.TailKernelIdeal.Gen.facts,
    Cert.TailReferenceIdeal.Gen.facts,
    fun m ρ _ => Cert.Kernel.Gen.frame m ρ,
    fun m ρ _ => Cert.KernelIdeal.Gen.frame m ρ,
    Cert.Proof.Ssd.frame_ref,
    fun m ρ _ => Cert.SwigluKernel.Gen.frame m ρ,
    fun m ρ _ => Cert.SwigluKernelIdeal.Gen.frame m ρ,
    Cert.Proof.Swiglu.frame_ref,
    fun m ρ _ => Cert.DownKernel.Gen.frame m ρ,
    fun m ρ _ => Cert.DownKernelIdeal.Gen.frame m ρ,
    Cert.Proof.Down.frame_ref,
    fun m ρ _ => Cert.MergeKernel.Gen.frame m ρ,
    fun m ρ _ => Cert.MergeKernelIdeal.Gen.frame m ρ,
    Cert.Proof.Merge.frame_ref,
    fun m ρ _ => Cert.ProjKernel.Gen.frame m ρ,
    fun m ρ _ => Cert.ProjKernelIdeal.Gen.frame m ρ,
    Cert.Proof.Proj.frame_ref,
    fun m ρ _ => Cert.SampKernel.Gen.frame m ρ,
    fun m ρ _ => Cert.SampKernelIdeal.Gen.frame m ρ,
    Cert.Proof.Samp.frame_ref,
    fun m ρ _ => Cert.ForgetKernel.Gen.frame m ρ,
    fun m ρ _ => Cert.ForgetKernelIdeal.Gen.frame m ρ,
    Cert.Proof.Forget.frame_ref,
    fun m ρ _ => Cert.SampForgetKernel.Gen.frame m ρ,
    fun m ρ _ => Cert.SampForgetKernelIdeal.Gen.frame m ρ,
    Cert.Proof.SampForget.frame_ref,
    fun m ρ _ => Cert.OutKernel.Gen.frame m ρ,
    fun m ρ _ => Cert.OutKernelIdeal.Gen.frame m ρ,
    Cert.Proof.Out.frame_ref,
    fun m ρ _ => Cert.LastKernel.Gen.frame m ρ,
    fun m ρ _ => Cert.LastKernelIdeal.Gen.frame m ρ,
    Cert.Proof.Last.frame_ref,
    fun m ρ _ => Cert.TailKernel.Gen.frame m ρ,
    fun m ρ _ => Cert.TailKernelIdeal.Gen.frame m ρ,
    Cert.Proof.Tail.frame_ref,
    trivial,
    Cert.Proof.Ssd.algebraic,
    trivial,
    Cert.Proof.Swiglu.algebraic,
    trivial,
    Cert.Proof.Down.algebraic,
    trivial,
    Cert.Proof.Merge.algebraic,
    trivial,
    Cert.Proof.Proj.algebraic,
    trivial,
    Cert.Proof.Samp.algebraic,
    trivial,
    Cert.Proof.Forget.algebraic,
    trivial,
    Cert.Proof.SampForget.algebraic,
    trivial,
    Cert.Proof.Out.algebraic,
    trivial,
    Cert.Proof.Last.algebraic,
    trivial,
    Cert.Proof.Tail.algebraic⟩

end Cert.Proof

end
